-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_LastS (m : (ℓ : Loc Cert.LastS.nD Cert.LastS.τ Cert.LastS.sig) → Buf (Elt Bits) ℓ) : Prop :=
  True

def Pre_LastSIdeal (m : (ℓ : Loc Cert.LastSIdeal.nD Cert.LastSIdeal.τ Cert.LastSIdeal.sig) → Buf (Elt Ideal) ℓ) : Prop :=
  True

def Pre_LastSRefIdeal (m : (ℓ : Loc Cert.LastSRefIdeal.nD Cert.LastSRefIdeal.τ Cert.LastSRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MidS (m : (ℓ : Loc Cert.MidS.nD Cert.MidS.τ Cert.MidS.sig) → Buf (Elt Bits) ℓ) : Prop :=
  True

def Pre_MidSIdeal (m : (ℓ : Loc Cert.MidSIdeal.nD Cert.MidSIdeal.τ Cert.MidSIdeal.sig) → Buf (Elt Ideal) ℓ) : Prop :=
  True

def Pre_MidSRefIdeal (m : (ℓ : Loc Cert.MidSRefIdeal.nD Cert.MidSRefIdeal.τ Cert.MidSRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvIdeal_keys_finite [hPre_keys_finite : Cert.Pre_keys_finite.Facts] (m : (ℓ : Loc Cert.WkvIdeal.nD Cert.WkvIdeal.τ Cert.WkvIdeal.sig) → Buf (Elt Ideal) ℓ) : Prop :=
  ∀ c : Dev Cert.WkvIdeal.nD,
    (Cert.Pre_keys_finite.fn (F := Ideal) (m ((c.tc : Thread Cert.WkvIdeal.nD Cert.WkvIdeal.τ).loc Cert.WkvIdeal.main_arg0)) (m ((c.tc : Thread Cert.WkvIdeal.nD Cert.WkvIdeal.τ).loc Cert.WkvIdeal.main_arg1)) (m ((c.tc : Thread Cert.WkvIdeal.nD Cert.WkvIdeal.τ).loc Cert.WkvIdeal.main_arg2)) (m ((c.tc : Thread Cert.WkvIdeal.nD Cert.WkvIdeal.τ).loc Cert.WkvIdeal.main_arg3)) (m ((c.tc : Thread Cert.WkvIdeal.nD Cert.WkvIdeal.τ).loc Cert.WkvIdeal.main_arg4)) (m ((c.tc : Thread Cert.WkvIdeal.nD Cert.WkvIdeal.τ).loc Cert.WkvIdeal.main_arg5)) (m ((c.tc : Thread Cert.WkvIdeal.nD Cert.WkvIdeal.τ).loc Cert.WkvIdeal.main_arg6)) (m ((c.tc : Thread Cert.WkvIdeal.nD Cert.WkvIdeal.τ).loc Cert.WkvIdeal.main_arg7)) (m ((c.tc : Thread Cert.WkvIdeal.nD Cert.WkvIdeal.τ).loc Cert.WkvIdeal.main_arg8)) (m ((c.tc : Thread Cert.WkvIdeal.nD Cert.WkvIdeal.τ).loc Cert.WkvIdeal.main_arg9)) (m ((c.tc : Thread Cert.WkvIdeal.nD Cert.WkvIdeal.τ).loc Cert.WkvIdeal.main_arg10)) (m ((c.tc : Thread Cert.WkvIdeal.nD Cert.WkvIdeal.τ).loc Cert.WkvIdeal.main_arg11)) (m ((c.tc : Thread Cert.WkvIdeal.nD Cert.WkvIdeal.τ).loc Cert.WkvIdeal.main_arg12)) (m ((c.tc : Thread Cert.WkvIdeal.nD Cert.WkvIdeal.τ).loc Cert.WkvIdeal.main_arg13))) = (fun _ => 1#1)

def Pre_WkvRefIdeal (m : (ℓ : Loc Cert.WkvRefIdeal.nD Cert.WkvRefIdeal.τ Cert.WkvRefIdeal.sig) → Buf (Elt Ideal) ℓ) : Prop :=
  True

def Pre_WkvRefIdeal_keys_finite [hPre_keys_finite : Cert.Pre_keys_finite.Facts] (m : (ℓ : Loc Cert.WkvRefIdeal.nD Cert.WkvRefIdeal.τ Cert.WkvRefIdeal.sig) → Buf (Elt Ideal) ℓ) : Prop :=
  ∀ c : Dev Cert.WkvRefIdeal.nD,
    (Cert.Pre_keys_finite.fn (F := Ideal) (m ((c.tc : Thread Cert.WkvRefIdeal.nD Cert.WkvRefIdeal.τ).loc Cert.WkvRefIdeal.main_arg0)) (m ((c.tc : Thread Cert.WkvRefIdeal.nD Cert.WkvRefIdeal.τ).loc Cert.WkvRefIdeal.main_arg1)) (m ((c.tc : Thread Cert.WkvRefIdeal.nD Cert.WkvRefIdeal.τ).loc Cert.WkvRefIdeal.main_arg2)) (m ((c.tc : Thread Cert.WkvRefIdeal.nD Cert.WkvRefIdeal.τ).loc Cert.WkvRefIdeal.main_arg3)) (m ((c.tc : Thread Cert.WkvRefIdeal.nD Cert.WkvRefIdeal.τ).loc Cert.WkvRefIdeal.main_arg4)) (m ((c.tc : Thread Cert.WkvRefIdeal.nD Cert.WkvRefIdeal.τ).loc Cert.WkvRefIdeal.main_arg5)) (m ((c.tc : Thread Cert.WkvRefIdeal.nD Cert.WkvRefIdeal.τ).loc Cert.WkvRefIdeal.main_arg6)) (m ((c.tc : Thread Cert.WkvRefIdeal.nD Cert.WkvRefIdeal.τ).loc Cert.WkvRefIdeal.main_arg7)) (m ((c.tc : Thread Cert.WkvRefIdeal.nD Cert.WkvRefIdeal.τ).loc Cert.WkvRefIdeal.main_arg8)) (m ((c.tc : Thread Cert.WkvRefIdeal.nD Cert.WkvRefIdeal.τ).loc Cert.WkvRefIdeal.main_arg9)) (m ((c.tc : Thread Cert.WkvRefIdeal.nD Cert.WkvRefIdeal.τ).loc Cert.WkvRefIdeal.main_arg10)) (m ((c.tc : Thread Cert.WkvRefIdeal.nD Cert.WkvRefIdeal.τ).loc Cert.WkvRefIdeal.main_arg11)) (m ((c.tc : Thread Cert.WkvRefIdeal.nD Cert.WkvRefIdeal.τ).loc Cert.WkvRefIdeal.main_arg12)) (m ((c.tc : Thread Cert.WkvRefIdeal.nD Cert.WkvRefIdeal.τ).loc Cert.WkvRefIdeal.main_arg13))) = (fun _ => 1#1)

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_LastS [hLastS : Cert.LastS.Facts] : Prop :=
  ∀ (m : (ℓ : Loc Cert.LastS.nD Cert.LastS.τ Cert.LastS.sig) → Buf (Elt Bits) ℓ) (g : Dev Cert.LastS.nD → PrngReg), Pre_LastS m →
    θ_run (Cert.LastS.defs (F := Bits)) (onTc (τ := Cert.LastS.τ) (Cert.LastS.main (F := Bits))) ⟨m, fun _ => 0, g⟩ (fun r => (∀ c : Dev Cert.LastS.nD,
      r.2.mem ((c.tc : Thread Cert.LastS.nD Cert.LastS.τ).loc Cert.LastS.main_arg0) = m ((c.tc : Thread Cert.LastS.nD Cert.LastS.τ).loc Cert.LastS.main_arg0)
      ∧ r.2.mem ((c.tc : Thread Cert.LastS.nD Cert.LastS.τ).loc Cert.LastS.main_arg1) = m ((c.tc : Thread Cert.LastS.nD Cert.LastS.τ).loc Cert.LastS.main_arg1)
      ∧ r.2.mem ((c.tc : Thread Cert.LastS.nD Cert.LastS.τ).loc Cert.LastS.main_arg2) = m ((c.tc : Thread Cert.LastS.nD Cert.LastS.τ).loc Cert.LastS.main_arg2))
      ∧ r.2.sem = fun _ => 0)

def quiescent_LastSIdeal [hLastSIdeal : Cert.LastSIdeal.Facts] : Prop :=
  ∀ (m : (ℓ : Loc Cert.LastSIdeal.nD Cert.LastSIdeal.τ Cert.LastSIdeal.sig) → Buf (Elt Ideal) ℓ) (g : Dev Cert.LastSIdeal.nD → PrngReg), Pre_LastSIdeal m →
    θ_run (Cert.LastSIdeal.defs (F := Ideal)) (onTc (τ := Cert.LastSIdeal.τ) (Cert.LastSIdeal.main (F := Ideal))) ⟨m, fun _ => 0, g⟩ (fun r => (∀ c : Dev Cert.LastSIdeal.nD,
      r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
      ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
      ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2))
      ∧ r.2.sem = fun _ => 0)

def quiescent_LastSRefIdeal [hLastSRefIdeal : Cert.LastSRefIdeal.Facts] : Prop :=
  ∀ (m : (ℓ : Loc Cert.LastSRefIdeal.nD Cert.LastSRefIdeal.τ Cert.LastSRefIdeal.sig) → Buf (Elt Ideal) ℓ) (g : Dev Cert.LastSRefIdeal.nD → PrngReg), Pre_LastSRefIdeal m →
    θ_run (Cert.LastSRefIdeal.defs (F := Ideal)) (onTc (τ := Cert.LastSRefIdeal.τ) (Cert.LastSRefIdeal.main (F := Ideal))) ⟨m, fun _ => 0, g⟩ (fun r => (∀ c : Dev Cert.LastSRefIdeal.nD,
      r.2.mem ((c.tc : Thread Cert.LastSRefIdeal.nD Cert.LastSRefIdeal.τ).loc Cert.LastSRefIdeal.main_arg0) = m ((c.tc : Thread Cert.LastSRefIdeal.nD Cert.LastSRefIdeal.τ).loc Cert.LastSRefIdeal.main_arg0)
      ∧ r.2.mem ((c.tc : Thread Cert.LastSRefIdeal.nD Cert.LastSRefIdeal.τ).loc Cert.LastSRefIdeal.main_arg1) = m ((c.tc : Thread Cert.LastSRefIdeal.nD Cert.LastSRefIdeal.τ).loc Cert.LastSRefIdeal.main_arg1)
      ∧ r.2.mem ((c.tc : Thread Cert.LastSRefIdeal.nD Cert.LastSRefIdeal.τ).loc Cert.LastSRefIdeal.main_arg2) = m ((c.tc : Thread Cert.LastSRefIdeal.nD Cert.LastSRefIdeal.τ).loc Cert.LastSRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidS [hMidS : Cert.MidS.Facts] : Prop :=
  ∀ (m : (ℓ : Loc Cert.MidS.nD Cert.MidS.τ Cert.MidS.sig) → Buf (Elt Bits) ℓ) (g : Dev Cert.MidS.nD → PrngReg), Pre_MidS m →
    θ_run (Cert.MidS.defs (F := Bits)) (onTc (τ := Cert.MidS.τ) (Cert.MidS.main (F := Bits))) ⟨m, fun _ => 0, g⟩ (fun r => (∀ c : Dev Cert.MidS.nD,
      r.2.mem ((c.tc : Thread Cert.MidS.nD Cert.MidS.τ).loc Cert.MidS.main_arg0) = m ((c.tc : Thread Cert.MidS.nD Cert.MidS.τ).loc Cert.MidS.main_arg0)
      ∧ r.2.mem ((c.tc : Thread Cert.MidS.nD Cert.MidS.τ).loc Cert.MidS.main_arg1) = m ((c.tc : Thread Cert.MidS.nD Cert.MidS.τ).loc Cert.MidS.main_arg1)
      ∧ r.2.mem ((c.tc : Thread Cert.MidS.nD Cert.MidS.τ).loc Cert.MidS.main_arg2) = m ((c.tc : Thread Cert.MidS.nD Cert.MidS.τ).loc Cert.MidS.main_arg2)
      ∧ r.2.mem ((c.tc : Thread Cert.MidS.nD Cert.MidS.τ).loc Cert.MidS.main_arg3) = m ((c.tc : Thread Cert.MidS.nD Cert.MidS.τ).loc Cert.MidS.main_arg3))
      ∧ r.2.sem = fun _ => 0)

def quiescent_MidSIdeal [hMidSIdeal : Cert.MidSIdeal.Facts] : Prop :=
  ∀ (m : (ℓ : Loc Cert.MidSIdeal.nD Cert.MidSIdeal.τ Cert.MidSIdeal.sig) → Buf (Elt Ideal) ℓ) (g : Dev Cert.MidSIdeal.nD → PrngReg), Pre_MidSIdeal m →
    θ_run (Cert.MidSIdeal.defs (F := Ideal)) (onTc (τ := Cert.MidSIdeal.τ) (Cert.MidSIdeal.main (F := Ideal))) ⟨m, fun _ => 0, g⟩ (fun r => (∀ c : Dev Cert.MidSIdeal.nD,
      r.2.mem ((c.tc : Thread Cert.MidSIdeal.nD Cert.MidSIdeal.τ).loc Cert.MidSIdeal.main_arg0) = m ((c.tc : Thread Cert.MidSIdeal.nD Cert.MidSIdeal.τ).loc Cert.MidSIdeal.main_arg0)
      ∧ r.2.mem ((c.tc : Thread Cert.MidSIdeal.nD Cert.MidSIdeal.τ).loc Cert.MidSIdeal.main_arg1) = m ((c.tc : Thread Cert.MidSIdeal.nD Cert.MidSIdeal.τ).loc Cert.MidSIdeal.main_arg1)
      ∧ r.2.mem ((c.tc : Thread Cert.MidSIdeal.nD Cert.MidSIdeal.τ).loc Cert.MidSIdeal.main_arg2) = m ((c.tc : Thread Cert.MidSIdeal.nD Cert.MidSIdeal.τ).loc Cert.MidSIdeal.main_arg2)
      ∧ r.2.mem ((c.tc : Thread Cert.MidSIdeal.nD Cert.MidSIdeal.τ).loc Cert.MidSIdeal.main_arg3) = m ((c.tc : Thread Cert.MidSIdeal.nD Cert.MidSIdeal.τ).loc Cert.MidSIdeal.main_arg3))
      ∧ r.2.sem = fun _ => 0)

def quiescent_MidSRefIdeal [hMidSRefIdeal : Cert.MidSRefIdeal.Facts] : Prop :=
  ∀ (m : (ℓ : Loc Cert.MidSRefIdeal.nD Cert.MidSRefIdeal.τ Cert.MidSRefIdeal.sig) → Buf (Elt Ideal) ℓ) (g : Dev Cert.MidSRefIdeal.nD → PrngReg), Pre_MidSRefIdeal m →
    θ_run (Cert.MidSRefIdeal.defs (F := Ideal)) (onTc (τ := Cert.MidSRefIdeal.τ) (Cert.MidSRefIdeal.main (F := Ideal))) ⟨m, fun _ => 0, g⟩ (fun r => (∀ c : Dev Cert.MidSRefIdeal.nD,
      r.2.mem ((c.tc : Thread Cert.MidSRefIdeal.nD Cert.MidSRefIdeal.τ).loc Cert.MidSRefIdeal.main_arg0) = m ((c.tc : Thread Cert.MidSRefIdeal.nD Cert.MidSRefIdeal.τ).loc Cert.MidSRefIdeal.main_arg0)
      ∧ r.2.mem ((c.tc : Thread Cert.MidSRefIdeal.nD Cert.MidSRefIdeal.τ).loc Cert.MidSRefIdeal.main_arg1) = m ((c.tc : Thread Cert.MidSRefIdeal.nD Cert.MidSRefIdeal.τ).loc Cert.MidSRefIdeal.main_arg1)
      ∧ r.2.mem ((c.tc : Thread Cert.MidSRefIdeal.nD Cert.MidSRefIdeal.τ).loc Cert.MidSRefIdeal.main_arg2) = m ((c.tc : Thread Cert.MidSRefIdeal.nD Cert.MidSRefIdeal.τ).loc Cert.MidSRefIdeal.main_arg2)
      ∧ r.2.mem ((c.tc : Thread Cert.MidSRefIdeal.nD Cert.MidSRefIdeal.τ).loc Cert.MidSRefIdeal.main_arg3) = m ((c.tc : Thread Cert.MidSRefIdeal.nD Cert.MidSRefIdeal.τ).loc Cert.MidSRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4)
      ∧ r.2.mem ((c.tc : Thread Cert.Wkv.nD Cert.Wkv.τ).loc Cert.Wkv.main_arg5) = m ((c.tc : Thread Cert.Wkv.nD Cert.Wkv.τ).loc Cert.Wkv.main_arg5)
      ∧ r.2.mem ((c.tc : Thread Cert.Wkv.nD Cert.Wkv.τ).loc Cert.Wkv.main_arg6) = m ((c.tc : Thread Cert.Wkv.nD Cert.Wkv.τ).loc Cert.Wkv.main_arg6)
      ∧ r.2.mem ((c.tc : Thread Cert.Wkv.nD Cert.Wkv.τ).loc Cert.Wkv.main_arg7) = m ((c.tc : Thread Cert.Wkv.nD Cert.Wkv.τ).loc Cert.Wkv.main_arg7)
      ∧ r.2.mem ((c.tc : Thread Cert.Wkv.nD Cert.Wkv.τ).loc Cert.Wkv.main_arg8) = m ((c.tc : Thread Cert.Wkv.nD Cert.Wkv.τ).loc Cert.Wkv.main_arg8)
      ∧ r.2.mem ((c.tc : Thread Cert.Wkv.nD Cert.Wkv.τ).loc Cert.Wkv.main_arg9) = m ((c.tc : Thread Cert.Wkv.nD Cert.Wkv.τ).loc Cert.Wkv.main_arg9)
      ∧ r.2.mem ((c.tc : Thread Cert.Wkv.nD Cert.Wkv.τ).loc Cert.Wkv.main_arg10) = m ((c.tc : Thread Cert.Wkv.nD Cert.Wkv.τ).loc Cert.Wkv.main_arg10)
      ∧ r.2.mem ((c.tc : Thread Cert.Wkv.nD Cert.Wkv.τ).loc Cert.Wkv.main_arg11) = m ((c.tc : Thread Cert.Wkv.nD Cert.Wkv.τ).loc Cert.Wkv.main_arg11)
      ∧ r.2.mem ((c.tc : Thread Cert.Wkv.nD Cert.Wkv.τ).loc Cert.Wkv.main_arg12) = m ((c.tc : Thread Cert.Wkv.nD Cert.Wkv.τ).loc Cert.Wkv.main_arg12)
      ∧ r.2.mem ((c.tc : Thread Cert.Wkv.nD Cert.Wkv.τ).loc Cert.Wkv.main_arg13) = m ((c.tc : Thread Cert.Wkv.nD Cert.Wkv.τ).loc Cert.Wkv.main_arg13))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
      ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
      ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9)
      ∧ r.2.mem ((c.tc : Thread Cert.WkvIdeal.nD Cert.WkvIdeal.τ).loc Cert.WkvIdeal.main_arg10) = m ((c.tc : Thread Cert.WkvIdeal.nD Cert.WkvIdeal.τ).loc Cert.WkvIdeal.main_arg10)
      ∧ r.2.mem ((c.tc : Thread Cert.WkvIdeal.nD Cert.WkvIdeal.τ).loc Cert.WkvIdeal.main_arg11) = m ((c.tc : Thread Cert.WkvIdeal.nD Cert.WkvIdeal.τ).loc Cert.WkvIdeal.main_arg11)
      ∧ r.2.mem ((c.tc : Thread Cert.WkvIdeal.nD Cert.WkvIdeal.τ).loc Cert.WkvIdeal.main_arg12) = m ((c.tc : Thread Cert.WkvIdeal.nD Cert.WkvIdeal.τ).loc Cert.WkvIdeal.main_arg12)
      ∧ r.2.mem ((c.tc : Thread Cert.WkvIdeal.nD Cert.WkvIdeal.τ).loc Cert.WkvIdeal.main_arg13) = m ((c.tc : Thread Cert.WkvIdeal.nD Cert.WkvIdeal.τ).loc Cert.WkvIdeal.main_arg13))
      ∧ r.2.sem = fun _ => 0)

def quiescent_WkvIdeal_pre_keys_finite [hWkvIdeal : Cert.WkvIdeal.Facts] [hPre_keys_finite : Cert.Pre_keys_finite.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal_keys_finite m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
      ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
      ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9)
      ∧ r.2.mem ((c.tc : Thread Cert.WkvIdeal.nD Cert.WkvIdeal.τ).loc Cert.WkvIdeal.main_arg10) = m ((c.tc : Thread Cert.WkvIdeal.nD Cert.WkvIdeal.τ).loc Cert.WkvIdeal.main_arg10)
      ∧ r.2.mem ((c.tc : Thread Cert.WkvIdeal.nD Cert.WkvIdeal.τ).loc Cert.WkvIdeal.main_arg11) = m ((c.tc : Thread Cert.WkvIdeal.nD Cert.WkvIdeal.τ).loc Cert.WkvIdeal.main_arg11)
      ∧ r.2.mem ((c.tc : Thread Cert.WkvIdeal.nD Cert.WkvIdeal.τ).loc Cert.WkvIdeal.main_arg12) = m ((c.tc : Thread Cert.WkvIdeal.nD Cert.WkvIdeal.τ).loc Cert.WkvIdeal.main_arg12)
      ∧ r.2.mem ((c.tc : Thread Cert.WkvIdeal.nD Cert.WkvIdeal.τ).loc Cert.WkvIdeal.main_arg13) = m ((c.tc : Thread Cert.WkvIdeal.nD Cert.WkvIdeal.τ).loc Cert.WkvIdeal.main_arg13))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4)
      ∧ r.2.mem ((c.tc : Thread Cert.WkvRefIdeal.nD Cert.WkvRefIdeal.τ).loc Cert.WkvRefIdeal.main_arg5) = m ((c.tc : Thread Cert.WkvRefIdeal.nD Cert.WkvRefIdeal.τ).loc Cert.WkvRefIdeal.main_arg5)
      ∧ r.2.mem ((c.tc : Thread Cert.WkvRefIdeal.nD Cert.WkvRefIdeal.τ).loc Cert.WkvRefIdeal.main_arg6) = m ((c.tc : Thread Cert.WkvRefIdeal.nD Cert.WkvRefIdeal.τ).loc Cert.WkvRefIdeal.main_arg6)
      ∧ r.2.mem ((c.tc : Thread Cert.WkvRefIdeal.nD Cert.WkvRefIdeal.τ).loc Cert.WkvRefIdeal.main_arg7) = m ((c.tc : Thread Cert.WkvRefIdeal.nD Cert.WkvRefIdeal.τ).loc Cert.WkvRefIdeal.main_arg7)
      ∧ r.2.mem ((c.tc : Thread Cert.WkvRefIdeal.nD Cert.WkvRefIdeal.τ).loc Cert.WkvRefIdeal.main_arg8) = m ((c.tc : Thread Cert.WkvRefIdeal.nD Cert.WkvRefIdeal.τ).loc Cert.WkvRefIdeal.main_arg8)
      ∧ r.2.mem ((c.tc : Thread Cert.WkvRefIdeal.nD Cert.WkvRefIdeal.τ).loc Cert.WkvRefIdeal.main_arg9) = m ((c.tc : Thread Cert.WkvRefIdeal.nD Cert.WkvRefIdeal.τ).loc Cert.WkvRefIdeal.main_arg9)
      ∧ r.2.mem ((c.tc : Thread Cert.WkvRefIdeal.nD Cert.WkvRefIdeal.τ).loc Cert.WkvRefIdeal.main_arg10) = m ((c.tc : Thread Cert.WkvRefIdeal.nD Cert.WkvRefIdeal.τ).loc Cert.WkvRefIdeal.main_arg10)
      ∧ r.2.mem ((c.tc : Thread Cert.WkvRefIdeal.nD Cert.WkvRefIdeal.τ).loc Cert.WkvRefIdeal.main_arg11) = m ((c.tc : Thread Cert.WkvRefIdeal.nD Cert.WkvRefIdeal.τ).loc Cert.WkvRefIdeal.main_arg11)
      ∧ r.2.mem ((c.tc : Thread Cert.WkvRefIdeal.nD Cert.WkvRefIdeal.τ).loc Cert.WkvRefIdeal.main_arg12) = m ((c.tc : Thread Cert.WkvRefIdeal.nD Cert.WkvRefIdeal.τ).loc Cert.WkvRefIdeal.main_arg12)
      ∧ r.2.mem ((c.tc : Thread Cert.WkvRefIdeal.nD Cert.WkvRefIdeal.τ).loc Cert.WkvRefIdeal.main_arg13) = m ((c.tc : Thread Cert.WkvRefIdeal.nD Cert.WkvRefIdeal.τ).loc Cert.WkvRefIdeal.main_arg13))
      ∧ r.2.sem = fun _ => 0)

def quiescent_WkvRefIdeal_pre_keys_finite [hWkvRefIdeal : Cert.WkvRefIdeal.Facts] [hPre_keys_finite : Cert.Pre_keys_finite.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal_keys_finite m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4)
      ∧ r.2.mem ((c.tc : Thread Cert.WkvRefIdeal.nD Cert.WkvRefIdeal.τ).loc Cert.WkvRefIdeal.main_arg5) = m ((c.tc : Thread Cert.WkvRefIdeal.nD Cert.WkvRefIdeal.τ).loc Cert.WkvRefIdeal.main_arg5)
      ∧ r.2.mem ((c.tc : Thread Cert.WkvRefIdeal.nD Cert.WkvRefIdeal.τ).loc Cert.WkvRefIdeal.main_arg6) = m ((c.tc : Thread Cert.WkvRefIdeal.nD Cert.WkvRefIdeal.τ).loc Cert.WkvRefIdeal.main_arg6)
      ∧ r.2.mem ((c.tc : Thread Cert.WkvRefIdeal.nD Cert.WkvRefIdeal.τ).loc Cert.WkvRefIdeal.main_arg7) = m ((c.tc : Thread Cert.WkvRefIdeal.nD Cert.WkvRefIdeal.τ).loc Cert.WkvRefIdeal.main_arg7)
      ∧ r.2.mem ((c.tc : Thread Cert.WkvRefIdeal.nD Cert.WkvRefIdeal.τ).loc Cert.WkvRefIdeal.main_arg8) = m ((c.tc : Thread Cert.WkvRefIdeal.nD Cert.WkvRefIdeal.τ).loc Cert.WkvRefIdeal.main_arg8)
      ∧ r.2.mem ((c.tc : Thread Cert.WkvRefIdeal.nD Cert.WkvRefIdeal.τ).loc Cert.WkvRefIdeal.main_arg9) = m ((c.tc : Thread Cert.WkvRefIdeal.nD Cert.WkvRefIdeal.τ).loc Cert.WkvRefIdeal.main_arg9)
      ∧ r.2.mem ((c.tc : Thread Cert.WkvRefIdeal.nD Cert.WkvRefIdeal.τ).loc Cert.WkvRefIdeal.main_arg10) = m ((c.tc : Thread Cert.WkvRefIdeal.nD Cert.WkvRefIdeal.τ).loc Cert.WkvRefIdeal.main_arg10)
      ∧ r.2.mem ((c.tc : Thread Cert.WkvRefIdeal.nD Cert.WkvRefIdeal.τ).loc Cert.WkvRefIdeal.main_arg11) = m ((c.tc : Thread Cert.WkvRefIdeal.nD Cert.WkvRefIdeal.τ).loc Cert.WkvRefIdeal.main_arg11)
      ∧ r.2.mem ((c.tc : Thread Cert.WkvRefIdeal.nD Cert.WkvRefIdeal.τ).loc Cert.WkvRefIdeal.main_arg12) = m ((c.tc : Thread Cert.WkvRefIdeal.nD Cert.WkvRefIdeal.τ).loc Cert.WkvRefIdeal.main_arg12)
      ∧ r.2.mem ((c.tc : Thread Cert.WkvRefIdeal.nD Cert.WkvRefIdeal.τ).loc Cert.WkvRefIdeal.main_arg13) = m ((c.tc : Thread Cert.WkvRefIdeal.nD Cert.WkvRefIdeal.τ).loc Cert.WkvRefIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v6) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_LastS_LastSIdeal : Prop :=
  True

def algebraic_LastSIdeal_LastSRefIdeal [hLastSIdeal : Cert.LastSIdeal.Facts] [hLastSRefIdeal : Cert.LastSRefIdeal.Facts] : Prop :=
  ∀ (m : (ℓ : Loc Cert.LastSIdeal.nD Cert.LastSIdeal.τ Cert.LastSIdeal.sig) → Buf (Elt Ideal) ℓ) (g : Dev Cert.LastSIdeal.nD → PrngReg)
    (m' : (ℓ : Loc Cert.LastSRefIdeal.nD Cert.LastSRefIdeal.τ Cert.LastSRefIdeal.sig) → Buf (Elt Ideal) ℓ) (g' : Dev Cert.LastSRefIdeal.nD → PrngReg), Pre_LastSIdeal m →
    (∀ c : Dev Cert.LastSIdeal.nD,
      m' ((c.tc : Thread Cert.LastSRefIdeal.nD Cert.LastSRefIdeal.τ).loc Cert.LastSRefIdeal.main_arg0) = m ((c.tc : Thread Cert.LastSIdeal.nD Cert.LastSIdeal.τ).loc Cert.LastSIdeal.main_arg0)
      ∧ m' ((c.tc : Thread Cert.LastSRefIdeal.nD Cert.LastSRefIdeal.τ).loc Cert.LastSRefIdeal.main_arg1) = m ((c.tc : Thread Cert.LastSIdeal.nD Cert.LastSIdeal.τ).loc Cert.LastSIdeal.main_arg1)
      ∧ m' ((c.tc : Thread Cert.LastSRefIdeal.nD Cert.LastSRefIdeal.τ).loc Cert.LastSRefIdeal.main_arg2) = m ((c.tc : Thread Cert.LastSIdeal.nD Cert.LastSIdeal.τ).loc Cert.LastSIdeal.main_arg2)) →
    ∃ (v0 : (c : Dev Cert.LastSIdeal.nD) → Buf (Elt Ideal) ((c.tc : Thread Cert.LastSIdeal.nD Cert.LastSIdeal.τ).loc Cert.LastSIdeal.main_v0)),
      θ_run (Cert.LastSIdeal.defs (F := Ideal)) (onTc (τ := Cert.LastSIdeal.τ) (Cert.LastSIdeal.main (F := Ideal))) ⟨m, fun _ => 0, g⟩ (fun r => ∀ c : Dev Cert.LastSIdeal.nD,
          r.2.mem ((c.tc : Thread Cert.LastSIdeal.nD Cert.LastSIdeal.τ).loc Cert.LastSIdeal.main_v0) = v0 c
          ∧ r.2.mem ((c.tc : Thread Cert.LastSIdeal.nD Cert.LastSIdeal.τ).loc Cert.LastSIdeal.main_arg0) = m ((c.tc : Thread Cert.LastSIdeal.nD Cert.LastSIdeal.τ).loc Cert.LastSIdeal.main_arg0)
          ∧ r.2.mem ((c.tc : Thread Cert.LastSIdeal.nD Cert.LastSIdeal.τ).loc Cert.LastSIdeal.main_arg1) = m ((c.tc : Thread Cert.LastSIdeal.nD Cert.LastSIdeal.τ).loc Cert.LastSIdeal.main_arg1)
          ∧ r.2.mem ((c.tc : Thread Cert.LastSIdeal.nD Cert.LastSIdeal.τ).loc Cert.LastSIdeal.main_arg2) = m ((c.tc : Thread Cert.LastSIdeal.nD Cert.LastSIdeal.τ).loc Cert.LastSIdeal.main_arg2))
      ∧ θ_run (Cert.LastSRefIdeal.defs (F := Ideal)) (onTc (τ := Cert.LastSRefIdeal.τ) (Cert.LastSRefIdeal.main (F := Ideal))) ⟨m', fun _ => 0, g'⟩ (fun r => ∀ c : Dev Cert.LastSRefIdeal.nD,
          r.2.mem ((c.tc : Thread Cert.LastSRefIdeal.nD Cert.LastSRefIdeal.τ).loc Cert.LastSRefIdeal.main_v6) = v0 c
          ∧ r.2.mem ((c.tc : Thread Cert.LastSRefIdeal.nD Cert.LastSRefIdeal.τ).loc Cert.LastSRefIdeal.main_arg0) = m' ((c.tc : Thread Cert.LastSRefIdeal.nD Cert.LastSRefIdeal.τ).loc Cert.LastSRefIdeal.main_arg0)
          ∧ r.2.mem ((c.tc : Thread Cert.LastSRefIdeal.nD Cert.LastSRefIdeal.τ).loc Cert.LastSRefIdeal.main_arg1) = m' ((c.tc : Thread Cert.LastSRefIdeal.nD Cert.LastSRefIdeal.τ).loc Cert.LastSRefIdeal.main_arg1)
          ∧ r.2.mem ((c.tc : Thread Cert.LastSRefIdeal.nD Cert.LastSRefIdeal.τ).loc Cert.LastSRefIdeal.main_arg2) = m' ((c.tc : Thread Cert.LastSRefIdeal.nD Cert.LastSRefIdeal.τ).loc Cert.LastSRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v3_0)) (v1 : (c : Dev Cert.MidIdeal.nD) → Buf (Elt Ideal) ((c.tc : Thread Cert.MidIdeal.nD Cert.MidIdeal.τ).loc Cert.MidIdeal.main_v3_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v3_0) = v0 c
          ∧ r.2.mem ((c.tc : Thread Cert.MidIdeal.nD Cert.MidIdeal.τ).loc Cert.MidIdeal.main_v3_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v6) = v0 c
          ∧ r.2.mem ((c.tc : Thread Cert.MidRefIdeal.nD Cert.MidRefIdeal.τ).loc Cert.MidRefIdeal.main_v31) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_MidS_MidSIdeal : Prop :=
  True

def algebraic_MidSIdeal_MidSRefIdeal [hMidSIdeal : Cert.MidSIdeal.Facts] [hMidSRefIdeal : Cert.MidSRefIdeal.Facts] : Prop :=
  ∀ (m : (ℓ : Loc Cert.MidSIdeal.nD Cert.MidSIdeal.τ Cert.MidSIdeal.sig) → Buf (Elt Ideal) ℓ) (g : Dev Cert.MidSIdeal.nD → PrngReg)
    (m' : (ℓ : Loc Cert.MidSRefIdeal.nD Cert.MidSRefIdeal.τ Cert.MidSRefIdeal.sig) → Buf (Elt Ideal) ℓ) (g' : Dev Cert.MidSRefIdeal.nD → PrngReg), Pre_MidSIdeal m →
    (∀ c : Dev Cert.MidSIdeal.nD,
      m' ((c.tc : Thread Cert.MidSRefIdeal.nD Cert.MidSRefIdeal.τ).loc Cert.MidSRefIdeal.main_arg0) = m ((c.tc : Thread Cert.MidSIdeal.nD Cert.MidSIdeal.τ).loc Cert.MidSIdeal.main_arg0)
      ∧ m' ((c.tc : Thread Cert.MidSRefIdeal.nD Cert.MidSRefIdeal.τ).loc Cert.MidSRefIdeal.main_arg1) = m ((c.tc : Thread Cert.MidSIdeal.nD Cert.MidSIdeal.τ).loc Cert.MidSIdeal.main_arg1)
      ∧ m' ((c.tc : Thread Cert.MidSRefIdeal.nD Cert.MidSRefIdeal.τ).loc Cert.MidSRefIdeal.main_arg2) = m ((c.tc : Thread Cert.MidSIdeal.nD Cert.MidSIdeal.τ).loc Cert.MidSIdeal.main_arg2)
      ∧ m' ((c.tc : Thread Cert.MidSRefIdeal.nD Cert.MidSRefIdeal.τ).loc Cert.MidSRefIdeal.main_arg3) = m ((c.tc : Thread Cert.MidSIdeal.nD Cert.MidSIdeal.τ).loc Cert.MidSIdeal.main_arg3)) →
    ∃ (v0 : (c : Dev Cert.MidSIdeal.nD) → Buf (Elt Ideal) ((c.tc : Thread Cert.MidSIdeal.nD Cert.MidSIdeal.τ).loc Cert.MidSIdeal.main_v3_0)) (v1 : (c : Dev Cert.MidSIdeal.nD) → Buf (Elt Ideal) ((c.tc : Thread Cert.MidSIdeal.nD Cert.MidSIdeal.τ).loc Cert.MidSIdeal.main_v3_1)),
      θ_run (Cert.MidSIdeal.defs (F := Ideal)) (onTc (τ := Cert.MidSIdeal.τ) (Cert.MidSIdeal.main (F := Ideal))) ⟨m, fun _ => 0, g⟩ (fun r => ∀ c : Dev Cert.MidSIdeal.nD,
          r.2.mem ((c.tc : Thread Cert.MidSIdeal.nD Cert.MidSIdeal.τ).loc Cert.MidSIdeal.main_v3_0) = v0 c
          ∧ r.2.mem ((c.tc : Thread Cert.MidSIdeal.nD Cert.MidSIdeal.τ).loc Cert.MidSIdeal.main_v3_1) = v1 c
          ∧ r.2.mem ((c.tc : Thread Cert.MidSIdeal.nD Cert.MidSIdeal.τ).loc Cert.MidSIdeal.main_arg0) = m ((c.tc : Thread Cert.MidSIdeal.nD Cert.MidSIdeal.τ).loc Cert.MidSIdeal.main_arg0)
          ∧ r.2.mem ((c.tc : Thread Cert.MidSIdeal.nD Cert.MidSIdeal.τ).loc Cert.MidSIdeal.main_arg1) = m ((c.tc : Thread Cert.MidSIdeal.nD Cert.MidSIdeal.τ).loc Cert.MidSIdeal.main_arg1)
          ∧ r.2.mem ((c.tc : Thread Cert.MidSIdeal.nD Cert.MidSIdeal.τ).loc Cert.MidSIdeal.main_arg2) = m ((c.tc : Thread Cert.MidSIdeal.nD Cert.MidSIdeal.τ).loc Cert.MidSIdeal.main_arg2)
          ∧ r.2.mem ((c.tc : Thread Cert.MidSIdeal.nD Cert.MidSIdeal.τ).loc Cert.MidSIdeal.main_arg3) = m ((c.tc : Thread Cert.MidSIdeal.nD Cert.MidSIdeal.τ).loc Cert.MidSIdeal.main_arg3))
      ∧ θ_run (Cert.MidSRefIdeal.defs (F := Ideal)) (onTc (τ := Cert.MidSRefIdeal.τ) (Cert.MidSRefIdeal.main (F := Ideal))) ⟨m', fun _ => 0, g'⟩ (fun r => ∀ c : Dev Cert.MidSRefIdeal.nD,
          r.2.mem ((c.tc : Thread Cert.MidSRefIdeal.nD Cert.MidSRefIdeal.τ).loc Cert.MidSRefIdeal.main_v6) = v0 c
          ∧ r.2.mem ((c.tc : Thread Cert.MidSRefIdeal.nD Cert.MidSRefIdeal.τ).loc Cert.MidSRefIdeal.main_v31) = v1 c
          ∧ r.2.mem ((c.tc : Thread Cert.MidSRefIdeal.nD Cert.MidSRefIdeal.τ).loc Cert.MidSRefIdeal.main_arg0) = m' ((c.tc : Thread Cert.MidSRefIdeal.nD Cert.MidSRefIdeal.τ).loc Cert.MidSRefIdeal.main_arg0)
          ∧ r.2.mem ((c.tc : Thread Cert.MidSRefIdeal.nD Cert.MidSRefIdeal.τ).loc Cert.MidSRefIdeal.main_arg1) = m' ((c.tc : Thread Cert.MidSRefIdeal.nD Cert.MidSRefIdeal.τ).loc Cert.MidSRefIdeal.main_arg1)
          ∧ r.2.mem ((c.tc : Thread Cert.MidSRefIdeal.nD Cert.MidSRefIdeal.τ).loc Cert.MidSRefIdeal.main_arg2) = m' ((c.tc : Thread Cert.MidSRefIdeal.nD Cert.MidSRefIdeal.τ).loc Cert.MidSRefIdeal.main_arg2)
          ∧ r.2.mem ((c.tc : Thread Cert.MidSRefIdeal.nD Cert.MidSRefIdeal.τ).loc Cert.MidSRefIdeal.main_arg3) = m' ((c.tc : Thread Cert.MidSRefIdeal.nD Cert.MidSRefIdeal.τ).loc Cert.MidSRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)) →
    ∃ (v0 : (c : Dev Cert.InSIdeal.nD) → Buf (Elt Ideal) ((c.tc : Thread Cert.InSIdeal.nD Cert.InSIdeal.τ).loc Cert.InSIdeal.main_v1)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v1) = v0 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v5) = v0 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v58_0)) (v1 : (c : Dev Cert.PostIdeal.nD) → Buf (Elt Ideal) ((c.tc : Thread Cert.PostIdeal.nD Cert.PostIdeal.τ).loc Cert.PostIdeal.main_v58_1)) (v2 : (c : Dev Cert.PostIdeal.nD) → Buf (Elt Ideal) ((c.tc : Thread Cert.PostIdeal.nD Cert.PostIdeal.τ).loc Cert.PostIdeal.main_v58_2)) (v3 : (c : Dev Cert.PostIdeal.nD) → Buf (Elt Ideal) ((c.tc : Thread Cert.PostIdeal.nD Cert.PostIdeal.τ).loc Cert.PostIdeal.main_v58_3)) (v4 : (c : Dev Cert.PostIdeal.nD) → Buf (Elt Ideal) ((c.tc : Thread Cert.PostIdeal.nD Cert.PostIdeal.τ).loc Cert.PostIdeal.main_v58_4)) (v5 : (c : Dev Cert.PostIdeal.nD) → Buf (Elt Ideal) ((c.tc : Thread Cert.PostIdeal.nD Cert.PostIdeal.τ).loc Cert.PostIdeal.main_v58_5)) (v6 : (c : Dev Cert.PostIdeal.nD) → Buf (Elt Ideal) ((c.tc : Thread Cert.PostIdeal.nD Cert.PostIdeal.τ).loc Cert.PostIdeal.main_v58_6)) (v7 : (c : Dev Cert.PostIdeal.nD) → Buf (Elt Ideal) ((c.tc : Thread Cert.PostIdeal.nD Cert.PostIdeal.τ).loc Cert.PostIdeal.main_v58_7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v58_0) = v0 c
          ∧ r.2.mem ((c.tc : Thread Cert.PostIdeal.nD Cert.PostIdeal.τ).loc Cert.PostIdeal.main_v58_1) = v1 c
          ∧ r.2.mem ((c.tc : Thread Cert.PostIdeal.nD Cert.PostIdeal.τ).loc Cert.PostIdeal.main_v58_2) = v2 c
          ∧ r.2.mem ((c.tc : Thread Cert.PostIdeal.nD Cert.PostIdeal.τ).loc Cert.PostIdeal.main_v58_3) = v3 c
          ∧ r.2.mem ((c.tc : Thread Cert.PostIdeal.nD Cert.PostIdeal.τ).loc Cert.PostIdeal.main_v58_4) = v4 c
          ∧ r.2.mem ((c.tc : Thread Cert.PostIdeal.nD Cert.PostIdeal.τ).loc Cert.PostIdeal.main_v58_5) = v5 c
          ∧ r.2.mem ((c.tc : Thread Cert.PostIdeal.nD Cert.PostIdeal.τ).loc Cert.PostIdeal.main_v58_6) = v6 c
          ∧ r.2.mem ((c.tc : Thread Cert.PostIdeal.nD Cert.PostIdeal.τ).loc Cert.PostIdeal.main_v58_7) = v7 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v174) = v0 c
          ∧ r.2.mem ((c.tc : Thread Cert.PostRefIdeal.nD Cert.PostRefIdeal.τ).loc Cert.PostRefIdeal.main_v94) = v1 c
          ∧ r.2.mem ((c.tc : Thread Cert.PostRefIdeal.nD Cert.PostRefIdeal.τ).loc Cert.PostRefIdeal.main_v175) = v2 c
          ∧ r.2.mem ((c.tc : Thread Cert.PostRefIdeal.nD Cert.PostRefIdeal.τ).loc Cert.PostRefIdeal.main_v176) = v3 c
          ∧ r.2.mem ((c.tc : Thread Cert.PostRefIdeal.nD Cert.PostRefIdeal.τ).loc Cert.PostRefIdeal.main_v177) = v4 c
          ∧ r.2.mem ((c.tc : Thread Cert.PostRefIdeal.nD Cert.PostRefIdeal.τ).loc Cert.PostRefIdeal.main_v178) = v5 c
          ∧ r.2.mem ((c.tc : Thread Cert.PostRefIdeal.nD Cert.PostRefIdeal.τ).loc Cert.PostRefIdeal.main_v180) = v6 c
          ∧ r.2.mem ((c.tc : Thread Cert.PostRefIdeal.nD Cert.PostRefIdeal.τ).loc Cert.PostRefIdeal.main_v187) = v7 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)) →
    ∃ (v0 : (c : Dev Cert.PostSIdeal.nD) → Buf (Elt Ideal) ((c.tc : Thread Cert.PostSIdeal.nD Cert.PostSIdeal.τ).loc Cert.PostSIdeal.main_v60_0)) (v1 : (c : Dev Cert.PostSIdeal.nD) → Buf (Elt Ideal) ((c.tc : Thread Cert.PostSIdeal.nD Cert.PostSIdeal.τ).loc Cert.PostSIdeal.main_v60_1)) (v2 : (c : Dev Cert.PostSIdeal.nD) → Buf (Elt Ideal) ((c.tc : Thread Cert.PostSIdeal.nD Cert.PostSIdeal.τ).loc Cert.PostSIdeal.main_v60_2)) (v3 : (c : Dev Cert.PostSIdeal.nD) → Buf (Elt Ideal) ((c.tc : Thread Cert.PostSIdeal.nD Cert.PostSIdeal.τ).loc Cert.PostSIdeal.main_v60_3)) (v4 : (c : Dev Cert.PostSIdeal.nD) → Buf (Elt Ideal) ((c.tc : Thread Cert.PostSIdeal.nD Cert.PostSIdeal.τ).loc Cert.PostSIdeal.main_v60_4)) (v5 : (c : Dev Cert.PostSIdeal.nD) → Buf (Elt Ideal) ((c.tc : Thread Cert.PostSIdeal.nD Cert.PostSIdeal.τ).loc Cert.PostSIdeal.main_v60_5)) (v6 : (c : Dev Cert.PostSIdeal.nD) → Buf (Elt Ideal) ((c.tc : Thread Cert.PostSIdeal.nD Cert.PostSIdeal.τ).loc Cert.PostSIdeal.main_v60_6)) (v7 : (c : Dev Cert.PostSIdeal.nD) → Buf (Elt Ideal) ((c.tc : Thread Cert.PostSIdeal.nD Cert.PostSIdeal.τ).loc Cert.PostSIdeal.main_v60_7)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v60_0) = v0 c
          ∧ r.2.mem ((c.tc : Thread Cert.PostSIdeal.nD Cert.PostSIdeal.τ).loc Cert.PostSIdeal.main_v60_1) = v1 c
          ∧ r.2.mem ((c.tc : Thread Cert.PostSIdeal.nD Cert.PostSIdeal.τ).loc Cert.PostSIdeal.main_v60_2) = v2 c
          ∧ r.2.mem ((c.tc : Thread Cert.PostSIdeal.nD Cert.PostSIdeal.τ).loc Cert.PostSIdeal.main_v60_3) = v3 c
          ∧ r.2.mem ((c.tc : Thread Cert.PostSIdeal.nD Cert.PostSIdeal.τ).loc Cert.PostSIdeal.main_v60_4) = v4 c
          ∧ r.2.mem ((c.tc : Thread Cert.PostSIdeal.nD Cert.PostSIdeal.τ).loc Cert.PostSIdeal.main_v60_5) = v5 c
          ∧ r.2.mem ((c.tc : Thread Cert.PostSIdeal.nD Cert.PostSIdeal.τ).loc Cert.PostSIdeal.main_v60_6) = v6 c
          ∧ r.2.mem ((c.tc : Thread Cert.PostSIdeal.nD Cert.PostSIdeal.τ).loc Cert.PostSIdeal.main_v60_7) = v7 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v176) = v0 c
          ∧ r.2.mem ((c.tc : Thread Cert.PostSRefIdeal.nD Cert.PostSRefIdeal.τ).loc Cert.PostSRefIdeal.main_v96) = v1 c
          ∧ r.2.mem ((c.tc : Thread Cert.PostSRefIdeal.nD Cert.PostSRefIdeal.τ).loc Cert.PostSRefIdeal.main_v177) = v2 c
          ∧ r.2.mem ((c.tc : Thread Cert.PostSRefIdeal.nD Cert.PostSRefIdeal.τ).loc Cert.PostSRefIdeal.main_v178) = v3 c
          ∧ r.2.mem ((c.tc : Thread Cert.PostSRefIdeal.nD Cert.PostSRefIdeal.τ).loc Cert.PostSRefIdeal.main_v179) = v4 c
          ∧ r.2.mem ((c.tc : Thread Cert.PostSRefIdeal.nD Cert.PostSRefIdeal.τ).loc Cert.PostSRefIdeal.main_v180) = v5 c
          ∧ r.2.mem ((c.tc : Thread Cert.PostSRefIdeal.nD Cert.PostSRefIdeal.τ).loc Cert.PostSRefIdeal.main_v182) = v6 c
          ∧ r.2.mem ((c.tc : Thread Cert.PostSRefIdeal.nD Cert.PostSRefIdeal.τ).loc Cert.PostSRefIdeal.main_v189) = v7 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5))

def preserves_Wkv_WkvIdeal : Prop :=
  True

def algebraic_WkvIdeal_WkvRefIdeal_pre_keys_finite [hWkvIdeal : Cert.WkvIdeal.Facts] [hWkvRefIdeal : Cert.WkvRefIdeal.Facts] [hPre_keys_finite : Cert.Pre_keys_finite.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal_keys_finite m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)
      ∧ m' ((c.tc : Thread Cert.WkvRefIdeal.nD Cert.WkvRefIdeal.τ).loc Cert.WkvRefIdeal.main_arg2) = m ((c.tc : Thread Cert.WkvIdeal.nD Cert.WkvIdeal.τ).loc Cert.WkvIdeal.main_arg2)
      ∧ m' ((c.tc : Thread Cert.WkvRefIdeal.nD Cert.WkvRefIdeal.τ).loc Cert.WkvRefIdeal.main_arg3) = m ((c.tc : Thread Cert.WkvIdeal.nD Cert.WkvIdeal.τ).loc Cert.WkvIdeal.main_arg3)
      ∧ m' ((c.tc : Thread Cert.WkvRefIdeal.nD Cert.WkvRefIdeal.τ).loc Cert.WkvRefIdeal.main_arg4) = m ((c.tc : Thread Cert.WkvIdeal.nD Cert.WkvIdeal.τ).loc Cert.WkvIdeal.main_arg4)
      ∧ m' ((c.tc : Thread Cert.WkvRefIdeal.nD Cert.WkvRefIdeal.τ).loc Cert.WkvRefIdeal.main_arg5) = m ((c.tc : Thread Cert.WkvIdeal.nD Cert.WkvIdeal.τ).loc Cert.WkvIdeal.main_arg5)
      ∧ m' ((c.tc : Thread Cert.WkvRefIdeal.nD Cert.WkvRefIdeal.τ).loc Cert.WkvRefIdeal.main_arg6) = m ((c.tc : Thread Cert.WkvIdeal.nD Cert.WkvIdeal.τ).loc Cert.WkvIdeal.main_arg6)
      ∧ m' ((c.tc : Thread Cert.WkvRefIdeal.nD Cert.WkvRefIdeal.τ).loc Cert.WkvRefIdeal.main_arg7) = m ((c.tc : Thread Cert.WkvIdeal.nD Cert.WkvIdeal.τ).loc Cert.WkvIdeal.main_arg7)
      ∧ m' ((c.tc : Thread Cert.WkvRefIdeal.nD Cert.WkvRefIdeal.τ).loc Cert.WkvRefIdeal.main_arg8) = m ((c.tc : Thread Cert.WkvIdeal.nD Cert.WkvIdeal.τ).loc Cert.WkvIdeal.main_arg8)
      ∧ m' ((c.tc : Thread Cert.WkvRefIdeal.nD Cert.WkvRefIdeal.τ).loc Cert.WkvRefIdeal.main_arg9) = m ((c.tc : Thread Cert.WkvIdeal.nD Cert.WkvIdeal.τ).loc Cert.WkvIdeal.main_arg9)
      ∧ m' ((c.tc : Thread Cert.WkvRefIdeal.nD Cert.WkvRefIdeal.τ).loc Cert.WkvRefIdeal.main_arg10) = m ((c.tc : Thread Cert.WkvIdeal.nD Cert.WkvIdeal.τ).loc Cert.WkvIdeal.main_arg10)
      ∧ m' ((c.tc : Thread Cert.WkvRefIdeal.nD Cert.WkvRefIdeal.τ).loc Cert.WkvRefIdeal.main_arg11) = m ((c.tc : Thread Cert.WkvIdeal.nD Cert.WkvIdeal.τ).loc Cert.WkvIdeal.main_arg11)
      ∧ m' ((c.tc : Thread Cert.WkvRefIdeal.nD Cert.WkvRefIdeal.τ).loc Cert.WkvRefIdeal.main_arg12) = m ((c.tc : Thread Cert.WkvIdeal.nD Cert.WkvIdeal.τ).loc Cert.WkvIdeal.main_arg12)
      ∧ m' ((c.tc : Thread Cert.WkvRefIdeal.nD Cert.WkvRefIdeal.τ).loc Cert.WkvRefIdeal.main_arg13) = m ((c.tc : Thread Cert.WkvIdeal.nD Cert.WkvIdeal.τ).loc Cert.WkvIdeal.main_arg13)) →
    ∃ (v0 : (c : Dev Cert.WkvIdeal.nD) → Buf (Elt Ideal) ((c.tc : Thread Cert.WkvIdeal.nD Cert.WkvIdeal.τ).loc Cert.WkvIdeal.main_v9_1)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v9_1) = v0 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
          ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
          ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
          ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
          ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
          ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
          ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
          ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9)
          ∧ r.2.mem ((c.tc : Thread Cert.WkvIdeal.nD Cert.WkvIdeal.τ).loc Cert.WkvIdeal.main_arg10) = m ((c.tc : Thread Cert.WkvIdeal.nD Cert.WkvIdeal.τ).loc Cert.WkvIdeal.main_arg10)
          ∧ r.2.mem ((c.tc : Thread Cert.WkvIdeal.nD Cert.WkvIdeal.τ).loc Cert.WkvIdeal.main_arg11) = m ((c.tc : Thread Cert.WkvIdeal.nD Cert.WkvIdeal.τ).loc Cert.WkvIdeal.main_arg11)
          ∧ r.2.mem ((c.tc : Thread Cert.WkvIdeal.nD Cert.WkvIdeal.τ).loc Cert.WkvIdeal.main_arg12) = m ((c.tc : Thread Cert.WkvIdeal.nD Cert.WkvIdeal.τ).loc Cert.WkvIdeal.main_arg12)
          ∧ r.2.mem ((c.tc : Thread Cert.WkvIdeal.nD Cert.WkvIdeal.τ).loc Cert.WkvIdeal.main_arg13) = m ((c.tc : Thread Cert.WkvIdeal.nD Cert.WkvIdeal.τ).loc Cert.WkvIdeal.main_arg13))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v158) = v0 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1)
          ∧ r.2.mem ((c.tc : Thread Cert.WkvRefIdeal.nD Cert.WkvRefIdeal.τ).loc Cert.WkvRefIdeal.main_arg2) = m' ((c.tc : Thread Cert.WkvRefIdeal.nD Cert.WkvRefIdeal.τ).loc Cert.WkvRefIdeal.main_arg2)
          ∧ r.2.mem ((c.tc : Thread Cert.WkvRefIdeal.nD Cert.WkvRefIdeal.τ).loc Cert.WkvRefIdeal.main_arg3) = m' ((c.tc : Thread Cert.WkvRefIdeal.nD Cert.WkvRefIdeal.τ).loc Cert.WkvRefIdeal.main_arg3)
          ∧ r.2.mem ((c.tc : Thread Cert.WkvRefIdeal.nD Cert.WkvRefIdeal.τ).loc Cert.WkvRefIdeal.main_arg4) = m' ((c.tc : Thread Cert.WkvRefIdeal.nD Cert.WkvRefIdeal.τ).loc Cert.WkvRefIdeal.main_arg4)
          ∧ r.2.mem ((c.tc : Thread Cert.WkvRefIdeal.nD Cert.WkvRefIdeal.τ).loc Cert.WkvRefIdeal.main_arg5) = m' ((c.tc : Thread Cert.WkvRefIdeal.nD Cert.WkvRefIdeal.τ).loc Cert.WkvRefIdeal.main_arg5)
          ∧ r.2.mem ((c.tc : Thread Cert.WkvRefIdeal.nD Cert.WkvRefIdeal.τ).loc Cert.WkvRefIdeal.main_arg6) = m' ((c.tc : Thread Cert.WkvRefIdeal.nD Cert.WkvRefIdeal.τ).loc Cert.WkvRefIdeal.main_arg6)
          ∧ r.2.mem ((c.tc : Thread Cert.WkvRefIdeal.nD Cert.WkvRefIdeal.τ).loc Cert.WkvRefIdeal.main_arg7) = m' ((c.tc : Thread Cert.WkvRefIdeal.nD Cert.WkvRefIdeal.τ).loc Cert.WkvRefIdeal.main_arg7)
          ∧ r.2.mem ((c.tc : Thread Cert.WkvRefIdeal.nD Cert.WkvRefIdeal.τ).loc Cert.WkvRefIdeal.main_arg8) = m' ((c.tc : Thread Cert.WkvRefIdeal.nD Cert.WkvRefIdeal.τ).loc Cert.WkvRefIdeal.main_arg8)
          ∧ r.2.mem ((c.tc : Thread Cert.WkvRefIdeal.nD Cert.WkvRefIdeal.τ).loc Cert.WkvRefIdeal.main_arg9) = m' ((c.tc : Thread Cert.WkvRefIdeal.nD Cert.WkvRefIdeal.τ).loc Cert.WkvRefIdeal.main_arg9)
          ∧ r.2.mem ((c.tc : Thread Cert.WkvRefIdeal.nD Cert.WkvRefIdeal.τ).loc Cert.WkvRefIdeal.main_arg10) = m' ((c.tc : Thread Cert.WkvRefIdeal.nD Cert.WkvRefIdeal.τ).loc Cert.WkvRefIdeal.main_arg10)
          ∧ r.2.mem ((c.tc : Thread Cert.WkvRefIdeal.nD Cert.WkvRefIdeal.τ).loc Cert.WkvRefIdeal.main_arg11) = m' ((c.tc : Thread Cert.WkvRefIdeal.nD Cert.WkvRefIdeal.τ).loc Cert.WkvRefIdeal.main_arg11)
          ∧ r.2.mem ((c.tc : Thread Cert.WkvRefIdeal.nD Cert.WkvRefIdeal.τ).loc Cert.WkvRefIdeal.main_arg12) = m' ((c.tc : Thread Cert.WkvRefIdeal.nD Cert.WkvRefIdeal.τ).loc Cert.WkvRefIdeal.main_arg12)
          ∧ r.2.mem ((c.tc : Thread Cert.WkvRefIdeal.nD Cert.WkvRefIdeal.τ).loc Cert.WkvRefIdeal.main_arg13) = m' ((c.tc : Thread Cert.WkvRefIdeal.nD Cert.WkvRefIdeal.τ).loc Cert.WkvRefIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hLast : Cert.Last.Facts) (hLastIdeal : Cert.LastIdeal.Facts) (hLastRefIdeal : Cert.LastRefIdeal.Facts) (hLastS : Cert.LastS.Facts) (hLastSIdeal : Cert.LastSIdeal.Facts) (hLastSRefIdeal : Cert.LastSRefIdeal.Facts) (hMid : Cert.Mid.Facts) (hMidIdeal : Cert.MidIdeal.Facts) (hMidRefIdeal : Cert.MidRefIdeal.Facts) (hMidS : Cert.MidS.Facts) (hMidSIdeal : Cert.MidSIdeal.Facts) (hMidSRefIdeal : Cert.MidSRefIdeal.Facts) (hIn : Cert.In.Facts) (hInIdeal : Cert.InIdeal.Facts) (hInRefIdeal : Cert.InRefIdeal.Facts) (hInS : Cert.InS.Facts) (hInSIdeal : Cert.InSIdeal.Facts) (hInSRefIdeal : Cert.InSRefIdeal.Facts) (hUp : Cert.Up.Facts) (hUpIdeal : Cert.UpIdeal.Facts) (hUpRefIdeal : Cert.UpRefIdeal.Facts) (hPost : Cert.Post.Facts) (hPostIdeal : Cert.PostIdeal.Facts) (hPostRefIdeal : Cert.PostRefIdeal.Facts) (hPostS : Cert.PostS.Facts) (hPostSIdeal : Cert.PostSIdeal.Facts) (hPostSRefIdeal : Cert.PostSRefIdeal.Facts) (hWkv : Cert.Wkv.Facts) (hWkvIdeal : Cert.WkvIdeal.Facts) (hWkvRefIdeal : Cert.WkvRefIdeal.Facts) (hPre_pages_in_pool : Cert.Pre_pages_in_pool.Facts) (hPre_keys_finite : Cert.Pre_keys_finite.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal) (hPre_pages_in_pool := hPre_pages_in_pool)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Last (hLast := hLast)
    ∧ quiescent_LastIdeal (hLastIdeal := hLastIdeal)
    ∧ quiescent_LastRefIdeal (hLastRefIdeal := hLastRefIdeal)
    ∧ quiescent_LastS (hLastS := hLastS)
    ∧ quiescent_LastSIdeal (hLastSIdeal := hLastSIdeal)
    ∧ quiescent_LastSRefIdeal (hLastSRefIdeal := hLastSRefIdeal)
    ∧ quiescent_Mid (hMid := hMid)
    ∧ quiescent_MidIdeal (hMidIdeal := hMidIdeal)
    ∧ quiescent_MidRefIdeal (hMidRefIdeal := hMidRefIdeal)
    ∧ quiescent_MidS (hMidS := hMidS)
    ∧ quiescent_MidSIdeal (hMidSIdeal := hMidSIdeal)
    ∧ quiescent_MidSRefIdeal (hMidSRefIdeal := hMidSRefIdeal)
    ∧ quiescent_In (hIn := hIn)
    ∧ quiescent_InIdeal (hInIdeal := hInIdeal)
    ∧ quiescent_InRefIdeal (hInRefIdeal := hInRefIdeal)
    ∧ quiescent_InS (hInS := hInS)
    ∧ quiescent_InSIdeal (hInSIdeal := hInSIdeal)
    ∧ quiescent_InSRefIdeal (hInSRefIdeal := hInSRefIdeal)
    ∧ quiescent_Up (hUp := hUp)
    ∧ quiescent_UpIdeal (hUpIdeal := hUpIdeal)
    ∧ quiescent_UpRefIdeal (hUpRefIdeal := hUpRefIdeal)
    ∧ quiescent_Post (hPost := hPost)
    ∧ quiescent_PostIdeal (hPostIdeal := hPostIdeal)
    ∧ quiescent_PostRefIdeal (hPostRefIdeal := hPostRefIdeal)
    ∧ quiescent_PostS (hPostS := hPostS)
    ∧ quiescent_PostSIdeal (hPostSIdeal := hPostSIdeal)
    ∧ quiescent_PostSRefIdeal (hPostSRefIdeal := hPostSRefIdeal)
    ∧ quiescent_Wkv (hWkv := hWkv)
    ∧ quiescent_WkvIdeal (hWkvIdeal := hWkvIdeal)
    ∧ quiescent_WkvIdeal_pre_keys_finite (hWkvIdeal := hWkvIdeal) (hPre_keys_finite := hPre_keys_finite)
    ∧ quiescent_WkvRefIdeal (hWkvRefIdeal := hWkvRefIdeal)
    ∧ quiescent_WkvRefIdeal_pre_keys_finite (hWkvRefIdeal := hWkvRefIdeal) (hPre_keys_finite := hPre_keys_finite)
    ∧ preserves_Kernel_KernelIdeal
    ∧ algebraic_KernelIdeal_ReferenceIdeal (hKernelIdeal := hKernelIdeal) (hReferenceIdeal := hReferenceIdeal) (hPre_pages_in_pool := hPre_pages_in_pool)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Last_LastIdeal
    ∧ algebraic_LastIdeal_LastRefIdeal (hLastIdeal := hLastIdeal) (hLastRefIdeal := hLastRefIdeal)
    ∧ preserves_LastS_LastSIdeal
    ∧ algebraic_LastSIdeal_LastSRefIdeal (hLastSIdeal := hLastSIdeal) (hLastSRefIdeal := hLastSRefIdeal)
    ∧ preserves_Mid_MidIdeal
    ∧ algebraic_MidIdeal_MidRefIdeal (hMidIdeal := hMidIdeal) (hMidRefIdeal := hMidRefIdeal)
    ∧ preserves_MidS_MidSIdeal
    ∧ algebraic_MidSIdeal_MidSRefIdeal (hMidSIdeal := hMidSIdeal) (hMidSRefIdeal := hMidSRefIdeal)
    ∧ preserves_In_InIdeal
    ∧ algebraic_InIdeal_InRefIdeal (hInIdeal := hInIdeal) (hInRefIdeal := hInRefIdeal)
    ∧ preserves_InS_InSIdeal
    ∧ algebraic_InSIdeal_InSRefIdeal (hInSIdeal := hInSIdeal) (hInSRefIdeal := hInSRefIdeal)
    ∧ preserves_Up_UpIdeal
    ∧ algebraic_UpIdeal_UpRefIdeal (hUpIdeal := hUpIdeal) (hUpRefIdeal := hUpRefIdeal)
    ∧ preserves_Post_PostIdeal
    ∧ algebraic_PostIdeal_PostRefIdeal (hPostIdeal := hPostIdeal) (hPostRefIdeal := hPostRefIdeal)
    ∧ preserves_PostS_PostSIdeal
    ∧ algebraic_PostSIdeal_PostSRefIdeal (hPostSIdeal := hPostSIdeal) (hPostSRefIdeal := hPostSRefIdeal)
    ∧ preserves_Wkv_WkvIdeal
    ∧ algebraic_WkvIdeal_WkvRefIdeal_pre_keys_finite (hWkvIdeal := hWkvIdeal) (hWkvRefIdeal := hWkvRefIdeal) (hPre_keys_finite := hPre_keys_finite)
-- ==== Pre_keys_finite.lean ====
abbrev S8x8x2048 : Shape := ⟨3, ![8, 8, 2048]⟩
abbrev S2048 : Shape := ⟨1, ![2048]⟩
abbrev S8x32x64x64 : Shape := ⟨4, ![8, 32, 64, 64]⟩
abbrev S_ : Shape := ⟨0, ![]⟩

class Facts : Prop where
  bcast_S_S8x8x2048 : S_.BroadcastsInDim S8x8x2048 (![] : Fin 0 → Fin S8x8x2048.rank)
  reducesTo_S8x8x2048_S_d0_1_2 : S8x8x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x8x2048 .f32) (main_arg1 : FVec F S8x8x2048 .f32) (main_arg2 : FVec F S8x8x2048 .f32) (main_arg3 : FVec F S8x8x2048 .f32) (main_arg4 : FVec F S8x8x2048 .f32) (main_arg5 : FVec F S8x8x2048 .f32) (main_arg6 : FVec F S2048 .f32) (main_arg7 : FVec F S2048 .f32) (main_arg8 : FVec F S2048 .f32) (main_arg9 : FVec F S2048 .f32) (main_arg10 : FVec F S2048 .f32) (main_arg11 : FVec F S2048 .f32) (main_arg12 : FVec F S2048 .f32) (main_arg13 : FVec F S8x32x64x64 .f32) : IVec S_ 1 :=
  let main_v0 : FVec F S8x8x2048 .f32 := Host.absf main_arg1
  let main_cst : FVec F S_ .f32 := constant S_ .f32 0x7F800000#32
  let main_v1 : FVec F S8x8x2048 .f32 := broadcastInDim S8x8x2048 ![] bcast_S_S8x8x2048 main_cst
  let main_v2 : IVec S8x8x2048 1 := cmpf .olt main_v0 main_v1
  let main_c : IVec S_ 1 := constantI S_ 1 1#1
  let main_v3 : IVec S_ 1 := (fun x v => Host.reduce IntOp.andi x v reducesTo_S8x8x2048_S_d0_1_2 h_S_) main_v2 main_c
  let main_v4 : FVec F S2048 .f32 := Host.absf main_arg8
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Pre_pages_in_pool.lean ====
abbrev S8x128 : Shape := ⟨2, ![8, 128]⟩
abbrev S8x8x1024 : Shape := ⟨3, ![8, 8, 1024]⟩
abbrev S8x8x128 : Shape := ⟨3, ![8, 8, 128]⟩
abbrev S2x1280x128x64 : Shape := ⟨4, ![2, 1280, 128, 64]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : IVec S8x128 32) (main_arg1 : FVec F S8x8x1024 .bf16) (main_arg2 : FVec F S8x8x128 .f32) (main_arg3 : FVec F S2x1280x128x64 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 1280#32
  let main_v2 : IVec S8x128 32 := broadcastInDim S8x128 ![] bcast_S_S8x128 main_c_0
  let main_v3 : IVec S8x128 1 := cmpi .slt main_arg0 main_v2
  let main_v4 : IVec S8x128 1 := andi main_v1 main_v3
  main_v4
-- ==== Kernel.lean ====
abbrev S8x128 : Shape := ⟨2, ![8, 128]⟩
abbrev S8x8x1024 : Shape := ⟨3, ![8, 8, 1024]⟩
abbrev S8x8x128 : Shape := ⟨3, ![8, 8, 128]⟩
abbrev S2x1280x128x64 : Shape := ⟨4, ![2, 1280, 128, 64]⟩
abbrev S1024 : Shape := ⟨1, ![1024]⟩
abbrev S8x8x16384 : Shape := ⟨3, ![8, 8, 16384]⟩
abbrev S1x8x1024 : Shape := ⟨3, ![1, 8, 1024]⟩
abbrev S1x8x128 : Shape := ⟨3, ![1, 8, 128]⟩
abbrev S1x1x128x64 : Shape := ⟨4, ![1, 1, 128, 64]⟩
abbrev S1 : Shape := ⟨1, ![1]⟩
abbrev S128x64 : Shape := ⟨2, ![128, 64]⟩
abbrev S1024x64 : Shape := ⟨2, ![1024, 64]⟩
abbrev S1024x128 : Shape := ⟨2, ![1024, 128]⟩
abbrev S8x1024 : Shape := ⟨2, ![8, 1024]⟩
abbrev S128x128 : Shape := ⟨2, ![128, 128]⟩
abbrev S128x1024 : Shape := ⟨2, ![128, 1024]⟩
abbrev S8 : Shape := ⟨1, ![8]⟩
abbrev S8x1 : Shape := ⟨2, ![8, 1]⟩

abbrev nBuf : Space → Nat
  | .hbm => 5
  | .vmem => 22
  | .smem => 1
  | _ => 0

abbrev bufTy : (tb : Table) → Fin (tcTables nBuf tb) → BufTy
  | .hbm, ⟨0, _⟩ => ⟨S8x128, .i32⟩
  | .hbm, ⟨1, _⟩ => ⟨S8x8x1024, .bf16⟩
  | .hbm, ⟨2, _⟩ => ⟨S8x8x128, .f32⟩
  | .hbm, ⟨3, _⟩ => ⟨S2x1280x128x64, .f32⟩
  | .hbm, ⟨4, _⟩ => ⟨S8x8x16384, .f32⟩
  | .local _ .vmem, ⟨0, _⟩ => ⟨S1x8x1024, .bf16⟩
  | .local _ .vmem, ⟨1, _⟩ => ⟨S1x8x1024, .bf16⟩
  | .local _ .vmem, ⟨2, _⟩ => ⟨S1x8x128, .f32⟩
  | .local _ .vmem, ⟨3, _⟩ => ⟨S1x8x128, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1x1x128x64, .f32⟩
  | .local _ .vmem, ⟨9, _⟩ => ⟨S1x1x128x64, .f32⟩
  | .local _ .vmem, ⟨10, _⟩ => ⟨S1x1x128x64, .f32⟩
  | .local _ .vmem, ⟨11, _⟩ => ⟨S1x1x128x64, .f32⟩
  | .local _ .vmem, ⟨12, _⟩ => ⟨S1x1x128x64, .f32⟩
  | .local _ .vmem, ⟨13, _⟩ => ⟨S1x1x128x64, .f32⟩
  | .local _ .vmem, ⟨14, _⟩ => ⟨S1x1x128x64, .f32⟩
  | .local _ .vmem, ⟨15, _⟩ => ⟨S1x1x128x64, .f32⟩
  | .local _ .vmem, ⟨16, _⟩ => ⟨S1x1x128x64, .f32⟩
  | .local _ .vmem, ⟨17, _⟩ => ⟨S1x1x128x64, .f32⟩
  | .local _ .vmem, ⟨18, _⟩ => ⟨S1x1x128x64, .f32⟩
  | .local _ .vmem, ⟨19, _⟩ => ⟨S1x1x128x64, .f32⟩
  | .local _ .vmem, ⟨20, _⟩ => ⟨S1x8x1024, .f32⟩
  | .local _ .vmem, ⟨21, _⟩ => ⟨S1x8x1024, .f32⟩
  | .local _ .smem, ⟨0, _⟩ => ⟨S1024, .i32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c8_i32 : BitVec 32 := 8#32
  let v1 : BitVec 32 := Scalar.muli arg1 c8_i32
  let v2 : BitVec 32 := Scalar.addi v0 v1
  let v3 : BitVec 32 := Scalar.addi v2 c0_i32
  let v4 : Index := Scalar.indexCast v3
  ![v4.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S1024) ![v4.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v5.toNat, c0_i32_1.toNat, c0_i32_2.toNat]

def cc0_transform_3 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S1024) ![v4.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_4 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S1024) ![v4.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_5 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S1024) ![v4.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_6 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c4_i32 : BitVec 32 := 4#32
  let v3 : BitVec 32 := Scalar.addi v2 c4_i32
  let v4 : Index := Scalar.indexCast v3
  let v5 : BitVec 32 := pf.at 0 (Rect.unit (s := S1024) ![v4.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_7 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c5_i32 : BitVec 32 := 5#32
  let v3 : BitVec 32 := Scalar.addi v2 c5_i32
  let v4 : Index := Scalar.indexCast v3
  let v5 : BitVec 32 := pf.at 0 (Rect.unit (s := S1024) ![v4.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_8 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c6_i32 : BitVec 32 := 6#32
  let v3 : BitVec 32 := Scalar.addi v2 c6_i32
  let v4 : Index := Scalar.indexCast v3
  let v5 : BitVec 32 := pf.at 0 (Rect.unit (s := S1024) ![v4.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_9 (k0_off1_inb : ∀ i : grid0.Coords, ∀ (r : Fin 8), ∀ a, (k0_off1 i (BitVec.ofNat 32 r.val)) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli arg1 c8_i32
  let v2 : BitVec 32 := Scalar.addi v0 v1
  let c7_i32 : BitVec 32 := 7#32
  let v3 : BitVec 32 := Scalar.addi v2 c7_i32
  let v4 : Index := Scalar.indexCast v3
  let v5 : BitVec 32 := pf.at 0 (Rect.unit (s := S1024) ![v4.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![c0_i32.toNat, v5.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x128 : Shape := ⟨2, ![8, 128]⟩
abbrev S8x8x1024 : Shape := ⟨3, ![8, 8, 1024]⟩
abbrev S8x8x128 : Shape := ⟨3, ![8, 8, 128]⟩
abbrev S2x1280x128x64 : Shape := ⟨4, ![2, 1280, 128, 64]⟩
abbrev S_ : Shape := ⟨0, ![]⟩
abbrev S8x128x1 : Shape := ⟨3, ![8, 128, 1]⟩
abbrev S8x128x2 : Shape := ⟨3, ![8, 128, 2]⟩
abbrev S8x128x128x64 : Shape := ⟨4, ![8, 128, 128, 64]⟩
abbrev S8x16384x64 : Shape := ⟨3, ![8, 16384, 64]⟩
abbrev S8x8x16x64 : Shape := ⟨4, ![8, 8, 16, 64]⟩
abbrev S8x8x16 : Shape := ⟨3, ![8, 8, 16]⟩
abbrev S8x8x16x16384 : Shape := ⟨4, ![8, 8, 16, 16384]⟩
abbrev S8x8x16384 : Shape := ⟨3, ![8, 8, 16384]⟩

abbrev nBuf : Space → Nat
  | .hbm => 30
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8x8x1024, .bf16⟩
  | .hbm, ⟨2, _⟩ => ⟨S8x8x128, .f32⟩
  | .hbm, ⟨3, _⟩ => ⟨S2x1280x128x64, .f32⟩
  | .hbm, ⟨4, _⟩ => ⟨S_, .i32⟩
  | .hbm, ⟨5, _⟩ => ⟨S8x128, .i32⟩
  | .hbm, ⟨6, _⟩ => ⟨S8x128, .i1⟩
  | .hbm, ⟨7, _⟩ => ⟨S_, .i32⟩
  | .hbm, ⟨8, _⟩ => ⟨S8x128, .i32⟩
  | .hbm, ⟨9, _⟩ => ⟨S8x128, .i32⟩
  | .hbm, ⟨10, _⟩ => ⟨S8x128, .i32⟩
  | .hbm, ⟨11, _⟩ => ⟨S_, .i32⟩
  | .hbm, ⟨12, _⟩ => ⟨S8x128, .i32⟩
  | .hbm, ⟨13, _⟩ => ⟨S8x128, .i32⟩
  | .hbm, ⟨14, _⟩ => ⟨S8x128x1, .i32⟩
  | .hbm, ⟨15, _⟩ => ⟨S8x128x1, .i32⟩
  | .hbm, ⟨16, _⟩ => ⟨S8x128x2, .i32⟩
  | .hbm, ⟨17, _⟩ => ⟨S8x128x128x64, .f32⟩
  | .hbm, ⟨18, _⟩ => ⟨S8x16384x64, .f32⟩
  | .hbm, ⟨19, _⟩ => ⟨S8x8x1024, .f32⟩
  | .hbm, ⟨20, _⟩ => ⟨S8x8x16x64, .f32⟩
  | .hbm, ⟨21, _⟩ => ⟨S8x8x16, .f32⟩
  | .hbm, ⟨22, _⟩ => ⟨S8x8x16x16384, .f32⟩
  | .hbm, ⟨23, _⟩ => ⟨S_, .f32⟩
  | .hbm, ⟨24, _⟩ => ⟨S8x8x16x16384, .f32⟩
  | .hbm, ⟨25, _⟩ => ⟨S8x8x16x16384, .f32⟩
  | .hbm, ⟨26, _⟩ => ⟨S_, .f32⟩
  | .hbm, ⟨27, _⟩ => ⟨S8x8x16x16384, .f32⟩
  | .hbm, ⟨28, _⟩ => ⟨S8x8x16x16384, .f32⟩
  | .hbm, ⟨29, _⟩ => ⟨S8x8x16384, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Ffn.lean ====
abbrev S2x4096x2048 : Shape := ⟨3, ![2, 4096, 2048]⟩
abbrev S4x2x2048x5632 : Shape := ⟨4, ![4, 2, 2048, 5632]⟩
abbrev S4x2x5632x2048 : Shape := ⟨4, ![4, 2, 5632, 2048]⟩
abbrev S8192x2048 : Shape := ⟨2, ![8192, 2048]⟩
abbrev S1024x2048 : Shape := ⟨2, ![1024, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x2048, .bf16⟩
  | .hbm, ⟨1, _⟩ => ⟨S4x2x2048x5632, .f32⟩
  | .hbm, ⟨2, _⟩ => ⟨S4x2x2048x5632, .f32⟩
  | .hbm, ⟨3, _⟩ => ⟨S4x2x5632x2048, .f32⟩
  | .hbm, ⟨4, _⟩ => ⟨S4x2x2048x5632, .bf16⟩
  | .hbm, ⟨5, _⟩ => ⟨S4x2x2048x5632, .bf16⟩
  | .hbm, ⟨6, _⟩ => ⟨S4x2x5632x2048, .bf16⟩
  | .hbm, ⟨7, _⟩ => ⟨S8192x2048, .bf16⟩
  | .hbm, ⟨8, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1024x2048, .f32⟩
  | .local _ .vmem, ⟨9, _⟩ => ⟨S1024x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S2x4096x2048 : Shape := ⟨3, ![2, 4096, 2048]⟩
abbrev S4x2x2048x5632 : Shape := ⟨4, ![4, 2, 2048, 5632]⟩
abbrev S4x2x5632x2048 : Shape := ⟨4, ![4, 2, 5632, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S2x4096x5632 : Shape := ⟨3, ![2, 4096, 5632]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S4x2x2048x5632, .f32⟩
  | .hbm, ⟨2, _⟩ => ⟨S4x2x2048x5632, .f32⟩
  | .hbm, ⟨3, _⟩ => ⟨S4x2x5632x2048, .f32⟩
  | .hbm, ⟨4, _⟩ => ⟨S2x4096x2048, .f32⟩
  | .hbm, ⟨5, _⟩ => ⟨S1x1x2048x5632, .f32⟩
  | .hbm, ⟨6, _⟩ => ⟨S2048x5632, .f32⟩
  | .hbm, ⟨7, _⟩ => ⟨S1x1x2048x5632, .f32⟩
  | .hbm, ⟨8, _⟩ => ⟨S2048x5632, .f32⟩
  | .hbm, ⟨9, _⟩ => ⟨S1x1x5632x2048, .f32⟩
  | .hbm, ⟨10, _⟩ => ⟨S5632x2048, .f32⟩
  | .hbm, ⟨11, _⟩ => ⟨S2x4096x5632, .f32⟩
  | .hbm, ⟨12, _⟩ => ⟨S2x4096x5632, .f32⟩
  | .hbm, ⟨13, _⟩ => ⟨S2x4096x5632, .f32⟩
  | .hbm, ⟨14, _⟩ => ⟨S_, .f32⟩
  | .hbm, ⟨15, _⟩ => ⟨S2x4096x5632, .f32⟩
  | .hbm, ⟨16, _⟩ => ⟨S2x4096x5632, .f32⟩
  | .hbm, ⟨17, _⟩ => ⟨S_, .f32⟩
  | .hbm, ⟨18, _⟩ => ⟨S2x4096x5632, .f32⟩
  | .hbm, ⟨19, _⟩ => ⟨S2x4096x5632, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x2048, .f32⟩
  | .hbm, ⟨24, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proj.lean ====
abbrev S2x4096x2048 : Shape := ⟨3, ![2, 4096, 2048]⟩
abbrev S2x2048x2048 : Shape := ⟨3, ![2, 2048, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x2048, .f32⟩
  | .hbm, ⟨2, _⟩ => ⟨S8192x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2x4096x2048 : Shape := ⟨3, ![2, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x2048, .f32⟩
  | .hbm, ⟨2, _⟩ => ⟨S2x4096x2048, .f32⟩
  | .hbm, ⟨3, _⟩ => ⟨S1x2048x2048, .f32⟩
  | .hbm, ⟨4, _⟩ => ⟨S2048x2048, .f32⟩
  | .hbm, ⟨5, _⟩ => ⟨S2x4096x2048, .f32⟩
  | .hbm, ⟨6, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Last.lean ====
abbrev S2x4096x2048 : Shape := ⟨3, ![2, 4096, 2048]⟩
abbrev S2x9x1x2048 : Shape := ⟨4, ![2, 9, 1, 2048]⟩
abbrev S1x256x2048 : Shape := ⟨3, ![1, 256, 2048]⟩
abbrev S1x1x1x2048 : Shape := ⟨4, ![1, 1, 1, 2048]⟩
abbrev S256x2048 : Shape := ⟨2, ![256, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x256x2048, .f32⟩
  | .local _ .vmem, ⟨7, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![arg0.toNat, c8_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastIdeal.lean ====
abbrev S2x4096x2048 : Shape := ⟨3, ![2, 4096, 2048]⟩
abbrev S2x9x1x2048 : Shape := ⟨4, ![2, 9, 1, 2048]⟩
abbrev S1x256x2048 : Shape := ⟨3, ![1, 256, 2048]⟩
abbrev S1x1x1x2048 : Shape := ⟨4, ![1, 1, 1, 2048]⟩
abbrev S256x2048 : Shape := ⟨2, ![256, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x256x2048, .f32⟩
  | .local _ .vmem, ⟨7, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![arg0.toNat, c8_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastRefIdeal.lean ====
abbrev S2x4096x2048 : Shape := ⟨3, ![2, 4096, 2048]⟩
abbrev S2x9x1x2048 : Shape := ⟨4, ![2, 9, 1, 2048]⟩
abbrev S2x1x1x2048 : Shape := ⟨4, ![2, 1, 1, 2048]⟩
abbrev S2x1x2048 : Shape := ⟨3, ![2, 1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S2x1x1x2048, .f32⟩
  | .hbm, ⟨4, _⟩ => ⟨S2x1x2048, .f32⟩
  | .hbm, ⟨5, _⟩ => ⟨S_, .f32⟩
  | .hbm, ⟨6, _⟩ => ⟨S2x1x2048, .f32⟩
  | .hbm, ⟨7, _⟩ => ⟨S2x1x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== LastS.lean ====
abbrev S8x8x2048 : Shape := ⟨3, ![8, 8, 2048]⟩
abbrev S8x9x1x2048 : Shape := ⟨4, ![8, 9, 1, 2048]⟩
abbrev S1x8x2048 : Shape := ⟨3, ![1, 8, 2048]⟩
abbrev S1x1x1x2048 : Shape := ⟨4, ![1, 1, 1, 2048]⟩
abbrev S8x2048 : Shape := ⟨2, ![8, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x8x2048, .f32⟩
  | .hbm, ⟨1, _⟩ => ⟨S8x8x2048, .f32⟩
  | .hbm, ⟨2, _⟩ => ⟨S8x9x1x2048, .f32⟩
  | .hbm, ⟨3, _⟩ => ⟨S8x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x8x2048, .f32⟩
  | .local _ .vmem, ⟨7, _⟩ => ⟨S1x8x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![arg0.toNat, c8_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LastSRefIdeal.lean ====
abbrev S8x8x2048 : Shape := ⟨3, ![8, 8, 2048]⟩
abbrev S8x9x1x2048 : Shape := ⟨4, ![8, 9, 1, 2048]⟩
abbrev S8x1x1x2048 : Shape := ⟨4, ![8, 1, 1, 2048]⟩
abbrev S8x1x2048 : Shape := ⟨3, ![8, 1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S8x8x2048, .f32⟩
  | .hbm, ⟨2, _⟩ => ⟨S8x9x1x2048, .f32⟩
  | .hbm, ⟨3, _⟩ => ⟨S8x1x1x2048, .f32⟩
  | .hbm, ⟨4, _⟩ => ⟨S8x1x2048, .f32⟩
  | .hbm, ⟨5, _⟩ => ⟨S_, .f32⟩
  | .hbm, ⟨6, _⟩ => ⟨S8x1x2048, .f32⟩
  | .hbm, ⟨7, _⟩ => ⟨S8x1x2048, .f32⟩
  | .hbm, ⟨8, _⟩ => ⟨S8x8x2048, .f32⟩
  | .hbm, ⟨9, _⟩ => ⟨S8x8x2048, .f32⟩
  | .hbm, ⟨10, _⟩ => ⟨S8x8x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mid.lean ====
abbrev S2x4096x2048 : Shape := ⟨3, ![2, 4096, 2048]⟩
abbrev S2x9x1x2048 : Shape := ⟨4, ![2, 9, 1, 2048]⟩
abbrev S4x3x2048 : Shape := ⟨3, ![4, 3, 2048]⟩
abbrev S1x1x2048 : Shape := ⟨3, ![1, 1, 2048]⟩
abbrev S2048 : Shape := ⟨1, ![2048]⟩
abbrev S1x2048 : Shape := ⟨2, ![1, 2048]⟩
abbrev S1x256x2048 : Shape := ⟨3, ![1, 256, 2048]⟩
abbrev S1x1x1x2048 : Shape := ⟨4, ![1, 1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S4x3x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S2x4096x2048, .f32⟩
  | .hbm, ⟨8, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MidIdeal.lean ====
abbrev S2x4096x2048 : Shape := ⟨3, ![2, 4096, 2048]⟩
abbrev S2x9x1x2048 : Shape := ⟨4, ![2, 9, 1, 2048]⟩
abbrev S4x3x2048 : Shape := ⟨3, ![4, 3, 2048]⟩
abbrev S1x1x2048 : Shape := ⟨3, ![1, 1, 2048]⟩
abbrev S2048 : Shape := ⟨1, ![2048]⟩
abbrev S1x2048 : Shape := ⟨2, ![1, 2048]⟩
abbrev S1x256x2048 : Shape := ⟨3, ![1, 256, 2048]⟩
abbrev S1x1x1x2048 : Shape := ⟨4, ![1, 1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S4x3x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S2x4096x2048, .f32⟩
  | .hbm, ⟨8, _⟩ => ⟨S2x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MidRefIdeal.lean ====
abbrev S2x4096x2048 : Shape := ⟨3, ![2, 4096, 2048]⟩
abbrev S2x9x1x2048 : Shape := ⟨4, ![2, 9, 1, 2048]⟩
abbrev S4x3x2048 : Shape := ⟨3, ![4, 3, 2048]⟩
abbrev S2x1x1x2048 : Shape := ⟨4, ![2, 1, 1, 2048]⟩
abbrev S2x1x2048 : Shape := ⟨3, ![2, 1, 2048]⟩
abbrev S_ : Shape := ⟨0, ![]⟩
abbrev S1x1x2048 : Shape := ⟨3, ![1, 1, 2048]⟩
abbrev S2048 : Shape := ⟨1, ![2048]⟩
abbrev S2x4096 : Shape := ⟨2, ![2, 4096]⟩
abbrev S2x4096x1 : Shape := ⟨3, ![2, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x9x1x2048, .f32⟩
  | .hbm, ⟨3, _⟩ => ⟨S4x3x2048, .f32⟩
  | .hbm, ⟨4, _⟩ => ⟨S2x1x1x2048, .f32⟩
  | .hbm, ⟨5, _⟩ => ⟨S2x1x2048, .f32⟩
  | .hbm, ⟨6, _⟩ => ⟨S_, .f32⟩
  | .hbm, ⟨7, _⟩ => ⟨S2x1x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S1x1x2048, .f32⟩
  | .hbm, ⟨13, _⟩ => ⟨S2048, .f32⟩
  | .hbm, ⟨14, _⟩ => ⟨S2x1x1x2048, .f32⟩
  | .hbm, ⟨15, _⟩ => ⟨S2x1x2048, .f32⟩
  | .hbm, ⟨16, _⟩ => ⟨S2x1x1x2048, .f32⟩
  | .hbm, ⟨17, _⟩ => ⟨S2x1x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MidS.lean ====
abbrev S8x8x2048 : Shape := ⟨3, ![8, 8, 2048]⟩
abbrev S8x9x1x2048 : Shape := ⟨4, ![8, 9, 1, 2048]⟩
abbrev S4x3x2048 : Shape := ⟨3, ![4, 3, 2048]⟩
abbrev S1x1x2048 : Shape := ⟨3, ![1, 1, 2048]⟩
abbrev S2048 : Shape := ⟨1, ![2048]⟩
abbrev S1x2048 : Shape := ⟨2, ![1, 2048]⟩
abbrev S1x8x2048 : Shape := ⟨3, ![1, 8, 2048]⟩
abbrev S1x1x1x2048 : Shape := ⟨4, ![1, 1, 1, 2048]⟩
abbrev S8x2048 : Shape := ⟨2, ![8, 2048]⟩
abbrev S8 : Shape := ⟨1, ![8]⟩
abbrev S8x1 : Shape := ⟨2, ![8, 1]⟩

abbrev nBuf : Space → Nat
  | .hbm => 9
  | .vmem => 15
  | .smem => 0
  | _ => 0

abbrev bufTy : (tb : Table) → Fin (tcTables nBuf tb) → BufTy
  | .hbm, ⟨0, _⟩ => ⟨S8x8x2048, .f32⟩
  | .hbm, ⟨1, _⟩ => ⟨S8x8x2048, .f32⟩
  | .hbm, ⟨2, _⟩ => ⟨S8x9x1x2048, .f32⟩
  | .hbm, ⟨3, _⟩ => ⟨S4x3x2048, .f32⟩
  | .hbm, ⟨4, _⟩ => ⟨S1x1x2048, .f32⟩
  | .hbm, ⟨5, _⟩ => ⟨S2048, .f32⟩
  | .hbm, ⟨6, _⟩ => ⟨S1x2048, .f32⟩
  | .hbm, ⟨7, _⟩ => ⟨S8x8x2048, .f32⟩
  | .hbm, ⟨8, _⟩ => ⟨S8x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x8x2048, .f32⟩
  | .local _ .vmem, ⟨12, _⟩ => ⟨S1x8x2048, .f32⟩
  | .local _ .vmem, ⟨13, _⟩ => ⟨S1x8x2048, .f32⟩
  | .local _ .vmem, ⟨14, _⟩ => ⟨S1x8x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MidSRefIdeal.lean ====
abbrev S8x8x2048 : Shape := ⟨3, ![8, 8, 2048]⟩
abbrev S8x9x1x2048 : Shape := ⟨4, ![8, 9, 1, 2048]⟩
abbrev S4x3x2048 : Shape := ⟨3, ![4, 3, 2048]⟩
abbrev S8x1x1x2048 : Shape := ⟨4, ![8, 1, 1, 2048]⟩
abbrev S8x1x2048 : Shape := ⟨3, ![8, 1, 2048]⟩
abbrev S_ : Shape := ⟨0, ![]⟩
abbrev S1x1x2048 : Shape := ⟨3, ![1, 1, 2048]⟩
abbrev S2048 : Shape := ⟨1, ![2048]⟩
abbrev S8x8 : Shape := ⟨2, ![8, 8]⟩
abbrev S8x8x1 : Shape := ⟨3, ![8, 8, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S8x8x2048, .f32⟩
  | .hbm, ⟨2, _⟩ => ⟨S8x9x1x2048, .f32⟩
  | .hbm, ⟨3, _⟩ => ⟨S4x3x2048, .f32⟩
  | .hbm, ⟨4, _⟩ => ⟨S8x1x1x2048, .f32⟩
  | .hbm, ⟨5, _⟩ => ⟨S8x1x2048, .f32⟩
  | .hbm, ⟨6, _⟩ => ⟨S_, .f32⟩
  | .hbm, ⟨7, _⟩ => ⟨S8x1x2048, .f32⟩
  | .hbm, ⟨8, _⟩ => ⟨S8x1x2048, .f32⟩
  | .hbm, ⟨9, _⟩ => ⟨S8x8x2048, .f32⟩
  | .hbm, ⟨10, _⟩ => ⟨S8x8x2048, .f32⟩
  | .hbm, ⟨11, _⟩ => ⟨S8x8x2048, .f32⟩
  | .hbm, ⟨12, _⟩ => ⟨S1x1x2048, .f32⟩
  | .hbm, ⟨13, _⟩ => ⟨S2048, .f32⟩
  | .hbm, ⟨14, _⟩ => ⟨S8x1x1x2048, .f32⟩
  | .hbm, ⟨15, _⟩ => ⟨S8x1x2048, .f32⟩
  | .hbm, ⟨16, _⟩ => ⟨S8x1x1x2048, .f32⟩
  | .hbm, ⟨17, _⟩ => ⟨S8x1x2048, .f32⟩
  | .hbm, ⟨18, _⟩ => ⟨S8x8x2048, .f32⟩
  | .hbm, ⟨19, _⟩ => ⟨S_, .f32⟩
  | .hbm, ⟨20, _⟩ => ⟨S8x8, .f32⟩
  | .hbm, ⟨21, _⟩ => ⟨S8x8x1, .f32⟩
  | .hbm, ⟨22, _⟩ => ⟨S_, .f32⟩
  | .hbm, ⟨23, _⟩ => ⟨S8x8x1, .f32⟩
  | .hbm, ⟨24, _⟩ => ⟨S8x8x1, .f32⟩
  | .hbm, ⟨25, _⟩ => ⟨S_, .f32⟩
  | .hbm, ⟨26, _⟩ => ⟨S8x8x1, .f32⟩
  | .hbm, ⟨27, _⟩ => ⟨S8x8x1, .f32⟩
  | .hbm, ⟨28, _⟩ => ⟨S8x8x1, .f32⟩
  | .hbm, ⟨29, _⟩ => ⟨S8x8x2048, .f32⟩
  | .hbm, ⟨30, _⟩ => ⟨S8x8x2048, .f32⟩
  | .hbm, ⟨31, _⟩ => ⟨S1x1x2048, .f32⟩
  | .hbm, ⟨32, _⟩ => ⟨S8x8x2048, .f32⟩
  | .hbm, ⟨33, _⟩ => ⟨S8x8x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x8x2048, .f32⟩
  | .hbm, ⟨38, _⟩ => ⟨S8x8x2048, .f32⟩
  | .hbm, ⟨39, _⟩ => ⟨S8x8x2048, .f32⟩
  | .hbm, ⟨40, _⟩ => ⟨S8x8x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== In.lean ====
abbrev S2x4096x2048 : Shape := ⟨3, ![2, 4096, 2048]⟩
abbrev S2x2048x6224 : Shape := ⟨3, ![2, 2048, 6224]⟩
abbrev S8192x2048 : Shape := ⟨2, ![8192, 2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x6224, .f32⟩
  | .hbm, ⟨2, _⟩ => ⟨S8192x2048, .bf16⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InIdeal.lean ====
abbrev S2x4096x2048 : Shape := ⟨3, ![2, 4096, 2048]⟩
abbrev S2x2048x6224 : Shape := ⟨3, ![2, 2048, 6224]⟩
abbrev S8192x2048 : Shape := ⟨2, ![8192, 2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x6224, .f32⟩
  | .hbm, ⟨2, _⟩ => ⟨S8192x2048, .bf16⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S2x4096x2048 : Shape := ⟨3, ![2, 4096, 2048]⟩
abbrev S2x2048x6224 : Shape := ⟨3, ![2, 2048, 6224]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S2x4096x4096 : Shape := ⟨3, ![2, 4096, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x6224, .f32⟩
  | .hbm, ⟨2, _⟩ => ⟨S2x4096x2048, .f32⟩
  | .hbm, ⟨3, _⟩ => ⟨S1x2048x6224, .f32⟩
  | .hbm, ⟨4, _⟩ => ⟨S2048x6224, .f32⟩
  | .hbm, ⟨5, _⟩ => ⟨S2x4096x6224, .f32⟩
  | .hbm, ⟨6, _⟩ => ⟨S2x4096x4096, .f32⟩
  | .hbm, ⟨7, _⟩ => ⟨S8192x4096, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InS.lean ====
abbrev S8x8x2048 : Shape := ⟨3, ![8, 8, 2048]⟩
abbrev S2x2048x6224 : Shape := ⟨3, ![2, 2048, 6224]⟩
abbrev S64x2048 : Shape := ⟨2, ![64, 2048]⟩
abbrev S64x4096 : Shape := ⟨2, ![64, 4096]⟩
abbrev S1x2048x1024 : Shape := ⟨3, ![1, 2048, 1024]⟩
abbrev S64x1024 : Shape := ⟨2, ![64, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8x8x2048, .bf16⟩
  | .hbm, ⟨1, _⟩ => ⟨S2x2048x6224, .f32⟩
  | .hbm, ⟨2, _⟩ => ⟨S64x2048, .bf16⟩
  | .hbm, ⟨3, _⟩ => ⟨S64x4096, .f32⟩
  | .local _ .vmem, ⟨0, _⟩ => ⟨S64x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S64x1024, .f32⟩
  | .local _ .vmem, ⟨4, _⟩ => ⟨S64x1024, .f32⟩
  | _, _ => ⟨S8x8x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSRefIdeal.lean ====
abbrev S8x8x2048 : Shape := ⟨3, ![8, 8, 2048]⟩
abbrev S2x2048x6224 : Shape := ⟨3, ![2, 2048, 6224]⟩
abbrev S1x2048x6224 : Shape := ⟨3, ![1, 2048, 6224]⟩
abbrev S2048x6224 : Shape := ⟨2, ![2048, 6224]⟩
abbrev S8x8x6224 : Shape := ⟨3, ![8, 8, 6224]⟩
abbrev S8x8x4096 : Shape := ⟨3, ![8, 8, 4096]⟩
abbrev S64x4096 : Shape := ⟨2, ![64, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x8x2048, .bf16⟩
  | .hbm, ⟨1, _⟩ => ⟨S2x2048x6224, .f32⟩
  | .hbm, ⟨2, _⟩ => ⟨S8x8x2048, .f32⟩
  | .hbm, ⟨3, _⟩ => ⟨S1x2048x6224, .f32⟩
  | .hbm, ⟨4, _⟩ => ⟨S2048x6224, .f32⟩
  | .hbm, ⟨5, _⟩ => ⟨S8x8x6224, .f32⟩
  | .hbm, ⟨6, _⟩ => ⟨S8x8x4096, .f32⟩
  | .hbm, ⟨7, _⟩ => ⟨S64x4096, .f32⟩
  | _, _ => ⟨S8x8x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S2x4096x2048 : Shape := ⟨3, ![2, 4096, 2048]⟩
abbrev S2x2048x6224 : Shape := ⟨3, ![2, 2048, 6224]⟩
abbrev S1x2048x6224 : Shape := ⟨3, ![1, 2048, 6224]⟩
abbrev S2048x6224 : Shape := ⟨2, ![2048, 6224]⟩
abbrev S2048x2048 : Shape := ⟨2, ![2048, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x6224, .f32⟩
  | .hbm, ⟨2, _⟩ => ⟨S1x2048x6224, .f32⟩
  | .hbm, ⟨3, _⟩ => ⟨S2048x6224, .f32⟩
  | .hbm, ⟨4, _⟩ => ⟨S2048x2048, .f32⟩
  | .hbm, ⟨5, _⟩ => ⟨S8192x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S2x4096x2048 : Shape := ⟨3, ![2, 4096, 2048]⟩
abbrev S2x2048x6224 : Shape := ⟨3, ![2, 2048, 6224]⟩
abbrev S1x2048x6224 : Shape := ⟨3, ![1, 2048, 6224]⟩
abbrev S2048x6224 : Shape := ⟨2, ![2048, 6224]⟩
abbrev S2x4096x6224 : Shape := ⟨3, ![2, 4096, 6224]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x6224, .f32⟩
  | .hbm, ⟨2, _⟩ => ⟨S2x4096x2048, .f32⟩
  | .hbm, ⟨3, _⟩ => ⟨S1x2048x6224, .f32⟩
  | .hbm, ⟨4, _⟩ => ⟨S2048x6224, .f32⟩
  | .hbm, ⟨5, _⟩ => ⟨S2x4096x6224, .f32⟩
  | .hbm, ⟨6, _⟩ => ⟨S2x4096x2048, .f32⟩
  | .hbm, ⟨7, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Post.lean ====
abbrev S2x4096x4096 : Shape := ⟨3, ![2, 4096, 4096]⟩
abbrev S2x4096x128 : Shape := ⟨3, ![2, 4096, 128]⟩
abbrev S2x4096x2048 : Shape := ⟨3, ![2, 4096, 2048]⟩
abbrev S128 : Shape := ⟨1, ![128]⟩
abbrev S64 : Shape := ⟨1, ![64]⟩
abbrev S4096 : Shape := ⟨1, ![4096]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S1x128 : Shape := ⟨2, ![1, 128]⟩
abbrev S1 : Shape := ⟨1, ![1]⟩
abbrev S2 : Shape := ⟨1, ![2]⟩
abbrev S2x4096x1024 : Shape := ⟨3, ![2, 4096, 1024]⟩
abbrev S1x256x1024 : Shape := ⟨3, ![1, 256, 1024]⟩
abbrev S1x256x128 : Shape := ⟨3, ![1, 256, 128]⟩
abbrev S1x256x2048 : Shape := ⟨3, ![1, 256, 2048]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩

abbrev nBuf : Space → Nat
  | .hbm => 79
  | .vmem => 39
  | .smem => 0
  | _ => 0

abbrev bufTy : (tb : Table) → Fin (tcTables nBuf tb) → BufTy
  | .hbm, ⟨0, _⟩ => ⟨S2x4096x4096, .f32⟩
  | .hbm, ⟨1, _⟩ => ⟨S2x4096x128, .f32⟩
  | .hbm, ⟨2, _⟩ => ⟨S2x4096x2048, .f32⟩
  | .hbm, ⟨3, _⟩ => ⟨S128, .f32⟩
  | .hbm, ⟨4, _⟩ => ⟨S128, .f32⟩
  | .hbm, ⟨5, _⟩ => ⟨S64, .f32⟩
  | .hbm, ⟨6, _⟩ => ⟨S4096, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S4096x128, .f32⟩
  | .hbm, ⟨28, _⟩ => ⟨S1x4096x1x128, .f32⟩
  | .hbm, ⟨29, _⟩ => ⟨S1x4096x1x128, .f32⟩
  | .hbm, ⟨30, _⟩ => ⟨S4096x128, .f32⟩
  | .hbm, ⟨31, _⟩ => ⟨S1x4096x1x128, .f32⟩
  | .hbm, ⟨32, _⟩ => ⟨S1x4096x1x128, .f32⟩
  | .hbm, ⟨33, _⟩ => ⟨S4096x128, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S4096, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x64, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x64, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S1x4096x1x64, .f32⟩
  | .hbm, ⟨59, _⟩ => ⟨S1x4096x2x64, .f32⟩
  | .hbm, ⟨60, _⟩ => ⟨S4096x128, .f32⟩
  | .hbm, ⟨61, _⟩ => ⟨S_, .f32⟩
  | .hbm, ⟨62, _⟩ => ⟨S1x128, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S2x4096x1024, .bf16⟩
  | .hbm, ⟨72, _⟩ => ⟨S2x4096x1024, .f32⟩
  | .hbm, ⟨73, _⟩ => ⟨S2x4096x1024, .bf16⟩
  | .hbm, ⟨74, _⟩ => ⟨S2x4096x1024, .bf16⟩
  | .hbm, ⟨75, _⟩ => ⟨S2x4096x1024, .bf16⟩
  | .hbm, ⟨76, _⟩ => ⟨S2x4096x128, .f32⟩
  | .hbm, ⟨77, _⟩ => ⟨S2x4096x128, .bf16⟩
  | .hbm, ⟨78, _⟩ => ⟨S2x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x128, .f32⟩
  | .local _ .vmem, ⟨9, _⟩ => ⟨S1x256x128, .f32⟩
  | .local _ .vmem, ⟨10, _⟩ => ⟨S1x256x2048, .f32⟩
  | .local _ .vmem, ⟨11, _⟩ => ⟨S1x256x2048, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x256x128, .f32⟩
  | .local _ .vmem, ⟨34, _⟩ => ⟨S1x256x128, .f32⟩
  | .local _ .vmem, ⟨35, _⟩ => ⟨S1x256x128, .bf16⟩
  | .local _ .vmem, ⟨36, _⟩ => ⟨S1x256x128, .bf16⟩
  | .local _ .vmem, ⟨37, _⟩ => ⟨S1x256x1024, .f32⟩
  | .local _ .vmem, ⟨38, _⟩ => ⟨S1x256x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_c : Ref sig .tc := ⟨.hbm, 63, rfl⟩
abbrev main_v52 : Ref sig .tc := ⟨.hbm, 64, rfl⟩
abbrev main_c_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev main_v58_5 : Ref sig .tc := ⟨.hbm, 76, rfl⟩
abbrev main_v58_6 : Ref sig .tc := ⟨.hbm, 77, rfl⟩
abbrev main_v58_7 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PostRefIdeal.lean ====
abbrev S2x4096x4096 : Shape := ⟨3, ![2, 4096, 4096]⟩
abbrev S2x4096x128 : Shape := ⟨3, ![2, 4096, 128]⟩
abbrev S2x4096x2048 : Shape := ⟨3, ![2, 4096, 2048]⟩
abbrev S128 : Shape := ⟨1, ![128]⟩
abbrev S64 : Shape := ⟨1, ![64]⟩
abbrev S4096 : Shape := ⟨1, ![4096]⟩
abbrev S2x4096x1024 : Shape := ⟨3, ![2, 4096, 1024]⟩
abbrev S2x4096x64 : Shape := ⟨3, ![2, 4096, 64]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S2x4096x16x64 : Shape := ⟨4, ![2, 4096, 16, 64]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S2x4096 : Shape := ⟨2, ![2, 4096]⟩
abbrev S2x4096x1 : Shape := ⟨3, ![2, 4096, 1]⟩
abbrev S1x1x64 : Shape := ⟨3, ![1, 1, 64]⟩
abbrev S2x4096x1x64 : Shape := ⟨4, ![2, 4096, 1, 64]⟩
abbrev S2x4096x1x32 : Shape := ⟨4, ![2, 4096, 1, 32]⟩

abbrev nBuf : Space → Nat
  | .hbm => 214
  | .vmem => 0
  | .smem => 0
  | _ => 0

abbrev hbmTy0_0 (i : Nat) : BufTy := match i % 128 with
  | 0 => ⟨S2x4096x4096, .f32⟩
  | 1 => ⟨S2x4096x128, .f32⟩
  | 2 => ⟨S2x4096x2048, .f32⟩
  | 3 => ⟨S128, .f32⟩
  | 4 => ⟨S128, .f32⟩
  | 5 => ⟨S64, .f32⟩
  | 6 => ⟨S4096, .i32⟩
  | 7 => ⟨S2x4096x1024, .f32⟩
  | 8 => ⟨S2x4096x1024, .f32⟩
  | 9 => ⟨S2x4096x1024, .f32⟩
  | 10 => ⟨S2x4096x1024, .f32⟩
  | 11 => ⟨S2x4096x64, .f32⟩
  | 12 => ⟨S2x4096x64, .f32⟩
  | 13 => ⟨S2x4096x8x128, .f32⟩
  | 14 => ⟨S2x4096x8x128, .f32⟩
  | 15 => ⟨S_, .f32⟩
  | 16 => ⟨S2x4096x8, .f32⟩
  | 17 => ⟨S2x4096x8x1, .f32⟩
  | 18 => ⟨S_, .f32⟩
  | 19 => ⟨S2x4096x8x1, .f32⟩
  | 20 => ⟨S2x4096x8x1, .f32⟩
  | 21 => ⟨S_, .f32⟩
  | 22 => ⟨S2x4096x8x1, .f32⟩
  | 23 => ⟨S2x4096x8x1, .f32⟩
  | 24 => ⟨S2x4096x8x1, .f32⟩
  | 25 => ⟨S2x4096x8x128, .f32⟩
  | 26 => ⟨S2x4096x8x128, .f32⟩
  | 27 => ⟨S1x1x1x128, .f32⟩
  | 28 => ⟨S2x4096x8x128, .f32⟩
  | 29 => ⟨S2x4096x8x128, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S4096, .f32⟩
  | 39 => ⟨S4096x1, .f32⟩
  | 40 => ⟨S1x64, .f32⟩
  | 41 => ⟨S4096x64, .f32⟩
  | 42 => ⟨S4096x64, .f32⟩
  | 43 => ⟨S4096x64, .f32⟩
  | 44 => ⟨S4096x64, .f32⟩
  | 45 => ⟨S1x4096x1x64, .f32⟩
  | 46 => ⟨S4096x64, .f32⟩
  | 47 => ⟨S1x4096x1x64, .f32⟩
  | 48 => ⟨S2x4096x8x64, .f32⟩
  | 49 => ⟨S2x4096x8x64, .f32⟩
  | 50 => ⟨S2x4096x8x64, .f32⟩
  | 51 => ⟨S2x4096x8x64, .f32⟩
  | 52 => ⟨S2x4096x8x64, .f32⟩
  | 53 => ⟨S2x4096x8x64, .f32⟩
  | 54 => ⟨S2x4096x8x64, .f32⟩
  | 55 => ⟨S2x4096x8x64, .f32⟩
  | 56 => ⟨S2x4096x8x64, .f32⟩
  | 57 => ⟨S2x4096x8x64, .f32⟩
  | 58 => ⟨S2x4096x8x64, .f32⟩
  | 59 => ⟨S2x4096x8x64, .f32⟩
  | 60 => ⟨S2x4096x8x128, .f32⟩
  | 61 => ⟨S2x4096x1024, .f32⟩
  | 62 => ⟨S2x4096x8x128, .f32⟩
  | 63 => ⟨S2x4096x8x128, .f32⟩
  | 64 => ⟨S_, .f32⟩
  | 65 => ⟨S2x4096x8, .f32⟩
  | 66 => ⟨S2x4096x8x1, .f32⟩
  | 67 => ⟨S_, .f32⟩
  | 68 => ⟨S2x4096x8x1, .f32⟩
  | 69 => ⟨S2x4096x8x1, .f32⟩
  | 70 => ⟨S_, .f32⟩
  | 71 => ⟨S2x4096x8x1, .f32⟩
  | 72 => ⟨S2x4096x8x1, .f32⟩
  | 73 => ⟨S2x4096x8x1, .f32⟩
  | 74 => ⟨S2x4096x8x128, .f32⟩
  | 75 => ⟨S2x4096x8x128, .f32⟩
  | 76 => ⟨S1x1x1x128, .f32⟩
  | 77 => ⟨S2x4096x8x128, .f32⟩
  | 78 => ⟨S2x4096x8x128, .f32⟩
  | 79 => ⟨S64, .f32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S4096, .f32⟩
  | 88 => ⟨S4096x1, .f32⟩
  | 89 => ⟨S1x64, .f32⟩
  | 90 => ⟨S4096x64, .f32⟩
  | 91 => ⟨S4096x64, .f32⟩
  | 92 => ⟨S4096x64, .f32⟩
  | 93 => ⟨S4096x64, .f32⟩
  | 94 => ⟨S1x4096x1x64, .f32⟩
  | 95 => ⟨S4096x64, .f32⟩
  | 96 => ⟨S1x4096x1x64, .f32⟩
  | 97 => ⟨S2x4096x8x64, .f32⟩
  | 98 => ⟨S2x4096x8x64, .f32⟩
  | 99 => ⟨S2x4096x8x64, .f32⟩
  | 100 => ⟨S2x4096x8x64, .f32⟩
  | 101 => ⟨S2x4096x8x64, .f32⟩
  | 102 => ⟨S2x4096x8x64, .f32⟩
  | 103 => ⟨S2x4096x8x64, .f32⟩
  | 104 => ⟨S2x4096x8x64, .f32⟩
  | 105 => ⟨S2x4096x8x64, .f32⟩
  | 106 => ⟨S2x4096x8x64, .f32⟩
  | 107 => ⟨S2x4096x8x64, .f32⟩
  | 108 => ⟨S2x4096x8x64, .f32⟩
  | 109 => ⟨S2x4096x8x128, .f32⟩
  | 110 => ⟨S2x4096x1024, .f32⟩
  | 111 => ⟨S2x4096x16x64, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S4096, .f32⟩
  | 121 => ⟨S4096x1, .f32⟩
  | 122 => ⟨S1x32, .f32⟩
  | 123 => ⟨S4096x32, .f32⟩
  | 124 => ⟨S4096x32, .f32⟩
  | 125 => ⟨S4096x32, .f32⟩
  | 126 => ⟨S4096x32, .f32⟩
  | 127 => ⟨S1x4096x1x32, .f32⟩
  | _ => ⟨S2x4096x4096, .f32⟩

abbrev hbmTy0_1 (i : Nat) : BufTy := match i % 128 with
  | 0 => ⟨S4096x32, .f32⟩
  | 1 => ⟨S1x4096x1x32, .f32⟩
  | 2 => ⟨S2x4096x16x32, .f32⟩
  | 3 => ⟨S2x4096x16x32, .f32⟩
  | 4 => ⟨S2x4096x16x32, .f32⟩
  | 5 => ⟨S2x4096x16x32, .f32⟩
  | 6 => ⟨S2x4096x16x32, .f32⟩
  | 7 => ⟨S2x4096x16x32, .f32⟩
  | 8 => ⟨S2x4096x16x32, .f32⟩
  | 9 => ⟨S2x4096x16x32, .f32⟩
  | 10 => ⟨S2x4096x16x32, .f32⟩
  | 11 => ⟨S2x4096x16x32, .f32⟩
  | 12 => ⟨S2x4096x16x32, .f32⟩
  | 13 => ⟨S2x4096x16x32, .f32⟩
  | 14 => ⟨S2x4096x16x64, .f32⟩
  | 15 => ⟨S2x4096x1024, .f32⟩
  | 16 => ⟨S2x4096x64, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x64, .f32⟩
  | 28 => ⟨S2x4096x64, .f32⟩
  | 29 => ⟨S1x1x64, .f32⟩
  | 30 => ⟨S2x4096x64, .f32⟩
  | 31 => ⟨S2x4096x64, .f32⟩
  | 32 => ⟨S2x4096x1x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4096, .f32⟩
  | 42 => ⟨S4096x1, .f32⟩
  | 43 => ⟨S1x32, .f32⟩
  | 44 => ⟨S4096x32, .f32⟩
  | 45 => ⟨S4096x32, .f32⟩
  | 46 => ⟨S4096x32, .f32⟩
  | 47 => ⟨S4096x32, .f32⟩
  | 48 => ⟨S1x4096x1x32, .f32⟩
  | 49 => ⟨S4096x32, .f32⟩
  | 50 => ⟨S1x4096x1x32, .f32⟩
  | 51 => ⟨S2x4096x1x32, .f32⟩
  | 52 => ⟨S2x4096x1x32, .f32⟩
  | 53 => ⟨S2x4096x1x32, .f32⟩
  | 54 => ⟨S2x4096x1x32, .f32⟩
  | 55 => ⟨S2x4096x1x32, .f32⟩
  | 56 => ⟨S2x4096x1x32, .f32⟩
  | 57 => ⟨S2x4096x1x32, .f32⟩
  | 58 => ⟨S2x4096x1x32, .f32⟩
  | 59 => ⟨S2x4096x1x32, .f32⟩
  | 60 => ⟨S2x4096x1x32, .f32⟩
  | 61 => ⟨S2x4096x1x32, .f32⟩
  | 62 => ⟨S2x4096x1x32, .f32⟩
  | 63 => ⟨S2x4096x1x64, .f32⟩
  | 64 => ⟨S2x4096x64, .f32⟩
  | 65 => ⟨S_, .f32⟩
  | 66 => ⟨S2x4096x64, .f32⟩
  | 67 => ⟨S2x4096x64, .f32⟩
  | 68 => ⟨S2x4096x1024, .f32⟩
  | 69 => ⟨S2x4096x1024, .f32⟩
  | 70 => ⟨S2x4096x1024, .bf16⟩
  | 71 => ⟨S2x4096x1024, .bf16⟩
  | 72 => ⟨S2x4096x1024, .bf16⟩
  | 73 => ⟨S2x4096x1024, .bf16⟩
  | 74 => ⟨S2x4096x128, .f32⟩
  | 75 => ⟨S2x4096x128, .f32⟩
  | 76 => ⟨S2x4096x128, .bf16⟩
  | 77 => ⟨S2x4096x1024, .f32⟩
  | 78 => ⟨S2x4096x1024, .f32⟩
  | 79 => ⟨S_, .f32⟩
  | 80 => ⟨S2x4096x1024, .f32⟩
  | 81 => ⟨S2x4096x1024, .f32⟩
  | 82 => ⟨S_, .f32⟩
  | 83 => ⟨S2x4096x1024, .f32⟩
  | 84 => ⟨S2x4096x1024, .f32⟩
  | 85 => ⟨S2x4096x1024, .f32⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_9 : Ref sig .tc := ⟨.hbm, 114, rfl⟩
abbrev main_v98 : Ref sig .tc := ⟨.hbm, 115, rfl⟩
abbrev main_v99 : Ref sig .tc := ⟨.hbm, 116, rfl⟩
abbrev main_cst_10 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_cst_11 : Ref sig .tc := ⟨.hbm, 145, rfl⟩
abbrev main_v127 : Ref sig .tc := ⟨.hbm, 146, rfl⟩
abbrev main_v128 : Ref sig .tc := ⟨.hbm, 147, rfl⟩
abbrev main_cst_12 : Ref sig .tc := ⟨.hbm, 148, rfl⟩
abbrev main_v129 : Ref sig .tc := ⟨.hbm, 149, rfl⟩
abbrev main_v130 : Ref sig .tc := ⟨.hbm, 150, rfl⟩
abbrev main_cst_13 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_cst_14 : Ref sig .tc := ⟨.hbm, 163, rfl⟩
abbrev main_v142 : Ref sig .tc := ⟨.hbm, 164, rfl⟩
abbrev main_v143 : Ref sig .tc := ⟨.hbm, 165, rfl⟩
abbrev main_cst_15 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_cst_16 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_cst_17 : Ref sig .tc := ⟨.hbm, 207, rfl⟩
abbrev main_v183 : Ref sig .tc := ⟨.hbm, 208, rfl⟩
abbrev main_v184 : Ref sig .tc := ⟨.hbm, 209, rfl⟩
abbrev main_cst_18 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩

abbrev nD : Nat := 1
abbrev τ : Topo := Topo.v7x

variable {F : FTy → Type} [FloatOps F]
-- ==== PostS.lean ====
abbrev S8x8x4096 : Shape := ⟨3, ![8, 8, 4096]⟩
abbrev S8x8x128 : Shape := ⟨3, ![8, 8, 128]⟩
abbrev S8x8x2048 : Shape := ⟨3, ![8, 8, 2048]⟩
abbrev S128 : Shape := ⟨1, ![128]⟩
abbrev S64 : Shape := ⟨1, ![64]⟩
abbrev S8 : Shape := ⟨1, ![8]⟩
abbrev S_ : Shape := ⟨0, ![]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S32 : Shape := ⟨1, ![32]⟩
abbrev S1x32 : Shape := ⟨2, ![1, 32]⟩
abbrev S8x32 : Shape := ⟨2, ![8, 32]⟩
abbrev S1x8x1x64 : Shape := ⟨4, ![1, 8, 1, 64]⟩
abbrev S1x8x2x64 : Shape := ⟨4, ![1, 8, 2, 64]⟩
abbrev S1x128 : Shape := ⟨2, ![1, 128]⟩
abbrev S1 : Shape := ⟨1, ![1]⟩
abbrev S2 : Shape := ⟨1, ![2]⟩
abbrev S8x8x1024 : Shape := ⟨3, ![8, 8, 1024]⟩
abbrev S1x8x1024 : Shape := ⟨3, ![1, 8, 1024]⟩
abbrev S1x8x128 : Shape := ⟨3, ![1, 8, 128]⟩
abbrev S1x8x2048 : Shape := ⟨3, ![1, 8, 2048]⟩
abbrev S8x1024 : Shape := ⟨2, ![8, 1024]⟩

abbrev nBuf : Space → Nat
  | .hbm => 82
  | .vmem => 35
  | .smem => 0
  | _ => 0

abbrev bufTy : (tb : Table) → Fin (tcTables nBuf tb) → BufTy
  | .hbm, ⟨0, _⟩ => ⟨S8x8x4096, .f32⟩
  | .hbm, ⟨1, _⟩ => ⟨S8x8x128, .f32⟩
  | .hbm, ⟨2, _⟩ => ⟨S8x8x2048, .f32⟩
  | .hbm, ⟨3, _⟩ => ⟨S128, .f32⟩
  | .hbm, ⟨4, _⟩ => ⟨S128, .f32⟩
  | .hbm, ⟨5, _⟩ => ⟨S64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S8, .f32⟩
  | .hbm, ⟨19, _⟩ => ⟨S8x1, .f32⟩
  | .hbm, ⟨20, _⟩ => ⟨S1x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S8x128, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S8x128, .f32⟩
  | .hbm, ⟨31, _⟩ => ⟨S1x8x1x128, .f32⟩
  | .hbm, ⟨32, _⟩ => ⟨S1x8x1x128, .f32⟩
  | .hbm, ⟨33, _⟩ => ⟨S8x128, .f32⟩
  | .hbm, ⟨34, _⟩ => ⟨S1x8x1x128, .f32⟩
  | .hbm, ⟨35, _⟩ => ⟨S1x8x1x128, .f32⟩
  | .hbm, ⟨36, _⟩ => ⟨S8x128, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S8, .f32⟩
  | .hbm, ⟨46, _⟩ => ⟨S8x1, .f32⟩
  | .hbm, ⟨47, _⟩ => ⟨S1x32, .f32⟩
  | .hbm, ⟨48, _⟩ => ⟨S8x32, .f32⟩
  | .hbm, ⟨49, _⟩ => ⟨S8x32, .f32⟩
  | .hbm, ⟨50, _⟩ => ⟨S8x32, .f32⟩
  | .hbm, ⟨51, _⟩ => ⟨S8x32, .f32⟩
  | .hbm, ⟨52, _⟩ => ⟨S8x32, .f32⟩
  | .hbm, ⟨53, _⟩ => ⟨S8x64, .f32⟩
  | .hbm, ⟨54, _⟩ => ⟨S8x32, .f32⟩
  | .hbm, ⟨55, _⟩ => ⟨S8x32, .f32⟩
  | .hbm, ⟨56, _⟩ => ⟨S8x32, .f32⟩
  | .hbm, ⟨57, _⟩ => ⟨S8x64, .f32⟩
  | .hbm, ⟨58, _⟩ => ⟨S1x8x1x64, .f32⟩
  | .hbm, ⟨59, _⟩ => ⟨S1x8x2x64, .f32⟩
  | .hbm, ⟨60, _⟩ => ⟨S8x128, .f32⟩
  | .hbm, ⟨61, _⟩ => ⟨S1x8x1x64, .f32⟩
  | .hbm, ⟨62, _⟩ => ⟨S1x8x2x64, .f32⟩
  | .hbm, ⟨63, _⟩ => ⟨S8x128, .f32⟩
  | .hbm, ⟨64, _⟩ => ⟨S_, .f32⟩
  | .hbm, ⟨65, _⟩ => ⟨S1x128, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S8x8x1024, .bf16⟩
  | .hbm, ⟨75, _⟩ => ⟨S8x8x1024, .f32⟩
  | .hbm, ⟨76, _⟩ => ⟨S8x8x1024, .bf16⟩
  | .hbm, ⟨77, _⟩ => ⟨S8x8x1024, .bf16⟩
  | .hbm, ⟨78, _⟩ => ⟨S8x8x1024, .bf16⟩
  | .hbm, ⟨79, _⟩ => ⟨S8x8x128, .f32⟩
  | .hbm, ⟨80, _⟩ => ⟨S8x8x128, .bf16⟩
  | .hbm, ⟨81, _⟩ => ⟨S8x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S1x8x2048, .f32⟩
  | .local _ .vmem, ⟨11, _⟩ => ⟨S1x8x2048, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x8x1024, .bf16⟩
  | .local _ .vmem, ⟨20, _⟩ => ⟨S1x8x1024, .bf16⟩
  | .local _ .vmem, ⟨21, _⟩ => ⟨S1x8x1024, .f32⟩
  | .local _ .vmem, ⟨22, _⟩ => ⟨S1x8x1024, .f32⟩
  | .local _ .vmem, ⟨23, _⟩ => ⟨S1x8x1024, .bf16⟩
  | .local _ .vmem, ⟨24, _⟩ => ⟨S1x8x1024, .bf16⟩
  | .local _ .vmem, ⟨25, _⟩ => ⟨S1x8x1024, .bf16⟩
  | .local _ .vmem, ⟨26, _⟩ => ⟨S1x8x1024, .bf16⟩
  | .local _ .vmem, ⟨27, _⟩ => ⟨S1x8x1024, .bf16⟩
  | .local _ .vmem, ⟨28, _⟩ => ⟨S1x8x1024, .bf16⟩
  | .local _ .vmem, ⟨29, _⟩ => ⟨S1x8x128, .f32⟩
  | .local _ .vmem, ⟨30, _⟩ => ⟨S1x8x128, .f32⟩
  | .local _ .vmem, ⟨31, _⟩ => ⟨S1x8x128, .bf16⟩
  | .local _ .vmem, ⟨32, _⟩ => ⟨S1x8x128, .bf16⟩
  | .local _ .vmem, ⟨33, _⟩ => ⟨S1x8x1024, .f32⟩
  | .local _ .vmem, ⟨34, _⟩ => ⟨S1x8x1024, .f32⟩
  | _, _ => ⟨S8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_3 : Ref sig .tc := ⟨.hbm, 64, rfl⟩
abbrev main_v53 : Ref sig .tc := ⟨.hbm, 65, rfl⟩
abbrev main_c_4 : Ref sig .tc := ⟨.hbm, 66, rfl⟩
abbrev main_v54 : Ref sig .tc := ⟨.hbm, 67, rfl⟩
abbrev main_c_5 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60_0 : Ref sig .tc := ⟨.hbm, 74, rfl⟩
abbrev main_v60_1 : Ref sig .tc := ⟨.hbm, 75, rfl⟩
abbrev main_v60_2 : Ref sig .tc := ⟨.hbm, 76, rfl⟩
abbrev main_v60_3 : Ref sig .tc := ⟨.hbm, 77, rfl⟩
abbrev main_v60_4 : Ref sig .tc := ⟨.hbm, 78, rfl⟩
abbrev main_v60_5 : Ref sig .tc := ⟨.hbm, 79, rfl⟩
abbrev main_v60_6 : Ref sig .tc := ⟨.hbm, 80, rfl⟩
abbrev main_v60_7 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== PostSRefIdeal.lean ====
abbrev S8x8x4096 : Shape := ⟨3, ![8, 8, 4096]⟩
abbrev S8x8x128 : Shape := ⟨3, ![8, 8, 128]⟩
abbrev S8x8x2048 : Shape := ⟨3, ![8, 8, 2048]⟩
abbrev S128 : Shape := ⟨1, ![128]⟩
abbrev S64 : Shape := ⟨1, ![64]⟩
abbrev S8 : Shape := ⟨1, ![8]⟩
abbrev S_ : Shape := ⟨0, ![]⟩
abbrev S8x8x1024 : Shape := ⟨3, ![8, 8, 1024]⟩
abbrev S8x8x64 : Shape := ⟨3, ![8, 8, 64]⟩
abbrev S8x8x8x128 : Shape := ⟨4, ![8, 8, 8, 128]⟩
abbrev S8x8x8 : Shape := ⟨3, ![8, 8, 8]⟩
abbrev S8x8x8x1 : Shape := ⟨4, ![8, 8, 8, 1]⟩
abbrev S1x1x1x128 : Shape := ⟨4, ![1, 1, 1, 128]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S8x8x8x64 : Shape := ⟨4, ![8, 8, 8, 64]⟩
abbrev S8x8x16x64 : Shape := ⟨4, ![8, 8, 16, 64]⟩
abbrev S32 : Shape := ⟨1, ![32]⟩
abbrev S1x32 : Shape := ⟨2, ![1, 32]⟩
abbrev S8x32 : Shape := ⟨2, ![8, 32]⟩
abbrev S1x8x1x32 : Shape := ⟨4, ![1, 8, 1, 32]⟩
abbrev S8x8x16x32 : Shape := ⟨4, ![8, 8, 16, 32]⟩
abbrev S8x8 : Shape := ⟨2, ![8, 8]⟩
abbrev S8x8x1 : Shape := ⟨3, ![8, 8, 1]⟩
abbrev S1x1x64 : Shape := ⟨3, ![1, 1, 64]⟩
abbrev S8x8x1x64 : Shape := ⟨4, ![8, 8, 1, 64]⟩
abbrev S8x8x1x32 : Shape := ⟨4, ![8, 8, 1, 32]⟩

abbrev nBuf : Space → Nat
  | .hbm => 217
  | .vmem => 0
  | .smem => 0
  | _ => 0

abbrev hbmTy0_0 (i : Nat) : BufTy := match i % 128 with
  | 0 => ⟨S8x8x4096, .f32⟩
  | 1 => ⟨S8x8x128, .f32⟩
  | 2 => ⟨S8x8x2048, .f32⟩
  | 3 => ⟨S128, .f32⟩
  | 4 => ⟨S128, .f32⟩
  | 5 => ⟨S64, .f32⟩
  | 6 => ⟨S8, .i32⟩
  | 7 => ⟨S_, .i32⟩
  | 8 => ⟨S8, .i32⟩
  | 9 => ⟨S8, .i32⟩
  | 10 => ⟨S8x8x1024, .f32⟩
  | 11 => ⟨S8x8x1024, .f32⟩
  | 12 => ⟨S8x8x1024, .f32⟩
  | 13 => ⟨S8x8x1024, .f32⟩
  | 14 => ⟨S8x8x64, .f32⟩
  | 15 => ⟨S8x8x64, .f32⟩
  | 16 => ⟨S8x8x8x128, .f32⟩
  | 17 => ⟨S8x8x8x128, .f32⟩
  | 18 => ⟨S_, .f32⟩
  | 19 => ⟨S8x8x8, .f32⟩
  | 20 => ⟨S8x8x8x1, .f32⟩
  | 21 => ⟨S_, .f32⟩
  | 22 => ⟨S8x8x8x1, .f32⟩
  | 23 => ⟨S8x8x8x1, .f32⟩
  | 24 => ⟨S_, .f32⟩
  | 25 => ⟨S8x8x8x1, .f32⟩
  | 26 => ⟨S8x8x8x1, .f32⟩
  | 27 => ⟨S8x8x8x1, .f32⟩
  | 28 => ⟨S8x8x8x128, .f32⟩
  | 29 => ⟨S8x8x8x128, .f32⟩
  | 30 => ⟨S1x1x1x128, .f32⟩
  | 31 => ⟨S8x8x8x128, .f32⟩
  | 32 => ⟨S8x8x8x128, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S8, .f32⟩
  | 42 => ⟨S8x1, .f32⟩
  | 43 => ⟨S1x64, .f32⟩
  | 44 => ⟨S8x64, .f32⟩
  | 45 => ⟨S8x64, .f32⟩
  | 46 => ⟨S8x64, .f32⟩
  | 47 => ⟨S8x64, .f32⟩
  | 48 => ⟨S1x8x1x64, .f32⟩
  | 49 => ⟨S8x64, .f32⟩
  | 50 => ⟨S1x8x1x64, .f32⟩
  | 51 => ⟨S8x8x8x64, .f32⟩
  | 52 => ⟨S8x8x8x64, .f32⟩
  | 53 => ⟨S8x8x8x64, .f32⟩
  | 54 => ⟨S8x8x8x64, .f32⟩
  | 55 => ⟨S8x8x8x64, .f32⟩
  | 56 => ⟨S8x8x8x64, .f32⟩
  | 57 => ⟨S8x8x8x64, .f32⟩
  | 58 => ⟨S8x8x8x64, .f32⟩
  | 59 => ⟨S8x8x8x64, .f32⟩
  | 60 => ⟨S8x8x8x64, .f32⟩
  | 61 => ⟨S8x8x8x64, .f32⟩
  | 62 => ⟨S8x8x8x64, .f32⟩
  | 63 => ⟨S8x8x8x128, .f32⟩
  | 64 => ⟨S8x8x1024, .f32⟩
  | 65 => ⟨S8x8x8x128, .f32⟩
  | 66 => ⟨S8x8x8x128, .f32⟩
  | 67 => ⟨S_, .f32⟩
  | 68 => ⟨S8x8x8, .f32⟩
  | 69 => ⟨S8x8x8x1, .f32⟩
  | 70 => ⟨S_, .f32⟩
  | 71 => ⟨S8x8x8x1, .f32⟩
  | 72 => ⟨S8x8x8x1, .f32⟩
  | 73 => ⟨S_, .f32⟩
  | 74 => ⟨S8x8x8x1, .f32⟩
  | 75 => ⟨S8x8x8x1, .f32⟩
  | 76 => ⟨S8x8x8x1, .f32⟩
  | 77 => ⟨S8x8x8x128, .f32⟩
  | 78 => ⟨S8x8x8x128, .f32⟩
  | 79 => ⟨S1x1x1x128, .f32⟩
  | 80 => ⟨S8x8x8x128, .f32⟩
  | 81 => ⟨S8x8x8x128, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S8, .f32⟩
  | 91 => ⟨S8x1, .f32⟩
  | 92 => ⟨S1x64, .f32⟩
  | 93 => ⟨S8x64, .f32⟩
  | 94 => ⟨S8x64, .f32⟩
  | 95 => ⟨S8x64, .f32⟩
  | 96 => ⟨S8x64, .f32⟩
  | 97 => ⟨S1x8x1x64, .f32⟩
  | 98 => ⟨S8x64, .f32⟩
  | 99 => ⟨S1x8x1x64, .f32⟩
  | 100 => ⟨S8x8x8x64, .f32⟩
  | 101 => ⟨S8x8x8x64, .f32⟩
  | 102 => ⟨S8x8x8x64, .f32⟩
  | 103 => ⟨S8x8x8x64, .f32⟩
  | 104 => ⟨S8x8x8x64, .f32⟩
  | 105 => ⟨S8x8x8x64, .f32⟩
  | 106 => ⟨S8x8x8x64, .f32⟩
  | 107 => ⟨S8x8x8x64, .f32⟩
  | 108 => ⟨S8x8x8x64, .f32⟩
  | 109 => ⟨S8x8x8x64, .f32⟩
  | 110 => ⟨S8x8x8x64, .f32⟩
  | 111 => ⟨S8x8x8x64, .f32⟩
  | 112 => ⟨S8x8x8x128, .f32⟩
  | 113 => ⟨S8x8x1024, .f32⟩
  | 114 => ⟨S8x8x16x64, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S8, .f32⟩
  | 124 => ⟨S8x1, .f32⟩
  | 125 => ⟨S1x32, .f32⟩
  | 126 => ⟨S8x32, .f32⟩
  | 127 => ⟨S8x32, .f32⟩
  | _ => ⟨S8x8x4096, .f32⟩

abbrev hbmTy0_1 (i : Nat) : BufTy := match i % 128 with
  | 0 => ⟨S8x32, .f32⟩
  | 1 => ⟨S8x32, .f32⟩
  | 2 => ⟨S1x8x1x32, .f32⟩
  | 3 => ⟨S8x32, .f32⟩
  | 4 => ⟨S1x8x1x32, .f32⟩
  | 5 => ⟨S8x8x16x32, .f32⟩
  | 6 => ⟨S8x8x16x32, .f32⟩
  | 7 => ⟨S8x8x16x32, .f32⟩
  | 8 => ⟨S8x8x16x32, .f32⟩
  | 9 => ⟨S8x8x16x32, .f32⟩
  | 10 => ⟨S8x8x16x32, .f32⟩
  | 11 => ⟨S8x8x16x32, .f32⟩
  | 12 => ⟨S8x8x16x32, .f32⟩
  | 13 => ⟨S8x8x16x32, .f32⟩
  | 14 => ⟨S8x8x16x32, .f32⟩
  | 15 => ⟨S8x8x16x32, .f32⟩
  | 16 => ⟨S8x8x16x32, .f32⟩
  | 17 => ⟨S8x8x16x64, .f32⟩
  | 18 => ⟨S8x8x1024, .f32⟩
  | 19 => ⟨S8x8x64, .f32⟩
  | 20 => ⟨S_, .f32⟩
  | 21 => ⟨S8x8, .f32⟩
  | 22 => ⟨S8x8x1, .f32⟩
  | 23 => ⟨S_, .f32⟩
  | 24 => ⟨S8x8x1, .f32⟩
  | 25 => ⟨S8x8x1, .f32⟩
  | 26 => ⟨S_, .f32⟩
  | 27 => ⟨S8x8x1, .f32⟩
  | 28 => ⟨S8x8x1, .f32⟩
  | 29 => ⟨S8x8x1, .f32⟩
  | 30 => ⟨S8x8x64, .f32⟩
  | 31 => ⟨S8x8x64, .f32⟩
  | 32 => ⟨S1x1x64, .f32⟩
  | 33 => ⟨S8x8x64, .f32⟩
  | 34 => ⟨S8x8x64, .f32⟩
  | 35 => ⟨S8x8x1x64, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S8, .f32⟩
  | 45 => ⟨S8x1, .f32⟩
  | 46 => ⟨S1x32, .f32⟩
  | 47 => ⟨S8x32, .f32⟩
  | 48 => ⟨S8x32, .f32⟩
  | 49 => ⟨S8x32, .f32⟩
  | 50 => ⟨S8x32, .f32⟩
  | 51 => ⟨S1x8x1x32, .f32⟩
  | 52 => ⟨S8x32, .f32⟩
  | 53 => ⟨S1x8x1x32, .f32⟩
  | 54 => ⟨S8x8x1x32, .f32⟩
  | 55 => ⟨S8x8x1x32, .f32⟩
  | 56 => ⟨S8x8x1x32, .f32⟩
  | 57 => ⟨S8x8x1x32, .f32⟩
  | 58 => ⟨S8x8x1x32, .f32⟩
  | 59 => ⟨S8x8x1x32, .f32⟩
  | 60 => ⟨S8x8x1x32, .f32⟩
  | 61 => ⟨S8x8x1x32, .f32⟩
  | 62 => ⟨S8x8x1x32, .f32⟩
  | 63 => ⟨S8x8x1x32, .f32⟩
  | 64 => ⟨S8x8x1x32, .f32⟩
  | 65 => ⟨S8x8x1x32, .f32⟩
  | 66 => ⟨S8x8x1x64, .f32⟩
  | 67 => ⟨S8x8x64, .f32⟩
  | 68 => ⟨S_, .f32⟩
  | 69 => ⟨S8x8x64, .f32⟩
  | 70 => ⟨S8x8x64, .f32⟩
  | 71 => ⟨S8x8x1024, .f32⟩
  | 72 => ⟨S8x8x1024, .f32⟩
  | 73 => ⟨S8x8x1024, .bf16⟩
  | 74 => ⟨S8x8x1024, .bf16⟩
  | 75 => ⟨S8x8x1024, .bf16⟩
  | 76 => ⟨S8x8x1024, .bf16⟩
  | 77 => ⟨S8x8x128, .f32⟩
  | 78 => ⟨S8x8x128, .f32⟩
  | 79 => ⟨S8x8x128, .bf16⟩
  | 80 => ⟨S8x8x1024, .f32⟩
  | 81 => ⟨S8x8x1024, .f32⟩
  | 82 => ⟨S_, .f32⟩
  | 83 => ⟨S8x8x1024, .f32⟩
  | 84 => ⟨S8x8x1024, .f32⟩
  | 85 => ⟨S_, .f32⟩
  | 86 => ⟨S8x8x1024, .f32⟩
  | 87 => ⟨S8x8x1024, .f32⟩
  | 88 => ⟨S8x8x1024, .f32⟩
  | _ => ⟨S8x8x4096, .f32⟩

abbrev hbmTy (i : Nat) : BufTy := match i / 128 with
  | 0 => hbmTy0_0 i
  | 1 => hbmTy0_1 i
  | _ => ⟨S8x8x4096, .f32⟩

abbrev bufTy : (tb : Table) → Fin (tcTables nBuf tb) → BufTy
  | .hbm, ⟨i, _⟩ => hbmTy i
  | _, _ => ⟨S8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_4 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_9 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_11 : Ref sig .tc := ⟨.hbm, 148, rfl⟩
abbrev main_v129 : Ref sig .tc := ⟨.hbm, 149, rfl⟩
abbrev main_v130 : Ref sig .tc := ⟨.hbm, 150, rfl⟩
abbrev main_cst_12 : Ref sig .tc := ⟨.hbm, 151, rfl⟩
abbrev main_v131 : Ref sig .tc := ⟨.hbm, 152, rfl⟩
abbrev main_v132 : Ref sig .tc := ⟨.hbm, 153, rfl⟩
abbrev main_cst_13 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_14 : Ref sig .tc := ⟨.hbm, 166, rfl⟩
abbrev main_v144 : Ref sig .tc := ⟨.hbm, 167, rfl⟩
abbrev main_v145 : Ref sig .tc := ⟨.hbm, 168, rfl⟩
abbrev main_cst_15 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_cst_16 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_cst_17 : Ref sig .tc := ⟨.hbm, 210, rfl⟩
abbrev main_v185 : Ref sig .tc := ⟨.hbm, 211, rfl⟩
abbrev main_v186 : Ref sig .tc := ⟨.hbm, 212, rfl⟩
abbrev main_cst_18 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩

abbrev nD : Nat := 1
abbrev τ : Topo := Topo.v7x

variable {F : FTy → Type} [FloatOps F]
-- ==== Wkv.lean ====
abbrev S8x8x2048 : Shape := ⟨3, ![8, 8, 2048]⟩
abbrev S2048 : Shape := ⟨1, ![2048]⟩
abbrev S8x32x64x64 : Shape := ⟨4, ![8, 32, 64, 64]⟩
abbrev S8x64x32x64 : Shape := ⟨4, ![8, 64, 32, 64]⟩
abbrev S8x64x2048 : Shape := ⟨3, ![8, 64, 2048]⟩
abbrev S1x2048 : Shape := ⟨2, ![1, 2048]⟩
abbrev S1x8x2048 : Shape := ⟨3, ![1, 8, 2048]⟩
abbrev S1x64x2048 : Shape := ⟨3, ![1, 64, 2048]⟩
abbrev S8x2048 : Shape := ⟨2, ![8, 2048]⟩
abbrev S128x128 : Shape := ⟨2, ![128, 128]⟩
abbrev S64x128 : Shape := ⟨2, ![64, 128]⟩
abbrev S64x2048 : Shape := ⟨2, ![64, 2048]⟩
abbrev S8x128 : Shape := ⟨2, ![8, 128]⟩
abbrev S1x64x128 : Shape := ⟨3, ![1, 64, 128]⟩
abbrev S1x128 : Shape := ⟨2, ![1, 128]⟩
abbrev S1x8x128 : Shape := ⟨3, ![1, 8, 128]⟩
abbrev S8x64 : Shape := ⟨2, ![8, 64]⟩
abbrev S1x64 : Shape := ⟨2, ![1, 64]⟩

abbrev nBuf : Space → Nat
  | .hbm => 25
  | .vmem => 30
  | .smem => 0
  | _ => 0

abbrev bufTy : (tb : Table) → Fin (tcTables nBuf tb) → BufTy
  | .hbm, ⟨0, _⟩ => ⟨S8x8x2048, .f32⟩
  | .hbm, ⟨1, _⟩ => ⟨S8x8x2048, .f32⟩
  | .hbm, ⟨2, _⟩ => ⟨S8x8x2048, .f32⟩
  | .hbm, ⟨3, _⟩ => ⟨S8x8x2048, .f32⟩
  | .hbm, ⟨4, _⟩ => ⟨S8x8x2048, .f32⟩
  | .hbm, ⟨5, _⟩ => ⟨S8x8x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S8x32x64x64, .f32⟩
  | .hbm, ⟨14, _⟩ => ⟨S8x64x32x64, .f32⟩
  | .hbm, ⟨15, _⟩ => ⟨S8x64x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S8x8x2048, .bf16⟩
  | .hbm, ⟨24, _⟩ => ⟨S8x64x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x8x2048, .bf16⟩
  | .local _ .vmem, ⟨22, _⟩ => ⟨S1x8x2048, .bf16⟩
  | .local _ .vmem, ⟨23, _⟩ => ⟨S1x64x2048, .f32⟩
  | .local _ .vmem, ⟨24, _⟩ => ⟨S1x64x2048, .f32⟩
  | .local _ .vmem, ⟨25, _⟩ => ⟨S8x2048, .f32⟩
  | .local _ .vmem, ⟨26, _⟩ => ⟨S8x2048, .f32⟩
  | .local _ .vmem, ⟨27, _⟩ => ⟨S8x2048, .f32⟩
  | .local _ .vmem, ⟨28, _⟩ => ⟨S8x2048, .f32⟩
  | .local _ .vmem, ⟨29, _⟩ => ⟨S8x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 1], ![false, false]⟩

def k0_mult1 : BitVec 32 :=
  let c0_i32_93 : BitVec 32 := 0#32
  let c8_i32 : BitVec 32 := 8#32
  let v302 : BitVec 32 := Scalar.muli c0_i32_93 c8_i32
  v302
def k0_off1 : Fin 2 → Nat :=
  let c0_i32_93 : BitVec 32 := 0#32
  let c8_i32 : BitVec 32 := 8#32
  let v302 : BitVec 32 := Scalar.muli c0_i32_93 c8_i32
  let v303 : BitVec 32 := v302
  let v336 : Index := Scalar.indexCast v303
  let c0_127 : Index := 0#32
  ![v336.toNat, 0]
def k0_off2 : Fin 3 → Nat :=
  let c0_128 : Index := 0#32
  let c0_i32_93 : BitVec 32 := 0#32
  let c8_i32 : BitVec 32 := 8#32
  let v302 : BitVec 32 := Scalar.muli c0_i32_93 c8_i32
  let v303 : BitVec 32 := v302
  let v341 : Index := Scalar.indexCast v303
  let c0_129 : Index := 0#32
  ![0, v341.toNat, 0]
def k0_off3 : Fin 2 → Nat :=
  let c0_i32_93 : BitVec 32 := 0#32
  let c8_i32 : BitVec 32 := 8#32
  let v302 : BitVec 32 := Scalar.muli c0_i32_93 c8_i32
  let v303 : BitVec 32 := v302
  let v354 : Index := Scalar.indexCast v303
  let c128_132 : Index := 128#32
  ![v354.toNat, 128]
def k0_off4 : Fin 3 → Nat :=
  let c0_133 : Index := 0#32
  let c0_i32_93 : BitVec 32 := 0#32
  let c8_i32 : BitVec 32 := 8#32
  let v302 : BitVec 32 := Scalar.muli c0_i32_93 c8_i32
  let v303 : BitVec 32 := v302
  let v359 : Index := Scalar.indexCast v303
  let c128_134 : Index := 128#32
  ![0, v359.toNat, 128]
def k0_off5 : Fin 2 → Nat :=
  let c0_i32_93 : BitVec 32 := 0#32
  let c8_i32 : BitVec 32 := 8#32
  let v302 : BitVec 32 := Scalar.muli c0_i32_93 c8_i32
  let v303 : BitVec 32 := v302
  let v372 : Index := Scalar.indexCast v303
  let c256_137 : Index := 256#32
  ![v372.toNat, 256]
def k0_off6 : Fin 3 → Nat :=
  let c0_138 : Index := 0#32
  let c0_i32_93 : BitVec 32 := 0#32
  let c8_i32 : BitVec 32 := 8#32
  let v302 : BitVec 32 := Scalar.muli c0_i32_93 c8_i32
  let v303 : BitVec 32 := v302
  let v377 : Index := Scalar.indexCast v303
  let c256_139 : Index := 256#32
  ![0, v377.toNat, 256]
def k0_off7 : Fin 2 → Nat :=
  let c0_i32_93 : BitVec 32 := 0#32
  let c8_i32 : BitVec 32 := 8#32
  let v302 : BitVec 32 := Scalar.muli c0_i32_93 c8_i32
  let v303 : BitVec 32 := v302
  let v390 : Index := Scalar.indexCast v303
  let c384_142 : Index := 384#32
  ![v390.toNat, 384]
def k0_off8 : Fin 3 → Nat :=
  let c0_143 : Index := 0#32
  let c0_i32_93 : BitVec 32 := 0#32
  let c8_i32 : BitVec 32 := 8#32
  let v302 : BitVec 32 := Scalar.muli c0_i32_93 c8_i32
  let v303 : BitVec 32 := v302
  let v395 : Index := Scalar.indexCast v303
  let c384_144 : Index := 384#32
  ![0, v395.toNat, 384]
def k0_off9 : Fin 2 → Nat :=
  let c0_i32_93 : BitVec 32 := 0#32
  let c8_i32 : BitVec 32 := 8#32
  let v302 : BitVec 32 := Scalar.muli c0_i32_93 c8_i32
  let v303 : BitVec 32 := v302
  let v408 : Index := Scalar.indexCast v303
  let c512_147 : Index := 512#32
  ![v408.toNat, 512]
def k0_off10 : Fin 3 → Nat :=
  let c0_148 : Index := 0#32
  let c0_i32_93 : BitVec 32 := 0#32
  let c8_i32 : BitVec 32 := 8#32
  let v302 : BitVec 32 := Scalar.muli c0_i32_93 c8_i32
  let v303 : BitVec 32 := v302
  let v413 : Index := Scalar.indexCast v303
  let c512_149 : Index := 512#32
  ![0, v413.toNat, 512]
def k0_off11 : Fin 2 → Nat :=
  let c0_i32_93 : BitVec 32 := 0#32
  let c8_i32 : BitVec 32 := 8#32
  let v302 : BitVec 32 := Scalar.muli c0_i32_93 c8_i32
  let v303 : BitVec 32 := v302
  let v426 : Index := Scalar.indexCast v303
  let c640_152 : Index := 640#32
  ![v426.toNat, 640]
def k0_off12 : Fin 3 → Nat :=
  let c0_153 : Index := 0#32
  let c0_i32_93 : BitVec 32 := 0#32
  let c8_i32 : BitVec 32 := 8#32
  let v302 : BitVec 32 := Scalar.muli c0_i32_93 c8_i32
  let v303 : BitVec 32 := v302
  let v431 : Index := Scalar.indexCast v303
  let c640_154 : Index := 640#32
  ![0, v431.toNat, 640]
def k0_off13 : Fin 2 → Nat :=
  let c0_i32_93 : BitVec 32 := 0#32
  let c8_i32 : BitVec 32 := 8#32
  let v302 : BitVec 32 := Scalar.muli c0_i32_93 c8_i32
  let v303 : BitVec 32 := v302
  let v444 : Index := Scalar.indexCast v303
  let c768_157 : Index := 768#32
  ![v444.toNat, 768]
def k0_off14 : Fin 3 → Nat :=
  let c0_158 : Index := 0#32
  let c0_i32_93 : BitVec 32 := 0#32
  let c8_i32 : BitVec 32 := 8#32
  let v302 : BitVec 32 := Scalar.muli c0_i32_93 c8_i32
  let v303 : BitVec 32 := v302
  let v449 : Index := Scalar.indexCast v303
  let c768_159 : Index := 768#32
  ![0, v449.toNat, 768]
def k0_off15 : Fin 2 → Nat :=
  let c0_i32_93 : BitVec 32 := 0#32
  let c8_i32 : BitVec 32 := 8#32
  let v302 : BitVec 32 := Scalar.muli c0_i32_93 c8_i32
  let v303 : BitVec 32 := v302
  let v462 : Index := Scalar.indexCast v303
  let c896_162 : Index := 896#32
  ![v462.toNat, 896]
def k0_off16 : Fin 3 → Nat :=
  let c0_163 : Index := 0#32
  let c0_i32_93 : BitVec 32 := 0#32
  let c8_i32 : BitVec 32 := 8#32
  let v302 : BitVec 32 := Scalar.muli c0_i32_93 c8_i32
  let v303 : BitVec 32 := v302
  let v467 : Index := Scalar.indexCast v303
  let c896_164 : Index := 896#32
  ![0, v467.toNat, 896]
def k0_off17 : Fin 2 → Nat :=
  let c0_i32_93 : BitVec 32 := 0#32
  let c8_i32 : BitVec 32 := 8#32
  let v302 : BitVec 32 := Scalar.muli c0_i32_93 c8_i32
  let v303 : BitVec 32 := v302
  let v480 : Index := Scalar.indexCast v303
  let c1024_167 : Index := 1024#32
  ![v480.toNat, 1024]
def k0_off18 : Fin 3 → Nat :=
  let c0_168 : Index := 0#32
  let c0_i32_93 : BitVec 32 := 0#32
  let c8_i32 : BitVec 32 := 8#32
  let v302 : BitVec 32 := Scalar.muli c0_i32_93 c8_i32
  let v303 : BitVec 32 := v302
  let v485 : Index := Scalar.indexCast v303
  let c1024_169 : Index := 1024#32
  ![0, v485.toNat, 1024]
def k0_off19 : Fin 2 → Nat :=
  let c0_i32_93 : BitVec 32 := 0#32
  let c8_i32 : BitVec 32 := 8#32
  let v302 : BitVec 32 := Scalar.muli c0_i32_93 c8_i32
  let v303 : BitVec 32 := v302
  let v498 : Index := Scalar.indexCast v303
  let c1152_172 : Index := 1152#32
  ![v498.toNat, 1152]
def k0_off20 : Fin 3 → Nat :=
  let c0_173 : Index := 0#32
  let c0_i32_93 : BitVec 32 := 0#32
  let c8_i32 : BitVec 32 := 8#32
  let v302 : BitVec 32 := Scalar.muli c0_i32_93 c8_i32
  let v303 : BitVec 32 := v302
  let v503 : Index := Scalar.indexCast v303
  let c1152_174 : Index := 1152#32
  ![0, v503.toNat, 1152]
def k0_off21 : Fin 2 → Nat :=
  let c0_i32_93 : BitVec 32 := 0#32
  let c8_i32 : BitVec 32 := 8#32
  let v302 : BitVec 32 := Scalar.muli c0_i32_93 c8_i32
  let v303 : BitVec 32 := v302
  let v516 : Index := Scalar.indexCast v303
  let c1280_177 : Index := 1280#32
  ![v516.toNat, 1280]
def k0_off22 : Fin 3 → Nat :=
  let c0_178 : Index := 0#32
  let c0_i32_93 : BitVec 32 := 0#32
  let c8_i32 : BitVec 32 := 8#32
  let v302 : BitVec 32 := Scalar.muli c0_i32_93 c8_i32
  let v303 : BitVec 32 := v302
  let v521 : Index := Scalar.indexCast v303
  let c1280_179 : Index := 1280#32
  ![0, v521.toNat, 1280]
def k0_off23 : Fin 2 → Nat :=
  let c0_i32_93 : BitVec 32 := 0#32
  let c8_i32 : BitVec 32 := 8#32
  let v302 : BitVec 32 := Scalar.muli c0_i32_93 c8_i32
  let v303 : BitVec 32 := v302
  let v534 : Index := Scalar.indexCast v303
  let c1408_182 : Index := 1408#32
  ![v534.toNat, 1408]
def k0_off24 : Fin 3 → Nat :=
  let c0_183 : Index := 0#32
  let c0_i32_93 : BitVec 32 := 0#32
  let c8_i32 : BitVec 32 := 8#32
  let v302 : BitVec 32 := Scalar.muli c0_i32_93 c8_i32
  let v303 : BitVec 32 := v302
  let v539 : Index := Scalar.indexCast v303
  let c1408_184 : Index := 1408#32
  ![0, v539.toNat, 1408]
def k0_off25 : Fin 2 → Nat :=
  let c0_i32_93 : BitVec 32 := 0#32
  let c8_i32 : BitVec 32 := 8#32
  let v302 : BitVec 32 := Scalar.muli c0_i32_93 c8_i32
  let v303 : BitVec 32 := v302
  let v552 : Index := Scalar.indexCast v303
  let c1536_187 : Index := 1536#32
  ![v552.toNat, 1536]
def k0_off26 : Fin 3 → Nat :=
  let c0_188 : Index := 0#32
  let c0_i32_93 : BitVec 32 := 0#32
  let c8_i32 : BitVec 32 := 8#32
  let v302 : BitVec 32 := Scalar.muli c0_i32_93 c8_i32
  let v303 : BitVec 32 := v302
  let v557 : Index := Scalar.indexCast v303
  let c1536_189 : Index := 1536#32
  ![0, v557.toNat, 1536]
def k0_off27 : Fin 2 → Nat :=
  let c0_i32_93 : BitVec 32 := 0#32
  let c8_i32 : BitVec 32 := 8#32
  let v302 : BitVec 32 := Scalar.muli c0_i32_93 c8_i32
  let v303 : BitVec 32 := v302
  let v570 : Index := Scalar.indexCast v303
  let c1664_192 : Index := 1664#32
  ![v570.toNat, 1664]
def k0_off28 : Fin 3 → Nat :=
  let c0_193 : Index := 0#32
  let c0_i32_93 : BitVec 32 := 0#32
  let c8_i32 : BitVec 32 := 8#32
  let v302 : BitVec 32 := Scalar.muli c0_i32_93 c8_i32
  let v303 : BitVec 32 := v302
  let v575 : Index := Scalar.indexCast v303
  let c1664_194 : Index := 1664#32
  ![0, v575.toNat, 1664]
def k0_off29 : Fin 2 → Nat :=
  let c0_i32_93 : BitVec 32 := 0#32
  let c8_i32 : BitVec 32 := 8#32
  let v302 : BitVec 32 := Scalar.muli c0_i32_93 c8_i32
  let v303 : BitVec 32 := v302
  let v588 : Index := Scalar.indexCast v303
  let c1792_197 : Index := 1792#32
  ![v588.toNat, 1792]
def k0_off30 : Fin 3 → Nat :=
  let c0_198 : Index := 0#32
  let c0_i32_93 : BitVec 32 := 0#32
  let c8_i32 : BitVec 32 := 8#32
  let v302 : BitVec 32 := Scalar.muli c0_i32_93 c8_i32
  let v303 : BitVec 32 := v302
  let v593 : Index := Scalar.indexCast v303
  let c1792_199 : Index := 1792#32
  ![0, v593.toNat, 1792]
def k0_off31 : Fin 2 → Nat :=
  let c0_i32_93 : BitVec 32 := 0#32
  let c8_i32 : BitVec 32 := 8#32
  let v302 : BitVec 32 := Scalar.muli c0_i32_93 c8_i32
  let v303 : BitVec 32 := v302
  let v606 : Index := Scalar.indexCast v303
  let c1920_202 : Index := 1920#32
  ![v606.toNat, 1920]
def k0_off32 : Fin 3 → Nat :=
  let c0_203 : Index := 0#32
  let c0_i32_93 : BitVec 32 := 0#32
  let c8_i32 : BitVec 32 := 8#32
  let v302 : BitVec 32 := Scalar.muli c0_i32_93 c8_i32
  let v303 : BitVec 32 := v302
  let v611 : Index := Scalar.indexCast v303
  let c1920_204 : Index := 1920#32
  ![0, v611.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== WkvRefIdeal.lean ====
abbrev S8x8x2048 : Shape := ⟨3, ![8, 8, 2048]⟩
abbrev S2048 : Shape := ⟨1, ![2048]⟩
abbrev S8x32x64x64 : Shape := ⟨4, ![8, 32, 64, 64]⟩
abbrev S8x4x2048 : Shape := ⟨3, ![8, 4, 2048]⟩
abbrev S1x1x2048 : Shape := ⟨3, ![1, 1, 2048]⟩
abbrev S_ : Shape := ⟨0, ![]⟩
abbrev S8x4x32x64 : Shape := ⟨4, ![8, 4, 32, 64]⟩
abbrev S8x4x32 : Shape := ⟨3, ![8, 4, 32]⟩
abbrev S8x4x32x1 : Shape := ⟨4, ![8, 4, 32, 1]⟩
abbrev S32x64 : Shape := ⟨2, ![32, 64]⟩
abbrev S1x1x32x64 : Shape := ⟨4, ![1, 1, 32, 64]⟩
abbrev S8x1x32x64 : Shape := ⟨4, ![8, 1, 32, 64]⟩
abbrev S8x32x64 : Shape := ⟨3, ![8, 32, 64]⟩
abbrev S8x32x1x64 : Shape := ⟨4, ![8, 32, 1, 64]⟩
abbrev S8x32x64x1 : Shape := ⟨4, ![8, 32, 64, 1]⟩
abbrev S8x64x32x64 : Shape := ⟨4, ![8, 64, 32, 64]⟩
abbrev S8x64x2048 : Shape := ⟨3, ![8, 64, 2048]⟩

abbrev nBuf : Space → Nat
  | .hbm => 193
  | .vmem => 0
  | .smem => 0
  | _ => 0

abbrev hbmTy0_0 (i : Nat) : BufTy := match i % 128 with
  | 0 => ⟨S8x8x2048, .f32⟩
  | 1 => ⟨S8x8x2048, .f32⟩
  | 2 => ⟨S8x8x2048, .f32⟩
  | 3 => ⟨S8x8x2048, .f32⟩
  | 4 => ⟨S8x8x2048, .f32⟩
  | 5 => ⟨S8x8x2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S8x32x64x64, .f32⟩
  | 14 => ⟨S8x4x2048, .f32⟩
  | 15 => ⟨S8x4x2048, .f32⟩
  | 16 => ⟨S8x4x2048, .f32⟩
  | 17 => ⟨S8x4x2048, .f32⟩
  | 18 => ⟨S1x1x2048, .f32⟩
  | 19 => ⟨S8x4x2048, .f32⟩
  | 20 => ⟨S8x4x2048, .f32⟩
  | 21 => ⟨S8x4x2048, .f32⟩
  | 22 => ⟨S_, .f32⟩
  | 23 => ⟨S8x4x2048, .f32⟩
  | 24 => ⟨S8x4x2048, .f32⟩
  | 25 => ⟨S8x4x2048, .f32⟩
  | 26 => ⟨S8x4x2048, .f32⟩
  | 27 => ⟨S8x4x2048, .i1⟩
  | 28 => ⟨S8x4x2048, .f32⟩
  | 29 => ⟨S8x4x2048, .f32⟩
  | 30 => ⟨S8x4x2048, .f32⟩
  | 31 => ⟨S8x4x2048, .f32⟩
  | 32 => ⟨S8x4x2048, .f32⟩
  | 33 => ⟨S8x4x2048, .f32⟩
  | 34 => ⟨S8x4x2048, .f32⟩
  | 35 => ⟨S8x4x2048, .f32⟩
  | 36 => ⟨S8x4x2048, .f32⟩
  | 37 => ⟨S_, .f32⟩
  | 38 => ⟨S8x4x2048, .f32⟩
  | 39 => ⟨S8x4x2048, .f32⟩
  | 40 => ⟨S1x1x2048, .f32⟩
  | 41 => ⟨S8x4x2048, .f32⟩
  | 42 => ⟨S8x4x2048, .f32⟩
  | 43 => ⟨S8x4x2048, .f32⟩
  | 44 => ⟨S8x4x2048, .f32⟩
  | 45 => ⟨S_, .f32⟩
  | 46 => ⟨S8x4x2048, .f32⟩
  | 47 => ⟨S8x4x2048, .f32⟩
  | 48 => ⟨S_, .f32⟩
  | 49 => ⟨S8x4x2048, .f32⟩
  | 50 => ⟨S8x4x2048, .f32⟩
  | 51 => ⟨S1x1x2048, .f32⟩
  | 52 => ⟨S8x4x2048, .f32⟩
  | 53 => ⟨S8x4x2048, .f32⟩
  | 54 => ⟨S8x4x32x64, .f32⟩
  | 55 => ⟨S8x4x32x64, .f32⟩
  | 56 => ⟨S_, .f32⟩
  | 57 => ⟨S8x4x32, .f32⟩
  | 58 => ⟨S8x4x32x1, .f32⟩
  | 59 => ⟨S_, .f32⟩
  | 60 => ⟨S8x4x32x1, .f32⟩
  | 61 => ⟨S8x4x32x1, .f32⟩
  | 62 => ⟨S8x4x32x1, .f32⟩
  | 63 => ⟨S8x4x32x64, .f32⟩
  | 64 => ⟨S8x4x32x64, .f32⟩
  | 65 => ⟨S8x4x32x64, .f32⟩
  | 66 => ⟨S8x4x32x64, .f32⟩
  | 67 => ⟨S_, .f32⟩
  | 68 => ⟨S8x4x32x64, .f32⟩
  | 69 => ⟨S8x4x32x64, .f32⟩
  | 70 => ⟨S32x64, .f32⟩
  | 71 => ⟨S1x1x32x64, .f32⟩
  | 72 => ⟨S8x4x32x64, .f32⟩
  | 73 => ⟨S8x4x32x64, .f32⟩
  | 74 => ⟨S_, .f32⟩
  | 75 => ⟨S8x4x32x64, .f32⟩
  | 76 => ⟨S8x4x32x64, .f32⟩
  | 77 => ⟨S8x4x32x64, .f32⟩
  | 78 => ⟨S8x4x32x64, .f32⟩
  | 79 => ⟨S8x4x32x64, .f32⟩
  | 80 => ⟨S8x4x32x64, .f32⟩
  | 81 => ⟨S8x4x32x64, .f32⟩
  | 82 => ⟨S8x4x32x64, .f32⟩
  | 83 => ⟨S8x1x32x64, .f32⟩
  | 84 => ⟨S8x32x64, .f32⟩
  | 85 => ⟨S8x1x32x64, .f32⟩
  | 86 => ⟨S8x32x64, .f32⟩
  | 87 => ⟨S8x1x32x64, .f32⟩
  | 88 => ⟨S8x32x64, .f32⟩
  | 89 => ⟨S8x1x32x64, .f32⟩
  | 90 => ⟨S8x32x64, .f32⟩
  | 91 => ⟨S8x1x32x64, .f32⟩
  | 92 => ⟨S8x32x64, .f32⟩
  | 93 => ⟨S8x32x64, .f32⟩
  | 94 => ⟨S8x32x1x64, .f32⟩
  | 95 => ⟨S8x32x64x64, .f32⟩
  | 96 => ⟨S8x32x64x64, .f32⟩
  | 97 => ⟨S8x32x64x1, .f32⟩
  | 98 => ⟨S8x32x64, .f32⟩
  | 99 => ⟨S8x32x1x64, .f32⟩
  | 100 => ⟨S8x32x64x64, .f32⟩
  | 101 => ⟨S8x32x64x64, .f32⟩
  | 102 => ⟨S8x32x64x64, .f32⟩
  | 103 => ⟨S8x32x64x64, .f32⟩
  | 104 => ⟨S8x32x64x1, .f32⟩
  | 105 => ⟨S8x32x1x64, .f32⟩
  | 106 => ⟨S8x32x64x64, .f32⟩
  | 107 => ⟨S8x32x64x64, .f32⟩
  | 108 => ⟨S8x32x64x64, .f32⟩
  | 109 => ⟨S8x32x64x64, .f32⟩
  | 110 => ⟨S8x1x32x64, .f32⟩
  | 111 => ⟨S8x32x64, .f32⟩
  | 112 => ⟨S8x1x32x64, .f32⟩
  | 113 => ⟨S8x32x64, .f32⟩
  | 114 => ⟨S8x1x32x64, .f32⟩
  | 115 => ⟨S8x32x64, .f32⟩
  | 116 => ⟨S8x1x32x64, .f32⟩
  | 117 => ⟨S8x32x64, .f32⟩
  | 118 => ⟨S8x1x32x64, .f32⟩
  | 119 => ⟨S8x32x64, .f32⟩
  | 120 => ⟨S8x32x64, .f32⟩
  | 121 => ⟨S8x32x1x64, .f32⟩
  | 122 => ⟨S8x32x64x64, .f32⟩
  | 123 => ⟨S8x32x64x64, .f32⟩
  | 124 => ⟨S8x32x64x1, .f32⟩
  | 125 => ⟨S8x32x64, .f32⟩
  | 126 => ⟨S8x32x1x64, .f32⟩
  | 127 => ⟨S8x32x64x64, .f32⟩
  | _ => ⟨S8x8x2048, .f32⟩

abbrev hbmTy0_1 (i : Nat) : BufTy := match i % 128 with
  | 0 => ⟨S8x32x64x64, .f32⟩
  | 1 => ⟨S8x32x64x64, .f32⟩
  | 2 => ⟨S8x32x64x64, .f32⟩
  | 3 => ⟨S8x32x64x1, .f32⟩
  | 4 => ⟨S8x32x1x64, .f32⟩
  | 5 => ⟨S8x32x64x64, .f32⟩
  | 6 => ⟨S8x32x64x64, .f32⟩
  | 7 => ⟨S8x32x64x64, .f32⟩
  | 8 => ⟨S8x32x64x64, .f32⟩
  | 9 => ⟨S8x1x32x64, .f32⟩
  | 10 => ⟨S8x32x64, .f32⟩
  | 11 => ⟨S8x1x32x64, .f32⟩
  | 12 => ⟨S8x32x64, .f32⟩
  | 13 => ⟨S8x1x32x64, .f32⟩
  | 14 => ⟨S8x32x64, .f32⟩
  | 15 => ⟨S8x1x32x64, .f32⟩
  | 16 => ⟨S8x32x64, .f32⟩
  | 17 => ⟨S8x1x32x64, .f32⟩
  | 18 => ⟨S8x32x64, .f32⟩
  | 19 => ⟨S8x32x64, .f32⟩
  | 20 => ⟨S8x32x1x64, .f32⟩
  | 21 => ⟨S8x32x64x64, .f32⟩
  | 22 => ⟨S8x32x64x64, .f32⟩
  | 23 => ⟨S8x32x64x1, .f32⟩
  | 24 => ⟨S8x32x64, .f32⟩
  | 25 => ⟨S8x32x1x64, .f32⟩
  | 26 => ⟨S8x32x64x64, .f32⟩
  | 27 => ⟨S8x32x64x64, .f32⟩
  | 28 => ⟨S8x32x64x64, .f32⟩
  | 29 => ⟨S8x32x64x64, .f32⟩
  | 30 => ⟨S8x32x64x1, .f32⟩
  | 31 => ⟨S8x32x1x64, .f32⟩
  | 32 => ⟨S8x32x64x64, .f32⟩
  | 33 => ⟨S8x32x64x64, .f32⟩
  | 34 => ⟨S8x32x64x64, .f32⟩
  | 35 => ⟨S8x32x64x64, .f32⟩
  | 36 => ⟨S8x1x32x64, .f32⟩
  | 37 => ⟨S8x32x64, .f32⟩
  | 38 => ⟨S8x1x32x64, .f32⟩
  | 39 => ⟨S8x32x64, .f32⟩
  | 40 => ⟨S8x1x32x64, .f32⟩
  | 41 => ⟨S8x32x64, .f32⟩
  | 42 => ⟨S8x1x32x64, .f32⟩
  | 43 => ⟨S8x32x64, .f32⟩
  | 44 => ⟨S8x1x32x64, .f32⟩
  | 45 => ⟨S8x32x64, .f32⟩
  | 46 => ⟨S8x32x64, .f32⟩
  | 47 => ⟨S8x32x1x64, .f32⟩
  | 48 => ⟨S8x32x64x64, .f32⟩
  | 49 => ⟨S8x32x64x64, .f32⟩
  | 50 => ⟨S8x32x64x1, .f32⟩
  | 51 => ⟨S8x32x64, .f32⟩
  | 52 => ⟨S8x32x1x64, .f32⟩
  | 53 => ⟨S8x32x64x64, .f32⟩
  | 54 => ⟨S8x32x64x64, .f32⟩
  | 55 => ⟨S8x32x64x64, .f32⟩
  | 56 => ⟨S8x32x64x64, .f32⟩
  | 57 => ⟨S8x32x64x1, .f32⟩
  | 58 => ⟨S8x32x1x64, .f32⟩
  | 59 => ⟨S8x32x64x64, .f32⟩
  | 60 => ⟨S8x32x64x64, .f32⟩
  | 61 => ⟨S8x32x64x64, .f32⟩
  | 62 => ⟨S8x32x64x64, .f32⟩
  | 63 => ⟨S8x64x32x64, .f32⟩
  | 64 => ⟨S8x64x2048, .f32⟩
  | _ => ⟨S8x8x2048, .f32⟩

abbrev hbmTy (i : Nat) : BufTy := match i / 128 with
  | 0 => hbmTy0_0 i
  | 1 => hbmTy0_1 i
  | _ => ⟨S8x8x2048, .f32⟩

abbrev bufTy : (tb : Table) → Fin (tcTables nBuf tb) → BufTy
  | .hbm, ⟨i, _⟩ => hbmTy i
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_v26 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩

abbrev nD : Nat := 1
abbrev τ : Topo := Topo.v7x

variable {F : FTy → Type} [FloatOps F]
-- ==== Proof.LastValue.lean ====
/-
  The residual that ends the last layer (prompt group), against its reference. A grid point `(b, i)` takes 256 rows of one
  sequence, and the last modulation row of that sequence, and stores `x + (half * gate) * y` element by element; the
  32 blocks tile the result, so the array it leaves is that function of the arguments (`final`). The reference slices
  the modulation row out, halves it and broadcasts it over the positions: the same element (`ref_apply`).
-/
module

public import proofs.«01_k».proof.Defs
public import proofs.«01_k».proof.Proof.Gen.LastIdeal
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import Idealize.ShloMosaic.Lib.ValueIdx
public import Idealize.ShloMosaic.Lib.Claim
public import Idealize.ShloMosaic.Lib.Quiescent

@[expose] public section

noncomputable section

namespace Cert.LastIdeal.Mine

open Cert.LastIdeal Cert.LastIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The factor one half, as the program writes it. -/
abbrev half : EReal := Ideal.ofBits .f32 0x3F000000#32

/-- The residual, element by element: the gate is modulation row 8 of the sequence. -/
def upd (x y : S2x4096x2048.Idx → EReal) (md : S2x9x1x2048.Idx → EReal) : S2x4096x2048.Idx → EReal := fun i =>
  x i + half * md (ix4 (⟨(i 0).val, (i 0).isLt⟩ : Fin 2) (8 : Fin 9) (0 : Fin 1) (⟨(i 2).val, (i 2).isLt⟩ : Fin 2048)) * y i

theorem z3 : (![0, 0, 0] : Fin 3 → Nat) = fun _ => 0 := funext fun a => by fin_cases a <;> rfl
theorem z4 : (![0, 0, 0, 0] : Fin 4 → Nat) = fun _ => 0 := funext fun a => by fin_cases a <;> rfl

/-- One block's element, from the three windows' blocks. -/
theorem out_apply (x0 x1 : Vec Ideal S1x256x2048 .f32) (x2 : Vec Ideal S1x1x1x2048 .f32) (y : S1x256x2048.Idx) :
    out0_3 x0 x1 x2 y = (x0 (Value.ix3_0 y) + half * x2 (Value.ix3_1 y) * x1 (Value.ix3_2 y) : EReal) := by
  unfold out0_3
  rw [View.ld_unit_zero (S := S1x256x2048) z3, View.ld_unit_zero (S := S1x256x2048) z3, View.ld_unit_zero (S := S1x1x1x2048) z4]
  exact Value.canon3_eq x0 x2 x1 y

/-- Where each window stands: the rows with the output's rows; the gate with its sequence, at row 8. -/
theorem places : ∀ t : Fin cfg0.N, (∀ a : Fin 3, win0_0.index t a = win0_3.index t a)
    ∧ (∀ a : Fin 3, win0_1.index t a = win0_3.index t a) ∧ win0_3.index t (2 : Fin 3) = 0
    ∧ win0_2.index t (0 : Fin 4) = win0_3.index t (0 : Fin 3) ∧ win0_2.index t (1 : Fin 4) = 8
    ∧ win0_2.index t (2 : Fin 4) = 0 ∧ win0_2.index t (3 : Fin 4) = 0 :=
  (by decide +kernel : ∀ t : Fin grid0.N, _)

/-- Every block of the result is some point's, and that point writes it back. -/
theorem onto : ∀ (p : Fin 2) (q : Fin 16), ∃ t : Fin cfg0.N, (cfg0.win 3).flush t = true
    ∧ win0_3.index t (0 : Fin 3) = p.val ∧ win0_3.index t (1 : Fin 3) = q.val ∧ win0_3.index t (2 : Fin 3) = 0 :=
  (by decide +kernel : ∀ (p : Fin 2) (q : Fin 16), ∃ t : Fin grid0.N, win0_3.flush t = true
    ∧ win0_3.index t (0 : Fin 3) = p.val ∧ win0_3.index t (1 : Fin 3) = q.val ∧ win0_3.index t (2 : Fin 3) = 0)

/-- The arguments, as arrays of reals. -/
abbrev xs (c : Dev nD) : S2x4096x2048.Idx → EReal := m ((c : Thread nD τ).loc main_arg0)
abbrev ys (c : Dev nD) : S2x4096x2048.Idx → EReal := m ((c : Thread nD τ).loc main_arg1)
abbrev md (c : Dev nD) : S2x9x1x2048.Idx → EReal := m ((c : Thread nD τ).loc main_arg2)

/-- Each point writes back its block of the residual. -/
theorem flushed_eq (c : Dev nD) (t : Fin cfg0.N) :
    (dats m 0 c).flushed 3 t = ((cfg0.win 3).blk t).view.read (Elt Ideal) (upd (xs m c) (ys m c) (md m c)) := by
  rw [Cert.LastIdeal.Value.flushed3]
  obtain ⟨e0, e1, e2, e3, e4, e5, e6⟩ := places t
  funext y
  have hy0 : (y 0).val < 1 := (y 0).isLt
  show out0_3 (iblk m c 0 t) (iblk m c 1 t) (iblk m c 2 t) ((cfg0.win 3).xinj (grid0.coords t) y)
    = upd (xs m c) (ys m c) (md m c) (((cfg0.win 3).blk t).view.emb y)
  refine (out_apply _ _ _ _).trans ?_
  unfold upd
  refine congrArg₂ (fun a b : EReal => a + b) ?_ (congrArg₂ (fun a b : EReal => a * b) (congrArg (half * ·) ?_) ?_)
  · show V m c main_arg0 (((cfg0.win 0).blk t).view.emb _) = _
    rw [V_main_arg0]
    refine congrArg _ (funext fun a => Fin.ext ?_)
    match a with
    | ⟨0, _⟩ => show win0_0.index t (0 : Fin 3) * 1 + 1 * 0 = win0_3.index t (0 : Fin 3) * 1 + 1 * (y 0).val; rw [e0]; omega
    | ⟨1, _⟩ => show win0_0.index t (1 : Fin 3) * 256 + 1 * (y 1).val = win0_3.index t (1 : Fin 3) * 256 + 1 * (y 1).val; rw [e0]
    | ⟨2, _⟩ => show win0_0.index t (2 : Fin 3) * 2048 + 1 * (y 2).val = win0_3.index t (2 : Fin 3) * 2048 + 1 * (y 2).val; rw [e0]
  · show V m c main_arg2 (((cfg0.win 2).blk t).view.emb _) = _
    rw [V_main_arg2]
    refine congrArg _ (funext fun a => Fin.ext ?_)
    match a with
    | ⟨0, _⟩ => show win0_2.index t (0 : Fin 4) * 1 + 1 * 0 = win0_3.index t (0 : Fin 3) * 1 + 1 * (y 0).val; rw [e3]; omega
    | ⟨1, _⟩ => show win0_2.index t (1 : Fin 4) * 1 + 1 * 0 = 8; rw [e4]
    | ⟨2, _⟩ => show win0_2.index t (2 : Fin 4) * 1 + 1 * 0 = 0; rw [e5]
    | ⟨3, _⟩ => show win0_2.index t (3 : Fin 4) * 2048 + 1 * (y 2).val = win0_3.index t (2 : Fin 3) * 2048 + 1 * (y 2).val; rw [e6, e2]
  · show V m c main_arg1 (((cfg0.win 1).blk t).view.emb _) = _
    rw [V_main_arg1]
    refine congrArg _ (funext fun a => Fin.ext ?_)
    match a with
    | ⟨0, _⟩ => show win0_1.index t (0 : Fin 3) * 1 + 1 * 0 = win0_3.index t (0 : Fin 3) * 1 + 1 * (y 0).val; rw [e1]; omega
    | ⟨1, _⟩ => show win0_1.index t (1 : Fin 3) * 256 + 1 * (y 1).val = win0_3.index t (1 : Fin 3) * 256 + 1 * (y 1).val; rw [e1]
    | ⟨2, _⟩ => show win0_1.index t (2 : Fin 3) * 2048 + 1 * (y 2).val = win0_3.index t (2 : Fin 3) * 2048 + 1 * (y 2).val; rw [e1]

/-- The result array after the run. -/
theorem final (c : Dev nD) : (dats m 0 c).arrAt 3 cfg0.N = upd (xs m c) (ys m c) (md m c) :=
  (dats m 0 c).arrAt_eq_of_cover 3 _ (fun t _ => flushed_eq m c t) (fun i => by
    have h0 : (i 0).val < 2 := (i 0).isLt
    have h1 : (i 1).val < 4096 := (i 1).isLt
    have h2 : (i 2).val < 2048 := (i 2).isLt
    obtain ⟨t, hf, e0, e1, e2⟩ := onto ⟨(i 0).val, h0⟩ ⟨(i 1).val / 256, by omega⟩
    refine ⟨t, hf, ?_⟩
    show i ∈ ((View.whole main_v0).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; rw [e0]; dsimp only; omega
    | ⟨1, _⟩ => show win0_3.index t (1 : Fin 3) * 256 ≤ (i 1).val ∧ (i 1).val < win0_3.index t (1 : Fin 3) * 256 + 256; rw [e1]; dsimp only; omega
    | ⟨2, _⟩ => show win0_3.index t (2 : Fin 3) * 2048 ≤ (i 2).val ∧ (i 2).val < win0_3.index t (2 : Fin 3) * 2048 + 2048; rw [e2]; omega)

end Cert.LastIdeal.Mine

namespace Cert.LastValue

open Idealize.ShloMosaic Idealize.ShloMosaic.TcCoe Idealize.SL.Sem
open Idealize.ShloMosaic.ValueIdx

/-- The reference's array is the residual. -/
theorem ref_eq (x y : Cert.LastIdeal.S2x4096x2048.Idx → EReal) (md : Cert.LastIdeal.S2x9x1x2048.Idx → EReal) :
    Cert.LastRefIdeal.Read.val_main_v6 (F := Ideal) x y md = Cert.LastIdeal.Mine.upd x y md := by
  funext i
  rw [Cert.LastRefIdeal.Read.val_main_v6_apply, Cert.LastRefIdeal.Read.val_main_v5_apply, Cert.LastRefIdeal.Read.val_main_v4_apply,
    Cert.LastRefIdeal.Read.val_main_v3_apply, Cert.LastRefIdeal.Read.val_main_v2_apply, Cert.LastRefIdeal.Read.val_main_cst_apply,
    Cert.LastRefIdeal.Read.val_main_v1_apply, Cert.LastRefIdeal.Read.val_main_v0_apply]
  have h0 : (i 0).val < 2 := (i 0).isLt
  have h2 : (i 2).val < 2048 := (i 2).isLt
  unfold Cert.LastIdeal.Mine.upd
  show (x i + Cert.LastIdeal.Mine.half * md _ * y i : EReal) = x i + Cert.LastIdeal.Mine.half * md _ * y i
  refine congrArg (x i + ·) (congrArg (fun w : EReal => Cert.LastIdeal.Mine.half * w * y i) (congrArg md (funext fun a => Fin.ext ?_)))
  match a with
  | ⟨0, _⟩ => show (((i 0).val * 1 + 0) * 2048 + (i 2).val) / 2048 = (i 0).val; omega
  | ⟨1, _⟩ => rfl
  | ⟨2, _⟩ => rfl
  | ⟨3, _⟩ => show (((i 0).val * 1 + 0) * 2048 + (i 2).val) % 2048 = (i 2).val; omega

theorem frame_ref : Cert.quiescent_LastRefIdeal := fun m g _ =>
  θ_run_and ((θ_run (Cert.LastRefIdeal.defs (F := Ideal)) _ _).mono (fun _ h c => (h c).2) (Cert.LastRefIdeal.Value.run (F := Ideal) m g))
    ((θ_run (Cert.LastRefIdeal.defs (F := Ideal)) _ _).mono (fun r _ => sem_eq_zero_of_no_sems rfl r.2) (Cert.LastRefIdeal.Value.run (F := Ideal) m g))

/-- The kernel and its reference end with the same array. -/
theorem algebraic : Cert.algebraic_LastIdeal_LastRefIdeal := fun m g m' g' _ hargs =>
  ⟨fun c => Cert.LastIdeal.Mine.upd (Cert.LastIdeal.Mine.xs m c) (Cert.LastIdeal.Mine.ys m c) (Cert.LastIdeal.Mine.md m c),
    (θ_run (Cert.LastIdeal.defs (F := Ideal)) _ _).mono (fun _ h c => ⟨(h c).1.trans (Cert.LastIdeal.Mine.final m c), (h c).2⟩)
      (Cert.LastIdeal.Value.run_blocks (F := Ideal) m g),
    (θ_run (Cert.LastRefIdeal.defs (F := Ideal)) _ _).mono (fun _ h c => ⟨(h c).1.trans (by
        rw [(hargs c).1, (hargs c).2.1, (hargs c).2.2]
        exact (Cert.LastRefIdeal.Read.val_main_v6_eq (F := Ideal) _ _ _).trans (ref_eq _ _ _)), (h c).2⟩)
      (Cert.LastRefIdeal.Value.run (F := Ideal) m' g')⟩

end Cert.LastValue

end
-- ==== Proof.LastSValue.lean ====
/-
  The residual that ends the last layer (sample group), against its reference. A grid point `(b, i)` takes 8 rows of one
  sequence, and the last modulation row of that sequence, and stores `x + (half * gate) * y` element by element; the
  8 blocks tile the result, so the array it leaves is that function of the arguments (`final`). The reference slices
  the modulation row out, halves it and broadcasts it over the positions: the same element (`ref_apply`).
-/
module

public import proofs.«01_k».proof.Defs
public import proofs.«01_k».proof.Proof.Gen.LastSIdeal
public import proofs.«01_k».proof.Proof.Gen.LastSIdeal.Value
public import proofs.«01_k».proof.Proof.Gen.LastSRefIdeal
public import proofs.«01_k».proof.Proof.Gen.LastSRefIdeal.Run
public import proofs.«01_k».proof.Proof.Gen.LastSRefIdeal.Read
public import Idealize.ShloMosaic.Lib.ValueIdx
public import Idealize.ShloMosaic.Lib.Claim
public import Idealize.ShloMosaic.Lib.Quiescent

@[expose] public section

noncomputable section

namespace Cert.LastSIdeal.Mine

open Cert.LastSIdeal Cert.LastSIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The factor one half, as the program writes it. -/
abbrev half : EReal := Ideal.ofBits .f32 0x3F000000#32

/-- The residual, element by element: the gate is modulation row 8 of the sequence. -/
def upd (x y : S8x8x2048.Idx → EReal) (md : S8x9x1x2048.Idx → EReal) : S8x8x2048.Idx → EReal := fun i =>
  x i + half * md (ix4 (⟨(i 0).val, (i 0).isLt⟩ : Fin 8) (8 : Fin 9) (0 : Fin 1) (⟨(i 2).val, (i 2).isLt⟩ : Fin 2048)) * y i

theorem z3 : (![0, 0, 0] : Fin 3 → Nat) = fun _ => 0 := funext fun a => by fin_cases a <;> rfl
theorem z4 : (![0, 0, 0, 0] : Fin 4 → Nat) = fun _ => 0 := funext fun a => by fin_cases a <;> rfl

/-- One block's element, from the three windows' blocks. -/
theorem out_apply (x0 x1 : Vec Ideal S1x8x2048 .f32) (x2 : Vec Ideal S1x1x1x2048 .f32) (y : S1x8x2048.Idx) :
    out0_3 x0 x1 x2 y = (x0 (Value.ix3_0 y) + half * x2 (Value.ix3_1 y) * x1 (Value.ix3_2 y) : EReal) := by
  unfold out0_3
  rw [View.ld_unit_zero (S := S1x8x2048) z3, View.ld_unit_zero (S := S1x8x2048) z3, View.ld_unit_zero (S := S1x1x1x2048) z4]
  exact Value.canon3_eq x0 x2 x1 y

/-- Where each window stands: the rows with the output's rows; the gate with its sequence, at row 8. -/
theorem places : ∀ t : Fin cfg0.N, (∀ a : Fin 3, win0_0.index t a = win0_3.index t a)
    ∧ (∀ a : Fin 3, win0_1.index t a = win0_3.index t a) ∧ win0_3.index t (2 : Fin 3) = 0
    ∧ win0_2.index t (0 : Fin 4) = win0_3.index t (0 : Fin 3) ∧ win0_2.index t (1 : Fin 4) = 8
    ∧ win0_2.index t (2 : Fin 4) = 0 ∧ win0_2.index t (3 : Fin 4) = 0 :=
  (by decide +kernel : ∀ t : Fin grid0.N, _)

/-- Every block of the result is some point's, and that point writes it back. -/
theorem onto : ∀ (p : Fin 8) (q : Fin 1), ∃ t : Fin cfg0.N, (cfg0.win 3).flush t = true
    ∧ win0_3.index t (0 : Fin 3) = p.val ∧ win0_3.index t (1 : Fin 3) = q.val ∧ win0_3.index t (2 : Fin 3) = 0 :=
  (by decide +kernel : ∀ (p : Fin 8) (q : Fin 1), ∃ t : Fin grid0.N, win0_3.flush t = true
    ∧ win0_3.index t (0 : Fin 3) = p.val ∧ win0_3.index t (1 : Fin 3) = q.val ∧ win0_3.index t (2 : Fin 3) = 0)

/-- The arguments, as arrays of reals. -/
abbrev xs (c : Dev nD) : S8x8x2048.Idx → EReal := m ((c : Thread nD τ).loc main_arg0)
abbrev ys (c : Dev nD) : S8x8x2048.Idx → EReal := m ((c : Thread nD τ).loc main_arg1)
abbrev md (c : Dev nD) : S8x9x1x2048.Idx → EReal := m ((c : Thread nD τ).loc main_arg2)

/-- Each point writes back its block of the residual. -/
theorem flushed_eq (c : Dev nD) (t : Fin cfg0.N) :
    (dats m 0 c).flushed 3 t = ((cfg0.win 3).blk t).view.read (Elt Ideal) (upd (xs m c) (ys m c) (md m c)) := by
  rw [Cert.LastSIdeal.Value.flushed3]
  obtain ⟨e0, e1, e2, e3, e4, e5, e6⟩ := places t
  funext y
  have hy0 : (y 0).val < 1 := (y 0).isLt
  show out0_3 (iblk m c 0 t) (iblk m c 1 t) (iblk m c 2 t) ((cfg0.win 3).xinj (grid0.coords t) y)
    = upd (xs m c) (ys m c) (md m c) (((cfg0.win 3).blk t).view.emb y)
  refine (out_apply _ _ _ _).trans ?_
  unfold upd
  refine congrArg₂ (fun a b : EReal => a + b) ?_ (congrArg₂ (fun a b : EReal => a * b) (congrArg (half * ·) ?_) ?_)
  · show V m c main_arg0 (((cfg0.win 0).blk t).view.emb _) = _
    rw [V_main_arg0]
    refine congrArg _ (funext fun a => Fin.ext ?_)
    match a with
    | ⟨0, _⟩ => show win0_0.index t (0 : Fin 3) * 1 + 1 * 0 = win0_3.index t (0 : Fin 3) * 1 + 1 * (y 0).val; rw [e0]; omega
    | ⟨1, _⟩ => show win0_0.index t (1 : Fin 3) * 8 + 1 * (y 1).val = win0_3.index t (1 : Fin 3) * 8 + 1 * (y 1).val; rw [e0]
    | ⟨2, _⟩ => show win0_0.index t (2 : Fin 3) * 2048 + 1 * (y 2).val = win0_3.index t (2 : Fin 3) * 2048 + 1 * (y 2).val; rw [e0]
  · show V m c main_arg2 (((cfg0.win 2).blk t).view.emb _) = _
    rw [V_main_arg2]
    refine congrArg _ (funext fun a => Fin.ext ?_)
    match a with
    | ⟨0, _⟩ => show win0_2.index t (0 : Fin 4) * 1 + 1 * 0 = win0_3.index t (0 : Fin 3) * 1 + 1 * (y 0).val; rw [e3]; omega
    | ⟨1, _⟩ => show win0_2.index t (1 : Fin 4) * 1 + 1 * 0 = 8; rw [e4]
    | ⟨2, _⟩ => show win0_2.index t (2 : Fin 4) * 1 + 1 * 0 = 0; rw [e5]
    | ⟨3, _⟩ => show win0_2.index t (3 : Fin 4) * 2048 + 1 * (y 2).val = win0_3.index t (2 : Fin 3) * 2048 + 1 * (y 2).val; rw [e6, e2]
  · show V m c main_arg1 (((cfg0.win 1).blk t).view.emb _) = _
    rw [V_main_arg1]
    refine congrArg _ (funext fun a => Fin.ext ?_)
    match a with
    | ⟨0, _⟩ => show win0_1.index t (0 : Fin 3) * 1 + 1 * 0 = win0_3.index t (0 : Fin 3) * 1 + 1 * (y 0).val; rw [e1]; omega
    | ⟨1, _⟩ => show win0_1.index t (1 : Fin 3) * 8 + 1 * (y 1).val = win0_3.index t (1 : Fin 3) * 8 + 1 * (y 1).val; rw [e1]
    | ⟨2, _⟩ => show win0_1.index t (2 : Fin 3) * 2048 + 1 * (y 2).val = win0_3.index t (2 : Fin 3) * 2048 + 1 * (y 2).val; rw [e1]

/-- The result array after the run. -/
theorem final (c : Dev nD) : (dats m 0 c).arrAt 3 cfg0.N = upd (xs m c) (ys m c) (md m c) :=
  (dats m 0 c).arrAt_eq_of_cover 3 _ (fun t _ => flushed_eq m c t) (fun i => by
    have h0 : (i 0).val < 8 := (i 0).isLt
    have h1 : (i 1).val < 8 := (i 1).isLt
    have h2 : (i 2).val < 2048 := (i 2).isLt
    obtain ⟨t, hf, e0, e1, e2⟩ := onto ⟨(i 0).val, h0⟩ ⟨(i 1).val / 8, by omega⟩
    refine ⟨t, hf, ?_⟩
    show i ∈ ((View.whole main_v0).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; rw [e0]; dsimp only; omega
    | ⟨1, _⟩ => show win0_3.index t (1 : Fin 3) * 8 ≤ (i 1).val ∧ (i 1).val < win0_3.index t (1 : Fin 3) * 8 + 8; rw [e1]; dsimp only; omega
    | ⟨2, _⟩ => show win0_3.index t (2 : Fin 3) * 2048 ≤ (i 2).val ∧ (i 2).val < win0_3.index t (2 : Fin 3) * 2048 + 2048; rw [e2]; omega)

end Cert.LastSIdeal.Mine

namespace Cert.LastSValue

open Idealize.ShloMosaic Idealize.ShloMosaic.TcCoe Idealize.SL.Sem
open Idealize.ShloMosaic.ValueIdx

/-- The reference's array is the residual. -/
theorem ref_eq (x y : Cert.LastSIdeal.S8x8x2048.Idx → EReal) (md : Cert.LastSIdeal.S8x9x1x2048.Idx → EReal) :
    Cert.LastSRefIdeal.Read.val_main_v6 (F := Ideal) x y md = Cert.LastSIdeal.Mine.upd x y md := by
  funext i
  rw [Cert.LastSRefIdeal.Read.val_main_v6_apply, Cert.LastSRefIdeal.Read.val_main_v5_apply, Cert.LastSRefIdeal.Read.val_main_v4_apply,
    Cert.LastSRefIdeal.Read.val_main_v3_apply, Cert.LastSRefIdeal.Read.val_main_v2_apply, Cert.LastSRefIdeal.Read.val_main_cst_apply,
    Cert.LastSRefIdeal.Read.val_main_v1_apply, Cert.LastSRefIdeal.Read.val_main_v0_apply]
  have h0 : (i 0).val < 8 := (i 0).isLt
  have h2 : (i 2).val < 2048 := (i 2).isLt
  unfold Cert.LastSIdeal.Mine.upd
  show (x i + Cert.LastSIdeal.Mine.half * md _ * y i : EReal) = x i + Cert.LastSIdeal.Mine.half * md _ * y i
  refine congrArg (x i + ·) (congrArg (fun w : EReal => Cert.LastSIdeal.Mine.half * w * y i) (congrArg md (funext fun a => Fin.ext ?_)))
  match a with
  | ⟨0, _⟩ => show (((i 0).val * 1 + 0) * 2048 + (i 2).val) / 2048 = (i 0).val; omega
  | ⟨1, _⟩ => rfl
  | ⟨2, _⟩ => rfl
  | ⟨3, _⟩ => show (((i 0).val * 1 + 0) * 2048 + (i 2).val) % 2048 = (i 2).val; omega

theorem frame_ref : Cert.quiescent_LastSRefIdeal := fun m g _ =>
  θ_run_and ((θ_run (Cert.LastSRefIdeal.defs (F := Ideal)) _ _).mono (fun _ h c => (h c).2) (Cert.LastSRefIdeal.Value.run (F := Ideal) m g))
    ((θ_run (Cert.LastSRefIdeal.defs (F := Ideal)) _ _).mono (fun r _ => sem_eq_zero_of_no_sems rfl r.2) (Cert.LastSRefIdeal.Value.run (F := Ideal) m g))

/-- The kernel and its reference end with the same array. -/
theorem algebraic : Cert.algebraic_LastSIdeal_LastSRefIdeal := fun m g m' g' _ hargs =>
  ⟨fun c => Cert.LastSIdeal.Mine.upd (Cert.LastSIdeal.Mine.xs m c) (Cert.LastSIdeal.Mine.ys m c) (Cert.LastSIdeal.Mine.md m c),
    (θ_run (Cert.LastSIdeal.defs (F := Ideal)) _ _).mono (fun _ h c => ⟨(h c).1.trans (Cert.LastSIdeal.Mine.final m c), (h c).2⟩)
      (Cert.LastSIdeal.Value.run_blocks (F := Ideal) m g),
    (θ_run (Cert.LastSRefIdeal.defs (F := Ideal)) _ _).mono (fun _ h c => ⟨(h c).1.trans (by
        rw [(hargs c).1, (hargs c).2.1, (hargs c).2.2]
        exact (Cert.LastSRefIdeal.Read.val_main_v6_eq (F := Ideal) _ _ _).trans (ref_eq _ _ _)), (h c).2⟩)
      (Cert.LastSRefIdeal.Value.run (F := Ideal) m' g')⟩

end Cert.LastSValue

end
-- ==== Proof.MidValue.lean ====
/-
  The residual after the first feed-forward block of an odd layer and the modulated norm that opens its mixer (prompt group), against the reference.
  A grid point takes 256 rows of one sequence; with `u = x + (half * gate) * y` it stores `u`, and
  `u * rsqrt (mean of u² over the row + eps) * gain * (1 + scale) + shift`. Both are functions of the arguments, element by
  element (`updAt`, `normAt`); the blocks tile the two results (`final_x`, `final_h`), and the reference's two arrays
  are the same functions (`ref_x`, `ref_h`).
-/
module

public import proofs.«01_k».proof.Defs
public import proofs.«01_k».proof.Proof.Gen.MidIdeal
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import Idealize.ShloMosaic.Lib.ValueIdx
public import Idealize.ShloMosaic.Lib.IdealHost
public import Idealize.ShloMosaic.Lib.Claim
public import Idealize.ShloMosaic.Lib.Quiescent
public import Idealize.ShloMosaic.Lib.StableHlo.Run

@[expose] public section

noncomputable section

namespace Cert.MidIdeal.Mine

open Cert.MidIdeal Cert.MidIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The four constants, as the programs write them: one half, the row length, the norm's eps and one. -/
abbrev half : EReal := Ideal.ofBits .f32 0x3F000000#32
abbrev len : EReal := Ideal.ofBits .f32 0x45000000#32
abbrev eps : EReal := Ideal.ofBits .f32 0x358637BD#32
abbrev one : EReal := Ideal.ofBits .f32 0x3F800000#32

/-- The residual at an element: the gate is modulation row 2 of the sequence. -/
def updAt (x y : S2x4096x2048.Idx → EReal) (md : S2x9x1x2048.Idx → EReal) (b : Fin 2) (p : Fin 4096) (k : Fin 2048) : EReal :=
  x (ix3 b p k) + half * md (ix4 b (2 : Fin 9) (0 : Fin 1) k) * y (ix3 b p k)

/-- The modulated norm at an element: gain row (1, 1), scale row 4, shift row 3. -/
def normAt (x y : S2x4096x2048.Idx → EReal) (md : S2x9x1x2048.Idx → EReal) (g : S4x3x2048.Idx → EReal)
    (b : Fin 2) (p : Fin 4096) (k : Fin 2048) : EReal :=
  updAt x y md b p k * Ideal.rsqrt (Ideal.div (∑ l : Fin 2048, updAt x y md b p l * updAt x y md b p l) len + eps)
    * g (ix3 (1 : Fin 4) (1 : Fin 3) k) * (one + md (ix4 b (4 : Fin 9) (0 : Fin 1) k)) + md (ix4 b (3 : Fin 9) (0 : Fin 1) k)

/-- The two arrays. -/
def upd (x y : S2x4096x2048.Idx → EReal) (md : S2x9x1x2048.Idx → EReal) : S2x4096x2048.Idx → EReal := fun i =>
  updAt x y md ⟨(i 0).val, (i 0).isLt⟩ ⟨(i 1).val, (i 1).isLt⟩ ⟨(i 2).val, (i 2).isLt⟩

def normed (x y : S2x4096x2048.Idx → EReal) (md : S2x9x1x2048.Idx → EReal) (g : S4x3x2048.Idx → EReal) :
    S2x4096x2048.Idx → EReal := fun i =>
  normAt x y md g ⟨(i 0).val, (i 0).isLt⟩ ⟨(i 1).val, (i 1).isLt⟩ ⟨(i 2).val, (i 2).isLt⟩

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## What one block computes -/

/-- The residual of a block's row `q` at lane `k`. -/
def rowAt (x0 x1 : Vec Ideal S1x256x2048 .f32) (x2 : Vec Ideal S1x1x1x2048 .f32) (q : Fin 256) (k : Fin 2048) : EReal :=
  x0 (ix3 (0 : Fin 1) q k) + half * x2 (ix4 (0 : Fin 1) (0 : Fin 1) (0 : Fin 1) k) * x1 (ix3 (0 : Fin 1) q k)

/-- The block's residual as the vector the body squares and sums. -/
abbrev rows (x0 x1 : Vec Ideal S1x256x2048 .f32) (x2 : Vec Ideal S1x1x1x2048 .f32) : FVec Ideal S256x2048 .f32 :=
  addf (shapeCast S256x2048 x0 shapeCasts_S1x256x2048_S256x2048)
    (mulf (broadcastTo S256x2048 (mulf (broadcast S1x2048 (Scalar.ofBits .f32 0x3F000000#32))
      (shapeCast S1x2048 x2 shapeCasts_S1x1x1x2048_S1x2048)) broadcasts_S1x2048_S256x2048)
      (shapeCast S256x2048 x1 shapeCasts_S1x256x2048_S256x2048))

theorem drop_apply (x : Vec Ideal S1x256x2048 .f32) (q : Fin 256) (k : Fin 2048) :
    shapeCast S256x2048 x shapeCasts_S1x256x2048_S256x2048 (ix2 q k) = x (ix3 (0 : Fin 1) q k) :=
  shapeCast_apply _ shapeCasts_S1x256x2048_S256x2048 _ _
    (by rewrite [Shape.rowMajor_val_three, Shape.rowMajor_val_two]
        show (0 * 256 + q.val) * 2048 + k.val = q.val * 2048 + k.val
        omega)

theorem gate_apply (x : Vec Ideal S1x1x1x2048 .f32) (k : Fin 2048) :
    shapeCast S1x2048 x shapeCasts_S1x1x1x2048_S1x2048 (ix2 (0 : Fin 1) k) = x (ix4 (0 : Fin 1) (0 : Fin 1) (0 : Fin 1) k) :=
  shapeCast_apply _ shapeCasts_S1x1x1x2048_S1x2048 _ _
    (by rewrite [Shape.rowMajor_val_four, Shape.rowMajor_val_two]
        show ((0 * 1 + 0) * 1 + 0) * 2048 + k.val = 0 * 2048 + k.val
        omega)

theorem rows_apply (x0 x1 : Vec Ideal S1x256x2048 .f32) (x2 : Vec Ideal S1x1x1x2048 .f32) (q : Fin 256) (k : Fin 2048) :
    rows x0 x1 x2 (ix2 q k) = rowAt x0 x1 x2 q k := by
  unfold rowAt
  refine congrArg₂ (fun a b : EReal => a + b) (drop_apply x0 q k) (congrArg₂ (fun a b : EReal => a * b) ?_ (drop_apply x1 q k))
  refine (broadcastTo_apply _ broadcasts_S1x2048_S256x2048 (ix2 q k) (ix2 (0 : Fin 1) k) (fun a => match a with
    | ⟨0, _⟩ => by show 0 = (if (1 : Nat) = 1 then 0 else q.val); rw [if_pos rfl]
    | ⟨1, _⟩ => by show k.val = (if (2048 : Nat) = 1 then 0 else k.val); rw [if_neg (by decide)])).trans ?_
  exact congrArg (half * ·) (gate_apply x2 k)

theorem out6_apply (x0 x1 : Vec Ideal S1x256x2048 .f32) (x2 : Vec Ideal S1x1x1x2048 .f32) (x3 : Vec Ideal S1x2048 .f32)
    (x4 x5 : Vec Ideal S1x1x1x2048 .f32) (q : Fin 256) (k : Fin 2048) :
    out0_6 x0 x1 x2 x3 x4 x5 (ix3 (0 : Fin 1) q k) = rowAt x0 x1 x2 q k := by
  unfold out0_6
  rw [View.ld_unit_zero (S := S1x256x2048) z3, View.ld_unit_zero (S := S1x256x2048) z3, View.ld_unit_zero (S := S1x1x1x2048) z4]
  refine (Value.canon6_eq x0 x2 x1 _).trans ?_
  unfold rowAt
  refine congrArg₂ (fun a b : EReal => a + b) (congrArg x0 ?_) (congrArg₂ (fun a b : EReal => a * b)
    (congrArg (half * ·) (congrArg x2 ?_)) (congrArg x1 ?_))
  · funext a; fin_cases a <;> rfl
  · funext a; fin_cases a <;> rfl
  · funext a; fin_cases a <;> rfl

/-- The sum of squares of a block's row. -/
theorem squares (x0 x1 : Vec Ideal S1x256x2048 .f32) (x2 : Vec Ideal S1x1x1x2048 .f32) (q : Fin 256) (j : S256.Idx)
    (hj : (j 0).val = q.val) :
    multiReduction .add [1] S256 (mulf (rows x0 x1 x2) (rows x0 x1 x2)) 0x00000000#32 reduces_S256x2048_S256 (.inl rfl) rfl j
      = ∑ l : Fin 2048, rowAt x0 x1 x2 q l * rowAt x0 x1 x2 q l := by
  refine (Ideal.multiReduction_add_single (mulf (rows x0 x1 x2) (rows x0 x1 x2)) _ reduces_S256x2048_S256 (.inl rfl) rfl j).trans ?_
  refine Finset.sum_congr rfl fun l _ => ?_
  rw [show reduces_S256x2048_S256.lift j l = ix2 q l from funext fun a => Fin.ext (by
    match a with | ⟨0, _⟩ => exact hj | ⟨1, _⟩ => rfl)]
  exact congrArg₂ (fun a b : EReal => a * b) (rows_apply x0 x1 x2 q l) (rows_apply x0 x1 x2 q l)

theorem out7_apply (x0 x1 : Vec Ideal S1x256x2048 .f32) (x2 : Vec Ideal S1x1x1x2048 .f32) (x3 : Vec Ideal S1x2048 .f32)
    (x4 x5 : Vec Ideal S1x1x1x2048 .f32) (q : Fin 256) (k : Fin 2048) :
    out0_7 x0 x1 x2 x3 x4 x5 (ix3 (0 : Fin 1) q k)
      = (rowAt x0 x1 x2 q k * Ideal.rsqrt (Ideal.div (∑ l : Fin 2048, rowAt x0 x1 x2 q l * rowAt x0 x1 x2 q l) len + eps)
        * x3 (ix2 (0 : Fin 1) k) * (one + x5 (ix4 (0 : Fin 1) (0 : Fin 1) (0 : Fin 1) k))
        + x4 (ix4 (0 : Fin 1) (0 : Fin 1) (0 : Fin 1) k) : EReal) := by
  unfold out0_7
  rw [View.ld_unit_zero (S := S1x256x2048) z3, View.ld_unit_zero (S := S1x256x2048) z3, View.ld_unit_zero (S := S1x1x1x2048) z4,
    View.ld_unit_zero (S := S1x2048) z2, View.ld_unit_zero (S := S1x1x1x2048) z4, View.ld_unit_zero (S := S1x1x1x2048) z4]
  refine (Value.canon7_eq x0 x2 x1 x3 x5 x4 _).trans ?_
  refine congrArg₂ (fun a b : EReal => a + b) (congrArg₂ (fun a b : EReal => a * b) (congrArg₂ (fun a b : EReal => a * b)
    (congrArg₂ (fun a b : EReal => a * b) ?_ (congrArg (fun s : EReal => Ideal.rsqrt (Ideal.div s len + eps)) ?_))
      (congrArg x3 ?_)) (congrArg (fun s : EReal => one + s) (congrArg x5 ?_))) (congrArg x4 ?_)
  · unfold rowAt
    refine congrArg₂ (fun a b : EReal => a + b) (congrArg x0 ?_) (congrArg₂ (fun a b : EReal => a * b)
      (congrArg (half * ·) (congrArg x2 ?_)) (congrArg x1 ?_))
    · funext a; fin_cases a <;> rfl
    · funext a; fin_cases a <;> rfl
    · funext a; fin_cases a <;> rfl
  · exact squares x0 x1 x2 q _ rfl
  · funext a; fin_cases a <;> rfl
  · funext a; fin_cases a <;> rfl
  · funext a; fin_cases a <;> rfl

/-! ## Where the windows stand, and what their blocks read -/

/-- Rows with the outputs' rows; the three modulation rows with their sequence; the gain at its only block. -/
theorem places : ∀ t : Fin cfg0.N, (∀ a : Fin 3, win0_0.index t a = win0_7.index t a)
    ∧ (∀ a : Fin 3, win0_1.index t a = win0_7.index t a) ∧ (∀ a : Fin 3, win0_6.index t a = win0_7.index t a)
    ∧ win0_7.index t (2 : Fin 3) = 0 ∧ win0_7.index t (0 : Fin 3) < 2 ∧ win0_7.index t (1 : Fin 3) < 16
    ∧ (∀ a : Fin 2, win0_3.index t a = 0) :=
  (by decide +kernel : ∀ t : Fin grid0.N, _)

theorem places_md : ∀ t : Fin cfg0.N,
    win0_2.index t (0 : Fin 4) = win0_7.index t (0 : Fin 3) ∧ win0_2.index t (1 : Fin 4) = 2
    ∧ win0_2.index t (2 : Fin 4) = 0 ∧ win0_2.index t (3 : Fin 4) = 0
    ∧ win0_4.index t (0 : Fin 4) = win0_7.index t (0 : Fin 3) ∧ win0_4.index t (1 : Fin 4) = 3
    ∧ win0_4.index t (2 : Fin 4) = 0 ∧ win0_4.index t (3 : Fin 4) = 0
    ∧ win0_5.index t (0 : Fin 4) = win0_7.index t (0 : Fin 3) ∧ win0_5.index t (1 : Fin 4) = 4
    ∧ win0_5.index t (2 : Fin 4) = 0 ∧ win0_5.index t (3 : Fin 4) = 0 :=
  (by decide +kernel : ∀ t : Fin grid0.N, _)

/-- Every block of each result is some point's, and that point writes it back. -/
theorem onto : ∀ (p : Fin 2) (q : Fin 16), ∃ t : Fin cfg0.N, (cfg0.win 6).flush t = true ∧ (cfg0.win 7).flush t = true
    ∧ win0_7.index t (0 : Fin 3) = p.val ∧ win0_7.index t (1 : Fin 3) = q.val :=
  (by decide +kernel : ∀ (p : Fin 2) (q : Fin 16), ∃ t : Fin grid0.N, win0_6.flush t = true ∧ win0_7.flush t = true
    ∧ win0_7.index t (0 : Fin 3) = p.val ∧ win0_7.index t (1 : Fin 3) = q.val)

/-- The arguments, as arrays of reals. -/
abbrev xs (c : Dev nD) : S2x4096x2048.Idx → EReal := m ((c : Thread nD τ).loc main_arg0)
abbrev ys (c : Dev nD) : S2x4096x2048.Idx → EReal := m ((c : Thread nD τ).loc main_arg1)
abbrev md (c : Dev nD) : S2x9x1x2048.Idx → EReal := m ((c : Thread nD τ).loc main_arg2)
abbrev gs (c : Dev nD) : S4x3x2048.Idx → EReal := m ((c : Thread nD τ).loc main_arg3)

/-- The host's gain row. -/
theorem gain_eq (c : Dev nD) : V m c main_v2 = shapeCast S1x2048 (shapeCast S2048 (extractStridedSlice S1x1x2048 ![1, 1, 0]
      (m ((c : Thread nD τ).loc main_arg3)) slices_S4x3x2048_S1x1x2048_1_1_0) shapeCasts_S1x1x2048_S2048) shapeCasts_S2048_S1x2048 := by
  unfold V
  after_results <;> rfl

theorem gain_apply (c : Dev nD) (k : Fin 2048) :
    (V m c main_v2 : Vec Ideal S1x2048 .f32) (ix2 (0 : Fin 1) k) = gs m c (ix3 (1 : Fin 4) (1 : Fin 3) k) := by
  rw [gain_eq]
  refine (shapeCast_apply _ shapeCasts_S2048_S1x2048 _ (ix1 k)
    (by rewrite [Shape.rowMajor_val_one, Shape.rowMajor_val_two]; show k.val = 0 * 2048 + k.val; omega)).trans ?_
  refine (shapeCast_apply _ shapeCasts_S1x1x2048_S2048 _ (ix3 (0 : Fin 1) (0 : Fin 1) k)
    (by rewrite [Shape.rowMajor_val_one, Shape.rowMajor_val_three]; show (0 * 1 + 0) * 2048 + k.val = k.val; omega)).trans ?_
  exact extractStridedSlice_apply _ _ slices_S4x3x2048_S1x1x2048_1_1_0 _ (ix3 (1 : Fin 4) (1 : Fin 3) k) (fun a => match a with
    | ⟨0, _⟩ => rfl
    | ⟨1, _⟩ => rfl
    | ⟨2, _⟩ => by show k.val = 0 + k.val; omega)

section Blocks

variable (c : Dev nD) (t : Fin cfg0.N) (b : Fin 2) (p : Fin 4096) (q : Fin 256) (k : Fin 2048)
  (hb : b.val = win0_7.index t (0 : Fin 3)) (hp : p.val = win0_7.index t (1 : Fin 3) * 256 + q.val)
include hb

include hp in
theorem x_read : (iblk m c 0 t : Vec Ideal S1x256x2048 .f32) (ix3 (0 : Fin 1) q k) = xs m c (ix3 b p k) := by
  obtain ⟨e0, -, -, e3, -⟩ := places t
  show V m c main_arg0 (((cfg0.win 0).blk t).view.emb _) = _
  rw [V_main_arg0]
  refine congrArg _ (funext fun a => Fin.ext ?_)
  match a with
  | ⟨0, _⟩ => show win0_0.index t (0 : Fin 3) * 1 + 1 * 0 = b.val; rw [e0, hb]; omega
  | ⟨1, _⟩ => show win0_0.index t (1 : Fin 3) * 256 + 1 * q.val = p.val; rw [e0, hp]; omega
  | ⟨2, _⟩ => show win0_0.index t (2 : Fin 3) * 2048 + 1 * k.val = k.val; rw [e0, e3]; omega

include hp in
theorem y_read : (iblk m c 1 t : Vec Ideal S1x256x2048 .f32) (ix3 (0 : Fin 1) q k) = ys m c (ix3 b p k) := by
  obtain ⟨-, e1, -, e3, -⟩ := places t
  show V m c main_arg1 (((cfg0.win 1).blk t).view.emb _) = _
  rw [V_main_arg1]
  refine congrArg _ (funext fun a => Fin.ext ?_)
  match a with
  | ⟨0, _⟩ => show win0_1.index t (0 : Fin 3) * 1 + 1 * 0 = b.val; rw [e1, hb]; omega
  | ⟨1, _⟩ => show win0_1.index t (1 : Fin 3) * 256 + 1 * q.val = p.val; rw [e1, hp]; omega
  | ⟨2, _⟩ => show win0_1.index t (2 : Fin 3) * 2048 + 1 * k.val = k.val; rw [e1, e3]; omega

theorem gate_read : (iblk m c 2 t : Vec Ideal S1x1x1x2048 .f32) (ix4 (0 : Fin 1) (0 : Fin 1) (0 : Fin 1) k)
    = md m c (ix4 b (2 : Fin 9) (0 : Fin 1) k) := by
  obtain ⟨e0, e1, e2, e3, -⟩ := places_md t
  show V m c main_arg2 (((cfg0.win 2).blk t).view.emb _) = _
  rw [V_main_arg2]
  refine congrArg _ (funext fun a => Fin.ext ?_)
  match a with
  | ⟨0, _⟩ => show win0_2.index t (0 : Fin 4) * 1 + 1 * 0 = b.val; rw [e0, hb]; omega
  | ⟨1, _⟩ => show win0_2.index t (1 : Fin 4) * 1 + 1 * 0 = 2; rw [e1]
  | ⟨2, _⟩ => show win0_2.index t (2 : Fin 4) * 1 + 1 * 0 = 0; rw [e2]
  | ⟨3, _⟩ => show win0_2.index t (3 : Fin 4) * 2048 + 1 * k.val = k.val; rw [e3]; omega

theorem shift_read : (iblk m c 4 t : Vec Ideal S1x1x1x2048 .f32) (ix4 (0 : Fin 1) (0 : Fin 1) (0 : Fin 1) k)
    = md m c (ix4 b (3 : Fin 9) (0 : Fin 1) k) := by
  obtain ⟨-, -, -, -, e0, e1, e2, e3, -⟩ := places_md t
  show V m c main_arg2 (((cfg0.win 4).blk t).view.emb _) = _
  rw [V_main_arg2]
  refine congrArg _ (funext fun a => Fin.ext ?_)
  match a with
  | ⟨0, _⟩ => show win0_4.index t (0 : Fin 4) * 1 + 1 * 0 = b.val; rw [e0, hb]; omega
  | ⟨1, _⟩ => show win0_4.index t (1 : Fin 4) * 1 + 1 * 0 = 3; rw [e1]
  | ⟨2, _⟩ => show win0_4.index t (2 : Fin 4) * 1 + 1 * 0 = 0; rw [e2]
  | ⟨3, _⟩ => show win0_4.index t (3 : Fin 4) * 2048 + 1 * k.val = k.val; rw [e3]; omega

theorem scale_read : (iblk m c 5 t : Vec Ideal S1x1x1x2048 .f32) (ix4 (0 : Fin 1) (0 : Fin 1) (0 : Fin 1) k)
    = md m c (ix4 b (4 : Fin 9) (0 : Fin 1) k) := by
  obtain ⟨-, -, -, -, -, -, -, -, e0, e1, e2, e3⟩ := places_md t
  show V m c main_arg2 (((cfg0.win 5).blk t).view.emb _) = _
  rw [V_main_arg2]
  refine congrArg _ (funext fun a => Fin.ext ?_)
  match a with
  | ⟨0, _⟩ => show win0_5.index t (0 : Fin 4) * 1 + 1 * 0 = b.val; rw [e0, hb]; omega
  | ⟨1, _⟩ => show win0_5.index t (1 : Fin 4) * 1 + 1 * 0 = 4; rw [e1]
  | ⟨2, _⟩ => show win0_5.index t (2 : Fin 4) * 1 + 1 * 0 = 0; rw [e2]
  | ⟨3, _⟩ => show win0_5.index t (3 : Fin 4) * 2048 + 1 * k.val = k.val; rw [e3]; omega

omit hb in
theorem g_read : (iblk m c 3 t : Vec Ideal S1x2048 .f32) (ix2 (0 : Fin 1) k) = gs m c (ix3 (1 : Fin 4) (1 : Fin 3) k) := by
  obtain ⟨-, -, -, -, -, -, e⟩ := places t
  refine Eq.trans ?_ (gain_apply m c k)
  show V m c main_v2 (((cfg0.win 3).blk t).view.emb _) = _
  refine congrArg _ (funext fun a => Fin.ext ?_)
  match a with
  | ⟨0, _⟩ => show win0_3.index t (0 : Fin 2) * 1 + 1 * 0 = 0; rw [e]
  | ⟨1, _⟩ => show win0_3.index t (1 : Fin 2) * 2048 + 1 * k.val = k.val; rw [e]; omega

include hp in
theorem row_read : rowAt (iblk m c 0 t) (iblk m c 1 t) (iblk m c 2 t) q k = updAt (xs m c) (ys m c) (md m c) b p k := by
  unfold rowAt updAt
  rw [x_read m c t b p q k hb hp, y_read m c t b p q k hb hp, gate_read m c t b k hb]

end Blocks

/-! ## The two results -/

theorem flushed6_eq (c : Dev nD) (t : Fin cfg0.N) :
    (dats m 0 c).flushed 6 t = ((cfg0.win 6).blk t).view.read (Elt Ideal) (upd (xs m c) (ys m c) (md m c)) := by
  rw [Cert.MidIdeal.Value.flushed6]
  obtain ⟨-, -, e6, e2, hB, hN, -⟩ := places t
  funext y
  have hy0 : (y 0).val < 1 := (y 0).isLt
  have hy1 : (y 1).val < 256 := (y 1).isLt
  have hy2 : (y 2).val < 2048 := (y 2).isLt
  show out0_6 (iblk m c 0 t) (iblk m c 1 t) (iblk m c 2 t) (iblk m c 3 t) (iblk m c 4 t) (iblk m c 5 t)
      ((cfg0.win 6).xinj (grid0.coords t) y) = upd (xs m c) (ys m c) (md m c) (((cfg0.win 6).blk t).view.emb y)
  rw [show (cfg0.win 6).xinj (grid0.coords t) y = ix3 (0 : Fin 1) (⟨(y 1).val, hy1⟩ : Fin 256) (⟨(y 2).val, hy2⟩ : Fin 2048) from
    funext fun a => Fin.ext (match a with
      | ⟨0, _⟩ => by show (y 0).val = 0; omega
      | ⟨1, _⟩ => rfl
      | ⟨2, _⟩ => rfl)]
  refine (out6_apply _ _ _ _ _ _ _ _).trans ((row_read m c t ⟨win0_7.index t (0 : Fin 3), hB⟩
    ⟨win0_7.index t (1 : Fin 3) * 256 + (y 1).val, by omega⟩ _ _ rfl rfl).trans ?_)
  unfold upd
  congr 1
  · exact Fin.ext (by show win0_7.index t (0 : Fin 3) = win0_6.index t (0 : Fin 3) * 1 + 1 * (y 0).val; rw [e6]; omega)
  · exact Fin.ext (by show win0_7.index t (1 : Fin 3) * 256 + (y 1).val = win0_6.index t (1 : Fin 3) * 256 + 1 * (y 1).val; rw [e6]; omega)
  · exact Fin.ext (by show (y 2).val = win0_6.index t (2 : Fin 3) * 2048 + 1 * (y 2).val; rw [e6, e2]; omega)

theorem flushed7_eq (c : Dev nD) (t : Fin cfg0.N) :
    (dats m 0 c).flushed 7 t = ((cfg0.win 7).blk t).view.read (Elt Ideal) (normed (xs m c) (ys m c) (md m c) (gs m c)) := by
  rw [Cert.MidIdeal.Value.flushed7]
  obtain ⟨-, -, -, e2, hB, hN, -⟩ := places t
  funext y
  have hy0 : (y 0).val < 1 := (y 0).isLt
  have hy1 : (y 1).val < 256 := (y 1).isLt
  have hy2 : (y 2).val < 2048 := (y 2).isLt
  show out0_7 (iblk m c 0 t) (iblk m c 1 t) (iblk m c 2 t) (iblk m c 3 t) (iblk m c 4 t) (iblk m c 5 t)
      ((cfg0.win 7).xinj (grid0.coords t) y) = normed (xs m c) (ys m c) (md m c) (gs m c) (((cfg0.win 7).blk t).view.emb y)
  rw [show (cfg0.win 7).xinj (grid0.coords t) y = ix3 (0 : Fin 1) (⟨(y 1).val, hy1⟩ : Fin 256) (⟨(y 2).val, hy2⟩ : Fin 2048) from
    funext fun a => Fin.ext (match a with
      | ⟨0, _⟩ => by show (y 0).val = 0; omega
      | ⟨1, _⟩ => rfl
      | ⟨2, _⟩ => rfl)]
  refine (out7_apply _ _ _ _ _ _ _ _).trans ?_
  refine Eq.trans (b := normAt (xs m c) (ys m c) (md m c) (gs m c) ⟨win0_7.index t (0 : Fin 3), hB⟩
    ⟨win0_7.index t (1 : Fin 3) * 256 + (y 1).val, by omega⟩ ⟨(y 2).val, hy2⟩) ?_ ?_
  · unfold normAt
    refine congrArg₂ (fun a b : EReal => a + b) (congrArg₂ (fun a b : EReal => a * b) (congrArg₂ (fun a b : EReal => a * b)
      (congrArg₂ (fun a b : EReal => a * b) (row_read m c t _ _ _ _ rfl rfl)
        (congrArg (fun s : EReal => Ideal.rsqrt (Ideal.div s len + eps)) (Finset.sum_congr rfl fun l _ => ?_)))
        (g_read m c t _)) (congrArg (fun s : EReal => one + s) (scale_read m c t _ _ rfl))) (shift_read m c t _ _ rfl)
    exact congrArg₂ (fun a b : EReal => a * b) (row_read m c t _ _ _ l rfl rfl) (row_read m c t _ _ _ l rfl rfl)
  · unfold normed
    congr 1
    · exact Fin.ext (by show win0_7.index t (0 : Fin 3) = win0_7.index t (0 : Fin 3) * 1 + 1 * (y 0).val; omega)
    · exact Fin.ext (by show win0_7.index t (1 : Fin 3) * 256 + (y 1).val = win0_7.index t (1 : Fin 3) * 256 + 1 * (y 1).val; omega)
    · exact Fin.ext (by show (y 2).val = win0_7.index t (2 : Fin 3) * 2048 + 1 * (y 2).val; rw [e2]; omega)

/-- The residual's array after the run. -/
theorem final_x (c : Dev nD) : (dats m 0 c).arrAt 6 cfg0.N = upd (xs m c) (ys m c) (md m c) :=
  (dats m 0 c).arrAt_eq_of_cover 6 _ (fun t _ => flushed6_eq m c t) (fun i => by
    have h0 : (i 0).val < 2 := (i 0).isLt
    have h1 : (i 1).val < 4096 := (i 1).isLt
    have h2 : (i 2).val < 2048 := (i 2).isLt
    obtain ⟨t, hf, -, e0, e1⟩ := onto ⟨(i 0).val, h0⟩ ⟨(i 1).val / 256, by omega⟩
    obtain ⟨-, -, e6, e2, -⟩ := places t
    refine ⟨t, hf, ?_⟩
    show i ∈ ((View.whole main_v3_0).slice (win0_6.rect t)).set
    rw [View.set_slice_whole, Rect.mem_set_unit]
    intro a
    match a with
    | ⟨0, _⟩ => show win0_6.index t (0 : Fin 3) * 1 ≤ (i 0).val ∧ (i 0).val < win0_6.index t (0 : Fin 3) * 1 + 1; rw [e6, e0]; dsimp only; omega
    | ⟨1, _⟩ => show win0_6.index t (1 : Fin 3) * 256 ≤ (i 1).val ∧ (i 1).val < win0_6.index t (1 : Fin 3) * 256 + 256; rw [e6, e1]; dsimp only; omega
    | ⟨2, _⟩ => show win0_6.index t (2 : Fin 3) * 2048 ≤ (i 2).val ∧ (i 2).val < win0_6.index t (2 : Fin 3) * 2048 + 2048; rw [e6, e2]; omega)

/-- The norm's array after the run. -/
theorem final_h (c : Dev nD) : (dats m 0 c).arrAt 7 cfg0.N = normed (xs m c) (ys m c) (md m c) (gs m c) :=
  (dats m 0 c).arrAt_eq_of_cover 7 _ (fun t _ => flushed7_eq m c t) (fun i => by
    have h0 : (i 0).val < 2 := (i 0).isLt
    have h1 : (i 1).val < 4096 := (i 1).isLt
    have h2 : (i 2).val < 2048 := (i 2).isLt
    obtain ⟨t, -, hf, e0, e1⟩ := onto ⟨(i 0).val, h0⟩ ⟨(i 1).val / 256, by omega⟩
    obtain ⟨-, -, -, e2, -⟩ := places t
    refine ⟨t, hf, ?_⟩
    show i ∈ ((View.whole main_v3_1).slice (win0_7.rect t)).set
    rw [View.set_slice_whole, Rect.mem_set_unit]
    intro a
    match a with
    | ⟨0, _⟩ => show win0_7.index t (0 : Fin 3) * 1 ≤ (i 0).val ∧ (i 0).val < win0_7.index t (0 : Fin 3) * 1 + 1; rw [e0]; dsimp only; omega
    | ⟨1, _⟩ => show win0_7.index t (1 : Fin 3) * 256 ≤ (i 1).val ∧ (i 1).val < win0_7.index t (1 : Fin 3) * 256 + 256; rw [e1]; dsimp only; omega
    | ⟨2, _⟩ => show win0_7.index t (2 : Fin 3) * 2048 ≤ (i 2).val ∧ (i 2).val < win0_7.index t (2 : Fin 3) * 2048 + 2048; rw [e2]; omega)

end Cert.MidIdeal.Mine

namespace Cert.MidValue

open Idealize.ShloMosaic Idealize.ShloMosaic.TcCoe Idealize.SL.Sem
open Idealize.ShloMosaic.ValueIdx
open Cert.MidRefIdeal.Read Cert.MidIdeal.Mine
open scoped BigOperators

section Reference

variable (x y : Cert.MidIdeal.S2x4096x2048.Idx → EReal) (md : Cert.MidIdeal.S2x9x1x2048.Idx → EReal)
  (g : Cert.MidIdeal.S4x3x2048.Idx → EReal) (b : Fin 2) (p : Fin 4096) (k : Fin 2048)

/-- The reference's residual at an element. -/
theorem ref_upd : val_main_v6 (F := Ideal) x y md (ix3 b p k) = updAt x y md b p k := by
  rw [val_main_v6_apply, val_main_v5_apply, val_main_v4_apply, val_main_v3_apply, val_main_v2_apply, val_main_cst_apply,
    val_main_v1_apply, val_main_v0_apply]
  unfold updAt
  show (x _ + half * md _ * y _ : EReal) = x _ + half * md _ * y _
  refine congrArg (x _ + ·) (congrArg (fun w : EReal => half * w * y _) (congrArg md (funext fun a => Fin.ext ?_)))
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

theorem ref_squares (j : Cert.MidRefIdeal.S2x4096.Idx) (h0 : (j 0).val = b.val) (h1 : (j 1).val = p.val) :
    val_main_v14 (F := Ideal) x y md j = ∑ l : Fin 2048, updAt x y md b p l * updAt x y md b p l := by
  rw [val_main_v14_apply, val_main_cst_0_apply]
  show (Ideal.ofBits .f32 0x00000000#32 + _ : EReal) = _
  rw [Ideal.ofBits_zero_f32, zero_add]
  refine Finset.sum_congr rfl fun l _ => ?_
  rw [val_main_v13_apply, show idx_main_v14 j l = ix3 b p l from funext fun a => Fin.ext (match a with
    | ⟨0, _⟩ => h0
    | ⟨1, _⟩ => h1
    | ⟨2, _⟩ => rfl), ref_upd x y md b p l]
  rfl

theorem ref_gain : val_main_v24 (F := Ideal) g (ix3 b p k) = g (ix3 (1 : Fin 4) (1 : Fin 3) k) := by
  rw [val_main_v24_apply, val_main_v23_apply, val_main_v8_apply, val_main_v7_apply]
  refine congrArg g (funext fun a => Fin.ext ?_)
  have hk := k.isLt
  match a with
  | ⟨0, _⟩ => rfl
  | ⟨1, _⟩ => rfl
  | ⟨2, _⟩ => first | rfl | (show k.val % 2048 = k.val; omega) | (show 0 + k.val = k.val; omega)

theorem ref_scale : val_main_v28 (F := Ideal) md (ix3 b p k) = (one + md (ix4 b (4 : Fin 9) (0 : Fin 1) k) : EReal) := by
  rw [val_main_v28_apply, val_main_v27_apply, val_main_v26_apply, val_main_cst_3_apply, val_main_v12_apply, val_main_v11_apply]
  refine congrArg (fun s : EReal => one + s) (congrArg md (funext fun a => Fin.ext ?_))
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

theorem ref_shift : val_main_v30 (F := Ideal) md (ix3 b p k) = md (ix4 b (3 : Fin 9) (0 : Fin 1) k) := by
  rw [val_main_v30_apply, val_main_v10_apply, val_main_v9_apply]
  refine congrArg md (funext fun a => Fin.ext ?_)
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

/-- The reference's norm at an element. -/
theorem ref_norm : val_main_v31 (F := Ideal) x y md g (ix3 b p k) = normAt x y md g b p k := by
  rw [val_main_v31_apply, val_main_v29_apply, val_main_v25_apply, val_main_v22_apply, ref_upd, ref_gain, ref_scale, ref_shift,
    val_main_v21_apply, val_main_v20_apply, val_main_v19_apply, val_main_v18_apply, val_main_cst_2_apply, val_main_v17_apply,
    val_main_v16_apply, val_main_cst_1_apply, val_main_v15_apply, ref_squares x y md b p _ rfl rfl]
  rfl

end Reference

/-- The reference's two arrays. -/
theorem ref_x (x y : Cert.MidIdeal.S2x4096x2048.Idx → EReal) (md : Cert.MidIdeal.S2x9x1x2048.Idx → EReal) :
    val_main_v6 (F := Ideal) x y md = upd x y md := by
  funext i
  refine Eq.trans (congrArg _ ?_) (ref_upd x y md ⟨(i 0).val, (i 0).isLt⟩ ⟨(i 1).val, (i 1).isLt⟩ ⟨(i 2).val, (i 2).isLt⟩)
  funext a
  fin_cases a <;> rfl

theorem ref_h (x y : Cert.MidIdeal.S2x4096x2048.Idx → EReal) (md : Cert.MidIdeal.S2x9x1x2048.Idx → EReal)
    (g : Cert.MidIdeal.S4x3x2048.Idx → EReal) : val_main_v31 (F := Ideal) x y md g = normed x y md g := by
  funext i
  refine Eq.trans (congrArg _ ?_) (ref_norm x y md g ⟨(i 0).val, (i 0).isLt⟩ ⟨(i 1).val, (i 1).isLt⟩ ⟨(i 2).val, (i 2).isLt⟩)
  funext a
  fin_cases a <;> rfl

theorem frame_ref : Cert.quiescent_MidRefIdeal := fun m g _ =>
  θ_run_and ((θ_run (Cert.MidRefIdeal.defs (F := Ideal)) _ _).mono (fun _ h c => (h c).2.2) (Cert.MidRefIdeal.Value.run (F := Ideal) m g))
    ((θ_run (Cert.MidRefIdeal.defs (F := Ideal)) _ _).mono (fun r _ => sem_eq_zero_of_no_sems rfl r.2) (Cert.MidRefIdeal.Value.run (F := Ideal) m g))

/-- The kernel and its reference end with the same two arrays. -/
theorem algebraic : Cert.algebraic_MidIdeal_MidRefIdeal := fun m g m' g' _ hargs =>
  ⟨fun c => upd (xs m c) (ys m c) (md m c), fun c => normed (xs m c) (ys m c) (md m c) (gs m c),
    (θ_run (Cert.MidIdeal.defs (F := Ideal)) _ _).mono
      (fun _ h c => ⟨(h c).1.trans (final_x m c), (h c).2.1.trans (final_h m c), (h c).2.2⟩)
      (Cert.MidIdeal.Value.run_blocks (F := Ideal) m g),
    (θ_run (Cert.MidRefIdeal.defs (F := Ideal)) _ _).mono (fun _ h c => ⟨(h c).1.trans (by
        rw [(hargs c).1, (hargs c).2.1, (hargs c).2.2.1]
        exact (val_main_v6_eq (F := Ideal) _ _ _).trans (ref_x _ _ _)), (h c).2.1.trans (by
        rw [(hargs c).1, (hargs c).2.1, (hargs c).2.2.1, (hargs c).2.2.2]
        exact (val_main_v31_eq (F := Ideal) _ _ _ _).trans (ref_h _ _ _ _)), (h c).2.2⟩)
      (Cert.MidRefIdeal.Value.run (F := Ideal) m' g')⟩

end Cert.MidValue

end
-- ==== Proof.MidSValue.lean ====
/-
  The residual after the first feed-forward block of an odd layer and the modulated norm that opens its mixer (sample group), against the reference.
  A grid point takes 8 rows of one sequence; with `u = x + (half * gate) * y` it stores `u`, and
  `u * rsqrt (mean of u² over the row + eps) * gain * (1 + scale) + shift`. Both are functions of the arguments, element by
  element (`updAt`, `normAt`); the blocks tile the two results (`final_x`, `final_h`), and the reference's two arrays
  are the same functions (`ref_x`, `ref_h`).
-/
module

public import proofs.«01_k».proof.Defs
public import proofs.«01_k».proof.Proof.Gen.MidSIdeal
public import proofs.«01_k».proof.Proof.Gen.MidSIdeal.Value
public import proofs.«01_k».proof.Proof.Gen.MidSRefIdeal
public import proofs.«01_k».proof.Proof.Gen.MidSRefIdeal.Run
public import proofs.«01_k».proof.Proof.Gen.MidSRefIdeal.Read
public import Idealize.ShloMosaic.Lib.ValueIdx
public import Idealize.ShloMosaic.Lib.IdealHost
public import Idealize.ShloMosaic.Lib.Claim
public import Idealize.ShloMosaic.Lib.Quiescent
public import Idealize.ShloMosaic.Lib.StableHlo.Run

@[expose] public section

noncomputable section

namespace Cert.MidSIdeal.Mine

open Cert.MidSIdeal Cert.MidSIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The four constants, as the programs write them: one half, the row length, the norm's eps and one. -/
abbrev half : EReal := Ideal.ofBits .f32 0x3F000000#32
abbrev len : EReal := Ideal.ofBits .f32 0x45000000#32
abbrev eps : EReal := Ideal.ofBits .f32 0x358637BD#32
abbrev one : EReal := Ideal.ofBits .f32 0x3F800000#32

/-- The residual at an element: the gate is modulation row 2 of the sequence. -/
def updAt (x y : S8x8x2048.Idx → EReal) (md : S8x9x1x2048.Idx → EReal) (b : Fin 8) (p : Fin 8) (k : Fin 2048) : EReal :=
  x (ix3 b p k) + half * md (ix4 b (2 : Fin 9) (0 : Fin 1) k) * y (ix3 b p k)

/-- The modulated norm at an element: gain row (1, 1), scale row 4, shift row 3. -/
def normAt (x y : S8x8x2048.Idx → EReal) (md : S8x9x1x2048.Idx → EReal) (g : S4x3x2048.Idx → EReal)
    (b : Fin 8) (p : Fin 8) (k : Fin 2048) : EReal :=
  updAt x y md b p k * Ideal.rsqrt (Ideal.div (∑ l : Fin 2048, updAt x y md b p l * updAt x y md b p l) len + eps)
    * g (ix3 (1 : Fin 4) (1 : Fin 3) k) * (one + md (ix4 b (4 : Fin 9) (0 : Fin 1) k)) + md (ix4 b (3 : Fin 9) (0 : Fin 1) k)

/-- The two arrays. -/
def upd (x y : S8x8x2048.Idx → EReal) (md : S8x9x1x2048.Idx → EReal) : S8x8x2048.Idx → EReal := fun i =>
  updAt x y md ⟨(i 0).val, (i 0).isLt⟩ ⟨(i 1).val, (i 1).isLt⟩ ⟨(i 2).val, (i 2).isLt⟩

def normed (x y : S8x8x2048.Idx → EReal) (md : S8x9x1x2048.Idx → EReal) (g : S4x3x2048.Idx → EReal) :
    S8x8x2048.Idx → EReal := fun i =>
  normAt x y md g ⟨(i 0).val, (i 0).isLt⟩ ⟨(i 1).val, (i 1).isLt⟩ ⟨(i 2).val, (i 2).isLt⟩

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## What one block computes -/

/-- The residual of a block's row `q` at lane `k`. -/
def rowAt (x0 x1 : Vec Ideal S1x8x2048 .f32) (x2 : Vec Ideal S1x1x1x2048 .f32) (q : Fin 8) (k : Fin 2048) : EReal :=
  x0 (ix3 (0 : Fin 1) q k) + half * x2 (ix4 (0 : Fin 1) (0 : Fin 1) (0 : Fin 1) k) * x1 (ix3 (0 : Fin 1) q k)

/-- The block's residual as the vector the body squares and sums. -/
abbrev rows (x0 x1 : Vec Ideal S1x8x2048 .f32) (x2 : Vec Ideal S1x1x1x2048 .f32) : FVec Ideal S8x2048 .f32 :=
  addf (shapeCast S8x2048 x0 shapeCasts_S1x8x2048_S8x2048)
    (mulf (broadcastTo S8x2048 (mulf (broadcast S1x2048 (Scalar.ofBits .f32 0x3F000000#32))
      (shapeCast S1x2048 x2 shapeCasts_S1x1x1x2048_S1x2048)) broadcasts_S1x2048_S8x2048)
      (shapeCast S8x2048 x1 shapeCasts_S1x8x2048_S8x2048))

theorem drop_apply (x : Vec Ideal S1x8x2048 .f32) (q : Fin 8) (k : Fin 2048) :
    shapeCast S8x2048 x shapeCasts_S1x8x2048_S8x2048 (ix2 q k) = x (ix3 (0 : Fin 1) q k) :=
  shapeCast_apply _ shapeCasts_S1x8x2048_S8x2048 _ _
    (by rewrite [Shape.rowMajor_val_three, Shape.rowMajor_val_two]
        show (0 * 8 + q.val) * 2048 + k.val = q.val * 2048 + k.val
        omega)

theorem gate_apply (x : Vec Ideal S1x1x1x2048 .f32) (k : Fin 2048) :
    shapeCast S1x2048 x shapeCasts_S1x1x1x2048_S1x2048 (ix2 (0 : Fin 1) k) = x (ix4 (0 : Fin 1) (0 : Fin 1) (0 : Fin 1) k) :=
  shapeCast_apply _ shapeCasts_S1x1x1x2048_S1x2048 _ _
    (by rewrite [Shape.rowMajor_val_four, Shape.rowMajor_val_two]
        show ((0 * 1 + 0) * 1 + 0) * 2048 + k.val = 0 * 2048 + k.val
        omega)

theorem rows_apply (x0 x1 : Vec Ideal S1x8x2048 .f32) (x2 : Vec Ideal S1x1x1x2048 .f32) (q : Fin 8) (k : Fin 2048) :
    rows x0 x1 x2 (ix2 q k) = rowAt x0 x1 x2 q k := by
  unfold rowAt
  refine congrArg₂ (fun a b : EReal => a + b) (drop_apply x0 q k) (congrArg₂ (fun a b : EReal => a * b) ?_ (drop_apply x1 q k))
  refine (broadcastTo_apply _ broadcasts_S1x2048_S8x2048 (ix2 q k) (ix2 (0 : Fin 1) k) (fun a => match a with
    | ⟨0, _⟩ => by show 0 = (if (1 : Nat) = 1 then 0 else q.val); rw [if_pos rfl]
    | ⟨1, _⟩ => by show k.val = (if (2048 : Nat) = 1 then 0 else k.val); rw [if_neg (by decide)])).trans ?_
  exact congrArg (half * ·) (gate_apply x2 k)

theorem out6_apply (x0 x1 : Vec Ideal S1x8x2048 .f32) (x2 : Vec Ideal S1x1x1x2048 .f32) (x3 : Vec Ideal S1x2048 .f32)
    (x4 x5 : Vec Ideal S1x1x1x2048 .f32) (q : Fin 8) (k : Fin 2048) :
    out0_6 x0 x1 x2 x3 x4 x5 (ix3 (0 : Fin 1) q k) = rowAt x0 x1 x2 q k := by
  unfold out0_6
  rw [View.ld_unit_zero (S := S1x8x2048) z3, View.ld_unit_zero (S := S1x8x2048) z3, View.ld_unit_zero (S := S1x1x1x2048) z4]
  refine (Value.canon6_eq x0 x2 x1 _).trans ?_
  unfold rowAt
  refine congrArg₂ (fun a b : EReal => a + b) (congrArg x0 ?_) (congrArg₂ (fun a b : EReal => a * b)
    (congrArg (half * ·) (congrArg x2 ?_)) (congrArg x1 ?_))
  · funext a; fin_cases a <;> rfl
  · funext a; fin_cases a <;> rfl
  · funext a; fin_cases a <;> rfl

/-- The sum of squares of a block's row. -/
theorem squares (x0 x1 : Vec Ideal S1x8x2048 .f32) (x2 : Vec Ideal S1x1x1x2048 .f32) (q : Fin 8) (j : S8.Idx)
    (hj : (j 0).val = q.val) :
    multiReduction .add [1] S8 (mulf (rows x0 x1 x2) (rows x0 x1 x2)) 0x00000000#32 reduces_S8x2048_S8 (.inl rfl) rfl j
      = ∑ l : Fin 2048, rowAt x0 x1 x2 q l * rowAt x0 x1 x2 q l := by
  refine (Ideal.multiReduction_add_single (mulf (rows x0 x1 x2) (rows x0 x1 x2)) _ reduces_S8x2048_S8 (.inl rfl) rfl j).trans ?_
  refine Finset.sum_congr rfl fun l _ => ?_
  rw [show reduces_S8x2048_S8.lift j l = ix2 q l from funext fun a => Fin.ext (by
    match a with | ⟨0, _⟩ => exact hj | ⟨1, _⟩ => rfl)]
  exact congrArg₂ (fun a b : EReal => a * b) (rows_apply x0 x1 x2 q l) (rows_apply x0 x1 x2 q l)

theorem out7_apply (x0 x1 : Vec Ideal S1x8x2048 .f32) (x2 : Vec Ideal S1x1x1x2048 .f32) (x3 : Vec Ideal S1x2048 .f32)
    (x4 x5 : Vec Ideal S1x1x1x2048 .f32) (q : Fin 8) (k : Fin 2048) :
    out0_7 x0 x1 x2 x3 x4 x5 (ix3 (0 : Fin 1) q k)
      = (rowAt x0 x1 x2 q k * Ideal.rsqrt (Ideal.div (∑ l : Fin 2048, rowAt x0 x1 x2 q l * rowAt x0 x1 x2 q l) len + eps)
        * x3 (ix2 (0 : Fin 1) k) * (one + x5 (ix4 (0 : Fin 1) (0 : Fin 1) (0 : Fin 1) k))
        + x4 (ix4 (0 : Fin 1) (0 : Fin 1) (0 : Fin 1) k) : EReal) := by
  unfold out0_7
  rw [View.ld_unit_zero (S := S1x8x2048) z3, View.ld_unit_zero (S := S1x8x2048) z3, View.ld_unit_zero (S := S1x1x1x2048) z4,
    View.ld_unit_zero (S := S1x2048) z2, View.ld_unit_zero (S := S1x1x1x2048) z4, View.ld_unit_zero (S := S1x1x1x2048) z4]
  refine (Value.canon7_eq x0 x2 x1 x3 x5 x4 _).trans ?_
  refine congrArg₂ (fun a b : EReal => a + b) (congrArg₂ (fun a b : EReal => a * b) (congrArg₂ (fun a b : EReal => a * b)
    (congrArg₂ (fun a b : EReal => a * b) ?_ (congrArg (fun s : EReal => Ideal.rsqrt (Ideal.div s len + eps)) ?_))
      (congrArg x3 ?_)) (congrArg (fun s : EReal => one + s) (congrArg x5 ?_))) (congrArg x4 ?_)
  · unfold rowAt
    refine congrArg₂ (fun a b : EReal => a + b) (congrArg x0 ?_) (congrArg₂ (fun a b : EReal => a * b)
      (congrArg (half * ·) (congrArg x2 ?_)) (congrArg x1 ?_))
    · funext a; fin_cases a <;> rfl
    · funext a; fin_cases a <;> rfl
    · funext a; fin_cases a <;> rfl
  · exact squares x0 x1 x2 q _ rfl
  · funext a; fin_cases a <;> rfl
  · funext a; fin_cases a <;> rfl
  · funext a; fin_cases a <;> rfl

/-! ## Where the windows stand, and what their blocks read -/

/-- Rows with the outputs' rows; the three modulation rows with their sequence; the gain at its only block. -/
theorem places : ∀ t : Fin cfg0.N, (∀ a : Fin 3, win0_0.index t a = win0_7.index t a)
    ∧ (∀ a : Fin 3, win0_1.index t a = win0_7.index t a) ∧ (∀ a : Fin 3, win0_6.index t a = win0_7.index t a)
    ∧ win0_7.index t (2 : Fin 3) = 0 ∧ win0_7.index t (0 : Fin 3) < 8 ∧ win0_7.index t (1 : Fin 3) < 1
    ∧ (∀ a : Fin 2, win0_3.index t a = 0) :=
  (by decide +kernel : ∀ t : Fin grid0.N, _)

theorem places_md : ∀ t : Fin cfg0.N,
    win0_2.index t (0 : Fin 4) = win0_7.index t (0 : Fin 3) ∧ win0_2.index t (1 : Fin 4) = 2
    ∧ win0_2.index t (2 : Fin 4) = 0 ∧ win0_2.index t (3 : Fin 4) = 0
    ∧ win0_4.index t (0 : Fin 4) = win0_7.index t (0 : Fin 3) ∧ win0_4.index t (1 : Fin 4) = 3
    ∧ win0_4.index t (2 : Fin 4) = 0 ∧ win0_4.index t (3 : Fin 4) = 0
    ∧ win0_5.index t (0 : Fin 4) = win0_7.index t (0 : Fin 3) ∧ win0_5.index t (1 : Fin 4) = 4
    ∧ win0_5.index t (2 : Fin 4) = 0 ∧ win0_5.index t (3 : Fin 4) = 0 :=
  (by decide +kernel : ∀ t : Fin grid0.N, _)

/-- Every block of each result is some point's, and that point writes it back. -/
theorem onto : ∀ (p : Fin 8) (q : Fin 1), ∃ t : Fin cfg0.N, (cfg0.win 6).flush t = true ∧ (cfg0.win 7).flush t = true
    ∧ win0_7.index t (0 : Fin 3) = p.val ∧ win0_7.index t (1 : Fin 3) = q.val :=
  (by decide +kernel : ∀ (p : Fin 8) (q : Fin 1), ∃ t : Fin grid0.N, win0_6.flush t = true ∧ win0_7.flush t = true
    ∧ win0_7.index t (0 : Fin 3) = p.val ∧ win0_7.index t (1 : Fin 3) = q.val)

/-- The arguments, as arrays of reals. -/
abbrev xs (c : Dev nD) : S8x8x2048.Idx → EReal := m ((c : Thread nD τ).loc main_arg0)
abbrev ys (c : Dev nD) : S8x8x2048.Idx → EReal := m ((c : Thread nD τ).loc main_arg1)
abbrev md (c : Dev nD) : S8x9x1x2048.Idx → EReal := m ((c : Thread nD τ).loc main_arg2)
abbrev gs (c : Dev nD) : S4x3x2048.Idx → EReal := m ((c : Thread nD τ).loc main_arg3)

/-- The host's gain row. -/
theorem gain_eq (c : Dev nD) : V m c main_v2 = shapeCast S1x2048 (shapeCast S2048 (extractStridedSlice S1x1x2048 ![1, 1, 0]
      (m ((c : Thread nD τ).loc main_arg3)) slices_S4x3x2048_S1x1x2048_1_1_0) shapeCasts_S1x1x2048_S2048) shapeCasts_S2048_S1x2048 := by
  unfold V
  after_results <;> rfl

theorem gain_apply (c : Dev nD) (k : Fin 2048) :
    (V m c main_v2 : Vec Ideal S1x2048 .f32) (ix2 (0 : Fin 1) k) = gs m c (ix3 (1 : Fin 4) (1 : Fin 3) k) := by
  rw [gain_eq]
  refine (shapeCast_apply _ shapeCasts_S2048_S1x2048 _ (ix1 k)
    (by rewrite [Shape.rowMajor_val_one, Shape.rowMajor_val_two]; show k.val = 0 * 2048 + k.val; omega)).trans ?_
  refine (shapeCast_apply _ shapeCasts_S1x1x2048_S2048 _ (ix3 (0 : Fin 1) (0 : Fin 1) k)
    (by rewrite [Shape.rowMajor_val_one, Shape.rowMajor_val_three]; show (0 * 1 + 0) * 2048 + k.val = k.val; omega)).trans ?_
  exact extractStridedSlice_apply _ _ slices_S4x3x2048_S1x1x2048_1_1_0 _ (ix3 (1 : Fin 4) (1 : Fin 3) k) (fun a => match a with
    | ⟨0, _⟩ => rfl
    | ⟨1, _⟩ => rfl
    | ⟨2, _⟩ => by show k.val = 0 + k.val; omega)

section Blocks

variable (c : Dev nD) (t : Fin cfg0.N) (b : Fin 8) (p : Fin 8) (q : Fin 8) (k : Fin 2048)
  (hb : b.val = win0_7.index t (0 : Fin 3)) (hp : p.val = win0_7.index t (1 : Fin 3) * 8 + q.val)
include hb

include hp in
theorem x_read : (iblk m c 0 t : Vec Ideal S1x8x2048 .f32) (ix3 (0 : Fin 1) q k) = xs m c (ix3 b p k) := by
  obtain ⟨e0, -, -, e3, -⟩ := places t
  show V m c main_arg0 (((cfg0.win 0).blk t).view.emb _) = _
  rw [V_main_arg0]
  refine congrArg _ (funext fun a => Fin.ext ?_)
  match a with
  | ⟨0, _⟩ => show win0_0.index t (0 : Fin 3) * 1 + 1 * 0 = b.val; rw [e0, hb]; omega
  | ⟨1, _⟩ => show win0_0.index t (1 : Fin 3) * 8 + 1 * q.val = p.val; rw [e0, hp]; omega
  | ⟨2, _⟩ => show win0_0.index t (2 : Fin 3) * 2048 + 1 * k.val = k.val; rw [e0, e3]; omega

include hp in
theorem y_read : (iblk m c 1 t : Vec Ideal S1x8x2048 .f32) (ix3 (0 : Fin 1) q k) = ys m c (ix3 b p k) := by
  obtain ⟨-, e1, -, e3, -⟩ := places t
  show V m c main_arg1 (((cfg0.win 1).blk t).view.emb _) = _
  rw [V_main_arg1]
  refine congrArg _ (funext fun a => Fin.ext ?_)
  match a with
  | ⟨0, _⟩ => show win0_1.index t (0 : Fin 3) * 1 + 1 * 0 = b.val; rw [e1, hb]; omega
  | ⟨1, _⟩ => show win0_1.index t (1 : Fin 3) * 8 + 1 * q.val = p.val; rw [e1, hp]; omega
  | ⟨2, _⟩ => show win0_1.index t (2 : Fin 3) * 2048 + 1 * k.val = k.val; rw [e1, e3]; omega

theorem gate_read : (iblk m c 2 t : Vec Ideal S1x1x1x2048 .f32) (ix4 (0 : Fin 1) (0 : Fin 1) (0 : Fin 1) k)
    = md m c (ix4 b (2 : Fin 9) (0 : Fin 1) k) := by
  obtain ⟨e0, e1, e2, e3, -⟩ := places_md t
  show V m c main_arg2 (((cfg0.win 2).blk t).view.emb _) = _
  rw [V_main_arg2]
  refine congrArg _ (funext fun a => Fin.ext ?_)
  match a with
  | ⟨0, _⟩ => show win0_2.index t (0 : Fin 4) * 1 + 1 * 0 = b.val; rw [e0, hb]; omega
  | ⟨1, _⟩ => show win0_2.index t (1 : Fin 4) * 1 + 1 * 0 = 2; rw [e1]
  | ⟨2, _⟩ => show win0_2.index t (2 : Fin 4) * 1 + 1 * 0 = 0; rw [e2]
  | ⟨3, _⟩ => show win0_2.index t (3 : Fin 4) * 2048 + 1 * k.val = k.val; rw [e3]; omega

theorem shift_read : (iblk m c 4 t : Vec Ideal S1x1x1x2048 .f32) (ix4 (0 : Fin 1) (0 : Fin 1) (0 : Fin 1) k)
    = md m c (ix4 b (3 : Fin 9) (0 : Fin 1) k) := by
  obtain ⟨-, -, -, -, e0, e1, e2, e3, -⟩ := places_md t
  show V m c main_arg2 (((cfg0.win 4).blk t).view.emb _) = _
  rw [V_main_arg2]
  refine congrArg _ (funext fun a => Fin.ext ?_)
  match a with
  | ⟨0, _⟩ => show win0_4.index t (0 : Fin 4) * 1 + 1 * 0 = b.val; rw [e0, hb]; omega
  | ⟨1, _⟩ => show win0_4.index t (1 : Fin 4) * 1 + 1 * 0 = 3; rw [e1]
  | ⟨2, _⟩ => show win0_4.index t (2 : Fin 4) * 1 + 1 * 0 = 0; rw [e2]
  | ⟨3, _⟩ => show win0_4.index t (3 : Fin 4) * 2048 + 1 * k.val = k.val; rw [e3]; omega

theorem scale_read : (iblk m c 5 t : Vec Ideal S1x1x1x2048 .f32) (ix4 (0 : Fin 1) (0 : Fin 1) (0 : Fin 1) k)
    = md m c (ix4 b (4 : Fin 9) (0 : Fin 1) k) := by
  obtain ⟨-, -, -, -, -, -, -, -, e0, e1, e2, e3⟩ := places_md t
  show V m c main_arg2 (((cfg0.win 5).blk t).view.emb _) = _
  rw [V_main_arg2]
  refine congrArg _ (funext fun a => Fin.ext ?_)
  match a with
  | ⟨0, _⟩ => show win0_5.index t (0 : Fin 4) * 1 + 1 * 0 = b.val; rw [e0, hb]; omega
  | ⟨1, _⟩ => show win0_5.index t (1 : Fin 4) * 1 + 1 * 0 = 4; rw [e1]
  | ⟨2, _⟩ => show win0_5.index t (2 : Fin 4) * 1 + 1 * 0 = 0; rw [e2]
  | ⟨3, _⟩ => show win0_5.index t (3 : Fin 4) * 2048 + 1 * k.val = k.val; rw [e3]; omega

omit hb in
theorem g_read : (iblk m c 3 t : Vec Ideal S1x2048 .f32) (ix2 (0 : Fin 1) k) = gs m c (ix3 (1 : Fin 4) (1 : Fin 3) k) := by
  obtain ⟨-, -, -, -, -, -, e⟩ := places t
  refine Eq.trans ?_ (gain_apply m c k)
  show V m c main_v2 (((cfg0.win 3).blk t).view.emb _) = _
  refine congrArg _ (funext fun a => Fin.ext ?_)
  match a with
  | ⟨0, _⟩ => show win0_3.index t (0 : Fin 2) * 1 + 1 * 0 = 0; rw [e]
  | ⟨1, _⟩ => show win0_3.index t (1 : Fin 2) * 2048 + 1 * k.val = k.val; rw [e]; omega

include hp in
theorem row_read : rowAt (iblk m c 0 t) (iblk m c 1 t) (iblk m c 2 t) q k = updAt (xs m c) (ys m c) (md m c) b p k := by
  unfold rowAt updAt
  rw [x_read m c t b p q k hb hp, y_read m c t b p q k hb hp, gate_read m c t b k hb]

end Blocks

/-! ## The two results -/

theorem flushed6_eq (c : Dev nD) (t : Fin cfg0.N) :
    (dats m 0 c).flushed 6 t = ((cfg0.win 6).blk t).view.read (Elt Ideal) (upd (xs m c) (ys m c) (md m c)) := by
  rw [Cert.MidSIdeal.Value.flushed6]
  obtain ⟨-, -, e6, e2, hB, hN, -⟩ := places t
  funext y
  have hy0 : (y 0).val < 1 := (y 0).isLt
  have hy1 : (y 1).val < 8 := (y 1).isLt
  have hy2 : (y 2).val < 2048 := (y 2).isLt
  show out0_6 (iblk m c 0 t) (iblk m c 1 t) (iblk m c 2 t) (iblk m c 3 t) (iblk m c 4 t) (iblk m c 5 t)
      ((cfg0.win 6).xinj (grid0.coords t) y) = upd (xs m c) (ys m c) (md m c) (((cfg0.win 6).blk t).view.emb y)
  rw [show (cfg0.win 6).xinj (grid0.coords t) y = ix3 (0 : Fin 1) (⟨(y 1).val, hy1⟩ : Fin 8) (⟨(y 2).val, hy2⟩ : Fin 2048) from
    funext fun a => Fin.ext (match a with
      | ⟨0, _⟩ => by show (y 0).val = 0; omega
      | ⟨1, _⟩ => rfl
      | ⟨2, _⟩ => rfl)]
  refine (out6_apply _ _ _ _ _ _ _ _).trans ((row_read m c t ⟨win0_7.index t (0 : Fin 3), hB⟩
    ⟨win0_7.index t (1 : Fin 3) * 8 + (y 1).val, by omega⟩ _ _ rfl rfl).trans ?_)
  unfold upd
  congr 1
  · exact Fin.ext (by show win0_7.index t (0 : Fin 3) = win0_6.index t (0 : Fin 3) * 1 + 1 * (y 0).val; rw [e6]; omega)
  · exact Fin.ext (by show win0_7.index t (1 : Fin 3) * 8 + (y 1).val = win0_6.index t (1 : Fin 3) * 8 + 1 * (y 1).val; rw [e6]; omega)
  · exact Fin.ext (by show (y 2).val = win0_6.index t (2 : Fin 3) * 2048 + 1 * (y 2).val; rw [e6, e2]; omega)

theorem flushed7_eq (c : Dev nD) (t : Fin cfg0.N) :
    (dats m 0 c).flushed 7 t = ((cfg0.win 7).blk t).view.read (Elt Ideal) (normed (xs m c) (ys m c) (md m c) (gs m c)) := by
  rw [Cert.MidSIdeal.Value.flushed7]
  obtain ⟨-, -, -, e2, hB, hN, -⟩ := places t
  funext y
  have hy0 : (y 0).val < 1 := (y 0).isLt
  have hy1 : (y 1).val < 8 := (y 1).isLt
  have hy2 : (y 2).val < 2048 := (y 2).isLt
  show out0_7 (iblk m c 0 t) (iblk m c 1 t) (iblk m c 2 t) (iblk m c 3 t) (iblk m c 4 t) (iblk m c 5 t)
      ((cfg0.win 7).xinj (grid0.coords t) y) = normed (xs m c) (ys m c) (md m c) (gs m c) (((cfg0.win 7).blk t).view.emb y)
  rw [show (cfg0.win 7).xinj (grid0.coords t) y = ix3 (0 : Fin 1) (⟨(y 1).val, hy1⟩ : Fin 8) (⟨(y 2).val, hy2⟩ : Fin 2048) from
    funext fun a => Fin.ext (match a with
      | ⟨0, _⟩ => by show (y 0).val = 0; omega
      | ⟨1, _⟩ => rfl
      | ⟨2, _⟩ => rfl)]
  refine (out7_apply _ _ _ _ _ _ _ _).trans ?_
  refine Eq.trans (b := normAt (xs m c) (ys m c) (md m c) (gs m c) ⟨win0_7.index t (0 : Fin 3), hB⟩
    ⟨win0_7.index t (1 : Fin 3) * 8 + (y 1).val, by omega⟩ ⟨(y 2).val, hy2⟩) ?_ ?_
  · unfold normAt
    refine congrArg₂ (fun a b : EReal => a + b) (congrArg₂ (fun a b : EReal => a * b) (congrArg₂ (fun a b : EReal => a * b)
      (congrArg₂ (fun a b : EReal => a * b) (row_read m c t _ _ _ _ rfl rfl)
        (congrArg (fun s : EReal => Ideal.rsqrt (Ideal.div s len + eps)) (Finset.sum_congr rfl fun l _ => ?_)))
        (g_read m c t _)) (congrArg (fun s : EReal => one + s) (scale_read m c t _ _ rfl))) (shift_read m c t _ _ rfl)
    exact congrArg₂ (fun a b : EReal => a * b) (row_read m c t _ _ _ l rfl rfl) (row_read m c t _ _ _ l rfl rfl)
  · unfold normed
    congr 1
    · exact Fin.ext (by show win0_7.index t (0 : Fin 3) = win0_7.index t (0 : Fin 3) * 1 + 1 * (y 0).val; omega)
    · exact Fin.ext (by show win0_7.index t (1 : Fin 3) * 8 + (y 1).val = win0_7.index t (1 : Fin 3) * 8 + 1 * (y 1).val; omega)
    · exact Fin.ext (by show (y 2).val = win0_7.index t (2 : Fin 3) * 2048 + 1 * (y 2).val; rw [e2]; omega)

/-- The residual's array after the run. -/
theorem final_x (c : Dev nD) : (dats m 0 c).arrAt 6 cfg0.N = upd (xs m c) (ys m c) (md m c) :=
  (dats m 0 c).arrAt_eq_of_cover 6 _ (fun t _ => flushed6_eq m c t) (fun i => by
    have h0 : (i 0).val < 8 := (i 0).isLt
    have h1 : (i 1).val < 8 := (i 1).isLt
    have h2 : (i 2).val < 2048 := (i 2).isLt
    obtain ⟨t, hf, -, e0, e1⟩ := onto ⟨(i 0).val, h0⟩ ⟨(i 1).val / 8, by omega⟩
    obtain ⟨-, -, e6, e2, -⟩ := places t
    refine ⟨t, hf, ?_⟩
    show i ∈ ((View.whole main_v3_0).slice (win0_6.rect t)).set
    rw [View.set_slice_whole, Rect.mem_set_unit]
    intro a
    match a with
    | ⟨0, _⟩ => show win0_6.index t (0 : Fin 3) * 1 ≤ (i 0).val ∧ (i 0).val < win0_6.index t (0 : Fin 3) * 1 + 1; rw [e6, e0]; dsimp only; omega
    | ⟨1, _⟩ => show win0_6.index t (1 : Fin 3) * 8 ≤ (i 1).val ∧ (i 1).val < win0_6.index t (1 : Fin 3) * 8 + 8; rw [e6, e1]; dsimp only; omega
    | ⟨2, _⟩ => show win0_6.index t (2 : Fin 3) * 2048 ≤ (i 2).val ∧ (i 2).val < win0_6.index t (2 : Fin 3) * 2048 + 2048; rw [e6, e2]; omega)

/-- The norm's array after the run. -/
theorem final_h (c : Dev nD) : (dats m 0 c).arrAt 7 cfg0.N = normed (xs m c) (ys m c) (md m c) (gs m c) :=
  (dats m 0 c).arrAt_eq_of_cover 7 _ (fun t _ => flushed7_eq m c t) (fun i => by
    have h0 : (i 0).val < 8 := (i 0).isLt
    have h1 : (i 1).val < 8 := (i 1).isLt
    have h2 : (i 2).val < 2048 := (i 2).isLt
    obtain ⟨t, -, hf, e0, e1⟩ := onto ⟨(i 0).val, h0⟩ ⟨(i 1).val / 8, by omega⟩
    obtain ⟨-, -, -, e2, -⟩ := places t
    refine ⟨t, hf, ?_⟩
    show i ∈ ((View.whole main_v3_1).slice (win0_7.rect t)).set
    rw [View.set_slice_whole, Rect.mem_set_unit]
    intro a
    match a with
    | ⟨0, _⟩ => show win0_7.index t (0 : Fin 3) * 1 ≤ (i 0).val ∧ (i 0).val < win0_7.index t (0 : Fin 3) * 1 + 1; rw [e0]; dsimp only; omega
    | ⟨1, _⟩ => show win0_7.index t (1 : Fin 3) * 8 ≤ (i 1).val ∧ (i 1).val < win0_7.index t (1 : Fin 3) * 8 + 8; rw [e1]; dsimp only; omega
    | ⟨2, _⟩ => show win0_7.index t (2 : Fin 3) * 2048 ≤ (i 2).val ∧ (i 2).val < win0_7.index t (2 : Fin 3) * 2048 + 2048; rw [e2]; omega)

end Cert.MidSIdeal.Mine

namespace Cert.MidSValue

open Idealize.ShloMosaic Idealize.ShloMosaic.TcCoe Idealize.SL.Sem
open Idealize.ShloMosaic.ValueIdx
open Cert.MidSRefIdeal.Read Cert.MidSIdeal.Mine
open scoped BigOperators

section Reference

variable (x y : Cert.MidSIdeal.S8x8x2048.Idx → EReal) (md : Cert.MidSIdeal.S8x9x1x2048.Idx → EReal)
  (g : Cert.MidSIdeal.S4x3x2048.Idx → EReal) (b : Fin 8) (p : Fin 8) (k : Fin 2048)

/-- The reference's residual at an element. -/
theorem ref_upd : val_main_v6 (F := Ideal) x y md (ix3 b p k) = updAt x y md b p k := by
  rw [val_main_v6_apply, val_main_v5_apply, val_main_v4_apply, val_main_v3_apply, val_main_v2_apply, val_main_cst_apply,
    val_main_v1_apply, val_main_v0_apply]
  unfold updAt
  show (x _ + half * md _ * y _ : EReal) = x _ + half * md _ * y _
  refine congrArg (x _ + ·) (congrArg (fun w : EReal => half * w * y _) (congrArg md (funext fun a => Fin.ext ?_)))
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

theorem ref_squares (j : Cert.MidSRefIdeal.S8x8.Idx) (h0 : (j 0).val = b.val) (h1 : (j 1).val = p.val) :
    val_main_v14 (F := Ideal) x y md j = ∑ l : Fin 2048, updAt x y md b p l * updAt x y md b p l := by
  rw [val_main_v14_apply, val_main_cst_0_apply]
  show (Ideal.ofBits .f32 0x00000000#32 + _ : EReal) = _
  rw [Ideal.ofBits_zero_f32, zero_add]
  refine Finset.sum_congr rfl fun l _ => ?_
  rw [val_main_v13_apply, show idx_main_v14 j l = ix3 b p l from funext fun a => Fin.ext (match a with
    | ⟨0, _⟩ => h0
    | ⟨1, _⟩ => h1
    | ⟨2, _⟩ => rfl), ref_upd x y md b p l]
  rfl

theorem ref_gain : val_main_v24 (F := Ideal) g (ix3 b p k) = g (ix3 (1 : Fin 4) (1 : Fin 3) k) := by
  rw [val_main_v24_apply, val_main_v23_apply, val_main_v8_apply, val_main_v7_apply]
  refine congrArg g (funext fun a => Fin.ext ?_)
  have hk := k.isLt
  match a with
  | ⟨0, _⟩ => rfl
  | ⟨1, _⟩ => rfl
  | ⟨2, _⟩ => first | rfl | (show k.val % 2048 = k.val; omega) | (show 0 + k.val = k.val; omega)

theorem ref_scale : val_main_v28 (F := Ideal) md (ix3 b p k) = (one + md (ix4 b (4 : Fin 9) (0 : Fin 1) k) : EReal) := by
  rw [val_main_v28_apply, val_main_v27_apply, val_main_v26_apply, val_main_cst_3_apply, val_main_v12_apply, val_main_v11_apply]
  refine congrArg (fun s : EReal => one + s) (congrArg md (funext fun a => Fin.ext ?_))
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

theorem ref_shift : val_main_v30 (F := Ideal) md (ix3 b p k) = md (ix4 b (3 : Fin 9) (0 : Fin 1) k) := by
  rw [val_main_v30_apply, val_main_v10_apply, val_main_v9_apply]
  refine congrArg md (funext fun a => Fin.ext ?_)
  have hb := b.isLt
  have hk := k.isLt
  match a with
  | ⟨0, _⟩ => show ((b.val * 1 + 0) * 2048 + k.val) / 2048 = b.val; omega
  | ⟨1, _⟩ => rfl
  | ⟨2, _⟩ => rfl
  | ⟨3, _⟩ => show ((b.val * 1 + 0) * 2048 + k.val) % 2048 = k.val; omega

/-- The reference's norm at an element. -/
theorem ref_norm : val_main_v31 (F := Ideal) x y md g (ix3 b p k) = normAt x y md g b p k := by
  rw [val_main_v31_apply, val_main_v29_apply, val_main_v25_apply, val_main_v22_apply, ref_upd, ref_gain, ref_scale, ref_shift,
    val_main_v21_apply, val_main_v20_apply, val_main_v19_apply, val_main_v18_apply, val_main_cst_2_apply, val_main_v17_apply,
    val_main_v16_apply, val_main_cst_1_apply, val_main_v15_apply, ref_squares x y md b p _ rfl rfl]
  rfl

end Reference

/-- The reference's two arrays. -/
theorem ref_x (x y : Cert.MidSIdeal.S8x8x2048.Idx → EReal) (md : Cert.MidSIdeal.S8x9x1x2048.Idx → EReal) :
    val_main_v6 (F := Ideal) x y md = upd x y md := by
  funext i
  refine Eq.trans (congrArg _ ?_) (ref_upd x y md ⟨(i 0).val, (i 0).isLt⟩ ⟨(i 1).val, (i 1).isLt⟩ ⟨(i 2).val, (i 2).isLt⟩)
  funext a
  fin_cases a <;> rfl

theorem ref_h (x y : Cert.MidSIdeal.S8x8x2048.Idx → EReal) (md : Cert.MidSIdeal.S8x9x1x2048.Idx → EReal)
    (g : Cert.MidSIdeal.S4x3x2048.Idx → EReal) : val_main_v31 (F := Ideal) x y md g = normed x y md g := by
  funext i
  refine Eq.trans (congrArg _ ?_) (ref_norm x y md g ⟨(i 0).val, (i 0).isLt⟩ ⟨(i 1).val, (i 1).isLt⟩ ⟨(i 2).val, (i 2).isLt⟩)
  funext a
  fin_cases a <;> rfl

theorem frame_ref : Cert.quiescent_MidSRefIdeal := fun m g _ =>
  θ_run_and ((θ_run (Cert.MidSRefIdeal.defs (F := Ideal)) _ _).mono (fun _ h c => (h c).2.2) (Cert.MidSRefIdeal.Value.run (F := Ideal) m g))
    ((θ_run (Cert.MidSRefIdeal.defs (F := Ideal)) _ _).mono (fun r _ => sem_eq_zero_of_no_sems rfl r.2) (Cert.MidSRefIdeal.Value.run (F := Ideal) m g))

/-- The kernel and its reference end with the same two arrays. -/
theorem algebraic : Cert.algebraic_MidSIdeal_MidSRefIdeal := fun m g m' g' _ hargs =>
  ⟨fun c => upd (xs m c) (ys m c) (md m c), fun c => normed (xs m c) (ys m c) (md m c) (gs m c),
    (θ_run (Cert.MidSIdeal.defs (F := Ideal)) _ _).mono
      (fun _ h c => ⟨(h c).1.trans (final_x m c), (h c).2.1.trans (final_h m c), (h c).2.2⟩)
      (Cert.MidSIdeal.Value.run_blocks (F := Ideal) m g),
    (θ_run (Cert.MidSRefIdeal.defs (F := Ideal)) _ _).mono (fun _ h c => ⟨(h c).1.trans (by
        rw [(hargs c).1, (hargs c).2.1, (hargs c).2.2.1]
        exact (val_main_v6_eq (F := Ideal) _ _ _).trans (ref_x _ _ _)), (h c).2.1.trans (by
        rw [(hargs c).1, (hargs c).2.1, (hargs c).2.2.1, (hargs c).2.2.2]
        exact (val_main_v31_eq (F := Ideal) _ _ _ _).trans (ref_h _ _ _ _)), (h c).2.2⟩)
      (Cert.MidSRefIdeal.Value.run (F := Ideal) m' g')⟩

end Cert.MidSValue

end
-- ==== Proof.InValue.lean ====
/-
  The even layers' input projection, query, key, value and indexer query columns (prompt group), against its reference.
  One grid point multiplies 1024 rows of the activations by 1024 columns of the weight over the whole contracted axis; the
  blocks tile the result (`final`). The reference projects on all 6224 columns and keeps the first 4096.
-/
module

public import proofs.«01_k».proof.Defs
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import Idealize.ShloMosaic.Lib.MatmulPlain
public import Idealize.ShloMosaic.Lib.ValueIdx
public import Idealize.ShloMosaic.Lib.Claim
public import Idealize.ShloMosaic.Lib.Quiescent
public import Idealize.ShloMosaic.Lib.StableHlo.Run

@[expose] public section

noncomputable section

namespace Cert.InIdeal.Mine

open Cert.InIdeal Cert.InIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- One block's product at row `r`, column `c`: the sum over the contracted axis. -/
theorem pay_apply (x0 : Vec Ideal S1024x2048 .bf16) (x1 : Vec Ideal S1x2048x1024 .f32) (r : Fin 1024) (c : Fin 1024) :
    k0_pay1 x0 x1 (ix2 r c) = ∑ k : Fin 2048, x0 (ix2 r k) * x1 (ix3 (0 : Fin 1) k c) := by
  unfold k0_pay1
  simp only [shapeCast_self, matmul]
  rw [show dot_S1024x2048_S2048x1024_S1024x1024_1_0_0_1_n_n = DotDims.plain 1024 2048 1024 from rfl,
    Ideal.matmul_plain_apply]
  rw [show (constant S1024x1024 .f32 0x00000000#32 : FVec Ideal S1024x1024 .f32) (ix2 r c) = 0 from Ideal.ofBits_zero_f32,
    zero_add]
  refine Finset.sum_congr rfl fun k _ => congrArg (x0 (ix2 r k) * ·) ?_
  show shapeCast S2048x1024 x1 shapeCasts_S1x2048x1024_S2048x1024 (ix2 k c) = _
  exact (shapeCast_dropUnit_apply ![2048, 1024] x1 shapeCasts_S1x2048x1024_S2048x1024 (ix2 k c)).trans
    (congrArg x1 (by funext a; match a with | ⟨0, _⟩ => rfl | ⟨1, _⟩ => rfl | ⟨2, _⟩ => rfl))

theorem z2 : (![0, 0] : Fin 2 → Nat) = fun _ => 0 := funext fun a => by fin_cases a <;> rfl
theorem z3 : (![0, 0, 0] : Fin 3 → Nat) = fun _ => 0 := funext fun a => by fin_cases a <;> rfl

/-- What the body leaves in the output's buffer is that product. -/
theorem left_eq (c : Dev nD) (i : grid0.Coords) (arg2 : Memref sig .tc .vmem S1024x2048 .bf16) (harg2 : arg2.IsWhole)
    (arg3 : Memref sig .tc .vmem S1x2048x1024 .f32) (harg3 : arg3.IsWhole)
    (arg4 : Memref sig .tc .vmem S1024x1024 .f32) (harg4 : arg4.IsWhole)
    (x0 : Vec Ideal S1024x2048 .bf16) (x1 : Vec Ideal S1x2048x1024 .f32) :
    out0_A_2 c i arg2 harg2 arg3 harg3 arg4 harg4 x0 x1 = k0_pay1 x0 x1 := by
  unfold out0_A_2
  rw [View.read_writes_eq_canon _ _ _ (cover0_A_2 _ _ _ _ _ _ _ _ _ _)]
  unfold kernelRun0_A
  dsimp only
  sl_unfold_words
  simp only [View.readAt_eq_ld, harg2.read_unread, harg3.read_unread]
  rw [View.canon_unit_zero z2, View.ld_unit_zero (S := S1024x2048) z2, View.ld_unit_zero (S := S1x2048x1024) z3]

theorem outs_eq (c : Dev nD) (t : Fin cfg0.N) : outsAt0 m c t = k0_pay1 (iblk m c 0 t) (X0_1 m c t) := by
  unfold outsAt0
  exact left_eq c (grid0.coords t) (ms0_0 t) (hs0_0 t) (ms0_1 t) (hs0_1 t) (ms0_2 t) (hs0_2 t) (iblk m c 0 t) (X0_1 m c t)

/-- The weight's window is whole at every point: an index of its block reads the array under it. -/
theorem block_apply (c : Dev nD) (t : Fin cfg0.N) (k : Fin 2048) (q : Fin 1024) (j : S2x2048x6224.Idx)
    (h0 : (j 0).val = win0_1.index t (0 : Fin 3)) (h1 : (j 1).val = win0_1.index t (1 : Fin 3) * 2048 + k.val)
    (h2 : (j 2).val = win0_1.index t (2 : Fin 3) * 1024 + q.val) :
    (X0_1 m c t : Vec Ideal S1x2048x1024 .f32) (ix3 (0 : Fin 1) k q)
      = (m ((c : Thread nD τ).loc main_arg1) : Vec Ideal S2x2048x6224 .f32) j := by
  show (X0_1 m c t) (ix3 (0 : Fin 1) k q) = _
  unfold X0_1 Pipeline.Window.fill
  rw [dif_pos (moved0_1 t (ix3 (0 : Fin 1) k q))]
  show V m c main_arg1 (((cfg0.win 1).blk t).view.emb _) = _
  rw [V_main_arg1]
  refine congrArg _ (funext fun a => Fin.ext ?_)
  match a with
  | ⟨0, _⟩ => show win0_1.index t (0 : Fin 3) * 1 + 1 * 0 = (j 0).val; rw [h0]; omega
  | ⟨1, _⟩ => show win0_1.index t (1 : Fin 3) * 2048 + 1 * k.val = (j 1).val; rw [h1]; omega
  | ⟨2, _⟩ => show win0_1.index t (2 : Fin 3) * 1024 + 1 * q.val = (j 2).val; rw [h2]; omega

/-- The host's flattened activations. -/
theorem flat_eq (c : Dev nD) : V m c main_v0
    = shapeCast S8192x2048 (m ((c : Thread nD τ).loc main_arg0)) shapeCasts_S2x4096x2048_S8192x2048 := by
  unfold V
  after_results <;> rfl

/-- Read at a row: batch `r / 4096`, position `r % 4096`. -/
theorem flat_apply (c : Dev nD) (r : Fin 8192) (k : Fin 2048) : (V m c main_v0 : Vec Ideal S8192x2048 .bf16) (ix2 r k)
    = (m ((c : Thread nD τ).loc main_arg0) : Vec Ideal S2x4096x2048 .bf16)
      (ix3 ⟨r.val / 4096, by omega⟩ ⟨r.val % 4096, by omega⟩ k) := by
  rw [flat_eq]
  exact shapeCast_apply _ shapeCasts_S2x4096x2048_S8192x2048 _ _
    (by rewrite [Shape.rowMajor_val_three, Shape.rowMajor_val_two]
        show (r.val / 4096 * 4096 + r.val % 4096) * 2048 + k.val = r.val * 2048 + k.val
        omega)

/-- The activations as rows, and the weight. -/
abbrev acts (c : Dev nD) : S8192x2048.Idx → EReal := V m c main_v0
abbrev weight (c : Dev nD) : S2x2048x6224.Idx → EReal := m ((c : Thread nD τ).loc main_arg1)

/-- The matrix product the result ends holding: columns 0 to 4095 of the whole projection. -/
def prod (c : Dev nD) : Vec Ideal S8192x4096 .f32 := fun i =>
  ∑ k : Fin 2048, acts m c (ix2 (⟨(i 0).val, (i 0).isLt⟩ : Fin 8192) k)
    * weight m c (ix3 (0 : Fin 2) k (⟨(i 1).val, by have h : (i 1).val < 4096 := (i 1).isLt; omega⟩ : Fin 6224))

/-- Where each window stands at a grid point: rows with the output's rows, columns with its columns. -/
theorem places : ∀ t : Fin cfg0.N, win0_0.index t (0 : Fin 2) = win0_2.index t (0 : Fin 2)
    ∧ win0_0.index t (1 : Fin 2) = 0 ∧ win0_1.index t (0 : Fin 3) = 0 ∧ win0_1.index t (1 : Fin 3) = 0
    ∧ win0_1.index t (2 : Fin 3) = win0_2.index t (1 : Fin 2) :=
  (by decide +kernel : ∀ t : Fin grid0.N, _)

/-- Every block of the result is some point's, and every point writes its block back. -/
theorem onto : ∀ (p : Fin 8) (q : Fin 4), ∃ t : Fin cfg0.N, (cfg0.win 2).flush t = true
    ∧ win0_2.index t (0 : Fin 2) = p.val ∧ win0_2.index t (1 : Fin 2) = q.val :=
  (by decide +kernel : ∀ (p : Fin 8) (q : Fin 4), ∃ t : Fin grid0.N, win0_2.flush t = true
    ∧ win0_2.index t (0 : Fin 2) = p.val ∧ win0_2.index t (1 : Fin 2) = q.val)

/-- Each point writes back its block of the product. -/
theorem flushed_eq (c : Dev nD) (t : Fin cfg0.N) :
    (dats m 0 c).flushed 2 t = ((cfg0.win 2).blk t).view.read (Elt Ideal) (prod m c) := by
  rw [Cert.InIdeal.Value.flushed2, outs_eq]
  obtain ⟨e0, e1, e2, e3, e4⟩ := places t
  funext y
  have hy0 : (y 0).val < 1024 := (y 0).isLt
  have hy1 : (y 1).val < 1024 := (y 1).isLt
  show k0_pay1 (iblk m c 0 t) (X0_1 m c t) ((cfg0.win 2).xinj (grid0.coords t) y) = prod m c (((cfg0.win 2).blk t).view.emb y)
  rw [show (cfg0.win 2).xinj (grid0.coords t) y = ix2 (⟨(y 0).val, hy0⟩ : Fin 1024) (⟨(y 1).val, hy1⟩ : Fin 1024) from
    funext fun a => match a with | ⟨0, _⟩ => rfl | ⟨1, _⟩ => rfl]
  refine (pay_apply _ _ _ _).trans (Finset.sum_congr rfl fun k _ => ?_)
  refine congrArg₂ (fun a b : EReal => a * b) ?_ ?_
  · show V m c main_v0 (((cfg0.win 0).blk t).view.emb _) = V m c main_v0 _
    refine congrArg _ (funext fun a => Fin.ext ?_)
    match a with
    | ⟨0, _⟩ => show win0_0.index t (0 : Fin 2) * 1024 + 1 * (y 0).val = win0_2.index t (0 : Fin 2) * 1024 + 1 * (y 0).val; rw [e0]
    | ⟨1, _⟩ => show win0_0.index t (1 : Fin 2) * 2048 + 1 * k.val = k.val; rw [e1]; omega
  · refine block_apply m c t k ⟨(y 1).val, hy1⟩ _ ?_ ?_ ?_
    · show 0 = _; rw [e2]
    · show k.val = _; rw [e3]; omega
    · show win0_2.index t (1 : Fin 2) * 1024 + 1 * (y 1).val = _ + (y 1).val; rw [e4]; omega

/-- The result array after the run. -/
theorem final (c : Dev nD) : (dats m 0 c).arrAt 2 cfg0.N = prod m c :=
  (dats m 0 c).arrAt_eq_of_cover 2 _ (fun t _ => flushed_eq m c t) (fun i => by
    have h0 : (i 0).val < 8192 := (i 0).isLt
    have h1 : (i 1).val < 4096 := (i 1).isLt
    obtain ⟨t, hf, e0, e1⟩ := onto ⟨(i 0).val / 1024, by omega⟩ ⟨(i 1).val / 1024, by omega⟩
    refine ⟨t, hf, ?_⟩
    show i ∈ ((View.whole main_v1).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; rw [e0]; dsimp only; omega
    | ⟨1, _⟩ => show win0_2.index t (1 : Fin 2) * 1024 ≤ (i 1).val ∧ (i 1).val < win0_2.index t (1 : Fin 2) * 1024 + 1024; rw [e1]; dsimp only; omega)

end Cert.InIdeal.Mine

namespace Cert.InValue

open Idealize.ShloMosaic Idealize.ShloMosaic.TcCoe Idealize.SL.Sem
open Idealize.ShloMosaic.ValueIdx
open scoped BigOperators

/-- The reference's product at row `r`, column `q` of its slice. -/
theorem ref_apply (x : Cert.InRefIdeal.S2x4096x2048.Idx → EReal) (w : Cert.InRefIdeal.S2x2048x6224.Idx → EReal)
    (r : Fin 8192) (q : Fin 4096) :
    Cert.InRefIdeal.Read.val_main_v5 (F := Ideal) x w (ix2 r q)
      = ∑ k : Fin 2048, x (ix3 ⟨r.val / 4096, by omega⟩ ⟨r.val % 4096, by omega⟩ k)
        * w (ix3 (0 : Fin 2) k (⟨q.val, by omega⟩ : Fin 6224)) := by
  rw [Cert.InRefIdeal.Read.val_main_v5_apply, Cert.InRefIdeal.Read.val_main_v4_apply, Cert.InRefIdeal.Read.val_main_v3_apply]
  refine Finset.sum_congr rfl fun k _ => ?_
  have hr := r.isLt
  have hq := q.isLt
  have hk := k.isLt
  refine congrArg₂ (fun a b : EReal => a * b) ?_ ?_
  · rw [Cert.InRefIdeal.Read.val_main_v0_apply]
    show x _ = x _
    refine congrArg x (funext fun a => Fin.ext ?_)
    match a with
    | ⟨0, _⟩ => show (r.val * 4096 + q.val) / 16777216 = r.val / 4096; omega
    | ⟨1, _⟩ => show (r.val * 4096 + q.val) / 4096 % 4096 = r.val % 4096; omega
    | ⟨2, _⟩ => rfl
  · rw [Cert.InRefIdeal.Read.val_main_v2_apply, Cert.InRefIdeal.Read.val_main_v1_apply]
    refine congrArg w (funext fun a => Fin.ext ?_)
    match a with
    | ⟨0, _⟩ => rfl
    | ⟨1, _⟩ => show (k.val * 6224 + ((r.val * 4096 + q.val) % 4096)) / 6224 % 2048 = k.val; omega
    | ⟨2, _⟩ => show (k.val * 6224 + ((r.val * 4096 + q.val) % 4096)) % 6224 = q.val; omega

/-- The kernel's product, from the same arguments. -/
theorem prod_eq (m : (ℓ : Loc Cert.InIdeal.nD Cert.InIdeal.τ Cert.InIdeal.sig) → Buf (Elt Ideal) ℓ)
    (c : Dev Cert.InIdeal.nD) : Cert.InIdeal.Mine.prod m c
      = Cert.InRefIdeal.Read.val_main_v5 (F := Ideal) (m ((c.tc : Thread _ _).loc Cert.InIdeal.main_arg0))
        (m ((c.tc : Thread _ _).loc Cert.InIdeal.main_arg1)) := by
  funext i
  obtain ⟨r, q, rfl⟩ : ∃ (r : Fin 8192) (q : Fin 4096), i = ix2 r q := ⟨i 0, i 1, eq_ix2 i⟩
  refine Eq.trans ?_ (ref_apply _ _ r q).symm
  unfold Cert.InIdeal.Mine.prod
  exact Finset.sum_congr rfl fun k _ => congrArg₂ (fun a b : EReal => a * b) (Cert.InIdeal.Mine.flat_apply m c r k) rfl

theorem frame_ref : Cert.quiescent_InRefIdeal := fun m g _ =>
  θ_run_and ((θ_run (Cert.InRefIdeal.defs (F := Ideal)) _ _).mono (fun _ h c => (h c).2) (Cert.InRefIdeal.Value.run (F := Ideal) m g))
    ((θ_run (Cert.InRefIdeal.defs (F := Ideal)) _ _).mono (fun r _ => sem_eq_zero_of_no_sems rfl r.2) (Cert.InRefIdeal.Value.run (F := Ideal) m g))

/-- The kernel and its reference end with the same array. -/
theorem algebraic : Cert.algebraic_InIdeal_InRefIdeal := fun m g m' g' _ hargs =>
  ⟨fun c => Cert.InIdeal.Mine.prod m c,
    (θ_run (Cert.InIdeal.defs (F := Ideal)) _ _).mono (fun _ h c => ⟨(h c).1.trans (Cert.InIdeal.Mine.final m c), (h c).2⟩)
      (Cert.InIdeal.Value.run_blocks (F := Ideal) m g),
    (θ_run (Cert.InRefIdeal.defs (F := Ideal)) _ _).mono (fun _ h c => ⟨(h c).1.trans (by
        rw [(hargs c).1, (hargs c).2]
        exact (Cert.InRefIdeal.Read.val_main_v5_eq (F := Ideal) _ _).trans (prod_eq m c).symm), (h c).2⟩)
      (Cert.InRefIdeal.Value.run (F := Ideal) m' g')⟩

end Cert.InValue

end
-- ==== Proof.InSValue.lean ====
/-
  The even layers' input projection, query, key, value and indexer query columns (sample group), against its reference.
  One grid point multiplies 64 rows of the activations by 1024 columns of the weight over the whole contracted axis; the
  blocks tile the result (`final`). The reference projects on all 6224 columns and keeps the first 4096.
-/
module

public import proofs.«01_k».proof.Defs
public import proofs.«01_k».proof.Proof.Gen.InSIdeal
public import proofs.«01_k».proof.Proof.Gen.InSIdeal.Value
public import proofs.«01_k».proof.Proof.Gen.InSRefIdeal
public import proofs.«01_k».proof.Proof.Gen.InSRefIdeal.Run
public import proofs.«01_k».proof.Proof.Gen.InSRefIdeal.Read
public import Idealize.ShloMosaic.Lib.MatmulPlain
public import Idealize.ShloMosaic.Lib.ValueIdx
public import Idealize.ShloMosaic.Lib.Claim
public import Idealize.ShloMosaic.Lib.Quiescent
public import Idealize.ShloMosaic.Lib.StableHlo.Run

@[expose] public section

noncomputable section

namespace Cert.InSIdeal.Mine

open Cert.InSIdeal Cert.InSIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- One block's product at row `r`, column `c`: the sum over the contracted axis. -/
theorem pay_apply (x0 : Vec Ideal S64x2048 .bf16) (x1 : Vec Ideal S1x2048x1024 .f32) (r : Fin 64) (c : Fin 1024) :
    k0_pay1 x0 x1 (ix2 r c) = ∑ k : Fin 2048, x0 (ix2 r k) * x1 (ix3 (0 : Fin 1) k c) := by
  unfold k0_pay1
  simp only [shapeCast_self, matmul]
  rw [show dot_S64x2048_S2048x1024_S64x1024_1_0_0_1_n_n = DotDims.plain 64 2048 1024 from rfl,
    Ideal.matmul_plain_apply]
  rw [show (constant S64x1024 .f32 0x00000000#32 : FVec Ideal S64x1024 .f32) (ix2 r c) = 0 from Ideal.ofBits_zero_f32,
    zero_add]
  refine Finset.sum_congr rfl fun k _ => congrArg (x0 (ix2 r k) * ·) ?_
  show shapeCast S2048x1024 x1 shapeCasts_S1x2048x1024_S2048x1024 (ix2 k c) = _
  exact (shapeCast_dropUnit_apply ![2048, 1024] x1 shapeCasts_S1x2048x1024_S2048x1024 (ix2 k c)).trans
    (congrArg x1 (by funext a; match a with | ⟨0, _⟩ => rfl | ⟨1, _⟩ => rfl | ⟨2, _⟩ => rfl))

theorem z2 : (![0, 0] : Fin 2 → Nat) = fun _ => 0 := funext fun a => by fin_cases a <;> rfl
theorem z3 : (![0, 0, 0] : Fin 3 → Nat) = fun _ => 0 := funext fun a => by fin_cases a <;> rfl

/-- What the body leaves in the output's buffer is that product. -/
theorem left_eq (c : Dev nD) (i : grid0.Coords) (arg2 : Memref sig .tc .vmem S64x2048 .bf16) (harg2 : arg2.IsWhole)
    (arg3 : Memref sig .tc .vmem S1x2048x1024 .f32) (harg3 : arg3.IsWhole)
    (arg4 : Memref sig .tc .vmem S64x1024 .f32) (harg4 : arg4.IsWhole)
    (x0 : Vec Ideal S64x2048 .bf16) (x1 : Vec Ideal S1x2048x1024 .f32) :
    out0_A_2 c i arg2 harg2 arg3 harg3 arg4 harg4 x0 x1 = k0_pay1 x0 x1 := by
  unfold out0_A_2
  rw [View.read_writes_eq_canon _ _ _ (cover0_A_2 _ _ _ _ _ _ _ _ _ _)]
  unfold kernelRun0_A
  dsimp only
  sl_unfold_words
  simp only [View.readAt_eq_ld, harg2.read_unread, harg3.read_unread]
  rw [View.canon_unit_zero z2, View.ld_unit_zero (S := S64x2048) z2, View.ld_unit_zero (S := S1x2048x1024) z3]

theorem outs_eq (c : Dev nD) (t : Fin cfg0.N) : outsAt0 m c t = k0_pay1 (iblk m c 0 t) (X0_1 m c t) := by
  unfold outsAt0
  exact left_eq c (grid0.coords t) (ms0_0 t) (hs0_0 t) (ms0_1 t) (hs0_1 t) (ms0_2 t) (hs0_2 t) (iblk m c 0 t) (X0_1 m c t)

/-- The weight's window is whole at every point: an index of its block reads the array under it. -/
theorem block_apply (c : Dev nD) (t : Fin cfg0.N) (k : Fin 2048) (q : Fin 1024) (j : S2x2048x6224.Idx)
    (h0 : (j 0).val = win0_1.index t (0 : Fin 3)) (h1 : (j 1).val = win0_1.index t (1 : Fin 3) * 2048 + k.val)
    (h2 : (j 2).val = win0_1.index t (2 : Fin 3) * 1024 + q.val) :
    (X0_1 m c t : Vec Ideal S1x2048x1024 .f32) (ix3 (0 : Fin 1) k q)
      = (m ((c : Thread nD τ).loc main_arg1) : Vec Ideal S2x2048x6224 .f32) j := by
  show (X0_1 m c t) (ix3 (0 : Fin 1) k q) = _
  unfold X0_1 Pipeline.Window.fill
  rw [dif_pos (moved0_1 t (ix3 (0 : Fin 1) k q))]
  show V m c main_arg1 (((cfg0.win 1).blk t).view.emb _) = _
  rw [V_main_arg1]
  refine congrArg _ (funext fun a => Fin.ext ?_)
  match a with
  | ⟨0, _⟩ => show win0_1.index t (0 : Fin 3) * 1 + 1 * 0 = (j 0).val; rw [h0]; omega
  | ⟨1, _⟩ => show win0_1.index t (1 : Fin 3) * 2048 + 1 * k.val = (j 1).val; rw [h1]; omega
  | ⟨2, _⟩ => show win0_1.index t (2 : Fin 3) * 1024 + 1 * q.val = (j 2).val; rw [h2]; omega

/-- The host's flattened activations. -/
theorem flat_eq (c : Dev nD) : V m c main_v0
    = shapeCast S64x2048 (m ((c : Thread nD τ).loc main_arg0)) shapeCasts_S8x8x2048_S64x2048 := by
  unfold V
  after_results <;> rfl

/-- Read at a row: batch `r / 8`, position `r % 8`. -/
theorem flat_apply (c : Dev nD) (r : Fin 64) (k : Fin 2048) : (V m c main_v0 : Vec Ideal S64x2048 .bf16) (ix2 r k)
    = (m ((c : Thread nD τ).loc main_arg0) : Vec Ideal S8x8x2048 .bf16)
      (ix3 ⟨r.val / 8, by omega⟩ ⟨r.val % 8, by omega⟩ k) := by
  rw [flat_eq]
  exact shapeCast_apply _ shapeCasts_S8x8x2048_S64x2048 _ _
    (by rewrite [Shape.rowMajor_val_three, Shape.rowMajor_val_two]
        show (r.val / 8 * 8 + r.val % 8) * 2048 + k.val = r.val * 2048 + k.val
        omega)

/-- The activations as rows, and the weight. -/
abbrev acts (c : Dev nD) : S64x2048.Idx → EReal := V m c main_v0
abbrev weight (c : Dev nD) : S2x2048x6224.Idx → EReal := m ((c : Thread nD τ).loc main_arg1)

/-- The matrix product the result ends holding: columns 0 to 4095 of the whole projection. -/
def prod (c : Dev nD) : Vec Ideal S64x4096 .f32 := fun i =>
  ∑ k : Fin 2048, acts m c (ix2 (⟨(i 0).val, (i 0).isLt⟩ : Fin 64) k)
    * weight m c (ix3 (0 : Fin 2) k (⟨(i 1).val, by have h : (i 1).val < 4096 := (i 1).isLt; omega⟩ : Fin 6224))

/-- Where each window stands at a grid point: rows with the output's rows, columns with its columns. -/
theorem places : ∀ t : Fin cfg0.N, win0_0.index t (0 : Fin 2) = win0_2.index t (0 : Fin 2)
    ∧ win0_0.index t (1 : Fin 2) = 0 ∧ win0_1.index t (0 : Fin 3) = 0 ∧ win0_1.index t (1 : Fin 3) = 0
    ∧ win0_1.index t (2 : Fin 3) = win0_2.index t (1 : Fin 2) :=
  (by decide +kernel : ∀ t : Fin grid0.N, _)

/-- Every block of the result is some point's, and every point writes its block back. -/
theorem onto : ∀ (p : Fin 1) (q : Fin 4), ∃ t : Fin cfg0.N, (cfg0.win 2).flush t = true
    ∧ win0_2.index t (0 : Fin 2) = p.val ∧ win0_2.index t (1 : Fin 2) = q.val :=
  (by decide +kernel : ∀ (p : Fin 1) (q : Fin 4), ∃ t : Fin grid0.N, win0_2.flush t = true
    ∧ win0_2.index t (0 : Fin 2) = p.val ∧ win0_2.index t (1 : Fin 2) = q.val)

/-- Each point writes back its block of the product. -/
theorem flushed_eq (c : Dev nD) (t : Fin cfg0.N) :
    (dats m 0 c).flushed 2 t = ((cfg0.win 2).blk t).view.read (Elt Ideal) (prod m c) := by
  rw [Cert.InSIdeal.Value.flushed2, outs_eq]
  obtain ⟨e0, e1, e2, e3, e4⟩ := places t
  funext y
  have hy0 : (y 0).val < 64 := (y 0).isLt
  have hy1 : (y 1).val < 1024 := (y 1).isLt
  show k0_pay1 (iblk m c 0 t) (X0_1 m c t) ((cfg0.win 2).xinj (grid0.coords t) y) = prod m c (((cfg0.win 2).blk t).view.emb y)
  rw [show (cfg0.win 2).xinj (grid0.coords t) y = ix2 (⟨(y 0).val, hy0⟩ : Fin 64) (⟨(y 1).val, hy1⟩ : Fin 1024) from
    funext fun a => match a with | ⟨0, _⟩ => rfl | ⟨1, _⟩ => rfl]
  refine (pay_apply _ _ _ _).trans (Finset.sum_congr rfl fun k _ => ?_)
  refine congrArg₂ (fun a b : EReal => a * b) ?_ ?_
  · show V m c main_v0 (((cfg0.win 0).blk t).view.emb _) = V m c main_v0 _
    refine congrArg _ (funext fun a => Fin.ext ?_)
    match a with
    | ⟨0, _⟩ => show win0_0.index t (0 : Fin 2) * 64 + 1 * (y 0).val = win0_2.index t (0 : Fin 2) * 64 + 1 * (y 0).val; rw [e0]
    | ⟨1, _⟩ => show win0_0.index t (1 : Fin 2) * 2048 + 1 * k.val = k.val; rw [e1]; omega
  · refine block_apply m c t k ⟨(y 1).val, hy1⟩ _ ?_ ?_ ?_
    · show 0 = _; rw [e2]
    · show k.val = _; rw [e3]; omega
    · show win0_2.index t (1 : Fin 2) * 1024 + 1 * (y 1).val = _ + (y 1).val; rw [e4]; omega

/-- The result array after the run. -/
theorem final (c : Dev nD) : (dats m 0 c).arrAt 2 cfg0.N = prod m c :=
  (dats m 0 c).arrAt_eq_of_cover 2 _ (fun t _ => flushed_eq m c t) (fun i => by
    have h0 : (i 0).val < 64 := (i 0).isLt
    have h1 : (i 1).val < 4096 := (i 1).isLt
    obtain ⟨t, hf, e0, e1⟩ := onto ⟨(i 0).val / 64, by omega⟩ ⟨(i 1).val / 1024, by omega⟩
    refine ⟨t, hf, ?_⟩
    show i ∈ ((View.whole main_v1).slice (win0_2.rect t)).set
    rw [View.set_slice_whole, Rect.mem_set_unit]
    intro a
    match a with
    | ⟨0, _⟩ => show win0_2.index t (0 : Fin 2) * 64 ≤ (i 0).val ∧ (i 0).val < win0_2.index t (0 : Fin 2) * 64 + 64; rw [e0]; dsimp only; omega
    | ⟨1, _⟩ => show win0_2.index t (1 : Fin 2) * 1024 ≤ (i 1).val ∧ (i 1).val < win0_2.index t (1 : Fin 2) * 1024 + 1024; rw [e1]; dsimp only; omega)

end Cert.InSIdeal.Mine

namespace Cert.InSValue

open Idealize.ShloMosaic Idealize.ShloMosaic.TcCoe Idealize.SL.Sem
open Idealize.ShloMosaic.ValueIdx
open scoped BigOperators

/-- The reference's product at row `r`, column `q` of its slice. -/
theorem ref_apply (x : Cert.InSRefIdeal.S8x8x2048.Idx → EReal) (w : Cert.InSRefIdeal.S2x2048x6224.Idx → EReal)
    (r : Fin 64) (q : Fin 4096) :
    Cert.InSRefIdeal.Read.val_main_v5 (F := Ideal) x w (ix2 r q)
      = ∑ k : Fin 2048, x (ix3 ⟨r.val / 8, by omega⟩ ⟨r.val % 8, by omega⟩ k)
        * w (ix3 (0 : Fin 2) k (⟨q.val, by omega⟩ : Fin 6224)) := by
  rw [Cert.InSRefIdeal.Read.val_main_v5_apply, Cert.InSRefIdeal.Read.val_main_v4_apply, Cert.InSRefIdeal.Read.val_main_v3_apply]
  refine Finset.sum_congr rfl fun k _ => ?_
  have hr := r.isLt
  have hq := q.isLt
  have hk := k.isLt
  refine congrArg₂ (fun a b : EReal => a * b) ?_ ?_
  · rw [Cert.InSRefIdeal.Read.val_main_v0_apply]
    show x _ = x _
    refine congrArg x (funext fun a => Fin.ext ?_)
    match a with
    | ⟨0, _⟩ => show (r.val * 4096 + q.val) / 32768 = r.val / 8; omega
    | ⟨1, _⟩ => show (r.val * 4096 + q.val) / 4096 % 8 = r.val % 8; omega
    | ⟨2, _⟩ => rfl
  · rw [Cert.InSRefIdeal.Read.val_main_v2_apply, Cert.InSRefIdeal.Read.val_main_v1_apply]
    refine congrArg w (funext fun a => Fin.ext ?_)
    match a with
    | ⟨0, _⟩ => rfl
    | ⟨1, _⟩ => show (k.val * 6224 + ((r.val * 4096 + q.val) % 4096)) / 6224 % 2048 = k.val; omega
    | ⟨2, _⟩ => show (k.val * 6224 + ((r.val * 4096 + q.val) % 4096)) % 6224 = q.val; omega

/-- The kernel's product, from the same arguments. -/
theorem prod_eq (m : (ℓ : Loc Cert.InSIdeal.nD Cert.InSIdeal.τ Cert.InSIdeal.sig) → Buf (Elt Ideal) ℓ)
    (c : Dev Cert.InSIdeal.nD) : Cert.InSIdeal.Mine.prod m c
      = Cert.InSRefIdeal.Read.val_main_v5 (F := Ideal) (m ((c.tc : Thread _ _).loc Cert.InSIdeal.main_arg0))
        (m ((c.tc : Thread _ _).loc Cert.InSIdeal.main_arg1)) := by
  funext i
  obtain ⟨r, q, rfl⟩ : ∃ (r : Fin 64) (q : Fin 4096), i = ix2 r q := ⟨i 0, i 1, eq_ix2 i⟩
  refine Eq.trans ?_ (ref_apply _ _ r q).symm
  unfold Cert.InSIdeal.Mine.prod
  exact Finset.sum_congr rfl fun k _ => congrArg₂ (fun a b : EReal => a * b) (Cert.InSIdeal.Mine.flat_apply m c r k) rfl

theorem frame_ref : Cert.quiescent_InSRefIdeal := fun m g _ =>
  θ_run_and ((θ_run (Cert.InSRefIdeal.defs (F := Ideal)) _ _).mono (fun _ h c => (h c).2) (Cert.InSRefIdeal.Value.run (F := Ideal) m g))
    ((θ_run (Cert.InSRefIdeal.defs (F := Ideal)) _ _).mono (fun r _ => sem_eq_zero_of_no_sems rfl r.2) (Cert.InSRefIdeal.Value.run (F := Ideal) m g))

/-- The kernel and its reference end with the same array. -/
theorem algebraic : Cert.algebraic_InSIdeal_InSRefIdeal := fun m g m' g' _ hargs =>
  ⟨fun c => Cert.InSIdeal.Mine.prod m c,
    (θ_run (Cert.InSIdeal.defs (F := Ideal)) _ _).mono (fun _ h c => ⟨(h c).1.trans (Cert.InSIdeal.Mine.final m c), (h c).2⟩)
      (Cert.InSIdeal.Value.run_blocks (F := Ideal) m g),
    (θ_run (Cert.InSRefIdeal.defs (F := Ideal)) _ _).mono (fun _ h c => ⟨(h c).1.trans (by
        rw [(hargs c).1, (hargs c).2]
        exact (Cert.InSRefIdeal.Read.val_main_v5_eq (F := Ideal) _ _).trans (prod_eq m c).symm), (h c).2⟩)
      (Cert.InSRefIdeal.Value.run (F := Ideal) m' g')⟩

end Cert.InSValue

end
-- ==== Proof.WkvFinite.lean ====
/-
  The precondition of the state update's claim: every key and every key gain is finite. Read here at one element.
-/
module

public import proofs.«01_k».proof.Defs
public import proofs.«01_k».proof.Proof.Gen.Pre_keys_finite
public import Idealize.ShloMosaic.Lib.ReduceAll

@[expose] public section

noncomputable section

namespace Cert.WkvFinite

open Cert.Pre_keys_finite Idealize.ShloMosaic Idealize.ShloMosaic.TcCoe Idealize.SL.Sem

/-- A number whose absolute value is below infinity is finite. -/
theorem finite_of_abs {x : EReal} (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have e : Ideal.ofBits .f32 0x7F800000#32 = ⊤ := by simp [Ideal.ofBits, Ideal.ieee]
  have h1 : Ideal.cmp .olt (max x (-x)) (Ideal.ofBits .f32 0x7F800000#32) = 1#1 := h
  rw [e] at h1
  constructor
  · rintro rfl
    simp [Ideal.cmp] at h1
  · rintro rfl
    simp [Ideal.cmp] at h1

/-- The keys and the key gains are finite. -/
theorem finite {a0 a1 a2 a3 a4 a5 : FVec Ideal S8x8x2048 .f32} {a6 a7 a8 a9 a10 a11 a12 : FVec Ideal S2048 .f32} {a13 : FVec Ideal S8x32x64x64 .f32}
    (h : Cert.Pre_keys_finite.fn (F := Ideal) a0 a1 a2 a3 a4 a5 a6 a7 a8 a9 a10 a11 a12 a13 = fun _ => 1#1) :
    (∀ i, a1 i ≠ ⊤ ∧ a1 i ≠ ⊥) ∧ ∀ i, a8 i ≠ ⊤ ∧ a8 i ≠ ⊥ := by
  have both : ∀ p q : BitVec 1, IntOp.andi p q = 1#1 → p = 1#1 ∧ q = 1#1 := by decide
  have e := congrFun h (Shape.Idx.first Facts.h_S_)
  unfold Cert.Pre_keys_finite.fn at e
  obtain ⟨h1, h2⟩ := both _ _ e
  exact ⟨fun i => finite_of_abs (Host.reduce_andi_all _ _ _ _ _ h1 i), fun i => finite_of_abs (Host.reduce_andi_all _ _ _ _ _ h2 i)⟩

end Cert.WkvFinite

end
-- ==== Proof.WkvVec.lean ====
/-
  The recurrence's vector steps, named. A slab of 128 lanes holds two heads of the state; one token's step of it is the
  same vector term in every slab and at every token, but for the row the token's vectors are cut from.
-/
module

public import proofs.«01_k».proof.Proof.Gen.WkvIdeal.Skeleton

@[expose] public section

noncomputable section

namespace Cert.WkvIdeal.Mine

open Cert.WkvIdeal Cert.WkvIdeal.Gen Idealize.ShloMosaic Idealize.ShloMosaic.TcCoe

variable {F : FTy → Type} [FloatOps F]

/-- Two products in one: the state times the token's key above, the token's values on the diagonals below, both times the
    matrix of the heads' lanes. -/
def bothV (o : Fin 2 → Nat) (ho : S8x128.Slices o S1x128) (ones : FVec F S128x128 .bf16) (eye : IVec S64x128 1)
    (st : FVec F S64x128 .f32) (K : Vec F S8x128 .f32) (V : Vec F S1x8x128 .f32) : FVec F S128x128 .f32 :=
  matmul dot_S128x128_S128x128_S128x128_1_0_0_1_n_n none
    (truncf .bf16 (concatenate S128x128 0
      [⟨S64x128, mulf st (broadcastTo S64x128 (extractStridedSlice S1x128 o K ho) broadcasts_S1x128_S64x128)⟩,
       ⟨S64x128, select eye (broadcastTo S64x128 (shapeCast S1x128 (extractStridedSlice S1x128 o
          (shapeCast S8x128 V shapeCasts_S1x8x128_S8x128) ho) shapeCasts_S1x128_S1x128) broadcasts_S1x128_S64x128)
          (broadcast S64x128 (Scalar.ofBits .f32 0x00000000#32))⟩] concatenates_S64x128_S64x128_S128x128_d0) bitsLt_bf16_f32)
    ones (constant S128x128 .f32 0x00000000#32)

/-- One token's step of a slab. -/
def stepV (o : Fin 2 → Nat) (ho : S8x128.Slices o S1x128) (ones : FVec F S128x128 .bf16) (eye : IVec S64x128 1)
    (K : Vec F S8x128 .f32) (V : Vec F S1x8x128 .f32) (D B H : Vec F S8x128 .f32) (st : FVec F S64x128 .f32) : FVec F S64x128 .f32 :=
  addf (subf (mulf st (broadcastTo S64x128 (extractStridedSlice S1x128 o D ho) broadcasts_S1x128_S64x128))
      (mulf (extractStridedSlice S64x128 ![0, 0] (bothV o ho ones eye st K V) slices_S128x128_o0_0_S64x128)
        (broadcastTo S64x128 (extractStridedSlice S1x128 o B ho) broadcasts_S1x128_S64x128)))
    (mulf (extractStridedSlice S64x128 ![64, 0] (bothV o ho ones eye st K V) slices_S128x128_o64_0_S64x128)
      (broadcastTo S64x128 (extractStridedSlice S1x128 o H ho) broadcasts_S1x128_S64x128))

/-- Four tokens of a slab, from the slab's load to its store. -/
def slabV (ones : FVec F S128x128 .bf16) (eye : IVec S64x128 1) (S : Vec F S1x64x128 .f32)
    (K : Vec F S8x128 .f32) (V : Vec F S1x8x128 .f32) (D B H : Vec F S8x128 .f32) : FVec F S1x64x128 .f32 :=
  shapeCast S1x64x128
    (stepV ![3, 0] slices_S8x128_o3_0_S1x128 ones eye K V D B H
    (stepV ![2, 0] slices_S8x128_o2_0_S1x128 ones eye K V D B H
    (stepV ![1, 0] slices_S8x128_o1_0_S1x128 ones eye K V D B H
    (stepV ![0, 0] slices_S8x128_o0_0_S1x128 ones eye K V D B H
      (shapeCast S64x128 S shapeCasts_S1x64x128_S64x128))))) shapeCasts_S64x128_S1x64x128

/-- The matrix of the heads' lanes, and the diagonals. -/
def onesV : FVec F S128x128 .bf16 := k0_pay7 k0_pay2 k0_pay3 k0_pay4 k0_pay5 k0_pay6

/-- The sums of a slab's heads: the slab and what its rounding left, each times the matrix of the heads' lanes. -/
def segV (o : Fin 2 → Nat) (ho : S8x2048.Slices o S8x128) (ones : FVec F S128x128 .bf16) (x : FVec F S8x2048 .f32) : FVec F S8x128 .f32 :=
  addf (matmul dot_S8x128_S128x128_S8x128_1_0_0_1_n_n none (truncf .bf16 (extractStridedSlice S8x128 o x ho) bitsLt_bf16_f32)
      ones (constant S8x128 .f32 0x00000000#32))
    (matmul dot_S8x128_S128x128_S8x128_1_0_0_1_n_n none (truncf .bf16 (subf (extractStridedSlice S8x128 o x ho)
      (extf .f32 (truncf .bf16 (extractStridedSlice S8x128 o x ho) bitsLt_bf16_f32) bitsLt_bf16_f32)) bitsLt_bf16_f32)
      ones (constant S8x128 .f32 0x00000000#32))

/-- The key times its weights. -/
def keyV (k : Vec F S1x8x2048 .f32) (g : Vec F S1x2048 .f32) : FVec F S8x2048 .f32 :=
  mulf (shapeCast S8x2048 k shapeCasts_S1x8x2048_S8x2048)
    (broadcastTo S8x2048 (shapeCast S1x2048 g shapeCasts_S1x2048_S1x2048) broadcasts_S1x2048_S8x2048)

/-- The sums of all heads, side by side. -/
def sumsV (ones : FVec F S128x128 .bf16) (q : FVec F S8x2048 .f32) : FVec F S8x2048 .f32 :=
  concatenate S8x2048 1
    [⟨S8x128, segV ![0, 0] slices_S8x2048_o0_0_S8x128 ones q⟩,
     ⟨S8x128, segV ![0, 128] slices_S8x2048_o0_128_S8x128 ones q⟩,
     ⟨S8x128, segV ![0, 256] slices_S8x2048_o0_256_S8x128 ones q⟩,
     ⟨S8x128, segV ![0, 384] slices_S8x2048_o0_384_S8x128 ones q⟩,
     ⟨S8x128, segV ![0, 512] slices_S8x2048_o0_512_S8x128 ones q⟩,
     ⟨S8x128, segV ![0, 640] slices_S8x2048_o0_640_S8x128 ones q⟩,
     ⟨S8x128, segV ![0, 768] slices_S8x2048_o0_768_S8x128 ones q⟩,
     ⟨S8x128, segV ![0, 896] slices_S8x2048_o0_896_S8x128 ones q⟩,
     ⟨S8x128, segV ![0, 1024] slices_S8x2048_o0_1024_S8x128 ones q⟩,
     ⟨S8x128, segV ![0, 1152] slices_S8x2048_o0_1152_S8x128 ones q⟩,
     ⟨S8x128, segV ![0, 1280] slices_S8x2048_o0_1280_S8x128 ones q⟩,
     ⟨S8x128, segV ![0, 1408] slices_S8x2048_o0_1408_S8x128 ones q⟩,
     ⟨S8x128, segV ![0, 1536] slices_S8x2048_o0_1536_S8x128 ones q⟩,
     ⟨S8x128, segV ![0, 1664] slices_S8x2048_o0_1664_S8x128 ones q⟩,
     ⟨S8x128, segV ![0, 1792] slices_S8x2048_o0_1792_S8x128 ones q⟩,
     ⟨S8x128, segV ![0, 1920] slices_S8x2048_o0_1920_S8x128 ones q⟩] concatenates_S8x128_S8x128_S8x128_S8x128_S8x128_S8x128_S8x128_S8x128_S8x128_S8x128_S8x128_S8x128_S8x128_S8x128_S8x128_S8x128_S8x2048_d1

/-- The key, its heads of length one. -/
def unitV (ones : FVec F S128x128 .bf16) (p : FVec F S8x2048 .f32) : FVec F S8x2048 .f32 :=
  mulf p (rsqrt (maximumf (sumsV ones (mulf p p)) (broadcast S8x2048 (Scalar.ofBits .f32 0x179ABE15#32))))

/-- What the key's scratch holds. -/
def kkV (k : Vec F S1x8x2048 .f32) (g : Vec F S1x2048 .f32) : FVec F S8x2048 .f32 :=
  shapeCast S8x2048 (unitV onesV (keyV k g)) shapeCasts_S8x2048_S8x2048

/-- What the second scratch of the key holds. -/
def bV (k : Vec F S1x8x2048 .f32) (g a0 : Vec F S1x2048 .f32) (al : Vec F S1x8x2048 .f32) : FVec F S8x2048 .f32 :=
  shapeCast S8x2048 (mulf (unitV onesV (keyV k g)) (k0_pay13 a0 al)) shapeCasts_S8x2048_S8x2048

/-- What the key the state takes up is. -/
def khV (k : Vec F S1x8x2048 .f32) (a0 : Vec F S1x2048 .f32) (al : Vec F S1x8x2048 .f32) (ka : Vec F S1x2048 .f32) : FVec F S8x2048 .f32 :=
  k0_pay44 (k0_pay10 k) (k0_pay43 (k0_pay13 a0 al) ka)

/-- What the state keeps. -/
def decV (w0 : Vec F S1x2048 .f32) (wl : Vec F S1x8x2048 .f32) : FVec F S8x2048 .f32 := k0_pay12 (k0_pay11 w0 wl)

end Cert.WkvIdeal.Mine

end
-- ==== Proof.WkvPieces.lean ====
/-
  The pieces of the state's block, spelt out: sixteen slabs, each four steps of the slab's load, over the whole copied in.
-/
module

public import proofs.«01_k».proof.Proof.WkvVec
public import proofs.«01_k».proof.Proof.Gen.WkvIdeal.Value
public import Idealize.ShloMosaic.Lib.VecWindow
public import Idealize.ShloMosaic.Lib.Pipeline.ValueKit.Tiles

@[expose] public section

noncomputable section

namespace Cert.WkvIdeal.Mine

open Cert.WkvIdeal Cert.WkvIdeal.Gen Idealize.ShloMosaic Idealize.ShloMosaic.TcCoe

/-- The buffers: eight rows, a gain, a scratch. -/
abbrev RowM := Memref sig .tc .vmem S1x8x2048 .f32
abbrev GainM := Memref sig .tc .vmem S1x2048 .f32
abbrev ScrM := Memref sig .tc .vmem S8x2048 .f32

variable {F : FTy → Type} [FloatOps F]

/-- A slab's rows of a scratch that was written once, whole. -/
def rowsV (v : View sig .tc .vmem S8x2048 .f32) (w : FVec F S8x2048 .f32) (off : Fin 2 → Nat)
    (inb : ∀ a, off a + S8x128.size a ≤ S8x2048.size a) : Vec F S8x128 .f32 :=
  v.readCov [(⟨Rect.unit (s := S8x2048) ![0, 0] S8x2048.size inb_S8x2048_S8x2048_0_0, w⟩ : View.Piece (Elt F) S8x2048 .f32)]
    (Rect.unit (s := S8x2048) off S8x128.size inb).toLoadRect

/-- A slab of the state that was written once, whole. -/
def slabLd (v : View sig .tc .vmem S1x64x2048 .f32) (w : FVec F S1x64x2048 .f32) (off : Fin 3 → Nat)
    (inb : ∀ a, off a + S1x64x128.size a ≤ S1x64x2048.size a) : Vec F S1x64x128 .f32 :=
  v.readCov [(⟨Rect.unit (s := S1x64x2048) ![0, 0, 0] S1x64x2048.size inb_S1x64x2048_S1x64x2048_0_0_0, w⟩ : View.Piece (Elt F) S1x64x2048 .f32)]
    (Rect.unit (s := S1x64x2048) off S1x64x128.size inb).toLoadRect

/-- A slab's values. -/
def valLd (v : View sig .tc .vmem S1x8x2048 .f32) (f : v.ty.Contents (Elt F)) (off : Fin 3 → Nat)
    (inb : ∀ a, off a + S1x8x128.size a ≤ S1x8x2048.size a) : Vec F S1x8x128 .f32 :=
  v.readAt (Elt F) (Rect.unit (s := S1x8x2048) off S1x8x128.size inb).toLoadRect f

/-- One slab's piece: the same four vectors' rows at every token. -/
def pieceV (v17 : View sig .tc .vmem S1x64x2048 .f32) (v18 v19 v20 v21 : View sig .tc .vmem S8x2048 .f32)
    (s0 : FVec F S1x64x2048 .f32) (K D B H : FVec F S8x2048 .f32) (V : Vec F S1x8x128 .f32)
    (off2 : Fin 2 → Nat) (inb2 : ∀ a, off2 a + S8x128.size a ≤ S8x2048.size a)
    (off3 : Fin 3 → Nat) (inb3 : ∀ a, off3 a + S1x64x128.size a ≤ S1x64x2048.size a) : FVec F S1x64x128 .f32 :=
  slabV onesV k0_pay8 (slabLd v17 s0 off3 inb3)
    (rowsV v19 K off2 inb2) V (rowsV v18 D off2 inb2) (rowsV v20 B off2 inb2) (rowsV v21 H off2 inb2)

/-- The pieces, last store first. -/
def piecesV (arg4 : Memref sig .tc .vmem S1x8x2048 .f32) (harg4 : arg4.IsWhole) (arg17 : Memref sig .tc .vmem S1x64x2048 .f32) (arg18 : Memref sig .tc .vmem S8x2048 .f32) (arg19 : Memref sig .tc .vmem S8x2048 .f32) (arg20 : Memref sig .tc .vmem S8x2048 .f32) (arg21 : Memref sig .tc .vmem S8x2048 .f32)
    (x2 : Vec F S1x8x2048 .f32) (s0 : Vec F S1x64x2048 .f32) (K D B H : FVec F S8x2048 .f32) : List (View.Piece (Elt F) S1x64x2048 .f32) :=
    [
      (⟨Rect.unit (s := S1x64x2048) ![0, 0, 1920] S1x64x128.size inb_S1x64x2048_S1x64x128_0_0_1920,
        pieceV arg17.view arg18.view arg19.view arg20.view arg21.view (k0_pay9 s0) K D B H (valLd arg4.view (harg4.unread x2) k0_off32 k0_off32_inb) k0_off31 k0_off31_inb
          ![0, 0, 1920] inb_S1x64x2048_S1x64x128_0_0_1920⟩ : View.Piece (Elt F) S1x64x2048 .f32),
      (⟨Rect.unit (s := S1x64x2048) ![0, 0, 1792] S1x64x128.size inb_S1x64x2048_S1x64x128_0_0_1792,
        pieceV arg17.view arg18.view arg19.view arg20.view arg21.view (k0_pay9 s0) K D B H (valLd arg4.view (harg4.unread x2) k0_off30 k0_off30_inb) k0_off29 k0_off29_inb
          ![0, 0, 1792] inb_S1x64x2048_S1x64x128_0_0_1792⟩ : View.Piece (Elt F) S1x64x2048 .f32),
      (⟨Rect.unit (s := S1x64x2048) ![0, 0, 1664] S1x64x128.size inb_S1x64x2048_S1x64x128_0_0_1664,
        pieceV arg17.view arg18.view arg19.view arg20.view arg21.view (k0_pay9 s0) K D B H (valLd arg4.view (harg4.unread x2) k0_off28 k0_off28_inb) k0_off27 k0_off27_inb
          ![0, 0, 1664] inb_S1x64x2048_S1x64x128_0_0_1664⟩ : View.Piece (Elt F) S1x64x2048 .f32),
      (⟨Rect.unit (s := S1x64x2048) ![0, 0, 1536] S1x64x128.size inb_S1x64x2048_S1x64x128_0_0_1536,
        pieceV arg17.view arg18.view arg19.view arg20.view arg21.view (k0_pay9 s0) K D B H (valLd arg4.view (harg4.unread x2) k0_off26 k0_off26_inb) k0_off25 k0_off25_inb
          ![0, 0, 1536] inb_S1x64x2048_S1x64x128_0_0_1536⟩ : View.Piece (Elt F) S1x64x2048 .f32),
      (⟨Rect.unit (s := S1x64x2048) ![0, 0, 1408] S1x64x128.size inb_S1x64x2048_S1x64x128_0_0_1408,
        pieceV arg17.view arg18.view arg19.view arg20.view arg21.view (k0_pay9 s0) K D B H (valLd arg4.view (harg4.unread x2) k0_off24 k0_off24_inb) k0_off23 k0_off23_inb
          ![0, 0, 1408] inb_S1x64x2048_S1x64x128_0_0_1408⟩ : View.Piece (Elt F) S1x64x2048 .f32),
      (⟨Rect.unit (s := S1x64x2048) ![0, 0, 1280] S1x64x128.size inb_S1x64x2048_S1x64x128_0_0_1280,
        pieceV arg17.view arg18.view arg19.view arg20.view arg21.view (k0_pay9 s0) K D B H (valLd arg4.view (harg4.unread x2) k0_off22 k0_off22_inb) k0_off21 k0_off21_inb
          ![0, 0, 1280] inb_S1x64x2048_S1x64x128_0_0_1280⟩ : View.Piece (Elt F) S1x64x2048 .f32),
      (⟨Rect.unit (s := S1x64x2048) ![0, 0, 1152] S1x64x128.size inb_S1x64x2048_S1x64x128_0_0_1152,
        pieceV arg17.view arg18.view arg19.view arg20.view arg21.view (k0_pay9 s0) K D B H (valLd arg4.view (harg4.unread x2) k0_off20 k0_off20_inb) k0_off19 k0_off19_inb
          ![0, 0, 1152] inb_S1x64x2048_S1x64x128_0_0_1152⟩ : View.Piece (Elt F) S1x64x2048 .f32),
      (⟨Rect.unit (s := S1x64x2048) ![0, 0, 1024] S1x64x128.size inb_S1x64x2048_S1x64x128_0_0_1024,
        pieceV arg17.view arg18.view arg19.view arg20.view arg21.view (k0_pay9 s0) K D B H (valLd arg4.view (harg4.unread x2) k0_off18 k0_off18_inb) k0_off17 k0_off17_inb
          ![0, 0, 1024] inb_S1x64x2048_S1x64x128_0_0_1024⟩ : View.Piece (Elt F) S1x64x2048 .f32),
      (⟨Rect.unit (s := S1x64x2048) ![0, 0, 896] S1x64x128.size inb_S1x64x2048_S1x64x128_0_0_896,
        pieceV arg17.view arg18.view arg19.view arg20.view arg21.view (k0_pay9 s0) K D B H (valLd arg4.view (harg4.unread x2) k0_off16 k0_off16_inb) k0_off15 k0_off15_inb
          ![0, 0, 896] inb_S1x64x2048_S1x64x128_0_0_896⟩ : View.Piece (Elt F) S1x64x2048 .f32),
      (⟨Rect.unit (s := S1x64x2048) ![0, 0, 768] S1x64x128.size inb_S1x64x2048_S1x64x128_0_0_768,
        pieceV arg17.view arg18.view arg19.view arg20.view arg21.view (k0_pay9 s0) K D B H (valLd arg4.view (harg4.unread x2) k0_off14 k0_off14_inb) k0_off13 k0_off13_inb
          ![0, 0, 768] inb_S1x64x2048_S1x64x128_0_0_768⟩ : View.Piece (Elt F) S1x64x2048 .f32),
      (⟨Rect.unit (s := S1x64x2048) ![0, 0, 640] S1x64x128.size inb_S1x64x2048_S1x64x128_0_0_640,
        pieceV arg17.view arg18.view arg19.view arg20.view arg21.view (k0_pay9 s0) K D B H (valLd arg4.view (harg4.unread x2) k0_off12 k0_off12_inb) k0_off11 k0_off11_inb
          ![0, 0, 640] inb_S1x64x2048_S1x64x128_0_0_640⟩ : View.Piece (Elt F) S1x64x2048 .f32),
      (⟨Rect.unit (s := S1x64x2048) ![0, 0, 512] S1x64x128.size inb_S1x64x2048_S1x64x128_0_0_512,
        pieceV arg17.view arg18.view arg19.view arg20.view arg21.view (k0_pay9 s0) K D B H (valLd arg4.view (harg4.unread x2) k0_off10 k0_off10_inb) k0_off9 k0_off9_inb
          ![0, 0, 512] inb_S1x64x2048_S1x64x128_0_0_512⟩ : View.Piece (Elt F) S1x64x2048 .f32),
      (⟨Rect.unit (s := S1x64x2048) ![0, 0, 384] S1x64x128.size inb_S1x64x2048_S1x64x128_0_0_384,
        pieceV arg17.view arg18.view arg19.view arg20.view arg21.view (k0_pay9 s0) K D B H (valLd arg4.view (harg4.unread x2) k0_off8 k0_off8_inb) k0_off7 k0_off7_inb
          ![0, 0, 384] inb_S1x64x2048_S1x64x128_0_0_384⟩ : View.Piece (Elt F) S1x64x2048 .f32),
      (⟨Rect.unit (s := S1x64x2048) ![0, 0, 256] S1x64x128.size inb_S1x64x2048_S1x64x128_0_0_256,
        pieceV arg17.view arg18.view arg19.view arg20.view arg21.view (k0_pay9 s0) K D B H (valLd arg4.view (harg4.unread x2) k0_off6 k0_off6_inb) k0_off5 k0_off5_inb
          ![0, 0, 256] inb_S1x64x2048_S1x64x128_0_0_256⟩ : View.Piece (Elt F) S1x64x2048 .f32),
      (⟨Rect.unit (s := S1x64x2048) ![0, 0, 128] S1x64x128.size inb_S1x64x2048_S1x64x128_0_0_128,
        pieceV arg17.view arg18.view arg19.view arg20.view arg21.view (k0_pay9 s0) K D B H (valLd arg4.view (harg4.unread x2) k0_off4 k0_off4_inb) k0_off3 k0_off3_inb
          ![0, 0, 128] inb_S1x64x2048_S1x64x128_0_0_128⟩ : View.Piece (Elt F) S1x64x2048 .f32),
      (⟨Rect.unit (s := S1x64x2048) ![0, 0, 0] S1x64x128.size inb_S1x64x2048_S1x64x128_0_0_0,
        pieceV arg17.view arg18.view arg19.view arg20.view arg21.view (k0_pay9 s0) K D B H (valLd arg4.view (harg4.unread x2) k0_off2 k0_off2_inb) k0_off1 k0_off1_inb
          ![0, 0, 0] inb_S1x64x2048_S1x64x128_0_0_0⟩ : View.Piece (Elt F) S1x64x2048 .f32),
      (⟨Rect.unit (s := S1x64x2048) ![0, 0, 0] S1x64x2048.size inb_S1x64x2048_S1x64x2048_0_0_0, k0_pay9 s0⟩ : View.Piece (Elt F) S1x64x2048 .f32)]

/-- The run's pieces are these. -/
theorem pieces_eq (c : Dev nD) (i : grid0.Coords) (arg2 : RowM) (harg2 : arg2.IsWhole) (arg3 : RowM) (harg3 : arg3.IsWhole) (arg4 : RowM) (harg4 : arg4.IsWhole) (arg5 : RowM) (harg5 : arg5.IsWhole) (arg6 : RowM) (harg6 : arg6.IsWhole) (arg7 : RowM) (harg7 : arg7.IsWhole) (arg8 : GainM) (harg8 : arg8.IsWhole) (arg9 : GainM) (harg9 : arg9.IsWhole) (arg10 : GainM) (harg10 : arg10.IsWhole) (arg11 : GainM) (harg11 : arg11.IsWhole) (arg12 : GainM) (harg12 : arg12.IsWhole) (arg13 : GainM) (harg13 : arg13.IsWhole) (arg14 : GainM) (harg14 : arg14.IsWhole) (arg15 : Memref sig .tc .vmem S1x64x2048 .f32) (harg15 : arg15.IsWhole) (arg16 : Memref sig .tc .vmem S1x8x2048 .bf16) (harg16 : arg16.IsWhole) (arg17 : Memref sig .tc .vmem S1x64x2048 .f32) (harg17 : arg17.IsWhole) (arg18 : ScrM) (harg18 : arg18.IsWhole) (arg19 : ScrM) (harg19 : arg19.IsWhole) (arg20 : ScrM) (harg20 : arg20.IsWhole) (arg21 : ScrM) (harg21 : arg21.IsWhole) (arg22 : ScrM) (harg22 : arg22.IsWhole) (hc0 : cond0_0 i)
    (x0 x1 x2 x3 x4 x5 : Vec F S1x8x2048 .f32) (x6 x7 x8 x9 x10 x11 x12 : Vec F S1x2048 .f32) (x13 : Vec F S1x64x2048 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13).2.1
      = piecesV arg4 harg4 arg17 arg18 arg19 arg20 arg21 x2
        (arg15.view.readAt (Elt F) (Rect.unit (s := S1x64x2048) ![0, 0, 0] S1x64x2048.size inb_S1x64x2048_S1x64x2048_0_0_0).toLoadRect (harg15.unread x13))
        (kkV (arg3.view.readAt (Elt F) (Rect.unit (s := S1x8x2048) ![0, 0, 0] S1x8x2048.size inb_S1x8x2048_S1x8x2048_0_0_0).toLoadRect (harg3.unread x1)) (arg10.view.readAt (Elt F) (Rect.unit (s := S1x2048) ![0, 0] S1x2048.size inb_S1x2048_S1x2048_0_0).toLoadRect (harg10.unread x8)))
        (decV (arg8.view.readAt (Elt F) (Rect.unit (s := S1x2048) ![0, 0] S1x2048.size inb_S1x2048_S1x2048_0_0).toLoadRect (harg8.unread x6)) (arg5.view.readAt (Elt F) (Rect.unit (s := S1x8x2048) ![0, 0, 0] S1x8x2048.size inb_S1x8x2048_S1x8x2048_0_0_0).toLoadRect (harg5.unread x3)))
        (bV (arg3.view.readAt (Elt F) (Rect.unit (s := S1x8x2048) ![0, 0, 0] S1x8x2048.size inb_S1x8x2048_S1x8x2048_0_0_0).toLoadRect (harg3.unread x1)) (arg10.view.readAt (Elt F) (Rect.unit (s := S1x2048) ![0, 0] S1x2048.size inb_S1x2048_S1x2048_0_0).toLoadRect (harg10.unread x8)) (arg9.view.readAt (Elt F) (Rect.unit (s := S1x2048) ![0, 0] S1x2048.size inb_S1x2048_S1x2048_0_0).toLoadRect (harg9.unread x7)) (arg6.view.readAt (Elt F) (Rect.unit (s := S1x8x2048) ![0, 0, 0] S1x8x2048.size inb_S1x8x2048_S1x8x2048_0_0_0).toLoadRect (harg6.unread x4)))
        (khV (arg3.view.readAt (Elt F) (Rect.unit (s := S1x8x2048) ![0, 0, 0] S1x8x2048.size inb_S1x8x2048_S1x8x2048_0_0_0).toLoadRect (harg3.unread x1)) (arg9.view.readAt (Elt F) (Rect.unit (s := S1x2048) ![0, 0] S1x2048.size inb_S1x2048_S1x2048_0_0).toLoadRect (harg9.unread x7)) (arg6.view.readAt (Elt F) (Rect.unit (s := S1x8x2048) ![0, 0, 0] S1x8x2048.size inb_S1x8x2048_S1x8x2048_0_0_0).toLoadRect (harg6.unread x4)) (arg11.view.readAt (Elt F) (Rect.unit (s := S1x2048) ![0, 0] S1x2048.size inb_S1x2048_S1x2048_0_0).toLoadRect (harg11.unread x9))) := by
  sl_kernel_rfl

end Cert.WkvIdeal.Mine

end
-- ==== Proof.WkvSlab.lean ====
/-
  The recurrence of the odd layers, element by element. Stated here: one token's step of a head's state (`stepS`), and that the
  body's vector step of a slab of two heads is that step at every lane.
-/
module

public import proofs.«01_k».proof.Proof.WkvPieces
public import Idealize.ShloMosaic.Lib.MatmulPlain
public import Idealize.ShloMosaic.Lib.ValueIdx
public import Idealize.ShloMosaic.Lib.KernelVsHost
public import Idealize.ShloMosaic.Lib.IdealHost

@[expose] public section

noncomputable section

namespace Cert.WkvIdeal.Mine

open Cert.WkvIdeal Cert.WkvIdeal.Gen Idealize.ShloMosaic Idealize.ShloMosaic.TcCoe Idealize.SL.Sem
open Idealize.ShloMosaic.ValueIdx
open scoped BigOperators

/-! ## The recurrence -/

/-- Lane `k` of the head lane `n` lies in. -/
def headOf (n : Fin 2048) (k : Fin 64) : Fin 2048 := ⟨n.val / 64 * 64 + k.val, by have := n.isLt; have := k.isLt; omega⟩

/-- One token: the state decays lane by lane, loses its product with the key times the second key, and takes up the values
    times the key. -/
def stepS (d kk b h v : Fin 2048 → EReal) (S : Fin 64 → Fin 2048 → EReal) (i : Fin 64) (n : Fin 2048) : EReal :=
  S i n * d n - (∑ k : Fin 64, S i (headOf n k) * kk (headOf n k)) * b n + v (headOf n i) * h n

/-- Four tokens. -/
def fourS (d kk b h v : Fin 8 → Fin 2048 → EReal) (S : Fin 64 → Fin 2048 → EReal) : Fin 64 → Fin 2048 → EReal :=
  stepS (d 3) (kk 3) (b 3) (h 3) (v 3) (stepS (d 2) (kk 2) (b 2) (h 2) (v 2)
    (stepS (d 1) (kk 1) (b 1) (h 1) (v 1) (stepS (d 0) (kk 0) (b 0) (h 0) (v 0) S)))

/-! ## The matrix of the heads' lanes -/

/-- Lane `l` of slab `s`. -/
def lane (s : Fin 16) (l : Fin 128) : Fin 2048 := ⟨s.val * 128 + l.val, by have := s.isLt; have := l.isLt; omega⟩

/-- Lane `k` of the head of a slab that lane `l` lies in. -/
def half (l : Fin 128) (k : Fin 64) : Fin 128 := ⟨l.val / 64 * 64 + k.val, by have := l.isLt; have := k.isLt; omega⟩

theorem headOf_lane (s : Fin 16) (l : Fin 128) (k : Fin 64) : headOf (lane s l) k = lane s (half l k) := by
  apply Fin.ext
  show (s.val * 128 + l.val) / 64 * 64 + k.val = s.val * 128 + (l.val / 64 * 64 + k.val)
  omega

/-- A sum over a slab of the lanes of one head. -/
theorem sum_half (f : Fin 128 → EReal) (l : Fin 128) :
    ∑ m : Fin 128, f m * (if m.val / 64 = l.val / 64 then (1 : EReal) else 0) = ∑ k : Fin 64, f (half l k) := by
  simp only [mul_ite, mul_one, mul_zero]
  rw [← Finset.sum_filter]
  symm
  refine Finset.sum_bij (fun k _ => half l k) ?_ ?_ ?_ ?_
  · intro k _
    simp only [Finset.mem_filter, Finset.mem_univ, true_and]
    show (l.val / 64 * 64 + k.val) / 64 = l.val / 64
    have := k.isLt
    omega
  · intro a _ b _ hab
    have := congrArg Fin.val hab
    apply Fin.ext
    change l.val / 64 * 64 + a.val = l.val / 64 * 64 + b.val at this
    omega
  · intro b hb
    simp only [Finset.mem_filter, Finset.mem_univ, true_and] at hb
    refine ⟨⟨b.val % 64, Nat.mod_lt _ (by decide)⟩, Finset.mem_univ _, Fin.ext ?_⟩
    show l.val / 64 * 64 + b.val % 64 = b.val
    omega
  · intro k _
    rfl

/-- A lane's slab half, as the body computes it. -/
def colV : IVec S128x128 32 := select (andi k0_pay4 (cmpi .ne k0_pay5 k0_pay6)) (subi k0_pay3 (broadcast S128x128 1#32)) k0_pay3

theorem row_word : ∀ m : Fin 128, (k0_pay2 : IVec S128x128 32) (ix2 m (0 : Fin 128)) = BitVec.ofNat 32 (m.val / 64) := by
  decide +kernel

theorem col_word : ∀ l : Fin 128, (colV : IVec S128x128 32) (ix2 (0 : Fin 128) l) = BitVec.ofNat 32 (l.val / 64) := by
  decide +kernel

theorem halves : ∀ a b : Fin 2, Scalar.cmpi .eq (BitVec.ofNat 32 a.val) (BitVec.ofNat 32 b.val) = if a.val = b.val then 1#1 else 0#1 := by
  decide +kernel

theorem onesV_apply (m l : Fin 128) : (onesV (F := Ideal)) (ix2 m l) = if m.val / 64 = l.val / 64 then (1 : EReal) else 0 := by
  have e : (onesV (F := Ideal)) (ix2 m l) = Scalar.select (Scalar.cmpi .eq ((k0_pay2 : IVec S128x128 32) (ix2 m (0 : Fin 128)))
      ((colV : IVec S128x128 32) (ix2 (0 : Fin 128) l))) (Ideal.ofBits (φ := .f32) 0x3F800000#32) (Ideal.ofBits (φ := .f32) 0x00000000#32) := rfl
  rw [e, row_word, col_word]
  have h := halves ⟨m.val / 64, by have := m.isLt; omega⟩ ⟨l.val / 64, by have := l.isLt; omega⟩
  dsimp only at h
  rw [h]
  by_cases hc : m.val / 64 = l.val / 64
  · rw [if_pos hc, if_pos hc]
    exact Ideal.ofBits_one_f32
  · rw [if_neg hc, if_neg hc]
    exact Ideal.ofBits_zero_f32

theorem eye_word : ∀ (i : Fin 64) (l : Fin 128), (k0_pay8 : IVec S64x128 1) (ix2 i l) = if i.val = l.val % 64 then 1#1 else 0#1 := by
  decide +kernel

/-! ## The vectors of one token -/

theorem bcast64_apply (v : FVec Ideal S1x128 .f32) (i : Fin 64) (l : Fin 128) :
    broadcastTo S64x128 v broadcasts_S1x128_S64x128 (ix2 i l) = v (ix2 (0 : Fin 1) l) :=
  broadcastTo_apply _ broadcasts_S1x128_S64x128 (ix2 i l) (ix2 (0 : Fin 1) l) (fun a => match a with
    | ⟨0, _⟩ => by show 0 = (if (1 : Nat) = 1 then 0 else i.val); rw [if_pos rfl]
    | ⟨1, _⟩ => by show l.val = (if (128 : Nat) = 1 then 0 else l.val); rw [if_neg (by decide)])

/-- Row `j` cut out. -/
theorem row_apply (o : Fin 2 → Nat) (ho : S8x128.Slices o S1x128) (j : Fin 8) (h0 : o 0 = j.val) (h1 : o 1 = 0)
    (v : FVec Ideal S8x128 .f32) (l : Fin 128) : extractStridedSlice S1x128 o v ho (ix2 (0 : Fin 1) l) = v (ix2 j l) :=
  extractStridedSlice_apply o v ho _ _ (fun a => match a with
    | ⟨0, _⟩ => by show j.val = o 0 + 0; omega
    | ⟨1, _⟩ => by show l.val = o 1 + l.val; omega)

theorem vals_apply (V : Vec Ideal S1x8x128 .f32) (j : Fin 8) (l : Fin 128) :
    shapeCast S8x128 V shapeCasts_S1x8x128_S8x128 (ix2 j l) = V (ix3 (0 : Fin 1) j l) :=
  shapeCast_apply _ shapeCasts_S1x8x128_S8x128 _ _
    (by rewrite [Shape.rowMajor_val_three, Shape.rowMajor_val_two]
        show (0 * 8 + j.val) * 128 + l.val = j.val * 128 + l.val
        omega)

/-- A product with the matrix of the heads' lanes sums the lanes of the head. -/
theorem ones_product (x : FVec Ideal S128x128 .bf16) (r l : Fin 128) :
    matmul dot_S128x128_S128x128_S128x128_1_0_0_1_n_n none x onesV (constant S128x128 .f32 0x00000000#32) (ix2 r l)
      = ∑ k : Fin 64, x (ix2 r (half l k)) := by
  simp only [matmul]
  rw [show dot_S128x128_S128x128_S128x128_1_0_0_1_n_n = DotDims.plain 128 128 128 from rfl, Ideal.matmul_plain_apply]
  rw [show (constant S128x128 .f32 0x00000000#32 : FVec Ideal S128x128 .f32) (ix2 r l) = 0 from Ideal.ofBits_zero_f32, zero_add]
  rw [← sum_half (fun k => x (ix2 r k)) l]
  exact Finset.sum_congr rfl fun k _ => congrArg (x (ix2 r k) * ·) (onesV_apply k l)

section Step

variable (o : Fin 2 → Nat) (ho : S8x128.Slices o S1x128) (j : Fin 8) (h0 : o 0 = j.val) (h1 : o 1 = 0)
  (st : FVec Ideal S64x128 .f32) (K : Vec Ideal S8x128 .f32) (V : Vec Ideal S1x8x128 .f32) (D B H : Vec Ideal S8x128 .f32)
  (i : Fin 64) (l : Fin 128)

include h0 h1 in
/-- The upper half: the state's product with the key, head by head. -/
theorem both_upper : extractStridedSlice S64x128 ![0, 0] (bothV o ho onesV k0_pay8 st K V) slices_S128x128_o0_0_S64x128 (ix2 i l)
    = ∑ k : Fin 64, st (ix2 i (half l k)) * K (ix2 j (half l k)) := by
  refine (extractStridedSlice_apply ![0, 0] _ slices_S128x128_o0_0_S64x128 _
    (ix2 (⟨i.val, by have := i.isLt; omega⟩ : Fin 128) l) (fun a => match a with
    | ⟨0, _⟩ => by show i.val = 0 + i.val; omega
    | ⟨1, _⟩ => by show l.val = 0 + l.val; omega)).trans ?_
  unfold bothV
  rw [ones_product]
  refine Finset.sum_congr rfl fun k _ => ?_
  refine (concatenate_pair_apply_left (t := S128x128) (s₁ := S64x128) (s₂ := S64x128) 0 _ _ concatenates_S64x128_S64x128_S128x128_d0 _ rfl (ix2 i (half l k)) (fun b => match b with
      | ⟨0, _⟩ => rfl
      | ⟨1, _⟩ => rfl)).trans ?_
  refine congrArg (st (ix2 i (half l k)) * ·) ?_
  rw [bcast64_apply, row_apply o ho j h0 h1]

include h0 h1 in
/-- The lower half: the value the row takes. -/
theorem both_lower : extractStridedSlice S64x128 ![64, 0] (bothV o ho onesV k0_pay8 st K V) slices_S128x128_o64_0_S64x128 (ix2 i l)
    = V (ix3 (0 : Fin 1) j (half l i)) := by
  refine (extractStridedSlice_apply ![64, 0] _ slices_S128x128_o64_0_S64x128 _
    (ix2 (⟨64 + i.val, by have := i.isLt; omega⟩ : Fin 128) l) (fun a => match a with
    | ⟨0, _⟩ => rfl
    | ⟨1, _⟩ => by show l.val = 0 + l.val; omega)).trans ?_
  unfold bothV
  rw [ones_product]
  have key : ∀ k : Fin 64, (truncf .bf16 (concatenate S128x128 0
      [⟨S64x128, mulf st (broadcastTo S64x128 (extractStridedSlice S1x128 o K ho) broadcasts_S1x128_S64x128)⟩,
       ⟨S64x128, select k0_pay8 (broadcastTo S64x128 (shapeCast S1x128 (extractStridedSlice S1x128 o
          (shapeCast S8x128 V shapeCasts_S1x8x128_S8x128) ho) shapeCasts_S1x128_S1x128) broadcasts_S1x128_S64x128)
          (broadcast S64x128 (Scalar.ofBits .f32 0x00000000#32))⟩] concatenates_S64x128_S64x128_S128x128_d0) bitsLt_bf16_f32 : FVec Ideal S128x128 .bf16)
        (ix2 (⟨64 + i.val, by have := i.isLt; omega⟩ : Fin 128) (half l k))
      = if i = k then V (ix3 (0 : Fin 1) j (half l i)) else (0 : EReal) := by
    intro k
    refine (concatenate_pair_apply_right (t := S128x128) (s₁ := S64x128) (s₂ := S64x128) 0 _ _ concatenates_S64x128_S64x128_S128x128_d0
      (ix2 (⟨64 + i.val, by have := i.isLt; omega⟩ : Fin 128) (half l k)) rfl rfl (ix2 i (half l k)) (fun b hb => match b, hb with
      | ⟨0, _⟩, hb => absurd rfl hb
      | ⟨1, _⟩, _ => rfl) (Nat.add_comm i.val 64)).trans ?_
    rw [shapeCast_self]
    refine (congrArg (fun w : BitVec 1 => Scalar.select w _ _) (eye_word i (half l k))).trans ?_
    by_cases hc : i = k
    · subst hc
      rw [if_pos rfl, if_pos (by show i.val = (l.val / 64 * 64 + i.val) % 64; have := i.isLt; omega)]
      refine (Idealize.ShloMosaic.ValueIdx.select_one _ _).trans ?_
      rw [bcast64_apply, row_apply o ho j h0 h1, vals_apply]
    · rw [if_neg hc, if_neg (by
        show ¬ i.val = (l.val / 64 * 64 + k.val) % 64
        have := i.isLt; have := k.isLt; have : i.val ≠ k.val := fun h => hc (Fin.ext h); omega)]
      exact Ideal.ofBits_zero_f32
  rw [Finset.sum_congr rfl fun k _ => key k, Finset.sum_ite_eq Finset.univ i, if_pos (Finset.mem_univ _)]

include h0 h1 in
/-- One token's step of a slab, lane by lane. -/
theorem stepV_apply : stepV o ho onesV k0_pay8 K V D B H st (ix2 i l)
    = st (ix2 i l) * D (ix2 j l) - (∑ k : Fin 64, st (ix2 i (half l k)) * K (ix2 j (half l k))) * B (ix2 j l)
      + V (ix3 (0 : Fin 1) j (half l i)) * H (ix2 j l) := by
  have e : stepV o ho onesV k0_pay8 K V D B H st (ix2 i l)
      = st (ix2 i l) * broadcastTo S64x128 (extractStridedSlice S1x128 o D ho) broadcasts_S1x128_S64x128 (ix2 i l)
        - extractStridedSlice S64x128 ![0, 0] (bothV o ho onesV k0_pay8 st K V) slices_S128x128_o0_0_S64x128 (ix2 i l)
          * broadcastTo S64x128 (extractStridedSlice S1x128 o B ho) broadcasts_S1x128_S64x128 (ix2 i l)
        + extractStridedSlice S64x128 ![64, 0] (bothV o ho onesV k0_pay8 st K V) slices_S128x128_o64_0_S64x128 (ix2 i l)
          * broadcastTo S64x128 (extractStridedSlice S1x128 o H ho) broadcasts_S1x128_S64x128 (ix2 i l) := rfl
  rw [e, both_upper o ho j h0 h1, both_lower o ho j h0 h1]
  simp only [bcast64_apply, row_apply o ho j h0 h1]

end Step

/-! ## A slab's four tokens -/

section Slab

variable (s : Fin 16) (d kk b h v : Fin 8 → Fin 2048 → EReal) (S : Fin 64 → Fin 2048 → EReal)
  (K : Vec Ideal S8x128 .f32) (V : Vec Ideal S1x8x128 .f32) (D B H : Vec Ideal S8x128 .f32)
  (hK : ∀ j l, K (ix2 j l) = kk j (lane s l)) (hD : ∀ j l, D (ix2 j l) = d j (lane s l)) (hB : ∀ j l, B (ix2 j l) = b j (lane s l))
  (hH : ∀ j l, H (ix2 j l) = h j (lane s l)) (hV : ∀ j l, V (ix3 (0 : Fin 1) j l) = v j (lane s l))

include hK hD hB hH hV in
theorem step_slab (o : Fin 2 → Nat) (ho : S8x128.Slices o S1x128) (j : Fin 8) (h0 : o 0 = j.val) (h1 : o 1 = 0)
    (st : FVec Ideal S64x128 .f32) (T : Fin 64 → Fin 2048 → EReal) (hst : ∀ i l, st (ix2 i l) = T i (lane s l)) (i : Fin 64) (l : Fin 128) :
    stepV o ho onesV k0_pay8 K V D B H st (ix2 i l) = stepS (d j) (kk j) (b j) (h j) (v j) T i (lane s l) := by
  rw [stepV_apply o ho j h0 h1]
  unfold stepS
  simp only [hK, hD, hB, hH, hV, hst, headOf_lane]

include hK hD hB hH hV in
theorem slab_apply (L : Vec Ideal S1x64x128 .f32) (hL : ∀ i l, L (ix3 (0 : Fin 1) i l) = S i (lane s l)) (i : Fin 64) (l : Fin 128) :
    slabV onesV k0_pay8 L K V D B H (ix3 (0 : Fin 1) i l) = fourS d kk b h v S i (lane s l) := by
  unfold slabV
  refine (shapeCast_apply _ shapeCasts_S64x128_S1x64x128 _ (ix2 i l)
    (by rewrite [Shape.rowMajor_val_three, Shape.rowMajor_val_two]
        show i.val * 128 + l.val = (0 * 64 + i.val) * 128 + l.val
        omega)).trans ?_
  unfold fourS
  refine step_slab s d kk b h v K V D B H hK hD hB hH hV ![3, 0] _ 3 rfl rfl _ _ ?_ i l
  refine step_slab s d kk b h v K V D B H hK hD hB hH hV ![2, 0] _ 2 rfl rfl _ _ ?_
  refine step_slab s d kk b h v K V D B H hK hD hB hH hV ![1, 0] _ 1 rfl rfl _ _ ?_
  refine step_slab s d kk b h v K V D B H hK hD hB hH hV ![0, 0] _ 0 rfl rfl _ _ ?_
  intro i l
  refine (shapeCast_apply _ shapeCasts_S1x64x128_S64x128 _ (ix3 (0 : Fin 1) i l)
    (by rewrite [Shape.rowMajor_val_three, Shape.rowMajor_val_two]
        show (0 * 64 + i.val) * 128 + l.val = i.val * 128 + l.val
        omega)).trans (hL i l)

end Slab

end Cert.WkvIdeal.Mine

end
-- ==== Proof.WkvRows.lean ====
/-
  What the four scratches of the recurrence hold, element by element: the decay, the key of length one, that key times the
  gate, and the key the state takes up. The sums of the key's heads are computed from the key's rounding and what the rounding
  left; over the reals the second part is zero, provided the key is finite.
-/
module

public import proofs.«01_k».proof.Proof.WkvSlab

@[expose] public section

noncomputable section

namespace Cert.WkvIdeal.Mine

open Cert.WkvIdeal Cert.WkvIdeal.Gen Idealize.ShloMosaic Idealize.ShloMosaic.TcCoe Idealize.SL.Sem
open Idealize.ShloMosaic.ValueIdx
open scoped BigOperators

/-! ## The functions -/

/-- The bound a head's length is kept above, squared. -/
def tiny : EReal := Ideal.ofBits (φ := .f32) 0x179ABE15#32
def onehalf : EReal := Ideal.ofBits (φ := .f32) 0x3F000000#32

/-- A row, its heads of length one. -/
def unitF (p : Fin 2048 → EReal) (n : Fin 2048) : EReal :=
  p n * Ideal.rsqrt (max (∑ k : Fin 64, p (headOf n k) * p (headOf n k)) tiny)

/-- `log (1 + eˣ)`. -/
def softF (x : EReal) : EReal := max x 0 + Ideal.log (1 + Ideal.exp (-max x (-x)))

/-- What the state keeps of a lane. -/
def decF (w0 wl : EReal) : EReal := Ideal.exp (-Ideal.exp (-softF (-(w0 + wl)) - onehalf))

/-- The gate. -/
def gateF (a0 al : EReal) : EReal := Ideal.logistic (a0 + al)

/-- The key the state takes up. -/
def khF (k a0 al ka : EReal) : EReal := k * (1 + (gateF a0 al - 1) * ka)

/-! ## Layouts -/

theorem rows_apply (x : Vec Ideal S1x8x2048 .f32) (j : Fin 8) (n : Fin 2048) :
    shapeCast S8x2048 x shapeCasts_S1x8x2048_S8x2048 (ix2 j n) = x (ix3 (0 : Fin 1) j n) :=
  shapeCast_apply _ shapeCasts_S1x8x2048_S8x2048 _ _
    (by rewrite [Shape.rowMajor_val_three, Shape.rowMajor_val_two]
        show (0 * 8 + j.val) * 2048 + n.val = j.val * 2048 + n.val
        omega)

theorem wide_apply (g : FVec Ideal S1x2048 .f32) (j : Fin 8) (n : Fin 2048) :
    broadcastTo S8x2048 g broadcasts_S1x2048_S8x2048 (ix2 j n) = g (ix2 (0 : Fin 1) n) :=
  broadcastTo_apply _ broadcasts_S1x2048_S8x2048 (ix2 j n) (ix2 (0 : Fin 1) n) (fun a => match a with
    | ⟨0, _⟩ => by show 0 = (if (1 : Nat) = 1 then 0 else j.val); rw [if_pos rfl]
    | ⟨1, _⟩ => by show n.val = (if (2048 : Nat) = 1 then 0 else n.val); rw [if_neg (by decide)])

/-! ## The decay, the gate, the key taken up -/

theorem zero_sub' (x : EReal) : (0 : EReal) - x = -x := by rw [sub_eq_add_neg, zero_add]

theorem decV_apply (w0 : Vec Ideal S1x2048 .f32) (wl : Vec Ideal S1x8x2048 .f32) (j : Fin 8) (n : Fin 2048) :
    decV w0 wl (ix2 j n) = decF (w0 (ix2 (0 : Fin 1) n)) (wl (ix3 (0 : Fin 1) j n)) := by
  have ex : (k0_pay11 w0 wl : FVec Ideal S8x2048 .f32) (ix2 j n) = w0 (ix2 (0 : Fin 1) n) + wl (ix3 (0 : Fin 1) j n) := by
    unfold k0_pay11
    rw [shapeCast_self]
    show broadcastTo S8x2048 w0 broadcasts_S1x2048_S8x2048 (ix2 j n) + shapeCast S8x2048 wl shapeCasts_S1x8x2048_S8x2048 (ix2 j n) = _
    rw [wide_apply, rows_apply]
  unfold decV k0_pay12
  rw [shapeCast_self]
  generalize k0_pay11 w0 wl = y at ex ⊢
  have e : ∀ z : EReal, y (ix2 j n) = z → Ideal.exp (Ideal.ofBits (φ := .f32) 0x00000000#32 - Ideal.exp (Ideal.ofBits (φ := .f32) 0x00000000#32
      - (max (Ideal.ofBits (φ := .f32) 0x00000000#32 - y (ix2 j n)) (Ideal.ofBits (φ := .f32) 0x00000000#32)
        + Ideal.log (Ideal.ofBits (φ := .f32) 0x3F800000#32 + Ideal.exp (Ideal.ofBits (φ := .f32) 0x00000000#32
          - max (Ideal.ofBits (φ := .f32) 0x00000000#32 - y (ix2 j n)) (-(Ideal.ofBits (φ := .f32) 0x00000000#32 - y (ix2 j n)))))) - onehalf))
      = Ideal.exp (-Ideal.exp (-softF (-z) - onehalf)) := by
    intro z hz
    rw [hz, Ideal.ofBits_zero_f32, Ideal.ofBits_one_f32]
    simp only [zero_sub']
    rfl
  exact e _ ex

theorem gateV_apply (a0 : Vec Ideal S1x2048 .f32) (al : Vec Ideal S1x8x2048 .f32) (j : Fin 8) (n : Fin 2048) :
    (k0_pay13 a0 al : FVec Ideal S8x2048 .f32) (ix2 j n) = gateF (a0 (ix2 (0 : Fin 1) n)) (al (ix3 (0 : Fin 1) j n)) := by
  unfold k0_pay13 gateF
  rw [shapeCast_self]
  show Ideal.logistic (broadcastTo S8x2048 a0 broadcasts_S1x2048_S8x2048 (ix2 j n) + shapeCast S8x2048 al shapeCasts_S1x8x2048_S8x2048 (ix2 j n)) = _
  rw [wide_apply, rows_apply]

theorem khV_apply (k : Vec Ideal S1x8x2048 .f32) (a0 : Vec Ideal S1x2048 .f32) (al : Vec Ideal S1x8x2048 .f32) (ka : Vec Ideal S1x2048 .f32)
    (j : Fin 8) (n : Fin 2048) : khV k a0 al ka (ix2 j n)
      = khF (k (ix3 (0 : Fin 1) j n)) (a0 (ix2 (0 : Fin 1) n)) (al (ix3 (0 : Fin 1) j n)) (ka (ix2 (0 : Fin 1) n)) := by
  unfold khV k0_pay44 k0_pay43 k0_pay10 khF
  rw [shapeCast_self, shapeCast_self]
  have e : ∀ A B W : EReal, (k0_pay13 a0 al : FVec Ideal S8x2048 .f32) (ix2 j n) = A
      → broadcastTo S8x2048 ka broadcasts_S1x2048_S8x2048 (ix2 j n) = B
      → shapeCast S8x2048 k shapeCasts_S1x8x2048_S8x2048 (ix2 j n) = W
      → shapeCast S8x2048 k shapeCasts_S1x8x2048_S8x2048 (ix2 j n) * (Ideal.ofBits (φ := .f32) 0x3F800000#32
        + ((k0_pay13 a0 al : FVec Ideal S8x2048 .f32) (ix2 j n) - Ideal.ofBits (φ := .f32) 0x3F800000#32)
          * broadcastTo S8x2048 ka broadcasts_S1x2048_S8x2048 (ix2 j n)) = W * (1 + (A - 1) * B) := by
    intro A B W hA hB hW
    rw [hA, hB, hW, Ideal.ofBits_one_f32]
  exact e _ _ _ (gateV_apply a0 al j n) (wide_apply ka j n) (rows_apply k j n)

/-! ## The sums of the heads -/

/-- A product of rows of a slab with the matrix of the heads' lanes. -/
theorem ones_product8 (x : FVec Ideal S8x128 .bf16) (j : Fin 8) (l : Fin 128) :
    matmul dot_S8x128_S128x128_S8x128_1_0_0_1_n_n none x onesV (constant S8x128 .f32 0x00000000#32) (ix2 j l)
      = ∑ k : Fin 64, x (ix2 j (half l k)) := by
  simp only [matmul]
  rw [show dot_S8x128_S128x128_S8x128_1_0_0_1_n_n = DotDims.plain 8 128 128 from rfl, Ideal.matmul_plain_apply]
  rw [show (constant S8x128 .f32 0x00000000#32 : FVec Ideal S8x128 .f32) (ix2 j l) = 0 from Ideal.ofBits_zero_f32, zero_add]
  rw [← sum_half (fun k => x (ix2 j k)) l]
  exact Finset.sum_congr rfl fun k _ => congrArg (x (ix2 j k) * ·) (onesV_apply k l)

section Sums

variable (x : FVec Ideal S8x2048 .f32) (hx : ∀ j n, x (ix2 j n) ≠ ⊤ ∧ x (ix2 j n) ≠ ⊥)

theorem cut_apply (s : Fin 16) (o : Fin 2 → Nat) (ho : S8x2048.Slices o S8x128) (h0 : o 0 = 0) (h1 : o 1 = s.val * 128) (j : Fin 8) (l : Fin 128) :
    extractStridedSlice S8x128 o x ho (ix2 j l) = x (ix2 j (lane s l)) :=
  extractStridedSlice_apply o x ho _ _ (fun a => match a with
    | ⟨0, _⟩ => by show j.val = o 0 + j.val; omega
    | ⟨1, _⟩ => by show s.val * 128 + l.val = o 1 + l.val; omega)

include hx in
theorem segV_apply (s : Fin 16) (o : Fin 2 → Nat) (ho : S8x2048.Slices o S8x128) (h0 : o 0 = 0) (h1 : o 1 = s.val * 128) (j : Fin 8) (l : Fin 128) :
    segV o ho onesV x (ix2 j l) = ∑ k : Fin 64, x (ix2 j (headOf (lane s l) k)) := by
  have e : segV o ho onesV x (ix2 j l)
      = matmul dot_S8x128_S128x128_S8x128_1_0_0_1_n_n none (truncf .bf16 (extractStridedSlice S8x128 o x ho) bitsLt_bf16_f32 : FVec Ideal S8x128 .bf16)
          onesV (constant S8x128 .f32 0x00000000#32) (ix2 j l)
        + matmul dot_S8x128_S128x128_S8x128_1_0_0_1_n_n none (truncf .bf16 (subf (extractStridedSlice S8x128 o x ho)
            (extf .f32 (truncf .bf16 (extractStridedSlice S8x128 o x ho) bitsLt_bf16_f32) bitsLt_bf16_f32)) bitsLt_bf16_f32 : FVec Ideal S8x128 .bf16)
          onesV (constant S8x128 .f32 0x00000000#32) (ix2 j l) := rfl
  rw [e, ones_product8, ones_product8]
  have z : ∀ m : Fin 128, (truncf .bf16 (subf (extractStridedSlice S8x128 o x ho)
      (extf .f32 (truncf .bf16 (extractStridedSlice S8x128 o x ho) bitsLt_bf16_f32) bitsLt_bf16_f32)) bitsLt_bf16_f32 : FVec Ideal S8x128 .bf16) (ix2 j m) = (0 : EReal) := by
    intro m
    have c := cut_apply x s o ho h0 h1 j m
    show extractStridedSlice S8x128 o x ho (ix2 j m) - extractStridedSlice S8x128 o x ho (ix2 j m) = (0 : EReal)
    rw [c]
    exact EReal.sub_self (hx j _).1 (hx j _).2
  rw [Finset.sum_congr rfl fun k _ => z (half l k), Finset.sum_const_zero, add_zero]
  refine Finset.sum_congr rfl fun k _ => ?_
  rw [headOf_lane]
  exact cut_apply x s o ho h0 h1 j _

/-- The sixteen slabs' offsets. -/
theorem cuts : ∀ s : Fin 16, S8x2048.Slices ![0, s.val * 128] S8x128 := by decide

theorem sumsV_eq (ones : FVec Ideal S128x128 .bf16) (h : Shape.Concatenates
      ((List.ofFn fun s : Fin 16 => (⟨S8x128, segV ![0, s.val * 128] (cuts s) ones x⟩ : (s : Shape) × (s.Idx → EReal))).map (·.1)) S8x2048 1) :
    sumsV ones x = concatenate S8x2048 1 (List.ofFn fun s : Fin 16 => (⟨S8x128, segV ![0, s.val * 128] (cuts s) ones x⟩ : (s : Shape) × (s.Idx → EReal))) h := by
  sl_kernel_rfl

include hx in
theorem sumsV_apply (j : Fin 8) (n : Fin 2048) : sumsV onesV x (ix2 j n) = ∑ k : Fin 64, x (ix2 j (headOf n k)) := by
  have hn := n.isLt
  have en : n = lane ⟨n.val / 128, by omega⟩ ⟨n.val % 128, Nat.mod_lt _ (by decide)⟩ := Fin.ext (by
    show n.val = n.val / 128 * 128 + n.val % 128; omega)
  have h : Shape.Concatenates
      ((List.ofFn fun s : Fin 16 => (⟨S8x128, segV ![0, s.val * 128] (cuts s) onesV x⟩ : (s : Shape) × (s.Idx → EReal))).map (·.1)) S8x2048 1 :=
    concatenates_S8x128_S8x128_S8x128_S8x128_S8x128_S8x128_S8x128_S8x128_S8x128_S8x128_S8x128_S8x128_S8x128_S8x128_S8x128_S8x128_S8x2048_d1
  rw [sumsV_eq x onesV h]
  refine (concatenate_ofFn_apply (t := S8x2048) (s₁ := S8x128) 1 (fun s : Fin 16 => segV ![0, s.val * 128] (cuts s) onesV x) h rfl 128 rfl (ix2 j n)
    ⟨n.val / 128, by omega⟩ rfl (ix2 j (⟨n.val % 128, Nat.mod_lt _ (by decide)⟩ : Fin 128)) rfl (fun b hb => match b, hb with
      | ⟨0, _⟩, _ => rfl
      | ⟨1, _⟩, hb => absurd rfl hb)).trans ?_
  refine (segV_apply x hx ⟨n.val / 128, by omega⟩ _ _ rfl rfl j _).trans ?_
  rw [← en]

end Sums

/-! ## The key of length one -/

section Key

variable (k : Vec Ideal S1x8x2048 .f32) (g : Vec Ideal S1x2048 .f32)
  (hk : ∀ j n, k (ix3 (0 : Fin 1) j n) ≠ ⊤ ∧ k (ix3 (0 : Fin 1) j n) ≠ ⊥) (hg : ∀ n, g (ix2 (0 : Fin 1) n) ≠ ⊤ ∧ g (ix2 (0 : Fin 1) n) ≠ ⊥)

/-- A finite number times a finite one is finite. -/
theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem keyV_apply (j : Fin 8) (n : Fin 2048) : keyV k g (ix2 j n) = k (ix3 (0 : Fin 1) j n) * g (ix2 (0 : Fin 1) n) := by
  unfold keyV
  rw [shapeCast_self]
  show shapeCast S8x2048 k shapeCasts_S1x8x2048_S8x2048 (ix2 j n) * broadcastTo S8x2048 g broadcasts_S1x2048_S8x2048 (ix2 j n) = _
  rw [wide_apply, rows_apply]

include hk hg in
theorem unitV_apply (j : Fin 8) (n : Fin 2048) :
    unitV onesV (keyV k g) (ix2 j n) = unitF (fun n => k (ix3 (0 : Fin 1) j n) * g (ix2 (0 : Fin 1) n)) n := by
  have fin : ∀ j n, (mulf (keyV k g) (keyV k g) : FVec Ideal S8x2048 .f32) (ix2 j n) ≠ (⊤ : EReal)
      ∧ (mulf (keyV k g) (keyV k g) : FVec Ideal S8x2048 .f32) (ix2 j n) ≠ (⊥ : EReal) := by
    intro j n
    show (keyV k g (ix2 j n) * keyV k g (ix2 j n) : EReal) ≠ ⊤ ∧ (keyV k g (ix2 j n) * keyV k g (ix2 j n) : EReal) ≠ ⊥
    rw [keyV_apply]
    exact mul_finite (mul_finite (hk j n) (hg n)) (mul_finite (hk j n) (hg n))
  have sums := sumsV_apply _ fin j n
  have e : unitV onesV (keyV k g) (ix2 j n) = keyV k g (ix2 j n) * Ideal.rsqrt (max (sumsV onesV (mulf (keyV k g) (keyV k g)) (ix2 j n)) tiny) := rfl
  rw [e, sums]
  have q : ∀ m : Fin 64, (mulf (keyV k g) (keyV k g) : FVec Ideal S8x2048 .f32) (ix2 j (headOf n m))
      = keyV k g (ix2 j (headOf n m)) * keyV k g (ix2 j (headOf n m)) := fun _ => rfl
  rw [Finset.sum_congr rfl fun m _ => q m]
  simp only [keyV_apply]
  rfl

include hk hg in
theorem kkV_apply (j : Fin 8) (n : Fin 2048) :
    kkV k g (ix2 j n) = unitF (fun n => k (ix3 (0 : Fin 1) j n) * g (ix2 (0 : Fin 1) n)) n := by
  unfold kkV
  rw [shapeCast_self]
  exact unitV_apply k g hk hg j n

include hk hg in
theorem bV_apply (a0 : Vec Ideal S1x2048 .f32) (al : Vec Ideal S1x8x2048 .f32) (j : Fin 8) (n : Fin 2048) :
    bV k g a0 al (ix2 j n) = unitF (fun n => k (ix3 (0 : Fin 1) j n) * g (ix2 (0 : Fin 1) n)) n
      * gateF (a0 (ix2 (0 : Fin 1) n)) (al (ix3 (0 : Fin 1) j n)) := by
  unfold bV
  rw [shapeCast_self]
  exact congrArg₂ (fun a b : EReal => a * b) (unitV_apply k g hk hg j n) (gateV_apply a0 al j n)

end Key

end Cert.WkvIdeal.Mine

end
-- ==== Proof.WkvBlock.lean ====
/-
  One batch element's block of the state after the body: four tokens of the recurrence, at every lane.
-/
module

public import proofs.«01_k».proof.Proof.WkvRows

@[expose] public section

noncomputable section

namespace Cert.WkvIdeal.Mine

open Cert.WkvIdeal Cert.WkvIdeal.Gen Idealize.ShloMosaic Idealize.ShloMosaic.TcCoe Idealize.SL.Sem
open Idealize.ShloMosaic.ValueIdx
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl

/-! ## The loads of a slab -/

theorem rowsV_apply (s : Fin 16) (v : View sig .tc .vmem S8x2048 .f32) (w : FVec Ideal S8x2048 .f32) (off : Fin 2 → Nat)
    (inb : ∀ a, off a + S8x128.size a ≤ S8x2048.size a) (h0 : off 0 = 0) (h1 : off 1 = s.val * 128) (j : Fin 8) (l : Fin 128) :
    rowsV v w off inb (ix2 j l) = w (ix2 j (lane s l)) := by
  unfold rowsV
  rw [View.readCov_eq_canon', View.canon_unit_zero z2]
  refine congrArg w (funext fun a => Fin.ext ((Rect.idx_unit_val (s := S8x2048) off S8x128.size inb (ix2 j l) a).trans ?_))
  match a with
  | ⟨0, _⟩ => show off 0 + j.val = j.val; omega
  | ⟨1, _⟩ => show off 1 + l.val = s.val * 128 + l.val; omega

theorem slabLd_apply (s : Fin 16) (v : View sig .tc .vmem S1x64x2048 .f32) (w : FVec Ideal S1x64x2048 .f32) (off : Fin 3 → Nat)
    (inb : ∀ a, off a + S1x64x128.size a ≤ S1x64x2048.size a) (h0 : off 0 = 0) (h1 : off 1 = 0) (h2 : off 2 = s.val * 128) (i : Fin 64) (l : Fin 128) :
    slabLd v w off inb (ix3 (0 : Fin 1) i l) = w (ix3 (0 : Fin 1) i (lane s l)) := by
  unfold slabLd
  rw [View.readCov_eq_canon', View.canon_unit_zero z3]
  refine congrArg w (funext fun a => Fin.ext ((Rect.idx_unit_val (s := S1x64x2048) off S1x64x128.size inb (ix3 (0 : Fin 1) i l) a).trans ?_))
  match a with
  | ⟨0, _⟩ => show off 0 + 0 = 0; omega
  | ⟨1, _⟩ => show off 1 + i.val = i.val; omega
  | ⟨2, _⟩ => show off 2 + l.val = s.val * 128 + l.val; omega

theorem valLd_apply (s : Fin 16) (arg : Memref sig .tc .vmem S1x8x2048 .f32) (harg : arg.IsWhole) (x : Vec Ideal S1x8x2048 .f32) (off : Fin 3 → Nat)
    (inb : ∀ a, off a + S1x8x128.size a ≤ S1x8x2048.size a) (h0 : off 0 = 0) (h1 : off 1 = 0) (h2 : off 2 = s.val * 128) (j : Fin 8) (l : Fin 128) :
    valLd arg.view (harg.unread x) off inb (ix3 (0 : Fin 1) j l) = x (ix3 (0 : Fin 1) j (lane s l)) := by
  unfold valLd
  simp only [View.readAt_eq_ld, harg.read_unread]
  refine View.ld_unit_apply_of x off S1x8x128.size inb (ix3 (0 : Fin 1) j l) (ix3 (0 : Fin 1) j (lane s l)) (fun a => ?_)
  match a with
  | ⟨0, _⟩ => show 0 = off 0 + 0; omega
  | ⟨1, _⟩ => show j.val = off 1 + j.val; omega
  | ⟨2, _⟩ => show s.val * 128 + l.val = off 2 + l.val; omega

/-! ## A slab's piece -/

section Pieces

variable (d kk b h v : Fin 8 → Fin 2048 → EReal) (S : Fin 64 → Fin 2048 → EReal)
  (K D B H : FVec Ideal S8x2048 .f32) (s0 : FVec Ideal S1x64x2048 .f32) (x2 : Vec Ideal S1x8x2048 .f32)
  (hK : ∀ j n, K (ix2 j n) = kk j n) (hD : ∀ j n, D (ix2 j n) = d j n) (hB : ∀ j n, B (ix2 j n) = b j n)
  (hH : ∀ j n, H (ix2 j n) = h j n) (hV : ∀ j n, x2 (ix3 (0 : Fin 1) j n) = v j n) (hS : ∀ i n, s0 (ix3 (0 : Fin 1) i n) = S i n)

include hK hD hB hH hV hS in
theorem piece_apply (s : Fin 16) (v17 : View sig .tc .vmem S1x64x2048 .f32) (v18 v19 v20 v21 : View sig .tc .vmem S8x2048 .f32)
    (arg4 : Memref sig .tc .vmem S1x8x2048 .f32) (harg4 : arg4.IsWhole)
    (offv : Fin 3 → Nat) (inbv : ∀ a, offv a + S1x8x128.size a ≤ S1x8x2048.size a) (ev : offv = ![0, 0, s.val * 128])
    (off2 : Fin 2 → Nat) (inb2 : ∀ a, off2 a + S8x128.size a ≤ S8x2048.size a) (e2 : off2 = ![0, s.val * 128])
    (off3 : Fin 3 → Nat) (inb3 : ∀ a, off3 a + S1x64x128.size a ≤ S1x64x2048.size a) (e3 : off3 = ![0, 0, s.val * 128]) (i : Fin 64) (l : Fin 128) :
    pieceV v17 v18 v19 v20 v21 s0 K D B H (valLd arg4.view (harg4.unread x2) offv inbv) off2 inb2 off3 inb3 (ix3 (0 : Fin 1) i l)
      = fourS d kk b h v S i (lane s l) := by
  subst ev e2 e3
  unfold pieceV
  refine slab_apply s d kk b h v S _ _ _ _ _ ?_ ?_ ?_ ?_ ?_ _ ?_ i l
  · intro j l; rw [rowsV_apply s _ _ _ _ rfl rfl, hK]
  · intro j l; rw [rowsV_apply s _ _ _ _ rfl rfl, hD]
  · intro j l; rw [rowsV_apply s _ _ _ _ rfl rfl, hB]
  · intro j l; rw [rowsV_apply s _ _ _ _ rfl rfl, hH]
  · intro j l; rw [valLd_apply s _ _ _ _ _ rfl rfl rfl, hV]
  · intro i l; rw [slabLd_apply s _ _ _ _ rfl rfl rfl, hS]

/-- A piece on top settles its own slab. -/
theorem peel (G : Fin 64 → Fin 2048 → EReal) (s' : Fin 16) (off : Fin 3 → Nat) (inb : ∀ a, off a + S1x64x128.size a ≤ S1x64x2048.size a)
    (e : off = ![0, 0, s'.val * 128]) (w : (Rect.unit (s := S1x64x2048) off S1x64x128.size inb).shape.Idx → Elt Ideal .f32) (L : List (View.Piece (Elt Ideal) S1x64x2048 .f32))
    (s : Fin 16) (i : Fin 64) (l : Fin 128) (hw : ∀ i l, w (ix3 (0 : Fin 1) i l) = G i (lane s' l))
    (hL : s ≠ s' → View.canon L (ix3 (0 : Fin 1) i (lane s l)) = G i (lane s l)) :
    View.canon ((⟨Rect.unit (s := S1x64x2048) off S1x64x128.size inb, w⟩ : View.Piece (Elt Ideal) S1x64x2048 .f32) :: L) (ix3 (0 : Fin 1) i (lane s l))
      = G i (lane s l) := by
  subst e
  by_cases hs : s = s'
  · subst hs
    have ey : (Rect.unit (s := S1x64x2048) ![0, 0, s.val * 128] S1x64x128.size inb).emb (ix3 (0 : Fin 1) i l) = ix3 (0 : Fin 1) i (lane s l) := by
      refine funext fun a => Fin.ext ?_
      match a with
      | ⟨0, _⟩ => rfl
      | ⟨1, _⟩ => show 0 + 1 * i.val = i.val; omega
      | ⟨2, _⟩ => show s.val * 128 + 1 * l.val = s.val * 128 + l.val; omega
    rw [← ey]
    exact (View.canon_cons_emb (Val := Elt Ideal) _ w L (ix3 (0 : Fin 1) i l)).trans (hw i l)
  · refine (View.canon_cons_of_not_mem _ _ fun hm => hs (Fin.ext ?_)).trans (hL hs)
    have h2 := ((Rect.mem_set_unit (inb := inb)).1 hm) (2 : Fin 3)
    have ha : s'.val * 128 ≤ s.val * 128 + l.val := h2.1
    have hb : s.val * 128 + l.val < s'.val * 128 + 128 := h2.2
    have := l.isLt
    omega

include hK hD hB hH hV hS in
theorem pieces_apply (arg4 : Memref sig .tc .vmem S1x8x2048 .f32) (harg4 : arg4.IsWhole) (arg17 : Memref sig .tc .vmem S1x64x2048 .f32)
    (arg18 arg19 arg20 arg21 : Memref sig .tc .vmem S8x2048 .f32) (t0 : Vec Ideal S1x64x2048 .f32) (ht : k0_pay9 t0 = s0)
    (s : Fin 16) (i : Fin 64) (l : Fin 128) :
    View.canon (piecesV arg4 harg4 arg17 arg18 arg19 arg20 arg21 x2 t0 K D B H) (ix3 (0 : Fin 1) i (lane s l))
      = fourS d kk b h v S i (lane s l) := by
  subst ht
  unfold piecesV
  refine peel (fourS d kk b h v S) 15 _ _ rfl _ _ s i l (piece_apply d kk b h v S K D B H _ x2 hK hD hB hH hV hS 15 _ _ _ _ _ arg4 harg4 _ _ (by decide +kernel) _ _ (by decide +kernel) _ _ rfl) fun n15 => ?_
  refine peel (fourS d kk b h v S) 14 _ _ rfl _ _ s i l (piece_apply d kk b h v S K D B H _ x2 hK hD hB hH hV hS 14 _ _ _ _ _ arg4 harg4 _ _ (by decide +kernel) _ _ (by decide +kernel) _ _ rfl) fun n14 => ?_
  refine peel (fourS d kk b h v S) 13 _ _ rfl _ _ s i l (piece_apply d kk b h v S K D B H _ x2 hK hD hB hH hV hS 13 _ _ _ _ _ arg4 harg4 _ _ (by decide +kernel) _ _ (by decide +kernel) _ _ rfl) fun n13 => ?_
  refine peel (fourS d kk b h v S) 12 _ _ rfl _ _ s i l (piece_apply d kk b h v S K D B H _ x2 hK hD hB hH hV hS 12 _ _ _ _ _ arg4 harg4 _ _ (by decide +kernel) _ _ (by decide +kernel) _ _ rfl) fun n12 => ?_
  refine peel (fourS d kk b h v S) 11 _ _ rfl _ _ s i l (piece_apply d kk b h v S K D B H _ x2 hK hD hB hH hV hS 11 _ _ _ _ _ arg4 harg4 _ _ (by decide +kernel) _ _ (by decide +kernel) _ _ rfl) fun n11 => ?_
  refine peel (fourS d kk b h v S) 10 _ _ rfl _ _ s i l (piece_apply d kk b h v S K D B H _ x2 hK hD hB hH hV hS 10 _ _ _ _ _ arg4 harg4 _ _ (by decide +kernel) _ _ (by decide +kernel) _ _ rfl) fun n10 => ?_
  refine peel (fourS d kk b h v S) 9 _ _ rfl _ _ s i l (piece_apply d kk b h v S K D B H _ x2 hK hD hB hH hV hS 9 _ _ _ _ _ arg4 harg4 _ _ (by decide +kernel) _ _ (by decide +kernel) _ _ rfl) fun n9 => ?_
  refine peel (fourS d kk b h v S) 8 _ _ rfl _ _ s i l (piece_apply d kk b h v S K D B H _ x2 hK hD hB hH hV hS 8 _ _ _ _ _ arg4 harg4 _ _ (by decide +kernel) _ _ (by decide +kernel) _ _ rfl) fun n8 => ?_
  refine peel (fourS d kk b h v S) 7 _ _ rfl _ _ s i l (piece_apply d kk b h v S K D B H _ x2 hK hD hB hH hV hS 7 _ _ _ _ _ arg4 harg4 _ _ (by decide +kernel) _ _ (by decide +kernel) _ _ rfl) fun n7 => ?_
  refine peel (fourS d kk b h v S) 6 _ _ rfl _ _ s i l (piece_apply d kk b h v S K D B H _ x2 hK hD hB hH hV hS 6 _ _ _ _ _ arg4 harg4 _ _ (by decide +kernel) _ _ (by decide +kernel) _ _ rfl) fun n6 => ?_
  refine peel (fourS d kk b h v S) 5 _ _ rfl _ _ s i l (piece_apply d kk b h v S K D B H _ x2 hK hD hB hH hV hS 5 _ _ _ _ _ arg4 harg4 _ _ (by decide +kernel) _ _ (by decide +kernel) _ _ rfl) fun n5 => ?_
  refine peel (fourS d kk b h v S) 4 _ _ rfl _ _ s i l (piece_apply d kk b h v S K D B H _ x2 hK hD hB hH hV hS 4 _ _ _ _ _ arg4 harg4 _ _ (by decide +kernel) _ _ (by decide +kernel) _ _ rfl) fun n4 => ?_
  refine peel (fourS d kk b h v S) 3 _ _ rfl _ _ s i l (piece_apply d kk b h v S K D B H _ x2 hK hD hB hH hV hS 3 _ _ _ _ _ arg4 harg4 _ _ (by decide +kernel) _ _ (by decide +kernel) _ _ rfl) fun n3 => ?_
  refine peel (fourS d kk b h v S) 2 _ _ rfl _ _ s i l (piece_apply d kk b h v S K D B H _ x2 hK hD hB hH hV hS 2 _ _ _ _ _ arg4 harg4 _ _ (by decide +kernel) _ _ (by decide +kernel) _ _ rfl) fun n2 => ?_
  refine peel (fourS d kk b h v S) 1 _ _ rfl _ _ s i l (piece_apply d kk b h v S K D B H _ x2 hK hD hB hH hV hS 1 _ _ _ _ _ arg4 harg4 _ _ (by decide +kernel) _ _ (by decide +kernel) _ _ rfl) fun n1 => ?_
  refine peel (fourS d kk b h v S) 0 _ _ rfl _ _ s i l (piece_apply d kk b h v S K D B H _ x2 hK hD hB hH hV hS 0 _ _ _ _ _ arg4 harg4 _ _ (by decide +kernel) _ _ (by decide +kernel) _ _ rfl) fun n0 => ?_
  exfalso
  have hs := s.isLt
  have m0 : s.val ≠ 0 := fun e => n0 (Fin.ext e)
  have m1 : s.val ≠ 1 := fun e => n1 (Fin.ext e)
  have m2 : s.val ≠ 2 := fun e => n2 (Fin.ext e)
  have m3 : s.val ≠ 3 := fun e => n3 (Fin.ext e)
  have m4 : s.val ≠ 4 := fun e => n4 (Fin.ext e)
  have m5 : s.val ≠ 5 := fun e => n5 (Fin.ext e)
  have m6 : s.val ≠ 6 := fun e => n6 (Fin.ext e)
  have m7 : s.val ≠ 7 := fun e => n7 (Fin.ext e)
  have m8 : s.val ≠ 8 := fun e => n8 (Fin.ext e)
  have m9 : s.val ≠ 9 := fun e => n9 (Fin.ext e)
  have m10 : s.val ≠ 10 := fun e => n10 (Fin.ext e)
  have m11 : s.val ≠ 11 := fun e => n11 (Fin.ext e)
  have m12 : s.val ≠ 12 := fun e => n12 (Fin.ext e)
  have m13 : s.val ≠ 13 := fun e => n13 (Fin.ext e)
  have m14 : s.val ≠ 14 := fun e => n14 (Fin.ext e)
  have m15 : s.val ≠ 15 := fun e => n15 (Fin.ext e)
  omega

end Pieces

/-! ## The block -/

theorem pay9_eq (x : Vec Ideal S1x64x2048 .f32) : k0_pay9 x = x := by
  unfold k0_pay9
  funext y
  refine (shapeCast_apply _ shapeCasts_S64x2048_S1x64x2048 y (ix2 (y 1) (y 2))
    (by rewrite [Shape.rowMajor_val_three, Shape.rowMajor_val_two]
        have h0 : (y 0).val < 1 := (y 0).isLt
        show (y 1).val * 2048 + (y 2).val = ((y 0).val * 64 + (y 1).val) * 2048 + (y 2).val
        omega)).trans ?_
  exact shapeCast_apply _ shapeCasts_S1x64x2048_S64x2048 _ y
    (by rewrite [Shape.rowMajor_val_three, Shape.rowMajor_val_two]
        have h0 : (y 0).val < 1 := (y 0).isLt
        show ((y 0).val * 64 + (y 1).val) * 2048 + (y 2).val = (y 1).val * 2048 + (y 2).val
        omega)

/-- Four tokens from the block's arguments. -/
def blockF (x1 x2 x3 x4 : Fin 8 → Fin 2048 → EReal) (x6 x7 x8 x9 : Fin 2048 → EReal) (x13 : Fin 64 → Fin 2048 → EReal) : Fin 64 → Fin 2048 → EReal :=
  fourS (fun j n => decF (x6 n) (x3 j n)) (fun j n => unitF (fun n => x1 j n * x8 n) n)
    (fun j n => unitF (fun n => x1 j n * x8 n) n * gateF (x7 n) (x4 j n)) (fun j n => khF (x1 j n) (x7 n) (x4 j n) (x9 n)) x2 x13

theorem left_apply (c : Dev nD) (i : grid0.Coords) (arg2 : RowM) (harg2 : arg2.IsWhole) (arg3 : RowM) (harg3 : arg3.IsWhole) (arg4 : RowM) (harg4 : arg4.IsWhole) (arg5 : RowM) (harg5 : arg5.IsWhole) (arg6 : RowM) (harg6 : arg6.IsWhole) (arg7 : RowM) (harg7 : arg7.IsWhole) (arg8 : GainM) (harg8 : arg8.IsWhole) (arg9 : GainM) (harg9 : arg9.IsWhole) (arg10 : GainM) (harg10 : arg10.IsWhole) (arg11 : GainM) (harg11 : arg11.IsWhole) (arg12 : GainM) (harg12 : arg12.IsWhole) (arg13 : GainM) (harg13 : arg13.IsWhole) (arg14 : GainM) (harg14 : arg14.IsWhole) (arg15 : Memref sig .tc .vmem S1x64x2048 .f32) (harg15 : arg15.IsWhole) (arg16 : Memref sig .tc .vmem S1x8x2048 .bf16) (harg16 : arg16.IsWhole) (arg17 : Memref sig .tc .vmem S1x64x2048 .f32) (harg17 : arg17.IsWhole) (arg18 : ScrM) (harg18 : arg18.IsWhole) (arg19 : ScrM) (harg19 : arg19.IsWhole) (arg20 : ScrM) (harg20 : arg20.IsWhole) (arg21 : ScrM) (harg21 : arg21.IsWhole) (arg22 : ScrM) (harg22 : arg22.IsWhole) (hc0 : cond0_0 i)
    (x0 x1 x2 x3 x4 x5 : Vec Ideal S1x8x2048 .f32) (x6 x7 x8 x9 x10 x11 x12 : Vec Ideal S1x2048 .f32) (x13 : Vec Ideal S1x64x2048 .f32)
    (hk : ∀ j n, x1 (ix3 (0 : Fin 1) j n) ≠ ⊤ ∧ x1 (ix3 (0 : Fin 1) j n) ≠ ⊥) (hg : ∀ n, x8 (ix2 (0 : Fin 1) n) ≠ ⊤ ∧ x8 (ix2 (0 : Fin 1) n) ≠ ⊥)
    (r : Fin 64) (n : Fin 2048) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 (ix3 (0 : Fin 1) r n)
      = blockF (fun j n => x1 (ix3 (0 : Fin 1) j n)) (fun j n => x2 (ix3 (0 : Fin 1) j n)) (fun j n => x3 (ix3 (0 : Fin 1) j n)) (fun j n => x4 (ix3 (0 : Fin 1) j n))
          (fun n => x6 (ix2 (0 : Fin 1) n)) (fun n => x7 (ix2 (0 : Fin 1) n)) (fun n => x8 (ix2 (0 : Fin 1) n)) (fun n => x9 (ix2 (0 : Fin 1) n))
          (fun i n => x13 (ix3 (0 : Fin 1) i n)) r n := by
  have hn := n.isLt
  have en : n = lane ⟨n.val / 128, by omega⟩ ⟨n.val % 128, Nat.mod_lt _ (by decide)⟩ := Fin.ext (by
    show n.val = n.val / 128 * 128 + n.val % 128; omega)
  unfold out0_A_15
  rw [View.read_writes_junk_apply_eq_canon, pieces_eq]
  simp only [View.readAt_eq_ld, harg3.read_unread, harg5.read_unread, harg6.read_unread, harg8.read_unread, harg9.read_unread, harg10.read_unread,
    harg11.read_unread, harg15.read_unread]
  rw [View.ld_unit_zero (S := S1x8x2048) z3, View.ld_unit_zero (S := S1x8x2048) z3, View.ld_unit_zero (S := S1x8x2048) z3,
    View.ld_unit_zero (S := S1x2048) z2, View.ld_unit_zero (S := S1x2048) z2, View.ld_unit_zero (S := S1x2048) z2, View.ld_unit_zero (S := S1x2048) z2,
    View.ld_unit_zero (S := S1x64x2048) z3]
  rw [en]
  unfold blockF
  exact pieces_apply _ _ _ _ _ _ _ _ _ _ x13 x2 (fun j n => kkV_apply x1 x8 hk hg j n) (fun j n => decV_apply x6 x3 j n)
    (fun j n => bV_apply x1 x8 hk hg x7 x4 j n) (fun j n => khV_apply x1 x7 x4 x9 j n) (fun _ _ => rfl) (fun _ _ => rfl)
    arg4 harg4 arg17 arg18 arg19 arg20 arg21 x13 (pay9_eq x13) _ r _

end Cert.WkvIdeal.Mine

end
-- ==== Proof.WkvFinal.lean ====
/-
  The state after the run of the recurrence's call: what the host prepares, what the blocks of the arguments read, and that
  the blocks written are those of one array, the four steps of `blockF` batch row by batch row.
-/
module

public import proofs.«01_k».proof.Proof.WkvBlock
public import proofs.«01_k».proof.Proof.Gen.WkvIdeal.Value
public import Idealize.ShloMosaic.Lib.StableHlo.Run
public import Idealize.ShloMosaic.Lib.Routing.OpsOrder

@[expose] public section

noncomputable section

namespace Cert.WkvIdeal.Mine

open Cert.WkvIdeal Cert.WkvIdeal.Gen Idealize.ShloMosaic Idealize.ShloMosaic.TcCoe Idealize.SL.Sem
open Idealize.ShloMosaic.ValueIdx
open Idealize.ShloMosaic.Pipeline (Dat)
open scoped BigOperators

/-- The head a channel lies in, and its lane there. -/
abbrev hd (n : Fin 2048) : Fin 32 := ⟨n.val / 64, by have := n.isLt; omega⟩
abbrev ld (n : Fin 2048) : Fin 64 := ⟨n.val % 64, Nat.mod_lt _ (by decide)⟩

/-- The new state, as a function of batch row, row and channel, from the seven argument arrays that enter it and the old state. -/
def stateF (k v wl al : S8x8x2048.Idx → EReal) (w0 a0 kk ka : S2048.Idx → EReal) (s : S8x32x64x64.Idx → EReal) (b : Fin 8) (i : Fin 64) (n : Fin 2048) : EReal :=
  blockF (fun j n => k (ix3 b j n)) (fun j n => v (ix3 b j n)) (fun j n => wl (ix3 b j n)) (fun j n => al (ix3 b j n))
    (fun n => w0 (ix1 n)) (fun n => a0 (ix1 n)) (fun n => kk (ix1 n)) (fun n => ka (ix1 n))
    (fun i n => s (ix4 b (hd n) i (ld n))) i n

/-- The same, as an array. -/
def stateArr (k v wl al : S8x8x2048.Idx → EReal) (w0 a0 kk ka : S2048.Idx → EReal) (s : S8x32x64x64.Idx → EReal) : S8x64x2048.Idx → EReal :=
  fun y => stateF k v wl al w0 a0 kk ka s (y 0) (y 1) (y 2)

variable (m : (ℓ : Loc nD τ sig) → Buf (Elt Ideal) ℓ)

/-! ## What the host prepares -/

theorem host1 (c : Dev nD) : V m c main_v1 = shapeCast S8x64x2048 (transpose S8x64x32x64 [0, 2, 1, 3] (m ((c : Thread nD τ).loc main_arg13)) transposes_S8x32x64x64_S8x64x32x64_0_2_1_3) shapeCasts_S8x64x32x64_S8x64x2048 := by
  unfold V
  after_results <;> rfl

theorem host2 (c : Dev nD) : V m c main_v2 = shapeCast S1x2048 (m ((c : Thread nD τ).loc main_arg6)) shapeCasts_S2048_S1x2048 := by
  unfold V
  after_results <;> rfl

theorem host3 (c : Dev nD) : V m c main_v3 = shapeCast S1x2048 (m ((c : Thread nD τ).loc main_arg7)) shapeCasts_S2048_S1x2048 := by
  unfold V
  after_results <;> rfl

theorem host4 (c : Dev nD) : V m c main_v4 = shapeCast S1x2048 (m ((c : Thread nD τ).loc main_arg8)) shapeCasts_S2048_S1x2048 := by
  unfold V
  after_results <;> rfl

theorem host5 (c : Dev nD) : V m c main_v5 = shapeCast S1x2048 (m ((c : Thread nD τ).loc main_arg9)) shapeCasts_S2048_S1x2048 := by
  unfold V
  after_results <;> rfl

theorem rowV (g : FVec Ideal S2048 .f32) (k : Fin 2048) : shapeCast S1x2048 g shapeCasts_S2048_S1x2048 (ix2 (0 : Fin 1) k) = g (ix1 k) :=
  shapeCast_apply _ shapeCasts_S2048_S1x2048 _ (ix1 k) (by
    rewrite [Shape.rowMajor_val_one, Shape.rowMajor_val_two]; show k.val = 0 * 2048 + k.val; omega)

theorem stateV (g : FVec Ideal S8x32x64x64 .f32) (b : Fin 8) (i : Fin 64) (n : Fin 2048) :
    shapeCast S8x64x2048 (transpose S8x64x32x64 [0, 2, 1, 3] g transposes_S8x32x64x64_S8x64x32x64_0_2_1_3) shapeCasts_S8x64x32x64_S8x64x2048 (ix3 b i n)
      = g (ix4 b (hd n) i (ld n)) := by
  have hb := b.isLt
  have hi := i.isLt
  have hn := n.isLt
  refine (shapeCast_apply _ shapeCasts_S8x64x32x64_S8x64x2048 _ (ix4 b i (hd n) (ld n)) (by
    rewrite [Shape.rowMajor_val_four, Shape.rowMajor_val_three]
    show ((b.val * 64 + i.val) * 32 + n.val / 64) * 64 + n.val % 64 = (b.val * 64 + i.val) * 2048 + n.val
    omega)).trans ?_
  exact transpose_apply [0, 2, 1, 3] g transposes_S8x32x64x64_S8x64x32x64_0_2_1_3 _ (ix4 b (hd n) i (ld n)) (fun b => match b with
    | ⟨0, _⟩ => rfl
    | ⟨1, _⟩ => rfl
    | ⟨2, _⟩ => rfl
    | ⟨3, _⟩ => rfl)

/-! ## Where the windows stand -/

theorem places : ∀ t : Fin cfg0.N,
    (win0_1.index t (0 : Fin 3) = win0_15.index t (0 : Fin 3) ∧ win0_1.index t (1 : Fin 3) = 0 ∧ win0_1.index t (2 : Fin 3) = 0)
    ∧ (win0_2.index t (0 : Fin 3) = win0_15.index t (0 : Fin 3) ∧ win0_2.index t (1 : Fin 3) = 0 ∧ win0_2.index t (2 : Fin 3) = 0)
    ∧ (win0_3.index t (0 : Fin 3) = win0_15.index t (0 : Fin 3) ∧ win0_3.index t (1 : Fin 3) = 0 ∧ win0_3.index t (2 : Fin 3) = 0)
    ∧ (win0_4.index t (0 : Fin 3) = win0_15.index t (0 : Fin 3) ∧ win0_4.index t (1 : Fin 3) = 0 ∧ win0_4.index t (2 : Fin 3) = 0)
    ∧ (win0_13.index t (0 : Fin 3) = win0_15.index t (0 : Fin 3) ∧ win0_13.index t (1 : Fin 3) = 0 ∧ win0_13.index t (2 : Fin 3) = 0) :=
  (by decide +kernel : ∀ t : Fin grid0.N, _)

theorem places_row : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem places_out : ∀ t : Fin cfg0.N,
    win0_15.index t (0 : Fin 3) < 8 ∧ win0_15.index t (1 : Fin 3) = 0 ∧ win0_15.index t (2 : Fin 3) = 0 :=
  (by decide +kernel : ∀ t : Fin grid0.N, _)

theorem onto : ∀ p : Fin 8, ∃ t : Fin cfg0.N, (cfg0.win 15).flush t = true ∧ win0_15.index t (0 : Fin 3) = p.val :=
  (by decide +kernel : ∀ p : Fin 8, ∃ t : Fin grid0.N, win0_15.flush t = true ∧ win0_15.index t (0 : Fin 3) = p.val)

/-- The arguments, as arrays of reals. -/
abbrev argK (c : Dev nD) : S8x8x2048.Idx → EReal := m ((c : Thread nD τ).loc main_arg1)
abbrev argV (c : Dev nD) : S8x8x2048.Idx → EReal := m ((c : Thread nD τ).loc main_arg2)
abbrev argW (c : Dev nD) : S8x8x2048.Idx → EReal := m ((c : Thread nD τ).loc main_arg3)
abbrev argA (c : Dev nD) : S8x8x2048.Idx → EReal := m ((c : Thread nD τ).loc main_arg4)
abbrev argW0 (c : Dev nD) : S2048.Idx → EReal := m ((c : Thread nD τ).loc main_arg6)
abbrev argA0 (c : Dev nD) : S2048.Idx → EReal := m ((c : Thread nD τ).loc main_arg7)
abbrev argKK (c : Dev nD) : S2048.Idx → EReal := m ((c : Thread nD τ).loc main_arg8)
abbrev argKA (c : Dev nD) : S2048.Idx → EReal := m ((c : Thread nD τ).loc main_arg9)
abbrev argS (c : Dev nD) : S8x32x64x64.Idx → EReal := m ((c : Thread nD τ).loc main_arg13)

/-! ## What the blocks read -/

section Blocks

variable (c : Dev nD) (t : Fin cfg0.N) (b : Fin 8) (hb : b.val = win0_15.index t (0 : Fin 3))

include hb in
theorem read1 (j : Fin 8) (n : Fin 2048) : (iblk m c 1 t : Vec Ideal S1x8x2048 .f32) (ix3 (0 : Fin 1) j n) = argK m c (ix3 b j n) := by
  obtain ⟨⟨e0, e1, e2⟩, -, -, -, -⟩ := places t
  show V m c main_arg1 (((cfg0.win 1).blk t).view.emb _) = _
  rw [V_main_arg1]
  refine congrArg _ (funext fun a => Fin.ext ?_)
  match a with
  | ⟨0, _⟩ => show win0_1.index t (0 : Fin 3) * 1 + 1 * 0 = b.val; rw [e0, hb]; omega
  | ⟨1, _⟩ => show win0_1.index t (1 : Fin 3) * 8 + 1 * j.val = j.val; rw [e1]; omega
  | ⟨2, _⟩ => show win0_1.index t (2 : Fin 3) * 2048 + 1 * n.val = n.val; rw [e2]; omega

include hb in
theorem read2 (j : Fin 8) (n : Fin 2048) : (iblk m c 2 t : Vec Ideal S1x8x2048 .f32) (ix3 (0 : Fin 1) j n) = argV m c (ix3 b j n) := by
  obtain ⟨-, ⟨e0, e1, e2⟩, -, -, -⟩ := places t
  show V m c main_arg2 (((cfg0.win 2).blk t).view.emb _) = _
  rw [V_main_arg2]
  refine congrArg _ (funext fun a => Fin.ext ?_)
  match a with
  | ⟨0, _⟩ => show win0_2.index t (0 : Fin 3) * 1 + 1 * 0 = b.val; rw [e0, hb]; omega
  | ⟨1, _⟩ => show win0_2.index t (1 : Fin 3) * 8 + 1 * j.val = j.val; rw [e1]; omega
  | ⟨2, _⟩ => show win0_2.index t (2 : Fin 3) * 2048 + 1 * n.val = n.val; rw [e2]; omega

include hb in
theorem read3 (j : Fin 8) (n : Fin 2048) : (iblk m c 3 t : Vec Ideal S1x8x2048 .f32) (ix3 (0 : Fin 1) j n) = argW m c (ix3 b j n) := by
  obtain ⟨-, -, ⟨e0, e1, e2⟩, -, -⟩ := places t
  show V m c main_arg3 (((cfg0.win 3).blk t).view.emb _) = _
  rw [V_main_arg3]
  refine congrArg _ (funext fun a => Fin.ext ?_)
  match a with
  | ⟨0, _⟩ => show win0_3.index t (0 : Fin 3) * 1 + 1 * 0 = b.val; rw [e0, hb]; omega
  | ⟨1, _⟩ => show win0_3.index t (1 : Fin 3) * 8 + 1 * j.val = j.val; rw [e1]; omega
  | ⟨2, _⟩ => show win0_3.index t (2 : Fin 3) * 2048 + 1 * n.val = n.val; rw [e2]; omega

include hb in
theorem read4 (j : Fin 8) (n : Fin 2048) : (iblk m c 4 t : Vec Ideal S1x8x2048 .f32) (ix3 (0 : Fin 1) j n) = argA m c (ix3 b j n) := by
  obtain ⟨-, -, -, ⟨e0, e1, e2⟩, -⟩ := places t
  show V m c main_arg4 (((cfg0.win 4).blk t).view.emb _) = _
  rw [V_main_arg4]
  refine congrArg _ (funext fun a => Fin.ext ?_)
  match a with
  | ⟨0, _⟩ => show win0_4.index t (0 : Fin 3) * 1 + 1 * 0 = b.val; rw [e0, hb]; omega
  | ⟨1, _⟩ => show win0_4.index t (1 : Fin 3) * 8 + 1 * j.val = j.val; rw [e1]; omega
  | ⟨2, _⟩ => show win0_4.index t (2 : Fin 3) * 2048 + 1 * n.val = n.val; rw [e2]; omega

theorem read6 (n : Fin 2048) : (iblk m c 6 t : Vec Ideal S1x2048 .f32) (ix2 (0 : Fin 1) n) = argW0 m c (ix1 n) := by
  obtain ⟨⟨e0, e1⟩, -, -, -⟩ := places_row t
  show V m c main_v2 (((cfg0.win 6).blk t).view.emb _) = _
  rw [host2]
  refine Eq.trans (congrArg _ (funext fun a => Fin.ext ?_)) (rowV _ n)
  match a with
  | ⟨0, _⟩ => show win0_6.index t (0 : Fin 2) * 1 + 1 * 0 = 0; rw [e0]
  | ⟨1, _⟩ => show win0_6.index t (1 : Fin 2) * 2048 + 1 * n.val = n.val; rw [e1]; omega

theorem read7 (n : Fin 2048) : (iblk m c 7 t : Vec Ideal S1x2048 .f32) (ix2 (0 : Fin 1) n) = argA0 m c (ix1 n) := by
  obtain ⟨-, ⟨e0, e1⟩, -, -⟩ := places_row t
  show V m c main_v3 (((cfg0.win 7).blk t).view.emb _) = _
  rw [host3]
  refine Eq.trans (congrArg _ (funext fun a => Fin.ext ?_)) (rowV _ n)
  match a with
  | ⟨0, _⟩ => show win0_7.index t (0 : Fin 2) * 1 + 1 * 0 = 0; rw [e0]
  | ⟨1, _⟩ => show win0_7.index t (1 : Fin 2) * 2048 + 1 * n.val = n.val; rw [e1]; omega

theorem read8 (n : Fin 2048) : (iblk m c 8 t : Vec Ideal S1x2048 .f32) (ix2 (0 : Fin 1) n) = argKK m c (ix1 n) := by
  obtain ⟨-, -, ⟨e0, e1⟩, -⟩ := places_row t
  show V m c main_v4 (((cfg0.win 8).blk t).view.emb _) = _
  rw [host4]
  refine Eq.trans (congrArg _ (funext fun a => Fin.ext ?_)) (rowV _ n)
  match a with
  | ⟨0, _⟩ => show win0_8.index t (0 : Fin 2) * 1 + 1 * 0 = 0; rw [e0]
  | ⟨1, _⟩ => show win0_8.index t (1 : Fin 2) * 2048 + 1 * n.val = n.val; rw [e1]; omega

theorem read9 (n : Fin 2048) : (iblk m c 9 t : Vec Ideal S1x2048 .f32) (ix2 (0 : Fin 1) n) = argKA m c (ix1 n) := by
  obtain ⟨-, -, -, ⟨e0, e1⟩⟩ := places_row t
  show V m c main_v5 (((cfg0.win 9).blk t).view.emb _) = _
  rw [host5]
  refine Eq.trans (congrArg _ (funext fun a => Fin.ext ?_)) (rowV _ n)
  match a with
  | ⟨0, _⟩ => show win0_9.index t (0 : Fin 2) * 1 + 1 * 0 = 0; rw [e0]
  | ⟨1, _⟩ => show win0_9.index t (1 : Fin 2) * 2048 + 1 * n.val = n.val; rw [e1]; omega

include hb in
theorem read13 (i : Fin 64) (n : Fin 2048) : (iblk m c 13 t : Vec Ideal S1x64x2048 .f32) (ix3 (0 : Fin 1) i n) = argS m c (ix4 b (hd n) i (ld n)) := by
  obtain ⟨-, -, -, -, ⟨e0, e1, e2⟩⟩ := places t
  show V m c main_v1 (((cfg0.win 13).blk t).view.emb _) = _
  rw [host1]
  refine Eq.trans (congrArg _ (funext fun a => Fin.ext ?_)) (stateV _ b i n)
  match a with
  | ⟨0, _⟩ => show win0_13.index t (0 : Fin 3) * 1 + 1 * 0 = b.val; rw [e0, hb]; omega
  | ⟨1, _⟩ => show win0_13.index t (1 : Fin 3) * 64 + 1 * i.val = i.val; rw [e1]; omega
  | ⟨2, _⟩ => show win0_13.index t (2 : Fin 3) * 2048 + 1 * n.val = n.val; rw [e2]; omega

end Blocks

/-! ## The array -/

/-- The new state of the run, from the arguments in memory. -/
abbrev newState (c : Dev nD) : S8x64x2048.Idx → EReal :=
  stateArr (argK m c) (argV m c) (argW m c) (argA m c) (argW0 m c) (argA0 m c) (argKK m c) (argKA m c) (argS m c)

theorem flushed15_eq (c : Dev nD) (hk : ∀ i, argK m c i ≠ ⊤ ∧ argK m c i ≠ ⊥) (hg : ∀ i, argKK m c i ≠ ⊤ ∧ argKK m c i ≠ ⊥) (t : Fin cfg0.N) :
    (dats m 0 c).flushed 15 t = ((cfg0.win 15).blk t).view.read (Elt Ideal) (newState m c) := by
  rw [Cert.WkvIdeal.Value.flushed15_A]
  obtain ⟨hB, e1, e2⟩ := places_out t
  funext y
  have hy0 : (y 0).val < 1 := (y 0).isLt
  have hy1 : (y 1).val < 64 := (y 1).isLt
  have hy2 : (y 2).val < 2048 := (y 2).isLt
  have ex : (cfg0.win 15).xinj (grid0.coords t) y = ix3 (0 : Fin 1) (⟨(y 1).val, hy1⟩ : Fin 64) (⟨(y 2).val, hy2⟩ : Fin 2048) :=
    funext fun a => Fin.ext (match a with
      | ⟨0, _⟩ => by show (y 0).val = 0; omega
      | ⟨1, _⟩ => rfl
      | ⟨2, _⟩ => rfl)
  refine (congrArg (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) ex).trans ?_
  have rk := read1 m c t ⟨win0_15.index t (0 : Fin 3), hB⟩ rfl
  refine (left_apply c (grid0.coords t) _ _ _ _ _ _ _ _ _ _ _ _ _ _ _ _ _ _ _ _ _ _ _ _ _ _ _ _ _ _ _ _ _ _ _ _ _ _ _ _ _ _ _ _ _ _ _ _ _ _ _ _ _ _ _ _ _
    (fun j n => by rw [rk]; exact hk _) (fun n => by rw [read8]; exact hg _) _ _).trans ?_
  refine Eq.trans (b := stateF (argK m c) (argV m c) (argW m c) (argA m c) (argW0 m c) (argA0 m c) (argKK m c) (argKA m c) (argS m c)
    ⟨win0_15.index t (0 : Fin 3), hB⟩ ⟨(y 1).val, hy1⟩ ⟨(y 2).val, hy2⟩) ?_ ?_
  · unfold stateF
    rw [funext fun j => funext fun n => rk j n, funext fun j => funext fun n => read2 m c t ⟨win0_15.index t (0 : Fin 3), hB⟩ rfl j n,
      funext fun j => funext fun n => read3 m c t ⟨win0_15.index t (0 : Fin 3), hB⟩ rfl j n, funext fun j => funext fun n => read4 m c t ⟨win0_15.index t (0 : Fin 3), hB⟩ rfl j n,
      funext fun i => funext fun n => read13 m c t ⟨win0_15.index t (0 : Fin 3), hB⟩ rfl i n,
      funext fun n => read6 m c t n, funext fun n => read7 m c t n, funext fun n => read8 m c t n, funext fun n => read9 m c t n]
  · show _ = stateF _ _ _ _ _ _ _ _ _ (((cfg0.win 15).blk t).view.emb y 0) (((cfg0.win 15).blk t).view.emb y 1) (((cfg0.win 15).blk t).view.emb y 2)
    congr 1
    · exact Fin.ext (by show win0_15.index t (0 : Fin 3) = win0_15.index t (0 : Fin 3) * 1 + 1 * (y 0).val; omega)
    · exact Fin.ext (by show (y 1).val = win0_15.index t (1 : Fin 3) * 64 + 1 * (y 1).val; rw [e1]; omega)
    · exact Fin.ext (by show (y 2).val = win0_15.index t (2 : Fin 3) * 2048 + 1 * (y 2).val; rw [e2]; omega)

theorem final15 (c : Dev nD) (hk : ∀ i, argK m c i ≠ ⊤ ∧ argK m c i ≠ ⊥) (hg : ∀ i, argKK m c i ≠ ⊤ ∧ argKK m c i ≠ ⊥) :
    (dats m 0 c).arrAt 15 cfg0.N = newState m c :=
  (dats m 0 c).arrAt_eq_of_cover 15 _ (fun t _ => flushed15_eq m c hk hg t) (fun i => by
    have h0 : (i 0).val < 8 := (i 0).isLt
    have h1 : (i 1).val < 64 := (i 1).isLt
    have h2 : (i 2).val < 2048 := (i 2).isLt
    obtain ⟨t, hf, e0⟩ := onto ⟨(i 0).val, h0⟩
    obtain ⟨hB, e1, e2⟩ := places_out t
    refine ⟨t, hf, ?_⟩
    show i ∈ ((View.whole main_v9_1).slice (win0_15.rect t)).set
    rw [View.set_slice_whole, Rect.mem_set_unit]
    intro a
    match a with
    | ⟨0, _⟩ => show win0_15.index t (0 : Fin 3) * 1 ≤ (i 0).val ∧ (i 0).val < win0_15.index t (0 : Fin 3) * 1 + 1; rw [e0]; dsimp only; omega
    | ⟨1, _⟩ => show win0_15.index t (1 : Fin 3) * 64 ≤ (i 1).val ∧ (i 1).val < win0_15.index t (1 : Fin 3) * 64 + 64; rw [e1]; omega
    | ⟨2, _⟩ => show win0_15.index t (2 : Fin 3) * 2048 ≤ (i 2).val ∧ (i 2).val < win0_15.index t (2 : Fin 3) * 2048 + 2048; rw [e2]; omega)

end Cert.WkvIdeal.Mine

end
-- ==== Proof.WkvReference.lean ====
/-
  The reference of the recurrence's call: its new state, read element by element through its lines, is the array of the
  function stated for the kernel.
-/
module

public import proofs.«01_k».proof.Proof.WkvFinal
public import proofs.«01_k».proof.Proof.Gen.WkvRefIdeal
public import proofs.«01_k».proof.Proof.Gen.WkvRefIdeal.Run
public import proofs.«01_k».proof.Proof.Gen.WkvRefIdeal.Read

@[expose] public section

noncomputable section

namespace Cert.WkvReference

open Cert.WkvRefIdeal Cert.WkvRefIdeal.Gen Cert.WkvRefIdeal.Read Idealize.ShloMosaic
open Idealize.ShloMosaic.ValueIdx
open Cert.WkvIdeal.Mine (hd ld headOf tiny onehalf unitF softF decF gateF khF stepS fourS blockF stateF stateArr)
open scoped BigOperators

/-- Lane `k` of head `h`; the first four tokens among the eight. -/
abbrev ln (h : Fin 32) (k : Fin 64) : Fin 2048 := ⟨h.val * 64 + k.val, by have := h.isLt; have := k.isLt; omega⟩
abbrev tk (t : Fin 4) : Fin 8 := ⟨t.val, by have := t.isLt; omega⟩

theorem hd_ln (h : Fin 32) (k : Fin 64) : hd (ln h k) = h := Fin.ext (by
  have := k.isLt; show (h.val * 64 + k.val) / 64 = h.val; omega)
theorem ld_ln (h : Fin 32) (k : Fin 64) : ld (ln h k) = k := Fin.ext (by
  have := k.isLt; show (h.val * 64 + k.val) % 64 = k.val; omega)
theorem ln_hd_ld (n : Fin 2048) : ln (hd n) (ld n) = n := Fin.ext (by
  show n.val / 64 * 64 + n.val % 64 = n.val; omega)
theorem headOf_ln (h : Fin 32) (k j : Fin 64) : headOf (ln h k) j = ln h j := Fin.ext (by
  have := k.isLt; show (h.val * 64 + k.val) / 64 * 64 + j.val = h.val * 64 + j.val; omega)

/-! ## The indices of the layouts -/

theorem splitIx (b : Fin 8) (t : Fin 4) (h : Fin 32) (k : Fin 64) : idx_main_v44 (ix4 b t h k) = ix3 b t (ln h k) := by
  have hb := b.isLt
  have ht := t.isLt
  have hh := h.isLt
  have hk := k.isLt
  refine funext fun a => Fin.ext ?_
  match a with
  | ⟨0, _⟩ => show (((b.val * 4 + t.val) * 32 + h.val) * 64 + k.val) / 8192 = b.val; omega
  | ⟨1, _⟩ => show (((b.val * 4 + t.val) * 32 + h.val) * 64 + k.val) / 2048 % 4 = t.val; omega
  | ⟨2, _⟩ => show (((b.val * 4 + t.val) * 32 + h.val) * 64 + k.val) % 2048 = h.val * 64 + k.val; omega

theorem dropIx (b : Fin 8) (h : Fin 32) (k : Fin 64) : idx_main_v50 (ix3 b h k) = ix4 b (0 : Fin 1) h k := by
  have hb := b.isLt
  have hh := h.isLt
  have hk := k.isLt
  refine funext fun a => Fin.ext ?_
  match a with
  | ⟨0, _⟩ => show ((b.val * 32 + h.val) * 64 + k.val) / 2048 = b.val; omega
  | ⟨1, _⟩ => rfl
  | ⟨2, _⟩ => show ((b.val * 32 + h.val) * 64 + k.val) / 64 % 32 = h.val; omega
  | ⟨3, _⟩ => show ((b.val * 32 + h.val) * 64 + k.val) % 64 = k.val; omega

theorem tokIx0 (b : Fin 8) (h : Fin 32) (k : Fin 64) : idx_main_v49 (ix4 b (0 : Fin 1) h k) = ix4 b (0 : Fin 4) h k :=
  funext fun a => Fin.ext (match a with
    | ⟨0, _⟩ => rfl
    | ⟨1, _⟩ => rfl
    | ⟨2, _⟩ => rfl
    | ⟨3, _⟩ => rfl)

theorem tokIx1 (b : Fin 8) (h : Fin 32) (k : Fin 64) : idx_main_v76 (ix4 b (0 : Fin 1) h k) = ix4 b (1 : Fin 4) h k :=
  funext fun a => Fin.ext (match a with
    | ⟨0, _⟩ => rfl
    | ⟨1, _⟩ => rfl
    | ⟨2, _⟩ => rfl
    | ⟨3, _⟩ => rfl)

theorem tokIx2 (b : Fin 8) (h : Fin 32) (k : Fin 64) : idx_main_v103 (ix4 b (0 : Fin 1) h k) = ix4 b (2 : Fin 4) h k :=
  funext fun a => Fin.ext (match a with
    | ⟨0, _⟩ => rfl
    | ⟨1, _⟩ => rfl
    | ⟨2, _⟩ => rfl
    | ⟨3, _⟩ => rfl)

theorem tokIx3 (b : Fin 8) (h : Fin 32) (k : Fin 64) : idx_main_v130 (ix4 b (0 : Fin 1) h k) = ix4 b (3 : Fin 4) h k :=
  funext fun a => Fin.ext (match a with
    | ⟨0, _⟩ => rfl
    | ⟨1, _⟩ => rfl
    | ⟨2, _⟩ => rfl
    | ⟨3, _⟩ => rfl)

theorem wideIx (b : Fin 8) (h : Fin 32) (i k : Fin 64) : idx_main_v60 (idx_main_v61 (ix4 b h i k)) = ix3 b h k :=
  funext fun a => Fin.ext (match a with
    | ⟨0, _⟩ => rfl
    | ⟨1, _⟩ => rfl
    | ⟨2, _⟩ => rfl)

theorem tallIx (b : Fin 8) (h : Fin 32) (i k : Fin 64) : idx_main_v63 (idx_main_v66 (ix4 b h i k)) = ix3 b h i :=
  funext fun a => Fin.ext (match a with
    | ⟨0, _⟩ => rfl
    | ⟨1, _⟩ => rfl
    | ⟨2, _⟩ => rfl)

theorem dotL (b : Fin 8) (h : Fin 32) (i j : Fin 64) : lidx_main_v59 (ix3 b h i) j = ix4 b h i j :=
  funext fun a => Fin.ext (match a with
    | ⟨0, _⟩ => rfl
    | ⟨1, _⟩ => rfl
    | ⟨2, _⟩ => rfl
    | ⟨3, _⟩ => rfl)

theorem dotR (b : Fin 8) (h : Fin 32) (i j : Fin 64) : ridx_main_v59 (ix3 b h i) j = ix3 b h j :=
  funext fun a => Fin.ext (match a with
    | ⟨0, _⟩ => rfl
    | ⟨1, _⟩ => rfl
    | ⟨2, _⟩ => rfl)

theorem firstIx (b : Fin 8) (t : Fin 4) (n : Fin 2048) : idx_main_v0 (ix3 b t n) = ix3 b (tk t) n :=
  funext fun a => Fin.ext (match a with
    | ⟨0, _⟩ => rfl
    | ⟨1, _⟩ => rfl
    | ⟨2, _⟩ => rfl)

theorem vecIx (b : Fin 8) (t : Fin 4) (n : Fin 2048) : idx_main_v4 (idx_main_v5 (ix3 b t n)) = ix1 n :=
  funext fun a => Fin.ext (match a with
    | ⟨0, _⟩ => rfl)

variable (x1 x2 x3 x4 : S8x8x2048.Idx → EReal) (x6 x7 x8 x9 : S2048.Idx → EReal) (x13 : S8x32x64x64.Idx → EReal)
  (b : Fin 8) (t : Fin 4) (h : Fin 32) (k : Fin 64) (n : Fin 2048)

/-! ## The rows, token by token -/

theorem une_self (y : EReal) : FloatOps.cmpf (F := Ideal) (φ := .f32) .une y y = 0#1 := by simp [Ideal.cmpf_def, Ideal.cmp]

theorem sub_nought (y : EReal) : y - Ideal.ofBits .f32 0x00000000#32 = y := by rw [Ideal.ofBits_zero_f32]; exact sub_zero y

theorem pre_at : val_main_v7 (F := Ideal) x3 x6 (ix3 b t n) = -(x6 (ix1 n) + x3 (ix3 b (tk t) n)) := by
  rw [val_main_v7_apply, val_main_v6_apply, val_main_v5_apply, val_main_v4_apply, val_main_v2_apply]
  exact congrArg₂ (fun p q : EReal => -(p + q)) (congrArg x6 (vecIx b t n)) (congrArg x3 (firstIx b t n))

theorem soft_at : val_main_v8 (F := Ideal) x3 x6 (ix3 b t n) = softF (-(x6 (ix1 n) + x3 (ix3 b (tk t) n))) := by
  have e3 : val_main_call0_v3 (F := Ideal) x3 x6 (ix3 b t n) = -(x6 (ix1 n) + x3 (ix3 b (tk t) n)) := by
    rw [val_main_call0_v3_apply, pre_at, val_main_call0_v2_apply, val_main_call0_cst_apply]
    exact sub_nought _
  rw [val_main_v8_apply, val_main_call0_v4_apply, une_self, select_zero, val_main_call0_v11_apply, val_main_call0_v1_apply, val_main_call0_v10_apply,
    val_main_call0_v9_apply, val_main_call0_v8_apply, val_main_call0_v7_apply, e3, pre_at, val_main_call0_v0_apply, val_main_call0_cst_apply]
  unfold softF
  generalize -(x6 (ix1 n) + x3 (ix3 b (tk t) n)) = y
  exact congrArg (fun z : EReal => max y z + Ideal.log (1 + Ideal.exp (-max y (-y)))) Ideal.ofBits_zero_f32

theorem dec_at : val_main_v47 (F := Ideal) x3 x6 (ix4 b t h k) = decF (x6 (ix1 (ln h k))) (x3 (ix3 b (tk t) (ln h k))) := by
  rw [val_main_v47_apply, val_main_v46_apply, val_main_v45_apply, val_main_v44_apply, splitIx, val_main_v11_apply, val_main_v9_apply, soft_at,
    val_main_v10_apply, val_main_cst_apply]
  rfl

theorem gate_row : val_main_v20 (F := Ideal) x4 x7 (ix3 b t n) = gateF (x7 (ix1 n)) (x4 (ix3 b (tk t) n)) := by
  rw [val_main_v20_apply, val_main_v19_apply, val_main_cst_1_apply, val_main_v18_apply, val_main_v17_apply, val_main_cst_0_apply, val_main_v16_apply,
    val_main_v15_apply, val_main_v14_apply, val_main_v13_apply, val_main_v12_apply, val_main_v3_apply]
  have e : val_main_v14 (F := Ideal) x4 x7 (ix3 b t n) = x7 (ix1 n) + x4 (ix3 b (tk t) n) := by
    rw [val_main_v14_apply, val_main_v13_apply, val_main_v12_apply, val_main_v3_apply]
    exact congrArg₂ (fun p q : EReal => p + q) (congrArg x7 (vecIx b t n)) (congrArg x4 (firstIx b t n))
  rw [val_main_v14_apply, val_main_v13_apply, val_main_v12_apply, val_main_v3_apply] at e
  rw [e]
  unfold gateF Ideal.logistic
  exact congrArg (fun z : EReal => Ideal.div z (z + Ideal.exp (-(x7 (ix1 n) + x4 (ix3 b (tk t) n))))) Ideal.ofBits_one_f32

theorem gate_at : val_main_v33 (F := Ideal) x4 x7 (ix4 b t h k) = gateF (x7 (ix1 (ln h k))) (x4 (ix3 b (tk t) (ln h k))) := by
  rw [val_main_v33_apply]
  exact (congrArg (val_main_v20 (F := Ideal) x4 x7) (splitIx b t h k)).trans (gate_row x4 x7 b t _)

theorem kh_at : val_main_v43 (F := Ideal) x1 x4 x7 x9 (ix4 b t h k)
    = khF (x1 (ix3 b (tk t) (ln h k))) (x7 (ix1 (ln h k))) (x4 (ix3 b (tk t) (ln h k))) (x9 (ix1 (ln h k))) := by
  have ek : val_main_v34 (F := Ideal) x1 (ix4 b t h k) = x1 (ix3 b (tk t) (ln h k)) := by
    rw [val_main_v34_apply, val_main_v0_apply]
    exact congrArg x1 ((congrArg idx_main_v0 (splitIx b t h k)).trans (firstIx b t _))
  have ea : val_main_v39 (F := Ideal) x9 (ix4 b t h k) = x9 (ix1 (ln h k)) := by
    rw [val_main_v39_apply, val_main_v38_apply, val_main_v37_apply]
    exact congrArg x9 (funext fun a => Fin.ext (match a with
      | ⟨0, _⟩ => rfl))
  rw [val_main_v43_apply, val_main_v42_apply, val_main_v41_apply, val_main_cst_5_apply, val_main_v40_apply, val_main_v36_apply, val_main_v35_apply,
    val_main_cst_4_apply, ek, ea, gate_at]
  unfold khF
  exact congrArg (fun z : EReal => x1 (ix3 b (tk t) (ln h k)) * (z + (gateF (x7 (ix1 (ln h k))) (x4 (ix3 b (tk t) (ln h k))) - z) * x9 (ix1 (ln h k)))) Ideal.ofBits_one_f32

theorem key_at : val_main_v24 (F := Ideal) x1 x8 (ix4 b t h k) = x1 (ix3 b (tk t) (ln h k)) * x8 (ix1 (ln h k)) := by
  rw [val_main_v24_apply, val_main_v23_apply, val_main_v0_apply, val_main_v22_apply, val_main_v21_apply]
  exact congrArg₂ (fun p q : EReal => p * q) (congrArg x1 ((congrArg idx_main_v0 (splitIx b t h k)).trans (firstIx b t _)))
    (congrArg x8 ((congrArg (fun i => idx_main_v4 (idx_main_v5 i)) (splitIx b t h k)).trans (vecIx b t _)))

theorem sumIx (j : Fin 64) : idx_main_v26 (idx_main_v27 (idx_main_v31 (ix4 b t h k))) j = ix4 b t h j :=
  funext fun a => Fin.ext (match a with
    | ⟨0, _⟩ => rfl
    | ⟨1, _⟩ => rfl
    | ⟨2, _⟩ => rfl
    | ⟨3, _⟩ => rfl)

theorem unit_at : val_main_v32 (F := Ideal) x1 x8 (ix4 b t h k) = unitF (fun n => x1 (ix3 b (tk t) n) * x8 (ix1 n)) (ln h k) := by
  have es : val_main_v26 (F := Ideal) x1 x8 (idx_main_v27 (idx_main_v31 (ix4 b t h k)))
      = ∑ j : Fin 64, (x1 (ix3 b (tk t) (headOf (ln h k) j)) * x8 (ix1 (headOf (ln h k) j))) * (x1 (ix3 b (tk t) (headOf (ln h k) j)) * x8 (ix1 (headOf (ln h k) j))) := by
    rw [val_main_v26_apply, val_main_cst_2_apply]
    refine (congrArg₂ (fun p q : EReal => p + q) (Ideal.ofBits_zero_f32) rfl).trans ((zero_add _).trans ?_)
    refine Finset.sum_congr rfl fun j _ => ?_
    rw [val_main_v25_apply, sumIx, key_at, headOf_ln]
    rfl
  rw [val_main_v32_apply, key_at, val_main_v31_apply, val_main_v30_apply, val_main_v29_apply, val_main_v27_apply, es, val_main_v28_apply, val_main_cst_3_apply]
  rfl

theorem val_at : val_main_v48 (F := Ideal) x2 (ix4 b t h k) = x2 (ix3 b (tk t) (ln h k)) := by
  rw [val_main_v48_apply, val_main_v1_apply]
  exact congrArg x2 ((congrArg idx_main_v1 (splitIx b t h k)).trans (firstIx b t _))

/-! ## The four steps -/

/-- The five rows of a token, as functions of the channel. -/
abbrev decR (n : Fin 2048) : EReal := decF (x6 (ix1 n)) (x3 (ix3 b (tk t) n))
abbrev khR (n : Fin 2048) : EReal := khF (x1 (ix3 b (tk t) n)) (x7 (ix1 n)) (x4 (ix3 b (tk t) n)) (x9 (ix1 n))
abbrev valR (n : Fin 2048) : EReal := x2 (ix3 b (tk t) n)
abbrev unitR (n : Fin 2048) : EReal := unitF (fun n => x1 (ix3 b (tk t) n) * x8 (ix1 n)) n
abbrev gateR (n : Fin 2048) : EReal := gateF (x7 (ix1 n)) (x4 (ix3 b (tk t) n))

/-- One step, from what the lines say of the state by head, row and lane. -/
theorem step_of (N O : S8x32x64x64.Idx → EReal) (D U B H W : S8x32x64.Idx → EReal) (d u e p w : Fin 2048 → EReal)
    (eD : ∀ h k, D (ix3 b h k) = d (ln h k)) (eU : ∀ h k, U (ix3 b h k) = u (ln h k)) (eB : ∀ h k, B (ix3 b h k) = e (ln h k))
    (eH : ∀ h k, H (ix3 b h k) = p (ln h k)) (eW : ∀ h k, W (ix3 b h k) = w (ln h k))
    (eN : ∀ h i k, N (ix4 b h i k) = O (ix4 b h i k) * D (ix3 b h k) - (∑ j : Fin 64, O (ix4 b h i j) * U (ix3 b h j)) * B (ix3 b h k)
      + W (ix3 b h i) * H (ix3 b h k)) :
    (fun (i : Fin 64) (n : Fin 2048) => N (ix4 b (hd n) i (ld n))) = stepS d u e p w (fun i n => O (ix4 b (hd n) i (ld n))) := by
  funext i n
  obtain ⟨h, k, rfl⟩ : ∃ (h : Fin 32) (k : Fin 64), n = ln h k := ⟨hd n, ld n, (ln_hd_ld n).symm⟩
  have eO (j : Fin 64) : (ix4 b (hd (ln h j)) i (ld (ln h j)) : S8x32x64x64.Idx) = ix4 b h i j := by rw [hd_ln, ld_ln]
  show N (ix4 b (hd (ln h k)) i (ld (ln h k))) = O (ix4 b (hd (ln h k)) i (ld (ln h k))) * d (ln h k)
    - (∑ j : Fin 64, O (ix4 b (hd (headOf (ln h k) j)) i (ld (headOf (ln h k) j))) * u (headOf (ln h k) j)) * e (ln h k) + w (headOf (ln h k) i) * p (ln h k)
  simp only [headOf_ln, eO, eN, eD, eU, eB, eH, eW]

theorem dec0 : val_main_v50 (F := Ideal) x3 x6 (ix3 b h k) = decR x3 x6 b 0 (ln h k) := by
  rw [val_main_v50_apply, val_main_v49_apply]
  exact (congrArg (val_main_v47 (F := Ideal) x3 x6) ((congrArg idx_main_v49 (dropIx b h k)).trans (tokIx0 b h k))).trans (dec_at x3 x6 b 0 h k)

theorem kh0 : val_main_v52 (F := Ideal) x1 x4 x7 x9 (ix3 b h k) = khR x1 x4 x7 x9 b 0 (ln h k) := by
  rw [val_main_v52_apply, val_main_v51_apply]
  exact (congrArg (val_main_v43 (F := Ideal) x1 x4 x7 x9) ((congrArg idx_main_v49 (dropIx b h k)).trans (tokIx0 b h k))).trans (kh_at x1 x4 x7 x9 b 0 h k)

theorem val0 : val_main_v54 (F := Ideal) x2 (ix3 b h k) = valR x2 b 0 (ln h k) := by
  rw [val_main_v54_apply, val_main_v53_apply]
  exact (congrArg (val_main_v48 (F := Ideal) x2) ((congrArg idx_main_v49 (dropIx b h k)).trans (tokIx0 b h k))).trans (val_at x2 b 0 h k)

theorem unit0 : val_main_v56 (F := Ideal) x1 x8 (ix3 b h k) = unitR x1 x8 b 0 (ln h k) := by
  rw [val_main_v56_apply, val_main_v55_apply]
  exact (congrArg (val_main_v32 (F := Ideal) x1 x8) ((congrArg idx_main_v49 (dropIx b h k)).trans (tokIx0 b h k))).trans (unit_at x1 x8 b 0 h k)

theorem gate0 : val_main_v58 (F := Ideal) x4 x7 (ix3 b h k) = gateR x4 x7 b 0 (ln h k) := by
  rw [val_main_v58_apply, val_main_v57_apply]
  exact (congrArg (val_main_v33 (F := Ideal) x4 x7) ((congrArg idx_main_v49 (dropIx b h k)).trans (tokIx0 b h k))).trans (gate_at x4 x7 b 0 h k)

theorem step0 : (fun (i : Fin 64) (n : Fin 2048) => val_main_v75 (F := Ideal) x1 x2 x3 x4 x6 x7 x8 x9 x13 (ix4 b (hd n) i (ld n)))
    = stepS (decR x3 x6 b 0) (unitR x1 x8 b 0) (fun n => unitR x1 x8 b 0 n * gateR x4 x7 b 0 n) (khR x1 x4 x7 x9 b 0) (valR x2 b 0)
        (fun i n => x13 (ix4 b (hd n) i (ld n))) := by
  refine step_of b _ (x13) _ _ (val_main_v64 (F := Ideal) x1 x4 x7 x8) _ _ _ _ _ _ _ (dec0 x3 x6 b) (unit0 x1 x8 b) (fun h k => ?_) (kh0 x1 x4 x7 x9 b) (val0 x2 b) (fun h i k => ?_)
  · rw [val_main_v64_apply, unit0, gate0]
    rfl
  rw [val_main_v75_apply, val_main_v69_apply, val_main_v62_apply, val_main_v61_apply, val_main_v60_apply, val_main_v68_apply, val_main_v66_apply, val_main_v63_apply, val_main_v67_apply, val_main_v65_apply, val_main_v74_apply, val_main_v72_apply, val_main_v70_apply, val_main_v73_apply, val_main_v71_apply]
  refine congrArg₂ (fun p q : EReal => p + q) (congrArg₂ (fun p q : EReal => p - q) (congrArg₂ (fun p q : EReal => p * q) rfl (congrArg _ (wideIx b h i k)))
    (congrArg₂ (fun p q : EReal => p * q) ((congrArg (val_main_v59 (F := Ideal) x1 x8 x13) (tallIx b h i k)).trans ?_) (congrArg _ (wideIx b h i k))))
    (congrArg₂ (fun p q : EReal => p * q) (congrArg _ (tallIx b h i k)) (congrArg _ (wideIx b h i k)))
  rw [val_main_v59_apply]
  exact Finset.sum_congr rfl fun j _ => congrArg₂ (fun p q : EReal => p * q) (congrArg (x13) (dotL b h i j)) (congrArg _ (dotR b h i j))

theorem dec1 : val_main_v77 (F := Ideal) x3 x6 (ix3 b h k) = decR x3 x6 b 1 (ln h k) := by
  rw [val_main_v77_apply, val_main_v76_apply]
  exact (congrArg (val_main_v47 (F := Ideal) x3 x6) ((congrArg idx_main_v76 (dropIx b h k)).trans (tokIx1 b h k))).trans (dec_at x3 x6 b 1 h k)

theorem kh1 : val_main_v79 (F := Ideal) x1 x4 x7 x9 (ix3 b h k) = khR x1 x4 x7 x9 b 1 (ln h k) := by
  rw [val_main_v79_apply, val_main_v78_apply]
  exact (congrArg (val_main_v43 (F := Ideal) x1 x4 x7 x9) ((congrArg idx_main_v76 (dropIx b h k)).trans (tokIx1 b h k))).trans (kh_at x1 x4 x7 x9 b 1 h k)

theorem val1 : val_main_v81 (F := Ideal) x2 (ix3 b h k) = valR x2 b 1 (ln h k) := by
  rw [val_main_v81_apply, val_main_v80_apply]
  exact (congrArg (val_main_v48 (F := Ideal) x2) ((congrArg idx_main_v76 (dropIx b h k)).trans (tokIx1 b h k))).trans (val_at x2 b 1 h k)

theorem unit1 : val_main_v83 (F := Ideal) x1 x8 (ix3 b h k) = unitR x1 x8 b 1 (ln h k) := by
  rw [val_main_v83_apply, val_main_v82_apply]
  exact (congrArg (val_main_v32 (F := Ideal) x1 x8) ((congrArg idx_main_v76 (dropIx b h k)).trans (tokIx1 b h k))).trans (unit_at x1 x8 b 1 h k)

theorem gate1 : val_main_v85 (F := Ideal) x4 x7 (ix3 b h k) = gateR x4 x7 b 1 (ln h k) := by
  rw [val_main_v85_apply, val_main_v84_apply]
  exact (congrArg (val_main_v33 (F := Ideal) x4 x7) ((congrArg idx_main_v76 (dropIx b h k)).trans (tokIx1 b h k))).trans (gate_at x4 x7 b 1 h k)

theorem step1 : (fun (i : Fin 64) (n : Fin 2048) => val_main_v102 (F := Ideal) x1 x2 x3 x4 x6 x7 x8 x9 x13 (ix4 b (hd n) i (ld n)))
    = stepS (decR x3 x6 b 1) (unitR x1 x8 b 1) (fun n => unitR x1 x8 b 1 n * gateR x4 x7 b 1 n) (khR x1 x4 x7 x9 b 1) (valR x2 b 1)
        (fun i n => val_main_v75 (F := Ideal) x1 x2 x3 x4 x6 x7 x8 x9 x13 (ix4 b (hd n) i (ld n))) := by
  refine step_of b _ (val_main_v75 (F := Ideal) x1 x2 x3 x4 x6 x7 x8 x9 x13) _ _ (val_main_v91 (F := Ideal) x1 x4 x7 x8) _ _ _ _ _ _ _ (dec1 x3 x6 b) (unit1 x1 x8 b) (fun h k => ?_) (kh1 x1 x4 x7 x9 b) (val1 x2 b) (fun h i k => ?_)
  · rw [val_main_v91_apply, unit1, gate1]
    rfl
  rw [val_main_v102_apply, val_main_v96_apply, val_main_v89_apply, val_main_v88_apply, val_main_v87_apply, val_main_v95_apply, val_main_v93_apply, val_main_v90_apply, val_main_v94_apply, val_main_v92_apply, val_main_v101_apply, val_main_v99_apply, val_main_v97_apply, val_main_v100_apply, val_main_v98_apply]
  refine congrArg₂ (fun p q : EReal => p + q) (congrArg₂ (fun p q : EReal => p - q) (congrArg₂ (fun p q : EReal => p * q) rfl (congrArg _ (wideIx b h i k)))
    (congrArg₂ (fun p q : EReal => p * q) ((congrArg (val_main_v86 (F := Ideal) x1 x2 x3 x4 x6 x7 x8 x9 x13) (tallIx b h i k)).trans ?_) (congrArg _ (wideIx b h i k))))
    (congrArg₂ (fun p q : EReal => p * q) (congrArg _ (tallIx b h i k)) (congrArg _ (wideIx b h i k)))
  rw [val_main_v86_apply]
  exact Finset.sum_congr rfl fun j _ => congrArg₂ (fun p q : EReal => p * q) (congrArg (val_main_v75 (F := Ideal) x1 x2 x3 x4 x6 x7 x8 x9 x13) (dotL b h i j)) (congrArg _ (dotR b h i j))

theorem dec2 : val_main_v104 (F := Ideal) x3 x6 (ix3 b h k) = decR x3 x6 b 2 (ln h k) := by
  rw [val_main_v104_apply, val_main_v103_apply]
  exact (congrArg (val_main_v47 (F := Ideal) x3 x6) ((congrArg idx_main_v103 (dropIx b h k)).trans (tokIx2 b h k))).trans (dec_at x3 x6 b 2 h k)

theorem kh2 : val_main_v106 (F := Ideal) x1 x4 x7 x9 (ix3 b h k) = khR x1 x4 x7 x9 b 2 (ln h k) := by
  rw [val_main_v106_apply, val_main_v105_apply]
  exact (congrArg (val_main_v43 (F := Ideal) x1 x4 x7 x9) ((congrArg idx_main_v103 (dropIx b h k)).trans (tokIx2 b h k))).trans (kh_at x1 x4 x7 x9 b 2 h k)

theorem val2 : val_main_v108 (F := Ideal) x2 (ix3 b h k) = valR x2 b 2 (ln h k) := by
  rw [val_main_v108_apply, val_main_v107_apply]
  exact (congrArg (val_main_v48 (F := Ideal) x2) ((congrArg idx_main_v103 (dropIx b h k)).trans (tokIx2 b h k))).trans (val_at x2 b 2 h k)

theorem unit2 : val_main_v110 (F := Ideal) x1 x8 (ix3 b h k) = unitR x1 x8 b 2 (ln h k) := by
  rw [val_main_v110_apply, val_main_v109_apply]
  exact (congrArg (val_main_v32 (F := Ideal) x1 x8) ((congrArg idx_main_v103 (dropIx b h k)).trans (tokIx2 b h k))).trans (unit_at x1 x8 b 2 h k)

theorem gate2 : val_main_v112 (F := Ideal) x4 x7 (ix3 b h k) = gateR x4 x7 b 2 (ln h k) := by
  rw [val_main_v112_apply, val_main_v111_apply]
  exact (congrArg (val_main_v33 (F := Ideal) x4 x7) ((congrArg idx_main_v103 (dropIx b h k)).trans (tokIx2 b h k))).trans (gate_at x4 x7 b 2 h k)

theorem step2 : (fun (i : Fin 64) (n : Fin 2048) => val_main_v129 (F := Ideal) x1 x2 x3 x4 x6 x7 x8 x9 x13 (ix4 b (hd n) i (ld n)))
    = stepS (decR x3 x6 b 2) (unitR x1 x8 b 2) (fun n => unitR x1 x8 b 2 n * gateR x4 x7 b 2 n) (khR x1 x4 x7 x9 b 2) (valR x2 b 2)
        (fun i n => val_main_v102 (F := Ideal) x1 x2 x3 x4 x6 x7 x8 x9 x13 (ix4 b (hd n) i (ld n))) := by
  refine step_of b _ (val_main_v102 (F := Ideal) x1 x2 x3 x4 x6 x7 x8 x9 x13) _ _ (val_main_v118 (F := Ideal) x1 x4 x7 x8) _ _ _ _ _ _ _ (dec2 x3 x6 b) (unit2 x1 x8 b) (fun h k => ?_) (kh2 x1 x4 x7 x9 b) (val2 x2 b) (fun h i k => ?_)
  · rw [val_main_v118_apply, unit2, gate2]
    rfl
  rw [val_main_v129_apply, val_main_v123_apply, val_main_v116_apply, val_main_v115_apply, val_main_v114_apply, val_main_v122_apply, val_main_v120_apply, val_main_v117_apply, val_main_v121_apply, val_main_v119_apply, val_main_v128_apply, val_main_v126_apply, val_main_v124_apply, val_main_v127_apply, val_main_v125_apply]
  refine congrArg₂ (fun p q : EReal => p + q) (congrArg₂ (fun p q : EReal => p - q) (congrArg₂ (fun p q : EReal => p * q) rfl (congrArg _ (wideIx b h i k)))
    (congrArg₂ (fun p q : EReal => p * q) ((congrArg (val_main_v113 (F := Ideal) x1 x2 x3 x4 x6 x7 x8 x9 x13) (tallIx b h i k)).trans ?_) (congrArg _ (wideIx b h i k))))
    (congrArg₂ (fun p q : EReal => p * q) (congrArg _ (tallIx b h i k)) (congrArg _ (wideIx b h i k)))
  rw [val_main_v113_apply]
  exact Finset.sum_congr rfl fun j _ => congrArg₂ (fun p q : EReal => p * q) (congrArg (val_main_v102 (F := Ideal) x1 x2 x3 x4 x6 x7 x8 x9 x13) (dotL b h i j)) (congrArg _ (dotR b h i j))

theorem dec3 : val_main_v131 (F := Ideal) x3 x6 (ix3 b h k) = decR x3 x6 b 3 (ln h k) := by
  rw [val_main_v131_apply, val_main_v130_apply]
  exact (congrArg (val_main_v47 (F := Ideal) x3 x6) ((congrArg idx_main_v130 (dropIx b h k)).trans (tokIx3 b h k))).trans (dec_at x3 x6 b 3 h k)

theorem kh3 : val_main_v133 (F := Ideal) x1 x4 x7 x9 (ix3 b h k) = khR x1 x4 x7 x9 b 3 (ln h k) := by
  rw [val_main_v133_apply, val_main_v132_apply]
  exact (congrArg (val_main_v43 (F := Ideal) x1 x4 x7 x9) ((congrArg idx_main_v130 (dropIx b h k)).trans (tokIx3 b h k))).trans (kh_at x1 x4 x7 x9 b 3 h k)

theorem val3 : val_main_v135 (F := Ideal) x2 (ix3 b h k) = valR x2 b 3 (ln h k) := by
  rw [val_main_v135_apply, val_main_v134_apply]
  exact (congrArg (val_main_v48 (F := Ideal) x2) ((congrArg idx_main_v130 (dropIx b h k)).trans (tokIx3 b h k))).trans (val_at x2 b 3 h k)

theorem unit3 : val_main_v137 (F := Ideal) x1 x8 (ix3 b h k) = unitR x1 x8 b 3 (ln h k) := by
  rw [val_main_v137_apply, val_main_v136_apply]
  exact (congrArg (val_main_v32 (F := Ideal) x1 x8) ((congrArg idx_main_v130 (dropIx b h k)).trans (tokIx3 b h k))).trans (unit_at x1 x8 b 3 h k)

theorem gate3 : val_main_v139 (F := Ideal) x4 x7 (ix3 b h k) = gateR x4 x7 b 3 (ln h k) := by
  rw [val_main_v139_apply, val_main_v138_apply]
  exact (congrArg (val_main_v33 (F := Ideal) x4 x7) ((congrArg idx_main_v130 (dropIx b h k)).trans (tokIx3 b h k))).trans (gate_at x4 x7 b 3 h k)

theorem step3 : (fun (i : Fin 64) (n : Fin 2048) => val_main_v156 (F := Ideal) x1 x2 x3 x4 x6 x7 x8 x9 x13 (ix4 b (hd n) i (ld n)))
    = stepS (decR x3 x6 b 3) (unitR x1 x8 b 3) (fun n => unitR x1 x8 b 3 n * gateR x4 x7 b 3 n) (khR x1 x4 x7 x9 b 3) (valR x2 b 3)
        (fun i n => val_main_v129 (F := Ideal) x1 x2 x3 x4 x6 x7 x8 x9 x13 (ix4 b (hd n) i (ld n))) := by
  refine step_of b _ (val_main_v129 (F := Ideal) x1 x2 x3 x4 x6 x7 x8 x9 x13) _ _ (val_main_v145 (F := Ideal) x1 x4 x7 x8) _ _ _ _ _ _ _ (dec3 x3 x6 b) (unit3 x1 x8 b) (fun h k => ?_) (kh3 x1 x4 x7 x9 b) (val3 x2 b) (fun h i k => ?_)
  · rw [val_main_v145_apply, unit3, gate3]
    rfl
  rw [val_main_v156_apply, val_main_v150_apply, val_main_v143_apply, val_main_v142_apply, val_main_v141_apply, val_main_v149_apply, val_main_v147_apply, val_main_v144_apply, val_main_v148_apply, val_main_v146_apply, val_main_v155_apply, val_main_v153_apply, val_main_v151_apply, val_main_v154_apply, val_main_v152_apply]
  refine congrArg₂ (fun p q : EReal => p + q) (congrArg₂ (fun p q : EReal => p - q) (congrArg₂ (fun p q : EReal => p * q) rfl (congrArg _ (wideIx b h i k)))
    (congrArg₂ (fun p q : EReal => p * q) ((congrArg (val_main_v140 (F := Ideal) x1 x2 x3 x4 x6 x7 x8 x9 x13) (tallIx b h i k)).trans ?_) (congrArg _ (wideIx b h i k))))
    (congrArg₂ (fun p q : EReal => p * q) (congrArg _ (tallIx b h i k)) (congrArg _ (wideIx b h i k)))
  rw [val_main_v140_apply]
  exact Finset.sum_congr rfl fun j _ => congrArg₂ (fun p q : EReal => p * q) (congrArg (val_main_v129 (F := Ideal) x1 x2 x3 x4 x6 x7 x8 x9 x13) (dotL b h i j)) (congrArg _ (dotR b h i j))

/-- The reference's new state is that of the four steps. -/
theorem state_array : val_main_v158 (F := Ideal) x1 x2 x3 x4 x6 x7 x8 x9 x13 = stateArr x1 x2 x3 x4 x6 x7 x8 x9 x13 := by
  funext y
  have h0 : (y 0).val < 8 := (y 0).isLt
  have h1 : (y 1).val < 64 := (y 1).isLt
  have h2 : (y 2).val < 2048 := (y 2).isLt
  have ey : idx_main_v157 (idx_main_v158 y) = ix4 (y 0) (hd (y 2)) (y 1) (ld (y 2)) := by
    refine funext fun a => Fin.ext ?_
    match a with
    | ⟨0, _⟩ => show (((y 0).val * 64 + (y 1).val) * 2048 + (y 2).val) / 131072 = (y 0).val; omega
    | ⟨1, _⟩ => show (((y 0).val * 64 + (y 1).val) * 2048 + (y 2).val) / 64 % 32 = (y 2).val / 64; omega
    | ⟨2, _⟩ => show (((y 0).val * 64 + (y 1).val) * 2048 + (y 2).val) / 2048 % 64 = (y 1).val; omega
    | ⟨3, _⟩ => show (((y 0).val * 64 + (y 1).val) * 2048 + (y 2).val) % 64 = (y 2).val % 64; omega
  rw [val_main_v158_apply, val_main_v157_apply, ey]
  unfold stateArr stateF blockF fourS
  exact congrFun (congrFun ((step3 x1 x2 x3 x4 x6 x7 x8 x9 x13 (y 0)).trans (congrArg _ ((step2 x1 x2 x3 x4 x6 x7 x8 x9 x13 (y 0)).trans (congrArg _ ((step1 x1 x2 x3 x4 x6 x7 x8 x9 x13 (y 0)).trans
    (congrArg _ (step0 x1 x2 x3 x4 x6 x7 x8 x9 x13 (y 0)))))))) (y 1)) (y 2)

end Cert.WkvReference

end
-- ==== Proof.WkvValue.lean ====
/-
  The recurrence's call and its reference end with the same new state, when every key and every key gain is finite.
-/
module

public import proofs.«01_k».proof.Defs
public import proofs.«01_k».proof.Proof.WkvFinite
public import proofs.«01_k».proof.Proof.WkvFinal
public import proofs.«01_k».proof.Proof.WkvReference
public import Idealize.ShloMosaic.Lib.Claim
public import Idealize.ShloMosaic.Lib.Quiescent

@[expose] public section

noncomputable section

namespace Cert.WkvValue

open Idealize.ShloMosaic Idealize.ShloMosaic.TcCoe Idealize.SL.Sem
open Cert.WkvRefIdeal.Read Cert.WkvIdeal.Mine Cert.WkvReference

theorem frame_ref : Cert.quiescent_WkvRefIdeal := fun m g _ =>
  θ_run_and ((θ_run (Cert.WkvRefIdeal.defs (F := Ideal)) _ _).mono (fun _ h c => (h c).2) (Cert.WkvRefIdeal.Value.run (F := Ideal) m g))
    ((θ_run (Cert.WkvRefIdeal.defs (F := Ideal)) _ _).mono (fun r _ => sem_eq_zero_of_no_sems rfl r.2) (Cert.WkvRefIdeal.Value.run (F := Ideal) m g))

/-- The kernel and its reference end with the same new state. -/
theorem algebraic : Cert.algebraic_WkvIdeal_WkvRefIdeal_pre_keys_finite := fun m g m' g' hpre hargs =>
  ⟨fun c => newState m c,
    (θ_run (Cert.WkvIdeal.defs (F := Ideal)) _ _).mono
      (fun _ h c => ⟨(h c).2.1.trans (final15 m c (Cert.WkvFinite.finite (hpre c)).1 (Cert.WkvFinite.finite (hpre c)).2), (h c).2.2⟩)
      (Cert.WkvIdeal.Value.run_blocks (F := Ideal) m g),
    (θ_run (Cert.WkvRefIdeal.defs (F := Ideal)) _ _).mono (fun _ h c => by
        obtain ⟨a0, a1, a2, a3, a4, a5, a6, a7, a8, a9, a10, a11, a12, a13⟩ := hargs c
        obtain ⟨r0, rest⟩ := h c
        refine ⟨r0.trans ?_, rest⟩
        refine (val_main_v158_eq (F := Ideal) _).trans ((state_array _ _ _ _ _ _ _ _ _).trans ?_)
        show stateArr _ _ _ _ _ _ _ _ _ = stateArr _ _ _ _ _ _ _ _ _
        congr 1)
      (Cert.WkvRefIdeal.Value.run (F := Ideal) m' g')⟩

end Cert.WkvValue

end
-- ==== Proof.PostMath.lean ====
/-
  The arithmetic of the rotary and norm step, on single rows, away from any program: the norm of a row, the rotation of
  a row by half its length, and how the kernel's way of rotating — every lane times a cosine, plus its partner lane
  times a signed sine — comes to the same thing.
-/
module

public import Idealize.ShloMosaic.Lib.IdealHost
public import Idealize.ShloMosaic.Lib.ValueIdx

@[expose] public section

noncomputable section

namespace Cert.PostMath

open Idealize.ShloMosaic
open scoped BigOperators

/-- The constants, as the programs write them: the base of the frequencies, the norm's eps, 128, 64, 1/64 and 1/4. -/
abbrev theta : EReal := Ideal.ofBits .f32 0x461C4000#32
abbrev eps : EReal := Ideal.ofBits .f32 0x358637BD#32
abbrev c128 : EReal := Ideal.ofBits .f32 0x43000000#32
abbrev c64 : EReal := Ideal.ofBits .f32 0x42800000#32
abbrev c32 : EReal := Ideal.ofBits .f32 0x42000000#32
abbrev inv64 : EReal := Ideal.ofBits .f32 0x3C800000#32
abbrev quarter : EReal := Ideal.ofBits .f32 0x3E800000#32

/-- A position or a lane number, as a float. -/
abbrev num (b : BitVec 32) : EReal := FloatOps.sitofp (F := Ideal) .f32 b

/-- The rotation's angle at a position, for frequency `l` of `h`: the position times `theta` to the power `-l / h`. -/
def ang (h : EReal) (pos : BitVec 32) (l : Nat) : EReal :=
  num pos * Ideal.pow theta (Ideal.div (-(num (BitVec.ofNat 32 l))) h)

abbrev cosAt (h : EReal) (pos : BitVec 32) (l : Nat) : EReal := Ideal.cos (ang h pos l)
abbrev sinAt (h : EReal) (pos : BitVec 32) (l : Nat) : EReal := Ideal.sin (ang h pos l)

/-- The norm of a row of 128 at a lane, with gains. -/
def norm128 (x g : Fin 128 → EReal) (k : Fin 128) : EReal :=
  x k * Ideal.rsqrt (Ideal.div (∑ l : Fin 128, x l * x l) c128 + eps) * g k

/-- The norm of a row of 64 at a lane, with gains. -/
def norm64 (x g : Fin 64 → EReal) (k : Fin 64) : EReal :=
  x k * Ideal.rsqrt (Ideal.div (∑ l : Fin 64, x l * x l) c64 + eps) * g k

/-- A row of 128 rotated: the first half against the second, lane by lane. -/
def turn128 (x : Fin 128 → EReal) (pos : BitVec 32) (k : Fin 128) : EReal :=
  if k.val < 64 then x k * cosAt c64 pos k.val - x ⟨(k.val + 64) % 128, Nat.mod_lt _ (by decide)⟩ * sinAt c64 pos k.val
  else x k * cosAt c64 pos (k.val - 64) + x ⟨(k.val + 64) % 128, Nat.mod_lt _ (by decide)⟩ * sinAt c64 pos (k.val - 64)

/-- A row of 64 rotated. -/
def turn64 (x : Fin 64 → EReal) (pos : BitVec 32) (k : Fin 64) : EReal :=
  if k.val < 32 then x k * cosAt c32 pos k.val - x ⟨(k.val + 32) % 64, Nat.mod_lt _ (by decide)⟩ * sinAt c32 pos k.val
  else x k * cosAt c32 pos (k.val - 32) + x ⟨(k.val + 32) % 64, Nat.mod_lt _ (by decide)⟩ * sinAt c32 pos (k.val - 32)

/-- The kernel's cosine and signed sine tables for rows of 128. -/
def tabC (pos : BitVec 32) (k : Nat) : EReal := cosAt c64 pos (k % 64)
def tabS (pos : BitVec 32) (k : Nat) : EReal := if k < 64 then -(sinAt c64 pos k) else sinAt c64 pos (k - 64)

/-- The same for rows of 64, laid twice over 128 lanes. -/
def tabc (pos : BitVec 32) (k : Nat) : EReal := cosAt c32 pos (k % 32)
def tabs (pos : BitVec 32) (k : Nat) : EReal := if k % 64 < 32 then -(sinAt c32 pos (k % 64)) else sinAt c32 pos (k % 64 - 32)

/-- The kernel's rotation of a row of 128 is the rotation. -/
theorem turn128_eq (x : Fin 128 → EReal) (pos : BitVec 32) (k : Fin 128) :
    x k * tabC pos k.val + x ⟨(k.val + 64) % 128, Nat.mod_lt _ (by decide)⟩ * tabS pos k.val = turn128 x pos k := by
  unfold turn128 tabC tabS
  have hk := k.isLt
  by_cases h : k.val < 64
  · rw [if_pos h, if_pos h, Nat.mod_eq_of_lt h, mul_neg, ← sub_eq_add_neg]
  · rw [if_neg h, if_neg h, show k.val % 64 = k.val - 64 by omega]

/-- The kernel's rotation of a row of 64, at a lane `j` of the 128 that hold it in their lower or upper half. -/
theorem turn64_eq (x : Fin 64 → EReal) (pos : BitVec 32) (j : Nat) :
    x ⟨j % 64, Nat.mod_lt _ (by decide)⟩ * tabc pos j
      + x ⟨(j % 64 + 32) % 64, Nat.mod_lt _ (by decide)⟩ * tabs pos j = turn64 x pos ⟨j % 64, Nat.mod_lt _ (by decide)⟩ := by
  unfold turn64 tabc tabs
  by_cases h : j % 64 < 32
  · rw [if_pos h, if_pos h, show j % 32 = j % 64 by omega, mul_neg, ← sub_eq_add_neg]
  · rw [if_neg h, if_neg h, show j % 32 = j % 64 - 32 by omega]

/-- A sum over 128 lanes of which the upper 64 hold zero. -/
theorem sum_lower (f : Fin 128 → EReal) (g : Fin 64 → EReal) (hl : ∀ k : Fin 64, f ⟨k.val, by omega⟩ = g k)
    (hu : ∀ k : Fin 128, ¬ k.val < 64 → f k = 0) : ∑ k : Fin 128, f k = ∑ k : Fin 64, g k := by
  have e : ∑ k : Fin (64 + 64), f k = ∑ k : Fin 64, f (Fin.castAdd 64 k) + ∑ k : Fin 64, f (Fin.natAdd 64 k) :=
    Fin.sum_univ_add (a := 64) (b := 64) f
  refine Eq.trans e ?_
  rw [Finset.sum_eq_zero (s := Finset.univ) (f := fun k : Fin 64 => f (Fin.natAdd 64 k)) (fun k _ => hu _ (by
    show ¬ 64 + k.val < 64; omega)), add_zero]
  exact Finset.sum_congr rfl fun k _ => hl k

/-- The float 1/64 is exact, so multiplying by it divides by 64. -/
theorem mul_inv64 (a : EReal) : a * inv64 = Ideal.div a c64 := by
  have e1 : inv64 = ((1 / 64 : ℝ) : EReal) := by
    simp [inv64, Ideal.ofBits, Ideal.ieee, -EReal.coe_mul]; norm_num
  have e2 : c64 = ((64 : ℝ) : EReal) := by
    simp [c64, Ideal.ofBits, Ideal.ieee, -EReal.coe_mul]; norm_num
  rw [e1, e2, Ideal.div_coe (by norm_num)]

/-- In a list that names `k`, assigning where the index is `k` leaves `k`'s value. -/
theorem foldl_keep {n : Nat} (u : Fin n → EReal) (k : Fin n) (L : List (Fin n)) :
    L.foldl (fun a i => if i = k then u i else a) (u k) = u k := by
  induction L with
  | nil => rfl
  | cons i L ih =>
    rw [List.foldl_cons]
    by_cases h : i = k
    · rw [if_pos h, h]; exact ih
    · rw [if_neg h]; exact ih

theorem foldl_set {n : Nat} (u : Fin n → EReal) (k : Fin n) (L : List (Fin n)) (a : EReal) (hk : k ∈ L) :
    L.foldl (fun a i => if i = k then u i else a) a = u k := by
  induction L generalizing a with
  | nil => nomatch hk
  | cons i L ih =>
    rw [List.foldl_cons]
    by_cases h : i = k
    · rw [if_pos h, h]; exact foldl_keep u k L
    · rw [if_neg h]
      exact ih a ((List.mem_cons.mp hk).resolve_left fun e => h e.symm)

end Cert.PostMath

end
-- ==== Proof.PostRows.lean ====
/-
  What one block of the rotary and norm step computes (prompt group). For each of the eight results: the body's vector for
  one head of 128 lanes (`headVec`: norm, gain, rotation; `pairVec`: the rotation of two heads of 64), the stored block
  as a function of the block's arguments, lane by lane.
-/
module

public import proofs.«01_k».proof.Defs
public import proofs.«01_k».proof.Proof.PostMath
public import proofs.«01_k».proof.Proof.Gen.PostIdeal
public import proofs.«01_k».proof.Proof.Gen.PostIdeal.Value
public import Idealize.ShloMosaic.Lib.ValueIdx
public import Idealize.ShloMosaic.Lib.KernelVsHost
public import Idealize.ShloMosaic.Lib.IdealHost

@[expose] public section

noncomputable section

namespace Cert.PostIdeal.Mine

open Cert.PostIdeal Cert.PostIdeal.Gen Idealize.ShloMosaic Idealize.ShloMosaic.TcCoe Idealize.SL.Sem
open Idealize.ShloMosaic.ValueIdx Cert.PostMath
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl

/-! ## One head of 128 lanes -/

/-- A block's 128 lanes as rows. -/
abbrev flat (x : Vec Ideal S1x256x128 .f32) : FVec Ideal S256x128 .f32 :=
  shapeCast S256x128 x shapeCasts_S1x256x128_S256x128

/-- The body's norm of the rows, with gains. -/
abbrev normVec (v : FVec Ideal S256x128 .f32) (g : FVec Ideal S1x128 .f32) : FVec Ideal S256x128 .f32 :=
  mulf (mulf v (broadcastTo S256x128 (rsqrt (addf (divf (shapeCast S256x1 (multiReduction .add [1] S256 (mulf v v) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128))
    (broadcastTo S256x128 g broadcasts_S1x128_S256x128)

/-- The body's rotation of rows of 128. -/
abbrev rollVec (v c s : FVec Ideal S256x128 .f32) : FVec Ideal S256x128 .f32 :=
  addf (mulf v c) (mulf (dynamicRotate 1 64#32 none v rotates_S256x128_d1) s)

abbrev tab (x : Vec Ideal S256x128 .f32) : FVec Ideal S256x128 .f32 := shapeCast S256x128 x shapeCasts_S256x128_S256x128
abbrev gainVec (x : Vec Ideal S1x128 .f32) : FVec Ideal S1x128 .f32 := shapeCast S1x128 x shapeCasts_S1x128_S1x128

def headVec (x : Vec Ideal S1x256x128 .f32) (c s : Vec Ideal S256x128 .f32) (g : Vec Ideal S1x128 .f32) : FVec Ideal S256x128 .f32 :=
  rollVec (normVec (flat x) (gainVec g)) (tab c) (tab s)

theorem tab_eq (x : Vec Ideal S256x128 .f32) : tab x = x := funext fun i =>
  shapeCast_apply x shapeCasts_S256x128_S256x128 i i rfl

theorem gainVec_eq (x : Vec Ideal S1x128 .f32) : gainVec x = x := funext fun i =>
  shapeCast_apply x shapeCasts_S1x128_S1x128 i i rfl

theorem flat_apply (x : Vec Ideal S1x256x128 .f32) (q : Fin 256) (k : Fin 128) : flat x (ix2 q k) = x (ix3 (0 : Fin 1) q k) :=
  shapeCast_apply _ shapeCasts_S1x256x128_S256x128 _ _
    (by rewrite [Shape.rowMajor_val_three, Shape.rowMajor_val_two]
        show (0 * 256 + q.val) * 128 + k.val = q.val * 128 + k.val
        omega)

theorem unflat_apply (φ : FTy) (x : FVec Ideal S256x128 φ) (q : Fin 256) (k : Fin 128) :
    shapeCast S1x256x128 x shapeCasts_S256x128_S1x256x128 (ix3 (0 : Fin 1) q k) = x (ix2 q k) :=
  shapeCast_apply _ shapeCasts_S256x128_S1x256x128 _ _
    (by rewrite [Shape.rowMajor_val_three, Shape.rowMajor_val_two]
        show q.val * 128 + k.val = (0 * 256 + q.val) * 128 + k.val
        omega)

/-- A rotation of the lanes by `r` upwards reads the lane `128 - r` on, around the end. -/
theorem roll_apply (v : FVec Ideal S256x128 .f32) (sb : BitVec 32) (d : Nat) (hd : 128 - sb.toNat % 128 = d) (q : Fin 256) (k : Fin 128) :
    dynamicRotate 1 sb none v rotates_S256x128_d1 (ix2 q k) = v (ix2 q (⟨(k.val + d) % 128, Nat.mod_lt _ (by decide)⟩ : Fin 128)) :=
  dynamicRotate_apply _ sb v rotates_S256x128_d1 _ _ (fun b => match b with
    | ⟨0, _⟩ => rfl
    | ⟨1, _⟩ => by
      show (k.val + d) % 128 = (if (1 : Fin 2) = (1 : Fin 2) then (k.val + 128 - sb.toNat % 128) % 128 else k.val)
      rw [if_pos rfl]
      congr 1
      omega)

theorem bcastRow_apply (g : FVec Ideal S1x128 .f32) (q : Fin 256) (k : Fin 128) :
    broadcastTo S256x128 g broadcasts_S1x128_S256x128 (ix2 q k) = g (ix2 (0 : Fin 1) k) :=
  broadcastTo_apply _ broadcasts_S1x128_S256x128 (ix2 q k) (ix2 (0 : Fin 1) k) (fun a => match a with
    | ⟨0, _⟩ => by show 0 = (if (1 : Nat) = 1 then 0 else q.val); rw [if_pos rfl]
    | ⟨1, _⟩ => by show k.val = (if (128 : Nat) = 1 then 0 else k.val); rw [if_neg (by decide)])

theorem bcastCol_apply (g : FVec Ideal S256x1 .f32) (q : Fin 256) (k : Fin 128) :
    broadcastTo S256x128 g broadcasts_S256x1_S256x128 (ix2 q k) = g (ix2 q (0 : Fin 1)) :=
  broadcastTo_apply _ broadcasts_S256x1_S256x128 (ix2 q k) (ix2 q (0 : Fin 1)) (fun a => match a with
    | ⟨0, _⟩ => by show q.val = (if (256 : Nat) = 1 then 0 else q.val); rw [if_neg (by decide)]
    | ⟨1, _⟩ => by show 0 = (if (1 : Nat) = 1 then 0 else k.val); rw [if_pos rfl])

/-- The body's sum over a row of 128. -/
theorem rowSum_apply (v : FVec Ideal S256x128 .f32) (q : Fin 256) :
    shapeCast S256x1 (multiReduction .add [1] S256 v 0x00000000#32 reduces_S256x128_S256 (.inl rfl) rfl) shapeCasts_S256_S256x1
      (ix2 q (0 : Fin 1)) = ∑ l : Fin 128, v (ix2 q l) := by
  refine (shapeCast_apply _ shapeCasts_S256_S256x1 _ (ix1 q)
    (by rewrite [Shape.rowMajor_val_one, Shape.rowMajor_val_two]; show q.val = q.val * 1 + 0; omega)).trans ?_
  refine (Ideal.multiReduction_add_single v _ reduces_S256x128_S256 (.inl rfl) rfl (ix1 q)).trans ?_
  refine Finset.sum_congr rfl fun l _ => ?_
  rw [show reduces_S256x128_S256.lift (ix1 q) l = ix2 q l from funext fun a => Fin.ext (by
    match a with | ⟨0, _⟩ => rfl | ⟨1, _⟩ => rfl)]
  rfl

theorem normVec_apply (v : FVec Ideal S256x128 .f32) (g : FVec Ideal S1x128 .f32) (q : Fin 256) (k : Fin 128) :
    normVec v g (ix2 q k) = norm128 (fun l => v (ix2 q l)) (fun l => g (ix2 (0 : Fin 1) l)) k := by
  unfold norm128
  refine congrArg₂ (fun a b : EReal => a * b) (congrArg (fun s : EReal => v (ix2 q k) * s) ?_) (bcastRow_apply g q k)
  refine (bcastCol_apply _ q k).trans ?_
  exact congrArg (fun s : EReal => Ideal.rsqrt (Ideal.div s c128 + eps)) (rowSum_apply (mulf v v) q)

theorem rollVec_apply (v c s : FVec Ideal S256x128 .f32) (q : Fin 256) (k : Fin 128) :
    rollVec v c s (ix2 q k) = (v (ix2 q k) * c (ix2 q k)
      + v (ix2 q (⟨(k.val + 64) % 128, Nat.mod_lt _ (by decide)⟩ : Fin 128)) * s (ix2 q k) : EReal) :=
  congrArg (fun w : EReal => v (ix2 q k) * c (ix2 q k) + w * s (ix2 q k)) (roll_apply v 64#32 64 (by decide) q k)

theorem headVec_apply (x : Vec Ideal S1x256x128 .f32) (c s : Vec Ideal S256x128 .f32) (g : Vec Ideal S1x128 .f32) (q : Fin 256) (k : Fin 128) :
    headVec x c s g (ix2 q k) = (norm128 (fun l => x (ix3 (0 : Fin 1) q l)) (fun l => g (ix2 (0 : Fin 1) l)) k * c (ix2 q k)
      + norm128 (fun l => x (ix3 (0 : Fin 1) q l)) (fun l => g (ix2 (0 : Fin 1) l)) (⟨(k.val + 64) % 128, Nat.mod_lt _ (by decide)⟩ : Fin 128)
        * s (ix2 q k) : EReal) := by
  unfold headVec
  refine (rollVec_apply _ _ _ q k).trans ?_
  rw [normVec_apply, normVec_apply, tab_eq, tab_eq, gainVec_eq]
  simp only [flat_apply]

/-! ## Two heads of 64 lanes -/

/-- The test for the lower half of a head of 64, on a lane number, as the body computes it. -/
def lowBit (b : BitVec 32) : BitVec 1 :=
  let d := Scalar.select (Scalar.cmpi .eq 64#32 0#32) 1#32 64#32
  let r := Scalar.remsi b d
  Scalar.cmpi .slt (Scalar.select (Scalar.andi (Scalar.xori (Scalar.cmpi .slt r 0#32) (Scalar.cmpi .slt d 0#32)) (Scalar.cmpi .ne r 0#32))
    (Scalar.addi r d) r) 32#32

theorem lowBit_eq : ∀ k : Fin 128, lowBit (BitVec.ofNat 32 k.val) = if k.val % 64 < 32 then 1#1 else 0#1 := by decide +kernel

theorem ikBit_eq : ∀ k : Fin 128, Scalar.cmpi .slt (BitVec.ofNat 32 k.val) 64#32 = if k.val < 64 then 1#1 else 0#1 := by decide +kernel

/-- The lane numbers, and the body's test on them. -/
abbrev lanes : IVec S256x128 32 := iota .tc S256x128 32 [1] iota_S256x128_d1_w32
abbrev lowVec : IVec S256x128 1 := k0_pay91 (lanes)
abbrev ikVec : IVec S256x128 1 := k0_pay89 (lanes)

theorem lanes_apply (q : Fin 256) (k : Fin 128) : lanes (ix2 q k) = BitVec.ofNat 32 k.val :=
  iota_single_apply _ _ _ _ iota_S256x128_d1_w32 _

theorem lowVec_apply (q : Fin 256) (k : Fin 128) : lowVec (ix2 q k) = if k.val % 64 < 32 then 1#1 else 0#1 :=
  Eq.trans (b := lowBit (lanes (ix2 q k))) rfl (by rw [lanes_apply]; exact lowBit_eq k)

theorem ikVec_apply (q : Fin 256) (k : Fin 128) : ikVec (ix2 q k) = if k.val < 64 then 1#1 else 0#1 :=
  Eq.trans (b := Scalar.cmpi .slt (lanes (ix2 q k)) 64#32) rfl (by rw [lanes_apply]; exact ikBit_eq k)

/-- The body's rotation of rows of two heads. -/
abbrev pairVec (v c s : FVec Ideal S256x128 .f32) : FVec Ideal S256x128 .f32 :=
  addf (mulf v c) (mulf (select lowVec (dynamicRotate 1 96#32 none v rotates_S256x128_d1)
    (dynamicRotate 1 32#32 none v rotates_S256x128_d1)) s)

/-- The lane that stands with lane `k` in its head of 64. -/
abbrev mate (k : Fin 128) : Fin 128 := ⟨k.val / 64 * 64 + (k.val % 64 + 32) % 64, by have := k.isLt; omega⟩

theorem select_apply (φ : FTy) (b : IVec S256x128 1) (x y : FVec Ideal S256x128 φ) (i : S256x128.Idx) :
    select b x y i = if b i = 1#1 then x i else y i := rfl

theorem pairVec_apply (v c s : FVec Ideal S256x128 .f32) (q : Fin 256) (k : Fin 128) :
    pairVec v c s (ix2 q k) = (v (ix2 q k) * c (ix2 q k) + v (ix2 q (mate k)) * s (ix2 q k) : EReal) := by
  refine congrArg (fun w : EReal => v (ix2 q k) * c (ix2 q k) + w * s (ix2 q k)) ?_
  rw [select_apply, lowVec_apply]
  have hk := k.isLt
  by_cases h : k.val % 64 < 32
  · rw [if_pos h, if_pos rfl, roll_apply v 96#32 32 (by decide)]
    exact congrArg (fun l => v (ix2 q l)) (Fin.ext (by show (k.val + 32) % 128 = k.val / 64 * 64 + (k.val % 64 + 32) % 64; omega))
  · rw [if_neg h, if_neg (by decide), roll_apply v 32#32 96 (by decide)]
    exact congrArg (fun l => v (ix2 q l)) (Fin.ext (by show (k.val + 96) % 128 = k.val / 64 * 64 + (k.val % 64 + 32) % 64; omega))

end Cert.PostIdeal.Mine

end
-- ==== Proof.PostBlocks.lean ====
/-
  What a grid point of the rotary and norm step leaves in each of its eight result blocks (prompt group), lane by lane, as a
  function of the point's argument blocks. The queries, keys, values and indexer queries are stored head by head, in
  eight stores of 128 lanes; each store is the same function of its lanes (`head_piece`, `pair_piece`, `copy_piece`).
-/
module

public import proofs.«01_k».proof.Proof.PostRows

@[expose] public section

noncomputable section

namespace Cert.PostIdeal.Mine

open Cert.PostIdeal Cert.PostIdeal.Gen Idealize.ShloMosaic Idealize.ShloMosaic.TcCoe Idealize.SL.Sem
open Idealize.ShloMosaic.ValueIdx Cert.PostMath
open scoped BigOperators

/-- A lane's rotation from its row, its gains, and its cosine and signed sine. -/
def spin (r g : Fin 128 → EReal) (c s : EReal) (k : Fin 128) : EReal :=
  norm128 r g k * c + norm128 r g ⟨(k.val + 64) % 128, Nat.mod_lt _ (by decide)⟩ * s

/-- Lane `l` of the head that holds lane `j`, lane `j` within its head, and the lane that stands with it in its head of 64. -/
abbrev laneOf (j : Fin 1024) (l : Fin 128) : Fin 1024 := ⟨j.val / 128 * 128 + l.val, by have := j.isLt; have := l.isLt; omega⟩
abbrev inHead (j : Fin 1024) : Fin 128 := ⟨j.val % 128, Nat.mod_lt _ (by decide)⟩
abbrev mateOf (j : Fin 1024) : Fin 1024 := ⟨j.val / 64 * 64 + (j.val % 64 + 32) % 64, by have := j.isLt; omega⟩

/-- Lane `j` of row `q` of a block of heads, normed and rotated. -/
def headAt (X : Vec Ideal S1x256x1024 .f32) (c s : Vec Ideal S256x128 .f32) (g : Vec Ideal S1x128 .f32) (q : Fin 256) (j : Fin 1024) : EReal :=
  spin (fun l => X (ix3 (0 : Fin 1) q (laneOf j l))) (fun l => g (ix2 (0 : Fin 1) l)) (c (ix2 q (inHead j))) (s (ix2 q (inHead j))) (inHead j)

/-- Lane `j` of row `q` of a block of heads of 64, rotated. -/
def pairAt (X : Vec Ideal S1x256x1024 .f32) (c s : Vec Ideal S256x128 .f32) (q : Fin 256) (j : Fin 1024) : EReal :=
  X (ix3 (0 : Fin 1) q j) * c (ix2 q (inHead j)) + X (ix3 (0 : Fin 1) q (mateOf j)) * s (ix2 q (inHead j))

abbrev rowOf (y : S1x256x1024.Idx) : Fin 256 := ⟨(y 1).val, (y 1).isLt⟩
abbrev colOf (y : S1x256x1024.Idx) : Fin 1024 := ⟨(y 2).val, (y 2).isLt⟩

section Pieces

variable (X : Vec Ideal S1x256x1024 .f32) (c s : Vec Ideal S256x128 .f32) (g : Vec Ideal S1x128 .f32) (o : Nat) (ho : o % 128 = 0)
  (hin : ∀ a, (![0, 0, o] : Fin 3 → Nat) a + S1x256x128.size a ≤ S1x256x1024.size a) (x : S1x256x128.Idx)

/-- The stored rectangle of the head at lane `o`. -/
abbrev rectAt : Rect S1x256x1024 := Rect.unit (s := S1x256x1024) ![0, 0, o] S1x256x128.size hin

theorem as_ix3 : x = ix3 (0 : Fin 1) (⟨(x 1).val, (x 1).isLt⟩ : Fin 256) (⟨(x 2).val, (x 2).isLt⟩ : Fin 128) :=
  funext fun a => Fin.ext (match a with
    | ⟨0, _⟩ => by have h : (x 0).val < 1 := (x 0).isLt; show (x 0).val = 0; omega
    | ⟨1, _⟩ => rfl
    | ⟨2, _⟩ => rfl)

include ho

theorem head_piece (φ : FTy) (w : FVec Ideal S256x128 φ) (hw : ∀ i, (w i : EReal) = headVec (View.ld X (rectAt o hin)) c s g i) :
    (shapeCast S1x256x128 w shapeCasts_S256x128_S1x256x128 x : EReal)
      = headAt X c s g (rowOf ((rectAt o hin).idx x)) (colOf ((rectAt o hin).idx x)) := by
  have h2 : (x 2).val < 128 := (x 2).isLt
  have hcol : (colOf ((rectAt o hin).idx x)).val = o + (x 2).val := by show o + 1 * (x 2).val = o + (x 2).val; omega
  have hrow : rowOf ((rectAt o hin).idx x) = (⟨(x 1).val, (x 1).isLt⟩ : Fin 256) := Fin.ext (by show 0 + 1 * (x 1).val = (x 1).val; omega)
  have hk : inHead (colOf ((rectAt o hin).idx x)) = (⟨(x 2).val, (x 2).isLt⟩ : Fin 128) := Fin.ext (by
    show (colOf ((rectAt o hin).idx x)).val % 128 = (x 2).val; rw [hcol]; omega)
  have hl : ∀ l : Fin 128, (laneOf (colOf ((rectAt o hin).idx x)) l).val = o + l.val := fun l => by
    show (colOf ((rectAt o hin).idx x)).val / 128 * 128 + l.val = o + l.val; rw [hcol]; omega
  refine (congrArg (shapeCast S1x256x128 w shapeCasts_S256x128_S1x256x128) (as_ix3 x)).trans ?_
  refine (unflat_apply φ w _ _).trans ((hw _).trans ((headVec_apply _ c s g _ _).trans ?_))
  unfold headAt
  rw [hk, hrow]
  refine congrArg (fun r : Fin 128 → EReal => spin r (fun l => g (ix2 (0 : Fin 1) l)) _ _ _) (funext fun l => ?_)
  refine congrArg X (funext fun a => Fin.ext ?_)
  match a with
  | ⟨0, _⟩ => rfl
  | ⟨1, _⟩ => show 0 + 1 * (x 1).val = (x 1).val; omega
  | ⟨2, _⟩ => show o + 1 * l.val = (laneOf (colOf ((rectAt o hin).idx x)) l).val; rw [hl]; omega

theorem pair_piece (φ : FTy) (w : FVec Ideal S256x128 φ) (hw : ∀ i, (w i : EReal) = pairVec (flat (View.ld X (rectAt o hin))) (tab c) (tab s) i) :
    (shapeCast S1x256x128 w shapeCasts_S256x128_S1x256x128 x : EReal)
      = pairAt X c s (rowOf ((rectAt o hin).idx x)) (colOf ((rectAt o hin).idx x)) := by
  have h2 : (x 2).val < 128 := (x 2).isLt
  have hcol : (colOf ((rectAt o hin).idx x)).val = o + (x 2).val := by show o + 1 * (x 2).val = o + (x 2).val; omega
  have hrow : rowOf ((rectAt o hin).idx x) = (⟨(x 1).val, (x 1).isLt⟩ : Fin 256) := Fin.ext (by show 0 + 1 * (x 1).val = (x 1).val; omega)
  have hk : inHead (colOf ((rectAt o hin).idx x)) = (⟨(x 2).val, (x 2).isLt⟩ : Fin 128) := Fin.ext (by
    show (colOf ((rectAt o hin).idx x)).val % 128 = (x 2).val; rw [hcol]; omega)
  refine (congrArg (shapeCast S1x256x128 w shapeCasts_S256x128_S1x256x128) (as_ix3 x)).trans ?_
  refine (unflat_apply φ w _ _).trans ((hw _).trans ((pairVec_apply _ _ _ _ _).trans ?_))
  rw [tab_eq, tab_eq, flat_apply, flat_apply]
  unfold pairAt
  rw [hk, hrow]
  refine congrArg₂ (fun a b : EReal => a * c _ + b * s _) (congrArg X (funext fun a => Fin.ext ?_)) (congrArg X (funext fun a => Fin.ext ?_))
  · match a with
    | ⟨0, _⟩ => rfl
    | ⟨1, _⟩ => show 0 + 1 * (x 1).val = (x 1).val; omega
    | ⟨2, _⟩ => rfl
  · match a with
    | ⟨0, _⟩ => rfl
    | ⟨1, _⟩ => show 0 + 1 * (x 1).val = (x 1).val; omega
    | ⟨2, _⟩ =>
      show o + 1 * ((x 2).val / 64 * 64 + ((x 2).val % 64 + 32) % 64)
        = (colOf ((rectAt o hin).idx x)).val / 64 * 64 + ((colOf ((rectAt o hin).idx x)).val % 64 + 32) % 64
      rw [hcol]; omega

omit ho

theorem copy_piece (φ : FTy) (w : FVec Ideal S256x128 φ) (hw : ∀ i, (w i : EReal) = flat (View.ld X (rectAt o hin)) i) :
    (shapeCast S1x256x128 w shapeCasts_S256x128_S1x256x128 x : EReal)
      = X (ix3 (0 : Fin 1) (rowOf ((rectAt o hin).idx x)) (colOf ((rectAt o hin).idx x))) := by
  refine (congrArg (shapeCast S1x256x128 w shapeCasts_S256x128_S1x256x128) (as_ix3 x)).trans ?_
  refine (unflat_apply φ w _ _).trans ((hw _).trans ((flat_apply _ _ _).trans ?_))
  refine congrArg X (funext fun a => Fin.ext ?_)
  match a with
  | ⟨0, _⟩ => rfl
  | ⟨1, _⟩ => rfl
  | ⟨2, _⟩ => rfl

end Pieces

section Blocks

variable (x0 x1 x2 x3 : Vec Ideal S1x256x1024 .f32) (x4 : Vec Ideal S1x256x128 .f32) (x5 : Vec Ideal S1x256x2048 .f32)
  (x6 x7 x8 x9 : Vec Ideal S256x128 .f32) (x10 x11 x12 : Vec Ideal S1x128 .f32)

/-! ## The four results of eight heads -/

theorem tab_ld (x : Vec Ideal S256x128 .f32) : View.ld x r0_0 = x := View.ld_unit_zero (S := S256x128) z2 _ _
theorem gain_ld (x : Vec Ideal S1x128 .f32) : View.ld x r0_1 = x := View.ld_unit_zero (S := S1x128) z2 _ _
theorem small_ld (x : Vec Ideal S1x256x128 .f32) : View.ld x r0_10 = x := View.ld_unit_zero (S := S1x256x128) z3 _ _

theorem headAt_ld (X : Vec Ideal S1x256x1024 .f32) (c s : Vec Ideal S256x128 .f32) (g : Vec Ideal S1x128 .f32) :
    headAt X (View.ld c r0_0) (View.ld s r0_0) (View.ld g r0_1) = headAt X c s g := by rw [tab_ld, tab_ld, gain_ld]

theorem pairAt_ld (X : Vec Ideal S1x256x1024 .f32) (c s : Vec Ideal S256x128 .f32) :
    pairAt X (View.ld c r0_0) (View.ld s r0_0) = pairAt X c s := by rw [tab_ld, tab_ld]

/-- The queries. -/
theorem out13_apply (q : Fin 256) (j : Fin 1024) :
    (out0_13 x0 x1 x2 x3 x4 x5 x6 x7 x8 x9 x10 x11 x12 (ix3 (0 : Fin 1) q j) : EReal) = headAt x0 x6 x7 x10 q j := by
  rw [← headAt_ld x0 x6 x7 x10]
  refine View.canon_apply_of_pieces (Val := Elt Ideal) (fun y : S1x256x1024.Idx => headAt x0 (View.ld x6 r0_0) (View.ld x7 r0_0) (View.ld x10 r0_1) (rowOf y) (colOf y)) _ ?_ _ (cover0_13 _ _ _ _ _ _ _ _ _)
  intro pc hpc
  rcases List.mem_cons.mp hpc with rfl | hpc
  · exact fun x => (head_piece x0 (View.ld x6 r0_0) (View.ld x7 r0_0) (View.ld x10 r0_1) 896 (by decide) inb_S1x256x1024_S1x256x128_0_0_896 x .bf16 _ fun i => rfl)
  rcases List.mem_cons.mp hpc with rfl | hpc
  · exact fun x => (head_piece x0 (View.ld x6 r0_0) (View.ld x7 r0_0) (View.ld x10 r0_1) 768 (by decide) inb_S1x256x1024_S1x256x128_0_0_768 x .bf16 _ fun i => rfl)
  rcases List.mem_cons.mp hpc with rfl | hpc
  · exact fun x => (head_piece x0 (View.ld x6 r0_0) (View.ld x7 r0_0) (View.ld x10 r0_1) 640 (by decide) inb_S1x256x1024_S1x256x128_0_0_640 x .bf16 _ fun i => rfl)
  rcases List.mem_cons.mp hpc with rfl | hpc
  · exact fun x => (head_piece x0 (View.ld x6 r0_0) (View.ld x7 r0_0) (View.ld x10 r0_1) 512 (by decide) inb_S1x256x1024_S1x256x128_0_0_512 x .bf16 _ fun i => rfl)
  rcases List.mem_cons.mp hpc with rfl | hpc
  · exact fun x => (head_piece x0 (View.ld x6 r0_0) (View.ld x7 r0_0) (View.ld x10 r0_1) 384 (by decide) inb_S1x256x1024_S1x256x128_0_0_384 x .bf16 _ fun i => rfl)
  rcases List.mem_cons.mp hpc with rfl | hpc
  · exact fun x => (head_piece x0 (View.ld x6 r0_0) (View.ld x7 r0_0) (View.ld x10 r0_1) 256 (by decide) inb_S1x256x1024_S1x256x128_0_0_256 x .bf16 _ fun i => rfl)
  rcases List.mem_cons.mp hpc with rfl | hpc
  · exact fun x => (head_piece x0 (View.ld x6 r0_0) (View.ld x7 r0_0) (View.ld x10 r0_1) 128 (by decide) inb_S1x256x1024_S1x256x128_0_0_128 x .bf16 _ fun i => rfl)
  rcases List.mem_cons.mp hpc with rfl | hpc
  · exact fun x => (head_piece x0 (View.ld x6 r0_0) (View.ld x7 r0_0) (View.ld x10 r0_1) 0 (by decide) inb_S1x256x1024_S1x256x128_0_0_0 x .bf16 _ fun i => rfl)
  nomatch hpc

/-- The keys. -/
theorem out14_apply (q : Fin 256) (j : Fin 1024) :
    (out0_14 x0 x1 x2 x3 x4 x5 x6 x7 x8 x9 x10 x11 x12 (ix3 (0 : Fin 1) q j) : EReal) = headAt x1 x6 x7 x11 q j := by
  rw [← headAt_ld x1 x6 x7 x11]
  refine View.canon_apply_of_pieces (Val := Elt Ideal) (fun y : S1x256x1024.Idx => headAt x1 (View.ld x6 r0_0) (View.ld x7 r0_0) (View.ld x11 r0_1) (rowOf y) (colOf y)) _ ?_ _ (cover0_14 _ _ _ _ _ _ _ _ _)
  intro pc hpc
  rcases List.mem_cons.mp hpc with rfl | hpc
  · exact fun x => (head_piece x1 (View.ld x6 r0_0) (View.ld x7 r0_0) (View.ld x11 r0_1) 896 (by decide) inb_S1x256x1024_S1x256x128_0_0_896 x .f32 _ fun i => rfl)
  rcases List.mem_cons.mp hpc with rfl | hpc
  · exact fun x => (head_piece x1 (View.ld x6 r0_0) (View.ld x7 r0_0) (View.ld x11 r0_1) 768 (by decide) inb_S1x256x1024_S1x256x128_0_0_768 x .f32 _ fun i => rfl)
  rcases List.mem_cons.mp hpc with rfl | hpc
  · exact fun x => (head_piece x1 (View.ld x6 r0_0) (View.ld x7 r0_0) (View.ld x11 r0_1) 640 (by decide) inb_S1x256x1024_S1x256x128_0_0_640 x .f32 _ fun i => rfl)
  rcases List.mem_cons.mp hpc with rfl | hpc
  · exact fun x => (head_piece x1 (View.ld x6 r0_0) (View.ld x7 r0_0) (View.ld x11 r0_1) 512 (by decide) inb_S1x256x1024_S1x256x128_0_0_512 x .f32 _ fun i => rfl)
  rcases List.mem_cons.mp hpc with rfl | hpc
  · exact fun x => (head_piece x1 (View.ld x6 r0_0) (View.ld x7 r0_0) (View.ld x11 r0_1) 384 (by decide) inb_S1x256x1024_S1x256x128_0_0_384 x .f32 _ fun i => rfl)
  rcases List.mem_cons.mp hpc with rfl | hpc
  · exact fun x => (head_piece x1 (View.ld x6 r0_0) (View.ld x7 r0_0) (View.ld x11 r0_1) 256 (by decide) inb_S1x256x1024_S1x256x128_0_0_256 x .f32 _ fun i => rfl)
  rcases List.mem_cons.mp hpc with rfl | hpc
  · exact fun x => (head_piece x1 (View.ld x6 r0_0) (View.ld x7 r0_0) (View.ld x11 r0_1) 128 (by decide) inb_S1x256x1024_S1x256x128_0_0_128 x .f32 _ fun i => rfl)
  rcases List.mem_cons.mp hpc with rfl | hpc
  · exact fun x => (head_piece x1 (View.ld x6 r0_0) (View.ld x7 r0_0) (View.ld x11 r0_1) 0 (by decide) inb_S1x256x1024_S1x256x128_0_0_0 x .f32 _ fun i => rfl)
  nomatch hpc

/-- The keys again, for the attention. -/
theorem out15_apply (q : Fin 256) (j : Fin 1024) :
    (out0_15 x0 x1 x2 x3 x4 x5 x6 x7 x8 x9 x10 x11 x12 (ix3 (0 : Fin 1) q j) : EReal) = headAt x1 x6 x7 x11 q j := by
  rw [← headAt_ld x1 x6 x7 x11]
  refine View.canon_apply_of_pieces (Val := Elt Ideal) (fun y : S1x256x1024.Idx => headAt x1 (View.ld x6 r0_0) (View.ld x7 r0_0) (View.ld x11 r0_1) (rowOf y) (colOf y)) _ ?_ _ (cover0_15 _ _ _ _ _ _ _ _ _)
  intro pc hpc
  rcases List.mem_cons.mp hpc with rfl | hpc
  · exact fun x => (head_piece x1 (View.ld x6 r0_0) (View.ld x7 r0_0) (View.ld x11 r0_1) 896 (by decide) inb_S1x256x1024_S1x256x128_0_0_896 x .bf16 _ fun i => rfl)
  rcases List.mem_cons.mp hpc with rfl | hpc
  · exact fun x => (head_piece x1 (View.ld x6 r0_0) (View.ld x7 r0_0) (View.ld x11 r0_1) 768 (by decide) inb_S1x256x1024_S1x256x128_0_0_768 x .bf16 _ fun i => rfl)
  rcases List.mem_cons.mp hpc with rfl | hpc
  · exact fun x => (head_piece x1 (View.ld x6 r0_0) (View.ld x7 r0_0) (View.ld x11 r0_1) 640 (by decide) inb_S1x256x1024_S1x256x128_0_0_640 x .bf16 _ fun i => rfl)
  rcases List.mem_cons.mp hpc with rfl | hpc
  · exact fun x => (head_piece x1 (View.ld x6 r0_0) (View.ld x7 r0_0) (View.ld x11 r0_1) 512 (by decide) inb_S1x256x1024_S1x256x128_0_0_512 x .bf16 _ fun i => rfl)
  rcases List.mem_cons.mp hpc with rfl | hpc
  · exact fun x => (head_piece x1 (View.ld x6 r0_0) (View.ld x7 r0_0) (View.ld x11 r0_1) 384 (by decide) inb_S1x256x1024_S1x256x128_0_0_384 x .bf16 _ fun i => rfl)
  rcases List.mem_cons.mp hpc with rfl | hpc
  · exact fun x => (head_piece x1 (View.ld x6 r0_0) (View.ld x7 r0_0) (View.ld x11 r0_1) 256 (by decide) inb_S1x256x1024_S1x256x128_0_0_256 x .bf16 _ fun i => rfl)
  rcases List.mem_cons.mp hpc with rfl | hpc
  · exact fun x => (head_piece x1 (View.ld x6 r0_0) (View.ld x7 r0_0) (View.ld x11 r0_1) 128 (by decide) inb_S1x256x1024_S1x256x128_0_0_128 x .bf16 _ fun i => rfl)
  rcases List.mem_cons.mp hpc with rfl | hpc
  · exact fun x => (head_piece x1 (View.ld x6 r0_0) (View.ld x7 r0_0) (View.ld x11 r0_1) 0 (by decide) inb_S1x256x1024_S1x256x128_0_0_0 x .bf16 _ fun i => rfl)
  nomatch hpc

/-- Lane `j` of row `q` of a block, as it is. -/
abbrev copyAt (X : Vec Ideal S1x256x1024 .f32) (q : Fin 256) (j : Fin 1024) : EReal := X (ix3 (0 : Fin 1) q j)

/-- The values. -/
theorem out16_apply (q : Fin 256) (j : Fin 1024) :
    (out0_16 x0 x1 x2 x3 x4 x5 x6 x7 x8 x9 x10 x11 x12 (ix3 (0 : Fin 1) q j) : EReal) = copyAt x2 q j := by
  refine View.canon_apply_of_pieces (Val := Elt Ideal) (fun y : S1x256x1024.Idx => copyAt x2 (rowOf y) (colOf y)) _ ?_ _ (cover0_16 _ _ _ _ _ _ _ _ _)
  intro pc hpc
  rcases List.mem_cons.mp hpc with rfl | hpc
  · exact fun x => (copy_piece x2 896 inb_S1x256x1024_S1x256x128_0_0_896 x .bf16 _ fun i => rfl)
  rcases List.mem_cons.mp hpc with rfl | hpc
  · exact fun x => (copy_piece x2 768 inb_S1x256x1024_S1x256x128_0_0_768 x .bf16 _ fun i => rfl)
  rcases List.mem_cons.mp hpc with rfl | hpc
  · exact fun x => (copy_piece x2 640 inb_S1x256x1024_S1x256x128_0_0_640 x .bf16 _ fun i => rfl)
  rcases List.mem_cons.mp hpc with rfl | hpc
  · exact fun x => (copy_piece x2 512 inb_S1x256x1024_S1x256x128_0_0_512 x .bf16 _ fun i => rfl)
  rcases List.mem_cons.mp hpc with rfl | hpc
  · exact fun x => (copy_piece x2 384 inb_S1x256x1024_S1x256x128_0_0_384 x .bf16 _ fun i => rfl)
  rcases List.mem_cons.mp hpc with rfl | hpc
  · exact fun x => (copy_piece x2 256 inb_S1x256x1024_S1x256x128_0_0_256 x .bf16 _ fun i => rfl)
  rcases List.mem_cons.mp hpc with rfl | hpc
  · exact fun x => (copy_piece x2 128 inb_S1x256x1024_S1x256x128_0_0_128 x .bf16 _ fun i => rfl)
  rcases List.mem_cons.mp hpc with rfl | hpc
  · exact fun x => (copy_piece x2 0 inb_S1x256x1024_S1x256x128_0_0_0 x .bf16 _ fun i => rfl)
  nomatch hpc

/-- The indexer queries. -/
theorem out17_apply (q : Fin 256) (j : Fin 1024) :
    (out0_17 x0 x1 x2 x3 x4 x5 x6 x7 x8 x9 x10 x11 x12 (ix3 (0 : Fin 1) q j) : EReal) = pairAt x3 x8 x9 q j := by
  rw [← pairAt_ld x3 x8 x9]
  refine View.canon_apply_of_pieces (Val := Elt Ideal) (fun y : S1x256x1024.Idx => pairAt x3 (View.ld x8 r0_0) (View.ld x9 r0_0) (rowOf y) (colOf y)) _ ?_ _ (cover0_17 _ _ _ _ _ _ _ _ _)
  intro pc hpc
  rcases List.mem_cons.mp hpc with rfl | hpc
  · exact fun x => (pair_piece x3 (View.ld x8 r0_0) (View.ld x9 r0_0) 896 (by decide) inb_S1x256x1024_S1x256x128_0_0_896 x .bf16 _ fun i => rfl)
  rcases List.mem_cons.mp hpc with rfl | hpc
  · exact fun x => (pair_piece x3 (View.ld x8 r0_0) (View.ld x9 r0_0) 768 (by decide) inb_S1x256x1024_S1x256x128_0_0_768 x .bf16 _ fun i => rfl)
  rcases List.mem_cons.mp hpc with rfl | hpc
  · exact fun x => (pair_piece x3 (View.ld x8 r0_0) (View.ld x9 r0_0) 640 (by decide) inb_S1x256x1024_S1x256x128_0_0_640 x .bf16 _ fun i => rfl)
  rcases List.mem_cons.mp hpc with rfl | hpc
  · exact fun x => (pair_piece x3 (View.ld x8 r0_0) (View.ld x9 r0_0) 512 (by decide) inb_S1x256x1024_S1x256x128_0_0_512 x .bf16 _ fun i => rfl)
  rcases List.mem_cons.mp hpc with rfl | hpc
  · exact fun x => (pair_piece x3 (View.ld x8 r0_0) (View.ld x9 r0_0) 384 (by decide) inb_S1x256x1024_S1x256x128_0_0_384 x .bf16 _ fun i => rfl)
  rcases List.mem_cons.mp hpc with rfl | hpc
  · exact fun x => (pair_piece x3 (View.ld x8 r0_0) (View.ld x9 r0_0) 256 (by decide) inb_S1x256x1024_S1x256x128_0_0_256 x .bf16 _ fun i => rfl)
  rcases List.mem_cons.mp hpc with rfl | hpc
  · exact fun x => (pair_piece x3 (View.ld x8 r0_0) (View.ld x9 r0_0) 128 (by decide) inb_S1x256x1024_S1x256x128_0_0_128 x .bf16 _ fun i => rfl)
  rcases List.mem_cons.mp hpc with rfl | hpc
  · exact fun x => (pair_piece x3 (View.ld x8 r0_0) (View.ld x9 r0_0) 0 (by decide) inb_S1x256x1024_S1x256x128_0_0_0 x .bf16 _ fun i => rfl)
  nomatch hpc

/-! ## The indexer key and weights -/

/-- The small block with the weights' lanes cleared. -/
abbrev ikIn (x : Vec Ideal S1x256x128 .f32) : FVec Ideal S256x128 .f32 :=
  select ikVec (flat x) (broadcast S256x128 (Scalar.ofBits .f32 0x00000000#32))

/-- The body's norm of the indexer key. -/
abbrev ikNorm (x : Vec Ideal S1x256x128 .f32) (g : Vec Ideal S1x128 .f32) : FVec Ideal S256x128 .f32 :=
  mulf (mulf (ikIn x) (broadcastTo S256x128 (rsqrt (addf (mulf (shapeCast S256x1 (multiReduction .add [1] S256 (mulf (ikIn x) (ikIn x)) 0x00000000#32
    reduces_S256x128_S256 (.inl rfl) rfl) shapeCasts_S256_S256x1) (broadcast S256x1 (Scalar.ofBits .f32 0x3C800000#32)))
    (broadcast S256x1 (Scalar.ofBits .f32 0x358637BD#32)))) broadcasts_S256x1_S256x128))
    (broadcastTo S256x128 (gainVec g) broadcasts_S1x128_S256x128)

/-- The indexer key rotated, the weights' lanes zero. -/
abbrev ikOut (x : Vec Ideal S1x256x128 .f32) (c s : Vec Ideal S256x128 .f32) (g : Vec Ideal S1x128 .f32) : FVec Ideal S256x128 .f32 :=
  select ikVec (pairVec (ikNorm x g) (tab c) (tab s)) (broadcast S256x128 (Scalar.ofBits .f32 0x00000000#32))

/-- A lane of the lower half, and its row and gains. -/
abbrev up (k : Fin 64) : Fin 128 := ⟨k.val, by have := k.isLt; omega⟩
abbrev ikRow (x : Vec Ideal S1x256x128 .f32) (q : Fin 256) : Fin 64 → EReal := fun l => x (ix3 (0 : Fin 1) q (up l))
abbrev ikGain (g : Vec Ideal S1x128 .f32) : Fin 64 → EReal := fun l => g (ix2 (0 : Fin 1) (up l))

/-- The rotated indexer key at a lane. -/
def ikAt (x : Vec Ideal S1x256x128 .f32) (c s : Vec Ideal S256x128 .f32) (g : Vec Ideal S1x128 .f32) (q : Fin 256) (k : Fin 64) : EReal :=
  norm64 (ikRow x q) (ikGain g) k * c (ix2 q (up k))
    + norm64 (ikRow x q) (ikGain g) ⟨(k.val + 32) % 64, Nat.mod_lt _ (by decide)⟩ * s (ix2 q (up k))

theorem ikIn_low (x : Vec Ideal S1x256x128 .f32) (q : Fin 256) (k : Fin 64) : ikIn x (ix2 q (up k)) = ikRow x q k := by
  show select ikVec _ _ _ = _
  rw [select_apply, ikVec_apply, if_pos (show (up k).val < 64 from k.isLt), if_pos rfl, flat_apply]

theorem ikIn_high (x : Vec Ideal S1x256x128 .f32) (q : Fin 256) (k : Fin 128) (h : ¬ k.val < 64) : (ikIn x (ix2 q k) : EReal) = 0 := by
  show select ikVec _ _ _ = _
  rw [select_apply, ikVec_apply, if_neg h, if_neg (by decide)]
  exact Ideal.ofBits_zero_f32

theorem ikNorm_low (x : Vec Ideal S1x256x128 .f32) (g : Vec Ideal S1x128 .f32) (q : Fin 256) (k : Fin 64) :
    ikNorm x g (ix2 q (up k)) = norm64 (ikRow x q) (ikGain g) k := by
  unfold norm64
  refine congrArg₂ (fun a b : EReal => a * b) (congrArg₂ (fun a b : EReal => a * b) (ikIn_low x q k) ?_)
    ((bcastRow_apply _ q (up k)).trans (by rw [gainVec_eq]))
  refine (bcastCol_apply _ q (up k)).trans ?_
  refine congrArg (fun s : EReal => Ideal.rsqrt (s + eps)) (Eq.trans (congrArg (fun s : EReal => s * inv64) ?_) (mul_inv64 _))
  refine (rowSum_apply (mulf (ikIn x) (ikIn x)) q).trans ?_
  refine sum_lower _ _ (fun l => ?_) (fun l h => ?_)
  · exact congrArg₂ (fun a b : EReal => a * b) (ikIn_low x q l) (ikIn_low x q l)
  · refine (congrArg₂ (fun a b : EReal => a * b) (ikIn_high x q l h) (ikIn_high x q l h)).trans ?_
    exact mul_zero (0 : EReal)

theorem ikOut_low (x : Vec Ideal S1x256x128 .f32) (c s : Vec Ideal S256x128 .f32) (g : Vec Ideal S1x128 .f32) (q : Fin 256) (k : Fin 64) :
    ikOut x c s g (ix2 q (up k)) = ikAt x c s g q k := by
  show select ikVec _ _ _ = _
  rw [select_apply, ikVec_apply, if_pos (show (up k).val < 64 from k.isLt), if_pos rfl]
  have hk := k.isLt
  have e : ikNorm x g (ix2 q (mate (up k))) = norm64 (ikRow x q) (ikGain g) ⟨(k.val + 32) % 64, Nat.mod_lt _ (by decide)⟩ := by
    rw [show mate (up k) = up ⟨(k.val + 32) % 64, Nat.mod_lt _ (by decide)⟩ from Fin.ext (by
      show k.val / 64 * 64 + (k.val % 64 + 32) % 64 = (k.val + 32) % 64; omega)]
    exact ikNorm_low x g q _
  refine (pairVec_apply (ikNorm x g) (tab c) (tab s) q (up k)).trans ?_
  rw [e, ikNorm_low, tab_eq, tab_eq]
  rfl

theorem ikOut_high (x : Vec Ideal S1x256x128 .f32) (c s : Vec Ideal S256x128 .f32) (g : Vec Ideal S1x128 .f32) (q : Fin 256) (k : Fin 128)
    (h : ¬ k.val < 64) : (ikOut x c s g (ix2 q k) : EReal) = 0 := by
  show select ikVec _ _ _ = _
  rw [select_apply, ikVec_apply, if_neg h, if_neg (by decide)]
  exact Ideal.ofBits_zero_f32

/-- The stored row: the rotated key below, a quarter of the weights above. -/
def smallAt (x : Vec Ideal S1x256x128 .f32) (c s : Vec Ideal S256x128 .f32) (g : Vec Ideal S1x128 .f32) (q : Fin 256) (k : Fin 128) : EReal :=
  if h : k.val < 64 then ikAt x c s g q ⟨k.val, h⟩ else x (ix3 (0 : Fin 1) q k) * quarter

theorem out18_apply (q : Fin 256) (k : Fin 128) :
    (out0_18 x0 x1 x2 x3 x4 x5 x6 x7 x8 x9 x10 x11 x12 (ix3 (0 : Fin 1) q k) : EReal) = smallAt x4 x8 x9 x12 q k := by
  refine (congrFun (View.canon_unit_zero (S := S1x256x128) z3 _ _) _).trans ?_
  refine Eq.trans (b := shapeCast S1x256x128 (select ikVec (ikOut (View.ld x4 r0_10) (View.ld x8 r0_0) (View.ld x9 r0_0) (View.ld x12 r0_1))
    (mulf (flat (View.ld x4 r0_10)) (broadcast S256x128 (Scalar.ofBits .f32 0x3E800000#32)))) shapeCasts_S256x128_S1x256x128 (ix3 (0 : Fin 1) q k)) rfl ?_
  rw [unflat_apply, small_ld, tab_ld, tab_ld, gain_ld, select_apply, ikVec_apply]
  unfold smallAt
  by_cases h : k.val < 64
  · rw [if_pos h, if_pos rfl, dif_pos h]
    exact ikOut_low x4 x8 x9 x12 q ⟨k.val, h⟩
  · rw [if_neg h, if_neg (by decide), dif_neg h]
    exact congrArg (fun w : EReal => w * quarter) (flat_apply x4 q k)

theorem out19_apply (q : Fin 256) (k : Fin 128) :
    (out0_19 x0 x1 x2 x3 x4 x5 x6 x7 x8 x9 x10 x11 x12 (ix3 (0 : Fin 1) q k) : EReal)
      = ikAt x4 x8 x9 x12 q ⟨k.val % 64, Nat.mod_lt _ (by decide)⟩ := by
  refine (congrFun (View.canon_unit_zero (S := S1x256x128) z3 _ _) _).trans ?_
  refine Eq.trans (b := shapeCast S1x256x128 (truncf .bf16 (addf (ikOut (View.ld x4 r0_10) (View.ld x8 r0_0) (View.ld x9 r0_0) (View.ld x12 r0_1))
    (dynamicRotate 1 64#32 none (ikOut (View.ld x4 r0_10) (View.ld x8 r0_0) (View.ld x9 r0_0) (View.ld x12 r0_1)) rotates_S256x128_d1))
    bitsLt_bf16_f32) shapeCasts_S256x128_S1x256x128 (ix3 (0 : Fin 1) q k)) rfl ?_
  refine (unflat_apply .bf16 _ q k).trans ?_
  rw [small_ld, tab_ld, tab_ld, gain_ld]
  refine (congrArg (fun w : EReal => ikOut x4 x8 x9 x12 (ix2 q k) + w) (roll_apply _ 64#32 64 (by decide) q k)).trans ?_
  have hk := k.isLt
  by_cases h : k.val < 64
  · refine (congrArg₂ (fun a b : EReal => a + b) (ikOut_low x4 x8 x9 x12 q ⟨k.val, h⟩)
      (ikOut_high x4 x8 x9 x12 q ⟨(k.val + 64) % 128, Nat.mod_lt _ (by decide)⟩ (by show ¬ (k.val + 64) % 128 < 64; omega))).trans ?_
    refine (add_zero (ikAt x4 x8 x9 x12 q ⟨k.val, h⟩)).trans (congrArg (ikAt x4 x8 x9 x12 q) (Fin.ext ?_))
    show k.val = k.val % 64
    omega
  · refine (congrArg₂ (fun a b : EReal => a + b) (ikOut_high x4 x8 x9 x12 q k h)
      (Eq.trans (congrArg (fun l => ikOut x4 x8 x9 x12 (ix2 q l)) (Fin.ext ?_))
        (ikOut_low x4 x8 x9 x12 q ⟨k.val % 64, Nat.mod_lt _ (by decide)⟩))).trans (zero_add _)
    show (k.val + 64) % 128 = k.val % 64
    omega

/-! ## The gated convolution input -/

theorem out20_apply (q : Fin 256) (j : Fin 1024) :
    (out0_20 x0 x1 x2 x3 x4 x5 x6 x7 x8 x9 x10 x11 x12 (ix3 (0 : Fin 1) q j) : EReal)
      = x5 (ix3 (0 : Fin 1) q (⟨j.val, by have := j.isLt; omega⟩ : Fin 2048))
        * Ideal.logistic (x5 (ix3 (0 : Fin 1) q (⟨1024 + j.val, by have := j.isLt; omega⟩ : Fin 2048))) := by
  refine (Value.canon20_eq (View.ld x5 r0_11) (View.ld x5 r0_12) _).trans ?_
  refine congrArg₂ (fun a b : EReal => a * Ideal.logistic b) (congrArg x5 (funext fun a => Fin.ext ?_)) (congrArg x5 (funext fun a => Fin.ext ?_))
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 1024 + 1 * j.val = 1024 + j.val; omega

end Blocks

end Cert.PostIdeal.Mine

end
-- ==== Proof.PostHost.lean ====
/-
  What the host prepares for the mixer's preparation call (prompt group): the cosine and signed sine tables, one row per
  position, and the gains. Each is read here at an element.
-/
module

public import proofs.«01_k».proof.Proof.PostBlocks
public import Idealize.ShloMosaic.Lib.StableHlo.Run
public import Idealize.ShloMosaic.Lib.Routing.OpsOrder

@[expose] public section

noncomputable section

namespace Cert.PostIdeal.Mine

open Cert.PostIdeal Cert.PostIdeal.Gen Cert.PostMath Idealize.ShloMosaic Idealize.ShloMosaic.TcCoe Idealize.SL.Sem
open Idealize.ShloMosaic.ValueIdx
open scoped BigOperators

variable (m : (ℓ : Loc nD τ sig) → Buf (Elt Ideal) ℓ)

/-- The position of row `p`. -/
abbrev posW (p : Nat) : BitVec 32 := BitVec.ofNat 32 p

/-- The positions, as the host lays them out. -/
abbrev posVec : IVec S4096 32 := iotaInDim S4096 32 0

/-! ## Layouts -/

/-- A column spread over lanes. -/
theorem rows64_apply (v : FVec Ideal S4096 .f32) (p : Fin 4096) (l : Fin 64) :
    broadcastInDim S4096x64 ![0, 1] bcast_S4096x1_S4096x64_0_1 (broadcastInDim S4096x1 ![0] bcast_S4096_S4096x1_0 v) (ix2 p l) = v (ix1 p) :=
  (broadcastInDim_apply _ bcast_S4096x1_S4096x64_0_1 _ (ix2 p l) (ix2 p (0 : Fin 1)) (fun a => match a with
    | ⟨0, _⟩ => by show p.val = if (4096 : Nat) = 1 then 0 else p.val; rw [if_neg (by decide)]
    | ⟨1, _⟩ => rfl)).trans
  (broadcastInDim_apply _ bcast_S4096_S4096x1_0 v _ (ix1 p) (fun a => match a with
    | ⟨0, _⟩ => by show p.val = if (4096 : Nat) = 1 then 0 else p.val; rw [if_neg (by decide)]))

theorem lanes64_apply (v : FVec Ideal S64 .f32) (p : Fin 4096) (l : Fin 64) :
    broadcastInDim S4096x64 ![0, 1] bcast_S1x64_S4096x64_0_1 (broadcastInDim S1x64 ![1] bcast_S64_S1x64_1 v) (ix2 p l) = v (ix1 l) :=
  (broadcastInDim_apply _ bcast_S1x64_S4096x64_0_1 _ (ix2 p l) (ix2 (0 : Fin 1) l) (fun a => match a with
    | ⟨0, _⟩ => rfl
    | ⟨1, _⟩ => by show l.val = if (64 : Nat) = 1 then 0 else l.val; rw [if_neg (by decide)])).trans
  (broadcastInDim_apply _ bcast_S64_S1x64_1 v _ (ix1 l) (fun a => match a with
    | ⟨0, _⟩ => by show l.val = if (64 : Nat) = 1 then 0 else l.val; rw [if_neg (by decide)]))

theorem rows32_apply (v : FVec Ideal S4096 .f32) (p : Fin 4096) (l : Fin 32) :
    broadcastInDim S4096x32 ![0, 1] bcast_S4096x1_S4096x32_0_1 (broadcastInDim S4096x1 ![0] bcast_S4096_S4096x1_0 v) (ix2 p l) = v (ix1 p) :=
  (broadcastInDim_apply _ bcast_S4096x1_S4096x32_0_1 _ (ix2 p l) (ix2 p (0 : Fin 1)) (fun a => match a with
    | ⟨0, _⟩ => by show p.val = if (4096 : Nat) = 1 then 0 else p.val; rw [if_neg (by decide)]
    | ⟨1, _⟩ => rfl)).trans
  (broadcastInDim_apply _ bcast_S4096_S4096x1_0 v _ (ix1 p) (fun a => match a with
    | ⟨0, _⟩ => by show p.val = if (4096 : Nat) = 1 then 0 else p.val; rw [if_neg (by decide)]))

theorem lanes32_apply (v : FVec Ideal S32 .f32) (p : Fin 4096) (l : Fin 32) :
    broadcastInDim S4096x32 ![0, 1] bcast_S1x32_S4096x32_0_1 (broadcastInDim S1x32 ![1] bcast_S32_S1x32_1 v) (ix2 p l) = v (ix1 l) :=
  (broadcastInDim_apply _ bcast_S1x32_S4096x32_0_1 _ (ix2 p l) (ix2 (0 : Fin 1) l) (fun a => match a with
    | ⟨0, _⟩ => rfl
    | ⟨1, _⟩ => by show l.val = if (32 : Nat) = 1 then 0 else l.val; rw [if_neg (by decide)])).trans
  (broadcastInDim_apply _ bcast_S32_S1x32_1 v _ (ix1 l) (fun a => match a with
    | ⟨0, _⟩ => by show l.val = if (32 : Nat) = 1 then 0 else l.val; rw [if_neg (by decide)]))

/-- Two halves of lanes side by side. -/
def catA (a b : FVec Ideal S4096x64 .f32) : FVec Ideal S4096x128 .f32 :=
  concatenate S4096x128 1 [⟨S4096x64, a⟩, ⟨S4096x64, b⟩] concatenates_S4096x64_S4096x64_S4096x128_d1

theorem catA_apply (a b : FVec Ideal S4096x64 .f32) (p : Fin 4096) (k : Fin 128) : catA a b (ix2 p k)
    = if h : k.val < 64 then a (ix2 p ⟨k.val, h⟩) else b (ix2 p ⟨k.val - 64, by have := k.isLt; omega⟩) := by
  unfold catA
  by_cases h : k.val < 64
  · rw [dif_pos h]
    exact concatenate_pair_apply_left (t := S4096x128) 1 a b _ _ rfl (ix2 p ⟨k.val, h⟩) (fun b => match b with
      | ⟨0, _⟩ => rfl
      | ⟨1, _⟩ => rfl)
  · rw [dif_neg h]
    exact concatenate_pair_apply_right (t := S4096x128) 1 a b _ _ rfl rfl (ix2 p ⟨k.val - 64, by have := k.isLt; omega⟩) (fun b hb => match b, hb with
      | ⟨0, _⟩, _ => rfl
      | ⟨1, _⟩, hb => absurd rfl hb) (by show k.val - 64 + 64 = k.val; omega)

def catB (a b : FVec Ideal S4096x32 .f32) : FVec Ideal S4096x64 .f32 :=
  concatenate S4096x64 1 [⟨S4096x32, a⟩, ⟨S4096x32, b⟩] concatenates_S4096x32_S4096x32_S4096x64_d1

theorem catB_apply (a b : FVec Ideal S4096x32 .f32) (p : Fin 4096) (k : Fin 64) : catB a b (ix2 p k)
    = if h : k.val < 32 then a (ix2 p ⟨k.val, h⟩) else b (ix2 p ⟨k.val - 32, by have := k.isLt; omega⟩) := by
  unfold catB
  by_cases h : k.val < 32
  · rw [dif_pos h]
    exact concatenate_pair_apply_left (t := S4096x64) 1 a b _ _ rfl (ix2 p ⟨k.val, h⟩) (fun b => match b with
      | ⟨0, _⟩ => rfl
      | ⟨1, _⟩ => rfl)
  · rw [dif_neg h]
    exact concatenate_pair_apply_right (t := S4096x64) 1 a b _ _ rfl rfl (ix2 p ⟨k.val - 32, by have := k.isLt; omega⟩) (fun b hb => match b, hb with
      | ⟨0, _⟩, _ => rfl
      | ⟨1, _⟩, hb => absurd rfl hb) (by show k.val - 32 + 32 = k.val; omega)

/-- The table of 128 lanes passes through its four-dimensional form unchanged. -/
def wideA (x : FVec Ideal S4096x128 .f32) : FVec Ideal S4096x128 .f32 :=
  shapeCast S4096x128 (broadcastInDim S1x4096x1x128 ![0, 1, 2, 3] bcast_S1x4096x1x128_S1x4096x1x128_0_1_2_3
    (shapeCast S1x4096x1x128 x shapeCasts_S4096x128_S1x4096x1x128)) shapeCasts_S1x4096x1x128_S4096x128

theorem wideA_apply (x : FVec Ideal S4096x128 .f32) (p : Fin 4096) (k : Fin 128) : wideA x (ix2 p k) = x (ix2 p k) := by
  have hk := k.isLt
  refine (shapeCast_apply _ shapeCasts_S1x4096x1x128_S4096x128 _ (ix4 (0 : Fin 1) p (0 : Fin 1) k) (by
    rewrite [Shape.rowMajor_val_four, Shape.rowMajor_val_two]; show ((0 * 4096 + p.val) * 1 + 0) * 128 + k.val = p.val * 128 + k.val; omega)).trans ?_
  refine (broadcastInDim_apply _ bcast_S1x4096x1x128_S1x4096x1x128_0_1_2_3 _ _ (ix4 (0 : Fin 1) p (0 : Fin 1) k) (fun a => match a with
    | ⟨0, _⟩ => rfl
    | ⟨1, _⟩ => by show p.val = if (4096 : Nat) = 1 then 0 else p.val; rw [if_neg (by decide)]
    | ⟨2, _⟩ => rfl
    | ⟨3, _⟩ => by show k.val = if (128 : Nat) = 1 then 0 else k.val; rw [if_neg (by decide)])).trans ?_
  exact shapeCast_apply _ shapeCasts_S4096x128_S1x4096x1x128 _ (ix2 p k) (by
    rewrite [Shape.rowMajor_val_four, Shape.rowMajor_val_two]; show p.val * 128 + k.val = ((0 * 4096 + p.val) * 1 + 0) * 128 + k.val; omega)

/-- The table of 64 lanes is laid twice over 128. -/
def wideB (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128

theorem wideB_apply (x : FVec Ideal S4096x64 .f32) (p : Fin 4096) (k : Fin 128) :
    wideB x (ix2 p k) = x (ix2 p (⟨k.val % 64, Nat.mod_lt _ (by decide)⟩ : Fin 64)) := by
  have hk := k.isLt
  refine (shapeCast_apply _ shapeCasts_S1x4096x2x64_S4096x128 _
    (ix4 (0 : Fin 1) p (⟨k.val / 64, by omega⟩ : Fin 2) (⟨k.val % 64, Nat.mod_lt _ (by decide)⟩ : Fin 64)) (by
    rewrite [Shape.rowMajor_val_four, Shape.rowMajor_val_two]
    show ((0 * 4096 + p.val) * 2 + k.val / 64) * 64 + k.val % 64 = p.val * 128 + k.val; omega)).trans ?_
  refine (broadcastInDim_apply _ bcast_S1x4096x1x64_S1x4096x2x64_0_1_2_3 _ _
    (ix4 (0 : Fin 1) p (0 : Fin 1) (⟨k.val % 64, Nat.mod_lt _ (by decide)⟩ : Fin 64)) (fun a => match a with
    | ⟨0, _⟩ => rfl
    | ⟨1, _⟩ => by show p.val = if (4096 : Nat) = 1 then 0 else p.val; rw [if_neg (by decide)]
    | ⟨2, _⟩ => rfl
    | ⟨3, _⟩ => by show k.val % 64 = if (64 : Nat) = 1 then 0 else k.val % 64; rw [if_neg (by decide)])).trans ?_
  exact shapeCast_apply _ shapeCasts_S4096x64_S1x4096x1x64 _ (ix2 p (⟨k.val % 64, Nat.mod_lt _ (by decide)⟩ : Fin 64)) (by
    rewrite [Shape.rowMajor_val_four, Shape.rowMajor_val_two]; show p.val * 64 + k.val % 64 = ((0 * 4096 + p.val) * 1 + 0) * 64 + k.val % 64; omega)

/-! ## The tables -/

/-- The angles of the rotation by 64 lanes, as the host computes them. -/
def angA : FVec Ideal S4096x64 .f32 :=
  mulf (broadcastInDim S4096x64 ![0, 1] bcast_S4096x1_S4096x64_0_1 (broadcastInDim S4096x1 ![0] bcast_S4096_S4096x1_0 (sitofp .f32 posVec)))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

theorem angA_apply (p : Fin 4096) (l : Fin 64) : (angA (ix2 p l) : EReal) = ang c64 (posW p.val) l.val :=
  congrArg₂ (fun a b : EReal => a * b) ((rows64_apply _ p l).trans rfl) ((lanes64_apply _ p l).trans rfl)

/-- The angles of the rotation by 32 lanes, as the host computes them. -/
def angB : FVec Ideal S4096x32 .f32 :=
  mulf (broadcastInDim S4096x32 ![0, 1] bcast_S4096x1_S4096x32_0_1 (broadcastInDim S4096x1 ![0] bcast_S4096_S4096x1_0 (sitofp .f32 posVec)))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angB_apply (p : Fin 4096) (l : Fin 32) : (angB (ix2 p l) : EReal) = ang c32 (posW p.val) l.val :=
  congrArg₂ (fun a b : EReal => a * b) ((rows32_apply _ p l).trans rfl) ((lanes32_apply _ p l).trans rfl)

theorem cosA_eq (c : Dev nD) : V m c main_v22 = wideA (catA (Host.cos angA) (Host.cos angA)) := by
  unfold V
  after_results <;> rfl

theorem sinA_eq (c : Dev nD) : V m c main_v25 = wideA (catA (Host.negf (Host.sin angA)) (Host.sin angA)) := by
  unfold V
  after_results <;> rfl

theorem cosB_eq (c : Dev nD) : V m c main_v47 = wideB (catB (Host.cos angB) (Host.cos angB)) := by
  unfold V
  after_results <;> rfl

theorem sinB_eq (c : Dev nD) : V m c main_v50 = wideB (catB (Host.negf (Host.sin angB)) (Host.sin angB)) := by
  unfold V
  after_results <;> rfl

theorem cosA_at (c : Dev nD) (p : Fin 4096) (k : Fin 128) : (V m c main_v22 : FVec Ideal S4096x128 .f32) (ix2 p k) = tabC (posW p.val) k.val := by
  rw [cosA_eq, wideA_apply, catA_apply]
  unfold tabC
  have hk := k.isLt
  by_cases h : k.val < 64
  · rw [dif_pos h, Nat.mod_eq_of_lt h]
    exact congrArg Ideal.cos (angA_apply p _)
  · rw [dif_neg h, show k.val % 64 = k.val - 64 by omega]
    exact congrArg Ideal.cos (angA_apply p _)

theorem sinA_at (c : Dev nD) (p : Fin 4096) (k : Fin 128) : (V m c main_v25 : FVec Ideal S4096x128 .f32) (ix2 p k) = tabS (posW p.val) k.val := by
  rw [sinA_eq, wideA_apply, catA_apply]
  unfold tabS
  by_cases h : k.val < 64
  · rw [dif_pos h, if_pos h]
    exact congrArg (fun a : EReal => -(Ideal.sin a)) (angA_apply p _)
  · rw [dif_neg h, if_neg h]
    exact congrArg Ideal.sin (angA_apply p _)

theorem cosB_at (c : Dev nD) (p : Fin 4096) (k : Fin 128) : (V m c main_v47 : FVec Ideal S4096x128 .f32) (ix2 p k) = tabc (posW p.val) k.val := by
  rw [cosB_eq, wideB_apply, catB_apply]
  unfold tabc
  by_cases h : k.val % 64 < 32
  · rw [dif_pos h, show k.val % 32 = k.val % 64 by omega]
    exact congrArg Ideal.cos (angB_apply p _)
  · rw [dif_neg h, show k.val % 32 = k.val % 64 - 32 by omega]
    exact congrArg Ideal.cos (angB_apply p _)

theorem sinB_at (c : Dev nD) (p : Fin 4096) (k : Fin 128) : (V m c main_v50 : FVec Ideal S4096x128 .f32) (ix2 p k) = tabs (posW p.val) k.val := by
  rw [sinB_eq, wideB_apply, catB_apply]
  unfold tabs
  by_cases h : k.val % 64 < 32
  · rw [dif_pos h, if_pos h]
    exact congrArg (fun a : EReal => -(Ideal.sin a)) (angB_apply p _)
  · rw [dif_neg h, if_neg h]
    exact congrArg Ideal.sin (angB_apply p _)

/-! ## The gains -/

theorem qg_eq (c : Dev nD) : V m c main_v56 = shapeCast S1x128 (m ((c : Thread nD τ).loc main_arg3)) shapeCasts_S128_S1x128 := by
  unfold V
  after_results <;> rfl

theorem kg_eq (c : Dev nD) : V m c main_v57 = shapeCast S1x128 (m ((c : Thread nD τ).loc main_arg4)) shapeCasts_S128_S1x128 := by
  unfold V
  after_results <;> rfl

theorem row_of (g : FVec Ideal S128 .f32) (k : Fin 128) : shapeCast S1x128 g shapeCasts_S128_S1x128 (ix2 (0 : Fin 1) k) = g (ix1 k) :=
  shapeCast_apply _ shapeCasts_S128_S1x128 _ (ix1 k) (by
    rewrite [Shape.rowMajor_val_one, Shape.rowMajor_val_two]; show k.val = 0 * 128 + k.val; omega)

/-- The start of the written row: its place 0, lane 0. -/
abbrev origin : IVec S2 32 := fun _ => 0#32

theorem origin_eq : concatenate S2 0 [⟨S1, broadcastInDim S1 ![] bcast_S_S1 (constantI S_ 32 0#32)⟩,
    ⟨S1, broadcastInDim S1 ![] bcast_S_S1 (constantI S_ 32 0#32)⟩] concatenates_S1_S1_S2_d0 = origin := by
  funext i
  have hi : (i 0).val < 2 := (i 0).isLt
  by_cases h : (i 0).val < 1
  · exact (concatenate_pair_apply_left (t := S2) (s₁ := S1) (s₂ := S1) (0 : Fin 1) _ _ concatenates_S1_S1_S2_d0 i rfl (ix1 (0 : Fin 1))
      (fun b => match b with | ⟨0, _⟩ => by show 0 = (i 0).val; omega)).trans rfl
  · exact (concatenate_pair_apply_right (t := S2) (s₁ := S1) (s₂ := S1) (0 : Fin 1) _ _ concatenates_S1_S1_S2_d0 i rfl rfl (ix1 (0 : Fin 1))
      (fun b hb => match b, hb with | ⟨0, _⟩, hb => absurd rfl hb) (by show 0 + 1 = (i 0).val; omega)).trans rfl

theorem lands : ∀ n : Fin 64, scatter_S1x128_S2_S64_0_0_01_0.resultIdx? (S64.rowMajor.symm n) origin = some (ix2 (0 : Fin 1) (up n)) := by
  decide +kernel

theorem symm64 (n : Fin 64) : S64.rowMajor.symm n = ix1 n :=
  (Equiv.symm_apply_eq S64.rowMajor).mpr (Fin.ext (Shape.rowMajor_val_one (ix1 n : S64.Idx)).symm)

theorem same_lane (n k : Fin 64) : some (ix2 (0 : Fin 1) (up n) : S1x128.Idx) = some (ix2 (0 : Fin 1) (up k)) ↔ n = k :=
  ⟨fun e => Fin.ext (congrArg (fun i : S1x128.Idx => (i 1).val) (Option.some.inj e)), fun e => by rw [e]⟩

theorem pick (n k : Fin 64) (x a : EReal) [Decidable (some (ix2 (0 : Fin 1) (up n) : S1x128.Idx) = some (ix2 (0 : Fin 1) (up k)))] :
    (if some (ix2 (0 : Fin 1) (up n) : S1x128.Idx) = some (ix2 (0 : Fin 1) (up k)) then x else a) = if n = k then x else a :=
  if_congr (same_lane n k) rfl rfl

/-- The row of zeros with the gains of 64 written over its first lanes, at one of those lanes. -/
theorem padded_apply (z : FVec Ideal S1x128 .f32) (u : FVec Ideal S64 .f32) (k : Fin 64) :
    Host.scatter scatter_S1x128_S2_S64_0_0_01_0 (fun _ b => b) z origin u (ix2 (0 : Fin 1) (up k)) = u (ix1 k) := by
  refine (Routing.scatterIn_at (u := S64) (List.finRange 64) scatter_S1x128_S2_S64_0_0_01_0 (fun _ b => b) z origin u (ix2 (0 : Fin 1) (up k))).trans ?_
  refine Eq.trans (congrArg (fun f => List.foldl f (z (ix2 (0 : Fin 1) (up k))) (List.finRange 64))
    (funext fun a => funext fun n => ?_)) (foldl_set (fun n : Fin 64 => u (ix1 n)) k (List.finRange 64) _ (List.mem_finRange k))
  rw [lands n, symm64 n]
  exact pick n k _ _

theorem ikg_eq (c : Dev nD) : V m c main_v55 = Host.scatter scatter_S1x128_S2_S64_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (m ((c : Thread nD τ).loc main_arg5)) := by
  unfold V
  after_results <;> rfl

theorem qg_at (c : Dev nD) (k : Fin 128) : (V m c main_v56 : FVec Ideal S1x128 .f32) (ix2 (0 : Fin 1) k)
    = (m ((c : Thread nD τ).loc main_arg3) : S128.Idx → EReal) (ix1 k) := by
  rw [qg_eq]; exact row_of _ k

theorem kg_at (c : Dev nD) (k : Fin 128) : (V m c main_v57 : FVec Ideal S1x128 .f32) (ix2 (0 : Fin 1) k)
    = (m ((c : Thread nD τ).loc main_arg4) : S128.Idx → EReal) (ix1 k) := by
  rw [kg_eq]; exact row_of _ k

theorem ikg_at (c : Dev nD) (k : Fin 64) : (V m c main_v55 : FVec Ideal S1x128 .f32) (ix2 (0 : Fin 1) (up k))
    = (m ((c : Thread nD τ).loc main_arg5) : S64.Idx → EReal) (ix1 k) := by
  rw [ikg_eq, origin_eq]; exact padded_apply _ _ k

end Cert.PostIdeal.Mine

end
-- ==== Proof.PostSpec.lean ====
/-
  The eight arrays the mixer's preparation call makes (prompt group), as functions of its arguments, element by element: the
  queries and keys normed and rotated, the values, the indexer's queries rotated, its key normed and rotated beside its
  weights, that key twice, and the gated linear unit.
-/
module

public import proofs.«01_k».proof.Proof.PostHost

@[expose] public section

noncomputable section

namespace Cert.PostIdeal.Mine

open Cert.PostIdeal Cert.PostIdeal.Gen Cert.PostMath Idealize.ShloMosaic
open Idealize.ShloMosaic.ValueIdx
open scoped BigOperators

/-- Lane `j` of part `w` of the wide rows. -/
abbrev col (w : Fin 4) (j : Fin 1024) : Fin 4096 := ⟨w.val * 1024 + j.val, by have := w.isLt; have := j.isLt; omega⟩

/-- Lane `l` of the head of 64 that holds lane `j`. -/
abbrev pairLane (j : Fin 1024) (l : Fin 64) : Fin 1024 := ⟨j.val / 64 * 64 + l.val, by have := j.isLt; have := l.isLt; omega⟩

/-- Part `w`, normed head by head and rotated. -/
def headVal (w : Fin 4) (X : S2x4096x4096.Idx → EReal) (g : S128.Idx → EReal) (b : Fin 2) (p : Fin 4096) (j : Fin 1024) : EReal :=
  turn128 (norm128 (fun l => X (ix3 b p (col w (laneOf j l)))) (fun l => g (ix1 l))) (posW p.val) (inHead j)

/-- Part 2 as it stands. -/
def copyVal (X : S2x4096x4096.Idx → EReal) (b : Fin 2) (p : Fin 4096) (j : Fin 1024) : EReal := X (ix3 b p (col 2 j))

/-- Part 3, rotated by heads of 64. -/
def pairVal (X : S2x4096x4096.Idx → EReal) (b : Fin 2) (p : Fin 4096) (j : Fin 1024) : EReal :=
  turn64 (fun l => X (ix3 b p (col 3 (pairLane j l)))) (posW p.val) ⟨j.val % 64, Nat.mod_lt _ (by decide)⟩

/-- The indexer's key, normed and rotated. -/
def ikVal (Y : S2x4096x128.Idx → EReal) (g : S64.Idx → EReal) (b : Fin 2) (p : Fin 4096) (k : Fin 64) : EReal :=
  turn64 (norm64 (fun l => Y (ix3 b p (up l))) (fun l => g (ix1 l))) (posW p.val) k

/-- The key, then the indexer's weights times a quarter. -/
def smallVal (Y : S2x4096x128.Idx → EReal) (g : S64.Idx → EReal) (b : Fin 2) (p : Fin 4096) (k : Fin 128) : EReal :=
  if h : k.val < 64 then ikVal Y g b p ⟨k.val, h⟩ else Y (ix3 b p k) * quarter

/-- The key twice. -/
def twiceVal (Y : S2x4096x128.Idx → EReal) (g : S64.Idx → EReal) (b : Fin 2) (p : Fin 4096) (k : Fin 128) : EReal :=
  ikVal Y g b p ⟨k.val % 64, Nat.mod_lt _ (by decide)⟩

/-- The gated linear unit. -/
def gluVal (U : S2x4096x2048.Idx → EReal) (b : Fin 2) (p : Fin 4096) (j : Fin 1024) : EReal :=
  U (ix3 b p (⟨j.val, by have := j.isLt; omega⟩ : Fin 2048))
    * Ideal.logistic (U (ix3 b p (⟨1024 + j.val, by have := j.isLt; omega⟩ : Fin 2048)))

/-- A function of sequence, position and lane, as an array. -/
def arrA (f : Fin 2 → Fin 4096 → Fin 1024 → EReal) : S2x4096x1024.Idx → EReal := fun i =>
  f ⟨(i 0).val, (i 0).isLt⟩ ⟨(i 1).val, (i 1).isLt⟩ ⟨(i 2).val, (i 2).isLt⟩

def arrB (f : Fin 2 → Fin 4096 → Fin 128 → EReal) : S2x4096x128.Idx → EReal := fun i =>
  f ⟨(i 0).val, (i 0).isLt⟩ ⟨(i 1).val, (i 1).isLt⟩ ⟨(i 2).val, (i 2).isLt⟩

theorem arrA_ext (v : S2x4096x1024.Idx → EReal) (f : Fin 2 → Fin 4096 → Fin 1024 → EReal) (h : ∀ b p j, v (ix3 b p j) = f b p j) :
    v = arrA f := by
  funext i
  refine Eq.trans (congrArg v ?_) (h ⟨(i 0).val, (i 0).isLt⟩ ⟨(i 1).val, (i 1).isLt⟩ ⟨(i 2).val, (i 2).isLt⟩)
  funext a
  fin_cases a <;> rfl

theorem arrB_ext (v : S2x4096x128.Idx → EReal) (f : Fin 2 → Fin 4096 → Fin 128 → EReal) (h : ∀ b p j, v (ix3 b p j) = f b p j) :
    v = arrB f := by
  funext i
  refine Eq.trans (congrArg v ?_) (h ⟨(i 0).val, (i 0).isLt⟩ ⟨(i 1).val, (i 1).isLt⟩ ⟨(i 2).val, (i 2).isLt⟩)
  funext a
  fin_cases a <;> rfl

end Cert.PostIdeal.Mine

end
-- ==== Proof.PostFinal.lean ====
/-
  The eight arrays after the run of the mixer's preparation call (prompt group): where each block stands, what the blocks of
  the arguments read, and that the blocks written are those of the arrays of the functions stated before.
-/
module

public import proofs.«01_k».proof.Proof.PostSpec
public import proofs.«01_k».proof.Proof.Gen.PostIdeal.Value

@[expose] public section

noncomputable section

namespace Cert.PostIdeal.Mine

open Cert.PostIdeal Cert.PostIdeal.Gen Cert.PostMath Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## Where the windows stand -/

theorem places_wide : ∀ t : Fin cfg0.N,
    (win0_0.index t (0:Fin 3) = win0_13.index t (0:Fin 3) ∧ win0_0.index t (1:Fin 3) = win0_13.index t (1:Fin 3) ∧ win0_0.index t (2:Fin 3) = 0)
    ∧ (win0_1.index t (0:Fin 3) = win0_13.index t (0:Fin 3) ∧ win0_1.index t (1:Fin 3) = win0_13.index t (1:Fin 3) ∧ win0_1.index t (2:Fin 3) = 1)
    ∧ (win0_2.index t (0:Fin 3) = win0_13.index t (0:Fin 3) ∧ win0_2.index t (1:Fin 3) = win0_13.index t (1:Fin 3) ∧ win0_2.index t (2:Fin 3) = 2)
    ∧ (win0_3.index t (0:Fin 3) = win0_13.index t (0:Fin 3) ∧ win0_3.index t (1:Fin 3) = win0_13.index t (1:Fin 3) ∧ win0_3.index t (2:Fin 3) = 3)
    ∧ (win0_4.index t (0:Fin 3) = win0_13.index t (0:Fin 3) ∧ win0_4.index t (1:Fin 3) = win0_13.index t (1:Fin 3) ∧ win0_4.index t (2:Fin 3) = 0)
    ∧ (win0_5.index t (0:Fin 3) = win0_13.index t (0:Fin 3) ∧ win0_5.index t (1:Fin 3) = win0_13.index t (1:Fin 3) ∧ win0_5.index t (2:Fin 3) = 0) :=
  (by decide +kernel : ∀ t : Fin grid0.N, _)

theorem places_tab : ∀ t : Fin cfg0.N,
    (win0_6.index t (0:Fin 2) = win0_13.index t (1:Fin 3) ∧ win0_6.index t (1:Fin 2) = 0)
    ∧ (win0_7.index t (0:Fin 2) = win0_13.index t (1:Fin 3) ∧ win0_7.index t (1:Fin 2) = 0)
    ∧ (win0_8.index t (0:Fin 2) = win0_13.index t (1:Fin 3) ∧ win0_8.index t (1:Fin 2) = 0)
    ∧ (win0_9.index t (0:Fin 2) = win0_13.index t (1:Fin 3) ∧ win0_9.index t (1:Fin 2) = 0)
    ∧ (win0_10.index t (0:Fin 2) = 0 ∧ win0_10.index t (1:Fin 2) = 0)
    ∧ (win0_11.index t (0:Fin 2) = 0 ∧ win0_11.index t (1:Fin 2) = 0)
    ∧ (win0_12.index t (0:Fin 2) = 0 ∧ win0_12.index t (1:Fin 2) = 0) :=
  (by decide +kernel : ∀ t : Fin grid0.N, _)

/-- The results' windows stand together, inside their arrays. -/
theorem places_out : ∀ t : Fin cfg0.N, (win0_13.index t (2:Fin 3) = 0 ∧ win0_13.index t (0:Fin 3) < 2 ∧ win0_13.index t (1:Fin 3) < 16)
    ∧ (∀ a : Fin 3, win0_14.index t a = win0_13.index t a) ∧ (∀ a : Fin 3, win0_15.index t a = win0_13.index t a)
    ∧ (∀ a : Fin 3, win0_16.index t a = win0_13.index t a) ∧ (∀ a : Fin 3, win0_17.index t a = win0_13.index t a)
    ∧ (∀ a : Fin 3, win0_18.index t a = win0_13.index t a) ∧ (∀ a : Fin 3, win0_19.index t a = win0_13.index t a)
    ∧ (∀ a : Fin 3, win0_20.index t a = win0_13.index t a) ∧ (∀ a : Fin 3, win0_13.index t a = win0_13.index t a) :=
  (by decide +kernel : ∀ t : Fin grid0.N, _)

theorem onto : ∀ (p:Fin 2) (q : Fin 16), ∃ t : Fin cfg0.N, ((cfg0.win 13).flush t = true ∧ (cfg0.win 14).flush t = true ∧ (cfg0.win 15).flush t = true ∧ (cfg0.win 16).flush t = true ∧ (cfg0.win 17).flush t = true ∧ (cfg0.win 18).flush t = true ∧ (cfg0.win 19).flush t = true ∧ (cfg0.win 20).flush t = true)
    ∧ win0_13.index t (0:Fin 3) = p.val ∧ win0_13.index t (1:Fin 3) = q.val :=
  (by decide +kernel : ∀ (p:Fin 2) (q : Fin 16), ∃ t : Fin grid0.N, (win0_13.flush t = true ∧ win0_14.flush t = true ∧ win0_15.flush t = true ∧ win0_16.flush t = true ∧ win0_17.flush t = true ∧ win0_18.flush t = true ∧ win0_19.flush t = true ∧ win0_20.flush t = true)
    ∧ win0_13.index t (0:Fin 3) = p.val ∧ win0_13.index t (1:Fin 3) = q.val)

/-- The arguments, as arrays of reals. -/
abbrev qkvi (c : Dev nD) : S2x4096x4096.Idx → EReal := m ((c : Thread nD τ).loc main_arg0)
abbrev smalls (c : Dev nD) : S2x4096x128.Idx → EReal := m ((c : Thread nD τ).loc main_arg1)
abbrev us (c : Dev nD) : S2x4096x2048.Idx → EReal := m ((c : Thread nD τ).loc main_arg2)
abbrev qgs (c : Dev nD) : S128.Idx → EReal := m ((c : Thread nD τ).loc main_arg3)
abbrev kgs (c : Dev nD) : S128.Idx → EReal := m ((c : Thread nD τ).loc main_arg4)
abbrev igs (c : Dev nD) : S64.Idx → EReal := m ((c : Thread nD τ).loc main_arg5)

/-! ## What the blocks read -/

section Blocks

variable (c : Dev nD) (t : Fin cfg0.N) (b:Fin 2) (p : Fin 4096) (q : Fin 256)
  (hb : b.val = win0_13.index t (0:Fin 3)) (hp : p.val = win0_13.index t (1:Fin 3) * 256 + q.val)

include hb hp in
theorem read0 (j : Fin 1024) : (iblk m c 0 t : Vec Ideal S1x256x1024 .f32) (ix3 (0 : Fin 1) q j) = qkvi m c (ix3 b p (col 0 j)) := by
  obtain ⟨⟨e0, e1, e2⟩, -, -, -, -, -⟩ := places_wide t
  show V m c main_arg0 (((cfg0.win 0).blk t).view.emb _) = _
  rw [V_main_arg0]
  refine congrArg _ (funext fun a => Fin.ext ?_)
  match a with
  | ⟨0, _⟩ => show win0_0.index t (0:Fin 3) * 1 + 1 * 0 = b.val; rw [e0, hb]; omega
  | ⟨1, _⟩ => show win0_0.index t (1:Fin 3) * 256 + 1 * q.val = p.val; rw [e1, hp]; omega
  | ⟨2, _⟩ => show win0_0.index t (2:Fin 3) * 1024 + 1 * j.val = 0 * 1024 + j.val; rw [e2]; omega

include hb hp in
theorem read1 (j : Fin 1024) : (iblk m c 1 t : Vec Ideal S1x256x1024 .f32) (ix3 (0 : Fin 1) q j) = qkvi m c (ix3 b p (col 1 j)) := by
  obtain ⟨-, ⟨e0, e1, e2⟩, -, -, -, -⟩ := places_wide t
  show V m c main_arg0 (((cfg0.win 1).blk t).view.emb _) = _
  rw [V_main_arg0]
  refine congrArg _ (funext fun a => Fin.ext ?_)
  match a with
  | ⟨0, _⟩ => show win0_1.index t (0:Fin 3) * 1 + 1 * 0 = b.val; rw [e0, hb]; omega
  | ⟨1, _⟩ => show win0_1.index t (1:Fin 3) * 256 + 1 * q.val = p.val; rw [e1, hp]; omega
  | ⟨2, _⟩ => show win0_1.index t (2:Fin 3) * 1024 + 1 * j.val = 1 * 1024 + j.val; rw [e2]; omega

include hb hp in
theorem read2 (j : Fin 1024) : (iblk m c 2 t : Vec Ideal S1x256x1024 .f32) (ix3 (0 : Fin 1) q j) = qkvi m c (ix3 b p (col 2 j)) := by
  obtain ⟨-, -, ⟨e0, e1, e2⟩, -, -, -⟩ := places_wide t
  show V m c main_arg0 (((cfg0.win 2).blk t).view.emb _) = _
  rw [V_main_arg0]
  refine congrArg _ (funext fun a => Fin.ext ?_)
  match a with
  | ⟨0, _⟩ => show win0_2.index t (0:Fin 3) * 1 + 1 * 0 = b.val; rw [e0, hb]; omega
  | ⟨1, _⟩ => show win0_2.index t (1:Fin 3) * 256 + 1 * q.val = p.val; rw [e1, hp]; omega
  | ⟨2, _⟩ => show win0_2.index t (2:Fin 3) * 1024 + 1 * j.val = 2 * 1024 + j.val; rw [e2]; omega

include hb hp in
theorem read3 (j : Fin 1024) : (iblk m c 3 t : Vec Ideal S1x256x1024 .f32) (ix3 (0 : Fin 1) q j) = qkvi m c (ix3 b p (col 3 j)) := by
  obtain ⟨-, -, -, ⟨e0, e1, e2⟩, -, -⟩ := places_wide t
  show V m c main_arg0 (((cfg0.win 3).blk t).view.emb _) = _
  rw [V_main_arg0]
  refine congrArg _ (funext fun a => Fin.ext ?_)
  match a with
  | ⟨0, _⟩ => show win0_3.index t (0:Fin 3) * 1 + 1 * 0 = b.val; rw [e0, hb]; omega
  | ⟨1, _⟩ => show win0_3.index t (1:Fin 3) * 256 + 1 * q.val = p.val; rw [e1, hp]; omega
  | ⟨2, _⟩ => show win0_3.index t (2:Fin 3) * 1024 + 1 * j.val = 3 * 1024 + j.val; rw [e2]; omega

include hb hp in
theorem read4 (j : Fin 128) : (iblk m c 4 t : Vec Ideal S1x256x128 .f32) (ix3 (0 : Fin 1) q j) = smalls m c (ix3 b p j) := by
  obtain ⟨-, -, -, -, ⟨e0, e1, e2⟩, -⟩ := places_wide t
  show V m c main_arg1 (((cfg0.win 4).blk t).view.emb _) = _
  rw [V_main_arg1]
  refine congrArg _ (funext fun a => Fin.ext ?_)
  match a with
  | ⟨0, _⟩ => show win0_4.index t (0:Fin 3) * 1 + 1 * 0 = b.val; rw [e0, hb]; omega
  | ⟨1, _⟩ => show win0_4.index t (1:Fin 3) * 256 + 1 * q.val = p.val; rw [e1, hp]; omega
  | ⟨2, _⟩ => show win0_4.index t (2:Fin 3) * 128 + 1 * j.val = j.val; rw [e2]; omega

include hb hp in
theorem read5 (j : Fin 2048) : (iblk m c 5 t : Vec Ideal S1x256x2048 .f32) (ix3 (0 : Fin 1) q j) = us m c (ix3 b p j) := by
  obtain ⟨-, -, -, -, -, ⟨e0, e1, e2⟩⟩ := places_wide t
  show V m c main_arg2 (((cfg0.win 5).blk t).view.emb _) = _
  rw [V_main_arg2]
  refine congrArg _ (funext fun a => Fin.ext ?_)
  match a with
  | ⟨0, _⟩ => show win0_5.index t (0:Fin 3) * 1 + 1 * 0 = b.val; rw [e0, hb]; omega
  | ⟨1, _⟩ => show win0_5.index t (1:Fin 3) * 256 + 1 * q.val = p.val; rw [e1, hp]; omega
  | ⟨2, _⟩ => show win0_5.index t (2:Fin 3) * 2048 + 1 * j.val = j.val; rw [e2]; omega

include hp in
theorem read6 (k : Fin 128) : (iblk m c 6 t : Vec Ideal S256x128 .f32) (ix2 q k) = (V m c main_v22 : Vec Ideal S4096x128 .f32) (ix2 p k) := by
  obtain ⟨⟨e0, e1⟩, -, -, -, -, -, -⟩ := places_tab t
  show V m c main_v22 (((cfg0.win 6).blk t).view.emb _) = _
  refine congrArg _ (funext fun a => Fin.ext ?_)
  match a with
  | ⟨0, _⟩ => show win0_6.index t (0:Fin 2) * 256 + 1 * q.val = p.val; rw [e0, hp]; omega
  | ⟨1, _⟩ => show win0_6.index t (1:Fin 2) * 128 + 1 * k.val = k.val; rw [e1]; omega

include hp in
theorem read7 (k : Fin 128) : (iblk m c 7 t : Vec Ideal S256x128 .f32) (ix2 q k) = (V m c main_v25 : Vec Ideal S4096x128 .f32) (ix2 p k) := by
  obtain ⟨-, ⟨e0, e1⟩, -, -, -, -, -⟩ := places_tab t
  show V m c main_v25 (((cfg0.win 7).blk t).view.emb _) = _
  refine congrArg _ (funext fun a => Fin.ext ?_)
  match a with
  | ⟨0, _⟩ => show win0_7.index t (0:Fin 2) * 256 + 1 * q.val = p.val; rw [e0, hp]; omega
  | ⟨1, _⟩ => show win0_7.index t (1:Fin 2) * 128 + 1 * k.val = k.val; rw [e1]; omega

include hp in
theorem read8 (k : Fin 128) : (iblk m c 8 t : Vec Ideal S256x128 .f32) (ix2 q k) = (V m c main_v47 : Vec Ideal S4096x128 .f32) (ix2 p k) := by
  obtain ⟨-, -, ⟨e0, e1⟩, -, -, -, -⟩ := places_tab t
  show V m c main_v47 (((cfg0.win 8).blk t).view.emb _) = _
  refine congrArg _ (funext fun a => Fin.ext ?_)
  match a with
  | ⟨0, _⟩ => show win0_8.index t (0:Fin 2) * 256 + 1 * q.val = p.val; rw [e0, hp]; omega
  | ⟨1, _⟩ => show win0_8.index t (1:Fin 2) * 128 + 1 * k.val = k.val; rw [e1]; omega

include hp in
theorem read9 (k : Fin 128) : (iblk m c 9 t : Vec Ideal S256x128 .f32) (ix2 q k) = (V m c main_v50 : Vec Ideal S4096x128 .f32) (ix2 p k) := by
  obtain ⟨-, -, -, ⟨e0, e1⟩, -, -, -⟩ := places_tab t
  show V m c main_v50 (((cfg0.win 9).blk t).view.emb _) = _
  refine congrArg _ (funext fun a => Fin.ext ?_)
  match a with
  | ⟨0, _⟩ => show win0_9.index t (0:Fin 2) * 256 + 1 * q.val = p.val; rw [e0, hp]; omega
  | ⟨1, _⟩ => show win0_9.index t (1:Fin 2) * 128 + 1 * k.val = k.val; rw [e1]; omega

theorem read10 (k : Fin 128) : (iblk m c 10 t : Vec Ideal S1x128 .f32) (ix2 (0 : Fin 1) k) = (V m c main_v56 : Vec Ideal S1x128 .f32) (ix2 (0 : Fin 1) k) := by
  obtain ⟨-, -, -, -, ⟨e0, e1⟩, -, -⟩ := places_tab t
  show V m c main_v56 (((cfg0.win 10).blk t).view.emb _) = _
  refine congrArg _ (funext fun a => Fin.ext ?_)
  match a with
  | ⟨0, _⟩ => show win0_10.index t (0:Fin 2) * 1 + 1 * 0 = 0; rw [e0]
  | ⟨1, _⟩ => show win0_10.index t (1:Fin 2) * 128 + 1 * k.val = k.val; rw [e1]; omega

theorem read11 (k : Fin 128) : (iblk m c 11 t : Vec Ideal S1x128 .f32) (ix2 (0 : Fin 1) k) = (V m c main_v57 : Vec Ideal S1x128 .f32) (ix2 (0 : Fin 1) k) := by
  obtain ⟨-, -, -, -, -, ⟨e0, e1⟩, -⟩ := places_tab t
  show V m c main_v57 (((cfg0.win 11).blk t).view.emb _) = _
  refine congrArg _ (funext fun a => Fin.ext ?_)
  match a with
  | ⟨0, _⟩ => show win0_11.index t (0:Fin 2) * 1 + 1 * 0 = 0; rw [e0]
  | ⟨1, _⟩ => show win0_11.index t (1:Fin 2) * 128 + 1 * k.val = k.val; rw [e1]; omega

theorem read12 (k : Fin 128) : (iblk m c 12 t : Vec Ideal S1x128 .f32) (ix2 (0 : Fin 1) k) = (V m c main_v55 : Vec Ideal S1x128 .f32) (ix2 (0 : Fin 1) k) := by
  obtain ⟨-, -, -, -, -, -, ⟨e0, e1⟩⟩ := places_tab t
  show V m c main_v55 (((cfg0.win 12).blk t).view.emb _) = _
  refine congrArg _ (funext fun a => Fin.ext ?_)
  match a with
  | ⟨0, _⟩ => show win0_12.index t (0:Fin 2) * 1 + 1 * 0 = 0; rw [e0]
  | ⟨1, _⟩ => show win0_12.index t (1:Fin 2) * 128 + 1 * k.val = k.val; rw [e1]; omega

include hb hp in
theorem q_read (j : Fin 1024) : headAt (iblk m c 0 t) (iblk m c 6 t) (iblk m c 7 t) (iblk m c 10 t) q j = headVal 0 (qkvi m c) (qgs m c) b p j := by
  unfold headAt spin headVal
  rw [show (fun l : Fin 128 => (iblk m c 0 t : Vec Ideal S1x256x1024 .f32) (ix3 (0 : Fin 1) q (laneOf j l))) = fun l => qkvi m c (ix3 b p (col 0 (laneOf j l))) from
      funext fun l => read0 m c t b p q hb hp _,
    show (fun l : Fin 128 => (iblk m c 10 t : Vec Ideal S1x128 .f32) (ix2 (0 : Fin 1) l)) = fun l => qgs m c (ix1 l) from
      funext fun l => (read10 m c t l).trans (qg_at m c l), read6 m c t p q hp _, read7 m c t p q hp _, cosA_at, sinA_at]
  exact turn128_eq _ (posW p.val) (inHead j)

include hb hp in
theorem k_read (j : Fin 1024) : headAt (iblk m c 1 t) (iblk m c 6 t) (iblk m c 7 t) (iblk m c 11 t) q j = headVal 1 (qkvi m c) (kgs m c) b p j := by
  unfold headAt spin headVal
  rw [show (fun l : Fin 128 => (iblk m c 1 t : Vec Ideal S1x256x1024 .f32) (ix3 (0 : Fin 1) q (laneOf j l))) = fun l => qkvi m c (ix3 b p (col 1 (laneOf j l))) from
      funext fun l => read1 m c t b p q hb hp _,
    show (fun l : Fin 128 => (iblk m c 11 t : Vec Ideal S1x128 .f32) (ix2 (0 : Fin 1) l)) = fun l => kgs m c (ix1 l) from
      funext fun l => (read11 m c t l).trans (kg_at m c l), read6 m c t p q hp _, read7 m c t p q hp _, cosA_at, sinA_at]
  exact turn128_eq _ (posW p.val) (inHead j)

include hb hp in
theorem v_read (j : Fin 1024) : copyAt (iblk m c 2 t) q j = copyVal (qkvi m c) b p j := read2 m c t b p q hb hp j

include hb hp in
theorem iq_read (j : Fin 1024) : pairAt (iblk m c 3 t) (iblk m c 8 t) (iblk m c 9 t) q j = pairVal (qkvi m c) b p j := by
  have hj := j.isLt
  unfold pairAt pairVal
  rw [read3 m c t b p q hb hp, read3 m c t b p q hb hp, read8 m c t p q hp _, read9 m c t p q hp _, cosB_at, sinB_at]
  refine Eq.trans ?_ (turn64_eq (fun l => qkvi m c (ix3 b p (col 3 (pairLane j l)))) (posW p.val) j.val)
  refine congrArg₂ (fun a b : EReal => a + b) (congrArg₂ (fun a b : EReal => a * b) ?_ ?_) (congrArg₂ (fun a b : EReal => a * b) rfl ?_)
  · refine congrArg (fun k : Fin 1024 => qkvi m c (ix3 b p (col 3 k))) (Fin.ext ?_)
    show j.val = j.val / 64 * 64 + j.val % 64; omega
  · unfold tabc
    rw [show j.val % 128 % 32 = j.val % 32 by omega]
  · unfold tabs
    rw [show j.val % 128 % 64 = j.val % 64 by omega]

include hb hp in
theorem ik_read (k : Fin 64) : ikAt (iblk m c 4 t) (iblk m c 8 t) (iblk m c 9 t) (iblk m c 12 t) q k = ikVal (smalls m c) (igs m c) b p k := by
  unfold ikAt ikVal
  rw [show ikRow (iblk m c 4 t) q = fun l => smalls m c (ix3 b p (up l)) from funext fun l => read4 m c t b p q hb hp _,
    show ikGain (iblk m c 12 t) = fun l => igs m c (ix1 l) from funext fun l => (read12 m c t _).trans (ikg_at m c l),
    read8 m c t p q hp _, read9 m c t p q hp _, cosB_at, sinB_at]
  have e := turn64_eq (norm64 (fun l => smalls m c (ix3 b p (up l))) fun l => igs m c (ix1 l)) (posW p.val) k.val
  simp only [Nat.mod_eq_of_lt k.isLt] at e
  exact e

include hb hp in
theorem small_read (k : Fin 128) : smallAt (iblk m c 4 t) (iblk m c 8 t) (iblk m c 9 t) (iblk m c 12 t) q k = smallVal (smalls m c) (igs m c) b p k := by
  unfold smallAt smallVal
  by_cases h : k.val < 64
  · rw [dif_pos h, dif_pos h, ik_read m c t b p q hb hp]
  · rw [dif_neg h, dif_neg h, read4 m c t b p q hb hp]

end Blocks

/-! ## The eight arrays -/

theorem flushed13_eq (c : Dev nD) (t : Fin cfg0.N) :
    (dats m 0 c).flushed 13 t = ((cfg0.win 13).blk t).view.read (Elt Ideal) (arrA (headVal 0 (qkvi m c) (qgs m c))) := by
  rw [Cert.PostIdeal.Value.flushed13]
  obtain ⟨⟨e2, hB, hN⟩, -, -, -, -, -, -, -, e⟩ := places_out t
  funext y
  have hy0 : (y 0).val < 1 := (y 0).isLt
  have hy1 : (y 1).val < 256 := (y 1).isLt
  have hy2 : (y 2).val < 1024 := (y 2).isLt
  show out0_13 (F := Ideal) _ _ _ _ _ _ _ _ _ _ _ _ _ ((cfg0.win 13).xinj (grid0.coords t) y) = (arrA (headVal 0 (qkvi m c) (qgs m c))) (((cfg0.win 13).blk t).view.emb y)
  rw [show (cfg0.win 13).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out13_apply _ _ _ _ _ _ _ _ _ _ _ _ _ _ _).trans ?_
  refine Eq.trans (b := headVal 0 (qkvi m c) (qgs m c) ⟨win0_13.index t (0:Fin 3), hB⟩ ⟨win0_13.index t (1:Fin 3) * 256 + (y 1).val, by omega⟩ ⟨(y 2).val, hy2⟩)
    (q_read m c t _ _ _ rfl rfl _) ?_
  unfold arrA
  congr 1
  · exact Fin.ext (by show win0_13.index t (0:Fin 3) = win0_13.index t (0:Fin 3) * 1 + 1 * (y 0).val; rw [e]; omega)
  · exact Fin.ext (by show win0_13.index t (1:Fin 3) * 256 + (y 1).val = win0_13.index t (1:Fin 3) * 256 + 1 * (y 1).val; rw [e]; omega)
  · exact Fin.ext (by show (y 2).val = win0_13.index t (2:Fin 3) * 1024 + 1 * (y 2).val; rw [e, e2]; omega)

theorem final13 (c : Dev nD) : (dats m 0 c).arrAt 13 cfg0.N = arrA (headVal 0 (qkvi m c) (qgs m c)) :=
  (dats m 0 c).arrAt_eq_of_cover 13 _ (fun t _ => flushed13_eq m c t) (fun i => by
    have h0 : (i 0).val < 2 := (i 0).isLt
    have h1 : (i 1).val < 4096 := (i 1).isLt
    have h2 : (i 2).val < 1024 := (i 2).isLt
    obtain ⟨t, ⟨hf, -, -, -, -, -, -, -⟩, e0, e1⟩ := onto ⟨(i 0).val, h0⟩ ⟨(i 1).val / 256, by omega⟩
    obtain ⟨⟨e2, hB, hN⟩, -, -, -, -, -, -, -, e⟩ := places_out t
    refine ⟨t, hf, ?_⟩
    show i ∈ ((View.whole main_v58_0).slice (win0_13.rect t)).set
    rw [View.set_slice_whole, Rect.mem_set_unit]
    intro a
    match a with
    | ⟨0, _⟩ => show win0_13.index t (0:Fin 3) * 1 ≤ (i 0).val ∧ (i 0).val < win0_13.index t (0:Fin 3) * 1 + 1; rw [e, e0]; dsimp only; omega
    | ⟨1, _⟩ => show win0_13.index t (1:Fin 3) * 256 ≤ (i 1).val ∧ (i 1).val < win0_13.index t (1:Fin 3) * 256 + 256; rw [e, e1]; dsimp only; omega
    | ⟨2, _⟩ => show win0_13.index t (2:Fin 3) * 1024 ≤ (i 2).val ∧ (i 2).val < win0_13.index t (2:Fin 3) * 1024 + 1024; rw [e, e2]; omega)

theorem flushed14_eq (c : Dev nD) (t : Fin cfg0.N) :
    (dats m 0 c).flushed 14 t = ((cfg0.win 14).blk t).view.read (Elt Ideal) (arrA (headVal 1 (qkvi m c) (kgs m c))) := by
  rw [Cert.PostIdeal.Value.flushed14]
  obtain ⟨⟨e2, hB, hN⟩, e, -, -, -, -, -, -, -⟩ := places_out t
  funext y
  have hy0 : (y 0).val < 1 := (y 0).isLt
  have hy1 : (y 1).val < 256 := (y 1).isLt
  have hy2 : (y 2).val < 1024 := (y 2).isLt
  show out0_14 (F := Ideal) _ _ _ _ _ _ _ _ _ _ _ _ _ ((cfg0.win 14).xinj (grid0.coords t) y) = (arrA (headVal 1 (qkvi m c) (kgs m c))) (((cfg0.win 14).blk t).view.emb y)
  rw [show (cfg0.win 14).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out14_apply _ _ _ _ _ _ _ _ _ _ _ _ _ _ _).trans ?_
  refine Eq.trans (b := headVal 1 (qkvi m c) (kgs m c) ⟨win0_13.index t (0:Fin 3), hB⟩ ⟨win0_13.index t (1:Fin 3) * 256 + (y 1).val, by omega⟩ ⟨(y 2).val, hy2⟩)
    (k_read m c t _ _ _ rfl rfl _) ?_
  unfold arrA
  congr 1
  · exact Fin.ext (by show win0_13.index t (0:Fin 3) = win0_14.index t (0:Fin 3) * 1 + 1 * (y 0).val; rw [e]; omega)
  · exact Fin.ext (by show win0_13.index t (1:Fin 3) * 256 + (y 1).val = win0_14.index t (1:Fin 3) * 256 + 1 * (y 1).val; rw [e]; omega)
  · exact Fin.ext (by show (y 2).val = win0_14.index t (2:Fin 3) * 1024 + 1 * (y 2).val; rw [e, e2]; omega)

theorem final14 (c : Dev nD) : (dats m 0 c).arrAt 14 cfg0.N = arrA (headVal 1 (qkvi m c) (kgs m c)) :=
  (dats m 0 c).arrAt_eq_of_cover 14 _ (fun t _ => flushed14_eq m c t) (fun i => by
    have h0 : (i 0).val < 2 := (i 0).isLt
    have h1 : (i 1).val < 4096 := (i 1).isLt
    have h2 : (i 2).val < 1024 := (i 2).isLt
    obtain ⟨t, ⟨-, hf, -, -, -, -, -, -⟩, e0, e1⟩ := onto ⟨(i 0).val, h0⟩ ⟨(i 1).val / 256, by omega⟩
    obtain ⟨⟨e2, hB, hN⟩, e, -, -, -, -, -, -, -⟩ := places_out t
    refine ⟨t, hf, ?_⟩
    show i ∈ ((View.whole main_v58_1).slice (win0_14.rect t)).set
    rw [View.set_slice_whole, Rect.mem_set_unit]
    intro a
    match a with
    | ⟨0, _⟩ => show win0_14.index t (0:Fin 3) * 1 ≤ (i 0).val ∧ (i 0).val < win0_14.index t (0:Fin 3) * 1 + 1; rw [e, e0]; dsimp only; omega
    | ⟨1, _⟩ => show win0_14.index t (1:Fin 3) * 256 ≤ (i 1).val ∧ (i 1).val < win0_14.index t (1:Fin 3) * 256 + 256; rw [e, e1]; dsimp only; omega
    | ⟨2, _⟩ => show win0_14.index t (2:Fin 3) * 1024 ≤ (i 2).val ∧ (i 2).val < win0_14.index t (2:Fin 3) * 1024 + 1024; rw [e, e2]; omega)

theorem flushed15_eq (c : Dev nD) (t : Fin cfg0.N) :
    (dats m 0 c).flushed 15 t = ((cfg0.win 15).blk t).view.read (Elt Ideal) (arrA (headVal 1 (qkvi m c) (kgs m c))) := by
  rw [Cert.PostIdeal.Value.flushed15]
  obtain ⟨⟨e2, hB, hN⟩, -, e, -, -, -, -, -, -⟩ := places_out t
  funext y
  have hy0 : (y 0).val < 1 := (y 0).isLt
  have hy1 : (y 1).val < 256 := (y 1).isLt
  have hy2 : (y 2).val < 1024 := (y 2).isLt
  show out0_15 (F := Ideal) _ _ _ _ _ _ _ _ _ _ _ _ _ ((cfg0.win 15).xinj (grid0.coords t) y) = (arrA (headVal 1 (qkvi m c) (kgs m c))) (((cfg0.win 15).blk t).view.emb y)
  rw [show (cfg0.win 15).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out15_apply _ _ _ _ _ _ _ _ _ _ _ _ _ _ _).trans ?_
  refine Eq.trans (b := headVal 1 (qkvi m c) (kgs m c) ⟨win0_13.index t (0:Fin 3), hB⟩ ⟨win0_13.index t (1:Fin 3) * 256 + (y 1).val, by omega⟩ ⟨(y 2).val, hy2⟩)
    (k_read m c t _ _ _ rfl rfl _) ?_
  unfold arrA
  congr 1
  · exact Fin.ext (by show win0_13.index t (0:Fin 3) = win0_15.index t (0:Fin 3) * 1 + 1 * (y 0).val; rw [e]; omega)
  · exact Fin.ext (by show win0_13.index t (1:Fin 3) * 256 + (y 1).val = win0_15.index t (1:Fin 3) * 256 + 1 * (y 1).val; rw [e]; omega)
  · exact Fin.ext (by show (y 2).val = win0_15.index t (2:Fin 3) * 1024 + 1 * (y 2).val; rw [e, e2]; omega)

theorem final15 (c : Dev nD) : (dats m 0 c).arrAt 15 cfg0.N = arrA (headVal 1 (qkvi m c) (kgs m c)) :=
  (dats m 0 c).arrAt_eq_of_cover 15 _ (fun t _ => flushed15_eq m c t) (fun i => by
    have h0 : (i 0).val < 2 := (i 0).isLt
    have h1 : (i 1).val < 4096 := (i 1).isLt
    have h2 : (i 2).val < 1024 := (i 2).isLt
    obtain ⟨t, ⟨-, -, hf, -, -, -, -, -⟩, e0, e1⟩ := onto ⟨(i 0).val, h0⟩ ⟨(i 1).val / 256, by omega⟩
    obtain ⟨⟨e2, hB, hN⟩, -, e, -, -, -, -, -, -⟩ := places_out t
    refine ⟨t, hf, ?_⟩
    show i ∈ ((View.whole main_v58_2).slice (win0_15.rect t)).set
    rw [View.set_slice_whole, Rect.mem_set_unit]
    intro a
    match a with
    | ⟨0, _⟩ => show win0_15.index t (0:Fin 3) * 1 ≤ (i 0).val ∧ (i 0).val < win0_15.index t (0:Fin 3) * 1 + 1; rw [e, e0]; dsimp only; omega
    | ⟨1, _⟩ => show win0_15.index t (1:Fin 3) * 256 ≤ (i 1).val ∧ (i 1).val < win0_15.index t (1:Fin 3) * 256 + 256; rw [e, e1]; dsimp only; omega
    | ⟨2, _⟩ => show win0_15.index t (2:Fin 3) * 1024 ≤ (i 2).val ∧ (i 2).val < win0_15.index t (2:Fin 3) * 1024 + 1024; rw [e, e2]; omega)

theorem flushed16_eq (c : Dev nD) (t : Fin cfg0.N) :
    (dats m 0 c).flushed 16 t = ((cfg0.win 16).blk t).view.read (Elt Ideal) (arrA (copyVal (qkvi m c))) := by
  rw [Cert.PostIdeal.Value.flushed16]
  obtain ⟨⟨e2, hB, hN⟩, -, -, e, -, -, -, -, -⟩ := places_out t
  funext y
  have hy0 : (y 0).val < 1 := (y 0).isLt
  have hy1 : (y 1).val < 256 := (y 1).isLt
  have hy2 : (y 2).val < 1024 := (y 2).isLt
  show out0_16 (F := Ideal) _ _ _ _ _ _ _ _ _ _ _ _ _ ((cfg0.win 16).xinj (grid0.coords t) y) = (arrA (copyVal (qkvi m c))) (((cfg0.win 16).blk t).view.emb y)
  rw [show (cfg0.win 16).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out16_apply _ _ _ _ _ _ _ _ _ _ _ _ _ _ _).trans ?_
  refine Eq.trans (b := copyVal (qkvi m c) ⟨win0_13.index t (0:Fin 3), hB⟩ ⟨win0_13.index t (1:Fin 3) * 256 + (y 1).val, by omega⟩ ⟨(y 2).val, hy2⟩)
    (v_read m c t _ _ _ rfl rfl _) ?_
  unfold arrA
  congr 1
  · exact Fin.ext (by show win0_13.index t (0:Fin 3) = win0_16.index t (0:Fin 3) * 1 + 1 * (y 0).val; rw [e]; omega)
  · exact Fin.ext (by show win0_13.index t (1:Fin 3) * 256 + (y 1).val = win0_16.index t (1:Fin 3) * 256 + 1 * (y 1).val; rw [e]; omega)
  · exact Fin.ext (by show (y 2).val = win0_16.index t (2:Fin 3) * 1024 + 1 * (y 2).val; rw [e, e2]; omega)

theorem final16 (c : Dev nD) : (dats m 0 c).arrAt 16 cfg0.N = arrA (copyVal (qkvi m c)) :=
  (dats m 0 c).arrAt_eq_of_cover 16 _ (fun t _ => flushed16_eq m c t) (fun i => by
    have h0 : (i 0).val < 2 := (i 0).isLt
    have h1 : (i 1).val < 4096 := (i 1).isLt
    have h2 : (i 2).val < 1024 := (i 2).isLt
    obtain ⟨t, ⟨-, -, -, hf, -, -, -, -⟩, e0, e1⟩ := onto ⟨(i 0).val, h0⟩ ⟨(i 1).val / 256, by omega⟩
    obtain ⟨⟨e2, hB, hN⟩, -, -, e, -, -, -, -, -⟩ := places_out t
    refine ⟨t, hf, ?_⟩
    show i ∈ ((View.whole main_v58_3).slice (win0_16.rect t)).set
    rw [View.set_slice_whole, Rect.mem_set_unit]
    intro a
    match a with
    | ⟨0, _⟩ => show win0_16.index t (0:Fin 3) * 1 ≤ (i 0).val ∧ (i 0).val < win0_16.index t (0:Fin 3) * 1 + 1; rw [e, e0]; dsimp only; omega
    | ⟨1, _⟩ => show win0_16.index t (1:Fin 3) * 256 ≤ (i 1).val ∧ (i 1).val < win0_16.index t (1:Fin 3) * 256 + 256; rw [e, e1]; dsimp only; omega
    | ⟨2, _⟩ => show win0_16.index t (2:Fin 3) * 1024 ≤ (i 2).val ∧ (i 2).val < win0_16.index t (2:Fin 3) * 1024 + 1024; rw [e, e2]; omega)

theorem flushed17_eq (c : Dev nD) (t : Fin cfg0.N) :
    (dats m 0 c).flushed 17 t = ((cfg0.win 17).blk t).view.read (Elt Ideal) (arrA (pairVal (qkvi m c))) := by
  rw [Cert.PostIdeal.Value.flushed17]
  obtain ⟨⟨e2, hB, hN⟩, -, -, -, e, -, -, -, -⟩ := places_out t
  funext y
  have hy0 : (y 0).val < 1 := (y 0).isLt
  have hy1 : (y 1).val < 256 := (y 1).isLt
  have hy2 : (y 2).val < 1024 := (y 2).isLt
  show out0_17 (F := Ideal) _ _ _ _ _ _ _ _ _ _ _ _ _ ((cfg0.win 17).xinj (grid0.coords t) y) = (arrA (pairVal (qkvi m c))) (((cfg0.win 17).blk t).view.emb y)
  rw [show (cfg0.win 17).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out17_apply _ _ _ _ _ _ _ _ _ _ _ _ _ _ _).trans ?_
  refine Eq.trans (b := pairVal (qkvi m c) ⟨win0_13.index t (0:Fin 3), hB⟩ ⟨win0_13.index t (1:Fin 3) * 256 + (y 1).val, by omega⟩ ⟨(y 2).val, hy2⟩)
    (iq_read m c t _ _ _ rfl rfl _) ?_
  unfold arrA
  congr 1
  · exact Fin.ext (by show win0_13.index t (0:Fin 3) = win0_17.index t (0:Fin 3) * 1 + 1 * (y 0).val; rw [e]; omega)
  · exact Fin.ext (by show win0_13.index t (1:Fin 3) * 256 + (y 1).val = win0_17.index t (1:Fin 3) * 256 + 1 * (y 1).val; rw [e]; omega)
  · exact Fin.ext (by show (y 2).val = win0_17.index t (2:Fin 3) * 1024 + 1 * (y 2).val; rw [e, e2]; omega)

theorem final17 (c : Dev nD) : (dats m 0 c).arrAt 17 cfg0.N = arrA (pairVal (qkvi m c)) :=
  (dats m 0 c).arrAt_eq_of_cover 17 _ (fun t _ => flushed17_eq m c t) (fun i => by
    have h0 : (i 0).val < 2 := (i 0).isLt
    have h1 : (i 1).val < 4096 := (i 1).isLt
    have h2 : (i 2).val < 1024 := (i 2).isLt
    obtain ⟨t, ⟨-, -, -, -, hf, -, -, -⟩, e0, e1⟩ := onto ⟨(i 0).val, h0⟩ ⟨(i 1).val / 256, by omega⟩
    obtain ⟨⟨e2, hB, hN⟩, -, -, -, e, -, -, -, -⟩ := places_out t
    refine ⟨t, hf, ?_⟩
    show i ∈ ((View.whole main_v58_4).slice (win0_17.rect t)).set
    rw [View.set_slice_whole, Rect.mem_set_unit]
    intro a
    match a with
    | ⟨0, _⟩ => show win0_17.index t (0:Fin 3) * 1 ≤ (i 0).val ∧ (i 0).val < win0_17.index t (0:Fin 3) * 1 + 1; rw [e, e0]; dsimp only; omega
    | ⟨1, _⟩ => show win0_17.index t (1:Fin 3) * 256 ≤ (i 1).val ∧ (i 1).val < win0_17.index t (1:Fin 3) * 256 + 256; rw [e, e1]; dsimp only; omega
    | ⟨2, _⟩ => show win0_17.index t (2:Fin 3) * 1024 ≤ (i 2).val ∧ (i 2).val < win0_17.index t (2:Fin 3) * 1024 + 1024; rw [e, e2]; omega)

theorem flushed18_eq (c : Dev nD) (t : Fin cfg0.N) :
    (dats m 0 c).flushed 18 t = ((cfg0.win 18).blk t).view.read (Elt Ideal) (arrB (smallVal (smalls m c) (igs m c))) := by
  rw [Cert.PostIdeal.Value.flushed18]
  obtain ⟨⟨e2, hB, hN⟩, -, -, -, -, e, -, -, -⟩ := places_out t
  funext y
  have hy0 : (y 0).val < 1 := (y 0).isLt
  have hy1 : (y 1).val < 256 := (y 1).isLt
  have hy2 : (y 2).val < 128 := (y 2).isLt
  show out0_18 (F := Ideal) _ _ _ _ _ _ _ _ _ _ _ _ _ ((cfg0.win 18).xinj (grid0.coords t) y) = (arrB (smallVal (smalls m c) (igs m c))) (((cfg0.win 18).blk t).view.emb y)
  rw [show (cfg0.win 18).xinj (grid0.coords t) y = ix3 (0 : Fin 1) (⟨(y 1).val, hy1⟩ : Fin 256) (⟨(y 2).val, hy2⟩ : Fin 128) from
    funext fun a => Fin.ext (match a with | ⟨0, _⟩ => Nat.lt_one_iff.mp hy0 | ⟨1, _⟩ => rfl | ⟨2, _⟩ => rfl)]
  refine (out18_apply _ _ _ _ _ _ _ _ _ _ _ _ _ _ _).trans ?_
  refine Eq.trans (b := smallVal (smalls m c) (igs m c) ⟨win0_13.index t (0:Fin 3), hB⟩ ⟨win0_13.index t (1:Fin 3) * 256 + (y 1).val, by omega⟩ ⟨(y 2).val, hy2⟩)
    (small_read m c t _ _ _ rfl rfl _) ?_
  unfold arrB
  congr 1
  · exact Fin.ext (by show win0_13.index t (0:Fin 3) = win0_18.index t (0:Fin 3) * 1 + 1 * (y 0).val; rw [e]; omega)
  · exact Fin.ext (by show win0_13.index t (1:Fin 3) * 256 + (y 1).val = win0_18.index t (1:Fin 3) * 256 + 1 * (y 1).val; rw [e]; omega)
  · exact Fin.ext (by show (y 2).val = win0_18.index t (2:Fin 3) * 128 + 1 * (y 2).val; rw [e, e2]; omega)

theorem final18 (c : Dev nD) : (dats m 0 c).arrAt 18 cfg0.N = arrB (smallVal (smalls m c) (igs m c)) :=
  (dats m 0 c).arrAt_eq_of_cover 18 _ (fun t _ => flushed18_eq m c t) (fun i => by
    have h0 : (i 0).val < 2 := (i 0).isLt
    have h1 : (i 1).val < 4096 := (i 1).isLt
    have h2 : (i 2).val < 128 := (i 2).isLt
    obtain ⟨t, ⟨-, -, -, -, -, hf, -, -⟩, e0, e1⟩ := onto ⟨(i 0).val, h0⟩ ⟨(i 1).val / 256, by omega⟩
    obtain ⟨⟨e2, hB, hN⟩, -, -, -, -, e, -, -, -⟩ := places_out t
    refine ⟨t, hf, ?_⟩
    show i ∈ ((View.whole main_v58_5).slice (win0_18.rect t)).set
    rw [View.set_slice_whole, Rect.mem_set_unit]
    intro a
    match a with
    | ⟨0, _⟩ => show win0_18.index t (0:Fin 3) * 1 ≤ (i 0).val ∧ (i 0).val < win0_18.index t (0:Fin 3) * 1 + 1; rw [e, e0]; dsimp only; omega
    | ⟨1, _⟩ => show win0_18.index t (1:Fin 3) * 256 ≤ (i 1).val ∧ (i 1).val < win0_18.index t (1:Fin 3) * 256 + 256; rw [e, e1]; dsimp only; omega
    | ⟨2, _⟩ => show win0_18.index t (2:Fin 3) * 128 ≤ (i 2).val ∧ (i 2).val < win0_18.index t (2:Fin 3) * 128 + 128; rw [e, e2]; omega)

theorem flushed19_eq (c : Dev nD) (t : Fin cfg0.N) :
    (dats m 0 c).flushed 19 t = ((cfg0.win 19).blk t).view.read (Elt Ideal) (arrB (twiceVal (smalls m c) (igs m c))) := by
  rw [Cert.PostIdeal.Value.flushed19]
  obtain ⟨⟨e2, hB, hN⟩, -, -, -, -, -, e, -, -⟩ := places_out t
  funext y
  have hy0 : (y 0).val < 1 := (y 0).isLt
  have hy1 : (y 1).val < 256 := (y 1).isLt
  have hy2 : (y 2).val < 128 := (y 2).isLt
  show out0_19 (F := Ideal) _ _ _ _ _ _ _ _ _ _ _ _ _ ((cfg0.win 19).xinj (grid0.coords t) y) = (arrB (twiceVal (smalls m c) (igs m c))) (((cfg0.win 19).blk t).view.emb y)
  rw [show (cfg0.win 19).xinj (grid0.coords t) y = ix3 (0 : Fin 1) (⟨(y 1).val, hy1⟩ : Fin 256) (⟨(y 2).val, hy2⟩ : Fin 128) from
    funext fun a => Fin.ext (match a with | ⟨0, _⟩ => Nat.lt_one_iff.mp hy0 | ⟨1, _⟩ => rfl | ⟨2, _⟩ => rfl)]
  refine (out19_apply _ _ _ _ _ _ _ _ _ _ _ _ _ _ _).trans ?_
  refine Eq.trans (b := twiceVal (smalls m c) (igs m c) ⟨win0_13.index t (0:Fin 3), hB⟩ ⟨win0_13.index t (1:Fin 3) * 256 + (y 1).val, by omega⟩ ⟨(y 2).val, hy2⟩)
    (ik_read m c t _ _ _ rfl rfl _) ?_
  unfold arrB
  congr 1
  · exact Fin.ext (by show win0_13.index t (0:Fin 3) = win0_19.index t (0:Fin 3) * 1 + 1 * (y 0).val; rw [e]; omega)
  · exact Fin.ext (by show win0_13.index t (1:Fin 3) * 256 + (y 1).val = win0_19.index t (1:Fin 3) * 256 + 1 * (y 1).val; rw [e]; omega)
  · exact Fin.ext (by show (y 2).val = win0_19.index t (2:Fin 3) * 128 + 1 * (y 2).val; rw [e, e2]; omega)

theorem final19 (c : Dev nD) : (dats m 0 c).arrAt 19 cfg0.N = arrB (twiceVal (smalls m c) (igs m c)) :=
  (dats m 0 c).arrAt_eq_of_cover 19 _ (fun t _ => flushed19_eq m c t) (fun i => by
    have h0 : (i 0).val < 2 := (i 0).isLt
    have h1 : (i 1).val < 4096 := (i 1).isLt
    have h2 : (i 2).val < 128 := (i 2).isLt
    obtain ⟨t, ⟨-, -, -, -, -, -, hf, -⟩, e0, e1⟩ := onto ⟨(i 0).val, h0⟩ ⟨(i 1).val / 256, by omega⟩
    obtain ⟨⟨e2, hB, hN⟩, -, -, -, -, -, e, -, -⟩ := places_out t
    refine ⟨t, hf, ?_⟩
    show i ∈ ((View.whole main_v58_6).slice (win0_19.rect t)).set
    rw [View.set_slice_whole, Rect.mem_set_unit]
    intro a
    match a with
    | ⟨0, _⟩ => show win0_19.index t (0:Fin 3) * 1 ≤ (i 0).val ∧ (i 0).val < win0_19.index t (0:Fin 3) * 1 + 1; rw [e, e0]; dsimp only; omega
    | ⟨1, _⟩ => show win0_19.index t (1:Fin 3) * 256 ≤ (i 1).val ∧ (i 1).val < win0_19.index t (1:Fin 3) * 256 + 256; rw [e, e1]; dsimp only; omega
    | ⟨2, _⟩ => show win0_19.index t (2:Fin 3) * 128 ≤ (i 2).val ∧ (i 2).val < win0_19.index t (2:Fin 3) * 128 + 128; rw [e, e2]; omega)

theorem flushed20_eq (c : Dev nD) (t : Fin cfg0.N) :
    (dats m 0 c).flushed 20 t = ((cfg0.win 20).blk t).view.read (Elt Ideal) (arrA (gluVal (us m c))) := by
  rw [Cert.PostIdeal.Value.flushed20]
  obtain ⟨⟨e2, hB, hN⟩, -, -, -, -, -, -, e, -⟩ := places_out t
  funext y
  have hy0 : (y 0).val < 1 := (y 0).isLt
  have hy1 : (y 1).val < 256 := (y 1).isLt
  have hy2 : (y 2).val < 1024 := (y 2).isLt
  show out0_20 (F := Ideal) _ _ _ _ _ _ _ _ _ _ _ _ _ ((cfg0.win 20).xinj (grid0.coords t) y) = (arrA (gluVal (us m c))) (((cfg0.win 20).blk t).view.emb y)
  rw [show (cfg0.win 20).xinj (grid0.coords t) y = ix3 (0 : Fin 1) (⟨(y 1).val, hy1⟩ : Fin 256) (⟨(y 2).val, hy2⟩ : Fin 1024) from
    funext fun a => Fin.ext (match a with | ⟨0, _⟩ => Nat.lt_one_iff.mp hy0 | ⟨1, _⟩ => rfl | ⟨2, _⟩ => rfl)]
  refine (out20_apply _ _ _ _ _ _ _ _ _ _ _ _ _ _ _).trans ?_
  refine Eq.trans (b := gluVal (us m c) ⟨win0_13.index t (0:Fin 3), hB⟩ ⟨win0_13.index t (1:Fin 3) * 256 + (y 1).val, by omega⟩ ⟨(y 2).val, hy2⟩)
    (congrArg₂ (fun a b : EReal => a * Ideal.logistic b) (read5 m c t _ _ _ rfl rfl _) (read5 m c t _ _ _ rfl rfl _)) ?_
  unfold arrA
  congr 1
  · exact Fin.ext (by show win0_13.index t (0:Fin 3) = win0_20.index t (0:Fin 3) * 1 + 1 * (y 0).val; rw [e]; omega)
  · exact Fin.ext (by show win0_13.index t (1:Fin 3) * 256 + (y 1).val = win0_20.index t (1:Fin 3) * 256 + 1 * (y 1).val; rw [e]; omega)
  · exact Fin.ext (by show (y 2).val = win0_20.index t (2:Fin 3) * 1024 + 1 * (y 2).val; rw [e, e2]; omega)

theorem final20 (c : Dev nD) : (dats m 0 c).arrAt 20 cfg0.N = arrA (gluVal (us m c)) :=
  (dats m 0 c).arrAt_eq_of_cover 20 _ (fun t _ => flushed20_eq m c t) (fun i => by
    have h0 : (i 0).val < 2 := (i 0).isLt
    have h1 : (i 1).val < 4096 := (i 1).isLt
    have h2 : (i 2).val < 1024 := (i 2).isLt
    obtain ⟨t, ⟨-, -, -, -, -, -, -, hf⟩, e0, e1⟩ := onto ⟨(i 0).val, h0⟩ ⟨(i 1).val / 256, by omega⟩
    obtain ⟨⟨e2, hB, hN⟩, -, -, -, -, -, -, e, -⟩ := places_out t
    refine ⟨t, hf, ?_⟩
    show i ∈ ((View.whole main_v58_7).slice (win0_20.rect t)).set
    rw [View.set_slice_whole, Rect.mem_set_unit]
    intro a
    match a with
    | ⟨0, _⟩ => show win0_20.index t (0:Fin 3) * 1 ≤ (i 0).val ∧ (i 0).val < win0_20.index t (0:Fin 3) * 1 + 1; rw [e, e0]; dsimp only; omega
    | ⟨1, _⟩ => show win0_20.index t (1:Fin 3) * 256 ≤ (i 1).val ∧ (i 1).val < win0_20.index t (1:Fin 3) * 256 + 256; rw [e, e1]; dsimp only; omega
    | ⟨2, _⟩ => show win0_20.index t (2:Fin 3) * 1024 ≤ (i 2).val ∧ (i 2).val < win0_20.index t (2:Fin 3) * 1024 + 1024; rw [e, e2]; omega)

end Cert.PostIdeal.Mine

end
-- ==== Proof.PostReference.lean ====
/-
  The reference of the mixer's preparation call (prompt group): its eight arrays, read element by element through its lines,
  are the arrays of the functions stated for the kernel.
-/
module

public import proofs.«01_k».proof.Proof.PostSpec
public import proofs.«01_k».proof.Proof.Gen.PostRefIdeal
public import proofs.«01_k».proof.Proof.Gen.PostRefIdeal.Run
public import proofs.«01_k».proof.Proof.Gen.PostRefIdeal.Read

@[expose] public section

noncomputable section

namespace Cert.PostReference

open Cert.PostRefIdeal Cert.PostRefIdeal.Gen Cert.PostRefIdeal.Read Cert.PostMath Idealize.ShloMosaic
open Idealize.ShloMosaic.ValueIdx
open Cert.PostIdeal.Mine (posW col up laneOf inHead pairLane headVal copyVal pairVal ikVal smallVal twiceVal gluVal arrA arrB arrA_ext arrB_ext)
open scoped BigOperators

/-- Lane `k` of head `h`. -/
abbrev lane8 (h : Fin 8) (k : Fin 128) : Fin 1024 := ⟨h.val * 128 + k.val, by have := h.isLt; have := k.isLt; omega⟩
abbrev lane16 (h : Fin 16) (k : Fin 64) : Fin 1024 := ⟨h.val * 64 + k.val, by have := h.isLt; have := k.isLt; omega⟩

variable (x0 : S2x4096x4096.Idx → EReal) (x1 : S2x4096x128.Idx → EReal) (x2 : S2x4096x2048.Idx → EReal)
  (x3 x4 : S128.Idx → EReal) (x5 : S64.Idx → EReal) (b : Fin 2) (p : Fin 4096)

/-! ## The angles -/

theorem q_ang (l : Fin 64) : val_main_v32 (F := Ideal) (ix2 p l) = ang c64 (posW p.val) l.val := by
  rw [val_main_v32_apply, val_main_v30_apply, val_main_v28_apply, val_main_v27_apply, val_main_v31_apply, val_main_v29_apply, val_main_v26_apply, val_main_v24_apply, val_main_v22_apply]
  refine congrArg₂ (fun a b : EReal => a * b) rfl (congrArg₂ Ideal.pow ((val_main_v25_apply (F := Ideal) _).trans rfl)
    (congrArg₂ Ideal.div rfl ((val_main_v23_apply (F := Ideal) _).trans rfl)))

theorem k_ang (l : Fin 64) : val_main_v76 (F := Ideal) (ix2 p l) = ang c64 (posW p.val) l.val := by
  rw [val_main_v76_apply, val_main_v74_apply, val_main_v72_apply, val_main_v71_apply, val_main_v75_apply, val_main_v73_apply, val_main_v70_apply, val_main_v68_apply, val_main_v66_apply]
  refine congrArg₂ (fun a b : EReal => a * b) rfl (congrArg₂ Ideal.pow ((val_main_v69_apply (F := Ideal) _).trans rfl)
    (congrArg₂ Ideal.div rfl ((val_main_v67_apply (F := Ideal) _).trans rfl)))

theorem iq_ang (l : Fin 32) : val_main_v107 (F := Ideal) (ix2 p l) = ang c32 (posW p.val) l.val := by
  rw [val_main_v107_apply, val_main_v105_apply, val_main_v103_apply, val_main_v102_apply, val_main_v106_apply, val_main_v104_apply, val_main_v101_apply, val_main_v99_apply, val_main_v97_apply]
  refine congrArg₂ (fun a b : EReal => a * b) rfl (congrArg₂ Ideal.pow ((val_main_v100_apply (F := Ideal) _).trans rfl)
    (congrArg₂ Ideal.div rfl ((val_main_v98_apply (F := Ideal) _).trans rfl)))

theorem ik_ang (l : Fin 32) : val_main_v151 (F := Ideal) (ix2 p l) = ang c32 (posW p.val) l.val := by
  rw [val_main_v151_apply, val_main_v149_apply, val_main_v147_apply, val_main_v146_apply, val_main_v150_apply, val_main_v148_apply, val_main_v145_apply, val_main_v143_apply, val_main_v141_apply]
  refine congrArg₂ (fun a b : EReal => a * b) rfl (congrArg₂ Ideal.pow ((val_main_v144_apply (F := Ideal) _).trans rfl)
    (congrArg₂ Ideal.div rfl ((val_main_v142_apply (F := Ideal) _).trans rfl)))

/-! ## The parts, head by head -/

theorem q_in (h : Fin 8) (k : Fin 128) : val_main_v7 (F := Ideal) x0 (ix4 b p h k) = x0 (ix3 b p (col 0 (lane8 h k))) := by
  have hb := b.isLt
  have hp := p.isLt
  have hh := h.isLt
  have hk := k.isLt
  rw [val_main_v7_apply, val_main_v1_apply]
  refine congrArg x0 (funext fun a => Fin.ext ?_)
  match a with
  | ⟨0, _⟩ => show (((b.val * 4096 + p.val) * 8 + h.val) * 128 + k.val) / 4194304 = b.val; omega
  | ⟨1, _⟩ => show (((b.val * 4096 + p.val) * 8 + h.val) * 128 + k.val) / 1024 % 4096 = p.val; omega
  | ⟨2, _⟩ => show (((b.val * 4096 + p.val) * 8 + h.val) * 128 + k.val) % 1024 = 0 * 1024 + (h.val * 128 + k.val); omega

theorem k_in (h : Fin 8) (k : Fin 128) : val_main_v51 (F := Ideal) x0 (ix4 b p h k) = x0 (ix3 b p (col 1 (lane8 h k))) := by
  have hb := b.isLt
  have hp := p.isLt
  have hh := h.isLt
  have hk := k.isLt
  rw [val_main_v51_apply, val_main_v2_apply]
  refine congrArg x0 (funext fun a => Fin.ext ?_)
  match a with
  | ⟨0, _⟩ => show (((b.val * 4096 + p.val) * 8 + h.val) * 128 + k.val) / 4194304 = b.val; omega
  | ⟨1, _⟩ => show (((b.val * 4096 + p.val) * 8 + h.val) * 128 + k.val) / 1024 % 4096 = p.val; omega
  | ⟨2, _⟩ => show 1024 + (((b.val * 4096 + p.val) * 8 + h.val) * 128 + k.val) % 1024 = 1 * 1024 + (h.val * 128 + k.val); omega

theorem iq_in (h : Fin 16) (k : Fin 64) : val_main_v95 (F := Ideal) x0 (ix4 b p h k) = x0 (ix3 b p (col 3 (lane16 h k))) := by
  have hb := b.isLt
  have hp := p.isLt
  have hh := h.isLt
  have hk := k.isLt
  rw [val_main_v95_apply, val_main_v4_apply]
  refine congrArg x0 (funext fun a => Fin.ext ?_)
  match a with
  | ⟨0, _⟩ => show (((b.val * 4096 + p.val) * 16 + h.val) * 64 + k.val) / 4194304 = b.val; omega
  | ⟨1, _⟩ => show (((b.val * 4096 + p.val) * 16 + h.val) * 64 + k.val) / 1024 % 4096 = p.val; omega
  | ⟨2, _⟩ => show 3072 + (((b.val * 4096 + p.val) * 16 + h.val) * 64 + k.val) % 1024 = 3 * 1024 + (h.val * 64 + k.val); omega

/-! ## The norms -/

theorem q_norm (h : Fin 8) (k : Fin 128) : val_main_v20 (F := Ideal) x0 x3 (ix4 b p h k)
    = norm128 (fun l => x0 (ix3 b p (col 0 (lane8 h l)))) (fun l => x3 (ix1 l)) k := by
  rw [val_main_v20_apply, val_main_v17_apply, val_main_v16_apply, val_main_v15_apply, val_main_v14_apply, val_main_v12_apply, val_main_v10_apply, val_main_v9_apply, val_main_v19_apply, val_main_v18_apply]
  unfold norm128
  refine congrArg₂ (fun a b : EReal => a * b) (congrArg₂ (fun a b : EReal => a * b) (q_in x0 b p h k)
    (congrArg Ideal.rsqrt (congrArg₂ (fun a b : EReal => a + b) (congrArg₂ Ideal.div ?_ ((val_main_v11_apply (F := Ideal) _).trans rfl))
      ((val_main_v13_apply (F := Ideal) _).trans rfl)))) (congrArg x3 (funext fun a => Fin.ext ?_))
  · refine (congrArg₂ (fun a b : EReal => a + b) Ideal.ofBits_zero_f32 (Finset.sum_congr rfl fun l _ => ?_)).trans (zero_add _)
    have e := q_in x0 b p h l
    rw [val_main_v8_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

theorem k_norm (h : Fin 8) (k : Fin 128) : val_main_v64 (F := Ideal) x0 x4 (ix4 b p h k)
    = norm128 (fun l => x0 (ix3 b p (col 1 (lane8 h l)))) (fun l => x4 (ix1 l)) k := by
  rw [val_main_v64_apply, val_main_v61_apply, val_main_v60_apply, val_main_v59_apply, val_main_v58_apply, val_main_v56_apply, val_main_v54_apply, val_main_v53_apply, val_main_v63_apply, val_main_v62_apply]
  unfold norm128
  refine congrArg₂ (fun a b : EReal => a * b) (congrArg₂ (fun a b : EReal => a * b) (k_in x0 b p h k)
    (congrArg Ideal.rsqrt (congrArg₂ (fun a b : EReal => a + b) (congrArg₂ Ideal.div ?_ ((val_main_v55_apply (F := Ideal) _).trans rfl))
      ((val_main_v57_apply (F := Ideal) _).trans rfl)))) (congrArg x4 (funext fun a => Fin.ext ?_))
  · refine (congrArg₂ (fun a b : EReal => a + b) Ideal.ofBits_zero_f32 (Finset.sum_congr rfl fun l _ => ?_)).trans (zero_add _)
    have e := k_in x0 b p h l
    rw [val_main_v52_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

theorem ik_in (k : Fin 64) : val_main_v5 (F := Ideal) x1 (ix3 b p k) = x1 (ix3 b p (up k)) := by
  rw [val_main_v5_apply]
  refine congrArg x1 (funext fun a => Fin.ext ?_)
  fin_cases a <;> rfl

theorem ik_norm (k : Fin 64) : val_main_v139 (F := Ideal) x1 x5 (ix4 b p (0 : Fin 1) k)
    = norm64 (fun l => x1 (ix3 b p (up l))) (fun l => x5 (ix1 l)) k := by
  rw [val_main_v139_apply, val_main_v138_apply, val_main_v135_apply, val_main_v134_apply, val_main_v133_apply, val_main_v132_apply, val_main_v130_apply, val_main_v128_apply, val_main_v127_apply, val_main_v137_apply, val_main_v136_apply]
  unfold norm64
  refine congrArg₂ (fun a b : EReal => a * b) (congrArg₂ (fun a b : EReal => a * b) (Eq.trans (congrArg _ (funext fun a => Fin.ext ?_)) (ik_in x1 b p k))
    (congrArg Ideal.rsqrt (congrArg₂ (fun a b : EReal => a + b) (congrArg₂ Ideal.div ?_ ((val_main_v129_apply (F := Ideal) _).trans rfl))
      ((val_main_v131_apply (F := Ideal) _).trans rfl)))) (congrArg x5 (funext fun a => Fin.ext ?_))
  · fin_cases a <;> rfl
  · refine (congrArg₂ (fun a b : EReal => a + b) Ideal.ofBits_zero_f32 (Finset.sum_congr rfl fun l _ => ?_)).trans (zero_add _)
    have e := ik_in x1 b p l
    rw [val_main_v126_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

/-! ## The rotations -/

theorem q_cos39 (h : Fin 8) (l : Fin 64) : val_main_v39 (F := Ideal) (ix4 b p h l) = cosAt c64 (posW p.val) l.val := by
  rw [val_main_v39_apply, val_main_v34_apply, val_main_v33_apply]
  refine congrArg Ideal.cos (Eq.trans (congrArg _ (funext fun a => Fin.ext ?_)) (q_ang p l))
  fin_cases a <;> rfl

theorem q_sin41 (h : Fin 8) (l : Fin 64) : val_main_v41 (F := Ideal) (ix4 b p h l) = sinAt c64 (posW p.val) l.val := by
  rw [val_main_v41_apply, val_main_v36_apply, val_main_v35_apply]
  refine congrArg Ideal.sin (Eq.trans (congrArg _ (funext fun a => Fin.ext ?_)) (q_ang p l))
  fin_cases a <;> rfl

theorem q_cos44 (h : Fin 8) (l : Fin 64) : val_main_v44 (F := Ideal) (ix4 b p h l) = cosAt c64 (posW p.val) l.val := by
  rw [val_main_v44_apply, val_main_v34_apply, val_main_v33_apply]
  refine congrArg Ideal.cos (Eq.trans (congrArg _ (funext fun a => Fin.ext ?_)) (q_ang p l))
  fin_cases a <;> rfl

theorem q_sin46 (h : Fin 8) (l : Fin 64) : val_main_v46 (F := Ideal) (ix4 b p h l) = sinAt c64 (posW p.val) l.val := by
  rw [val_main_v46_apply, val_main_v36_apply, val_main_v35_apply]
  refine congrArg Ideal.sin (Eq.trans (congrArg _ (funext fun a => Fin.ext ?_)) (q_ang p l))
  fin_cases a <;> rfl

theorem q_first (h : Fin 8) (l : Fin 64) : val_main_v43 (F := Ideal) x0 x3 (ix4 b p h l)
    = (val_main_v20 (F := Ideal) x0 x3 (ix4 b p h (⟨l.val, by have := l.isLt; omega⟩ : Fin 128)) : EReal) * cosAt c64 (posW p.val) l.val
      - (val_main_v20 (F := Ideal) x0 x3 (ix4 b p h (⟨64 + l.val, by have := l.isLt; omega⟩ : Fin 128)) : EReal) * sinAt c64 (posW p.val) l.val := by
  rw [val_main_v43_apply, val_main_v40_apply, val_main_v42_apply, val_main_v37_apply, val_main_v38_apply]
  refine congrArg₂ (fun a b : EReal => a - b) (congrArg₂ (fun a b : EReal => a * b) (congrArg _ (funext fun a => Fin.ext ?_)) (q_cos39 b p h l))
    (congrArg₂ (fun a b : EReal => a * b) (congrArg _ (funext fun a => Fin.ext ?_)) (q_sin41 b p h l))
  · fin_cases a <;> rfl
  · fin_cases a <;> rfl

theorem q_second (h : Fin 8) (l : Fin 64) : val_main_v48 (F := Ideal) x0 x3 (ix4 b p h l)
    = (val_main_v20 (F := Ideal) x0 x3 (ix4 b p h (⟨64 + l.val, by have := l.isLt; omega⟩ : Fin 128)) : EReal) * cosAt c64 (posW p.val) l.val
      + (val_main_v20 (F := Ideal) x0 x3 (ix4 b p h (⟨l.val, by have := l.isLt; omega⟩ : Fin 128)) : EReal) * sinAt c64 (posW p.val) l.val := by
  rw [val_main_v48_apply, val_main_v45_apply, val_main_v47_apply, val_main_v37_apply, val_main_v38_apply]
  refine congrArg₂ (fun a b : EReal => a + b) (congrArg₂ (fun a b : EReal => a * b) (congrArg _ (funext fun a => Fin.ext ?_)) (q_cos44 b p h l))
    (congrArg₂ (fun a b : EReal => a * b) (congrArg _ (funext fun a => Fin.ext ?_)) (q_sin46 b p h l))
  · fin_cases a <;> rfl
  · fin_cases a <;> rfl

theorem q_rot (h : Fin 8) (k : Fin 128) : val_main_v49 (F := Ideal) x0 x3 (ix4 b p h k)
    = turn128 (fun l => val_main_v20 (F := Ideal) x0 x3 (ix4 b p h l)) (posW p.val) k := by
  have hk := k.isLt
  unfold val_main_v49 turn128
  by_cases hl : k.val < 64
  · rw [if_pos hl]
    refine (concatenate_pair_apply_left (t := S2x4096x8x128) (3 : Fin 4) _ _ concatenates_S2x4096x8x64_S2x4096x8x64_S2x4096x8x128_d3 (ix4 b p h k) rfl
      (ix4 b p h (⟨k.val, hl⟩ : Fin 64)) (fun a => match a with
        | ⟨0, _⟩ => rfl
        | ⟨1, _⟩ => rfl
        | ⟨2, _⟩ => rfl
        | ⟨3, _⟩ => rfl)).trans ((q_first x0 x3 b p h _).trans ?_)
    refine congrArg₂ (fun a b : EReal => a - b) rfl (congrArg₂ (fun a b : EReal => a * b) (congrArg (fun l : Fin 128 => val_main_v20 (F := Ideal) x0 x3 (ix4 b p h l)) (Fin.ext ?_)) rfl)
    show 64 + k.val = (k.val + 64) % 128; omega
  · rw [if_neg hl]
    refine (concatenate_pair_apply_right (t := S2x4096x8x128) (3 : Fin 4) _ _ concatenates_S2x4096x8x64_S2x4096x8x64_S2x4096x8x128_d3 (ix4 b p h k) rfl rfl
      (ix4 b p h (⟨k.val - 64, by omega⟩ : Fin 64)) (fun a ha => match a, ha with
        | ⟨0, _⟩, _ => rfl
        | ⟨1, _⟩, _ => rfl
        | ⟨2, _⟩, _ => rfl
        | ⟨3, _⟩, ha => absurd rfl ha) (by show k.val - 64 + 64 = k.val; omega)).trans ((q_second x0 x3 b p h _).trans ?_)
    refine congrArg₂ (fun a b : EReal => a + b) (congrArg₂ (fun a b : EReal => a * b) (congrArg (fun l : Fin 128 => val_main_v20 (F := Ideal) x0 x3 (ix4 b p h l)) (Fin.ext ?_)) rfl)
      (congrArg₂ (fun a b : EReal => a * b) (congrArg (fun l : Fin 128 => val_main_v20 (F := Ideal) x0 x3 (ix4 b p h l)) (Fin.ext ?_)) rfl)
    · show 64 + (k.val - 64) = k.val; omega
    · show k.val - 64 = (k.val + 64) % 128; omega

theorem k_cos83 (h : Fin 8) (l : Fin 64) : val_main_v83 (F := Ideal) (ix4 b p h l) = cosAt c64 (posW p.val) l.val := by
  rw [val_main_v83_apply, val_main_v78_apply, val_main_v77_apply]
  refine congrArg Ideal.cos (Eq.trans (congrArg _ (funext fun a => Fin.ext ?_)) (k_ang p l))
  fin_cases a <;> rfl

theorem k_sin85 (h : Fin 8) (l : Fin 64) : val_main_v85 (F := Ideal) (ix4 b p h l) = sinAt c64 (posW p.val) l.val := by
  rw [val_main_v85_apply, val_main_v80_apply, val_main_v79_apply]
  refine congrArg Ideal.sin (Eq.trans (congrArg _ (funext fun a => Fin.ext ?_)) (k_ang p l))
  fin_cases a <;> rfl

theorem k_cos88 (h : Fin 8) (l : Fin 64) : val_main_v88 (F := Ideal) (ix4 b p h l) = cosAt c64 (posW p.val) l.val := by
  rw [val_main_v88_apply, val_main_v78_apply, val_main_v77_apply]
  refine congrArg Ideal.cos (Eq.trans (congrArg _ (funext fun a => Fin.ext ?_)) (k_ang p l))
  fin_cases a <;> rfl

theorem k_sin90 (h : Fin 8) (l : Fin 64) : val_main_v90 (F := Ideal) (ix4 b p h l) = sinAt c64 (posW p.val) l.val := by
  rw [val_main_v90_apply, val_main_v80_apply, val_main_v79_apply]
  refine congrArg Ideal.sin (Eq.trans (congrArg _ (funext fun a => Fin.ext ?_)) (k_ang p l))
  fin_cases a <;> rfl

theorem k_first (h : Fin 8) (l : Fin 64) : val_main_v87 (F := Ideal) x0 x4 (ix4 b p h l)
    = (val_main_v64 (F := Ideal) x0 x4 (ix4 b p h (⟨l.val, by have := l.isLt; omega⟩ : Fin 128)) : EReal) * cosAt c64 (posW p.val) l.val
      - (val_main_v64 (F := Ideal) x0 x4 (ix4 b p h (⟨64 + l.val, by have := l.isLt; omega⟩ : Fin 128)) : EReal) * sinAt c64 (posW p.val) l.val := by
  rw [val_main_v87_apply, val_main_v84_apply, val_main_v86_apply, val_main_v81_apply, val_main_v82_apply]
  refine congrArg₂ (fun a b : EReal => a - b) (congrArg₂ (fun a b : EReal => a * b) (congrArg _ (funext fun a => Fin.ext ?_)) (k_cos83 b p h l))
    (congrArg₂ (fun a b : EReal => a * b) (congrArg _ (funext fun a => Fin.ext ?_)) (k_sin85 b p h l))
  · fin_cases a <;> rfl
  · fin_cases a <;> rfl

theorem k_second (h : Fin 8) (l : Fin 64) : val_main_v92 (F := Ideal) x0 x4 (ix4 b p h l)
    = (val_main_v64 (F := Ideal) x0 x4 (ix4 b p h (⟨64 + l.val, by have := l.isLt; omega⟩ : Fin 128)) : EReal) * cosAt c64 (posW p.val) l.val
      + (val_main_v64 (F := Ideal) x0 x4 (ix4 b p h (⟨l.val, by have := l.isLt; omega⟩ : Fin 128)) : EReal) * sinAt c64 (posW p.val) l.val := by
  rw [val_main_v92_apply, val_main_v89_apply, val_main_v91_apply, val_main_v81_apply, val_main_v82_apply]
  refine congrArg₂ (fun a b : EReal => a + b) (congrArg₂ (fun a b : EReal => a * b) (congrArg _ (funext fun a => Fin.ext ?_)) (k_cos88 b p h l))
    (congrArg₂ (fun a b : EReal => a * b) (congrArg _ (funext fun a => Fin.ext ?_)) (k_sin90 b p h l))
  · fin_cases a <;> rfl
  · fin_cases a <;> rfl

theorem k_rot (h : Fin 8) (k : Fin 128) : val_main_v93 (F := Ideal) x0 x4 (ix4 b p h k)
    = turn128 (fun l => val_main_v64 (F := Ideal) x0 x4 (ix4 b p h l)) (posW p.val) k := by
  have hk := k.isLt
  unfold val_main_v93 turn128
  by_cases hl : k.val < 64
  · rw [if_pos hl]
    refine (concatenate_pair_apply_left (t := S2x4096x8x128) (3 : Fin 4) _ _ concatenates_S2x4096x8x64_S2x4096x8x64_S2x4096x8x128_d3 (ix4 b p h k) rfl
      (ix4 b p h (⟨k.val, hl⟩ : Fin 64)) (fun a => match a with
        | ⟨0, _⟩ => rfl
        | ⟨1, _⟩ => rfl
        | ⟨2, _⟩ => rfl
        | ⟨3, _⟩ => rfl)).trans ((k_first x0 x4 b p h _).trans ?_)
    refine congrArg₂ (fun a b : EReal => a - b) rfl (congrArg₂ (fun a b : EReal => a * b) (congrArg (fun l : Fin 128 => val_main_v64 (F := Ideal) x0 x4 (ix4 b p h l)) (Fin.ext ?_)) rfl)
    show 64 + k.val = (k.val + 64) % 128; omega
  · rw [if_neg hl]
    refine (concatenate_pair_apply_right (t := S2x4096x8x128) (3 : Fin 4) _ _ concatenates_S2x4096x8x64_S2x4096x8x64_S2x4096x8x128_d3 (ix4 b p h k) rfl rfl
      (ix4 b p h (⟨k.val - 64, by omega⟩ : Fin 64)) (fun a ha => match a, ha with
        | ⟨0, _⟩, _ => rfl
        | ⟨1, _⟩, _ => rfl
        | ⟨2, _⟩, _ => rfl
        | ⟨3, _⟩, ha => absurd rfl ha) (by show k.val - 64 + 64 = k.val; omega)).trans ((k_second x0 x4 b p h _).trans ?_)
    refine congrArg₂ (fun a b : EReal => a + b) (congrArg₂ (fun a b : EReal => a * b) (congrArg (fun l : Fin 128 => val_main_v64 (F := Ideal) x0 x4 (ix4 b p h l)) (Fin.ext ?_)) rfl)
      (congrArg₂ (fun a b : EReal => a * b) (congrArg (fun l : Fin 128 => val_main_v64 (F := Ideal) x0 x4 (ix4 b p h l)) (Fin.ext ?_)) rfl)
    · show 64 + (k.val - 64) = k.val; omega
    · show k.val - 64 = (k.val + 64) % 128; omega

theorem iq_cos114 (h : Fin 16) (l : Fin 32) : val_main_v114 (F := Ideal) (ix4 b p h l) = cosAt c32 (posW p.val) l.val := by
  rw [val_main_v114_apply, val_main_v109_apply, val_main_v108_apply]
  refine congrArg Ideal.cos (Eq.trans (congrArg _ (funext fun a => Fin.ext ?_)) (iq_ang p l))
  fin_cases a <;> rfl

theorem iq_sin116 (h : Fin 16) (l : Fin 32) : val_main_v116 (F := Ideal) (ix4 b p h l) = sinAt c32 (posW p.val) l.val := by
  rw [val_main_v116_apply, val_main_v111_apply, val_main_v110_apply]
  refine congrArg Ideal.sin (Eq.trans (congrArg _ (funext fun a => Fin.ext ?_)) (iq_ang p l))
  fin_cases a <;> rfl

theorem iq_cos119 (h : Fin 16) (l : Fin 32) : val_main_v119 (F := Ideal) (ix4 b p h l) = cosAt c32 (posW p.val) l.val := by
  rw [val_main_v119_apply, val_main_v109_apply, val_main_v108_apply]
  refine congrArg Ideal.cos (Eq.trans (congrArg _ (funext fun a => Fin.ext ?_)) (iq_ang p l))
  fin_cases a <;> rfl

theorem iq_sin121 (h : Fin 16) (l : Fin 32) : val_main_v121 (F := Ideal) (ix4 b p h l) = sinAt c32 (posW p.val) l.val := by
  rw [val_main_v121_apply, val_main_v111_apply, val_main_v110_apply]
  refine congrArg Ideal.sin (Eq.trans (congrArg _ (funext fun a => Fin.ext ?_)) (iq_ang p l))
  fin_cases a <;> rfl

theorem iq_first (h : Fin 16) (l : Fin 32) : val_main_v118 (F := Ideal) x0 (ix4 b p h l)
    = (val_main_v95 (F := Ideal) x0 (ix4 b p h (⟨l.val, by have := l.isLt; omega⟩ : Fin 64)) : EReal) * cosAt c32 (posW p.val) l.val
      - (val_main_v95 (F := Ideal) x0 (ix4 b p h (⟨32 + l.val, by have := l.isLt; omega⟩ : Fin 64)) : EReal) * sinAt c32 (posW p.val) l.val := by
  rw [val_main_v118_apply, val_main_v115_apply, val_main_v117_apply, val_main_v112_apply, val_main_v113_apply]
  refine congrArg₂ (fun a b : EReal => a - b) (congrArg₂ (fun a b : EReal => a * b) (congrArg _ (funext fun a => Fin.ext ?_)) (iq_cos114 b p h l))
    (congrArg₂ (fun a b : EReal => a * b) (congrArg _ (funext fun a => Fin.ext ?_)) (iq_sin116 b p h l))
  · fin_cases a <;> rfl
  · fin_cases a <;> rfl

theorem iq_second (h : Fin 16) (l : Fin 32) : val_main_v123 (F := Ideal) x0 (ix4 b p h l)
    = (val_main_v95 (F := Ideal) x0 (ix4 b p h (⟨32 + l.val, by have := l.isLt; omega⟩ : Fin 64)) : EReal) * cosAt c32 (posW p.val) l.val
      + (val_main_v95 (F := Ideal) x0 (ix4 b p h (⟨l.val, by have := l.isLt; omega⟩ : Fin 64)) : EReal) * sinAt c32 (posW p.val) l.val := by
  rw [val_main_v123_apply, val_main_v120_apply, val_main_v122_apply, val_main_v112_apply, val_main_v113_apply]
  refine congrArg₂ (fun a b : EReal => a + b) (congrArg₂ (fun a b : EReal => a * b) (congrArg _ (funext fun a => Fin.ext ?_)) (iq_cos119 b p h l))
    (congrArg₂ (fun a b : EReal => a * b) (congrArg _ (funext fun a => Fin.ext ?_)) (iq_sin121 b p h l))
  · fin_cases a <;> rfl
  · fin_cases a <;> rfl

theorem iq_rot (h : Fin 16) (k : Fin 64) : val_main_v124 (F := Ideal) x0 (ix4 b p h k)
    = turn64 (fun l => val_main_v95 (F := Ideal) x0 (ix4 b p h l)) (posW p.val) k := by
  have hk := k.isLt
  unfold val_main_v124 turn64
  by_cases hl : k.val < 32
  · rw [if_pos hl]
    refine (concatenate_pair_apply_left (t := S2x4096x16x64) (3 : Fin 4) _ _ concatenates_S2x4096x16x32_S2x4096x16x32_S2x4096x16x64_d3 (ix4 b p h k) rfl
      (ix4 b p h (⟨k.val, hl⟩ : Fin 32)) (fun a => match a with
        | ⟨0, _⟩ => rfl
        | ⟨1, _⟩ => rfl
        | ⟨2, _⟩ => rfl
        | ⟨3, _⟩ => rfl)).trans ((iq_first x0 b p h _).trans ?_)
    refine congrArg₂ (fun a b : EReal => a - b) rfl (congrArg₂ (fun a b : EReal => a * b) (congrArg (fun l : Fin 64 => val_main_v95 (F := Ideal) x0 (ix4 b p h l)) (Fin.ext ?_)) rfl)
    show 32 + k.val = (k.val + 32) % 64; omega
  · rw [if_neg hl]
    refine (concatenate_pair_apply_right (t := S2x4096x16x64) (3 : Fin 4) _ _ concatenates_S2x4096x16x32_S2x4096x16x32_S2x4096x16x64_d3 (ix4 b p h k) rfl rfl
      (ix4 b p h (⟨k.val - 32, by omega⟩ : Fin 32)) (fun a ha => match a, ha with
        | ⟨0, _⟩, _ => rfl
        | ⟨1, _⟩, _ => rfl
        | ⟨2, _⟩, _ => rfl
        | ⟨3, _⟩, ha => absurd rfl ha) (by show k.val - 32 + 32 = k.val; omega)).trans ((iq_second x0 b p h _).trans ?_)
    refine congrArg₂ (fun a b : EReal => a + b) (congrArg₂ (fun a b : EReal => a * b) (congrArg (fun l : Fin 64 => val_main_v95 (F := Ideal) x0 (ix4 b p h l)) (Fin.ext ?_)) rfl)
      (congrArg₂ (fun a b : EReal => a * b) (congrArg (fun l : Fin 64 => val_main_v95 (F := Ideal) x0 (ix4 b p h l)) (Fin.ext ?_)) rfl)
    · show 32 + (k.val - 32) = k.val; omega
    · show k.val - 32 = (k.val + 32) % 64; omega

theorem ik_cos158 (h : Fin 1) (l : Fin 32) : val_main_v158 (F := Ideal) (ix4 b p h l) = cosAt c32 (posW p.val) l.val := by
  rw [val_main_v158_apply, val_main_v153_apply, val_main_v152_apply]
  refine congrArg Ideal.cos (Eq.trans (congrArg _ (funext fun a => Fin.ext ?_)) (ik_ang p l))
  fin_cases a <;> rfl

theorem ik_sin160 (h : Fin 1) (l : Fin 32) : val_main_v160 (F := Ideal) (ix4 b p h l) = sinAt c32 (posW p.val) l.val := by
  rw [val_main_v160_apply, val_main_v155_apply, val_main_v154_apply]
  refine congrArg Ideal.sin (Eq.trans (congrArg _ (funext fun a => Fin.ext ?_)) (ik_ang p l))
  fin_cases a <;> rfl

theorem ik_cos163 (h : Fin 1) (l : Fin 32) : val_main_v163 (F := Ideal) (ix4 b p h l) = cosAt c32 (posW p.val) l.val := by
  rw [val_main_v163_apply, val_main_v153_apply, val_main_v152_apply]
  refine congrArg Ideal.cos (Eq.trans (congrArg _ (funext fun a => Fin.ext ?_)) (ik_ang p l))
  fin_cases a <;> rfl

theorem ik_sin165 (h : Fin 1) (l : Fin 32) : val_main_v165 (F := Ideal) (ix4 b p h l) = sinAt c32 (posW p.val) l.val := by
  rw [val_main_v165_apply, val_main_v155_apply, val_main_v154_apply]
  refine congrArg Ideal.sin (Eq.trans (congrArg _ (funext fun a => Fin.ext ?_)) (ik_ang p l))
  fin_cases a <;> rfl

theorem ik_first (h : Fin 1) (l : Fin 32) : val_main_v162 (F := Ideal) x1 x5 (ix4 b p h l)
    = (val_main_v139 (F := Ideal) x1 x5 (ix4 b p h (⟨l.val, by have := l.isLt; omega⟩ : Fin 64)) : EReal) * cosAt c32 (posW p.val) l.val
      - (val_main_v139 (F := Ideal) x1 x5 (ix4 b p h (⟨32 + l.val, by have := l.isLt; omega⟩ : Fin 64)) : EReal) * sinAt c32 (posW p.val) l.val := by
  rw [val_main_v162_apply, val_main_v159_apply, val_main_v161_apply, val_main_v156_apply, val_main_v157_apply]
  refine congrArg₂ (fun a b : EReal => a - b) (congrArg₂ (fun a b : EReal => a * b) (congrArg _ (funext fun a => Fin.ext ?_)) (ik_cos158 b p h l))
    (congrArg₂ (fun a b : EReal => a * b) (congrArg _ (funext fun a => Fin.ext ?_)) (ik_sin160 b p h l))
  · fin_cases a <;> rfl
  · fin_cases a <;> rfl

theorem ik_second (h : Fin 1) (l : Fin 32) : val_main_v167 (F := Ideal) x1 x5 (ix4 b p h l)
    = (val_main_v139 (F := Ideal) x1 x5 (ix4 b p h (⟨32 + l.val, by have := l.isLt; omega⟩ : Fin 64)) : EReal) * cosAt c32 (posW p.val) l.val
      + (val_main_v139 (F := Ideal) x1 x5 (ix4 b p h (⟨l.val, by have := l.isLt; omega⟩ : Fin 64)) : EReal) * sinAt c32 (posW p.val) l.val := by
  rw [val_main_v167_apply, val_main_v164_apply, val_main_v166_apply, val_main_v156_apply, val_main_v157_apply]
  refine congrArg₂ (fun a b : EReal => a + b) (congrArg₂ (fun a b : EReal => a * b) (congrArg _ (funext fun a => Fin.ext ?_)) (ik_cos163 b p h l))
    (congrArg₂ (fun a b : EReal => a * b) (congrArg _ (funext fun a => Fin.ext ?_)) (ik_sin165 b p h l))
  · fin_cases a <;> rfl
  · fin_cases a <;> rfl

theorem ik_rot (h : Fin 1) (k : Fin 64) : val_main_v168 (F := Ideal) x1 x5 (ix4 b p h k)
    = turn64 (fun l => val_main_v139 (F := Ideal) x1 x5 (ix4 b p h l)) (posW p.val) k := by
  have hk := k.isLt
  unfold val_main_v168 turn64
  by_cases hl : k.val < 32
  · rw [if_pos hl]
    refine (concatenate_pair_apply_left (t := S2x4096x1x64) (3 : Fin 4) _ _ concatenates_S2x4096x1x32_S2x4096x1x32_S2x4096x1x64_d3 (ix4 b p h k) rfl
      (ix4 b p h (⟨k.val, hl⟩ : Fin 32)) (fun a => match a with
        | ⟨0, _⟩ => rfl
        | ⟨1, _⟩ => rfl
        | ⟨2, _⟩ => rfl
        | ⟨3, _⟩ => rfl)).trans ((ik_first x1 x5 b p h _).trans ?_)
    refine congrArg₂ (fun a b : EReal => a - b) rfl (congrArg₂ (fun a b : EReal => a * b) (congrArg (fun l : Fin 64 => val_main_v139 (F := Ideal) x1 x5 (ix4 b p h l)) (Fin.ext ?_)) rfl)
    show 32 + k.val = (k.val + 32) % 64; omega
  · rw [if_neg hl]
    refine (concatenate_pair_apply_right (t := S2x4096x1x64) (3 : Fin 4) _ _ concatenates_S2x4096x1x32_S2x4096x1x32_S2x4096x1x64_d3 (ix4 b p h k) rfl rfl
      (ix4 b p h (⟨k.val - 32, by omega⟩ : Fin 32)) (fun a ha => match a, ha with
        | ⟨0, _⟩, _ => rfl
        | ⟨1, _⟩, _ => rfl
        | ⟨2, _⟩, _ => rfl
        | ⟨3, _⟩, ha => absurd rfl ha) (by show k.val - 32 + 32 = k.val; omega)).trans ((ik_second x1 x5 b p h _).trans ?_)
    refine congrArg₂ (fun a b : EReal => a + b) (congrArg₂ (fun a b : EReal => a * b) (congrArg (fun l : Fin 64 => val_main_v139 (F := Ideal) x1 x5 (ix4 b p h l)) (Fin.ext ?_)) rfl)
      (congrArg₂ (fun a b : EReal => a * b) (congrArg (fun l : Fin 64 => val_main_v139 (F := Ideal) x1 x5 (ix4 b p h l)) (Fin.ext ?_)) rfl)
    · show 32 + (k.val - 32) = k.val; omega
    · show k.val - 32 = (k.val + 32) % 64; omega

/-! ## The eight arrays -/

theorem q_array : val_main_v174 (F := Ideal) x0 x3 = arrA (headVal 0 x0 x3) := arrA_ext _ _ fun b p j => by
  have hb := b.isLt
  have hp := p.isLt
  have hj := j.isLt
  rw [val_main_v174_apply, val_main_v50_apply]
  refine Eq.trans (congrArg (val_main_v49 (F := Ideal) x0 x3) (funext fun a => Fin.ext ?_))
    ((q_rot x0 x3 b p (⟨j.val / 128, by omega⟩ : Fin 8) (⟨j.val % 128, Nat.mod_lt _ (by decide)⟩ : Fin 128)).trans ?_)
  · match a with
    | ⟨0, _⟩ => show ((b.val * 4096 + p.val) * 1024 + j.val) / 4194304 = b.val; omega
    | ⟨1, _⟩ => show ((b.val * 4096 + p.val) * 1024 + j.val) / 1024 % 4096 = p.val; omega
    | ⟨2, _⟩ => show ((b.val * 4096 + p.val) * 1024 + j.val) / 128 % 8 = j.val / 128; omega
    | ⟨3, _⟩ => show ((b.val * 4096 + p.val) * 1024 + j.val) % 128 = j.val % 128; omega
  · unfold headVal
    exact congrArg (fun f : Fin 128 → EReal => turn128 f (posW p.val) (inHead j)) (funext fun l => q_norm x0 x3 b p _ l)

theorem k_array : val_main_v94 (F := Ideal) x0 x4 = arrA (headVal 1 x0 x4) := arrA_ext _ _ fun b p j => by
  have hb := b.isLt
  have hp := p.isLt
  have hj := j.isLt
  rw [val_main_v94_apply]
  refine Eq.trans (congrArg (val_main_v93 (F := Ideal) x0 x4) (funext fun a => Fin.ext ?_))
    ((k_rot x0 x4 b p (⟨j.val / 128, by omega⟩ : Fin 8) (⟨j.val % 128, Nat.mod_lt _ (by decide)⟩ : Fin 128)).trans ?_)
  · match a with
    | ⟨0, _⟩ => show ((b.val * 4096 + p.val) * 1024 + j.val) / 4194304 = b.val; omega
    | ⟨1, _⟩ => show ((b.val * 4096 + p.val) * 1024 + j.val) / 1024 % 4096 = p.val; omega
    | ⟨2, _⟩ => show ((b.val * 4096 + p.val) * 1024 + j.val) / 128 % 8 = j.val / 128; omega
    | ⟨3, _⟩ => show ((b.val * 4096 + p.val) * 1024 + j.val) % 128 = j.val % 128; omega
  · unfold headVal
    exact congrArg (fun f : Fin 128 → EReal => turn128 f (posW p.val) (inHead j)) (funext fun l => k_norm x0 x4 b p _ l)

theorem k_again : val_main_v175 (F := Ideal) x0 x4 = arrA (headVal 1 x0 x4) :=
  Eq.trans (funext fun i => (val_main_v175_apply (F := Ideal) x0 x4 i).trans rfl) (k_array x0 x4)

theorem v_array : val_main_v176 (F := Ideal) x0 = arrA (copyVal x0) := arrA_ext _ _ fun b p j => by
  rw [val_main_v176_apply, val_main_v3_apply]
  unfold copyVal
  refine congrArg x0 (funext fun a => Fin.ext ?_)
  match a with
  | ⟨0, _⟩ => rfl
  | ⟨1, _⟩ => rfl
  | ⟨2, _⟩ => show 2048 + j.val = 2 * 1024 + j.val; omega

theorem iq_array : val_main_v177 (F := Ideal) x0 = arrA (pairVal x0) := arrA_ext _ _ fun b p j => by
  have hb := b.isLt
  have hp := p.isLt
  have hj := j.isLt
  rw [val_main_v177_apply, val_main_v125_apply]
  refine Eq.trans (congrArg (val_main_v124 (F := Ideal) x0) (funext fun a => Fin.ext ?_))
    ((iq_rot x0 b p (⟨j.val / 64, by omega⟩ : Fin 16) (⟨j.val % 64, Nat.mod_lt _ (by decide)⟩ : Fin 64)).trans ?_)
  · match a with
    | ⟨0, _⟩ => show ((b.val * 4096 + p.val) * 1024 + j.val) / 4194304 = b.val; omega
    | ⟨1, _⟩ => show ((b.val * 4096 + p.val) * 1024 + j.val) / 1024 % 4096 = p.val; omega
    | ⟨2, _⟩ => show ((b.val * 4096 + p.val) * 1024 + j.val) / 64 % 16 = j.val / 64; omega
    | ⟨3, _⟩ => show ((b.val * 4096 + p.val) * 1024 + j.val) % 64 = j.val % 64; omega
  · unfold pairVal
    exact congrArg (fun f : Fin 64 → EReal => turn64 f (posW p.val) ⟨j.val % 64, Nat.mod_lt _ (by decide)⟩) (funext fun l => iq_in x0 b p _ l)

theorem ik_at (k : Fin 64) : val_main_v169 (F := Ideal) x1 x5 (ix3 b p k) = ikVal x1 x5 b p k := by
  have hb := b.isLt
  have hp := p.isLt
  have hk := k.isLt
  rw [val_main_v169_apply]
  refine Eq.trans (congrArg (val_main_v168 (F := Ideal) x1 x5) (funext fun a => Fin.ext ?_)) ((ik_rot x1 x5 b p (0 : Fin 1) k).trans ?_)
  · match a with
    | ⟨0, _⟩ => show ((b.val * 4096 + p.val) * 64 + k.val) / 262144 = b.val; omega
    | ⟨1, _⟩ => show ((b.val * 4096 + p.val) * 64 + k.val) / 64 % 4096 = p.val; omega
    | ⟨2, _⟩ => rfl
    | ⟨3, _⟩ => show ((b.val * 4096 + p.val) * 64 + k.val) % 64 = k.val; omega
  · unfold ikVal
    exact congrArg (fun f : Fin 64 → EReal => turn64 f (posW p.val) k) (funext fun l => ik_norm x1 x5 b p l)

theorem small_array : val_main_v178 (F := Ideal) x1 x5 = arrB (smallVal x1 x5) := arrB_ext _ _ fun b p k => by
  unfold val_main_v178 smallVal
  by_cases h : k.val < 64
  · rw [dif_pos h]
    exact (concatenate_pair_apply_left (t := S2x4096x128) (2 : Fin 3) _ _ concatenates_S2x4096x64_S2x4096x64_S2x4096x128_d2 (ix3 b p k) rfl
      (ix3 b p (⟨k.val, h⟩ : Fin 64)) (fun a => match a with
        | ⟨0, _⟩ => rfl
        | ⟨1, _⟩ => rfl
        | ⟨2, _⟩ => rfl)).trans (ik_at x1 x5 b p _)
  · rw [dif_neg h]
    have hk := k.isLt
    refine (concatenate_pair_apply_right (t := S2x4096x128) (2 : Fin 3) _ _ concatenates_S2x4096x64_S2x4096x64_S2x4096x128_d2 (ix3 b p k) rfl rfl
      (ix3 b p (⟨k.val - 64, by omega⟩ : Fin 64)) (fun a ha => match a, ha with
        | ⟨0, _⟩, _ => rfl
        | ⟨1, _⟩, _ => rfl
        | ⟨2, _⟩, ha => absurd rfl ha) (by show k.val - 64 + 64 = k.val; omega)).trans ?_
    rw [val_main_v171_apply, val_main_v6_apply]
    refine congrArg₂ (fun a b : EReal => a * b) (congrArg x1 (funext fun a => Fin.ext ?_)) ((val_main_v170_apply (F := Ideal) _).trans rfl)
    match a with
    | ⟨0, _⟩ => rfl
    | ⟨1, _⟩ => rfl
    | ⟨2, _⟩ => show 64 + (k.val - 64) = k.val; omega

theorem twice_array : val_main_v180 (F := Ideal) x1 x5 = arrB (twiceVal x1 x5) := arrB_ext _ _ fun b p k => by
  rw [val_main_v180_apply]
  show (val_main_v179 (F := Ideal) x1 x5 (ix3 b p k) : EReal) = _
  unfold val_main_v179 twiceVal
  have hk := k.isLt
  by_cases h : k.val < 64
  · exact (concatenate_pair_apply_left (t := S2x4096x128) (2 : Fin 3) _ _ concatenates_S2x4096x64_S2x4096x64_S2x4096x128_d2 (ix3 b p k) rfl
      (ix3 b p (⟨k.val % 64, Nat.mod_lt _ (by decide)⟩ : Fin 64)) (fun a => match a with
        | ⟨0, _⟩ => rfl
        | ⟨1, _⟩ => rfl
        | ⟨2, _⟩ => Nat.mod_eq_of_lt h)).trans (ik_at x1 x5 b p _)
  · exact (concatenate_pair_apply_right (t := S2x4096x128) (2 : Fin 3) _ _ concatenates_S2x4096x64_S2x4096x64_S2x4096x128_d2 (ix3 b p k) rfl rfl
      (ix3 b p (⟨k.val % 64, Nat.mod_lt _ (by decide)⟩ : Fin 64)) (fun a ha => match a, ha with
        | ⟨0, _⟩, _ => rfl
        | ⟨1, _⟩, _ => rfl
        | ⟨2, _⟩, ha => absurd rfl ha) (by show k.val % 64 + 64 = k.val; omega)).trans (ik_at x1 x5 b p _)

theorem glu_array : val_main_v187 (F := Ideal) x2 = arrA (gluVal x2) := arrA_ext _ _ fun b p j => by
  rw [val_main_v187_apply, val_main_v186_apply, val_main_v184_apply, val_main_v182_apply, val_main_v181_apply,
    val_main_v172_apply, val_main_v173_apply]
  unfold gluVal
  refine congrArg₂ (fun a b : EReal => a * b) (congrArg x2 (funext fun a => Fin.ext ?_))
    (congrArg₂ (fun a b : EReal => Ideal.div a b) (((val_main_v185_apply (F := Ideal) _).trans rfl).trans Ideal.ofBits_one_f32)
      (congrArg₂ (fun a b : EReal => a + b) (((val_main_v183_apply (F := Ideal) _).trans rfl).trans Ideal.ofBits_one_f32)
        (congrArg (fun a : EReal => Ideal.exp (-a)) (congrArg x2 (funext fun a => Fin.ext ?_)))))
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.PostReference

end
-- ==== Proof.PostValue.lean ====
/-
  The mixer's preparation call (prompt group) and its reference end with the same eight arrays.
-/
module

public import proofs.«01_k».proof.Defs
public import proofs.«01_k».proof.Proof.PostFinal
public import proofs.«01_k».proof.Proof.PostReference
public import Idealize.ShloMosaic.Lib.Claim
public import Idealize.ShloMosaic.Lib.Quiescent

@[expose] public section

noncomputable section

namespace Cert.PostValue

open Idealize.ShloMosaic Idealize.ShloMosaic.TcCoe Idealize.SL.Sem
open Cert.PostRefIdeal.Read Cert.PostIdeal.Mine Cert.PostReference

theorem frame_ref : Cert.quiescent_PostRefIdeal := fun m g _ =>
  θ_run_and ((θ_run (Cert.PostRefIdeal.defs (F := Ideal)) _ _).mono (fun _ h c => (h c).2.2.2.2.2.2.2.2) (Cert.PostRefIdeal.Value.run (F := Ideal) m g))
    ((θ_run (Cert.PostRefIdeal.defs (F := Ideal)) _ _).mono (fun r _ => sem_eq_zero_of_no_sems rfl r.2) (Cert.PostRefIdeal.Value.run (F := Ideal) m g))

/-- The kernel and its reference end with the same eight arrays. -/
theorem algebraic : Cert.algebraic_PostIdeal_PostRefIdeal := fun m g m' g' _ hargs =>
  ⟨fun c => arrA (headVal 0 (qkvi m c) (qgs m c)), fun c => arrA (headVal 1 (qkvi m c) (kgs m c)),
    fun c => arrA (headVal 1 (qkvi m c) (kgs m c)), fun c => arrA (copyVal (qkvi m c)), fun c => arrA (pairVal (qkvi m c)),
    fun c => arrB (smallVal (smalls m c) (igs m c)), fun c => arrB (twiceVal (smalls m c) (igs m c)), fun c => arrA (gluVal (us m c)),
    (θ_run (Cert.PostIdeal.defs (F := Ideal)) _ _).mono
      (fun _ h c => ⟨(h c).1.trans (final13 m c), (h c).2.1.trans (final14 m c), (h c).2.2.1.trans (final15 m c),
        (h c).2.2.2.1.trans (final16 m c), (h c).2.2.2.2.1.trans (final17 m c), (h c).2.2.2.2.2.1.trans (final18 m c),
        (h c).2.2.2.2.2.2.1.trans (final19 m c), (h c).2.2.2.2.2.2.2.1.trans (final20 m c), (h c).2.2.2.2.2.2.2.2⟩)
      (Cert.PostIdeal.Value.run_blocks (F := Ideal) m g),
    (θ_run (Cert.PostRefIdeal.defs (F := Ideal)) _ _).mono (fun _ h c => by
        obtain ⟨a0, a1, a2, a3, a4, a5⟩ := hargs c
        obtain ⟨r0, r1, r2, r3, r4, r5, r6, r7, rest⟩ := h c
        refine ⟨r0.trans ?_, r1.trans ?_, r2.trans ?_, r3.trans ?_, r4.trans ?_, r5.trans ?_, r6.trans ?_, r7.trans ?_, rest⟩
        · exact (val_main_v174_eq (F := Ideal) _).trans ((q_array _ _).trans (congrArg₂ (fun x g => arrA (headVal 0 x g)) a0 a3))
        · exact (val_main_v94_eq (F := Ideal) _).trans ((k_array _ _).trans (congrArg₂ (fun x g => arrA (headVal 1 x g)) a0 a4))
        · exact (val_main_v175_eq (F := Ideal) _).trans ((k_again _ _).trans (congrArg₂ (fun x g => arrA (headVal 1 x g)) a0 a4))
        · exact (val_main_v176_eq (F := Ideal) _).trans ((v_array _).trans (congrArg (fun x => arrA (copyVal x)) a0))
        · exact (val_main_v177_eq (F := Ideal) _).trans ((iq_array _).trans (congrArg (fun x => arrA (pairVal x)) a0))
        · exact (val_main_v178_eq (F := Ideal) _).trans ((small_array _ _).trans (congrArg₂ (fun x g => arrB (smallVal x g)) a1 a5))
        · exact (val_main_v180_eq (F := Ideal) _).trans ((twice_array _ _).trans (congrArg₂ (fun x g => arrB (twiceVal x g)) a1 a5))
        · exact (val_main_v187_eq (F := Ideal) _).trans ((glu_array _).trans (congrArg (fun x => arrA (gluVal x)) a2)))
      (Cert.PostRefIdeal.Value.run (F := Ideal) m' g')⟩

end Cert.PostValue

end
-- ==== Proof.PostSRows.lean ====
/-
  What one block of the rotary and norm step computes (sample group). For each of the eight results: the body's vector for
  one head of 128 lanes (`headVec`: norm, gain, rotation; `pairVec`: the rotation of two heads of 64), the stored block
  as a function of the block's arguments, lane by lane.
-/
module

public import proofs.«01_k».proof.Defs
public import proofs.«01_k».proof.Proof.PostMath
public import proofs.«01_k».proof.Proof.Gen.PostSIdeal
public import proofs.«01_k».proof.Proof.Gen.PostSIdeal.Value
public import Idealize.ShloMosaic.Lib.ValueIdx
public import Idealize.ShloMosaic.Lib.KernelVsHost
public import Idealize.ShloMosaic.Lib.IdealHost

@[expose] public section

noncomputable section

namespace Cert.PostSIdeal.Mine

open Cert.PostSIdeal Cert.PostSIdeal.Gen Idealize.ShloMosaic Idealize.ShloMosaic.TcCoe Idealize.SL.Sem
open Idealize.ShloMosaic.ValueIdx Cert.PostMath
open scoped BigOperators

theorem z2 : (![0, 0] : Fin 2 → Nat) = fun _ => 0 := funext fun a => by fin_cases a <;> rfl
theorem z3 : (![0, 0, 0] : Fin 3 → Nat) = fun _ => 0 := funext fun a => by fin_cases a <;> rfl

/-! ## One head of 128 lanes -/

/-- A block's 128 lanes as rows. -/
abbrev flat (x : Vec Ideal S1x8x128 .f32) : FVec Ideal S8x128 .f32 :=
  shapeCast S8x128 x shapeCasts_S1x8x128_S8x128

/-- The body's norm of the rows, with gains. -/
abbrev normVec (v : FVec Ideal S8x128 .f32) (g : FVec Ideal S1x128 .f32) : FVec Ideal S8x128 .f32 :=
  mulf (mulf v (broadcastTo S8x128 (rsqrt (addf (divf (shapeCast S8x1 (multiReduction .add [1] S8 (mulf v v) 0x00000000#32
    reduces_S8x128_S8 (.inl rfl) rfl) shapeCasts_S8_S8x1) (broadcast S8x1 (Scalar.ofBits .f32 0x43000000#32)))
    (broadcast S8x1 (Scalar.ofBits .f32 0x358637BD#32)))) broadcasts_S8x1_S8x128))
    (broadcastTo S8x128 g broadcasts_S1x128_S8x128)

/-- The body's rotation of rows of 128. -/
abbrev rollVec (v c s : FVec Ideal S8x128 .f32) : FVec Ideal S8x128 .f32 :=
  addf (mulf v c) (mulf (dynamicRotate 1 64#32 none v rotates_S8x128_d1) s)

abbrev tab (x : Vec Ideal S8x128 .f32) : FVec Ideal S8x128 .f32 := shapeCast S8x128 x shapeCasts_S8x128_S8x128
abbrev gainVec (x : Vec Ideal S1x128 .f32) : FVec Ideal S1x128 .f32 := shapeCast S1x128 x shapeCasts_S1x128_S1x128

def headVec (x : Vec Ideal S1x8x128 .f32) (c s : Vec Ideal S8x128 .f32) (g : Vec Ideal S1x128 .f32) : FVec Ideal S8x128 .f32 :=
  rollVec (normVec (flat x) (gainVec g)) (tab c) (tab s)

theorem tab_eq (x : Vec Ideal S8x128 .f32) : tab x = x := funext fun i =>
  shapeCast_apply x shapeCasts_S8x128_S8x128 i i rfl

theorem gainVec_eq (x : Vec Ideal S1x128 .f32) : gainVec x = x := funext fun i =>
  shapeCast_apply x shapeCasts_S1x128_S1x128 i i rfl

theorem flat_apply (x : Vec Ideal S1x8x128 .f32) (q : Fin 8) (k : Fin 128) : flat x (ix2 q k) = x (ix3 (0 : Fin 1) q k) :=
  shapeCast_apply _ shapeCasts_S1x8x128_S8x128 _ _
    (by rewrite [Shape.rowMajor_val_three, Shape.rowMajor_val_two]
        show (0 * 8 + q.val) * 128 + k.val = q.val * 128 + k.val
        omega)

theorem unflat_apply (φ : FTy) (x : FVec Ideal S8x128 φ) (q : Fin 8) (k : Fin 128) :
    shapeCast S1x8x128 x shapeCasts_S8x128_S1x8x128 (ix3 (0 : Fin 1) q k) = x (ix2 q k) :=
  shapeCast_apply _ shapeCasts_S8x128_S1x8x128 _ _
    (by rewrite [Shape.rowMajor_val_three, Shape.rowMajor_val_two]
        show q.val * 128 + k.val = (0 * 8 + q.val) * 128 + k.val
        omega)

/-- A rotation of the lanes by `r` upwards reads the lane `128 - r` on, around the end. -/
theorem roll_apply (v : FVec Ideal S8x128 .f32) (sb : BitVec 32) (d : Nat) (hd : 128 - sb.toNat % 128 = d) (q : Fin 8) (k : Fin 128) :
    dynamicRotate 1 sb none v rotates_S8x128_d1 (ix2 q k) = v (ix2 q (⟨(k.val + d) % 128, Nat.mod_lt _ (by decide)⟩ : Fin 128)) :=
  dynamicRotate_apply _ sb v rotates_S8x128_d1 _ _ (fun b => match b with
    | ⟨0, _⟩ => rfl
    | ⟨1, _⟩ => by
      show (k.val + d) % 128 = (if (1 : Fin 2) = (1 : Fin 2) then (k.val + 128 - sb.toNat % 128) % 128 else k.val)
      rw [if_pos rfl]
      congr 1
      omega)

theorem bcastRow_apply (g : FVec Ideal S1x128 .f32) (q : Fin 8) (k : Fin 128) :
    broadcastTo S8x128 g broadcasts_S1x128_S8x128 (ix2 q k) = g (ix2 (0 : Fin 1) k) :=
  broadcastTo_apply _ broadcasts_S1x128_S8x128 (ix2 q k) (ix2 (0 : Fin 1) k) (fun a => match a with
    | ⟨0, _⟩ => by show 0 = (if (1 : Nat) = 1 then 0 else q.val); rw [if_pos rfl]
    | ⟨1, _⟩ => by show k.val = (if (128 : Nat) = 1 then 0 else k.val); rw [if_neg (by decide)])

theorem bcastCol_apply (g : FVec Ideal S8x1 .f32) (q : Fin 8) (k : Fin 128) :
    broadcastTo S8x128 g broadcasts_S8x1_S8x128 (ix2 q k) = g (ix2 q (0 : Fin 1)) :=
  broadcastTo_apply _ broadcasts_S8x1_S8x128 (ix2 q k) (ix2 q (0 : Fin 1)) (fun a => match a with
    | ⟨0, _⟩ => by show q.val = (if (8 : Nat) = 1 then 0 else q.val); rw [if_neg (by decide)]
    | ⟨1, _⟩ => by show 0 = (if (1 : Nat) = 1 then 0 else k.val); rw [if_pos rfl])

/-- The body's sum over a row of 128. -/
theorem rowSum_apply (v : FVec Ideal S8x128 .f32) (q : Fin 8) :
    shapeCast S8x1 (multiReduction .add [1] S8 v 0x00000000#32 reduces_S8x128_S8 (.inl rfl) rfl) shapeCasts_S8_S8x1
      (ix2 q (0 : Fin 1)) = ∑ l : Fin 128, v (ix2 q l) := by
  refine (shapeCast_apply _ shapeCasts_S8_S8x1 _ (ix1 q)
    (by rewrite [Shape.rowMajor_val_one, Shape.rowMajor_val_two]; show q.val = q.val * 1 + 0; omega)).trans ?_
  refine (Ideal.multiReduction_add_single v _ reduces_S8x128_S8 (.inl rfl) rfl (ix1 q)).trans ?_
  refine Finset.sum_congr rfl fun l _ => ?_
  rw [show reduces_S8x128_S8.lift (ix1 q) l = ix2 q l from funext fun a => Fin.ext (by
    match a with | ⟨0, _⟩ => rfl | ⟨1, _⟩ => rfl)]
  rfl

theorem normVec_apply (v : FVec Ideal S8x128 .f32) (g : FVec Ideal S1x128 .f32) (q : Fin 8) (k : Fin 128) :
    normVec v g (ix2 q k) = norm128 (fun l => v (ix2 q l)) (fun l => g (ix2 (0 : Fin 1) l)) k := by
  unfold norm128
  refine congrArg₂ (fun a b : EReal => a * b) (congrArg (fun s : EReal => v (ix2 q k) * s) ?_) (bcastRow_apply g q k)
  refine (bcastCol_apply _ q k).trans ?_
  exact congrArg (fun s : EReal => Ideal.rsqrt (Ideal.div s c128 + eps)) (rowSum_apply (mulf v v) q)

theorem rollVec_apply (v c s : FVec Ideal S8x128 .f32) (q : Fin 8) (k : Fin 128) :
    rollVec v c s (ix2 q k) = (v (ix2 q k) * c (ix2 q k)
      + v (ix2 q (⟨(k.val + 64) % 128, Nat.mod_lt _ (by decide)⟩ : Fin 128)) * s (ix2 q k) : EReal) :=
  congrArg (fun w : EReal => v (ix2 q k) * c (ix2 q k) + w * s (ix2 q k)) (roll_apply v 64#32 64 (by decide) q k)

theorem headVec_apply (x : Vec Ideal S1x8x128 .f32) (c s : Vec Ideal S8x128 .f32) (g : Vec Ideal S1x128 .f32) (q : Fin 8) (k : Fin 128) :
    headVec x c s g (ix2 q k) = (norm128 (fun l => x (ix3 (0 : Fin 1) q l)) (fun l => g (ix2 (0 : Fin 1) l)) k * c (ix2 q k)
      + norm128 (fun l => x (ix3 (0 : Fin 1) q l)) (fun l => g (ix2 (0 : Fin 1) l)) (⟨(k.val + 64) % 128, Nat.mod_lt _ (by decide)⟩ : Fin 128)
        * s (ix2 q k) : EReal) := by
  unfold headVec
  refine (rollVec_apply _ _ _ q k).trans ?_
  rw [normVec_apply, normVec_apply, tab_eq, tab_eq, gainVec_eq]
  simp only [flat_apply]

/-! ## Two heads of 64 lanes -/

/-- The test for the lower half of a head of 64, on a lane number, as the body computes it. -/
def lowBit (b : BitVec 32) : BitVec 1 :=
  let d := Scalar.select (Scalar.cmpi .eq 64#32 0#32) 1#32 64#32
  let r := Scalar.remsi b d
  Scalar.cmpi .slt (Scalar.select (Scalar.andi (Scalar.xori (Scalar.cmpi .slt r 0#32) (Scalar.cmpi .slt d 0#32)) (Scalar.cmpi .ne r 0#32))
    (Scalar.addi r d) r) 32#32

theorem lowBit_eq : ∀ k : Fin 128, lowBit (BitVec.ofNat 32 k.val) = if k.val % 64 < 32 then 1#1 else 0#1 := by decide +kernel

theorem ikBit_eq : ∀ k : Fin 128, Scalar.cmpi .slt (BitVec.ofNat 32 k.val) 64#32 = if k.val < 64 then 1#1 else 0#1 := by decide +kernel

/-- The lane numbers, and the body's test on them. -/
abbrev lanes : IVec S8x128 32 := iota .tc S8x128 32 [1] iota_S8x128_d1_w32
abbrev lowVec : IVec S8x128 1 := k0_pay91 (lanes)
abbrev ikVec : IVec S8x128 1 := k0_pay89 (lanes)

theorem lanes_apply (q : Fin 8) (k : Fin 128) : lanes (ix2 q k) = BitVec.ofNat 32 k.val :=
  iota_single_apply _ _ _ _ iota_S8x128_d1_w32 _

theorem lowVec_apply (q : Fin 8) (k : Fin 128) : lowVec (ix2 q k) = if k.val % 64 < 32 then 1#1 else 0#1 :=
  Eq.trans (b := lowBit (lanes (ix2 q k))) rfl (by rw [lanes_apply]; exact lowBit_eq k)

theorem ikVec_apply (q : Fin 8) (k : Fin 128) : ikVec (ix2 q k) = if k.val < 64 then 1#1 else 0#1 :=
  Eq.trans (b := Scalar.cmpi .slt (lanes (ix2 q k)) 64#32) rfl (by rw [lanes_apply]; exact ikBit_eq k)

/-- The body's rotation of rows of two heads. -/
abbrev pairVec (v c s : FVec Ideal S8x128 .f32) : FVec Ideal S8x128 .f32 :=
  addf (mulf v c) (mulf (select lowVec (dynamicRotate 1 96#32 none v rotates_S8x128_d1)
    (dynamicRotate 1 32#32 none v rotates_S8x128_d1)) s)

/-- The lane that stands with lane `k` in its head of 64. -/
abbrev mate (k : Fin 128) : Fin 128 := ⟨k.val / 64 * 64 + (k.val % 64 + 32) % 64, by have := k.isLt; omega⟩

theorem select_apply (φ : FTy) (b : IVec S8x128 1) (x y : FVec Ideal S8x128 φ) (i : S8x128.Idx) :
    select b x y i = if b i = 1#1 then x i else y i := rfl

theorem pairVec_apply (v c s : FVec Ideal S8x128 .f32) (q : Fin 8) (k : Fin 128) :
    pairVec v c s (ix2 q k) = (v (ix2 q k) * c (ix2 q k) + v (ix2 q (mate k)) * s (ix2 q k) : EReal) := by
  refine congrArg (fun w : EReal => v (ix2 q k) * c (ix2 q k) + w * s (ix2 q k)) ?_
  rw [select_apply, lowVec_apply]
  have hk := k.isLt
  by_cases h : k.val % 64 < 32
  · rw [if_pos h, if_pos rfl, roll_apply v 96#32 32 (by decide)]
    exact congrArg (fun l => v (ix2 q l)) (Fin.ext (by show (k.val + 32) % 128 = k.val / 64 * 64 + (k.val % 64 + 32) % 64; omega))
  · rw [if_neg h, if_neg (by decide), roll_apply v 32#32 96 (by decide)]
    exact congrArg (fun l => v (ix2 q l)) (Fin.ext (by show (k.val + 96) % 128 = k.val / 64 * 64 + (k.val % 64 + 32) % 64; omega))

end Cert.PostSIdeal.Mine

end
-- ==== Proof.PostSBlocks.lean ====
/-
  What a grid point of the rotary and norm step leaves in each of its eight result blocks (sample group), lane by lane, as a
  function of the point's argument blocks. The queries, keys, values and indexer queries are stored head by head, in
  eight stores of 128 lanes; each store is the same function of its lanes (`head_piece`, `pair_piece`, `copy_piece`).
-/
module

public import proofs.«01_k».proof.Proof.PostSRows

@[expose] public section

noncomputable section

namespace Cert.PostSIdeal.Mine

open Cert.PostSIdeal Cert.PostSIdeal.Gen Idealize.ShloMosaic Idealize.ShloMosaic.TcCoe Idealize.SL.Sem
open Idealize.ShloMosaic.ValueIdx Cert.PostMath
open scoped BigOperators

/-- A lane's rotation from its row, its gains, and its cosine and signed sine. -/
def spin (r g : Fin 128 → EReal) (c s : EReal) (k : Fin 128) : EReal :=
  norm128 r g k * c + norm128 r g ⟨(k.val + 64) % 128, Nat.mod_lt _ (by decide)⟩ * s

/-- Lane `l` of the head that holds lane `j`, lane `j` within its head, and the lane that stands with it in its head of 64. -/
abbrev laneOf (j : Fin 1024) (l : Fin 128) : Fin 1024 := ⟨j.val / 128 * 128 + l.val, by have := j.isLt; have := l.isLt; omega⟩
abbrev inHead (j : Fin 1024) : Fin 128 := ⟨j.val % 128, Nat.mod_lt _ (by decide)⟩
abbrev mateOf (j : Fin 1024) : Fin 1024 := ⟨j.val / 64 * 64 + (j.val % 64 + 32) % 64, by have := j.isLt; omega⟩

/-- Lane `j` of row `q` of a block of heads, normed and rotated. -/
def headAt (X : Vec Ideal S1x8x1024 .f32) (c s : Vec Ideal S8x128 .f32) (g : Vec Ideal S1x128 .f32) (q : Fin 8) (j : Fin 1024) : EReal :=
  spin (fun l => X (ix3 (0 : Fin 1) q (laneOf j l))) (fun l => g (ix2 (0 : Fin 1) l)) (c (ix2 q (inHead j))) (s (ix2 q (inHead j))) (inHead j)

/-- Lane `j` of row `q` of a block of heads of 64, rotated. -/
def pairAt (X : Vec Ideal S1x8x1024 .f32) (c s : Vec Ideal S8x128 .f32) (q : Fin 8) (j : Fin 1024) : EReal :=
  X (ix3 (0 : Fin 1) q j) * c (ix2 q (inHead j)) + X (ix3 (0 : Fin 1) q (mateOf j)) * s (ix2 q (inHead j))

abbrev rowOf (y : S1x8x1024.Idx) : Fin 8 := ⟨(y 1).val, (y 1).isLt⟩
abbrev colOf (y : S1x8x1024.Idx) : Fin 1024 := ⟨(y 2).val, (y 2).isLt⟩

section Pieces

variable (X : Vec Ideal S1x8x1024 .f32) (c s : Vec Ideal S8x128 .f32) (g : Vec Ideal S1x128 .f32) (o : Nat) (ho : o % 128 = 0)
  (hin : ∀ a, (![0, 0, o] : Fin 3 → Nat) a + S1x8x128.size a ≤ S1x8x1024.size a) (x : S1x8x128.Idx)

/-- The stored rectangle of the head at lane `o`. -/
abbrev rectAt : Rect S1x8x1024 := Rect.unit (s := S1x8x1024) ![0, 0, o] S1x8x128.size hin

theorem as_ix3 : x = ix3 (0 : Fin 1) (⟨(x 1).val, (x 1).isLt⟩ : Fin 8) (⟨(x 2).val, (x 2).isLt⟩ : Fin 128) :=
  funext fun a => Fin.ext (match a with
    | ⟨0, _⟩ => by have h : (x 0).val < 1 := (x 0).isLt; show (x 0).val = 0; omega
    | ⟨1, _⟩ => rfl
    | ⟨2, _⟩ => rfl)

include ho

theorem head_piece (φ : FTy) (w : FVec Ideal S8x128 φ) (hw : ∀ i, (w i : EReal) = headVec (View.ld X (rectAt o hin)) c s g i) :
    (shapeCast S1x8x128 w shapeCasts_S8x128_S1x8x128 x : EReal)
      = headAt X c s g (rowOf ((rectAt o hin).idx x)) (colOf ((rectAt o hin).idx x)) := by
  have h2 : (x 2).val < 128 := (x 2).isLt
  have hcol : (colOf ((rectAt o hin).idx x)).val = o + (x 2).val := by show o + 1 * (x 2).val = o + (x 2).val; omega
  have hrow : rowOf ((rectAt o hin).idx x) = (⟨(x 1).val, (x 1).isLt⟩ : Fin 8) := Fin.ext (by show 0 + 1 * (x 1).val = (x 1).val; omega)
  have hk : inHead (colOf ((rectAt o hin).idx x)) = (⟨(x 2).val, (x 2).isLt⟩ : Fin 128) := Fin.ext (by
    show (colOf ((rectAt o hin).idx x)).val % 128 = (x 2).val; rw [hcol]; omega)
  have hl : ∀ l : Fin 128, (laneOf (colOf ((rectAt o hin).idx x)) l).val = o + l.val := fun l => by
    show (colOf ((rectAt o hin).idx x)).val / 128 * 128 + l.val = o + l.val; rw [hcol]; omega
  refine (congrArg (shapeCast S1x8x128 w shapeCasts_S8x128_S1x8x128) (as_ix3 x)).trans ?_
  refine (unflat_apply φ w _ _).trans ((hw _).trans ((headVec_apply _ c s g _ _).trans ?_))
  unfold headAt
  rw [hk, hrow]
  refine congrArg (fun r : Fin 128 → EReal => spin r (fun l => g (ix2 (0 : Fin 1) l)) _ _ _) (funext fun l => ?_)
  refine congrArg X (funext fun a => Fin.ext ?_)
  match a with
  | ⟨0, _⟩ => rfl
  | ⟨1, _⟩ => show 0 + 1 * (x 1).val = (x 1).val; omega
  | ⟨2, _⟩ => show o + 1 * l.val = (laneOf (colOf ((rectAt o hin).idx x)) l).val; rw [hl]; omega

theorem pair_piece (φ : FTy) (w : FVec Ideal S8x128 φ) (hw : ∀ i, (w i : EReal) = pairVec (flat (View.ld X (rectAt o hin))) (tab c) (tab s) i) :
    (shapeCast S1x8x128 w shapeCasts_S8x128_S1x8x128 x : EReal)
      = pairAt X c s (rowOf ((rectAt o hin).idx x)) (colOf ((rectAt o hin).idx x)) := by
  have h2 : (x 2).val < 128 := (x 2).isLt
  have hcol : (colOf ((rectAt o hin).idx x)).val = o + (x 2).val := by show o + 1 * (x 2).val = o + (x 2).val; omega
  have hrow : rowOf ((rectAt o hin).idx x) = (⟨(x 1).val, (x 1).isLt⟩ : Fin 8) := Fin.ext (by show 0 + 1 * (x 1).val = (x 1).val; omega)
  have hk : inHead (colOf ((rectAt o hin).idx x)) = (⟨(x 2).val, (x 2).isLt⟩ : Fin 128) := Fin.ext (by
    show (colOf ((rectAt o hin).idx x)).val % 128 = (x 2).val; rw [hcol]; omega)
  refine (congrArg (shapeCast S1x8x128 w shapeCasts_S8x128_S1x8x128) (as_ix3 x)).trans ?_
  refine (unflat_apply φ w _ _).trans ((hw _).trans ((pairVec_apply _ _ _ _ _).trans ?_))
  rw [tab_eq, tab_eq, flat_apply, flat_apply]
  unfold pairAt
  rw [hk, hrow]
  refine congrArg₂ (fun a b : EReal => a * c _ + b * s _) (congrArg X (funext fun a => Fin.ext ?_)) (congrArg X (funext fun a => Fin.ext ?_))
  · match a with
    | ⟨0, _⟩ => rfl
    | ⟨1, _⟩ => show 0 + 1 * (x 1).val = (x 1).val; omega
    | ⟨2, _⟩ => rfl
  · match a with
    | ⟨0, _⟩ => rfl
    | ⟨1, _⟩ => show 0 + 1 * (x 1).val = (x 1).val; omega
    | ⟨2, _⟩ =>
      show o + 1 * ((x 2).val / 64 * 64 + ((x 2).val % 64 + 32) % 64)
        = (colOf ((rectAt o hin).idx x)).val / 64 * 64 + ((colOf ((rectAt o hin).idx x)).val % 64 + 32) % 64
      rw [hcol]; omega

omit ho

theorem copy_piece (φ : FTy) (w : FVec Ideal S8x128 φ) (hw : ∀ i, (w i : EReal) = flat (View.ld X (rectAt o hin)) i) :
    (shapeCast S1x8x128 w shapeCasts_S8x128_S1x8x128 x : EReal)
      = X (ix3 (0 : Fin 1) (rowOf ((rectAt o hin).idx x)) (colOf ((rectAt o hin).idx x))) := by
  refine (congrArg (shapeCast S1x8x128 w shapeCasts_S8x128_S1x8x128) (as_ix3 x)).trans ?_
  refine (unflat_apply φ w _ _).trans ((hw _).trans ((flat_apply _ _ _).trans ?_))
  refine congrArg X (funext fun a => Fin.ext ?_)
  match a with
  | ⟨0, _⟩ => rfl
  | ⟨1, _⟩ => rfl
  | ⟨2, _⟩ => rfl

end Pieces

section Blocks

variable (x0 x1 x2 x3 : Vec Ideal S1x8x1024 .f32) (x4 : Vec Ideal S1x8x128 .f32) (x5 : Vec Ideal S1x8x2048 .f32)
  (x6 x7 x8 x9 : Vec Ideal S8x128 .f32) (x10 x11 x12 : Vec Ideal S1x128 .f32)

/-! ## The four results of eight heads -/

theorem tab_ld (x : Vec Ideal S8x128 .f32) : View.ld x r0_0 = x := View.ld_unit_zero (S := S8x128) z2 _ _
theorem gain_ld (x : Vec Ideal S1x128 .f32) : View.ld x r0_1 = x := View.ld_unit_zero (S := S1x128) z2 _ _
theorem small_ld (x : Vec Ideal S1x8x128 .f32) : View.ld x r0_10 = x := View.ld_unit_zero (S := S1x8x128) z3 _ _

theorem headAt_ld (X : Vec Ideal S1x8x1024 .f32) (c s : Vec Ideal S8x128 .f32) (g : Vec Ideal S1x128 .f32) :
    headAt X (View.ld c r0_0) (View.ld s r0_0) (View.ld g r0_1) = headAt X c s g := by rw [tab_ld, tab_ld, gain_ld]

theorem pairAt_ld (X : Vec Ideal S1x8x1024 .f32) (c s : Vec Ideal S8x128 .f32) :
    pairAt X (View.ld c r0_0) (View.ld s r0_0) = pairAt X c s := by rw [tab_ld, tab_ld]

/-- The queries. -/
theorem out13_apply (q : Fin 8) (j : Fin 1024) :
    (out0_13 x0 x1 x2 x3 x4 x5 x6 x7 x8 x9 x10 x11 x12 (ix3 (0 : Fin 1) q j) : EReal) = headAt x0 x6 x7 x10 q j := by
  rw [← headAt_ld x0 x6 x7 x10]
  refine View.canon_apply_of_pieces (Val := Elt Ideal) (fun y : S1x8x1024.Idx => headAt x0 (View.ld x6 r0_0) (View.ld x7 r0_0) (View.ld x10 r0_1) (rowOf y) (colOf y)) _ ?_ _ (cover0_13 _ _ _ _ _ _ _ _ _)
  intro pc hpc
  rcases List.mem_cons.mp hpc with rfl | hpc
  · exact fun x => (head_piece x0 (View.ld x6 r0_0) (View.ld x7 r0_0) (View.ld x10 r0_1) 896 (by decide) inb_S1x8x1024_S1x8x128_0_0_896 x .bf16 _ fun i => rfl)
  rcases List.mem_cons.mp hpc with rfl | hpc
  · exact fun x => (head_piece x0 (View.ld x6 r0_0) (View.ld x7 r0_0) (View.ld x10 r0_1) 768 (by decide) inb_S1x8x1024_S1x8x128_0_0_768 x .bf16 _ fun i => rfl)
  rcases List.mem_cons.mp hpc with rfl | hpc
  · exact fun x => (head_piece x0 (View.ld x6 r0_0) (View.ld x7 r0_0) (View.ld x10 r0_1) 640 (by decide) inb_S1x8x1024_S1x8x128_0_0_640 x .bf16 _ fun i => rfl)
  rcases List.mem_cons.mp hpc with rfl | hpc
  · exact fun x => (head_piece x0 (View.ld x6 r0_0) (View.ld x7 r0_0) (View.ld x10 r0_1) 512 (by decide) inb_S1x8x1024_S1x8x128_0_0_512 x .bf16 _ fun i => rfl)
  rcases List.mem_cons.mp hpc with rfl | hpc
  · exact fun x => (head_piece x0 (View.ld x6 r0_0) (View.ld x7 r0_0) (View.ld x10 r0_1) 384 (by decide) inb_S1x8x1024_S1x8x128_0_0_384 x .bf16 _ fun i => rfl)
  rcases List.mem_cons.mp hpc with rfl | hpc
  · exact fun x => (head_piece x0 (View.ld x6 r0_0) (View.ld x7 r0_0) (View.ld x10 r0_1) 256 (by decide) inb_S1x8x1024_S1x8x128_0_0_256 x .bf16 _ fun i => rfl)
  rcases List.mem_cons.mp hpc with rfl | hpc
  · exact fun x => (head_piece x0 (View.ld x6 r0_0) (View.ld x7 r0_0) (View.ld x10 r0_1) 128 (by decide) inb_S1x8x1024_S1x8x128_0_0_128 x .bf16 _ fun i => rfl)
  rcases List.mem_cons.mp hpc with rfl | hpc
  · exact fun x => (head_piece x0 (View.ld x6 r0_0) (View.ld x7 r0_0) (View.ld x10 r0_1) 0 (by decide) inb_S1x8x1024_S1x8x128_0_0_0 x .bf16 _ fun i => rfl)
  nomatch hpc

/-- The keys. -/
theorem out14_apply (q : Fin 8) (j : Fin 1024) :
    (out0_14 x0 x1 x2 x3 x4 x5 x6 x7 x8 x9 x10 x11 x12 (ix3 (0 : Fin 1) q j) : EReal) = headAt x1 x6 x7 x11 q j := by
  rw [← headAt_ld x1 x6 x7 x11]
  refine View.canon_apply_of_pieces (Val := Elt Ideal) (fun y : S1x8x1024.Idx => headAt x1 (View.ld x6 r0_0) (View.ld x7 r0_0) (View.ld x11 r0_1) (rowOf y) (colOf y)) _ ?_ _ (cover0_14 _ _ _ _ _ _ _ _ _)
  intro pc hpc
  rcases List.mem_cons.mp hpc with rfl | hpc
  · exact fun x => (head_piece x1 (View.ld x6 r0_0) (View.ld x7 r0_0) (View.ld x11 r0_1) 896 (by decide) inb_S1x8x1024_S1x8x128_0_0_896 x .f32 _ fun i => rfl)
  rcases List.mem_cons.mp hpc with rfl | hpc
  · exact fun x => (head_piece x1 (View.ld x6 r0_0) (View.ld x7 r0_0) (View.ld x11 r0_1) 768 (by decide) inb_S1x8x1024_S1x8x128_0_0_768 x .f32 _ fun i => rfl)
  rcases List.mem_cons.mp hpc with rfl | hpc
  · exact fun x => (head_piece x1 (View.ld x6 r0_0) (View.ld x7 r0_0) (View.ld x11 r0_1) 640 (by decide) inb_S1x8x1024_S1x8x128_0_0_640 x .f32 _ fun i => rfl)
  rcases List.mem_cons.mp hpc with rfl | hpc
  · exact fun x => (head_piece x1 (View.ld x6 r0_0) (View.ld x7 r0_0) (View.ld x11 r0_1) 512 (by decide) inb_S1x8x1024_S1x8x128_0_0_512 x .f32 _ fun i => rfl)
  rcases List.mem_cons.mp hpc with rfl | hpc
  · exact fun x => (head_piece x1 (View.ld x6 r0_0) (View.ld x7 r0_0) (View.ld x11 r0_1) 384 (by decide) inb_S1x8x1024_S1x8x128_0_0_384 x .f32 _ fun i => rfl)
  rcases List.mem_cons.mp hpc with rfl | hpc
  · exact fun x => (head_piece x1 (View.ld x6 r0_0) (View.ld x7 r0_0) (View.ld x11 r0_1) 256 (by decide) inb_S1x8x1024_S1x8x128_0_0_256 x .f32 _ fun i => rfl)
  rcases List.mem_cons.mp hpc with rfl | hpc
  · exact fun x => (head_piece x1 (View.ld x6 r0_0) (View.ld x7 r0_0) (View.ld x11 r0_1) 128 (by decide) inb_S1x8x1024_S1x8x128_0_0_128 x .f32 _ fun i => rfl)
  rcases List.mem_cons.mp hpc with rfl | hpc
  · exact fun x => (head_piece x1 (View.ld x6 r0_0) (View.ld x7 r0_0) (View.ld x11 r0_1) 0 (by decide) inb_S1x8x1024_S1x8x128_0_0_0 x .f32 _ fun i => rfl)
  nomatch hpc

/-- The keys again, for the attention. -/
theorem out15_apply (q : Fin 8) (j : Fin 1024) :
    (out0_15 x0 x1 x2 x3 x4 x5 x6 x7 x8 x9 x10 x11 x12 (ix3 (0 : Fin 1) q j) : EReal) = headAt x1 x6 x7 x11 q j := by
  rw [← headAt_ld x1 x6 x7 x11]
  refine View.canon_apply_of_pieces (Val := Elt Ideal) (fun y : S1x8x1024.Idx => headAt x1 (View.ld x6 r0_0) (View.ld x7 r0_0) (View.ld x11 r0_1) (rowOf y) (colOf y)) _ ?_ _ (cover0_15 _ _ _ _ _ _ _ _ _)
  intro pc hpc
  rcases List.mem_cons.mp hpc with rfl | hpc
  · exact fun x => (head_piece x1 (View.ld x6 r0_0) (View.ld x7 r0_0) (View.ld x11 r0_1) 896 (by decide) inb_S1x8x1024_S1x8x128_0_0_896 x .bf16 _ fun i => rfl)
  rcases List.mem_cons.mp hpc with rfl | hpc
  · exact fun x => (head_piece x1 (View.ld x6 r0_0) (View.ld x7 r0_0) (View.ld x11 r0_1) 768 (by decide) inb_S1x8x1024_S1x8x128_0_0_768 x .bf16 _ fun i => rfl)
  rcases List.mem_cons.mp hpc with rfl | hpc
  · exact fun x => (head_piece x1 (View.ld x6 r0_0) (View.ld x7 r0_0) (View.ld x11 r0_1) 640 (by decide) inb_S1x8x1024_S1x8x128_0_0_640 x .bf16 _ fun i => rfl)
  rcases List.mem_cons.mp hpc with rfl | hpc
  · exact fun x => (head_piece x1 (View.ld x6 r0_0) (View.ld x7 r0_0) (View.ld x11 r0_1) 512 (by decide) inb_S1x8x1024_S1x8x128_0_0_512 x .bf16 _ fun i => rfl)
  rcases List.mem_cons.mp hpc with rfl | hpc
  · exact fun x => (head_piece x1 (View.ld x6 r0_0) (View.ld x7 r0_0) (View.ld x11 r0_1) 384 (by decide) inb_S1x8x1024_S1x8x128_0_0_384 x .bf16 _ fun i => rfl)
  rcases List.mem_cons.mp hpc with rfl | hpc
  · exact fun x => (head_piece x1 (View.ld x6 r0_0) (View.ld x7 r0_0) (View.ld x11 r0_1) 256 (by decide) inb_S1x8x1024_S1x8x128_0_0_256 x .bf16 _ fun i => rfl)
  rcases List.mem_cons.mp hpc with rfl | hpc
  · exact fun x => (head_piece x1 (View.ld x6 r0_0) (View.ld x7 r0_0) (View.ld x11 r0_1) 128 (by decide) inb_S1x8x1024_S1x8x128_0_0_128 x .bf16 _ fun i => rfl)
  rcases List.mem_cons.mp hpc with rfl | hpc
  · exact fun x => (head_piece x1 (View.ld x6 r0_0) (View.ld x7 r0_0) (View.ld x11 r0_1) 0 (by decide) inb_S1x8x1024_S1x8x128_0_0_0 x .bf16 _ fun i => rfl)
  nomatch hpc

/-- Lane `j` of row `q` of a block, as it is. -/
abbrev copyAt (X : Vec Ideal S1x8x1024 .f32) (q : Fin 8) (j : Fin 1024) : EReal := X (ix3 (0 : Fin 1) q j)

/-- The values. -/
theorem out16_apply (q : Fin 8) (j : Fin 1024) :
    (out0_16 x0 x1 x2 x3 x4 x5 x6 x7 x8 x9 x10 x11 x12 (ix3 (0 : Fin 1) q j) : EReal) = copyAt x2 q j := by
  refine View.canon_apply_of_pieces (Val := Elt Ideal) (fun y : S1x8x1024.Idx => copyAt x2 (rowOf y) (colOf y)) _ ?_ _ (cover0_16 _ _ _ _ _ _ _ _ _)
  intro pc hpc
  rcases List.mem_cons.mp hpc with rfl | hpc
  · exact fun x => (copy_piece x2 896 inb_S1x8x1024_S1x8x128_0_0_896 x .bf16 _ fun i => rfl)
  rcases List.mem_cons.mp hpc with rfl | hpc
  · exact fun x => (copy_piece x2 768 inb_S1x8x1024_S1x8x128_0_0_768 x .bf16 _ fun i => rfl)
  rcases List.mem_cons.mp hpc with rfl | hpc
  · exact fun x => (copy_piece x2 640 inb_S1x8x1024_S1x8x128_0_0_640 x .bf16 _ fun i => rfl)
  rcases List.mem_cons.mp hpc with rfl | hpc
  · exact fun x => (copy_piece x2 512 inb_S1x8x1024_S1x8x128_0_0_512 x .bf16 _ fun i => rfl)
  rcases List.mem_cons.mp hpc with rfl | hpc
  · exact fun x => (copy_piece x2 384 inb_S1x8x1024_S1x8x128_0_0_384 x .bf16 _ fun i => rfl)
  rcases List.mem_cons.mp hpc with rfl | hpc
  · exact fun x => (copy_piece x2 256 inb_S1x8x1024_S1x8x128_0_0_256 x .bf16 _ fun i => rfl)
  rcases List.mem_cons.mp hpc with rfl | hpc
  · exact fun x => (copy_piece x2 128 inb_S1x8x1024_S1x8x128_0_0_128 x .bf16 _ fun i => rfl)
  rcases List.mem_cons.mp hpc with rfl | hpc
  · exact fun x => (copy_piece x2 0 inb_S1x8x1024_S1x8x128_0_0_0 x .bf16 _ fun i => rfl)
  nomatch hpc

/-- The indexer queries. -/
theorem out17_apply (q : Fin 8) (j : Fin 1024) :
    (out0_17 x0 x1 x2 x3 x4 x5 x6 x7 x8 x9 x10 x11 x12 (ix3 (0 : Fin 1) q j) : EReal) = pairAt x3 x8 x9 q j := by
  rw [← pairAt_ld x3 x8 x9]
  refine View.canon_apply_of_pieces (Val := Elt Ideal) (fun y : S1x8x1024.Idx => pairAt x3 (View.ld x8 r0_0) (View.ld x9 r0_0) (rowOf y) (colOf y)) _ ?_ _ (cover0_17 _ _ _ _ _ _ _ _ _)
  intro pc hpc
  rcases List.mem_cons.mp hpc with rfl | hpc
  · exact fun x => (pair_piece x3 (View.ld x8 r0_0) (View.ld x9 r0_0) 896 (by decide) inb_S1x8x1024_S1x8x128_0_0_896 x .bf16 _ fun i => rfl)
  rcases List.mem_cons.mp hpc with rfl | hpc
  · exact fun x => (pair_piece x3 (View.ld x8 r0_0) (View.ld x9 r0_0) 768 (by decide) inb_S1x8x1024_S1x8x128_0_0_768 x .bf16 _ fun i => rfl)
  rcases List.mem_cons.mp hpc with rfl | hpc
  · exact fun x => (pair_piece x3 (View.ld x8 r0_0) (View.ld x9 r0_0) 640 (by decide) inb_S1x8x1024_S1x8x128_0_0_640 x .bf16 _ fun i => rfl)
  rcases List.mem_cons.mp hpc with rfl | hpc
  · exact fun x => (pair_piece x3 (View.ld x8 r0_0) (View.ld x9 r0_0) 512 (by decide) inb_S1x8x1024_S1x8x128_0_0_512 x .bf16 _ fun i => rfl)
  rcases List.mem_cons.mp hpc with rfl | hpc
  · exact fun x => (pair_piece x3 (View.ld x8 r0_0) (View.ld x9 r0_0) 384 (by decide) inb_S1x8x1024_S1x8x128_0_0_384 x .bf16 _ fun i => rfl)
  rcases List.mem_cons.mp hpc with rfl | hpc
  · exact fun x => (pair_piece x3 (View.ld x8 r0_0) (View.ld x9 r0_0) 256 (by decide) inb_S1x8x1024_S1x8x128_0_0_256 x .bf16 _ fun i => rfl)
  rcases List.mem_cons.mp hpc with rfl | hpc
  · exact fun x => (pair_piece x3 (View.ld x8 r0_0) (View.ld x9 r0_0) 128 (by decide) inb_S1x8x1024_S1x8x128_0_0_128 x .bf16 _ fun i => rfl)
  rcases List.mem_cons.mp hpc with rfl | hpc
  · exact fun x => (pair_piece x3 (View.ld x8 r0_0) (View.ld x9 r0_0) 0 (by decide) inb_S1x8x1024_S1x8x128_0_0_0 x .bf16 _ fun i => rfl)
  nomatch hpc

/-! ## The indexer key and weights -/

/-- The small block with the weights' lanes cleared. -/
abbrev ikIn (x : Vec Ideal S1x8x128 .f32) : FVec Ideal S8x128 .f32 :=
  select ikVec (flat x) (broadcast S8x128 (Scalar.ofBits .f32 0x00000000#32))

/-- The body's norm of the indexer key. -/
abbrev ikNorm (x : Vec Ideal S1x8x128 .f32) (g : Vec Ideal S1x128 .f32) : FVec Ideal S8x128 .f32 :=
  mulf (mulf (ikIn x) (broadcastTo S8x128 (rsqrt (addf (mulf (shapeCast S8x1 (multiReduction .add [1] S8 (mulf (ikIn x) (ikIn x)) 0x00000000#32
    reduces_S8x128_S8 (.inl rfl) rfl) shapeCasts_S8_S8x1) (broadcast S8x1 (Scalar.ofBits .f32 0x3C800000#32)))
    (broadcast S8x1 (Scalar.ofBits .f32 0x358637BD#32)))) broadcasts_S8x1_S8x128))
    (broadcastTo S8x128 (gainVec g) broadcasts_S1x128_S8x128)

/-- The indexer key rotated, the weights' lanes zero. -/
abbrev ikOut (x : Vec Ideal S1x8x128 .f32) (c s : Vec Ideal S8x128 .f32) (g : Vec Ideal S1x128 .f32) : FVec Ideal S8x128 .f32 :=
  select ikVec (pairVec (ikNorm x g) (tab c) (tab s)) (broadcast S8x128 (Scalar.ofBits .f32 0x00000000#32))

/-- A lane of the lower half, and its row and gains. -/
abbrev up (k : Fin 64) : Fin 128 := ⟨k.val, by have := k.isLt; omega⟩
abbrev ikRow (x : Vec Ideal S1x8x128 .f32) (q : Fin 8) : Fin 64 → EReal := fun l => x (ix3 (0 : Fin 1) q (up l))
abbrev ikGain (g : Vec Ideal S1x128 .f32) : Fin 64 → EReal := fun l => g (ix2 (0 : Fin 1) (up l))

/-- The rotated indexer key at a lane. -/
def ikAt (x : Vec Ideal S1x8x128 .f32) (c s : Vec Ideal S8x128 .f32) (g : Vec Ideal S1x128 .f32) (q : Fin 8) (k : Fin 64) : EReal :=
  norm64 (ikRow x q) (ikGain g) k * c (ix2 q (up k))
    + norm64 (ikRow x q) (ikGain g) ⟨(k.val + 32) % 64, Nat.mod_lt _ (by decide)⟩ * s (ix2 q (up k))

theorem ikIn_low (x : Vec Ideal S1x8x128 .f32) (q : Fin 8) (k : Fin 64) : ikIn x (ix2 q (up k)) = ikRow x q k := by
  show select ikVec _ _ _ = _
  rw [select_apply, ikVec_apply, if_pos (show (up k).val < 64 from k.isLt), if_pos rfl, flat_apply]

theorem ikIn_high (x : Vec Ideal S1x8x128 .f32) (q : Fin 8) (k : Fin 128) (h : ¬ k.val < 64) : (ikIn x (ix2 q k) : EReal) = 0 := by
  show select ikVec _ _ _ = _
  rw [select_apply, ikVec_apply, if_neg h, if_neg (by decide)]
  exact Ideal.ofBits_zero_f32

theorem ikNorm_low (x : Vec Ideal S1x8x128 .f32) (g : Vec Ideal S1x128 .f32) (q : Fin 8) (k : Fin 64) :
    ikNorm x g (ix2 q (up k)) = norm64 (ikRow x q) (ikGain g) k := by
  unfold norm64
  refine congrArg₂ (fun a b : EReal => a * b) (congrArg₂ (fun a b : EReal => a * b) (ikIn_low x q k) ?_)
    ((bcastRow_apply _ q (up k)).trans (by rw [gainVec_eq]))
  refine (bcastCol_apply _ q (up k)).trans ?_
  refine congrArg (fun s : EReal => Ideal.rsqrt (s + eps)) (Eq.trans (congrArg (fun s : EReal => s * inv64) ?_) (mul_inv64 _))
  refine (rowSum_apply (mulf (ikIn x) (ikIn x)) q).trans ?_
  refine sum_lower _ _ (fun l => ?_) (fun l h => ?_)
  · exact congrArg₂ (fun a b : EReal => a * b) (ikIn_low x q l) (ikIn_low x q l)
  · refine (congrArg₂ (fun a b : EReal => a * b) (ikIn_high x q l h) (ikIn_high x q l h)).trans ?_
    exact mul_zero (0 : EReal)

theorem ikOut_low (x : Vec Ideal S1x8x128 .f32) (c s : Vec Ideal S8x128 .f32) (g : Vec Ideal S1x128 .f32) (q : Fin 8) (k : Fin 64) :
    ikOut x c s g (ix2 q (up k)) = ikAt x c s g q k := by
  show select ikVec _ _ _ = _
  rw [select_apply, ikVec_apply, if_pos (show (up k).val < 64 from k.isLt), if_pos rfl]
  have hk := k.isLt
  have e : ikNorm x g (ix2 q (mate (up k))) = norm64 (ikRow x q) (ikGain g) ⟨(k.val + 32) % 64, Nat.mod_lt _ (by decide)⟩ := by
    rw [show mate (up k) = up ⟨(k.val + 32) % 64, Nat.mod_lt _ (by decide)⟩ from Fin.ext (by
      show k.val / 64 * 64 + (k.val % 64 + 32) % 64 = (k.val + 32) % 64; omega)]
    exact ikNorm_low x g q _
  refine (pairVec_apply (ikNorm x g) (tab c) (tab s) q (up k)).trans ?_
  rw [e, ikNorm_low, tab_eq, tab_eq]
  rfl

theorem ikOut_high (x : Vec Ideal S1x8x128 .f32) (c s : Vec Ideal S8x128 .f32) (g : Vec Ideal S1x128 .f32) (q : Fin 8) (k : Fin 128)
    (h : ¬ k.val < 64) : (ikOut x c s g (ix2 q k) : EReal) = 0 := by
  show select ikVec _ _ _ = _
  rw [select_apply, ikVec_apply, if_neg h, if_neg (by decide)]
  exact Ideal.ofBits_zero_f32

/-- The stored row: the rotated key below, a quarter of the weights above. -/
def smallAt (x : Vec Ideal S1x8x128 .f32) (c s : Vec Ideal S8x128 .f32) (g : Vec Ideal S1x128 .f32) (q : Fin 8) (k : Fin 128) : EReal :=
  if h : k.val < 64 then ikAt x c s g q ⟨k.val, h⟩ else x (ix3 (0 : Fin 1) q k) * quarter

theorem out18_apply (q : Fin 8) (k : Fin 128) :
    (out0_18 x0 x1 x2 x3 x4 x5 x6 x7 x8 x9 x10 x11 x12 (ix3 (0 : Fin 1) q k) : EReal) = smallAt x4 x8 x9 x12 q k := by
  refine (congrFun (View.canon_unit_zero (S := S1x8x128) z3 _ _) _).trans ?_
  refine Eq.trans (b := shapeCast S1x8x128 (select ikVec (ikOut (View.ld x4 r0_10) (View.ld x8 r0_0) (View.ld x9 r0_0) (View.ld x12 r0_1))
    (mulf (flat (View.ld x4 r0_10)) (broadcast S8x128 (Scalar.ofBits .f32 0x3E800000#32)))) shapeCasts_S8x128_S1x8x128 (ix3 (0 : Fin 1) q k)) rfl ?_
  rw [unflat_apply, small_ld, tab_ld, tab_ld, gain_ld, select_apply, ikVec_apply]
  unfold smallAt
  by_cases h : k.val < 64
  · rw [if_pos h, if_pos rfl, dif_pos h]
    exact ikOut_low x4 x8 x9 x12 q ⟨k.val, h⟩
  · rw [if_neg h, if_neg (by decide), dif_neg h]
    exact congrArg (fun w : EReal => w * quarter) (flat_apply x4 q k)

theorem out19_apply (q : Fin 8) (k : Fin 128) :
    (out0_19 x0 x1 x2 x3 x4 x5 x6 x7 x8 x9 x10 x11 x12 (ix3 (0 : Fin 1) q k) : EReal)
      = ikAt x4 x8 x9 x12 q ⟨k.val % 64, Nat.mod_lt _ (by decide)⟩ := by
  refine (congrFun (View.canon_unit_zero (S := S1x8x128) z3 _ _) _).trans ?_
  refine Eq.trans (b := shapeCast S1x8x128 (truncf .bf16 (addf (ikOut (View.ld x4 r0_10) (View.ld x8 r0_0) (View.ld x9 r0_0) (View.ld x12 r0_1))
    (dynamicRotate 1 64#32 none (ikOut (View.ld x4 r0_10) (View.ld x8 r0_0) (View.ld x9 r0_0) (View.ld x12 r0_1)) rotates_S8x128_d1))
    bitsLt_bf16_f32) shapeCasts_S8x128_S1x8x128 (ix3 (0 : Fin 1) q k)) rfl ?_
  refine (unflat_apply .bf16 _ q k).trans ?_
  rw [small_ld, tab_ld, tab_ld, gain_ld]
  refine (congrArg (fun w : EReal => ikOut x4 x8 x9 x12 (ix2 q k) + w) (roll_apply _ 64#32 64 (by decide) q k)).trans ?_
  have hk := k.isLt
  by_cases h : k.val < 64
  · refine (congrArg₂ (fun a b : EReal => a + b) (ikOut_low x4 x8 x9 x12 q ⟨k.val, h⟩)
      (ikOut_high x4 x8 x9 x12 q ⟨(k.val + 64) % 128, Nat.mod_lt _ (by decide)⟩ (by show ¬ (k.val + 64) % 128 < 64; omega))).trans ?_
    refine (add_zero (ikAt x4 x8 x9 x12 q ⟨k.val, h⟩)).trans (congrArg (ikAt x4 x8 x9 x12 q) (Fin.ext ?_))
    show k.val = k.val % 64
    omega
  · refine (congrArg₂ (fun a b : EReal => a + b) (ikOut_high x4 x8 x9 x12 q k h)
      (Eq.trans (congrArg (fun l => ikOut x4 x8 x9 x12 (ix2 q l)) (Fin.ext ?_))
        (ikOut_low x4 x8 x9 x12 q ⟨k.val % 64, Nat.mod_lt _ (by decide)⟩))).trans (zero_add _)
    show (k.val + 64) % 128 = k.val % 64
    omega

/-! ## The gated convolution input -/

theorem out20_apply (q : Fin 8) (j : Fin 1024) :
    (out0_20 x0 x1 x2 x3 x4 x5 x6 x7 x8 x9 x10 x11 x12 (ix3 (0 : Fin 1) q j) : EReal)
      = x5 (ix3 (0 : Fin 1) q (⟨j.val, by have := j.isLt; omega⟩ : Fin 2048))
        * Ideal.logistic (x5 (ix3 (0 : Fin 1) q (⟨1024 + j.val, by have := j.isLt; omega⟩ : Fin 2048))) := by
  refine (Value.canon20_eq (View.ld x5 r0_11) (View.ld x5 r0_12) _).trans ?_
  refine congrArg₂ (fun a b : EReal => a * Ideal.logistic b) (congrArg x5 (funext fun a => Fin.ext ?_)) (congrArg x5 (funext fun a => Fin.ext ?_))
  · match a with
    | ⟨0, _⟩ => rfl
    | ⟨1, _⟩ => show 0 + 1 * q.val = q.val; omega
    | ⟨2, _⟩ => show 0 + 1 * j.val = j.val; omega
  · match a with
    | ⟨0, _⟩ => rfl
    | ⟨1, _⟩ => show 0 + 1 * q.val = q.val; omega
    | ⟨2, _⟩ => show 1024 + 1 * j.val = 1024 + j.val; omega

end Blocks

end Cert.PostSIdeal.Mine

end
-- ==== Proof.PostSHost.lean ====
/-
  What the host prepares for the mixer's preparation call (sample group): the cosine and signed sine tables, one row per
  position, and the gains. Each is read here at an element.
-/
module

public import proofs.«01_k».proof.Proof.PostSBlocks
public import Idealize.ShloMosaic.Lib.StableHlo.Run
public import Idealize.ShloMosaic.Lib.Routing.OpsOrder

@[expose] public section

noncomputable section

namespace Cert.PostSIdeal.Mine

open Cert.PostSIdeal Cert.PostSIdeal.Gen Cert.PostMath Idealize.ShloMosaic Idealize.ShloMosaic.TcCoe Idealize.SL.Sem
open Idealize.ShloMosaic.ValueIdx
open scoped BigOperators

variable (m : (ℓ : Loc nD τ sig) → Buf (Elt Ideal) ℓ)

/-- The position of row `p`. -/
abbrev posW (p : Nat) : BitVec 32 := 16384#32 + BitVec.ofNat 32 p

/-- The positions, as the host lays them out. -/
abbrev posVec : IVec S8 32 := addi (broadcastInDim S8 ![] bcast_S_S8 (constantI S_ 32 16384#32)) (iotaInDim S8 32 0)

/-! ## Layouts -/

/-- A column spread over lanes. -/
theorem rows64_apply (v : FVec Ideal S8 .f32) (p : Fin 8) (l : Fin 64) :
    broadcastInDim S8x64 ![0, 1] bcast_S8x1_S8x64_0_1 (broadcastInDim S8x1 ![0] bcast_S8_S8x1_0 v) (ix2 p l) = v (ix1 p) :=
  (broadcastInDim_apply _ bcast_S8x1_S8x64_0_1 _ (ix2 p l) (ix2 p (0 : Fin 1)) (fun a => match a with
    | ⟨0, _⟩ => by show p.val = if (8 : Nat) = 1 then 0 else p.val; rw [if_neg (by decide)]
    | ⟨1, _⟩ => rfl)).trans
  (broadcastInDim_apply _ bcast_S8_S8x1_0 v _ (ix1 p) (fun a => match a with
    | ⟨0, _⟩ => by show p.val = if (8 : Nat) = 1 then 0 else p.val; rw [if_neg (by decide)]))

theorem lanes64_apply (v : FVec Ideal S64 .f32) (p : Fin 8) (l : Fin 64) :
    broadcastInDim S8x64 ![0, 1] bcast_S1x64_S8x64_0_1 (broadcastInDim S1x64 ![1] bcast_S64_S1x64_1 v) (ix2 p l) = v (ix1 l) :=
  (broadcastInDim_apply _ bcast_S1x64_S8x64_0_1 _ (ix2 p l) (ix2 (0 : Fin 1) l) (fun a => match a with
    | ⟨0, _⟩ => rfl
    | ⟨1, _⟩ => by show l.val = if (64 : Nat) = 1 then 0 else l.val; rw [if_neg (by decide)])).trans
  (broadcastInDim_apply _ bcast_S64_S1x64_1 v _ (ix1 l) (fun a => match a with
    | ⟨0, _⟩ => by show l.val = if (64 : Nat) = 1 then 0 else l.val; rw [if_neg (by decide)]))

theorem rows32_apply (v : FVec Ideal S8 .f32) (p : Fin 8) (l : Fin 32) :
    broadcastInDim S8x32 ![0, 1] bcast_S8x1_S8x32_0_1 (broadcastInDim S8x1 ![0] bcast_S8_S8x1_0 v) (ix2 p l) = v (ix1 p) :=
  (broadcastInDim_apply _ bcast_S8x1_S8x32_0_1 _ (ix2 p l) (ix2 p (0 : Fin 1)) (fun a => match a with
    | ⟨0, _⟩ => by show p.val = if (8 : Nat) = 1 then 0 else p.val; rw [if_neg (by decide)]
    | ⟨1, _⟩ => rfl)).trans
  (broadcastInDim_apply _ bcast_S8_S8x1_0 v _ (ix1 p) (fun a => match a with
    | ⟨0, _⟩ => by show p.val = if (8 : Nat) = 1 then 0 else p.val; rw [if_neg (by decide)]))

theorem lanes32_apply (v : FVec Ideal S32 .f32) (p : Fin 8) (l : Fin 32) :
    broadcastInDim S8x32 ![0, 1] bcast_S1x32_S8x32_0_1 (broadcastInDim S1x32 ![1] bcast_S32_S1x32_1 v) (ix2 p l) = v (ix1 l) :=
  (broadcastInDim_apply _ bcast_S1x32_S8x32_0_1 _ (ix2 p l) (ix2 (0 : Fin 1) l) (fun a => match a with
    | ⟨0, _⟩ => rfl
    | ⟨1, _⟩ => by show l.val = if (32 : Nat) = 1 then 0 else l.val; rw [if_neg (by decide)])).trans
  (broadcastInDim_apply _ bcast_S32_S1x32_1 v _ (ix1 l) (fun a => match a with
    | ⟨0, _⟩ => by show l.val = if (32 : Nat) = 1 then 0 else l.val; rw [if_neg (by decide)]))

/-- Two halves of lanes side by side. -/
def catA (a b : FVec Ideal S8x64 .f32) : FVec Ideal S8x128 .f32 :=
  concatenate S8x128 1 [⟨S8x64, a⟩, ⟨S8x64, b⟩] concatenates_S8x64_S8x64_S8x128_d1

theorem catA_apply (a b : FVec Ideal S8x64 .f32) (p : Fin 8) (k : Fin 128) : catA a b (ix2 p k)
    = if h : k.val < 64 then a (ix2 p ⟨k.val, h⟩) else b (ix2 p ⟨k.val - 64, by have := k.isLt; omega⟩) := by
  unfold catA
  by_cases h : k.val < 64
  · rw [dif_pos h]
    exact concatenate_pair_apply_left (t := S8x128) 1 a b _ _ rfl (ix2 p ⟨k.val, h⟩) (fun b => match b with
      | ⟨0, _⟩ => rfl
      | ⟨1, _⟩ => rfl)
  · rw [dif_neg h]
    exact concatenate_pair_apply_right (t := S8x128) 1 a b _ _ rfl rfl (ix2 p ⟨k.val - 64, by have := k.isLt; omega⟩) (fun b hb => match b, hb with
      | ⟨0, _⟩, _ => rfl
      | ⟨1, _⟩, hb => absurd rfl hb) (by show k.val - 64 + 64 = k.val; omega)

def catB (a b : FVec Ideal S8x32 .f32) : FVec Ideal S8x64 .f32 :=
  concatenate S8x64 1 [⟨S8x32, a⟩, ⟨S8x32, b⟩] concatenates_S8x32_S8x32_S8x64_d1

theorem catB_apply (a b : FVec Ideal S8x32 .f32) (p : Fin 8) (k : Fin 64) : catB a b (ix2 p k)
    = if h : k.val < 32 then a (ix2 p ⟨k.val, h⟩) else b (ix2 p ⟨k.val - 32, by have := k.isLt; omega⟩) := by
  unfold catB
  by_cases h : k.val < 32
  · rw [dif_pos h]
    exact concatenate_pair_apply_left (t := S8x64) 1 a b _ _ rfl (ix2 p ⟨k.val, h⟩) (fun b => match b with
      | ⟨0, _⟩ => rfl
      | ⟨1, _⟩ => rfl)
  · rw [dif_neg h]
    exact concatenate_pair_apply_right (t := S8x64) 1 a b _ _ rfl rfl (ix2 p ⟨k.val - 32, by have := k.isLt; omega⟩) (fun b hb => match b, hb with
      | ⟨0, _⟩, _ => rfl
      | ⟨1, _⟩, hb => absurd rfl hb) (by show k.val - 32 + 32 = k.val; omega)

/-- The table of 128 lanes passes through its four-dimensional form unchanged. -/
def wideA (x : FVec Ideal S8x128 .f32) : FVec Ideal S8x128 .f32 :=
  shapeCast S8x128 (broadcastInDim S1x8x1x128 ![0, 1, 2, 3] bcast_S1x8x1x128_S1x8x1x128_0_1_2_3
    (shapeCast S1x8x1x128 x shapeCasts_S8x128_S1x8x1x128)) shapeCasts_S1x8x1x128_S8x128

theorem wideA_apply (x : FVec Ideal S8x128 .f32) (p : Fin 8) (k : Fin 128) : wideA x (ix2 p k) = x (ix2 p k) := by
  have hk := k.isLt
  refine (shapeCast_apply _ shapeCasts_S1x8x1x128_S8x128 _ (ix4 (0 : Fin 1) p (0 : Fin 1) k) (by
    rewrite [Shape.rowMajor_val_four, Shape.rowMajor_val_two]; show ((0 * 8 + p.val) * 1 + 0) * 128 + k.val = p.val * 128 + k.val; omega)).trans ?_
  refine (broadcastInDim_apply _ bcast_S1x8x1x128_S1x8x1x128_0_1_2_3 _ _ (ix4 (0 : Fin 1) p (0 : Fin 1) k) (fun a => match a with
    | ⟨0, _⟩ => rfl
    | ⟨1, _⟩ => by show p.val = if (8 : Nat) = 1 then 0 else p.val; rw [if_neg (by decide)]
    | ⟨2, _⟩ => rfl
    | ⟨3, _⟩ => by show k.val = if (128 : Nat) = 1 then 0 else k.val; rw [if_neg (by decide)])).trans ?_
  exact shapeCast_apply _ shapeCasts_S8x128_S1x8x1x128 _ (ix2 p k) (by
    rewrite [Shape.rowMajor_val_four, Shape.rowMajor_val_two]; show p.val * 128 + k.val = ((0 * 8 + p.val) * 1 + 0) * 128 + k.val; omega)

/-- The table of 64 lanes is laid twice over 128. -/
def wideB (x : FVec Ideal S8x64 .f32) : FVec Ideal S8x128 .f32 :=
  shapeCast S8x128 (broadcastInDim S1x8x2x64 ![0, 1, 2, 3] bcast_S1x8x1x64_S1x8x2x64_0_1_2_3
    (shapeCast S1x8x1x64 x shapeCasts_S8x64_S1x8x1x64)) shapeCasts_S1x8x2x64_S8x128

theorem wideB_apply (x : FVec Ideal S8x64 .f32) (p : Fin 8) (k : Fin 128) :
    wideB x (ix2 p k) = x (ix2 p (⟨k.val % 64, Nat.mod_lt _ (by decide)⟩ : Fin 64)) := by
  have hk := k.isLt
  refine (shapeCast_apply _ shapeCasts_S1x8x2x64_S8x128 _
    (ix4 (0 : Fin 1) p (⟨k.val / 64, by omega⟩ : Fin 2) (⟨k.val % 64, Nat.mod_lt _ (by decide)⟩ : Fin 64)) (by
    rewrite [Shape.rowMajor_val_four, Shape.rowMajor_val_two]
    show ((0 * 8 + p.val) * 2 + k.val / 64) * 64 + k.val % 64 = p.val * 128 + k.val; omega)).trans ?_
  refine (broadcastInDim_apply _ bcast_S1x8x1x64_S1x8x2x64_0_1_2_3 _ _
    (ix4 (0 : Fin 1) p (0 : Fin 1) (⟨k.val % 64, Nat.mod_lt _ (by decide)⟩ : Fin 64)) (fun a => match a with
    | ⟨0, _⟩ => rfl
    | ⟨1, _⟩ => by show p.val = if (8 : Nat) = 1 then 0 else p.val; rw [if_neg (by decide)]
    | ⟨2, _⟩ => rfl
    | ⟨3, _⟩ => by show k.val % 64 = if (64 : Nat) = 1 then 0 else k.val % 64; rw [if_neg (by decide)])).trans ?_
  exact shapeCast_apply _ shapeCasts_S8x64_S1x8x1x64 _ (ix2 p (⟨k.val % 64, Nat.mod_lt _ (by decide)⟩ : Fin 64)) (by
    rewrite [Shape.rowMajor_val_four, Shape.rowMajor_val_two]; show p.val * 64 + k.val % 64 = ((0 * 8 + p.val) * 1 + 0) * 64 + k.val % 64; omega)

/-! ## The tables -/

/-- The angles of the rotation by 64 lanes, as the host computes them. -/
def angA : FVec Ideal S8x64 .f32 :=
  mulf (broadcastInDim S8x64 ![0, 1] bcast_S8x1_S8x64_0_1 (broadcastInDim S8x1 ![0] bcast_S8_S8x1_0 (sitofp .f32 posVec)))
    (broadcastInDim S8x64 ![0, 1] bcast_S1x64_S8x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

theorem angA_apply (p : Fin 8) (l : Fin 64) : (angA (ix2 p l) : EReal) = ang c64 (posW p.val) l.val :=
  congrArg₂ (fun a b : EReal => a * b) ((rows64_apply _ p l).trans rfl) ((lanes64_apply _ p l).trans rfl)

/-- The angles of the rotation by 32 lanes, as the host computes them. -/
def angB : FVec Ideal S8x32 .f32 :=
  mulf (broadcastInDim S8x32 ![0, 1] bcast_S8x1_S8x32_0_1 (broadcastInDim S8x1 ![0] bcast_S8_S8x1_0 (sitofp .f32 posVec)))
    (broadcastInDim S8x32 ![0, 1] bcast_S1x32_S8x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angB_apply (p : Fin 8) (l : Fin 32) : (angB (ix2 p l) : EReal) = ang c32 (posW p.val) l.val :=
  congrArg₂ (fun a b : EReal => a * b) ((rows32_apply _ p l).trans rfl) ((lanes32_apply _ p l).trans rfl)

theorem cosA_eq (c : Dev nD) : V m c main_v24 = wideA (catA (Host.cos angA) (Host.cos angA)) := by
  unfold V
  after_results <;> rfl

theorem sinA_eq (c : Dev nD) : V m c main_v27 = wideA (catA (Host.negf (Host.sin angA)) (Host.sin angA)) := by
  unfold V
  after_results <;> rfl

theorem cosB_eq (c : Dev nD) : V m c main_v49 = wideB (catB (Host.cos angB) (Host.cos angB)) := by
  unfold V
  after_results <;> rfl

theorem sinB_eq (c : Dev nD) : V m c main_v52 = wideB (catB (Host.negf (Host.sin angB)) (Host.sin angB)) := by
  unfold V
  after_results <;> rfl

theorem cosA_at (c : Dev nD) (p : Fin 8) (k : Fin 128) : (V m c main_v24 : FVec Ideal S8x128 .f32) (ix2 p k) = tabC (posW p.val) k.val := by
  rw [cosA_eq, wideA_apply, catA_apply]
  unfold tabC
  have hk := k.isLt
  by_cases h : k.val < 64
  · rw [dif_pos h, Nat.mod_eq_of_lt h]
    exact congrArg Ideal.cos (angA_apply p _)
  · rw [dif_neg h, show k.val % 64 = k.val - 64 by omega]
    exact congrArg Ideal.cos (angA_apply p _)

theorem sinA_at (c : Dev nD) (p : Fin 8) (k : Fin 128) : (V m c main_v27 : FVec Ideal S8x128 .f32) (ix2 p k) = tabS (posW p.val) k.val := by
  rw [sinA_eq, wideA_apply, catA_apply]
  unfold tabS
  by_cases h : k.val < 64
  · rw [dif_pos h, if_pos h]
    exact congrArg (fun a : EReal => -(Ideal.sin a)) (angA_apply p _)
  · rw [dif_neg h, if_neg h]
    exact congrArg Ideal.sin (angA_apply p _)

theorem cosB_at (c : Dev nD) (p : Fin 8) (k : Fin 128) : (V m c main_v49 : FVec Ideal S8x128 .f32) (ix2 p k) = tabc (posW p.val) k.val := by
  rw [cosB_eq, wideB_apply, catB_apply]
  unfold tabc
  by_cases h : k.val % 64 < 32
  · rw [dif_pos h, show k.val % 32 = k.val % 64 by omega]
    exact congrArg Ideal.cos (angB_apply p _)
  · rw [dif_neg h, show k.val % 32 = k.val % 64 - 32 by omega]
    exact congrArg Ideal.cos (angB_apply p _)

theorem sinB_at (c : Dev nD) (p : Fin 8) (k : Fin 128) : (V m c main_v52 : FVec Ideal S8x128 .f32) (ix2 p k) = tabs (posW p.val) k.val := by
  rw [sinB_eq, wideB_apply, catB_apply]
  unfold tabs
  by_cases h : k.val % 64 < 32
  · rw [dif_pos h, if_pos h]
    exact congrArg (fun a : EReal => -(Ideal.sin a)) (angB_apply p _)
  · rw [dif_neg h, if_neg h]
    exact congrArg Ideal.sin (angB_apply p _)

/-! ## The gains -/

theorem qg_eq (c : Dev nD) : V m c main_v58 = shapeCast S1x128 (m ((c : Thread nD τ).loc main_arg3)) shapeCasts_S128_S1x128 := by
  unfold V
  after_results <;> rfl

theorem kg_eq (c : Dev nD) : V m c main_v59 = shapeCast S1x128 (m ((c : Thread nD τ).loc main_arg4)) shapeCasts_S128_S1x128 := by
  unfold V
  after_results <;> rfl

theorem row_of (g : FVec Ideal S128 .f32) (k : Fin 128) : shapeCast S1x128 g shapeCasts_S128_S1x128 (ix2 (0 : Fin 1) k) = g (ix1 k) :=
  shapeCast_apply _ shapeCasts_S128_S1x128 _ (ix1 k) (by
    rewrite [Shape.rowMajor_val_one, Shape.rowMajor_val_two]; show k.val = 0 * 128 + k.val; omega)

/-- The start of the written row: its place 0, lane 0. -/
abbrev origin : IVec S2 32 := fun _ => 0#32

theorem origin_eq : concatenate S2 0 [⟨S1, broadcastInDim S1 ![] bcast_S_S1 (constantI S_ 32 0#32)⟩,
    ⟨S1, broadcastInDim S1 ![] bcast_S_S1 (constantI S_ 32 0#32)⟩] concatenates_S1_S1_S2_d0 = origin := by
  funext i
  have hi : (i 0).val < 2 := (i 0).isLt
  by_cases h : (i 0).val < 1
  · exact (concatenate_pair_apply_left (t := S2) (s₁ := S1) (s₂ := S1) (0 : Fin 1) _ _ concatenates_S1_S1_S2_d0 i rfl (ix1 (0 : Fin 1))
      (fun b => match b with | ⟨0, _⟩ => by show 0 = (i 0).val; omega)).trans rfl
  · exact (concatenate_pair_apply_right (t := S2) (s₁ := S1) (s₂ := S1) (0 : Fin 1) _ _ concatenates_S1_S1_S2_d0 i rfl rfl (ix1 (0 : Fin 1))
      (fun b hb => match b, hb with | ⟨0, _⟩, hb => absurd rfl hb) (by show 0 + 1 = (i 0).val; omega)).trans rfl

theorem lands : ∀ n : Fin 64, scatter_S1x128_S2_S64_0_0_01_0.resultIdx? (S64.rowMajor.symm n) origin = some (ix2 (0 : Fin 1) (up n)) := by
  decide +kernel

theorem symm64 (n : Fin 64) : S64.rowMajor.symm n = ix1 n :=
  (Equiv.symm_apply_eq S64.rowMajor).mpr (Fin.ext (Shape.rowMajor_val_one (ix1 n : S64.Idx)).symm)

theorem same_lane (n k : Fin 64) : some (ix2 (0 : Fin 1) (up n) : S1x128.Idx) = some (ix2 (0 : Fin 1) (up k)) ↔ n = k :=
  ⟨fun e => Fin.ext (congrArg (fun i : S1x128.Idx => (i 1).val) (Option.some.inj e)), fun e => by rw [e]⟩

theorem pick (n k : Fin 64) (x a : EReal) [Decidable (some (ix2 (0 : Fin 1) (up n) : S1x128.Idx) = some (ix2 (0 : Fin 1) (up k)))] :
    (if some (ix2 (0 : Fin 1) (up n) : S1x128.Idx) = some (ix2 (0 : Fin 1) (up k)) then x else a) = if n = k then x else a :=
  if_congr (same_lane n k) rfl rfl

/-- The row of zeros with the gains of 64 written over its first lanes, at one of those lanes. -/
theorem padded_apply (z : FVec Ideal S1x128 .f32) (u : FVec Ideal S64 .f32) (k : Fin 64) :
    Host.scatter scatter_S1x128_S2_S64_0_0_01_0 (fun _ b => b) z origin u (ix2 (0 : Fin 1) (up k)) = u (ix1 k) := by
  refine (Routing.scatterIn_at (u := S64) (List.finRange 64) scatter_S1x128_S2_S64_0_0_01_0 (fun _ b => b) z origin u (ix2 (0 : Fin 1) (up k))).trans ?_
  refine Eq.trans (congrArg (fun f => List.foldl f (z (ix2 (0 : Fin 1) (up k))) (List.finRange 64))
    (funext fun a => funext fun n => ?_)) (foldl_set (fun n : Fin 64 => u (ix1 n)) k (List.finRange 64) _ (List.mem_finRange k))
  rw [lands n, symm64 n]
  exact pick n k _ _

theorem ikg_eq (c : Dev nD) : V m c main_v57 = Host.scatter scatter_S1x128_S2_S64_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0)
    (m ((c : Thread nD τ).loc main_arg5)) := by
  unfold V
  after_results <;> rfl

theorem qg_at (c : Dev nD) (k : Fin 128) : (V m c main_v58 : FVec Ideal S1x128 .f32) (ix2 (0 : Fin 1) k)
    = (m ((c : Thread nD τ).loc main_arg3) : S128.Idx → EReal) (ix1 k) := by
  rw [qg_eq]; exact row_of _ k

theorem kg_at (c : Dev nD) (k : Fin 128) : (V m c main_v59 : FVec Ideal S1x128 .f32) (ix2 (0 : Fin 1) k)
    = (m ((c : Thread nD τ).loc main_arg4) : S128.Idx → EReal) (ix1 k) := by
  rw [kg_eq]; exact row_of _ k

theorem ikg_at (c : Dev nD) (k : Fin 64) : (V m c main_v57 : FVec Ideal S1x128 .f32) (ix2 (0 : Fin 1) (up k))
    = (m ((c : Thread nD τ).loc main_arg5) : S64.Idx → EReal) (ix1 k) := by
  rw [ikg_eq, origin_eq]; exact padded_apply _ _ k

end Cert.PostSIdeal.Mine

end
-- ==== Proof.PostSSpec.lean ====
/-
  The eight arrays the mixer's preparation call makes (sample group), as functions of its arguments, element by element: the
  queries and keys normed and rotated, the values, the indexer's queries rotated, its key normed and rotated beside its
  weights, that key twice, and the gated linear unit.
-/
module

public import proofs.«01_k».proof.Proof.PostSHost

@[expose] public section

noncomputable section

namespace Cert.PostSIdeal.Mine

open Cert.PostSIdeal Cert.PostSIdeal.Gen Cert.PostMath Idealize.ShloMosaic
open Idealize.ShloMosaic.ValueIdx
open scoped BigOperators

/-- Lane `j` of part `w` of the wide rows. -/
abbrev col (w : Fin 4) (j : Fin 1024) : Fin 4096 := ⟨w.val * 1024 + j.val, by have := w.isLt; have := j.isLt; omega⟩

/-- Lane `l` of the head of 64 that holds lane `j`. -/
abbrev pairLane (j : Fin 1024) (l : Fin 64) : Fin 1024 := ⟨j.val / 64 * 64 + l.val, by have := j.isLt; have := l.isLt; omega⟩

/-- Part `w`, normed head by head and rotated. -/
def headVal (w : Fin 4) (X : S8x8x4096.Idx → EReal) (g : S128.Idx → EReal) (b : Fin 8) (p : Fin 8) (j : Fin 1024) : EReal :=
  turn128 (norm128 (fun l => X (ix3 b p (col w (laneOf j l)))) (fun l => g (ix1 l))) (posW p.val) (inHead j)

/-- Part 2 as it stands. -/
def copyVal (X : S8x8x4096.Idx → EReal) (b : Fin 8) (p : Fin 8) (j : Fin 1024) : EReal := X (ix3 b p (col 2 j))

/-- Part 3, rotated by heads of 64. -/
def pairVal (X : S8x8x4096.Idx → EReal) (b : Fin 8) (p : Fin 8) (j : Fin 1024) : EReal :=
  turn64 (fun l => X (ix3 b p (col 3 (pairLane j l)))) (posW p.val) ⟨j.val % 64, Nat.mod_lt _ (by decide)⟩

/-- The indexer's key, normed and rotated. -/
def ikVal (Y : S8x8x128.Idx → EReal) (g : S64.Idx → EReal) (b : Fin 8) (p : Fin 8) (k : Fin 64) : EReal :=
  turn64 (norm64 (fun l => Y (ix3 b p (up l))) (fun l => g (ix1 l))) (posW p.val) k

/-- The key, then the indexer's weights times a quarter. -/
def smallVal (Y : S8x8x128.Idx → EReal) (g : S64.Idx → EReal) (b : Fin 8) (p : Fin 8) (k : Fin 128) : EReal :=
  if h : k.val < 64 then ikVal Y g b p ⟨k.val, h⟩ else Y (ix3 b p k) * quarter

/-- The key twice. -/
def twiceVal (Y : S8x8x128.Idx → EReal) (g : S64.Idx → EReal) (b : Fin 8) (p : Fin 8) (k : Fin 128) : EReal :=
  ikVal Y g b p ⟨k.val % 64, Nat.mod_lt _ (by decide)⟩

/-- The gated linear unit. -/
def gluVal (U : S8x8x2048.Idx → EReal) (b : Fin 8) (p : Fin 8) (j : Fin 1024) : EReal :=
  U (ix3 b p (⟨j.val, by have := j.isLt; omega⟩ : Fin 2048))
    * Ideal.logistic (U (ix3 b p (⟨1024 + j.val, by have := j.isLt; omega⟩ : Fin 2048)))

/-- A function of sequence, position and lane, as an array. -/
def arrA (f : Fin 8 → Fin 8 → Fin 1024 → EReal) : S8x8x1024.Idx → EReal := fun i =>
  f ⟨(i 0).val, (i 0).isLt⟩ ⟨(i 1).val, (i 1).isLt⟩ ⟨(i 2).val, (i 2).isLt⟩

def arrB (f : Fin 8 → Fin 8 → Fin 128 → EReal) : S8x8x128.Idx → EReal := fun i =>
  f ⟨(i 0).val, (i 0).isLt⟩ ⟨(i 1).val, (i 1).isLt⟩ ⟨(i 2).val, (i 2).isLt⟩

theorem arrA_ext (v : S8x8x1024.Idx → EReal) (f : Fin 8 → Fin 8 → Fin 1024 → EReal) (h : ∀ b p j, v (ix3 b p j) = f b p j) :
    v = arrA f := by
  funext i
  refine Eq.trans (congrArg v ?_) (h ⟨(i 0).val, (i 0).isLt⟩ ⟨(i 1).val, (i 1).isLt⟩ ⟨(i 2).val, (i 2).isLt⟩)
  funext a
  fin_cases a <;> rfl

theorem arrB_ext (v : S8x8x128.Idx → EReal) (f : Fin 8 → Fin 8 → Fin 128 → EReal) (h : ∀ b p j, v (ix3 b p j) = f b p j) :
    v = arrB f := by
  funext i
  refine Eq.trans (congrArg v ?_) (h ⟨(i 0).val, (i 0).isLt⟩ ⟨(i 1).val, (i 1).isLt⟩ ⟨(i 2).val, (i 2).isLt⟩)
  funext a
  fin_cases a <;> rfl

end Cert.PostSIdeal.Mine

end
-- ==== Proof.PostSFinal.lean ====
/-
  The eight arrays after the run of the mixer's preparation call (sample group): where each block stands, what the blocks of
  the arguments read, and that the blocks written are those of the arrays of the functions stated before.
-/
module

public import proofs.«01_k».proof.Proof.PostSSpec
public import proofs.«01_k».proof.Proof.Gen.PostSIdeal.Value

@[expose] public section

noncomputable section

namespace Cert.PostSIdeal.Mine

open Cert.PostSIdeal Cert.PostSIdeal.Gen Cert.PostMath Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-! ## Where the windows stand -/

theorem places_wide : ∀ t : Fin cfg0.N,
    (win0_0.index t (0:Fin 3) = win0_13.index t (0:Fin 3) ∧ win0_0.index t (1:Fin 3) = win0_13.index t (1:Fin 3) ∧ win0_0.index t (2:Fin 3) = 0)
    ∧ (win0_1.index t (0:Fin 3) = win0_13.index t (0:Fin 3) ∧ win0_1.index t (1:Fin 3) = win0_13.index t (1:Fin 3) ∧ win0_1.index t (2:Fin 3) = 1)
    ∧ (win0_2.index t (0:Fin 3) = win0_13.index t (0:Fin 3) ∧ win0_2.index t (1:Fin 3) = win0_13.index t (1:Fin 3) ∧ win0_2.index t (2:Fin 3) = 2)
    ∧ (win0_3.index t (0:Fin 3) = win0_13.index t (0:Fin 3) ∧ win0_3.index t (1:Fin 3) = win0_13.index t (1:Fin 3) ∧ win0_3.index t (2:Fin 3) = 3)
    ∧ (win0_4.index t (0:Fin 3) = win0_13.index t (0:Fin 3) ∧ win0_4.index t (1:Fin 3) = win0_13.index t (1:Fin 3) ∧ win0_4.index t (2:Fin 3) = 0)
    ∧ (win0_5.index t (0:Fin 3) = win0_13.index t (0:Fin 3) ∧ win0_5.index t (1:Fin 3) = win0_13.index t (1:Fin 3) ∧ win0_5.index t (2:Fin 3) = 0) :=
  (by decide +kernel : ∀ t : Fin grid0.N, _)

theorem places_tab : ∀ t : Fin cfg0.N,
    (win0_6.index t (0:Fin 2) = win0_13.index t (1:Fin 3) ∧ win0_6.index t (1:Fin 2) = 0)
    ∧ (win0_7.index t (0:Fin 2) = win0_13.index t (1:Fin 3) ∧ win0_7.index t (1:Fin 2) = 0)
    ∧ (win0_8.index t (0:Fin 2) = win0_13.index t (1:Fin 3) ∧ win0_8.index t (1:Fin 2) = 0)
    ∧ (win0_9.index t (0:Fin 2) = win0_13.index t (1:Fin 3) ∧ win0_9.index t (1:Fin 2) = 0)
    ∧ (win0_10.index t (0:Fin 2) = 0 ∧ win0_10.index t (1:Fin 2) = 0)
    ∧ (win0_11.index t (0:Fin 2) = 0 ∧ win0_11.index t (1:Fin 2) = 0)
    ∧ (win0_12.index t (0:Fin 2) = 0 ∧ win0_12.index t (1:Fin 2) = 0) :=
  (by decide +kernel : ∀ t : Fin grid0.N, _)

/-- The results' windows stand together, inside their arrays. -/
theorem places_out : ∀ t : Fin cfg0.N, (win0_13.index t (2:Fin 3) = 0 ∧ win0_13.index t (0:Fin 3) < 8 ∧ win0_13.index t (1:Fin 3) < 1)
    ∧ (∀ a : Fin 3, win0_14.index t a = win0_13.index t a) ∧ (∀ a : Fin 3, win0_15.index t a = win0_13.index t a)
    ∧ (∀ a : Fin 3, win0_16.index t a = win0_13.index t a) ∧ (∀ a : Fin 3, win0_17.index t a = win0_13.index t a)
    ∧ (∀ a : Fin 3, win0_18.index t a = win0_13.index t a) ∧ (∀ a : Fin 3, win0_19.index t a = win0_13.index t a)
    ∧ (∀ a : Fin 3, win0_20.index t a = win0_13.index t a) ∧ (∀ a : Fin 3, win0_13.index t a = win0_13.index t a) :=
  (by decide +kernel : ∀ t : Fin grid0.N, _)

theorem onto : ∀ (p : Fin 8) (q : Fin 1), ∃ t : Fin cfg0.N, ((cfg0.win 13).flush t = true ∧ (cfg0.win 14).flush t = true ∧ (cfg0.win 15).flush t = true ∧ (cfg0.win 16).flush t = true ∧ (cfg0.win 17).flush t = true ∧ (cfg0.win 18).flush t = true ∧ (cfg0.win 19).flush t = true ∧ (cfg0.win 20).flush t = true)
    ∧ win0_13.index t (0:Fin 3) = p.val ∧ win0_13.index t (1:Fin 3) = q.val :=
  (by decide +kernel : ∀ (p : Fin 8) (q : Fin 1), ∃ t : Fin grid0.N, (win0_13.flush t = true ∧ win0_14.flush t = true ∧ win0_15.flush t = true ∧ win0_16.flush t = true ∧ win0_17.flush t = true ∧ win0_18.flush t = true ∧ win0_19.flush t = true ∧ win0_20.flush t = true)
    ∧ win0_13.index t (0:Fin 3) = p.val ∧ win0_13.index t (1:Fin 3) = q.val)

/-- The arguments, as arrays of reals. -/
abbrev qkvi (c : Dev nD) : S8x8x4096.Idx → EReal := m ((c : Thread nD τ).loc main_arg0)
abbrev smalls (c : Dev nD) : S8x8x128.Idx → EReal := m ((c : Thread nD τ).loc main_arg1)
abbrev us (c : Dev nD) : S8x8x2048.Idx → EReal := m ((c : Thread nD τ).loc main_arg2)
abbrev qgs (c : Dev nD) : S128.Idx → EReal := m ((c : Thread nD τ).loc main_arg3)
abbrev kgs (c : Dev nD) : S128.Idx → EReal := m ((c : Thread nD τ).loc main_arg4)
abbrev igs (c : Dev nD) : S64.Idx → EReal := m ((c : Thread nD τ).loc main_arg5)

/-! ## What the blocks read -/

section Blocks

variable (c : Dev nD) (t : Fin cfg0.N) (b : Fin 8) (p : Fin 8) (q : Fin 8)
  (hb : b.val = win0_13.index t (0:Fin 3)) (hp : p.val = win0_13.index t (1:Fin 3) * 8 + q.val)

include hb hp in
theorem read0 (j : Fin 1024) : (iblk m c 0 t : Vec Ideal S1x8x1024 .f32) (ix3 (0 : Fin 1) q j) = qkvi m c (ix3 b p (col 0 j)) := by
  obtain ⟨⟨e0, e1, e2⟩, -, -, -, -, -⟩ := places_wide t
  show V m c main_arg0 (((cfg0.win 0).blk t).view.emb _) = _
  rw [V_main_arg0]
  refine congrArg _ (funext fun a => Fin.ext ?_)
  match a with
  | ⟨0, _⟩ => show win0_0.index t (0:Fin 3) * 1 + 1 * 0 = b.val; rw [e0, hb]; omega
  | ⟨1, _⟩ => show win0_0.index t (1:Fin 3) * 8 + 1 * q.val = p.val; rw [e1, hp]; omega
  | ⟨2, _⟩ => show win0_0.index t (2:Fin 3) * 1024 + 1 * j.val = 0 * 1024 + j.val; rw [e2]; omega

include hb hp in
theorem read1 (j : Fin 1024) : (iblk m c 1 t : Vec Ideal S1x8x1024 .f32) (ix3 (0 : Fin 1) q j) = qkvi m c (ix3 b p (col 1 j)) := by
  obtain ⟨-, ⟨e0, e1, e2⟩, -, -, -, -⟩ := places_wide t
  show V m c main_arg0 (((cfg0.win 1).blk t).view.emb _) = _
  rw [V_main_arg0]
  refine congrArg _ (funext fun a => Fin.ext ?_)
  match a with
  | ⟨0, _⟩ => show win0_1.index t (0:Fin 3) * 1 + 1 * 0 = b.val; rw [e0, hb]; omega
  | ⟨1, _⟩ => show win0_1.index t (1:Fin 3) * 8 + 1 * q.val = p.val; rw [e1, hp]; omega
  | ⟨2, _⟩ => show win0_1.index t (2:Fin 3) * 1024 + 1 * j.val = 1 * 1024 + j.val; rw [e2]; omega

include hb hp in
theorem read2 (j : Fin 1024) : (iblk m c 2 t : Vec Ideal S1x8x1024 .f32) (ix3 (0 : Fin 1) q j) = qkvi m c (ix3 b p (col 2 j)) := by
  obtain ⟨-, -, ⟨e0, e1, e2⟩, -, -, -⟩ := places_wide t
  show V m c main_arg0 (((cfg0.win 2).blk t).view.emb _) = _
  rw [V_main_arg0]
  refine congrArg _ (funext fun a => Fin.ext ?_)
  match a with
  | ⟨0, _⟩ => show win0_2.index t (0:Fin 3) * 1 + 1 * 0 = b.val; rw [e0, hb]; omega
  | ⟨1, _⟩ => show win0_2.index t (1:Fin 3) * 8 + 1 * q.val = p.val; rw [e1, hp]; omega
  | ⟨2, _⟩ => show win0_2.index t (2:Fin 3) * 1024 + 1 * j.val = 2 * 1024 + j.val; rw [e2]; omega

include hb hp in
theorem read3 (j : Fin 1024) : (iblk m c 3 t : Vec Ideal S1x8x1024 .f32) (ix3 (0 : Fin 1) q j) = qkvi m c (ix3 b p (col 3 j)) := by
  obtain ⟨-, -, -, ⟨e0, e1, e2⟩, -, -⟩ := places_wide t
  show V m c main_arg0 (((cfg0.win 3).blk t).view.emb _) = _
  rw [V_main_arg0]
  refine congrArg _ (funext fun a => Fin.ext ?_)
  match a with
  | ⟨0, _⟩ => show win0_3.index t (0:Fin 3) * 1 + 1 * 0 = b.val; rw [e0, hb]; omega
  | ⟨1, _⟩ => show win0_3.index t (1:Fin 3) * 8 + 1 * q.val = p.val; rw [e1, hp]; omega
  | ⟨2, _⟩ => show win0_3.index t (2:Fin 3) * 1024 + 1 * j.val = 3 * 1024 + j.val; rw [e2]; omega

include hb hp in
theorem read4 (j : Fin 128) : (iblk m c 4 t : Vec Ideal S1x8x128 .f32) (ix3 (0 : Fin 1) q j) = smalls m c (ix3 b p j) := by
  obtain ⟨-, -, -, -, ⟨e0, e1, e2⟩, -⟩ := places_wide t
  show V m c main_arg1 (((cfg0.win 4).blk t).view.emb _) = _
  rw [V_main_arg1]
  refine congrArg _ (funext fun a => Fin.ext ?_)
  match a with
  | ⟨0, _⟩ => show win0_4.index t (0:Fin 3) * 1 + 1 * 0 = b.val; rw [e0, hb]; omega
  | ⟨1, _⟩ => show win0_4.index t (1:Fin 3) * 8 + 1 * q.val = p.val; rw [e1, hp]; omega
  | ⟨2, _⟩ => show win0_4.index t (2:Fin 3) * 128 + 1 * j.val = j.val; rw [e2]; omega

include hb hp in
theorem read5 (j : Fin 2048) : (iblk m c 5 t : Vec Ideal S1x8x2048 .f32) (ix3 (0 : Fin 1) q j) = us m c (ix3 b p j) := by
  obtain ⟨-, -, -, -, -, ⟨e0, e1, e2⟩⟩ := places_wide t
  show V m c main_arg2 (((cfg0.win 5).blk t).view.emb _) = _
  rw [V_main_arg2]
  refine congrArg _ (funext fun a => Fin.ext ?_)
  match a with
  | ⟨0, _⟩ => show win0_5.index t (0:Fin 3) * 1 + 1 * 0 = b.val; rw [e0, hb]; omega
  | ⟨1, _⟩ => show win0_5.index t (1:Fin 3) * 8 + 1 * q.val = p.val; rw [e1, hp]; omega
  | ⟨2, _⟩ => show win0_5.index t (2:Fin 3) * 2048 + 1 * j.val = j.val; rw [e2]; omega

include hp in
theorem read6 (k : Fin 128) : (iblk m c 6 t : Vec Ideal S8x128 .f32) (ix2 q k) = (V m c main_v24 : Vec Ideal S8x128 .f32) (ix2 p k) := by
  obtain ⟨⟨e0, e1⟩, -, -, -, -, -, -⟩ := places_tab t
  show V m c main_v24 (((cfg0.win 6).blk t).view.emb _) = _
  refine congrArg _ (funext fun a => Fin.ext ?_)
  match a with
  | ⟨0, _⟩ => show win0_6.index t (0:Fin 2) * 8 + 1 * q.val = p.val; rw [e0, hp]; omega
  | ⟨1, _⟩ => show win0_6.index t (1:Fin 2) * 128 + 1 * k.val = k.val; rw [e1]; omega

include hp in
theorem read7 (k : Fin 128) : (iblk m c 7 t : Vec Ideal S8x128 .f32) (ix2 q k) = (V m c main_v27 : Vec Ideal S8x128 .f32) (ix2 p k) := by
  obtain ⟨-, ⟨e0, e1⟩, -, -, -, -, -⟩ := places_tab t
  show V m c main_v27 (((cfg0.win 7).blk t).view.emb _) = _
  refine congrArg _ (funext fun a => Fin.ext ?_)
  match a with
  | ⟨0, _⟩ => show win0_7.index t (0:Fin 2) * 8 + 1 * q.val = p.val; rw [e0, hp]; omega
  | ⟨1, _⟩ => show win0_7.index t (1:Fin 2) * 128 + 1 * k.val = k.val; rw [e1]; omega

include hp in
theorem read8 (k : Fin 128) : (iblk m c 8 t : Vec Ideal S8x128 .f32) (ix2 q k) = (V m c main_v49 : Vec Ideal S8x128 .f32) (ix2 p k) := by
  obtain ⟨-, -, ⟨e0, e1⟩, -, -, -, -⟩ := places_tab t
  show V m c main_v49 (((cfg0.win 8).blk t).view.emb _) = _
  refine congrArg _ (funext fun a => Fin.ext ?_)
  match a with
  | ⟨0, _⟩ => show win0_8.index t (0:Fin 2) * 8 + 1 * q.val = p.val; rw [e0, hp]; omega
  | ⟨1, _⟩ => show win0_8.index t (1:Fin 2) * 128 + 1 * k.val = k.val; rw [e1]; omega

include hp in
theorem read9 (k : Fin 128) : (iblk m c 9 t : Vec Ideal S8x128 .f32) (ix2 q k) = (V m c main_v52 : Vec Ideal S8x128 .f32) (ix2 p k) := by
  obtain ⟨-, -, -, ⟨e0, e1⟩, -, -, -⟩ := places_tab t
  show V m c main_v52 (((cfg0.win 9).blk t).view.emb _) = _
  refine congrArg _ (funext fun a => Fin.ext ?_)
  match a with
  | ⟨0, _⟩ => show win0_9.index t (0:Fin 2) * 8 + 1 * q.val = p.val; rw [e0, hp]; omega
  | ⟨1, _⟩ => show win0_9.index t (1:Fin 2) * 128 + 1 * k.val = k.val; rw [e1]; omega

theorem read10 (k : Fin 128) : (iblk m c 10 t : Vec Ideal S1x128 .f32) (ix2 (0 : Fin 1) k) = (V m c main_v58 : Vec Ideal S1x128 .f32) (ix2 (0 : Fin 1) k) := by
  obtain ⟨-, -, -, -, ⟨e0, e1⟩, -, -⟩ := places_tab t
  show V m c main_v58 (((cfg0.win 10).blk t).view.emb _) = _
  refine congrArg _ (funext fun a => Fin.ext ?_)
  match a with
  | ⟨0, _⟩ => show win0_10.index t (0:Fin 2) * 1 + 1 * 0 = 0; rw [e0]
  | ⟨1, _⟩ => show win0_10.index t (1:Fin 2) * 128 + 1 * k.val = k.val; rw [e1]; omega

theorem read11 (k : Fin 128) : (iblk m c 11 t : Vec Ideal S1x128 .f32) (ix2 (0 : Fin 1) k) = (V m c main_v59 : Vec Ideal S1x128 .f32) (ix2 (0 : Fin 1) k) := by
  obtain ⟨-, -, -, -, -, ⟨e0, e1⟩, -⟩ := places_tab t
  show V m c main_v59 (((cfg0.win 11).blk t).view.emb _) = _
  refine congrArg _ (funext fun a => Fin.ext ?_)
  match a with
  | ⟨0, _⟩ => show win0_11.index t (0:Fin 2) * 1 + 1 * 0 = 0; rw [e0]
  | ⟨1, _⟩ => show win0_11.index t (1:Fin 2) * 128 + 1 * k.val = k.val; rw [e1]; omega

theorem read12 (k : Fin 128) : (iblk m c 12 t : Vec Ideal S1x128 .f32) (ix2 (0 : Fin 1) k) = (V m c main_v57 : Vec Ideal S1x128 .f32) (ix2 (0 : Fin 1) k) := by
  obtain ⟨-, -, -, -, -, -, ⟨e0, e1⟩⟩ := places_tab t
  show V m c main_v57 (((cfg0.win 12).blk t).view.emb _) = _
  refine congrArg _ (funext fun a => Fin.ext ?_)
  match a with
  | ⟨0, _⟩ => show win0_12.index t (0:Fin 2) * 1 + 1 * 0 = 0; rw [e0]
  | ⟨1, _⟩ => show win0_12.index t (1:Fin 2) * 128 + 1 * k.val = k.val; rw [e1]; omega

include hb hp in
theorem q_read (j : Fin 1024) : headAt (iblk m c 0 t) (iblk m c 6 t) (iblk m c 7 t) (iblk m c 10 t) q j = headVal 0 (qkvi m c) (qgs m c) b p j := by
  unfold headAt spin headVal
  rw [show (fun l : Fin 128 => (iblk m c 0 t : Vec Ideal S1x8x1024 .f32) (ix3 (0 : Fin 1) q (laneOf j l))) = fun l => qkvi m c (ix3 b p (col 0 (laneOf j l))) from
      funext fun l => read0 m c t b p q hb hp _,
    show (fun l : Fin 128 => (iblk m c 10 t : Vec Ideal S1x128 .f32) (ix2 (0 : Fin 1) l)) = fun l => qgs m c (ix1 l) from
      funext fun l => (read10 m c t l).trans (qg_at m c l), read6 m c t p q hp _, read7 m c t p q hp _, cosA_at, sinA_at]
  exact turn128_eq _ (posW p.val) (inHead j)

include hb hp in
theorem k_read (j : Fin 1024) : headAt (iblk m c 1 t) (iblk m c 6 t) (iblk m c 7 t) (iblk m c 11 t) q j = headVal 1 (qkvi m c) (kgs m c) b p j := by
  unfold headAt spin headVal
  rw [show (fun l : Fin 128 => (iblk m c 1 t : Vec Ideal S1x8x1024 .f32) (ix3 (0 : Fin 1) q (laneOf j l))) = fun l => qkvi m c (ix3 b p (col 1 (laneOf j l))) from
      funext fun l => read1 m c t b p q hb hp _,
    show (fun l : Fin 128 => (iblk m c 11 t : Vec Ideal S1x128 .f32) (ix2 (0 : Fin 1) l)) = fun l => kgs m c (ix1 l) from
      funext fun l => (read11 m c t l).trans (kg_at m c l), read6 m c t p q hp _, read7 m c t p q hp _, cosA_at, sinA_at]
  exact turn128_eq _ (posW p.val) (inHead j)

include hb hp in
theorem v_read (j : Fin 1024) : copyAt (iblk m c 2 t) q j = copyVal (qkvi m c) b p j := read2 m c t b p q hb hp j

include hb hp in
theorem iq_read (j : Fin 1024) : pairAt (iblk m c 3 t) (iblk m c 8 t) (iblk m c 9 t) q j = pairVal (qkvi m c) b p j := by
  have hj := j.isLt
  unfold pairAt pairVal
  rw [read3 m c t b p q hb hp, read3 m c t b p q hb hp, read8 m c t p q hp _, read9 m c t p q hp _, cosB_at, sinB_at]
  refine Eq.trans ?_ (turn64_eq (fun l => qkvi m c (ix3 b p (col 3 (pairLane j l)))) (posW p.val) j.val)
  refine congrArg₂ (fun a b : EReal => a + b) (congrArg₂ (fun a b : EReal => a * b) ?_ ?_) (congrArg₂ (fun a b : EReal => a * b) rfl ?_)
  · refine congrArg (fun k : Fin 1024 => qkvi m c (ix3 b p (col 3 k))) (Fin.ext ?_)
    show j.val = j.val / 64 * 64 + j.val % 64; omega
  · unfold tabc
    rw [show j.val % 128 % 32 = j.val % 32 by omega]
  · unfold tabs
    rw [show j.val % 128 % 64 = j.val % 64 by omega]

include hb hp in
theorem ik_read (k : Fin 64) : ikAt (iblk m c 4 t) (iblk m c 8 t) (iblk m c 9 t) (iblk m c 12 t) q k = ikVal (smalls m c) (igs m c) b p k := by
  unfold ikAt ikVal
  rw [show ikRow (iblk m c 4 t) q = fun l => smalls m c (ix3 b p (up l)) from funext fun l => read4 m c t b p q hb hp _,
    show ikGain (iblk m c 12 t) = fun l => igs m c (ix1 l) from funext fun l => (read12 m c t _).trans (ikg_at m c l),
    read8 m c t p q hp _, read9 m c t p q hp _, cosB_at, sinB_at]
  have e := turn64_eq (norm64 (fun l => smalls m c (ix3 b p (up l))) fun l => igs m c (ix1 l)) (posW p.val) k.val
  simp only [Nat.mod_eq_of_lt k.isLt] at e
  exact e

include hb hp in
theorem small_read (k : Fin 128) : smallAt (iblk m c 4 t) (iblk m c 8 t) (iblk m c 9 t) (iblk m c 12 t) q k = smallVal (smalls m c) (igs m c) b p k := by
  unfold smallAt smallVal
  by_cases h : k.val < 64
  · rw [dif_pos h, dif_pos h, ik_read m c t b p q hb hp]
  · rw [dif_neg h, dif_neg h, read4 m c t b p q hb hp]

end Blocks

/-! ## The eight arrays -/

theorem flushed13_eq (c : Dev nD) (t : Fin cfg0.N) :
    (dats m 0 c).flushed 13 t = ((cfg0.win 13).blk t).view.read (Elt Ideal) (arrA (headVal 0 (qkvi m c) (qgs m c))) := by
  rw [Cert.PostSIdeal.Value.flushed13]
  obtain ⟨⟨e2, hB, hN⟩, -, -, -, -, -, -, -, e⟩ := places_out t
  funext y
  have hy0 : (y 0).val < 1 := (y 0).isLt
  have hy1 : (y 1).val < 8 := (y 1).isLt
  have hy2 : (y 2).val < 1024 := (y 2).isLt
  show out0_13 (F := Ideal) _ _ _ _ _ _ _ _ _ _ _ _ _ ((cfg0.win 13).xinj (grid0.coords t) y) = (arrA (headVal 0 (qkvi m c) (qgs m c))) (((cfg0.win 13).blk t).view.emb y)
  rw [show (cfg0.win 13).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out13_apply _ _ _ _ _ _ _ _ _ _ _ _ _ _ _).trans ?_
  refine Eq.trans (b := headVal 0 (qkvi m c) (qgs m c) ⟨win0_13.index t (0:Fin 3), hB⟩ ⟨win0_13.index t (1:Fin 3) * 8 + (y 1).val, by omega⟩ ⟨(y 2).val, hy2⟩)
    (q_read m c t _ _ _ rfl rfl _) ?_
  unfold arrA
  congr 1
  · exact Fin.ext (by show win0_13.index t (0:Fin 3) = win0_13.index t (0:Fin 3) * 1 + 1 * (y 0).val; rw [e]; omega)
  · exact Fin.ext (by show win0_13.index t (1:Fin 3) * 8 + (y 1).val = win0_13.index t (1:Fin 3) * 8 + 1 * (y 1).val; rw [e]; omega)
  · exact Fin.ext (by show (y 2).val = win0_13.index t (2:Fin 3) * 1024 + 1 * (y 2).val; rw [e, e2]; omega)

theorem final13 (c : Dev nD) : (dats m 0 c).arrAt 13 cfg0.N = arrA (headVal 0 (qkvi m c) (qgs m c)) :=
  (dats m 0 c).arrAt_eq_of_cover 13 _ (fun t _ => flushed13_eq m c t) (fun i => by
    have h0 : (i 0).val < 8 := (i 0).isLt
    have h1 : (i 1).val < 8 := (i 1).isLt
    have h2 : (i 2).val < 1024 := (i 2).isLt
    obtain ⟨t, ⟨hf, -, -, -, -, -, -, -⟩, e0, e1⟩ := onto ⟨(i 0).val, h0⟩ ⟨(i 1).val / 8, by omega⟩
    obtain ⟨⟨e2, hB, hN⟩, -, -, -, -, -, -, -, e⟩ := places_out t
    refine ⟨t, hf, ?_⟩
    show i ∈ ((View.whole main_v60_0).slice (win0_13.rect t)).set
    rw [View.set_slice_whole, Rect.mem_set_unit]
    intro a
    match a with
    | ⟨0, _⟩ => show win0_13.index t (0:Fin 3) * 1 ≤ (i 0).val ∧ (i 0).val < win0_13.index t (0:Fin 3) * 1 + 1; rw [e, e0]; dsimp only; omega
    | ⟨1, _⟩ => show win0_13.index t (1:Fin 3) * 8 ≤ (i 1).val ∧ (i 1).val < win0_13.index t (1:Fin 3) * 8 + 8; rw [e, e1]; dsimp only; omega
    | ⟨2, _⟩ => show win0_13.index t (2:Fin 3) * 1024 ≤ (i 2).val ∧ (i 2).val < win0_13.index t (2:Fin 3) * 1024 + 1024; rw [e, e2]; omega)

theorem flushed14_eq (c : Dev nD) (t : Fin cfg0.N) :
    (dats m 0 c).flushed 14 t = ((cfg0.win 14).blk t).view.read (Elt Ideal) (arrA (headVal 1 (qkvi m c) (kgs m c))) := by
  rw [Cert.PostSIdeal.Value.flushed14]
  obtain ⟨⟨e2, hB, hN⟩, e, -, -, -, -, -, -, -⟩ := places_out t
  funext y
  have hy0 : (y 0).val < 1 := (y 0).isLt
  have hy1 : (y 1).val < 8 := (y 1).isLt
  have hy2 : (y 2).val < 1024 := (y 2).isLt
  show out0_14 (F := Ideal) _ _ _ _ _ _ _ _ _ _ _ _ _ ((cfg0.win 14).xinj (grid0.coords t) y) = (arrA (headVal 1 (qkvi m c) (kgs m c))) (((cfg0.win 14).blk t).view.emb y)
  rw [show (cfg0.win 14).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out14_apply _ _ _ _ _ _ _ _ _ _ _ _ _ _ _).trans ?_
  refine Eq.trans (b := headVal 1 (qkvi m c) (kgs m c) ⟨win0_13.index t (0:Fin 3), hB⟩ ⟨win0_13.index t (1:Fin 3) * 8 + (y 1).val, by omega⟩ ⟨(y 2).val, hy2⟩)
    (k_read m c t _ _ _ rfl rfl _) ?_
  unfold arrA
  congr 1
  · exact Fin.ext (by show win0_13.index t (0:Fin 3) = win0_14.index t (0:Fin 3) * 1 + 1 * (y 0).val; rw [e]; omega)
  · exact Fin.ext (by show win0_13.index t (1:Fin 3) * 8 + (y 1).val = win0_14.index t (1:Fin 3) * 8 + 1 * (y 1).val; rw [e]; omega)
  · exact Fin.ext (by show (y 2).val = win0_14.index t (2:Fin 3) * 1024 + 1 * (y 2).val; rw [e, e2]; omega)

theorem final14 (c : Dev nD) : (dats m 0 c).arrAt 14 cfg0.N = arrA (headVal 1 (qkvi m c) (kgs m c)) :=
  (dats m 0 c).arrAt_eq_of_cover 14 _ (fun t _ => flushed14_eq m c t) (fun i => by
    have h0 : (i 0).val < 8 := (i 0).isLt
    have h1 : (i 1).val < 8 := (i 1).isLt
    have h2 : (i 2).val < 1024 := (i 2).isLt
    obtain ⟨t, ⟨-, hf, -, -, -, -, -, -⟩, e0, e1⟩ := onto ⟨(i 0).val, h0⟩ ⟨(i 1).val / 8, by omega⟩
    obtain ⟨⟨e2, hB, hN⟩, e, -, -, -, -, -, -, -⟩ := places_out t
    refine ⟨t, hf, ?_⟩
    show i ∈ ((View.whole main_v60_1).slice (win0_14.rect t)).set
    rw [View.set_slice_whole, Rect.mem_set_unit]
    intro a
    match a with
    | ⟨0, _⟩ => show win0_14.index t (0:Fin 3) * 1 ≤ (i 0).val ∧ (i 0).val < win0_14.index t (0:Fin 3) * 1 + 1; rw [e, e0]; dsimp only; omega
    | ⟨1, _⟩ => show win0_14.index t (1:Fin 3) * 8 ≤ (i 1).val ∧ (i 1).val < win0_14.index t (1:Fin 3) * 8 + 8; rw [e, e1]; dsimp only; omega
    | ⟨2, _⟩ => show win0_14.index t (2:Fin 3) * 1024 ≤ (i 2).val ∧ (i 2).val < win0_14.index t (2:Fin 3) * 1024 + 1024; rw [e, e2]; omega)

theorem flushed15_eq (c : Dev nD) (t : Fin cfg0.N) :
    (dats m 0 c).flushed 15 t = ((cfg0.win 15).blk t).view.read (Elt Ideal) (arrA (headVal 1 (qkvi m c) (kgs m c))) := by
  rw [Cert.PostSIdeal.Value.flushed15]
  obtain ⟨⟨e2, hB, hN⟩, -, e, -, -, -, -, -, -⟩ := places_out t
  funext y
  have hy0 : (y 0).val < 1 := (y 0).isLt
  have hy1 : (y 1).val < 8 := (y 1).isLt
  have hy2 : (y 2).val < 1024 := (y 2).isLt
  show out0_15 (F := Ideal) _ _ _ _ _ _ _ _ _ _ _ _ _ ((cfg0.win 15).xinj (grid0.coords t) y) = (arrA (headVal 1 (qkvi m c) (kgs m c))) (((cfg0.win 15).blk t).view.emb y)
  rw [show (cfg0.win 15).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out15_apply _ _ _ _ _ _ _ _ _ _ _ _ _ _ _).trans ?_
  refine Eq.trans (b := headVal 1 (qkvi m c) (kgs m c) ⟨win0_13.index t (0:Fin 3), hB⟩ ⟨win0_13.index t (1:Fin 3) * 8 + (y 1).val, by omega⟩ ⟨(y 2).val, hy2⟩)
    (k_read m c t _ _ _ rfl rfl _) ?_
  unfold arrA
  congr 1
  · exact Fin.ext (by show win0_13.index t (0:Fin 3) = win0_15.index t (0:Fin 3) * 1 + 1 * (y 0).val; rw [e]; omega)
  · exact Fin.ext (by show win0_13.index t (1:Fin 3) * 8 + (y 1).val = win0_15.index t (1:Fin 3) * 8 + 1 * (y 1).val; rw [e]; omega)
  · exact Fin.ext (by show (y 2).val = win0_15.index t (2:Fin 3) * 1024 + 1 * (y 2).val; rw [e, e2]; omega)

theorem final15 (c : Dev nD) : (dats m 0 c).arrAt 15 cfg0.N = arrA (headVal 1 (qkvi m c) (kgs m c)) :=
  (dats m 0 c).arrAt_eq_of_cover 15 _ (fun t _ => flushed15_eq m c t) (fun i => by
    have h0 : (i 0).val < 8 := (i 0).isLt
    have h1 : (i 1).val < 8 := (i 1).isLt
    have h2 : (i 2).val < 1024 := (i 2).isLt
    obtain ⟨t, ⟨-, -, hf, -, -, -, -, -⟩, e0, e1⟩ := onto ⟨(i 0).val, h0⟩ ⟨(i 1).val / 8, by omega⟩
    obtain ⟨⟨e2, hB, hN⟩, -, e, -, -, -, -, -, -⟩ := places_out t
    refine ⟨t, hf, ?_⟩
    show i ∈ ((View.whole main_v60_2).slice (win0_15.rect t)).set
    rw [View.set_slice_whole, Rect.mem_set_unit]
    intro a
    match a with
    | ⟨0, _⟩ => show win0_15.index t (0:Fin 3) * 1 ≤ (i 0).val ∧ (i 0).val < win0_15.index t (0:Fin 3) * 1 + 1; rw [e, e0]; dsimp only; omega
    | ⟨1, _⟩ => show win0_15.index t (1:Fin 3) * 8 ≤ (i 1).val ∧ (i 1).val < win0_15.index t (1:Fin 3) * 8 + 8; rw [e, e1]; dsimp only; omega
    | ⟨2, _⟩ => show win0_15.index t (2:Fin 3) * 1024 ≤ (i 2).val ∧ (i 2).val < win0_15.index t (2:Fin 3) * 1024 + 1024; rw [e, e2]; omega)

theorem flushed16_eq (c : Dev nD) (t : Fin cfg0.N) :
    (dats m 0 c).flushed 16 t = ((cfg0.win 16).blk t).view.read (Elt Ideal) (arrA (copyVal (qkvi m c))) := by
  rw [Cert.PostSIdeal.Value.flushed16]
  obtain ⟨⟨e2, hB, hN⟩, -, -, e, -, -, -, -, -⟩ := places_out t
  funext y
  have hy0 : (y 0).val < 1 := (y 0).isLt
  have hy1 : (y 1).val < 8 := (y 1).isLt
  have hy2 : (y 2).val < 1024 := (y 2).isLt
  show out0_16 (F := Ideal) _ _ _ _ _ _ _ _ _ _ _ _ _ ((cfg0.win 16).xinj (grid0.coords t) y) = (arrA (copyVal (qkvi m c))) (((cfg0.win 16).blk t).view.emb y)
  rw [show (cfg0.win 16).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out16_apply _ _ _ _ _ _ _ _ _ _ _ _ _ _ _).trans ?_
  refine Eq.trans (b := copyVal (qkvi m c) ⟨win0_13.index t (0:Fin 3), hB⟩ ⟨win0_13.index t (1:Fin 3) * 8 + (y 1).val, by omega⟩ ⟨(y 2).val, hy2⟩)
    (v_read m c t _ _ _ rfl rfl _) ?_
  unfold arrA
  congr 1
  · exact Fin.ext (by show win0_13.index t (0:Fin 3) = win0_16.index t (0:Fin 3) * 1 + 1 * (y 0).val; rw [e]; omega)
  · exact Fin.ext (by show win0_13.index t (1:Fin 3) * 8 + (y 1).val = win0_16.index t (1:Fin 3) * 8 + 1 * (y 1).val; rw [e]; omega)
  · exact Fin.ext (by show (y 2).val = win0_16.index t (2:Fin 3) * 1024 + 1 * (y 2).val; rw [e, e2]; omega)

theorem final16 (c : Dev nD) : (dats m 0 c).arrAt 16 cfg0.N = arrA (copyVal (qkvi m c)) :=
  (dats m 0 c).arrAt_eq_of_cover 16 _ (fun t _ => flushed16_eq m c t) (fun i => by
    have h0 : (i 0).val < 8 := (i 0).isLt
    have h1 : (i 1).val < 8 := (i 1).isLt
    have h2 : (i 2).val < 1024 := (i 2).isLt
    obtain ⟨t, ⟨-, -, -, hf, -, -, -, -⟩, e0, e1⟩ := onto ⟨(i 0).val, h0⟩ ⟨(i 1).val / 8, by omega⟩
    obtain ⟨⟨e2, hB, hN⟩, -, -, e, -, -, -, -, -⟩ := places_out t
    refine ⟨t, hf, ?_⟩
    show i ∈ ((View.whole main_v60_3).slice (win0_16.rect t)).set
    rw [View.set_slice_whole, Rect.mem_set_unit]
    intro a
    match a with
    | ⟨0, _⟩ => show win0_16.index t (0:Fin 3) * 1 ≤ (i 0).val ∧ (i 0).val < win0_16.index t (0:Fin 3) * 1 + 1; rw [e, e0]; dsimp only; omega
    | ⟨1, _⟩ => show win0_16.index t (1:Fin 3) * 8 ≤ (i 1).val ∧ (i 1).val < win0_16.index t (1:Fin 3) * 8 + 8; rw [e, e1]; dsimp only; omega
    | ⟨2, _⟩ => show win0_16.index t (2:Fin 3) * 1024 ≤ (i 2).val ∧ (i 2).val < win0_16.index t (2:Fin 3) * 1024 + 1024; rw [e, e2]; omega)

theorem flushed17_eq (c : Dev nD) (t : Fin cfg0.N) :
    (dats m 0 c).flushed 17 t = ((cfg0.win 17).blk t).view.read (Elt Ideal) (arrA (pairVal (qkvi m c))) := by
  rw [Cert.PostSIdeal.Value.flushed17]
  obtain ⟨⟨e2, hB, hN⟩, -, -, -, e, -, -, -, -⟩ := places_out t
  funext y
  have hy0 : (y 0).val < 1 := (y 0).isLt
  have hy1 : (y 1).val < 8 := (y 1).isLt
  have hy2 : (y 2).val < 1024 := (y 2).isLt
  show out0_17 (F := Ideal) _ _ _ _ _ _ _ _ _ _ _ _ _ ((cfg0.win 17).xinj (grid0.coords t) y) = (arrA (pairVal (qkvi m c))) (((cfg0.win 17).blk t).view.emb y)
  rw [show (cfg0.win 17).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out17_apply _ _ _ _ _ _ _ _ _ _ _ _ _ _ _).trans ?_
  refine Eq.trans (b := pairVal (qkvi m c) ⟨win0_13.index t (0:Fin 3), hB⟩ ⟨win0_13.index t (1:Fin 3) * 8 + (y 1).val, by omega⟩ ⟨(y 2).val, hy2⟩)
    (iq_read m c t _ _ _ rfl rfl _) ?_
  unfold arrA
  congr 1
  · exact Fin.ext (by show win0_13.index t (0:Fin 3) = win0_17.index t (0:Fin 3) * 1 + 1 * (y 0).val; rw [e]; omega)
  · exact Fin.ext (by show win0_13.index t (1:Fin 3) * 8 + (y 1).val = win0_17.index t (1:Fin 3) * 8 + 1 * (y 1).val; rw [e]; omega)
  · exact Fin.ext (by show (y 2).val = win0_17.index t (2:Fin 3) * 1024 + 1 * (y 2).val; rw [e, e2]; omega)

theorem final17 (c : Dev nD) : (dats m 0 c).arrAt 17 cfg0.N = arrA (pairVal (qkvi m c)) :=
  (dats m 0 c).arrAt_eq_of_cover 17 _ (fun t _ => flushed17_eq m c t) (fun i => by
    have h0 : (i 0).val < 8 := (i 0).isLt
    have h1 : (i 1).val < 8 := (i 1).isLt
    have h2 : (i 2).val < 1024 := (i 2).isLt
    obtain ⟨t, ⟨-, -, -, -, hf, -, -, -⟩, e0, e1⟩ := onto ⟨(i 0).val, h0⟩ ⟨(i 1).val / 8, by omega⟩
    obtain ⟨⟨e2, hB, hN⟩, -, -, -, e, -, -, -, -⟩ := places_out t
    refine ⟨t, hf, ?_⟩
    show i ∈ ((View.whole main_v60_4).slice (win0_17.rect t)).set
    rw [View.set_slice_whole, Rect.mem_set_unit]
    intro a
    match a with
    | ⟨0, _⟩ => show win0_17.index t (0:Fin 3) * 1 ≤ (i 0).val ∧ (i 0).val < win0_17.index t (0:Fin 3) * 1 + 1; rw [e, e0]; dsimp only; omega
    | ⟨1, _⟩ => show win0_17.index t (1:Fin 3) * 8 ≤ (i 1).val ∧ (i 1).val < win0_17.index t (1:Fin 3) * 8 + 8; rw [e, e1]; dsimp only; omega
    | ⟨2, _⟩ => show win0_17.index t (2:Fin 3) * 1024 ≤ (i 2).val ∧ (i 2).val < win0_17.index t (2:Fin 3) * 1024 + 1024; rw [e, e2]; omega)

theorem flushed18_eq (c : Dev nD) (t : Fin cfg0.N) :
    (dats m 0 c).flushed 18 t = ((cfg0.win 18).blk t).view.read (Elt Ideal) (arrB (smallVal (smalls m c) (igs m c))) := by
  rw [Cert.PostSIdeal.Value.flushed18]
  obtain ⟨⟨e2, hB, hN⟩, -, -, -, -, e, -, -, -⟩ := places_out t
  funext y
  have hy0 : (y 0).val < 1 := (y 0).isLt
  have hy1 : (y 1).val < 8 := (y 1).isLt
  have hy2 : (y 2).val < 128 := (y 2).isLt
  show out0_18 (F := Ideal) _ _ _ _ _ _ _ _ _ _ _ _ _ ((cfg0.win 18).xinj (grid0.coords t) y) = (arrB (smallVal (smalls m c) (igs m c))) (((cfg0.win 18).blk t).view.emb y)
  rw [show (cfg0.win 18).xinj (grid0.coords t) y = ix3 (0 : Fin 1) (⟨(y 1).val, hy1⟩ : Fin 8) (⟨(y 2).val, hy2⟩ : Fin 128) from
    funext fun a => Fin.ext (match a with | ⟨0, _⟩ => Nat.lt_one_iff.mp hy0 | ⟨1, _⟩ => rfl | ⟨2, _⟩ => rfl)]
  refine (out18_apply _ _ _ _ _ _ _ _ _ _ _ _ _ _ _).trans ?_
  refine Eq.trans (b := smallVal (smalls m c) (igs m c) ⟨win0_13.index t (0:Fin 3), hB⟩ ⟨win0_13.index t (1:Fin 3) * 8 + (y 1).val, by omega⟩ ⟨(y 2).val, hy2⟩)
    (small_read m c t _ _ _ rfl rfl _) ?_
  unfold arrB
  congr 1
  · exact Fin.ext (by show win0_13.index t (0:Fin 3) = win0_18.index t (0:Fin 3) * 1 + 1 * (y 0).val; rw [e]; omega)
  · exact Fin.ext (by show win0_13.index t (1:Fin 3) * 8 + (y 1).val = win0_18.index t (1:Fin 3) * 8 + 1 * (y 1).val; rw [e]; omega)
  · exact Fin.ext (by show (y 2).val = win0_18.index t (2:Fin 3) * 128 + 1 * (y 2).val; rw [e, e2]; omega)

theorem final18 (c : Dev nD) : (dats m 0 c).arrAt 18 cfg0.N = arrB (smallVal (smalls m c) (igs m c)) :=
  (dats m 0 c).arrAt_eq_of_cover 18 _ (fun t _ => flushed18_eq m c t) (fun i => by
    have h0 : (i 0).val < 8 := (i 0).isLt
    have h1 : (i 1).val < 8 := (i 1).isLt
    have h2 : (i 2).val < 128 := (i 2).isLt
    obtain ⟨t, ⟨-, -, -, -, -, hf, -, -⟩, e0, e1⟩ := onto ⟨(i 0).val, h0⟩ ⟨(i 1).val / 8, by omega⟩
    obtain ⟨⟨e2, hB, hN⟩, -, -, -, -, e, -, -, -⟩ := places_out t
    refine ⟨t, hf, ?_⟩
    show i ∈ ((View.whole main_v60_5).slice (win0_18.rect t)).set
    rw [View.set_slice_whole, Rect.mem_set_unit]
    intro a
    match a with
    | ⟨0, _⟩ => show win0_18.index t (0:Fin 3) * 1 ≤ (i 0).val ∧ (i 0).val < win0_18.index t (0:Fin 3) * 1 + 1; rw [e, e0]; dsimp only; omega
    | ⟨1, _⟩ => show win0_18.index t (1:Fin 3) * 8 ≤ (i 1).val ∧ (i 1).val < win0_18.index t (1:Fin 3) * 8 + 8; rw [e, e1]; dsimp only; omega
    | ⟨2, _⟩ => show win0_18.index t (2:Fin 3) * 128 ≤ (i 2).val ∧ (i 2).val < win0_18.index t (2:Fin 3) * 128 + 128; rw [e, e2]; omega)

theorem flushed19_eq (c : Dev nD) (t : Fin cfg0.N) :
    (dats m 0 c).flushed 19 t = ((cfg0.win 19).blk t).view.read (Elt Ideal) (arrB (twiceVal (smalls m c) (igs m c))) := by
  rw [Cert.PostSIdeal.Value.flushed19]
  obtain ⟨⟨e2, hB, hN⟩, -, -, -, -, -, e, -, -⟩ := places_out t
  funext y
  have hy0 : (y 0).val < 1 := (y 0).isLt
  have hy1 : (y 1).val < 8 := (y 1).isLt
  have hy2 : (y 2).val < 128 := (y 2).isLt
  show out0_19 (F := Ideal) _ _ _ _ _ _ _ _ _ _ _ _ _ ((cfg0.win 19).xinj (grid0.coords t) y) = (arrB (twiceVal (smalls m c) (igs m c))) (((cfg0.win 19).blk t).view.emb y)
  rw [show (cfg0.win 19).xinj (grid0.coords t) y = ix3 (0 : Fin 1) (⟨(y 1).val, hy1⟩ : Fin 8) (⟨(y 2).val, hy2⟩ : Fin 128) from
    funext fun a => Fin.ext (match a with | ⟨0, _⟩ => Nat.lt_one_iff.mp hy0 | ⟨1, _⟩ => rfl | ⟨2, _⟩ => rfl)]
  refine (out19_apply _ _ _ _ _ _ _ _ _ _ _ _ _ _ _).trans ?_
  refine Eq.trans (b := twiceVal (smalls m c) (igs m c) ⟨win0_13.index t (0:Fin 3), hB⟩ ⟨win0_13.index t (1:Fin 3) * 8 + (y 1).val, by omega⟩ ⟨(y 2).val, hy2⟩)
    (ik_read m c t _ _ _ rfl rfl _) ?_
  unfold arrB
  congr 1
  · exact Fin.ext (by show win0_13.index t (0:Fin 3) = win0_19.index t (0:Fin 3) * 1 + 1 * (y 0).val; rw [e]; omega)
  · exact Fin.ext (by show win0_13.index t (1:Fin 3) * 8 + (y 1).val = win0_19.index t (1:Fin 3) * 8 + 1 * (y 1).val; rw [e]; omega)
  · exact Fin.ext (by show (y 2).val = win0_19.index t (2:Fin 3) * 128 + 1 * (y 2).val; rw [e, e2]; omega)

theorem final19 (c : Dev nD) : (dats m 0 c).arrAt 19 cfg0.N = arrB (twiceVal (smalls m c) (igs m c)) :=
  (dats m 0 c).arrAt_eq_of_cover 19 _ (fun t _ => flushed19_eq m c t) (fun i => by
    have h0 : (i 0).val < 8 := (i 0).isLt
    have h1 : (i 1).val < 8 := (i 1).isLt
    have h2 : (i 2).val < 128 := (i 2).isLt
    obtain ⟨t, ⟨-, -, -, -, -, -, hf, -⟩, e0, e1⟩ := onto ⟨(i 0).val, h0⟩ ⟨(i 1).val / 8, by omega⟩
    obtain ⟨⟨e2, hB, hN⟩, -, -, -, -, -, e, -, -⟩ := places_out t
    refine ⟨t, hf, ?_⟩
    show i ∈ ((View.whole main_v60_6).slice (win0_19.rect t)).set
    rw [View.set_slice_whole, Rect.mem_set_unit]
    intro a
    match a with
    | ⟨0, _⟩ => show win0_19.index t (0:Fin 3) * 1 ≤ (i 0).val ∧ (i 0).val < win0_19.index t (0:Fin 3) * 1 + 1; rw [e, e0]; dsimp only; omega
    | ⟨1, _⟩ => show win0_19.index t (1:Fin 3) * 8 ≤ (i 1).val ∧ (i 1).val < win0_19.index t (1:Fin 3) * 8 + 8; rw [e, e1]; dsimp only; omega
    | ⟨2, _⟩ => show win0_19.index t (2:Fin 3) * 128 ≤ (i 2).val ∧ (i 2).val < win0_19.index t (2:Fin 3) * 128 + 128; rw [e, e2]; omega)

theorem flushed20_eq (c : Dev nD) (t : Fin cfg0.N) :
    (dats m 0 c).flushed 20 t = ((cfg0.win 20).blk t).view.read (Elt Ideal) (arrA (gluVal (us m c))) := by
  rw [Cert.PostSIdeal.Value.flushed20]
  obtain ⟨⟨e2, hB, hN⟩, -, -, -, -, -, -, e, -⟩ := places_out t
  funext y
  have hy0 : (y 0).val < 1 := (y 0).isLt
  have hy1 : (y 1).val < 8 := (y 1).isLt
  have hy2 : (y 2).val < 1024 := (y 2).isLt
  show out0_20 (F := Ideal) _ _ _ _ _ _ _ _ _ _ _ _ _ ((cfg0.win 20).xinj (grid0.coords t) y) = (arrA (gluVal (us m c))) (((cfg0.win 20).blk t).view.emb y)
  rw [show (cfg0.win 20).xinj (grid0.coords t) y = ix3 (0 : Fin 1) (⟨(y 1).val, hy1⟩ : Fin 8) (⟨(y 2).val, hy2⟩ : Fin 1024) from
    funext fun a => Fin.ext (match a with | ⟨0, _⟩ => Nat.lt_one_iff.mp hy0 | ⟨1, _⟩ => rfl | ⟨2, _⟩ => rfl)]
  refine (out20_apply _ _ _ _ _ _ _ _ _ _ _ _ _ _ _).trans ?_
  refine Eq.trans (b := gluVal (us m c) ⟨win0_13.index t (0:Fin 3), hB⟩ ⟨win0_13.index t (1:Fin 3) * 8 + (y 1).val, by omega⟩ ⟨(y 2).val, hy2⟩)
    (congrArg₂ (fun a b : EReal => a * Ideal.logistic b) (read5 m c t _ _ _ rfl rfl _) (read5 m c t _ _ _ rfl rfl _)) ?_
  unfold arrA
  congr 1
  · exact Fin.ext (by show win0_13.index t (0:Fin 3) = win0_20.index t (0:Fin 3) * 1 + 1 * (y 0).val; rw [e]; omega)
  · exact Fin.ext (by show win0_13.index t (1:Fin 3) * 8 + (y 1).val = win0_20.index t (1:Fin 3) * 8 + 1 * (y 1).val; rw [e]; omega)
  · exact Fin.ext (by show (y 2).val = win0_20.index t (2:Fin 3) * 1024 + 1 * (y 2).val; rw [e, e2]; omega)

theorem final20 (c : Dev nD) : (dats m 0 c).arrAt 20 cfg0.N = arrA (gluVal (us m c)) :=
  (dats m 0 c).arrAt_eq_of_cover 20 _ (fun t _ => flushed20_eq m c t) (fun i => by
    have h0 : (i 0).val < 8 := (i 0).isLt
    have h1 : (i 1).val < 8 := (i 1).isLt
    have h2 : (i 2).val < 1024 := (i 2).isLt
    obtain ⟨t, ⟨-, -, -, -, -, -, -, hf⟩, e0, e1⟩ := onto ⟨(i 0).val, h0⟩ ⟨(i 1).val / 8, by omega⟩
    obtain ⟨⟨e2, hB, hN⟩, -, -, -, -, -, -, e, -⟩ := places_out t
    refine ⟨t, hf, ?_⟩
    show i ∈ ((View.whole main_v60_7).slice (win0_20.rect t)).set
    rw [View.set_slice_whole, Rect.mem_set_unit]
    intro a
    match a with
    | ⟨0, _⟩ => show win0_20.index t (0:Fin 3) * 1 ≤ (i 0).val ∧ (i 0).val < win0_20.index t (0:Fin 3) * 1 + 1; rw [e, e0]; dsimp only; omega
    | ⟨1, _⟩ => show win0_20.index t (1:Fin 3) * 8 ≤ (i 1).val ∧ (i 1).val < win0_20.index t (1:Fin 3) * 8 + 8; rw [e, e1]; dsimp only; omega
    | ⟨2, _⟩ => show win0_20.index t (2:Fin 3) * 1024 ≤ (i 2).val ∧ (i 2).val < win0_20.index t (2:Fin 3) * 1024 + 1024; rw [e, e2]; omega)

end Cert.PostSIdeal.Mine

end
-- ==== Proof.PostSReference.lean ====
/-
  The reference of the mixer's preparation call (sample group): its eight arrays, read element by element through its lines,
  are the arrays of the functions stated for the kernel.
-/
module

public import proofs.«01_k».proof.Proof.PostSSpec
public import proofs.«01_k».proof.Proof.Gen.PostSRefIdeal
public import proofs.«01_k».proof.Proof.Gen.PostSRefIdeal.Run
public import proofs.«01_k».proof.Proof.Gen.PostSRefIdeal.Read

@[expose] public section

noncomputable section

namespace Cert.PostSReference

open Cert.PostSRefIdeal Cert.PostSRefIdeal.Gen Cert.PostSRefIdeal.Read Cert.PostMath Idealize.ShloMosaic
open Idealize.ShloMosaic.ValueIdx
open Cert.PostSIdeal.Mine (posW col up laneOf inHead pairLane headVal copyVal pairVal ikVal smallVal twiceVal gluVal arrA arrB arrA_ext arrB_ext)
open scoped BigOperators

/-- Lane `k` of head `h`. -/
abbrev lane8 (h : Fin 8) (k : Fin 128) : Fin 1024 := ⟨h.val * 128 + k.val, by have := h.isLt; have := k.isLt; omega⟩
abbrev lane16 (h : Fin 16) (k : Fin 64) : Fin 1024 := ⟨h.val * 64 + k.val, by have := h.isLt; have := k.isLt; omega⟩

variable (x0 : S8x8x4096.Idx → EReal) (x1 : S8x8x128.Idx → EReal) (x2 : S8x8x2048.Idx → EReal)
  (x3 x4 : S128.Idx → EReal) (x5 : S64.Idx → EReal) (b : Fin 8) (p : Fin 8)

/-! ## The angles -/

theorem q_ang (l : Fin 64) : val_main_v34 (F := Ideal) (ix2 p l) = ang c64 (posW p.val) l.val := by
  rw [val_main_v34_apply, val_main_v32_apply, val_main_v30_apply, val_main_v29_apply, val_main_v33_apply, val_main_v31_apply, val_main_v28_apply, val_main_v26_apply, val_main_v24_apply]
  refine congrArg₂ (fun a b : EReal => a * b) rfl (congrArg₂ Ideal.pow ((val_main_v27_apply (F := Ideal) _).trans rfl)
    (congrArg₂ Ideal.div rfl ((val_main_v25_apply (F := Ideal) _).trans rfl)))

theorem k_ang (l : Fin 64) : val_main_v78 (F := Ideal) (ix2 p l) = ang c64 (posW p.val) l.val := by
  rw [val_main_v78_apply, val_main_v76_apply, val_main_v74_apply, val_main_v73_apply, val_main_v77_apply, val_main_v75_apply, val_main_v72_apply, val_main_v70_apply, val_main_v68_apply]
  refine congrArg₂ (fun a b : EReal => a * b) rfl (congrArg₂ Ideal.pow ((val_main_v71_apply (F := Ideal) _).trans rfl)
    (congrArg₂ Ideal.div rfl ((val_main_v69_apply (F := Ideal) _).trans rfl)))

theorem iq_ang (l : Fin 32) : val_main_v109 (F := Ideal) (ix2 p l) = ang c32 (posW p.val) l.val := by
  rw [val_main_v109_apply, val_main_v107_apply, val_main_v105_apply, val_main_v104_apply, val_main_v108_apply, val_main_v106_apply, val_main_v103_apply, val_main_v101_apply, val_main_v99_apply]
  refine congrArg₂ (fun a b : EReal => a * b) rfl (congrArg₂ Ideal.pow ((val_main_v102_apply (F := Ideal) _).trans rfl)
    (congrArg₂ Ideal.div rfl ((val_main_v100_apply (F := Ideal) _).trans rfl)))

theorem ik_ang (l : Fin 32) : val_main_v153 (F := Ideal) (ix2 p l) = ang c32 (posW p.val) l.val := by
  rw [val_main_v153_apply, val_main_v151_apply, val_main_v149_apply, val_main_v148_apply, val_main_v152_apply, val_main_v150_apply, val_main_v147_apply, val_main_v145_apply, val_main_v143_apply]
  refine congrArg₂ (fun a b : EReal => a * b) rfl (congrArg₂ Ideal.pow ((val_main_v146_apply (F := Ideal) _).trans rfl)
    (congrArg₂ Ideal.div rfl ((val_main_v144_apply (F := Ideal) _).trans rfl)))

/-! ## The parts, head by head -/

theorem q_in (h : Fin 8) (k : Fin 128) : val_main_v9 (F := Ideal) x0 (ix4 b p h k) = x0 (ix3 b p (col 0 (lane8 h k))) := by
  have hb := b.isLt
  have hp := p.isLt
  have hh := h.isLt
  have hk := k.isLt
  rw [val_main_v9_apply, val_main_v3_apply]
  refine congrArg x0 (funext fun a => Fin.ext ?_)
  match a with
  | ⟨0, _⟩ => show (((b.val * 8 + p.val) * 8 + h.val) * 128 + k.val) / 8192 = b.val; omega
  | ⟨1, _⟩ => show (((b.val * 8 + p.val) * 8 + h.val) * 128 + k.val) / 1024 % 8 = p.val; omega
  | ⟨2, _⟩ => show (((b.val * 8 + p.val) * 8 + h.val) * 128 + k.val) % 1024 = 0 * 1024 + (h.val * 128 + k.val); omega

theorem k_in (h : Fin 8) (k : Fin 128) : val_main_v53 (F := Ideal) x0 (ix4 b p h k) = x0 (ix3 b p (col 1 (lane8 h k))) := by
  have hb := b.isLt
  have hp := p.isLt
  have hh := h.isLt
  have hk := k.isLt
  rw [val_main_v53_apply, val_main_v4_apply]
  refine congrArg x0 (funext fun a => Fin.ext ?_)
  match a with
  | ⟨0, _⟩ => show (((b.val * 8 + p.val) * 8 + h.val) * 128 + k.val) / 8192 = b.val; omega
  | ⟨1, _⟩ => show (((b.val * 8 + p.val) * 8 + h.val) * 128 + k.val) / 1024 % 8 = p.val; omega
  | ⟨2, _⟩ => show 1024 + (((b.val * 8 + p.val) * 8 + h.val) * 128 + k.val) % 1024 = 1 * 1024 + (h.val * 128 + k.val); omega

theorem iq_in (h : Fin 16) (k : Fin 64) : val_main_v97 (F := Ideal) x0 (ix4 b p h k) = x0 (ix3 b p (col 3 (lane16 h k))) := by
  have hb := b.isLt
  have hp := p.isLt
  have hh := h.isLt
  have hk := k.isLt
  rw [val_main_v97_apply, val_main_v6_apply]
  refine congrArg x0 (funext fun a => Fin.ext ?_)
  match a with
  | ⟨0, _⟩ => show (((b.val * 8 + p.val) * 16 + h.val) * 64 + k.val) / 8192 = b.val; omega
  | ⟨1, _⟩ => show (((b.val * 8 + p.val) * 16 + h.val) * 64 + k.val) / 1024 % 8 = p.val; omega
  | ⟨2, _⟩ => show 3072 + (((b.val * 8 + p.val) * 16 + h.val) * 64 + k.val) % 1024 = 3 * 1024 + (h.val * 64 + k.val); omega

/-! ## The norms -/

theorem q_norm (h : Fin 8) (k : Fin 128) : val_main_v22 (F := Ideal) x0 x3 (ix4 b p h k)
    = norm128 (fun l => x0 (ix3 b p (col 0 (lane8 h l)))) (fun l => x3 (ix1 l)) k := by
  rw [val_main_v22_apply, val_main_v19_apply, val_main_v18_apply, val_main_v17_apply, val_main_v16_apply, val_main_v14_apply, val_main_v12_apply, val_main_v11_apply, val_main_v21_apply, val_main_v20_apply]
  unfold norm128
  refine congrArg₂ (fun a b : EReal => a * b) (congrArg₂ (fun a b : EReal => a * b) (q_in x0 b p h k)
    (congrArg Ideal.rsqrt (congrArg₂ (fun a b : EReal => a + b) (congrArg₂ Ideal.div ?_ ((val_main_v13_apply (F := Ideal) _).trans rfl))
      ((val_main_v15_apply (F := Ideal) _).trans rfl)))) (congrArg x3 (funext fun a => Fin.ext ?_))
  · refine (congrArg₂ (fun a b : EReal => a + b) Ideal.ofBits_zero_f32 (Finset.sum_congr rfl fun l _ => ?_)).trans (zero_add _)
    have e := q_in x0 b p h l
    rw [val_main_v10_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

theorem k_norm (h : Fin 8) (k : Fin 128) : val_main_v66 (F := Ideal) x0 x4 (ix4 b p h k)
    = norm128 (fun l => x0 (ix3 b p (col 1 (lane8 h l)))) (fun l => x4 (ix1 l)) k := by
  rw [val_main_v66_apply, val_main_v63_apply, val_main_v62_apply, val_main_v61_apply, val_main_v60_apply, val_main_v58_apply, val_main_v56_apply, val_main_v55_apply, val_main_v65_apply, val_main_v64_apply]
  unfold norm128
  refine congrArg₂ (fun a b : EReal => a * b) (congrArg₂ (fun a b : EReal => a * b) (k_in x0 b p h k)
    (congrArg Ideal.rsqrt (congrArg₂ (fun a b : EReal => a + b) (congrArg₂ Ideal.div ?_ ((val_main_v57_apply (F := Ideal) _).trans rfl))
      ((val_main_v59_apply (F := Ideal) _).trans rfl)))) (congrArg x4 (funext fun a => Fin.ext ?_))
  · refine (congrArg₂ (fun a b : EReal => a + b) Ideal.ofBits_zero_f32 (Finset.sum_congr rfl fun l _ => ?_)).trans (zero_add _)
    have e := k_in x0 b p h l
    rw [val_main_v54_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

theorem ik_in (k : Fin 64) : val_main_v7 (F := Ideal) x1 (ix3 b p k) = x1 (ix3 b p (up k)) := by
  rw [val_main_v7_apply]
  refine congrArg x1 (funext fun a => Fin.ext ?_)
  fin_cases a <;> rfl

theorem ik_norm (k : Fin 64) : val_main_v141 (F := Ideal) x1 x5 (ix4 b p (0 : Fin 1) k)
    = norm64 (fun l => x1 (ix3 b p (up l))) (fun l => x5 (ix1 l)) k := by
  rw [val_main_v141_apply, val_main_v140_apply, val_main_v137_apply, val_main_v136_apply, val_main_v135_apply, val_main_v134_apply, val_main_v132_apply, val_main_v130_apply, val_main_v129_apply, val_main_v139_apply, val_main_v138_apply]
  unfold norm64
  refine congrArg₂ (fun a b : EReal => a * b) (congrArg₂ (fun a b : EReal => a * b) (Eq.trans (congrArg _ (funext fun a => Fin.ext ?_)) (ik_in x1 b p k))
    (congrArg Ideal.rsqrt (congrArg₂ (fun a b : EReal => a + b) (congrArg₂ Ideal.div ?_ ((val_main_v131_apply (F := Ideal) _).trans rfl))
      ((val_main_v133_apply (F := Ideal) _).trans rfl)))) (congrArg x5 (funext fun a => Fin.ext ?_))
  · fin_cases a <;> rfl
  · refine (congrArg₂ (fun a b : EReal => a + b) Ideal.ofBits_zero_f32 (Finset.sum_congr rfl fun l _ => ?_)).trans (zero_add _)
    have e := ik_in x1 b p l
    rw [val_main_v128_apply]
    refine congrArg₂ (fun a b : EReal => a * b) (Eq.trans (congrArg _ (funext fun a => Fin.ext ?_)) e) (Eq.trans (congrArg _ (funext fun a => Fin.ext ?_)) e)
    · fin_cases a <;> rfl
    · fin_cases a <;> rfl
  · fin_cases a <;> rfl

/-! ## The rotations -/

theorem q_cos39 (h : Fin 8) (l : Fin 64) : val_main_v41 (F := Ideal) (ix4 b p h l) = cosAt c64 (posW p.val) l.val := by
  rw [val_main_v41_apply, val_main_v36_apply, val_main_v35_apply]
  refine congrArg Ideal.cos (Eq.trans (congrArg _ (funext fun a => Fin.ext ?_)) (q_ang p l))
  fin_cases a <;> rfl

theorem q_sin41 (h : Fin 8) (l : Fin 64) : val_main_v43 (F := Ideal) (ix4 b p h l) = sinAt c64 (posW p.val) l.val := by
  rw [val_main_v43_apply, val_main_v38_apply, val_main_v37_apply]
  refine congrArg Ideal.sin (Eq.trans (congrArg _ (funext fun a => Fin.ext ?_)) (q_ang p l))
  fin_cases a <;> rfl

theorem q_cos44 (h : Fin 8) (l : Fin 64) : val_main_v46 (F := Ideal) (ix4 b p h l) = cosAt c64 (posW p.val) l.val := by
  rw [val_main_v46_apply, val_main_v36_apply, val_main_v35_apply]
  refine congrArg Ideal.cos (Eq.trans (congrArg _ (funext fun a => Fin.ext ?_)) (q_ang p l))
  fin_cases a <;> rfl

theorem q_sin46 (h : Fin 8) (l : Fin 64) : val_main_v48 (F := Ideal) (ix4 b p h l) = sinAt c64 (posW p.val) l.val := by
  rw [val_main_v48_apply, val_main_v38_apply, val_main_v37_apply]
  refine congrArg Ideal.sin (Eq.trans (congrArg _ (funext fun a => Fin.ext ?_)) (q_ang p l))
  fin_cases a <;> rfl

theorem q_first (h : Fin 8) (l : Fin 64) : val_main_v45 (F := Ideal) x0 x3 (ix4 b p h l)
    = (val_main_v22 (F := Ideal) x0 x3 (ix4 b p h (⟨l.val, by have := l.isLt; omega⟩ : Fin 128)) : EReal) * cosAt c64 (posW p.val) l.val
      - (val_main_v22 (F := Ideal) x0 x3 (ix4 b p h (⟨64 + l.val, by have := l.isLt; omega⟩ : Fin 128)) : EReal) * sinAt c64 (posW p.val) l.val := by
  rw [val_main_v45_apply, val_main_v42_apply, val_main_v44_apply, val_main_v39_apply, val_main_v40_apply]
  refine congrArg₂ (fun a b : EReal => a - b) (congrArg₂ (fun a b : EReal => a * b) (congrArg _ (funext fun a => Fin.ext ?_)) (q_cos39 b p h l))
    (congrArg₂ (fun a b : EReal => a * b) (congrArg _ (funext fun a => Fin.ext ?_)) (q_sin41 b p h l))
  · fin_cases a <;> rfl
  · fin_cases a <;> rfl

theorem q_second (h : Fin 8) (l : Fin 64) : val_main_v50 (F := Ideal) x0 x3 (ix4 b p h l)
    = (val_main_v22 (F := Ideal) x0 x3 (ix4 b p h (⟨64 + l.val, by have := l.isLt; omega⟩ : Fin 128)) : EReal) * cosAt c64 (posW p.val) l.val
      + (val_main_v22 (F := Ideal) x0 x3 (ix4 b p h (⟨l.val, by have := l.isLt; omega⟩ : Fin 128)) : EReal) * sinAt c64 (posW p.val) l.val := by
  rw [val_main_v50_apply, val_main_v47_apply, val_main_v49_apply, val_main_v39_apply, val_main_v40_apply]
  refine congrArg₂ (fun a b : EReal => a + b) (congrArg₂ (fun a b : EReal => a * b) (congrArg _ (funext fun a => Fin.ext ?_)) (q_cos44 b p h l))
    (congrArg₂ (fun a b : EReal => a * b) (congrArg _ (funext fun a => Fin.ext ?_)) (q_sin46 b p h l))
  · fin_cases a <;> rfl
  · fin_cases a <;> rfl

theorem q_rot (h : Fin 8) (k : Fin 128) : val_main_v51 (F := Ideal) x0 x3 (ix4 b p h k)
    = turn128 (fun l => val_main_v22 (F := Ideal) x0 x3 (ix4 b p h l)) (posW p.val) k := by
  have hk := k.isLt
  unfold val_main_v51 turn128
  by_cases hl : k.val < 64
  · rw [if_pos hl]
    refine (concatenate_pair_apply_left (t := S8x8x8x128) (3 : Fin 4) _ _ concatenates_S8x8x8x64_S8x8x8x64_S8x8x8x128_d3 (ix4 b p h k) rfl
      (ix4 b p h (⟨k.val, hl⟩ : Fin 64)) (fun a => match a with
        | ⟨0, _⟩ => rfl
        | ⟨1, _⟩ => rfl
        | ⟨2, _⟩ => rfl
        | ⟨3, _⟩ => rfl)).trans ((q_first x0 x3 b p h _).trans ?_)
    refine congrArg₂ (fun a b : EReal => a - b) rfl (congrArg₂ (fun a b : EReal => a * b) (congrArg (fun l : Fin 128 => val_main_v22 (F := Ideal) x0 x3 (ix4 b p h l)) (Fin.ext ?_)) rfl)
    show 64 + k.val = (k.val + 64) % 128; omega
  · rw [if_neg hl]
    refine (concatenate_pair_apply_right (t := S8x8x8x128) (3 : Fin 4) _ _ concatenates_S8x8x8x64_S8x8x8x64_S8x8x8x128_d3 (ix4 b p h k) rfl rfl
      (ix4 b p h (⟨k.val - 64, by omega⟩ : Fin 64)) (fun a ha => match a, ha with
        | ⟨0, _⟩, _ => rfl
        | ⟨1, _⟩, _ => rfl
        | ⟨2, _⟩, _ => rfl
        | ⟨3, _⟩, ha => absurd rfl ha) (by show k.val - 64 + 64 = k.val; omega)).trans ((q_second x0 x3 b p h _).trans ?_)
    refine congrArg₂ (fun a b : EReal => a + b) (congrArg₂ (fun a b : EReal => a * b) (congrArg (fun l : Fin 128 => val_main_v22 (F := Ideal) x0 x3 (ix4 b p h l)) (Fin.ext ?_)) rfl)
      (congrArg₂ (fun a b : EReal => a * b) (congrArg (fun l : Fin 128 => val_main_v22 (F := Ideal) x0 x3 (ix4 b p h l)) (Fin.ext ?_)) rfl)
    · show 64 + (k.val - 64) = k.val; omega
    · show k.val - 64 = (k.val + 64) % 128; omega

theorem k_cos83 (h : Fin 8) (l : Fin 64) : val_main_v85 (F := Ideal) (ix4 b p h l) = cosAt c64 (posW p.val) l.val := by
  rw [val_main_v85_apply, val_main_v80_apply, val_main_v79_apply]
  refine congrArg Ideal.cos (Eq.trans (congrArg _ (funext fun a => Fin.ext ?_)) (k_ang p l))
  fin_cases a <;> rfl

theorem k_sin85 (h : Fin 8) (l : Fin 64) : val_main_v87 (F := Ideal) (ix4 b p h l) = sinAt c64 (posW p.val) l.val := by
  rw [val_main_v87_apply, val_main_v82_apply, val_main_v81_apply]
  refine congrArg Ideal.sin (Eq.trans (congrArg _ (funext fun a => Fin.ext ?_)) (k_ang p l))
  fin_cases a <;> rfl

theorem k_cos88 (h : Fin 8) (l : Fin 64) : val_main_v90 (F := Ideal) (ix4 b p h l) = cosAt c64 (posW p.val) l.val := by
  rw [val_main_v90_apply, val_main_v80_apply, val_main_v79_apply]
  refine congrArg Ideal.cos (Eq.trans (congrArg _ (funext fun a => Fin.ext ?_)) (k_ang p l))
  fin_cases a <;> rfl

theorem k_sin90 (h : Fin 8) (l : Fin 64) : val_main_v92 (F := Ideal) (ix4 b p h l) = sinAt c64 (posW p.val) l.val := by
  rw [val_main_v92_apply, val_main_v82_apply, val_main_v81_apply]
  refine congrArg Ideal.sin (Eq.trans (congrArg _ (funext fun a => Fin.ext ?_)) (k_ang p l))
  fin_cases a <;> rfl

theorem k_first (h : Fin 8) (l : Fin 64) : val_main_v89 (F := Ideal) x0 x4 (ix4 b p h l)
    = (val_main_v66 (F := Ideal) x0 x4 (ix4 b p h (⟨l.val, by have := l.isLt; omega⟩ : Fin 128)) : EReal) * cosAt c64 (posW p.val) l.val
      - (val_main_v66 (F := Ideal) x0 x4 (ix4 b p h (⟨64 + l.val, by have := l.isLt; omega⟩ : Fin 128)) : EReal) * sinAt c64 (posW p.val) l.val := by
  rw [val_main_v89_apply, val_main_v86_apply, val_main_v88_apply, val_main_v83_apply, val_main_v84_apply]
  refine congrArg₂ (fun a b : EReal => a - b) (congrArg₂ (fun a b : EReal => a * b) (congrArg _ (funext fun a => Fin.ext ?_)) (k_cos83 b p h l))
    (congrArg₂ (fun a b : EReal => a * b) (congrArg _ (funext fun a => Fin.ext ?_)) (k_sin85 b p h l))
  · fin_cases a <;> rfl
  · fin_cases a <;> rfl

theorem k_second (h : Fin 8) (l : Fin 64) : val_main_v94 (F := Ideal) x0 x4 (ix4 b p h l)
    = (val_main_v66 (F := Ideal) x0 x4 (ix4 b p h (⟨64 + l.val, by have := l.isLt; omega⟩ : Fin 128)) : EReal) * cosAt c64 (posW p.val) l.val
      + (val_main_v66 (F := Ideal) x0 x4 (ix4 b p h (⟨l.val, by have := l.isLt; omega⟩ : Fin 128)) : EReal) * sinAt c64 (posW p.val) l.val := by
  rw [val_main_v94_apply, val_main_v91_apply, val_main_v93_apply, val_main_v83_apply, val_main_v84_apply]
  refine congrArg₂ (fun a b : EReal => a + b) (congrArg₂ (fun a b : EReal => a * b) (congrArg _ (funext fun a => Fin.ext ?_)) (k_cos88 b p h l))
    (congrArg₂ (fun a b : EReal => a * b) (congrArg _ (funext fun a => Fin.ext ?_)) (k_sin90 b p h l))
  · fin_cases a <;> rfl
  · fin_cases a <;> rfl

theorem k_rot (h : Fin 8) (k : Fin 128) : val_main_v95 (F := Ideal) x0 x4 (ix4 b p h k)
    = turn128 (fun l => val_main_v66 (F := Ideal) x0 x4 (ix4 b p h l)) (posW p.val) k := by
  have hk := k.isLt
  unfold val_main_v95 turn128
  by_cases hl : k.val < 64
  · rw [if_pos hl]
    refine (concatenate_pair_apply_left (t := S8x8x8x128) (3 : Fin 4) _ _ concatenates_S8x8x8x64_S8x8x8x64_S8x8x8x128_d3 (ix4 b p h k) rfl
      (ix4 b p h (⟨k.val, hl⟩ : Fin 64)) (fun a => match a with
        | ⟨0, _⟩ => rfl
        | ⟨1, _⟩ => rfl
        | ⟨2, _⟩ => rfl
        | ⟨3, _⟩ => rfl)).trans ((k_first x0 x4 b p h _).trans ?_)
    refine congrArg₂ (fun a b : EReal => a - b) rfl (congrArg₂ (fun a b : EReal => a * b) (congrArg (fun l : Fin 128 => val_main_v66 (F := Ideal) x0 x4 (ix4 b p h l)) (Fin.ext ?_)) rfl)
    show 64 + k.val = (k.val + 64) % 128; omega
  · rw [if_neg hl]
    refine (concatenate_pair_apply_right (t := S8x8x8x128) (3 : Fin 4) _ _ concatenates_S8x8x8x64_S8x8x8x64_S8x8x8x128_d3 (ix4 b p h k) rfl rfl
      (ix4 b p h (⟨k.val - 64, by omega⟩ : Fin 64)) (fun a ha => match a, ha with
        | ⟨0, _⟩, _ => rfl
        | ⟨1, _⟩, _ => rfl
        | ⟨2, _⟩, _ => rfl
        | ⟨3, _⟩, ha => absurd rfl ha) (by show k.val - 64 + 64 = k.val; omega)).trans ((k_second x0 x4 b p h _).trans ?_)
    refine congrArg₂ (fun a b : EReal => a + b) (congrArg₂ (fun a b : EReal => a * b) (congrArg (fun l : Fin 128 => val_main_v66 (F := Ideal) x0 x4 (ix4 b p h l)) (Fin.ext ?_)) rfl)
      (congrArg₂ (fun a b : EReal => a * b) (congrArg (fun l : Fin 128 => val_main_v66 (F := Ideal) x0 x4 (ix4 b p h l)) (Fin.ext ?_)) rfl)
    · show 64 + (k.val - 64) = k.val; omega
    · show k.val - 64 = (k.val + 64) % 128; omega

theorem iq_cos114 (h : Fin 16) (l : Fin 32) : val_main_v116 (F := Ideal) (ix4 b p h l) = cosAt c32 (posW p.val) l.val := by
  rw [val_main_v116_apply, val_main_v111_apply, val_main_v110_apply]
  refine congrArg Ideal.cos (Eq.trans (congrArg _ (funext fun a => Fin.ext ?_)) (iq_ang p l))
  fin_cases a <;> rfl

theorem iq_sin116 (h : Fin 16) (l : Fin 32) : val_main_v118 (F := Ideal) (ix4 b p h l) = sinAt c32 (posW p.val) l.val := by
  rw [val_main_v118_apply, val_main_v113_apply, val_main_v112_apply]
  refine congrArg Ideal.sin (Eq.trans (congrArg _ (funext fun a => Fin.ext ?_)) (iq_ang p l))
  fin_cases a <;> rfl

theorem iq_cos119 (h : Fin 16) (l : Fin 32) : val_main_v121 (F := Ideal) (ix4 b p h l) = cosAt c32 (posW p.val) l.val := by
  rw [val_main_v121_apply, val_main_v111_apply, val_main_v110_apply]
  refine congrArg Ideal.cos (Eq.trans (congrArg _ (funext fun a => Fin.ext ?_)) (iq_ang p l))
  fin_cases a <;> rfl

theorem iq_sin121 (h : Fin 16) (l : Fin 32) : val_main_v123 (F := Ideal) (ix4 b p h l) = sinAt c32 (posW p.val) l.val := by
  rw [val_main_v123_apply, val_main_v113_apply, val_main_v112_apply]
  refine congrArg Ideal.sin (Eq.trans (congrArg _ (funext fun a => Fin.ext ?_)) (iq_ang p l))
  fin_cases a <;> rfl

theorem iq_first (h : Fin 16) (l : Fin 32) : val_main_v120 (F := Ideal) x0 (ix4 b p h l)
    = (val_main_v97 (F := Ideal) x0 (ix4 b p h (⟨l.val, by have := l.isLt; omega⟩ : Fin 64)) : EReal) * cosAt c32 (posW p.val) l.val
      - (val_main_v97 (F := Ideal) x0 (ix4 b p h (⟨32 + l.val, by have := l.isLt; omega⟩ : Fin 64)) : EReal) * sinAt c32 (posW p.val) l.val := by
  rw [val_main_v120_apply, val_main_v117_apply, val_main_v119_apply, val_main_v114_apply, val_main_v115_apply]
  refine congrArg₂ (fun a b : EReal => a - b) (congrArg₂ (fun a b : EReal => a * b) (congrArg _ (funext fun a => Fin.ext ?_)) (iq_cos114 b p h l))
    (congrArg₂ (fun a b : EReal => a * b) (congrArg _ (funext fun a => Fin.ext ?_)) (iq_sin116 b p h l))
  · fin_cases a <;> rfl
  · fin_cases a <;> rfl

theorem iq_second (h : Fin 16) (l : Fin 32) : val_main_v125 (F := Ideal) x0 (ix4 b p h l)
    = (val_main_v97 (F := Ideal) x0 (ix4 b p h (⟨32 + l.val, by have := l.isLt; omega⟩ : Fin 64)) : EReal) * cosAt c32 (posW p.val) l.val
      + (val_main_v97 (F := Ideal) x0 (ix4 b p h (⟨l.val, by have := l.isLt; omega⟩ : Fin 64)) : EReal) * sinAt c32 (posW p.val) l.val := by
  rw [val_main_v125_apply, val_main_v122_apply, val_main_v124_apply, val_main_v114_apply, val_main_v115_apply]
  refine congrArg₂ (fun a b : EReal => a + b) (congrArg₂ (fun a b : EReal => a * b) (congrArg _ (funext fun a => Fin.ext ?_)) (iq_cos119 b p h l))
    (congrArg₂ (fun a b : EReal => a * b) (congrArg _ (funext fun a => Fin.ext ?_)) (iq_sin121 b p h l))
  · fin_cases a <;> rfl
  · fin_cases a <;> rfl

theorem iq_rot (h : Fin 16) (k : Fin 64) : val_main_v126 (F := Ideal) x0 (ix4 b p h k)
    = turn64 (fun l => val_main_v97 (F := Ideal) x0 (ix4 b p h l)) (posW p.val) k := by
  have hk := k.isLt
  unfold val_main_v126 turn64
  by_cases hl : k.val < 32
  · rw [if_pos hl]
    refine (concatenate_pair_apply_left (t := S8x8x16x64) (3 : Fin 4) _ _ concatenates_S8x8x16x32_S8x8x16x32_S8x8x16x64_d3 (ix4 b p h k) rfl
      (ix4 b p h (⟨k.val, hl⟩ : Fin 32)) (fun a => match a with
        | ⟨0, _⟩ => rfl
        | ⟨1, _⟩ => rfl
        | ⟨2, _⟩ => rfl
        | ⟨3, _⟩ => rfl)).trans ((iq_first x0 b p h _).trans ?_)
    refine congrArg₂ (fun a b : EReal => a - b) rfl (congrArg₂ (fun a b : EReal => a * b) (congrArg (fun l : Fin 64 => val_main_v97 (F := Ideal) x0 (ix4 b p h l)) (Fin.ext ?_)) rfl)
    show 32 + k.val = (k.val + 32) % 64; omega
  · rw [if_neg hl]
    refine (concatenate_pair_apply_right (t := S8x8x16x64) (3 : Fin 4) _ _ concatenates_S8x8x16x32_S8x8x16x32_S8x8x16x64_d3 (ix4 b p h k) rfl rfl
      (ix4 b p h (⟨k.val - 32, by omega⟩ : Fin 32)) (fun a ha => match a, ha with
        | ⟨0, _⟩, _ => rfl
        | ⟨1, _⟩, _ => rfl
        | ⟨2, _⟩, _ => rfl
        | ⟨3, _⟩, ha => absurd rfl ha) (by show k.val - 32 + 32 = k.val; omega)).trans ((iq_second x0 b p h _).trans ?_)
    refine congrArg₂ (fun a b : EReal => a + b) (congrArg₂ (fun a b : EReal => a * b) (congrArg (fun l : Fin 64 => val_main_v97 (F := Ideal) x0 (ix4 b p h l)) (Fin.ext ?_)) rfl)
      (congrArg₂ (fun a b : EReal => a * b) (congrArg (fun l : Fin 64 => val_main_v97 (F := Ideal) x0 (ix4 b p h l)) (Fin.ext ?_)) rfl)
    · show 32 + (k.val - 32) = k.val; omega
    · show k.val - 32 = (k.val + 32) % 64; omega

theorem ik_cos158 (h : Fin 1) (l : Fin 32) : val_main_v160 (F := Ideal) (ix4 b p h l) = cosAt c32 (posW p.val) l.val := by
  rw [val_main_v160_apply, val_main_v155_apply, val_main_v154_apply]
  refine congrArg Ideal.cos (Eq.trans (congrArg _ (funext fun a => Fin.ext ?_)) (ik_ang p l))
  fin_cases a <;> rfl

theorem ik_sin160 (h : Fin 1) (l : Fin 32) : val_main_v162 (F := Ideal) (ix4 b p h l) = sinAt c32 (posW p.val) l.val := by
  rw [val_main_v162_apply, val_main_v157_apply, val_main_v156_apply]
  refine congrArg Ideal.sin (Eq.trans (congrArg _ (funext fun a => Fin.ext ?_)) (ik_ang p l))
  fin_cases a <;> rfl

theorem ik_cos163 (h : Fin 1) (l : Fin 32) : val_main_v165 (F := Ideal) (ix4 b p h l) = cosAt c32 (posW p.val) l.val := by
  rw [val_main_v165_apply, val_main_v155_apply, val_main_v154_apply]
  refine congrArg Ideal.cos (Eq.trans (congrArg _ (funext fun a => Fin.ext ?_)) (ik_ang p l))
  fin_cases a <;> rfl

theorem ik_sin165 (h : Fin 1) (l : Fin 32) : val_main_v167 (F := Ideal) (ix4 b p h l) = sinAt c32 (posW p.val) l.val := by
  rw [val_main_v167_apply, val_main_v157_apply, val_main_v156_apply]
  refine congrArg Ideal.sin (Eq.trans (congrArg _ (funext fun a => Fin.ext ?_)) (ik_ang p l))
  fin_cases a <;> rfl

theorem ik_first (h : Fin 1) (l : Fin 32) : val_main_v164 (F := Ideal) x1 x5 (ix4 b p h l)
    = (val_main_v141 (F := Ideal) x1 x5 (ix4 b p h (⟨l.val, by have := l.isLt; omega⟩ : Fin 64)) : EReal) * cosAt c32 (posW p.val) l.val
      - (val_main_v141 (F := Ideal) x1 x5 (ix4 b p h (⟨32 + l.val, by have := l.isLt; omega⟩ : Fin 64)) : EReal) * sinAt c32 (posW p.val) l.val := by
  rw [val_main_v164_apply, val_main_v161_apply, val_main_v163_apply, val_main_v158_apply, val_main_v159_apply]
  refine congrArg₂ (fun a b : EReal => a - b) (congrArg₂ (fun a b : EReal => a * b) (congrArg _ (funext fun a => Fin.ext ?_)) (ik_cos158 b p h l))
    (congrArg₂ (fun a b : EReal => a * b) (congrArg _ (funext fun a => Fin.ext ?_)) (ik_sin160 b p h l))
  · fin_cases a <;> rfl
  · fin_cases a <;> rfl

theorem ik_second (h : Fin 1) (l : Fin 32) : val_main_v169 (F := Ideal) x1 x5 (ix4 b p h l)
    = (val_main_v141 (F := Ideal) x1 x5 (ix4 b p h (⟨32 + l.val, by have := l.isLt; omega⟩ : Fin 64)) : EReal) * cosAt c32 (posW p.val) l.val
      + (val_main_v141 (F := Ideal) x1 x5 (ix4 b p h (⟨l.val, by have := l.isLt; omega⟩ : Fin 64)) : EReal) * sinAt c32 (posW p.val) l.val := by
  rw [val_main_v169_apply, val_main_v166_apply, val_main_v168_apply, val_main_v158_apply, val_main_v159_apply]
  refine congrArg₂ (fun a b : EReal => a + b) (congrArg₂ (fun a b : EReal => a * b) (congrArg _ (funext fun a => Fin.ext ?_)) (ik_cos163 b p h l))
    (congrArg₂ (fun a b : EReal => a * b) (congrArg _ (funext fun a => Fin.ext ?_)) (ik_sin165 b p h l))
  · fin_cases a <;> rfl
  · fin_cases a <;> rfl

theorem ik_rot (h : Fin 1) (k : Fin 64) : val_main_v170 (F := Ideal) x1 x5 (ix4 b p h k)
    = turn64 (fun l => val_main_v141 (F := Ideal) x1 x5 (ix4 b p h l)) (posW p.val) k := by
  have hk := k.isLt
  unfold val_main_v170 turn64
  by_cases hl : k.val < 32
  · rw [if_pos hl]
    refine (concatenate_pair_apply_left (t := S8x8x1x64) (3 : Fin 4) _ _ concatenates_S8x8x1x32_S8x8x1x32_S8x8x1x64_d3 (ix4 b p h k) rfl
      (ix4 b p h (⟨k.val, hl⟩ : Fin 32)) (fun a => match a with
        | ⟨0, _⟩ => rfl
        | ⟨1, _⟩ => rfl
        | ⟨2, _⟩ => rfl
        | ⟨3, _⟩ => rfl)).trans ((ik_first x1 x5 b p h _).trans ?_)
    refine congrArg₂ (fun a b : EReal => a - b) rfl (congrArg₂ (fun a b : EReal => a * b) (congrArg (fun l : Fin 64 => val_main_v141 (F := Ideal) x1 x5 (ix4 b p h l)) (Fin.ext ?_)) rfl)
    show 32 + k.val = (k.val + 32) % 64; omega
  · rw [if_neg hl]
    refine (concatenate_pair_apply_right (t := S8x8x1x64) (3 : Fin 4) _ _ concatenates_S8x8x1x32_S8x8x1x32_S8x8x1x64_d3 (ix4 b p h k) rfl rfl
      (ix4 b p h (⟨k.val - 32, by omega⟩ : Fin 32)) (fun a ha => match a, ha with
        | ⟨0, _⟩, _ => rfl
        | ⟨1, _⟩, _ => rfl
        | ⟨2, _⟩, _ => rfl
        | ⟨3, _⟩, ha => absurd rfl ha) (by show k.val - 32 + 32 = k.val; omega)).trans ((ik_second x1 x5 b p h _).trans ?_)
    refine congrArg₂ (fun a b : EReal => a + b) (congrArg₂ (fun a b : EReal => a * b) (congrArg (fun l : Fin 64 => val_main_v141 (F := Ideal) x1 x5 (ix4 b p h l)) (Fin.ext ?_)) rfl)
      (congrArg₂ (fun a b : EReal => a * b) (congrArg (fun l : Fin 64 => val_main_v141 (F := Ideal) x1 x5 (ix4 b p h l)) (Fin.ext ?_)) rfl)
    · show 32 + (k.val - 32) = k.val; omega
    · show k.val - 32 = (k.val + 32) % 64; omega

/-! ## The eight arrays -/

theorem q_array : val_main_v176 (F := Ideal) x0 x3 = arrA (headVal 0 x0 x3) := arrA_ext _ _ fun b p j => by
  have hb := b.isLt
  have hp := p.isLt
  have hj := j.isLt
  rw [val_main_v176_apply, val_main_v52_apply]
  refine Eq.trans (congrArg (val_main_v51 (F := Ideal) x0 x3) (funext fun a => Fin.ext ?_))
    ((q_rot x0 x3 b p (⟨j.val / 128, by omega⟩ : Fin 8) (⟨j.val % 128, Nat.mod_lt _ (by decide)⟩ : Fin 128)).trans ?_)
  · match a with
    | ⟨0, _⟩ => show ((b.val * 8 + p.val) * 1024 + j.val) / 8192 = b.val; omega
    | ⟨1, _⟩ => show ((b.val * 8 + p.val) * 1024 + j.val) / 1024 % 8 = p.val; omega
    | ⟨2, _⟩ => show ((b.val * 8 + p.val) * 1024 + j.val) / 128 % 8 = j.val / 128; omega
    | ⟨3, _⟩ => show ((b.val * 8 + p.val) * 1024 + j.val) % 128 = j.val % 128; omega
  · unfold headVal
    exact congrArg (fun f : Fin 128 → EReal => turn128 f (posW p.val) (inHead j)) (funext fun l => q_norm x0 x3 b p _ l)

theorem k_array : val_main_v96 (F := Ideal) x0 x4 = arrA (headVal 1 x0 x4) := arrA_ext _ _ fun b p j => by
  have hb := b.isLt
  have hp := p.isLt
  have hj := j.isLt
  rw [val_main_v96_apply]
  refine Eq.trans (congrArg (val_main_v95 (F := Ideal) x0 x4) (funext fun a => Fin.ext ?_))
    ((k_rot x0 x4 b p (⟨j.val / 128, by omega⟩ : Fin 8) (⟨j.val % 128, Nat.mod_lt _ (by decide)⟩ : Fin 128)).trans ?_)
  · match a with
    | ⟨0, _⟩ => show ((b.val * 8 + p.val) * 1024 + j.val) / 8192 = b.val; omega
    | ⟨1, _⟩ => show ((b.val * 8 + p.val) * 1024 + j.val) / 1024 % 8 = p.val; omega
    | ⟨2, _⟩ => show ((b.val * 8 + p.val) * 1024 + j.val) / 128 % 8 = j.val / 128; omega
    | ⟨3, _⟩ => show ((b.val * 8 + p.val) * 1024 + j.val) % 128 = j.val % 128; omega
  · unfold headVal
    exact congrArg (fun f : Fin 128 → EReal => turn128 f (posW p.val) (inHead j)) (funext fun l => k_norm x0 x4 b p _ l)

theorem k_again : val_main_v177 (F := Ideal) x0 x4 = arrA (headVal 1 x0 x4) :=
  Eq.trans (funext fun i => (val_main_v177_apply (F := Ideal) x0 x4 i).trans rfl) (k_array x0 x4)

theorem v_array : val_main_v178 (F := Ideal) x0 = arrA (copyVal x0) := arrA_ext _ _ fun b p j => by
  rw [val_main_v178_apply, val_main_v5_apply]
  unfold copyVal
  refine congrArg x0 (funext fun a => Fin.ext ?_)
  match a with
  | ⟨0, _⟩ => rfl
  | ⟨1, _⟩ => rfl
  | ⟨2, _⟩ => show 2048 + j.val = 2 * 1024 + j.val; omega

theorem iq_array : val_main_v179 (F := Ideal) x0 = arrA (pairVal x0) := arrA_ext _ _ fun b p j => by
  have hb := b.isLt
  have hp := p.isLt
  have hj := j.isLt
  rw [val_main_v179_apply, val_main_v127_apply]
  refine Eq.trans (congrArg (val_main_v126 (F := Ideal) x0) (funext fun a => Fin.ext ?_))
    ((iq_rot x0 b p (⟨j.val / 64, by omega⟩ : Fin 16) (⟨j.val % 64, Nat.mod_lt _ (by decide)⟩ : Fin 64)).trans ?_)
  · match a with
    | ⟨0, _⟩ => show ((b.val * 8 + p.val) * 1024 + j.val) / 8192 = b.val; omega
    | ⟨1, _⟩ => show ((b.val * 8 + p.val) * 1024 + j.val) / 1024 % 8 = p.val; omega
    | ⟨2, _⟩ => show ((b.val * 8 + p.val) * 1024 + j.val) / 64 % 16 = j.val / 64; omega
    | ⟨3, _⟩ => show ((b.val * 8 + p.val) * 1024 + j.val) % 64 = j.val % 64; omega
  · unfold pairVal
    exact congrArg (fun f : Fin 64 → EReal => turn64 f (posW p.val) ⟨j.val % 64, Nat.mod_lt _ (by decide)⟩) (funext fun l => iq_in x0 b p _ l)

theorem ik_at (k : Fin 64) : val_main_v171 (F := Ideal) x1 x5 (ix3 b p k) = ikVal x1 x5 b p k := by
  have hb := b.isLt
  have hp := p.isLt
  have hk := k.isLt
  rw [val_main_v171_apply]
  refine Eq.trans (congrArg (val_main_v170 (F := Ideal) x1 x5) (funext fun a => Fin.ext ?_)) ((ik_rot x1 x5 b p (0 : Fin 1) k).trans ?_)
  · match a with
    | ⟨0, _⟩ => show ((b.val * 8 + p.val) * 64 + k.val) / 512 = b.val; omega
    | ⟨1, _⟩ => show ((b.val * 8 + p.val) * 64 + k.val) / 64 % 8 = p.val; omega
    | ⟨2, _⟩ => rfl
    | ⟨3, _⟩ => show ((b.val * 8 + p.val) * 64 + k.val) % 64 = k.val; omega
  · unfold ikVal
    exact congrArg (fun f : Fin 64 → EReal => turn64 f (posW p.val) k) (funext fun l => ik_norm x1 x5 b p l)

theorem small_array : val_main_v180 (F := Ideal) x1 x5 = arrB (smallVal x1 x5) := arrB_ext _ _ fun b p k => by
  unfold val_main_v180 smallVal
  by_cases h : k.val < 64
  · rw [dif_pos h]
    exact (concatenate_pair_apply_left (t := S8x8x128) (2 : Fin 3) _ _ concatenates_S8x8x64_S8x8x64_S8x8x128_d2 (ix3 b p k) rfl
      (ix3 b p (⟨k.val, h⟩ : Fin 64)) (fun a => match a with
        | ⟨0, _⟩ => rfl
        | ⟨1, _⟩ => rfl
        | ⟨2, _⟩ => rfl)).trans (ik_at x1 x5 b p _)
  · rw [dif_neg h]
    have hk := k.isLt
    refine (concatenate_pair_apply_right (t := S8x8x128) (2 : Fin 3) _ _ concatenates_S8x8x64_S8x8x64_S8x8x128_d2 (ix3 b p k) rfl rfl
      (ix3 b p (⟨k.val - 64, by omega⟩ : Fin 64)) (fun a ha => match a, ha with
        | ⟨0, _⟩, _ => rfl
        | ⟨1, _⟩, _ => rfl
        | ⟨2, _⟩, ha => absurd rfl ha) (by show k.val - 64 + 64 = k.val; omega)).trans ?_
    rw [val_main_v173_apply, val_main_v8_apply]
    refine congrArg₂ (fun a b : EReal => a * b) (congrArg x1 (funext fun a => Fin.ext ?_)) ((val_main_v172_apply (F := Ideal) _).trans rfl)
    match a with
    | ⟨0, _⟩ => rfl
    | ⟨1, _⟩ => rfl
    | ⟨2, _⟩ => show 64 + (k.val - 64) = k.val; omega

theorem twice_array : val_main_v182 (F := Ideal) x1 x5 = arrB (twiceVal x1 x5) := arrB_ext _ _ fun b p k => by
  rw [val_main_v182_apply]
  show (val_main_v181 (F := Ideal) x1 x5 (ix3 b p k) : EReal) = _
  unfold val_main_v181 twiceVal
  have hk := k.isLt
  by_cases h : k.val < 64
  · exact (concatenate_pair_apply_left (t := S8x8x128) (2 : Fin 3) _ _ concatenates_S8x8x64_S8x8x64_S8x8x128_d2 (ix3 b p k) rfl
      (ix3 b p (⟨k.val % 64, Nat.mod_lt _ (by decide)⟩ : Fin 64)) (fun a => match a with
        | ⟨0, _⟩ => rfl
        | ⟨1, _⟩ => rfl
        | ⟨2, _⟩ => Nat.mod_eq_of_lt h)).trans (ik_at x1 x5 b p _)
  · exact (concatenate_pair_apply_right (t := S8x8x128) (2 : Fin 3) _ _ concatenates_S8x8x64_S8x8x64_S8x8x128_d2 (ix3 b p k) rfl rfl
      (ix3 b p (⟨k.val % 64, Nat.mod_lt _ (by decide)⟩ : Fin 64)) (fun a ha => match a, ha with
        | ⟨0, _⟩, _ => rfl
        | ⟨1, _⟩, _ => rfl
        | ⟨2, _⟩, ha => absurd rfl ha) (by show k.val % 64 + 64 = k.val; omega)).trans (ik_at x1 x5 b p _)

theorem glu_array : val_main_v189 (F := Ideal) x2 = arrA (gluVal x2) := arrA_ext _ _ fun b p j => by
  rw [val_main_v189_apply, val_main_v188_apply, val_main_v186_apply, val_main_v184_apply, val_main_v183_apply,
    val_main_v174_apply, val_main_v175_apply]
  unfold gluVal
  refine congrArg₂ (fun a b : EReal => a * b) (congrArg x2 (funext fun a => Fin.ext ?_))
    (congrArg₂ (fun a b : EReal => Ideal.div a b) (((val_main_v187_apply (F := Ideal) _).trans rfl).trans Ideal.ofBits_one_f32)
      (congrArg₂ (fun a b : EReal => a + b) (((val_main_v185_apply (F := Ideal) _).trans rfl).trans Ideal.ofBits_one_f32)
        (congrArg (fun a : EReal => Ideal.exp (-a)) (congrArg x2 (funext fun a => Fin.ext ?_)))))
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.PostSReference

end
-- ==== Proof.PostSValue.lean ====
/-
  The mixer's preparation call (sample group) and its reference end with the same eight arrays.
-/
module

public import proofs.«01_k».proof.Defs
public import proofs.«01_k».proof.Proof.PostSFinal
public import proofs.«01_k».proof.Proof.PostSReference
public import Idealize.ShloMosaic.Lib.Claim
public import Idealize.ShloMosaic.Lib.Quiescent

@[expose] public section

noncomputable section

namespace Cert.PostSValue

open Idealize.ShloMosaic Idealize.ShloMosaic.TcCoe Idealize.SL.Sem
open Cert.PostSRefIdeal.Read Cert.PostSIdeal.Mine Cert.PostSReference

theorem frame_ref : Cert.quiescent_PostSRefIdeal := fun m g _ =>
  θ_run_and ((θ_run (Cert.PostSRefIdeal.defs (F := Ideal)) _ _).mono (fun _ h c => (h c).2.2.2.2.2.2.2.2) (Cert.PostSRefIdeal.Value.run (F := Ideal) m g))
    ((θ_run (Cert.PostSRefIdeal.defs (F := Ideal)) _ _).mono (fun r _ => sem_eq_zero_of_no_sems rfl r.2) (Cert.PostSRefIdeal.Value.run (F := Ideal) m g))

/-- The kernel and its reference end with the same eight arrays. -/
theorem algebraic : Cert.algebraic_PostSIdeal_PostSRefIdeal := fun m g m' g' _ hargs =>
  ⟨fun c => arrA (headVal 0 (qkvi m c) (qgs m c)), fun c => arrA (headVal 1 (qkvi m c) (kgs m c)),
    fun c => arrA (headVal 1 (qkvi m c) (kgs m c)), fun c => arrA (copyVal (qkvi m c)), fun c => arrA (pairVal (qkvi m c)),
    fun c => arrB (smallVal (smalls m c) (igs m c)), fun c => arrB (twiceVal (smalls m c) (igs m c)), fun c => arrA (gluVal (us m c)),
    (θ_run (Cert.PostSIdeal.defs (F := Ideal)) _ _).mono
      (fun _ h c => ⟨(h c).1.trans (final13 m c), (h c).2.1.trans (final14 m c), (h c).2.2.1.trans (final15 m c),
        (h c).2.2.2.1.trans (final16 m c), (h c).2.2.2.2.1.trans (final17 m c), (h c).2.2.2.2.2.1.trans (final18 m c),
        (h c).2.2.2.2.2.2.1.trans (final19 m c), (h c).2.2.2.2.2.2.2.1.trans (final20 m c), (h c).2.2.2.2.2.2.2.2⟩)
      (Cert.PostSIdeal.Value.run_blocks (F := Ideal) m g),
    (θ_run (Cert.PostSRefIdeal.defs (F := Ideal)) _ _).mono (fun _ h c => by
        obtain ⟨a0, a1, a2, a3, a4, a5⟩ := hargs c
        obtain ⟨r0, r1, r2, r3, r4, r5, r6, r7, rest⟩ := h c
        refine ⟨r0.trans ?_, r1.trans ?_, r2.trans ?_, r3.trans ?_, r4.trans ?_, r5.trans ?_, r6.trans ?_, r7.trans ?_, rest⟩
        · exact (val_main_v176_eq (F := Ideal) _).trans ((q_array _ _).trans (congrArg₂ (fun x g => arrA (headVal 0 x g)) a0 a3))
        · exact (val_main_v96_eq (F := Ideal) _).trans ((k_array _ _).trans (congrArg₂ (fun x g => arrA (headVal 1 x g)) a0 a4))
        · exact (val_main_v177_eq (F := Ideal) _).trans ((k_again _ _).trans (congrArg₂ (fun x g => arrA (headVal 1 x g)) a0 a4))
        · exact (val_main_v178_eq (F := Ideal) _).trans ((v_array _).trans (congrArg (fun x => arrA (copyVal x)) a0))
        · exact (val_main_v179_eq (F := Ideal) _).trans ((iq_array _).trans (congrArg (fun x => arrA (pairVal x)) a0))
        · exact (val_main_v180_eq (F := Ideal) _).trans ((small_array _ _).trans (congrArg₂ (fun x g => arrB (smallVal x g)) a1 a5))
        · exact (val_main_v182_eq (F := Ideal) _).trans ((twice_array _ _).trans (congrArg₂ (fun x g => arrB (twiceVal x g)) a1 a5))
        · exact (val_main_v189_eq (F := Ideal) _).trans ((glu_array _).trans (congrArg (fun x => arrA (gluVal x)) a2)))
      (Cert.PostSRefIdeal.Value.run (F := Ideal) m' g')⟩

end Cert.PostSValue

end
-- ==== Proof.UpValue.lean ====
/-
  The even layers' input projection, the columns of the gated pair, against its reference. The host slices the last 2048
  columns of layer 0's weight out (`cols_apply`); one grid point multiplies 1024 rows of the activations by 1024 of those
  columns over the whole contracted axis; the blocks tile the result (`final`). The reference projects on all 6224 columns
  and keeps the last 2048.
-/
module

public import proofs.«01_k».proof.Defs
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import Idealize.ShloMosaic.Lib.MatmulPlain
public import Idealize.ShloMosaic.Lib.ValueIdx
public import Idealize.ShloMosaic.Lib.Claim
public import Idealize.ShloMosaic.Lib.Quiescent
public import Idealize.ShloMosaic.Lib.StableHlo.Run

@[expose] public section

noncomputable section

namespace Cert.UpIdeal.Mine

open Cert.UpIdeal Cert.UpIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- One block's product at row `r`, column `c`: the sum over the contracted axis. -/
theorem pay_apply (x0 : Vec Ideal S1024x2048 .bf16) (x1 : Vec Ideal S2048x1024 .f32) (r : Fin 1024) (c : Fin 1024) :
    k0_pay1 x0 x1 (ix2 r c) = ∑ k : Fin 2048, x0 (ix2 r k) * x1 (ix2 k c) := by
  unfold k0_pay1
  simp only [shapeCast_self, matmul]
  rw [show dot_S1024x2048_S2048x1024_S1024x1024_1_0_0_1_n_n = DotDims.plain 1024 2048 1024 from rfl,
    Ideal.matmul_plain_apply]
  rw [show (constant S1024x1024 .f32 0x00000000#32 : FVec Ideal S1024x1024 .f32) (ix2 r c) = 0 from Ideal.ofBits_zero_f32,
    zero_add]
  exact Finset.sum_congr rfl fun k _ => congrArg (x0 (ix2 r k) * ·) rfl

theorem z2 : (![0, 0] : Fin 2 → Nat) = fun _ => 0 := funext fun a => by fin_cases a <;> rfl
theorem z3 : (![0, 0, 0] : Fin 3 → Nat) = fun _ => 0 := funext fun a => by fin_cases a <;> rfl

/-- What the body leaves in the output's buffer is that product. -/
theorem out_eq (x0 : Vec Ideal S1024x2048 .bf16) (x1 : Vec Ideal S2048x1024 .f32) : out0_2 x0 x1 = k0_pay1 x0 x1 := by
  unfold out0_2
  rw [View.canon_unit_zero z2, View.ld_unit_zero (S := S1024x2048) z2, View.ld_unit_zero (S := S2048x1024) z2]

/-- The host's flattened activations. -/
theorem flat_eq (c : Dev nD) : V m c main_v3
    = shapeCast S8192x2048 (m ((c : Thread nD τ).loc main_arg0)) shapeCasts_S2x4096x2048_S8192x2048 := by
  unfold V
  after_results <;> rfl

/-- Read at a row: batch `r / 4096`, position `r % 4096`. -/
theorem flat_apply (c : Dev nD) (r : Fin 8192) (k : Fin 2048) : (V m c main_v3 : Vec Ideal S8192x2048 .bf16) (ix2 r k)
    = (m ((c : Thread nD τ).loc main_arg0) : Vec Ideal S2x4096x2048 .bf16)
      (ix3 ⟨r.val / 4096, by omega⟩ ⟨r.val % 4096, by omega⟩ k) := by
  rw [flat_eq]
  exact shapeCast_apply _ shapeCasts_S2x4096x2048_S8192x2048 _ _
    (by rewrite [Shape.rowMajor_val_three, Shape.rowMajor_val_two]
        show (r.val / 4096 * 4096 + r.val % 4096) * 2048 + k.val = r.val * 2048 + k.val
        omega)

/-- The activations as rows, and the weight. -/
abbrev acts (c : Dev nD) : S8192x2048.Idx → EReal := V m c main_v3
abbrev weight (c : Dev nD) : S2x2048x6224.Idx → EReal := m ((c : Thread nD τ).loc main_arg1)

/-- The host's slice of the weight: layer 0, columns from 4176 on. -/
theorem cols_eq (c : Dev nD) : V m c main_v2
    = extractStridedSlice S2048x2048 ![0, 4176] (shapeCast S2048x6224 (extractStridedSlice S1x2048x6224 ![0, 0, 0]
        (m ((c : Thread nD τ).loc main_arg1)) slices_S2x2048x6224_S1x2048x6224_0_0_0) shapeCasts_S1x2048x6224_S2048x6224)
        slices_S2048x6224_S2048x2048_0_4176 := by
  unfold V
  after_results <;> rfl

theorem cols_apply (c : Dev nD) (k q : Fin 2048) : (V m c main_v2 : Vec Ideal S2048x2048 .f32) (ix2 k q)
    = weight m c (ix3 (0 : Fin 2) k (⟨4176 + q.val, by omega⟩ : Fin 6224)) := by
  rw [cols_eq]
  refine (extractStridedSlice_apply ![0, 4176] _ slices_S2048x6224_S2048x2048_0_4176 (ix2 k q)
    (ix2 k (⟨4176 + q.val, by omega⟩ : Fin 6224)) (fun a => match a with
      | ⟨0, _⟩ => by show k.val = 0 + k.val; omega
      | ⟨1, _⟩ => by show 4176 + q.val = 4176 + q.val; rfl)).trans ?_
  refine (shapeCast_apply _ shapeCasts_S1x2048x6224_S2048x6224 (ix2 k (⟨4176 + q.val, by omega⟩ : Fin 6224))
    (ix3 (0 : Fin 1) k (⟨4176 + q.val, by omega⟩ : Fin 6224))
    (by rewrite [Shape.rowMajor_val_three, Shape.rowMajor_val_two]
        show (0 * 2048 + k.val) * 6224 + (4176 + q.val) = k.val * 6224 + (4176 + q.val)
        omega)).trans ?_
  exact extractStridedSlice_apply ![0, 0, 0] _ slices_S2x2048x6224_S1x2048x6224_0_0_0 _
    (ix3 (0 : Fin 2) k (⟨4176 + q.val, by omega⟩ : Fin 6224)) (fun a => match a with
      | ⟨0, _⟩ => by show 0 = 0 + 0; rfl
      | ⟨1, _⟩ => by show k.val = 0 + k.val; omega
      | ⟨2, _⟩ => by show 4176 + q.val = 0 + (4176 + q.val); omega)

/-- The matrix product the result ends holding: columns 4176 to 6223 of the whole projection. -/
def prod (c : Dev nD) : Vec Ideal S8192x2048 .f32 := fun i =>
  ∑ k : Fin 2048, acts m c (ix2 (⟨(i 0).val, (i 0).isLt⟩ : Fin 8192) k)
    * weight m c (ix3 (0 : Fin 2) k (⟨4176 + (i 1).val, by have h : (i 1).val < 2048 := (i 1).isLt; omega⟩ : Fin 6224))

/-- Where each window stands at a grid point: rows with the output's rows, columns with its columns. -/
theorem places : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = win0_2.index t (1 : Fin 2) :=
  (by decide +kernel : ∀ t : Fin grid0.N, _)

/-- Every block of the result is some point's, and every point writes its block back. -/
theorem onto : ∀ (p : Fin 8) (q : Fin 2), ∃ t : Fin cfg0.N, (cfg0.win 2).flush t = true
    ∧ win0_2.index t (0 : Fin 2) = p.val ∧ win0_2.index t (1 : Fin 2) = q.val :=
  (by decide +kernel : ∀ (p : Fin 8) (q : Fin 2), ∃ t : Fin grid0.N, win0_2.flush t = true
    ∧ win0_2.index t (0 : Fin 2) = p.val ∧ win0_2.index t (1 : Fin 2) = q.val)

/-- Each point writes back its block of the product. -/
theorem flushed_eq (c : Dev nD) (t : Fin cfg0.N) :
    (dats m 0 c).flushed 2 t = ((cfg0.win 2).blk t).view.read (Elt Ideal) (prod m c) := by
  rw [Cert.UpIdeal.Value.flushed2, out_eq]
  obtain ⟨e0, e1, e2, e3⟩ := places t
  funext y
  have hy0 : (y 0).val < 1024 := (y 0).isLt
  have hy1 : (y 1).val < 1024 := (y 1).isLt
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, hy0⟩ : Fin 1024) (⟨(y 1).val, hy1⟩ : Fin 1024) from
    funext fun a => match a with | ⟨0, _⟩ => rfl | ⟨1, _⟩ => rfl]
  refine (pay_apply _ _ _ _).trans (Finset.sum_congr rfl fun k _ => ?_)
  refine congrArg₂ (fun a b : EReal => a * b) ?_ ?_
  · show V m c main_v3 (((cfg0.win 0).blk t).view.emb _) = V m c main_v3 _
    refine congrArg _ (funext fun a => Fin.ext ?_)
    match a with
    | ⟨0, _⟩ => show win0_0.index t (0 : Fin 2) * 1024 + 1 * (y 0).val = win0_2.index t (0 : Fin 2) * 1024 + 1 * (y 0).val; rw [e0]
    | ⟨1, _⟩ => show win0_0.index t (1 : Fin 2) * 2048 + 1 * k.val = k.val; rw [e1]; omega
  · have hq : win0_2.index t (1 : Fin 2) * 1024 + 1 * (y 1).val < 2048 :=
      (show Fin 2048 from (((cfg0.win 2).blk t).view.emb y) 1).isLt
    refine Eq.trans ?_ (cols_apply m c k ⟨win0_2.index t (1 : Fin 2) * 1024 + 1 * (y 1).val, hq⟩)
    show V m c main_v2 (((cfg0.win 1).blk t).view.emb _) = V m c main_v2 _
    refine congrArg _ (funext fun a => Fin.ext ?_)
    match a with
    | ⟨0, _⟩ => show win0_1.index t (0 : Fin 2) * 2048 + 1 * k.val = k.val; rw [e2]; omega
    | ⟨1, _⟩ => show win0_1.index t (1 : Fin 2) * 1024 + 1 * (y 1).val = win0_2.index t (1 : Fin 2) * 1024 + 1 * (y 1).val; rw [e3]

/-- The result array after the run. -/
theorem final (c : Dev nD) : (dats m 0 c).arrAt 2 cfg0.N = prod m c :=
  (dats m 0 c).arrAt_eq_of_cover 2 _ (fun t _ => flushed_eq m c t) (fun i => by
    have h0 : (i 0).val < 8192 := (i 0).isLt
    have h1 : (i 1).val < 2048 := (i 1).isLt
    obtain ⟨t, hf, e0, e1⟩ := onto ⟨(i 0).val / 1024, by omega⟩ ⟨(i 1).val / 1024, by omega⟩
    refine ⟨t, hf, ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; rw [e0]; dsimp only; omega
    | ⟨1, _⟩ => show win0_2.index t (1 : Fin 2) * 1024 ≤ (i 1).val ∧ (i 1).val < win0_2.index t (1 : Fin 2) * 1024 + 1024; rw [e1]; dsimp only; omega)

end Cert.UpIdeal.Mine

namespace Cert.UpValue

open Idealize.ShloMosaic Idealize.ShloMosaic.TcCoe Idealize.SL.Sem
open Idealize.ShloMosaic.ValueIdx
open scoped BigOperators

/-- The reference's product at row `r`, column `q` of its slice. -/
theorem ref_apply (x : Cert.UpRefIdeal.S2x4096x2048.Idx → EReal) (w : Cert.UpRefIdeal.S2x2048x6224.Idx → EReal)
    (r : Fin 8192) (q : Fin 2048) :
    Cert.UpRefIdeal.Read.val_main_v5 (F := Ideal) x w (ix2 r q)
      = ∑ k : Fin 2048, x (ix3 ⟨r.val / 4096, by omega⟩ ⟨r.val % 4096, by omega⟩ k)
        * w (ix3 (0 : Fin 2) k (⟨4176 + q.val, by omega⟩ : Fin 6224)) := by
  rw [Cert.UpRefIdeal.Read.val_main_v5_apply, Cert.UpRefIdeal.Read.val_main_v4_apply, Cert.UpRefIdeal.Read.val_main_v3_apply]
  refine Finset.sum_congr rfl fun k _ => ?_
  have hr := r.isLt
  have hq := q.isLt
  have hk := k.isLt
  refine congrArg₂ (fun a b : EReal => a * b) ?_ ?_
  · rw [Cert.UpRefIdeal.Read.val_main_v0_apply]
    show x _ = x _
    refine congrArg x (funext fun a => Fin.ext ?_)
    match a with
    | ⟨0, _⟩ => show (r.val * 2048 + q.val) / 8388608 = r.val / 4096; omega
    | ⟨1, _⟩ => show (r.val * 2048 + q.val) / 2048 % 4096 = r.val % 4096; omega
    | ⟨2, _⟩ => rfl
  · rw [Cert.UpRefIdeal.Read.val_main_v2_apply, Cert.UpRefIdeal.Read.val_main_v1_apply]
    refine congrArg w (funext fun a => Fin.ext ?_)
    match a with
    | ⟨0, _⟩ => rfl
    | ⟨1, _⟩ => show (k.val * 6224 + (4176 + (r.val * 2048 + q.val) % 2048)) / 6224 % 2048 = k.val; omega
    | ⟨2, _⟩ => show (k.val * 6224 + (4176 + (r.val * 2048 + q.val) % 2048)) % 6224 = 4176 + q.val; omega

/-- The kernel's product, from the same arguments. -/
theorem prod_eq (m : (ℓ : Loc Cert.UpIdeal.nD Cert.UpIdeal.τ Cert.UpIdeal.sig) → Buf (Elt Ideal) ℓ)
    (c : Dev Cert.UpIdeal.nD) : Cert.UpIdeal.Mine.prod m c
      = Cert.UpRefIdeal.Read.val_main_v5 (F := Ideal) (m ((c.tc : Thread _ _).loc Cert.UpIdeal.main_arg0))
        (m ((c.tc : Thread _ _).loc Cert.UpIdeal.main_arg1)) := by
  funext i
  obtain ⟨r, q, rfl⟩ : ∃ (r : Fin 8192) (q : Fin 2048), i = ix2 r q := ⟨i 0, i 1, eq_ix2 i⟩
  refine Eq.trans ?_ (ref_apply _ _ r q).symm
  unfold Cert.UpIdeal.Mine.prod
  exact Finset.sum_congr rfl fun k _ => congrArg₂ (fun a b : EReal => a * b) (Cert.UpIdeal.Mine.flat_apply m c r k) rfl

theorem frame_ref : Cert.quiescent_UpRefIdeal := fun m g _ =>
  θ_run_and ((θ_run (Cert.UpRefIdeal.defs (F := Ideal)) _ _).mono (fun _ h c => (h c).2) (Cert.UpRefIdeal.Value.run (F := Ideal) m g))
    ((θ_run (Cert.UpRefIdeal.defs (F := Ideal)) _ _).mono (fun r _ => sem_eq_zero_of_no_sems rfl r.2) (Cert.UpRefIdeal.Value.run (F := Ideal) m g))

/-- The kernel and its reference end with the same array. -/
theorem algebraic : Cert.algebraic_UpIdeal_UpRefIdeal := fun m g m' g' _ hargs =>
  ⟨fun c => Cert.UpIdeal.Mine.prod m c,
    (θ_run (Cert.UpIdeal.defs (F := Ideal)) _ _).mono (fun _ h c => ⟨(h c).1.trans (Cert.UpIdeal.Mine.final m c), (h c).2⟩)
      (Cert.UpIdeal.Value.run_blocks (F := Ideal) m g),
    (θ_run (Cert.UpRefIdeal.defs (F := Ideal)) _ _).mono (fun _ h c => ⟨(h c).1.trans (by
        rw [(hargs c).1, (hargs c).2]
        exact (Cert.UpRefIdeal.Read.val_main_v5_eq (F := Ideal) _ _).trans (prod_eq m c).symm), (h c).2⟩)
      (Cert.UpRefIdeal.Value.run (F := Ideal) m' g')⟩

end Cert.UpValue

end
-- ==== Proof.Pages.lean ====
/-
  The page table's range. The precondition says every number of the page table is at least zero and below the number of
  pages (1280); so every page window of the kernel is inside the pool of keys.
-/
module

public import proofs.«01_k».proof.Defs
public import proofs.«01_k».proof.Proof.Gen.Pre_pages_in_pool
public import proofs.«01_k».proof.Proof.Gen.Kernel.Frame
public import proofs.«01_k».proof.Proof.Gen.KernelIdeal.Frame
public import Idealize.ShloMosaic.Lib.StableHlo.Run
public import Idealize.ShloMosaic.Lib.Pipeline.Value

@[expose] public section

noncomputable section

open Idealize.ShloMosaic Idealize.ShloMosaic.TcCoe Idealize.SL.Sem

namespace Cert.PageRange

/-- The precondition at one place: as a signed word the page number is at least 0 and below 1280, so it is below 1280
    as a number. -/
theorem in_pool {F : FTy → Type} [FloatOps F] (a0 : IVec Cert.Pre_pages_in_pool.S8x128 32) (a1 : FVec F Cert.Pre_pages_in_pool.S8x8x1024 .bf16)
    (a2 : FVec F Cert.Pre_pages_in_pool.S8x8x128 .f32) (a3 : FVec F Cert.Pre_pages_in_pool.S2x1280x128x64 .f32)
    (h : Cert.Pre_pages_in_pool.fn a0 a1 a2 a3 = fun _ => 1#1) (j : Cert.Pre_pages_in_pool.S8x128.Idx) : (a0 j).toNat < 1280 := by
  have e : IntOp.andi (IntOp.cmpi .sge (a0 j) 0#32) (IntOp.cmpi .slt (a0 j) 1280#32) = 1#1 := congrFun h j
  have both : ∀ p q : Bool, IntOp.andi (BitVec.ofBool p) (BitVec.ofBool q) = 1#1 → p = true ∧ q = true := by decide
  obtain ⟨h0, h1⟩ := both _ _ e
  replace h0 : BitVec.sle 0#32 (a0 j) = true := h0
  replace h1 : BitVec.slt (a0 j) 1280#32 = true := h1
  rw [BitVec.sle_eq_decide, decide_eq_true_eq] at h0
  rw [BitVec.slt_eq_decide, decide_eq_true_eq] at h1
  have z : (0#32 : BitVec 32).toInt = 0 := by decide
  have n : (1280#32 : BitVec 32).toInt = 1280 := by decide
  rw [z] at h0
  rw [n] at h1
  have hc := BitVec.toInt_eq_toNat_cond (a0 j)
  have hl := (a0 j).isLt
  split at hc <;> omega

end Cert.PageRange

namespace Cert.Kernel.Mine

open Cert.Kernel Cert.Kernel.Gen

variable (m : (ℓ : Loc nD τ sig) → Buf (Elt Bits) ℓ)

/-- The table the index maps read is the page table, flattened. -/
theorem table_eq (c : Dev nD) : (V m c main_v0 : IVec S1024 32)
    = shapeCast S1024 (m ((c : Thread nD τ).loc main_arg0) : IVec S8x128 32) shapeCasts_S8x128_S1024 := by
  unfold V
  after_results <;> rfl

/-- Every number in the table is a page of the pool. -/
theorem table_lt (h : Cert.Pre_Kernel m) (j : S1024.Idx) : ((tbl m 0 : IVec S1024 32) j).toNat < 1280 := by
  show ((V m (0 : Dev nD) main_v0 : IVec S1024 32) j).toNat < 1280
  rw [table_eq]
  exact Cert.PageRange.in_pool _ _ _ _ (h 0) _

/-- A block index whose second coordinate is a page is inside the pool. -/
theorem inside (f : Fin 4 → Nat) (p : Nat) (hf : f = ![0, p, 0, 0]) (hp : p < 1280) (a : Fin 4) :
    (f a + 1) * S1x1x128x64.size a ≤ S2x1280x128x64.size a := by
  subst hf
  match a with
  | ⟨0, _⟩ => show (0 + 1) * 1 ≤ 2; omega
  | ⟨1, _⟩ => show (p + 1) * 1 ≤ 1280; omega
  | ⟨2, _⟩ => show (0 + 1) * 128 ≤ 128; omega
  | ⟨3, _⟩ => show (0 + 1) * 64 ≤ 64; omega

/-- The precondition gives what the pages' windows need. -/
theorem ok_of_pre (h : Cert.Pre_Kernel m) : Ok m :=
  ⟨fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩⟩

end Cert.Kernel.Mine

namespace Cert.KernelIdeal.Mine

open Cert.KernelIdeal Cert.KernelIdeal.Gen

variable (m : (ℓ : Loc nD τ sig) → Buf (Elt Ideal) ℓ)

/-- The table the index maps read is the page table, flattened. -/
theorem table_eq (c : Dev nD) : (V m c main_v0 : IVec S1024 32)
    = shapeCast S1024 (m ((c : Thread nD τ).loc main_arg0) : IVec S8x128 32) shapeCasts_S8x128_S1024 := by
  unfold V
  after_results <;> rfl

/-- Every number in the table is a page of the pool. -/
theorem table_lt (h : Cert.Pre_KernelIdeal m) (j : S1024.Idx) : ((tbl m 0 : IVec S1024 32) j).toNat < 1280 := by
  show ((V m (0 : Dev nD) main_v0 : IVec S1024 32) j).toNat < 1280
  rw [table_eq]
  exact Cert.PageRange.in_pool _ _ _ _ (h 0) _

/-- A block index whose second coordinate is a page is inside the pool. -/
theorem inside (f : Fin 4 → Nat) (p : Nat) (hf : f = ![0, p, 0, 0]) (hp : p < 1280) (a : Fin 4) :
    (f a + 1) * S1x1x128x64.size a ≤ S2x1280x128x64.size a := by
  subst hf
  match a with
  | ⟨0, _⟩ => show (0 + 1) * 1 ≤ 2; omega
  | ⟨1, _⟩ => show (p + 1) * 1 ≤ 1280; omega
  | ⟨2, _⟩ => show (0 + 1) * 128 ≤ 128; omega
  | ⟨3, _⟩ => show (0 + 1) * 64 ≤ 64; omega

/-- The precondition gives what the pages' windows need. -/
theorem ok_of_pre (h : Cert.Pre_KernelIdeal m) : Ok m :=
  ⟨fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩,
    fun i => ⟨inside _ _ rfl (table_lt m h _), .inl rfl⟩, fun i => ⟨inside _ _ rfl (table_lt m h _), .inl rfl⟩⟩

end Cert.KernelIdeal.Mine

end
-- ==== Proof.IdxBlock.lean ====
/-
  What one step of the index-score kernel leaves in its block. The step holds one sequence's queries (8 rows of 16 heads of
  64 numbers), the rows holding the heads' weights, and eight pages of 128 keys. Each head's queries are put in one half of
  a 128-wide row, the other half zero, against keys written twice side by side; so a product over 128 numbers is the head's
  product over its own 64 (`dots_apply`). The heads' products, cut off below at zero, are added with their weights (`score_apply`).
-/
module

public import proofs.«01_k».proof.Proof.Gen.KernelIdeal
public import proofs.«01_k».proof.Proof.Gen.KernelIdeal.Skeleton
public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.Pipeline.Value

@[expose] public section

set_option maxRecDepth 16384

noncomputable section

namespace Cert.KernelIdeal.Mine

open Idealize.ShloMosaic Idealize.ShloMosaic.TcCoe
open Idealize.ShloMosaic.ValueIdx
open Cert.KernelIdeal Cert.KernelIdeal.Gen
open scoped BigOperators

/-! ## The heads' weights and their sum -/

/-- Each place's lane number. -/
abbrev lanes : IVec S8x128 32 := iota .tc S8x128 32 [1] iota_S8x128_d1_w32

/-- Lane `L` of the weights' rows as a column: every other lane replaced by zero, the lanes summed. -/
def col (sm : FVec Ideal S8x128 .f32) (L : BitVec 32) : FVec Ideal S8x1 .f32 :=
  shapeCast S8x1 (multiReduction .add [1] S8 (select (cmpi .eq lanes (broadcast S8x128 L)) sm
    (broadcast S8x128 (Scalar.ofBits (F := Ideal) .f32 0x00000000#32))) 0x00000000#32 reduces_S8x128_S8 (.inl rfl) rfl) shapeCasts_S8_S8x1

/-- One head added to the running score: its weight times its products cut off below at zero. -/
def step (sm : FVec Ideal S8x128 .f32) (L : BitVec 32) (piece acc : FVec Ideal S8x1024 .f32) : FVec Ideal S8x1024 .f32 :=
  addf acc (mulf (broadcastTo S8x1024 (col sm L) broadcasts_S8x1_S8x1024)
    (maximumf piece (broadcast S8x1024 (Scalar.ofBits (F := Ideal) .f32 0x00000000#32))))

/-- Comparing lane numbers below 128 as words compares them as numbers. -/
theorem lane_eq (k l : Fin 128) : IntOp.cmpi .eq (BitVec.ofNat 32 k.val) (BitVec.ofNat 32 l.val) = if k = l then 1#1 else 0#1 := by
  revert k l; decide +kernel

theorem lanes_apply (r : Fin 8) (k : Fin 128) : lanes (ix2 r k) = BitVec.ofNat 32 k.val :=
  congrArg (BitVec.ofNat 32) (by show 0 * 128 + k.val = k.val; omega)

theorem lift_row (r : Fin 8) (k : Fin 128) :
    (reduces_S8x128_S8 : S8x128.Reduces [1] S8).lift (ix1 r) k = ix2 r k := by
  funext a
  match a with
  | ⟨0, _⟩ => rfl
  | ⟨1, _⟩ => rfl

theorem col_apply (sm : FVec Ideal S8x128 .f32) (l : Fin 128) (r : Fin 8) (u : Fin 1) :
    col sm (BitVec.ofNat 32 l.val) (ix2 r u) = sm (ix2 r l) := by
  unfold col
  rw [shapeCast_a_a1_apply]
  refine (Ideal.multiReduction_add_single _ _ _ _ _ _).trans ?_
  have key : ∀ k : Fin 128, select (cmpi .eq lanes (broadcast S8x128 (BitVec.ofNat 32 l.val))) sm
      (broadcast S8x128 (Scalar.ofBits (F := Ideal) .f32 0x00000000#32)) ((reduces_S8x128_S8 : S8x128.Reduces [1] S8).lift (ix1 r) k)
      = if k = l then sm (ix2 r l) else (0 : EReal) := by
    intro k
    rw [lift_row]
    show Scalar.select (IntOp.cmpi .eq (lanes (ix2 r k)) (BitVec.ofNat 32 l.val)) (sm (ix2 r k)) (Ideal.ofBits .f32 0x00000000#32) = _
    rw [lanes_apply, lane_eq, Ideal.ofBits_zero_f32]
    by_cases h : k = l
    · subst h; simp [Scalar.select]
    · simp [Scalar.select, h]
  refine (Finset.sum_congr rfl fun k _ => key k).trans ?_
  exact (Finset.sum_ite_eq' (Finset.univ : Finset (Fin 128)) l (fun _ => (sm (ix2 r l) : EReal))).trans (if_pos (Finset.mem_univ l))

theorem step_apply (sm : FVec Ideal S8x128 .f32) (l : Fin 128) (piece acc : FVec Ideal S8x1024 .f32) (r : Fin 8) (s : Fin 1024) :
    step sm (BitVec.ofNat 32 l.val) piece acc (ix2 r s)
      = (acc (ix2 r s) : EReal) + (sm (ix2 r l) : EReal) * max (piece (ix2 r s) : EReal) 0 := by
  have e : broadcastTo S8x1024 (col sm (BitVec.ofNat 32 l.val)) broadcasts_S8x1_S8x1024 (ix2 r s) = sm (ix2 r l) := by
    refine (broadcastTo_apply _ _ _ (ix2 r (0 : Fin 1)) fun a => ?_).trans (col_apply sm l r 0)
    match a with
    | ⟨0, _⟩ => rfl
    | ⟨1, _⟩ => rfl
  show (acc (ix2 r s) : EReal) + broadcastTo S8x1024 (col sm (BitVec.ofNat 32 l.val)) broadcasts_S8x1_S8x1024 (ix2 r s)
    * max (piece (ix2 r s) : EReal) (Ideal.ofBits .f32 0x00000000#32) = _
  rw [e, Ideal.ofBits_zero_f32]

/-- Rows `o`, …, `o + 7` of the products. -/
theorem rows_apply (d : FVec Ideal S128x1024 .f32) (o : Nat) (ho : o + 8 ≤ 128) (h : S128x1024.Slices ![o, 0] S8x1024) (r : Fin 8) (s : Fin 1024) :
    extractStridedSlice S8x1024 ![o, 0] d h (ix2 r s) = d (ix2 ⟨o + r.val, by omega⟩ s) :=
  extractStridedSlice_apply _ _ _ _ _ fun a => match a with
    | ⟨0, _⟩ => rfl
    | ⟨1, _⟩ => (by show s.val = 0 + s.val; omega)

/-- The sixteen heads added in order, from zero. -/
def score (sm : FVec Ideal S8x128 .f32) (d : FVec Ideal S128x1024 .f32) : FVec Ideal S8x1024 .f32 :=
  step sm 79#32 (extractStridedSlice S8x1024 ![120, 0] d slices_S128x1024_o120_0_S8x1024) <|
  step sm 78#32 (extractStridedSlice S8x1024 ![112, 0] d slices_S128x1024_o112_0_S8x1024) <|
  step sm 77#32 (extractStridedSlice S8x1024 ![104, 0] d slices_S128x1024_o104_0_S8x1024) <|
  step sm 76#32 (extractStridedSlice S8x1024 ![96, 0] d slices_S128x1024_o96_0_S8x1024) <|
  step sm 75#32 (extractStridedSlice S8x1024 ![88, 0] d slices_S128x1024_o88_0_S8x1024) <|
  step sm 74#32 (extractStridedSlice S8x1024 ![80, 0] d slices_S128x1024_o80_0_S8x1024) <|
  step sm 73#32 (extractStridedSlice S8x1024 ![72, 0] d slices_S128x1024_o72_0_S8x1024) <|
  step sm 72#32 (extractStridedSlice S8x1024 ![64, 0] d slices_S128x1024_o64_0_S8x1024) <|
  step sm 71#32 (extractStridedSlice S8x1024 ![56, 0] d slices_S128x1024_o56_0_S8x1024) <|
  step sm 70#32 (extractStridedSlice S8x1024 ![48, 0] d slices_S128x1024_o48_0_S8x1024) <|
  step sm 69#32 (extractStridedSlice S8x1024 ![40, 0] d slices_S128x1024_o40_0_S8x1024) <|
  step sm 68#32 (extractStridedSlice S8x1024 ![32, 0] d slices_S128x1024_o32_0_S8x1024) <|
  step sm 67#32 (extractStridedSlice S8x1024 ![24, 0] d slices_S128x1024_o24_0_S8x1024) <|
  step sm 66#32 (extractStridedSlice S8x1024 ![16, 0] d slices_S128x1024_o16_0_S8x1024) <|
  step sm 65#32 (extractStridedSlice S8x1024 ![8, 0] d slices_S128x1024_o8_0_S8x1024) <|
  step sm 64#32 (extractStridedSlice S8x1024 ![0, 0] d slices_S128x1024_o0_0_S8x1024)
    (broadcast S8x1024 (Scalar.ofBits (F := Ideal) .f32 0x00000000#32))

/-- Head `h`'s share of the score at row `r`, key `s`. -/
def share (sm : FVec Ideal S8x128 .f32) (d : FVec Ideal S128x1024 .f32) (r : Fin 8) (s : Fin 1024) (h : Fin 16) : EReal :=
  (sm (ix2 r ⟨64 + h.val, by omega⟩) : EReal) * max (d (ix2 ⟨8 * h.val + r.val, by omega⟩ s) : EReal) 0

/-- One head's step at a place. -/
theorem step_share (sm : FVec Ideal S8x128 .f32) (d : FVec Ideal S128x1024 .f32) (r : Fin 8) (s : Fin 1024) (h : Fin 16)
    (L : BitVec 32) (hL : L = BitVec.ofNat 32 (64 + h.val)) (o : Nat) (ho : o = 8 * h.val) (hs : S128x1024.Slices ![o, 0] S8x1024)
    (acc : FVec Ideal S8x1024 .f32) :
    step sm L (extractStridedSlice S8x1024 ![o, 0] d hs) acc (ix2 r s) = (acc (ix2 r s) : EReal) + share sm d r s h := by
  subst hL ho
  have hh := h.isLt
  refine (step_apply sm ⟨64 + h.val, by omega⟩ _ acc r s).trans ?_
  rw [rows_apply d (8 * h.val) (by omega)]
  rfl

theorem score_apply (sm : FVec Ideal S8x128 .f32) (d : FVec Ideal S128x1024 .f32) (r : Fin 8) (s : Fin 1024) :
    score sm d (ix2 r s) = ∑ h : Fin 16, share sm d r s h := by
  unfold score
  rw [step_share sm d r s 15 79#32 rfl 120 rfl, step_share sm d r s 14 78#32 rfl 112 rfl, step_share sm d r s 13 77#32 rfl 104 rfl,
    step_share sm d r s 12 76#32 rfl 96 rfl, step_share sm d r s 11 75#32 rfl 88 rfl, step_share sm d r s 10 74#32 rfl 80 rfl,
    step_share sm d r s 9 73#32 rfl 72 rfl, step_share sm d r s 8 72#32 rfl 64 rfl, step_share sm d r s 7 71#32 rfl 56 rfl,
    step_share sm d r s 6 70#32 rfl 48 rfl, step_share sm d r s 5 69#32 rfl 40 rfl, step_share sm d r s 4 68#32 rfl 32 rfl,
    step_share sm d r s 3 67#32 rfl 24 rfl, step_share sm d r s 2 66#32 rfl 16 rfl, step_share sm d r s 1 65#32 rfl 8 rfl,
    step_share sm d r s 0 64#32 rfl 0 rfl]
  rw [show broadcast S8x1024 (Scalar.ofBits (F := Ideal) .f32 0x00000000#32) (ix2 r s) = (0 : EReal) from Ideal.ofBits_zero_f32]
  simp only [Fin.sum_univ_castSucc, Finset.univ_eq_empty, Finset.sum_empty]
  rfl

end Cert.KernelIdeal.Mine

end
-- ==== Proof.IdxDots.lean ====
/-
  The products the index-score kernel takes. Head `h`'s queries stand in one half of a 128-wide row (the lower half for an
  even head, the upper for an odd one) and zeros in the other; every key is written twice side by side. A product of the
  two over 128 numbers is therefore the head's product over its own 64 (`dots_apply`), whatever the keys hold: a zero times
  anything is zero. The block the step stores is the score of those products (`block_apply`).
-/
module

public import proofs.«01_k».proof.Proof.IdxBlock

@[expose] public section

set_option maxRecDepth 16384

noncomputable section

namespace Cert.KernelIdeal.Mine

open Idealize.ShloMosaic Idealize.ShloMosaic.TcCoe
open Idealize.ShloMosaic.ValueIdx
open Cert.KernelIdeal Cert.KernelIdeal.Gen
open scoped BigOperators

/-! ## The queries, head by head -/

/-- Zeros, where a head's row holds no query. -/
abbrev noQ : FVec Ideal S8x128 .f32 := broadcast S8x128 (Scalar.ofBits (F := Ideal) .f32 0x00000000#32)

/-- Head `h`'s queries in their half of the row. -/
def half (iq : FVec Ideal S8x1024 .f32) : Fin 16 → FVec Ideal S8x128 .f32
  | ⟨0, _⟩ => select (cmpi .slt lanes (broadcast S8x128 64#32)) (extractStridedSlice S8x128 ![0, 0] iq slices_S8x1024_o0_0_S8x128) noQ
  | ⟨1, _⟩ => select (cmpi .sge lanes (broadcast S8x128 64#32)) (extractStridedSlice S8x128 ![0, 0] iq slices_S8x1024_o0_0_S8x128) noQ
  | ⟨2, _⟩ => select (cmpi .slt lanes (broadcast S8x128 64#32)) (extractStridedSlice S8x128 ![0, 128] iq slices_S8x1024_o0_128_S8x128) noQ
  | ⟨3, _⟩ => select (cmpi .sge lanes (broadcast S8x128 64#32)) (extractStridedSlice S8x128 ![0, 128] iq slices_S8x1024_o0_128_S8x128) noQ
  | ⟨4, _⟩ => select (cmpi .slt lanes (broadcast S8x128 64#32)) (extractStridedSlice S8x128 ![0, 256] iq slices_S8x1024_o0_256_S8x128) noQ
  | ⟨5, _⟩ => select (cmpi .sge lanes (broadcast S8x128 64#32)) (extractStridedSlice S8x128 ![0, 256] iq slices_S8x1024_o0_256_S8x128) noQ
  | ⟨6, _⟩ => select (cmpi .slt lanes (broadcast S8x128 64#32)) (extractStridedSlice S8x128 ![0, 384] iq slices_S8x1024_o0_384_S8x128) noQ
  | ⟨7, _⟩ => select (cmpi .sge lanes (broadcast S8x128 64#32)) (extractStridedSlice S8x128 ![0, 384] iq slices_S8x1024_o0_384_S8x128) noQ
  | ⟨8, _⟩ => select (cmpi .slt lanes (broadcast S8x128 64#32)) (extractStridedSlice S8x128 ![0, 512] iq slices_S8x1024_o0_512_S8x128) noQ
  | ⟨9, _⟩ => select (cmpi .sge lanes (broadcast S8x128 64#32)) (extractStridedSlice S8x128 ![0, 512] iq slices_S8x1024_o0_512_S8x128) noQ
  | ⟨10, _⟩ => select (cmpi .slt lanes (broadcast S8x128 64#32)) (extractStridedSlice S8x128 ![0, 640] iq slices_S8x1024_o0_640_S8x128) noQ
  | ⟨11, _⟩ => select (cmpi .sge lanes (broadcast S8x128 64#32)) (extractStridedSlice S8x128 ![0, 640] iq slices_S8x1024_o0_640_S8x128) noQ
  | ⟨12, _⟩ => select (cmpi .slt lanes (broadcast S8x128 64#32)) (extractStridedSlice S8x128 ![0, 768] iq slices_S8x1024_o0_768_S8x128) noQ
  | ⟨13, _⟩ => select (cmpi .sge lanes (broadcast S8x128 64#32)) (extractStridedSlice S8x128 ![0, 768] iq slices_S8x1024_o0_768_S8x128) noQ
  | ⟨14, _⟩ => select (cmpi .slt lanes (broadcast S8x128 64#32)) (extractStridedSlice S8x128 ![0, 896] iq slices_S8x1024_o0_896_S8x128) noQ
  | ⟨15, _⟩ => select (cmpi .sge lanes (broadcast S8x128 64#32)) (extractStridedSlice S8x128 ![0, 896] iq slices_S8x1024_o0_896_S8x128) noQ
  | ⟨n + 16, hn⟩ => absurd hn (by omega)

/-- Lane numbers against 64, as words. -/
theorem lane_lt (l : Fin 128) : IntOp.cmpi .slt (BitVec.ofNat 32 l.val) 64#32 = if l.val < 64 then 1#1 else 0#1 := by
  revert l; decide +kernel
theorem lane_ge (l : Fin 128) : IntOp.cmpi .sge (BitVec.ofNat 32 l.val) 64#32 = if l.val < 64 then 0#1 else 1#1 := by
  revert l; decide +kernel

theorem window_apply (iq : FVec Ideal S8x1024 .f32) (o : Nat) (ho : o + 128 ≤ 1024) (hs : S8x1024.Slices ![0, o] S8x128) (r : Fin 8) (l : Fin 128) :
    extractStridedSlice S8x128 ![0, o] iq hs (ix2 r l) = iq (ix2 r ⟨o + l.val, by omega⟩) :=
  extractStridedSlice_apply _ _ _ _ _ fun a => match a with
    | ⟨0, _⟩ => (by show r.val = 0 + r.val; omega)
    | ⟨1, _⟩ => rfl

theorem low_apply (iq : FVec Ideal S8x1024 .f32) (o : Nat) (ho : o + 128 ≤ 1024) (hs : S8x1024.Slices ![0, o] S8x128) (r : Fin 8) (l : Fin 128) :
    select (cmpi .slt lanes (broadcast S8x128 64#32)) (extractStridedSlice S8x128 ![0, o] iq hs) noQ (ix2 r l)
      = if l.val < 64 then (iq (ix2 r ⟨o + l.val, by omega⟩) : EReal) else 0 := by
  show Scalar.select (IntOp.cmpi .slt (lanes (ix2 r l)) 64#32) (extractStridedSlice S8x128 ![0, o] iq hs (ix2 r l)) (Ideal.ofBits .f32 0x00000000#32) = _
  rw [lanes_apply, lane_lt, Ideal.ofBits_zero_f32, window_apply iq o ho]
  by_cases h : l.val < 64
  · simp [Scalar.select, h]
  · simp [Scalar.select, h]

theorem high_apply (iq : FVec Ideal S8x1024 .f32) (o : Nat) (ho : o + 128 ≤ 1024) (hs : S8x1024.Slices ![0, o] S8x128) (r : Fin 8) (l : Fin 128) :
    select (cmpi .sge lanes (broadcast S8x128 64#32)) (extractStridedSlice S8x128 ![0, o] iq hs) noQ (ix2 r l)
      = if l.val < 64 then 0 else (iq (ix2 r ⟨o + l.val, by omega⟩) : EReal) := by
  show Scalar.select (IntOp.cmpi .sge (lanes (ix2 r l)) 64#32) (extractStridedSlice S8x128 ![0, o] iq hs (ix2 r l)) (Ideal.ofBits .f32 0x00000000#32) = _
  rw [lanes_apply, lane_ge, Ideal.ofBits_zero_f32, window_apply iq o ho]
  by_cases h : l.val < 64
  · simp [Scalar.select, h]
  · simp [Scalar.select, h]

/-- A head's row at lane `l`: an even head's numbers are in the lower half, an odd head's in the upper. -/
def halfAt (iq : FVec Ideal S8x1024 .f32) (h : Fin 16) (r : Fin 8) (l : Fin 128) : EReal :=
  if h.val % 2 = 0
    then (if l.val < 64 then iq (ix2 r ⟨128 * (h.val / 2) + l.val, by omega⟩) else 0)
    else (if l.val < 64 then 0 else iq (ix2 r ⟨128 * (h.val / 2) + l.val, by omega⟩))

theorem even_apply (iq : FVec Ideal S8x1024 .f32) (h : Fin 16) (o : Nat) (ho : o = 128 * (h.val / 2)) (hp : h.val % 2 = 0)
    (hs : S8x1024.Slices ![0, o] S8x128) (r : Fin 8) (l : Fin 128) :
    select (cmpi .slt lanes (broadcast S8x128 64#32)) (extractStridedSlice S8x128 ![0, o] iq hs) noQ (ix2 r l) = halfAt iq h r l := by
  subst ho
  have hh := h.isLt
  rw [low_apply iq _ (by omega)]
  unfold halfAt
  rw [if_pos hp]

theorem odd_apply (iq : FVec Ideal S8x1024 .f32) (h : Fin 16) (o : Nat) (ho : o = 128 * (h.val / 2)) (hp : h.val % 2 ≠ 0)
    (hs : S8x1024.Slices ![0, o] S8x128) (r : Fin 8) (l : Fin 128) :
    select (cmpi .sge lanes (broadcast S8x128 64#32)) (extractStridedSlice S8x128 ![0, o] iq hs) noQ (ix2 r l) = halfAt iq h r l := by
  subst ho
  have hh := h.isLt
  rw [high_apply iq _ (by omega)]
  unfold halfAt
  rw [if_neg hp]

theorem half_apply (iq : FVec Ideal S8x1024 .f32) (h : Fin 16) (r : Fin 8) (l : Fin 128) : half iq h (ix2 r l) = halfAt iq h r l := by
  match h with
  | ⟨0, hn⟩ => exact even_apply iq ⟨0, hn⟩ 0 (by simp) (by simp) slices_S8x1024_o0_0_S8x128 r l
  | ⟨1, hn⟩ => exact odd_apply iq ⟨1, hn⟩ 0 (by simp) (by simp) slices_S8x1024_o0_0_S8x128 r l
  | ⟨2, hn⟩ => exact even_apply iq ⟨2, hn⟩ 128 (by simp) (by simp) slices_S8x1024_o0_128_S8x128 r l
  | ⟨3, hn⟩ => exact odd_apply iq ⟨3, hn⟩ 128 (by simp) (by simp) slices_S8x1024_o0_128_S8x128 r l
  | ⟨4, hn⟩ => exact even_apply iq ⟨4, hn⟩ 256 (by simp) (by simp) slices_S8x1024_o0_256_S8x128 r l
  | ⟨5, hn⟩ => exact odd_apply iq ⟨5, hn⟩ 256 (by simp) (by simp) slices_S8x1024_o0_256_S8x128 r l
  | ⟨6, hn⟩ => exact even_apply iq ⟨6, hn⟩ 384 (by simp) (by simp) slices_S8x1024_o0_384_S8x128 r l
  | ⟨7, hn⟩ => exact odd_apply iq ⟨7, hn⟩ 384 (by simp) (by simp) slices_S8x1024_o0_384_S8x128 r l
  | ⟨8, hn⟩ => exact even_apply iq ⟨8, hn⟩ 512 (by simp) (by simp) slices_S8x1024_o0_512_S8x128 r l
  | ⟨9, hn⟩ => exact odd_apply iq ⟨9, hn⟩ 512 (by simp) (by simp) slices_S8x1024_o0_512_S8x128 r l
  | ⟨10, hn⟩ => exact even_apply iq ⟨10, hn⟩ 640 (by simp) (by simp) slices_S8x1024_o0_640_S8x128 r l
  | ⟨11, hn⟩ => exact odd_apply iq ⟨11, hn⟩ 640 (by simp) (by simp) slices_S8x1024_o0_640_S8x128 r l
  | ⟨12, hn⟩ => exact even_apply iq ⟨12, hn⟩ 768 (by simp) (by simp) slices_S8x1024_o0_768_S8x128 r l
  | ⟨13, hn⟩ => exact odd_apply iq ⟨13, hn⟩ 768 (by simp) (by simp) slices_S8x1024_o0_768_S8x128 r l
  | ⟨14, hn⟩ => exact even_apply iq ⟨14, hn⟩ 896 (by simp) (by simp) slices_S8x1024_o0_896_S8x128 r l
  | ⟨15, hn⟩ => exact odd_apply iq ⟨15, hn⟩ 896 (by simp) (by simp) slices_S8x1024_o0_896_S8x128 r l
  | ⟨n + 16, hn⟩ => exact absurd hn (by omega)

/-- The heads' rows under each other: row `8 h + r` is head `h`'s row `r`. -/
def tower (iq : FVec Ideal S8x1024 .f32) : FVec Ideal S128x128 .f32 :=
  k0_pay14 lanes iq (k0_pay4 lanes iq) (k0_pay5 lanes iq) (k0_pay6 lanes iq) (k0_pay7 lanes iq) (k0_pay8 lanes iq) (k0_pay9 lanes iq)
    (k0_pay10 lanes iq) (k0_pay11 lanes iq) (k0_pay12 iq) (k0_pay13 lanes)

theorem tower_eq (iq : FVec Ideal S8x1024 .f32) : tower iq
    = concatenate S128x128 0 (List.ofFn fun n : Fin 16 => (⟨S8x128, half iq n⟩ : (s : Shape) × (s.Idx → EReal)))
        concatenates_S8x128_S8x128_S8x128_S8x128_S8x128_S8x128_S8x128_S8x128_S8x128_S8x128_S8x128_S8x128_S8x128_S8x128_S8x128_S8x128_S128x128_d0 := rfl

theorem tower_apply (iq : FVec Ideal S8x1024 .f32) (h : Fin 16) (r : Fin 8) (l : Fin 128) :
    tower iq (ix2 ⟨8 * h.val + r.val, by omega⟩ l) = half iq h (ix2 r l) := by
  rw [tower_eq]
  exact concatenate_ofFn_apply (t := S128x128) (s₁ := S8x128) 0 (half iq) _ rfl 8 rfl _ h
    (by show (8 * h.val + r.val) / 8 = h.val; omega) (ix2 r l) (by show r.val = (8 * h.val + r.val) % 8; omega)
    (fun b hb => match b, hb with
      | ⟨0, _⟩, hb => absurd rfl hb
      | ⟨1, _⟩, _ => rfl)

/-! ## The keys -/

/-- Eight pages of keys, under each other, each key twice side by side. -/
def twice (pg : Fin 8 → Vec Ideal S1x1x128x64 .f32) : FVec Ideal S1024x128 .bf16 :=
  k0_pay2 (pg 0) (pg 1) (pg 2) (pg 3) (pg 4) (pg 5) (pg 6) (pg 7)

/-- The pages under each other. -/
def stack (pg : Fin 8 → Vec Ideal S1x1x128x64 .f32) : FVec Ideal S1024x64 .f32 :=
  concatenate S1024x64 0 (List.ofFn fun n : Fin 8 => (⟨S128x64, shapeCast S128x64 (pg n) shapeCasts_S1x1x128x64_S128x64⟩ : (s : Shape) × (s.Idx → EReal)))
    concatenates_S128x64_S128x64_S128x64_S128x64_S128x64_S128x64_S128x64_S128x64_S1024x64_d0

theorem stack_apply (pg : Fin 8 → Vec Ideal S1x1x128x64 .f32) (s : Fin 1024) (d : Fin 64) :
    stack pg (ix2 s d) = pg ⟨s.val / 128, by omega⟩ (ix4 (0 : Fin 1) (0 : Fin 1) ⟨s.val % 128, by omega⟩ d) := by
  refine (concatenate_ofFn_apply (t := S1024x64) (s₁ := S128x64) 0
    (fun n : Fin 8 => shapeCast S128x64 (pg n) shapeCasts_S1x1x128x64_S128x64) _ rfl 128 rfl _ ⟨s.val / 128, by omega⟩ rfl
    (ix2 ⟨s.val % 128, by omega⟩ d) rfl (fun b hb => match b, hb with
      | ⟨0, _⟩, hb => absurd rfl hb
      | ⟨1, _⟩, _ => rfl)).trans ?_
  exact shapeCast_apply _ _ _ _ (by
    rewrite [Shape.rowMajor_val_four, Shape.rowMajor_val_two]
    show ((0 * 1 + 0) * 128 + s.val % 128) * 64 + d.val = s.val % 128 * 64 + d.val
    omega)

theorem twice_eq (pg : Fin 8 → Vec Ideal S1x1x128x64 .f32) : twice pg
    = concatenate S1024x128 1 [⟨S1024x64, stack pg⟩, ⟨S1024x64, stack pg⟩] concatenates_S1024x64_S1024x64_S1024x128_d1 := rfl

theorem twice_low (pg : Fin 8 → Vec Ideal S1x1x128x64 .f32) (s : Fin 1024) (d : Fin 64) :
    twice pg (ix2 s ⟨d.val, by omega⟩) = stack pg (ix2 s d) := by
  rw [twice_eq]
  exact concatenate_pair_apply_left (t := S1024x128) 1 (stack pg) (stack pg) _ _ rfl (ix2 s d) (fun b => match b with
    | ⟨0, _⟩ => rfl
    | ⟨1, _⟩ => rfl)

theorem twice_high (pg : Fin 8 → Vec Ideal S1x1x128x64 .f32) (s : Fin 1024) (d : Fin 64) :
    twice pg (ix2 s ⟨64 + d.val, by omega⟩) = stack pg (ix2 s d) := by
  rw [twice_eq]
  exact concatenate_pair_apply_right (t := S1024x128) 1 (stack pg) (stack pg) _ _ rfl rfl (ix2 s d) (fun b hb => match b, hb with
    | ⟨0, _⟩, _ => rfl
    | ⟨1, _⟩, hb => absurd rfl hb) (by show d.val + 64 = 64 + d.val; omega)

/-! ## The products -/

/-- The products, scaled. -/
def dots (iq : FVec Ideal S8x1024 .f32) (pg : Fin 8 → Vec Ideal S1x1x128x64 .f32) : FVec Ideal S128x1024 .f32 :=
  k0_pay16 (twice pg) (tower iq) (constant S128x1024 .f32 0x00000000#32)

/-- The product of head `h`'s query at row `r` with key `s`, over the head's 64 numbers. -/
def headDot (iq : FVec Ideal S8x1024 .f32) (pg : Fin 8 → Vec Ideal S1x1x128x64 .f32) (h : Fin 16) (r : Fin 8) (s : Fin 1024) : EReal :=
  ∑ d : Fin 64, (iq (ix2 r ⟨64 * h.val + d.val, by omega⟩) : EReal)
    * (pg ⟨s.val / 128, by omega⟩ (ix4 (0 : Fin 1) (0 : Fin 1) ⟨s.val % 128, by omega⟩ d) : EReal)

/-- A sum over 128 as one over its lower and one over its upper 64. -/
theorem sum_halves (f : Fin 128 → EReal) :
    ∑ l : Fin 128, f l = (∑ d : Fin 64, f ⟨d.val, by omega⟩) + ∑ d : Fin 64, f ⟨64 + d.val, by omega⟩ :=
  Fin.sum_univ_add (a := 64) (b := 64) f

theorem product_apply (iq : FVec Ideal S8x1024 .f32) (pg : Fin 8 → Vec Ideal S1x1x128x64 .f32) (h : Fin 16) (r : Fin 8) (s : Fin 1024) :
    ∑ l : Fin 128, (tower iq (ix2 ⟨8 * h.val + r.val, by omega⟩ l) : EReal) * (twice pg (ix2 s l) : EReal) = headDot iq pg h r s := by
  rw [sum_halves]
  have hh := h.isLt
  have hlo : ∀ d : Fin 64, (tower iq (ix2 ⟨8 * h.val + r.val, by omega⟩ (⟨d.val, by omega⟩ : Fin 128)) : EReal)
      = if h.val % 2 = 0 then (iq (ix2 r ⟨128 * (h.val / 2) + d.val, by omega⟩) : EReal) else 0 := fun d => by
    rw [tower_apply, half_apply]; unfold halfAt; simp
  have hhi : ∀ d : Fin 64, (tower iq (ix2 ⟨8 * h.val + r.val, by omega⟩ (⟨64 + d.val, by omega⟩ : Fin 128)) : EReal)
      = if h.val % 2 = 0 then 0 else (iq (ix2 r ⟨128 * (h.val / 2) + (64 + d.val), by omega⟩) : EReal) := fun d => by
    rw [tower_apply, half_apply]; unfold halfAt; simp
  simp only [hlo, hhi, twice_low, twice_high, stack_apply]
  unfold headDot
  by_cases hp : h.val % 2 = 0
  · simp only [hp, if_true, zero_mul, Finset.sum_const_zero, add_zero]
    refine Finset.sum_congr rfl fun d _ => congrArg₂ (fun a b : EReal => a * b) (congrArg iq (congrArg (ix2 r) (Fin.ext ?_))) rfl
    show 128 * (h.val / 2) + d.val = 64 * h.val + d.val
    omega
  · simp only [hp, if_false, zero_mul, Finset.sum_const_zero, zero_add]
    refine Finset.sum_congr rfl fun d _ => congrArg₂ (fun a b : EReal => a * b) (congrArg iq (congrArg (ix2 r) (Fin.ext ?_))) rfl
    show 128 * (h.val / 2) + (64 + d.val) = 64 * h.val + d.val
    omega

theorem dots_apply (iq : FVec Ideal S8x1024 .f32) (pg : Fin 8 → Vec Ideal S1x1x128x64 .f32) (h : Fin 16) (r : Fin 8) (s : Fin 1024) :
    dots iq pg (ix2 ⟨8 * h.val + r.val, by omega⟩ s) = headDot iq pg h r s * Ideal.ofBits .f32 0x3E000000#32 := by
  unfold dots k0_pay16
  simp only [matmul]
  refine congrArg (fun a : EReal => a * Ideal.ofBits .f32 0x3E000000#32) ?_
  rw [show dot_S128x128_S1024x128_S128x1024_1_1_0_0_n_n = DotDims.transposedRhs 128 128 1024 from rfl]
  refine (Ideal.matmul_transposedRhs_apply (M := 128) (K := 128) (N := 1024) none _ _ _ _ _).trans ?_
  rw [show (constant S128x1024 .f32 0x00000000#32 : FVec Ideal S128x1024 .f32) (ix2 ⟨8 * h.val + r.val, by omega⟩ s) = 0 from Ideal.ofBits_zero_f32,
    zero_add]
  exact product_apply iq pg h r s

/-! ## The block -/

/-- What the step stores, from the blocks it loads: the printed payloads put together. -/
def block (q : Vec Ideal S1x8x1024 .bf16) (sm : Vec Ideal S1x8x128 .f32) (pg : Fin 8 → Vec Ideal S1x1x128x64 .f32) : FVec Ideal S1x8x1024 .f32 :=
  shapeCast S1x8x1024 (score (k0_pay15 sm) (dots (k0_pay3 q) pg)) shapeCasts_S8x1024_S1x8x1024

/-- The head's score at row `r` and key `s` of the block, from the blocks loaded. -/
def blockTerm (q : Vec Ideal S1x8x1024 .bf16) (sm : Vec Ideal S1x8x128 .f32) (pg : Fin 8 → Vec Ideal S1x1x128x64 .f32)
    (r : Fin 8) (s : Fin 1024) (h : Fin 16) : EReal :=
  (sm (ix3 (0 : Fin 1) r ⟨64 + h.val, by omega⟩) : EReal)
    * max ((∑ d : Fin 64, (q (ix3 (0 : Fin 1) r ⟨64 * h.val + d.val, by omega⟩) : EReal)
      * (pg ⟨s.val / 128, by omega⟩ (ix4 (0 : Fin 1) (0 : Fin 1) ⟨s.val % 128, by omega⟩ d) : EReal)) * Ideal.ofBits .f32 0x3E000000#32) 0

theorem query_apply (q : Vec Ideal S1x8x1024 .bf16) (r : Fin 8) (k : Fin 1024) : k0_pay3 q (ix2 r k) = q (ix3 (0 : Fin 1) r k) := by
  unfold k0_pay3
  show shapeCast S8x1024 q shapeCasts_S1x8x1024_S8x1024 (ix2 r k) = _
  exact shapeCast_apply _ _ _ _ (by
    rewrite [Shape.rowMajor_val_three, Shape.rowMajor_val_two]
    show (0 * 8 + r.val) * 1024 + k.val = r.val * 1024 + k.val
    omega)

theorem small_apply (sm : Vec Ideal S1x8x128 .f32) (r : Fin 8) (k : Fin 128) : k0_pay15 sm (ix2 r k) = sm (ix3 (0 : Fin 1) r k) := by
  unfold k0_pay15
  exact shapeCast_apply _ _ _ _ (by
    rewrite [Shape.rowMajor_val_three, Shape.rowMajor_val_two]
    show (0 * 8 + r.val) * 128 + k.val = r.val * 128 + k.val
    omega)

theorem block_apply (q : Vec Ideal S1x8x1024 .bf16) (sm : Vec Ideal S1x8x128 .f32) (pg : Fin 8 → Vec Ideal S1x1x128x64 .f32) (r : Fin 8) (s : Fin 1024) :
    block q sm pg (ix3 (0 : Fin 1) r s) = ∑ h : Fin 16, blockTerm q sm pg r s h := by
  unfold block
  refine (shapeCast_apply (s := S8x1024) (t := S1x8x1024) _ _ _ (ix2 r s) (by
    rewrite [Shape.rowMajor_val_three, Shape.rowMajor_val_two]
    show r.val * 1024 + s.val = (0 * 8 + r.val) * 1024 + s.val
    omega)).trans ?_
  rw [score_apply]
  refine Finset.sum_congr rfl fun h _ => ?_
  unfold share blockTerm
  rw [dots_apply, small_apply]
  unfold headDot
  simp only [query_apply]

/-- The printed body's payloads, put together in its order, are `block`. -/
theorem body_eq (q : Vec Ideal S1x8x1024 .bf16) (sm : Vec Ideal S1x8x128 .f32) (pg : Fin 8 → Vec Ideal S1x1x128x64 .f32) :
    k0_pay1 lanes (k0_pay15 sm) (dots (k0_pay3 q) pg)
      (k0_pay26 lanes (k0_pay15 sm) (dots (k0_pay3 q) pg)
        (k0_pay23 lanes (k0_pay15 sm) (dots (k0_pay3 q) pg)
          (k0_pay21 lanes (k0_pay15 sm) (dots (k0_pay3 q) pg)
            (k0_pay17 lanes (twice pg) (tower (k0_pay3 q)) (k0_pay15 sm) (constant S128x1024 .f32 0x00000000#32))
            (k0_pay18 (twice pg) (tower (k0_pay3 q)) (constant S128x1024 .f32 0x00000000#32)) (k0_pay19 lanes) (k0_pay20 (F := Ideal)))
          (k0_pay22 (dots (k0_pay3 q) pg)) 71#32)
        (k0_pay24 (dots (k0_pay3 q) pg)) (k0_pay25 lanes (k0_pay15 sm)))
      (k0_pay27 (dots (k0_pay3 q) pg)) (k0_pay28 lanes (k0_pay15 sm))
    = block q sm pg := rfl

end Cert.KernelIdeal.Mine

end
-- ==== Proof.IdxOut.lean ====
/-
  What one grid point leaves in the output's buffer: the block of scores of the query block, the weight block and the
  eight pages it was given (`outs_eq`).
-/
module

public import proofs.«01_k».proof.Proof.IdxDots
public import proofs.«01_k».proof.Proof.Pages

@[expose] public section

noncomputable section

namespace Cert.KernelIdeal.Mine

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (hO : Ok m)

/-- Eight pages as a family. -/
def eight (y0 y1 y2 y3 y4 y5 y6 y7 : Vec Ideal S1x1x128x64 .f32) : Fin 8 → Vec Ideal S1x1x128x64 .f32
  | ⟨0, _⟩ => y0
  | ⟨1, _⟩ => y1
  | ⟨2, _⟩ => y2
  | ⟨3, _⟩ => y3
  | ⟨4, _⟩ => y4
  | ⟨5, _⟩ => y5
  | ⟨6, _⟩ => y6
  | ⟨7, _⟩ => y7
  | ⟨n + 8, h⟩ => absurd h (by omega)

theorem o3 : (![0, 0, 0] : Fin 3 → Nat) = fun _ => 0 := funext fun a => by fin_cases a <;> rfl
theorem o4 : (![0, 0, 0, 0] : Fin 4 → Nat) = fun _ => 0 := funext fun a => by fin_cases a <;> rfl

set_option maxHeartbeats 2000000 in
/-- On any buffers holding the query block, the weight block and eight pages, the body leaves their block of scores. -/
theorem left_eq (c : Dev nD) (i : grid0.Coords) (arg3 : Memref sig .tc .vmem S1x8x1024 .bf16) (harg3 : arg3.IsWhole) (arg4 : Memref sig .tc .vmem S1x8x128 .f32) (harg4 : arg4.IsWhole) (arg5 : Memref sig .tc .vmem S1x1x128x64 .f32) (harg5 : arg5.IsWhole) (arg6 : Memref sig .tc .vmem S1x1x128x64 .f32) (harg6 : arg6.IsWhole) (arg7 : Memref sig .tc .vmem S1x1x128x64 .f32) (harg7 : arg7.IsWhole) (arg8 : Memref sig .tc .vmem S1x1x128x64 .f32) (harg8 : arg8.IsWhole) (arg9 : Memref sig .tc .vmem S1x1x128x64 .f32) (harg9 : arg9.IsWhole) (arg10 : Memref sig .tc .vmem S1x1x128x64 .f32) (harg10 : arg10.IsWhole) (arg11 : Memref sig .tc .vmem S1x1x128x64 .f32) (harg11 : arg11.IsWhole) (arg12 : Memref sig .tc .vmem S1x1x128x64 .f32) (harg12 : arg12.IsWhole) (arg13 : Memref sig .tc .vmem S1x8x1024 .f32) (harg13 : arg13.IsWhole)
    (x0 : Vec Ideal S1x8x1024 .bf16) (x1 : Vec Ideal S1x8x128 .f32) (x2 : Vec Ideal S1x1x128x64 .f32) (x3 : Vec Ideal S1x1x128x64 .f32) (x4 : Vec Ideal S1x1x128x64 .f32) (x5 : Vec Ideal S1x1x128x64 .f32) (x6 : Vec Ideal S1x1x128x64 .f32) (x7 : Vec Ideal S1x1x128x64 .f32) (x8 : Vec Ideal S1x1x128x64 .f32) (x9 : Vec Ideal S1x1x128x64 .f32) (xt0 : TbBuf0 (F := Ideal) c tbM0_0) :
    out0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9 xt0 = block x0 x1 (eight x2 x3 x4 x5 x6 x7 x8 x9) := by
  unfold out0_A_10
  rw [View.read_writes_eq_canon _ _ _ (cover0_A_10 _ _ _ _ _ _ _ _ _ _ _ _ _ _ _ _ _ _ _ _ _ _ _ _ _ _ _ _ _ _ _ _ _ _ _)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread]
  rw [View.canon_unit_zero o3, View.ld_unit_zero (S := S1x8x1024) o3, View.ld_unit_zero (S := S1x8x128) o3]
  simp only [View.ld_unit_zero (S := S1x1x128x64) o4]
  exact body_eq _ _ (eight x2 x3 x4 x5 x6 x7 x8 x9)

/-- The eight pages a grid point is given. -/
def pagesAt (c : Dev nD) (t : Fin (cfgM m hO).N) : Fin 8 → Vec Ideal S1x1x128x64 .f32 :=
  eight (iblk m hO c 2 t) (iblk m hO c 3 t) (iblk m hO c 4 t) (iblk m hO c 5 t) (iblk m hO c 6 t) (iblk m hO c 7 t)
    (iblk m hO c 8 t) (iblk m hO c 9 t)

/-- What a grid point leaves in the output's buffer. -/
theorem outs_eq (c : Dev nD) (t : Fin (cfgM m hO).N) :
    outsAt0 m hO c t = block (iblk m hO c 0 t) (iblk m hO c 1 t) (pagesAt m hO c t) := by
  unfold outsAt0
  exact left_eq _ _ _ _ _ _ _ _ _ _ _ _ _ _ _ _ _ _ _ _ _ _ _ _ _ _ _ _ _ _ _ _ _ _ _

end Cert.KernelIdeal.Mine

end
-- ==== Proof.IdxKernel.lean ====
/-
  The gather's kernel over its whole run. At the grid point of batch `b` and span `s` of 1024 keys, the kernel is handed
  batch `b`'s queries and head weights and the eight pages the page table names for that span; so the key at position `k`
  of the row is row `k % 128` of page `page_table[b, k / 128]` (`page_eq`). The points tile the result (`final`).
-/
module

public import proofs.«01_k».proof.Proof.IdxOut
public import Idealize.ShloMosaic.Lib.Pipeline.Value
public import Idealize.ShloMosaic.Lib.ValueIdx

@[expose] public section

noncomputable section

namespace Cert.KernelIdeal.Mine

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (hO : Ok m)

/-- The arguments. -/
abbrev table (c : Dev nD) : IVec S8x128 32 := m ((c : Thread nD τ).loc main_arg0)
abbrev queries (c : Dev nD) : S8x8x1024.Idx → EReal := m ((c : Thread nD τ).loc main_arg1)
abbrev weights (c : Dev nD) : S8x8x128.Idx → EReal := m ((c : Thread nD τ).loc main_arg2)
abbrev pool (c : Dev nD) : S2x1280x128x64.Idx → EReal := m ((c : Thread nD τ).loc main_arg3)

/-- The page that holds key `k` of batch `b`. The remainder changes nothing: a page number is below 1280. -/
def pageOf (c : Dev nD) (b : Fin 8) (p : Fin 128) : Fin 1280 := ⟨(table m c (ix2 b p)).toNat % 1280, Nat.mod_lt _ (by decide)⟩

/-- One head's share of the score of key `k` for query row `r` of batch `b`. -/
def headTerm (c : Dev nD) (b r : Fin 8) (k : Fin 16384) (h : Fin 16) : EReal :=
  weights m c (ix3 b r ⟨64 + h.val, by omega⟩)
    * max ((∑ d : Fin 64, queries m c (ix3 b r ⟨64 * h.val + d.val, by omega⟩)
      * pool m c (ix4 (0 : Fin 2) (pageOf m c b ⟨k.val / 128, by omega⟩) ⟨k.val % 128, by omega⟩ d)) * Ideal.ofBits .f32 0x3E000000#32) 0

/-- The array of scores. -/
def scores (c : Dev nD) : Vec Ideal S8x8x16384 .f32 := fun i => ∑ h : Fin 16, headTerm m c (i 0) (i 1) (i 2) h

/-! ## The pages -/

/-- Where in the flattened table the word of page `j` of a grid point stands. -/
theorem word_at : ∀ (i : grid0.Coords) (j : Fin 8), k0_off1 i (BitVec.ofNat 32 j.val) 0 = (i 0).val * 128 + ((i 1).val * 8 + j.val) := by
  decide +kernel

theorem bound0 (i : grid0.Coords) : (i 0).val < 8 := (i 0).isLt
theorem bound1 (i : grid0.Coords) : (i 1).val < 16 := (i 1).isLt

/-- The page table's entry a grid point's page `j` is read from. -/
def entry (i : grid0.Coords) (j : Fin 8) : S8x128.Idx :=
  ix2 (⟨(i 0).val, bound0 i⟩ : Fin 8) (⟨(i 1).val * 8 + j.val, by have := bound1 i; omega⟩ : Fin 128)

/-- The word the index map of page `j` reads is that entry. -/
theorem word_eq (c : Dev nD) (i : grid0.Coords) (j : Fin 8) :
    (tbl m 0 : IVec S1024 32) ((Rect.unit (s := S1024) (k0_off1 i (BitVec.ofNat 32 j.val)) S1.size (k0_off1_inb i j)).emb
      (Shape.Idx.first (numel1_S1.symm ▸ Nat.one_pos))) = table m c (entry i j) := by
  obtain rfl : c = 0 := Subsingleton.elim _ _
  show (V m (0 : Dev nD) main_v0 : IVec S1024 32) _ = _
  rw [table_eq]
  refine shapeCast_apply _ shapeCasts_S8x128_S1024 _ (entry i j) ?_
  rewrite [Shape.rowMajor_val_two, Shape.rowMajor_val_one]
  show (i 0).val * 128 + ((i 1).val * 8 + j.val) = k0_off1 i (BitVec.ofNat 32 j.val) 0 + 1 * 0
  rw [word_at]
  omega

/-- Where a page's block stands in the pool. -/
theorem page_place (f : Fin 4 → Nat) (w : BitVec 32) (p : Fin 1280) (hf : f = ![0, w.toNat, 0, 0]) (hp : w.toNat = p.val)
    (h : ∀ a, (f a + 1) * S1x1x128x64.size a ≤ S2x1280x128x64.size a) (r : Fin 128) (d : Fin 64) :
    (Rect.block (s := S2x1280x128x64) S1x1x128x64.size f h).emb (ix4 (0 : Fin 1) (0 : Fin 1) r d) = ix4 (0 : Fin 2) p r d := by
  subst hf
  refine funext fun a => Fin.ext ?_
  match a with
  | ⟨0, _⟩ => show 0 * 1 + 1 * 0 = 0; omega
  | ⟨1, _⟩ => show w.toNat * 1 + 1 * 0 = p.val; omega
  | ⟨2, _⟩ => show 0 * 128 + 1 * r.val = r.val; omega
  | ⟨3, _⟩ => show 0 * 64 + 1 * d.val = d.val; omega

/-- The page a grid point's `j`-th page window holds. -/
def pageAt (c : Dev nD) (i : grid0.Coords) (j : Fin 8) : Fin 1280 :=
  pageOf m c ⟨(i 0).val, bound0 i⟩ ⟨(i 1).val * 8 + j.val, by have := bound1 i; omega⟩

theorem pageAt_val (hp : Cert.Pre_KernelIdeal m) (c : Dev nD) (i : grid0.Coords) (j : Fin 8) (w : BitVec 32)
    (hw : w = table m c (entry i j)) : w.toNat = (pageAt m c i j).val := by
  subst hw
  exact (Nat.mod_eq_of_lt (Cert.PageRange.in_pool (table m c) _ _ _ (hp c) _)).symm

/-- Row `r`, lane `d` of a grid point's page `j`: read off the pool at the page the table names. -/
theorem page_eq (hp : Cert.Pre_KernelIdeal m) (c : Dev nD) (t : Fin (cfgM m hO).N) (j : Fin 8) (r : Fin 128) (d : Fin 64) :
    (pagesAt m hO c t j (ix4 (0 : Fin 1) (0 : Fin 1) r d) : EReal)
      = pool m c (ix4 (0 : Fin 2) (pageAt m c (grid0.coords t) j) r d) := by
  unfold pool
  rw [← V_main_arg3 m c]
  match j with
  | ⟨0, _⟩ => exact congrArg (V m c main_arg3) (page_place _ _ _ rfl (pageAt_val m hp c _ 0 _ (word_eq m c _ 0)) (inside _ _ rfl (table_lt m hp _)) r d)
  | ⟨1, _⟩ => exact congrArg (V m c main_arg3) (page_place _ _ _ rfl (pageAt_val m hp c _ 1 _ (word_eq m c _ 1)) (inside _ _ rfl (table_lt m hp _)) r d)
  | ⟨2, _⟩ => exact congrArg (V m c main_arg3) (page_place _ _ _ rfl (pageAt_val m hp c _ 2 _ (word_eq m c _ 2)) (inside _ _ rfl (table_lt m hp _)) r d)
  | ⟨3, _⟩ => exact congrArg (V m c main_arg3) (page_place _ _ _ rfl (pageAt_val m hp c _ 3 _ (word_eq m c _ 3)) (inside _ _ rfl (table_lt m hp _)) r d)
  | ⟨4, _⟩ => exact congrArg (V m c main_arg3) (page_place _ _ _ rfl (pageAt_val m hp c _ 4 _ (word_eq m c _ 4)) (inside _ _ rfl (table_lt m hp _)) r d)
  | ⟨5, _⟩ => exact congrArg (V m c main_arg3) (page_place _ _ _ rfl (pageAt_val m hp c _ 5 _ (word_eq m c _ 5)) (inside _ _ rfl (table_lt m hp _)) r d)
  | ⟨6, _⟩ => exact congrArg (V m c main_arg3) (page_place _ _ _ rfl (pageAt_val m hp c _ 6 _ (word_eq m c _ 6)) (inside _ _ rfl (table_lt m hp _)) r d)
  | ⟨7, _⟩ => exact congrArg (V m c main_arg3) (page_place _ _ _ rfl (pageAt_val m hp c _ 7 _ (word_eq m c _ 7)) (inside _ _ rfl (table_lt m hp _)) r d)
  | ⟨n + 8, h⟩ => exact absurd h (by omega)

/-! ## The result -/

/-- Where the other windows stand. -/
theorem places : ∀ t : Fin grid0.N, cc0_transform_0 (grid0.coords t) = ![((grid0.coords t) 0).val, 0, 0]
    ∧ cc0_transform_1 (grid0.coords t) = ![((grid0.coords t) 0).val, 0, 0]
    ∧ cc0_transform_10 (grid0.coords t) = ![((grid0.coords t) 0).val, 0, ((grid0.coords t) 1).val] := by
  decide +kernel

theorem onto : ∀ (b : Fin 8) (s : Fin 16), ∃ t : Fin grid0.N, cc0_transform_10 (grid0.coords t) = ![b.val, 0, s.val] := by
  decide +kernel

theorem rows_eq (c : Dev nD) (t : Fin (cfgM m hO).N) (r : Fin 8) (k : Fin 1024) :
    (iblk m hO c 0 t (ix3 (0 : Fin 1) r k) : EReal) = queries m c (ix3 (⟨((grid0.coords t) 0).val, bound0 _⟩ : Fin 8) r k) := by
  unfold queries
  rw [← V_main_arg1 m c]
  refine congrArg (V m c main_arg1) (funext fun a => Fin.ext ?_)
  match a with
  | ⟨0, _⟩ => show cc0_transform_0 (grid0.coords t) 0 * 1 + 1 * 0 = ((grid0.coords t) 0).val; rw [(places t).1]; show ((grid0.coords t) 0).val * 1 + 1 * 0 = _; omega
  | ⟨1, _⟩ => show cc0_transform_0 (grid0.coords t) 1 * 8 + 1 * r.val = r.val; rw [(places t).1]; show 0 * 8 + 1 * r.val = r.val; omega
  | ⟨2, _⟩ => show cc0_transform_0 (grid0.coords t) 2 * 1024 + 1 * k.val = k.val; rw [(places t).1]; show 0 * 1024 + 1 * k.val = k.val; omega

theorem weights_eq (c : Dev nD) (t : Fin (cfgM m hO).N) (r : Fin 8) (k : Fin 128) :
    (iblk m hO c 1 t (ix3 (0 : Fin 1) r k) : EReal) = weights m c (ix3 (⟨((grid0.coords t) 0).val, bound0 _⟩ : Fin 8) r k) := by
  unfold weights
  rw [← V_main_arg2 m c]
  refine congrArg (V m c main_arg2) (funext fun a => Fin.ext ?_)
  match a with
  | ⟨0, _⟩ => show cc0_transform_1 (grid0.coords t) 0 * 1 + 1 * 0 = ((grid0.coords t) 0).val; rw [(places t).2.1]; show ((grid0.coords t) 0).val * 1 + 1 * 0 = _; omega
  | ⟨1, _⟩ => show cc0_transform_1 (grid0.coords t) 1 * 8 + 1 * r.val = r.val; rw [(places t).2.1]; show 0 * 8 + 1 * r.val = r.val; omega
  | ⟨2, _⟩ => show cc0_transform_1 (grid0.coords t) 2 * 128 + 1 * k.val = k.val; rw [(places t).2.1]; show 0 * 128 + 1 * k.val = k.val; omega

/-- One head's share in the block is its share in the array. -/
theorem term_eq (hp : Cert.Pre_KernelIdeal m) (c : Dev nD) (t : Fin (cfgM m hO).N) (r : Fin 8) (s : Fin 1024) (k : Fin 16384)
    (hk : k.val = ((grid0.coords t) 1).val * 1024 + s.val) (h : Fin 16) :
    blockTerm (iblk m hO c 0 t) (iblk m hO c 1 t) (pagesAt m hO c t) r s h
      = headTerm m c ⟨((grid0.coords t) 0).val, bound0 _⟩ r k h := by
  unfold blockTerm headTerm
  refine congrArg₂ (fun a b : EReal => a * max (b * Ideal.ofBits .f32 0x3E000000#32) 0) (weights_eq m hO c t r _) ?_
  refine Finset.sum_congr rfl fun d _ => congrArg₂ (fun a b : EReal => a * b) (rows_eq m hO c t r _) ?_
  refine (page_eq m hO hp c t _ _ _).trans ?_
  unfold pageAt
  have e1 : (⟨((grid0.coords t) 1).val * 8 + s.val / 128, by have := bound1 (grid0.coords t); omega⟩ : Fin 128) = ⟨k.val / 128, by omega⟩ :=
    Fin.ext (by show ((grid0.coords t) 1).val * 8 + s.val / 128 = k.val / 128; omega)
  have e2 : (⟨s.val % 128, by omega⟩ : Fin 128) = ⟨k.val % 128, by omega⟩ := Fin.ext (by show s.val % 128 = k.val % 128; omega)
  rw [e2]
  exact congrArg (fun p => pool m c (ix4 (0 : Fin 2) (pageOf m c _ p) _ d)) e1

/-- A grid point's block, at one place of the block. -/
theorem block_at (hp : Cert.Pre_KernelIdeal m) (c : Dev nD) (t : Fin (cfgM m hO).N) (y : S1x8x1024.Idx) :
    block (iblk m hO c 0 t) (iblk m hO c 1 t) (pagesAt m hO c t) y
      = scores m c ((Rect.block (s := S8x8x16384) S1x8x1024.size (cc0_transform_10 (grid0.coords t)) (hinb0_10 _)).emb y) := by
  have hy0 : (y 0).val < 1 := (y 0).isLt
  have hy1 : (y 1).val < 8 := (y 1).isLt
  have hy2 : (y 2).val < 1024 := (y 2).isLt
  have ey : y = ix3 (0 : Fin 1) (⟨(y 1).val, hy1⟩ : Fin 8) (⟨(y 2).val, hy2⟩ : Fin 1024) :=
    funext fun a => Fin.ext (match a with
      | ⟨0, _⟩ => by show (y 0).val = 0; omega
      | ⟨1, _⟩ => rfl
      | ⟨2, _⟩ => rfl)
  have ei : (Rect.block (s := S8x8x16384) S1x8x1024.size (cc0_transform_10 (grid0.coords t)) (hinb0_10 _)).emb y
      = ix3 (⟨((grid0.coords t) 0).val, bound0 _⟩ : Fin 8) (⟨(y 1).val, hy1⟩ : Fin 8)
      (⟨((grid0.coords t) 1).val * 1024 + (y 2).val, by have := bound1 (grid0.coords t); omega⟩ : Fin 16384) :=
    funext fun a => Fin.ext (by
      match a with
      | ⟨0, _⟩ => show cc0_transform_10 (grid0.coords t) 0 * 1 + 1 * (y 0).val = ((grid0.coords t) 0).val; rw [(places t).2.2]; show ((grid0.coords t) 0).val * 1 + 1 * (y 0).val = _; omega
      | ⟨1, _⟩ => show cc0_transform_10 (grid0.coords t) 1 * 8 + 1 * (y 1).val = (y 1).val; rw [(places t).2.2]; show 0 * 8 + 1 * (y 1).val = _; omega
      | ⟨2, _⟩ => show cc0_transform_10 (grid0.coords t) 2 * 1024 + 1 * (y 2).val = ((grid0.coords t) 1).val * 1024 + (y 2).val; rw [(places t).2.2]; show ((grid0.coords t) 1).val * 1024 + 1 * (y 2).val = _; omega)
  refine (congrArg (block (iblk m hO c 0 t) (iblk m hO c 1 t) (pagesAt m hO c t)) ey).trans (Eq.trans ?_ (congrArg (scores m c) ei).symm)
  exact (block_apply _ _ _ _ _).trans (Finset.sum_congr rfl fun h _ => term_eq m hO hp c t _ _ _ rfl h)

/-- Each point writes back its block of the scores. -/
theorem flushed_eq (hp : Cert.Pre_KernelIdeal m) (c : Dev nD) (t : Fin (cfgM m hO).N) :
    (dats m hO 0 c).flushed 10 t = (((cfgM m hO).win 10).blk t).view.read (Elt Ideal) (scores m c) := by
  show ((cfgM m hO).win 10).cut (grid0.coords t) ((dats m hO 0 c).after 10 t) = _
  rw [after0_10, outs_eq]
  exact funext fun y => block_at m hO hp c t y

/-- Every place of the result lies in some point's block. -/
theorem covered (i : S8x8x16384.Idx) : ∃ t : Fin grid0.N, i ∈ ((View.whole main_v1).slice
    (Rect.block (s := S8x8x16384) S1x8x1024.size (cc0_transform_10 (grid0.coords t)) (hinb0_10 _))).set := by
  have h0 : (i 0).val < 8 := (i 0).isLt
  have h1 : (i 1).val < 8 := (i 1).isLt
  have h2 : (i 2).val < 16384 := (i 2).isLt
  obtain ⟨t, e⟩ := onto ⟨(i 0).val, h0⟩ ⟨(i 2).val / 1024, by omega⟩
  refine ⟨t, ?_⟩
  rw [View.set_slice_whole, Rect.mem_set_unit]
  intro a
  match a with
  | ⟨0, _⟩ => show cc0_transform_10 (grid0.coords t) 0 * 1 ≤ (i 0).val ∧ (i 0).val < cc0_transform_10 (grid0.coords t) 0 * 1 + 1; rw [e]; show (i 0).val * 1 ≤ _ ∧ _ < (i 0).val * 1 + 1; omega
  | ⟨1, _⟩ => show cc0_transform_10 (grid0.coords t) 1 * 8 ≤ (i 1).val ∧ (i 1).val < cc0_transform_10 (grid0.coords t) 1 * 8 + 8; rw [e]; show 0 * 8 ≤ _ ∧ _ < 0 * 8 + 8; omega
  | ⟨2, _⟩ => show cc0_transform_10 (grid0.coords t) 2 * 1024 ≤ (i 2).val ∧ (i 2).val < cc0_transform_10 (grid0.coords t) 2 * 1024 + 1024; rw [e]; show (i 2).val / 1024 * 1024 ≤ _ ∧ _ < (i 2).val / 1024 * 1024 + 1024; omega

/-- The result array after the run. -/
theorem final (hp : Cert.Pre_KernelIdeal m) (c : Dev nD) : (dats m hO 0 c).arrAt 10 (cfgM m hO).N = scores m c :=
  (dats m hO 0 c).arrAt_eq_of_cover 10 _ (fun t _ => flushed_eq m hO hp c t) (fun i => by
    obtain ⟨t, ht⟩ := covered i
    exact ⟨t, flush0_10 (adm m hO) t, ht⟩)

/-- The run: the result array at the scores, the arguments unchanged. -/
theorem run (ρ : Dev nD → PrngReg) (hp : Cert.Pre_KernelIdeal m) :
    θ_run defs (onTc (τ := τ) (main (F := Ideal))) ⟨m, fun _ => 0, ρ⟩ fun r => ∀ c : Dev nD,
      r.2.mem ((c : Thread nD τ).loc main_v1) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).trans (final m (ok_of_pre m hp) hp c), h.2 c⟩)
    (θ_run_and ((θ_run defs _ _).mono (fun _ h c => (h c).1 10) (run_main m ρ (ok_of_pre m hp))) (unchanged m ρ (ok_of_pre m hp)))

end Cert.KernelIdeal.Mine

end
-- ==== Proof.IdxRef.lean ====
/-
  The gather's reference, and the equation. The reference gathers the pages into one row of 16384 keys per batch, then
  takes every query head's product with every key, scales by an eighth, cuts at zero and sums over the heads with the
  head weights. A page number that the precondition keeps inside the pool is neither wrapped nor clamped by the gather
  (`page_apply`), so at every place the reference sums the terms that the kernel sums.
-/
module

public import proofs.«01_k».proof.Defs
public import proofs.«01_k».proof.Proof.IdxKernel
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim
public import Idealize.ShloMosaic.Lib.Quiescent
public import Idealize.ShloMosaic.Lib.IdealHost
public import Idealize.ShloMosaic.Lib.Pipeline.Value

@[expose] public section

noncomputable section

namespace Cert.IdxValue

open Idealize.ShloMosaic Idealize.ShloMosaic.TcCoe Idealize.SL.Sem
open Idealize.ShloMosaic.ValueIdx
open Cert.ReferenceIdeal Cert.ReferenceIdeal.Gen Cert.ReferenceIdeal.Read
open scoped BigOperators

/-! ## The gather -/

abbrev gd := gather_S2x1280x128x64_S8x128x2_S8x128x128x64_23_01_n_n_01_2_1112864

/-- A page number from 0 to 1279 is not wrapped. -/
theorem wrap_eq (x0 : IVec S8x128 32) (i : S8x128.Idx) (h : (x0 i).toNat < 1280) : val_main_v4 (F := Ideal) x0 i = x0 i := by
  rw [val_main_v4_apply, val_main_v1_apply, val_main_v0_apply, val_main_c_apply]
  have hn : BitVec.slt (x0 i) 0#32 = false := by
    rw [BitVec.slt_eq_decide, decide_eq_false_iff_not]
    have z : (0#32 : BitVec 32).toInt = 0 := by decide
    rw [z]
    have hc := BitVec.toInt_eq_toNat_cond (x0 i)
    split at hc <;> omega
  show Scalar.select (BitVec.ofBool (BitVec.slt (x0 i) 0#32)) _ _ = _
  rw [hn]
  rfl

/-- The start indices: the layer 0, then the page. -/
theorem layer_apply (x0 : IVec S8x128 32) (b : Fin 8) (p : Fin 128) : val_main_v9 (F := Ideal) x0 (ix3 b p (0 : Fin 2)) = 0#32 := by
  unfold val_main_v9
  refine (concatenate_pair_apply_left (t := S8x128x2) (2 : Fin 3) (val_main_v7 (F := Ideal)) (val_main_v8 (F := Ideal) x0)
    concatenates_S8x128x1_S8x128x1_S8x128x2_d2 (ix3 b p (0 : Fin 2)) rfl (ix3 b p (0 : Fin 1)) (fun a => match a with
      | ⟨0, _⟩ => rfl
      | ⟨1, _⟩ => rfl
      | ⟨2, _⟩ => rfl)).trans ?_
  rw [val_main_v7_apply, val_main_v6_apply, val_main_v5_apply, val_main_c_1_apply]

theorem start_apply (x0 : IVec S8x128 32) (b : Fin 8) (p : Fin 128) (h : (x0 (ix2 b p)).toNat < 1280) :
    val_main_v9 (F := Ideal) x0 (ix3 b p (1 : Fin 2)) = x0 (ix2 b p) := by
  unfold val_main_v9
  refine (concatenate_pair_apply_right (t := S8x128x2) (2 : Fin 3) (val_main_v7 (F := Ideal)) (val_main_v8 (F := Ideal) x0)
    concatenates_S8x128x1_S8x128x1_S8x128x2_d2 (ix3 b p (1 : Fin 2)) rfl rfl (ix3 b p (0 : Fin 1)) (fun a ha => match a, ha with
      | ⟨0, _⟩, _ => rfl
      | ⟨1, _⟩, _ => rfl
      | ⟨2, _⟩, ha => absurd rfl ha) rfl).trans ?_
  rw [val_main_v8_apply]
  refine (congrArg (val_main_v4 (F := Ideal) x0) (show idx_main_v8 (ix3 b p (0 : Fin 1)) = ix2 b p from
    funext fun a => by
      match a with
      | ⟨0, _⟩ => rfl
      | ⟨1, _⟩ => rfl)).trans (wrap_eq x0 _ h)

/-- Which place of the pool the gather reads. -/
theorem place_eq (x0 : IVec S8x128 32) (b : Fin 8) (p : Fin 128) (r : Fin 128) (d : Fin 64) (h : (x0 (ix2 b p)).toNat < 1280) :
    gd.operandIdx (ix4 b p r d) (val_main_v9 (F := Ideal) x0)
      = ix4 (0 : Fin 2) (⟨(x0 (ix2 b p)).toNat % 1280, Nat.mod_lt _ (by decide)⟩ : Fin 1280) r d := by
  have e0 : gd.siIdx (ix4 b p r d) ⟨List.idxOf (0 : Fin 4) gd.startIndexMap, by decide⟩ = ix3 b p (0 : Fin 2) := by
    funext a; refine Fin.ext ?_
    match a with
    | ⟨0, _⟩ => rfl
    | ⟨1, _⟩ => rfl
    | ⟨2, _⟩ => rfl
  have e1 : gd.siIdx (ix4 b p r d) ⟨List.idxOf (1 : Fin 4) gd.startIndexMap, by decide⟩ = ix3 b p (1 : Fin 2) := by
    funext a; refine Fin.ext ?_
    match a with
    | ⟨0, _⟩ => rfl
    | ⟨1, _⟩ => rfl
    | ⟨2, _⟩ => rfl
  funext a
  refine Fin.ext ?_
  show gd.start (ix4 b p r d) (val_main_v9 (F := Ideal) x0) a + gd.batchCoord (ix4 b p r d) a + gd.offCoord (ix4 b p r d) a = _
  rw [GatherDims.batchCoord_eq_zero _ _ _ (show a ∉ gd.operandBatchingDims from List.not_mem_nil)]
  match a with
  | ⟨0, _⟩ =>
    rw [GatherDims.offCoord_eq_zero _ _ _ (show (⟨0, by decide⟩ : Fin 4) ∉ gd.sKept by decide)]
    unfold GatherDims.start
    rw [dif_pos (show (⟨0, by decide⟩ : Fin 4) ∈ gd.startIndexMap by decide)]
    refine (congrArg (fun w : BitVec 32 => min w.toInt.toNat 1 + 0 + 0) ((congrArg (val_main_v9 (F := Ideal) x0) e0).trans (layer_apply x0 b p))).trans ?_
    rfl
  | ⟨1, _⟩ =>
    rw [GatherDims.offCoord_eq_zero _ _ _ (show (⟨1, by decide⟩ : Fin 4) ∉ gd.sKept by decide)]
    unfold GatherDims.start
    rw [dif_pos (show (⟨1, by decide⟩ : Fin 4) ∈ gd.startIndexMap by decide)]
    refine (congrArg (fun w : BitVec 32 => min w.toInt.toNat 1279 + 0 + 0) ((congrArg (val_main_v9 (F := Ideal) x0) e1).trans (start_apply x0 b p h))).trans ?_
    show min (x0 (ix2 b p)).toInt.toNat 1279 + 0 + 0 = (x0 (ix2 b p)).toNat % 1280
    have hc := BitVec.toInt_eq_toNat_cond (x0 (ix2 b p))
    split at hc <;> omega
  | ⟨2, _⟩ =>
    unfold GatherDims.start GatherDims.offCoord
    rw [dif_neg (show ¬(⟨2, by decide⟩ : Fin 4) ∈ gd.startIndexMap by decide), dif_pos (show (⟨2, by decide⟩ : Fin 4) ∈ gd.sKept by decide)]
    show 0 + 0 + r.val = r.val
    omega
  | ⟨3, _⟩ =>
    unfold GatherDims.start GatherDims.offCoord
    rw [dif_neg (show ¬(⟨3, by decide⟩ : Fin 4) ∈ gd.startIndexMap by decide), dif_pos (show (⟨3, by decide⟩ : Fin 4) ∈ gd.sKept by decide)]
    show 0 + 0 + d.val = d.val
    omega

/-- Key `k` of batch `b`, as the reference gathers it. -/
theorem key_apply (x0 : IVec S8x128 32) (x3 : S2x1280x128x64.Idx → EReal) (b : Fin 8) (k : Fin 16384) (d : Fin 64)
    (h : (x0 (ix2 b (⟨k.val / 128, by omega⟩ : Fin 128))).toNat < 1280) :
    (val_main_v11 (F := Ideal) x0 x3 (ix3 b k d) : EReal)
      = x3 (ix4 (0 : Fin 2) (⟨(x0 (ix2 b (⟨k.val / 128, by omega⟩ : Fin 128))).toNat % 1280, Nat.mod_lt _ (by decide)⟩ : Fin 1280)
        (⟨k.val % 128, by omega⟩ : Fin 128) d) := by
  rw [val_main_v11_apply]
  have hb := b.isLt
  have hk := k.isLt
  have hd := d.isLt
  rw [show idx_main_v11 (ix3 b k d) = ix4 b (⟨k.val / 128, by omega⟩ : Fin 128) (⟨k.val % 128, by omega⟩ : Fin 128) d from
    funext fun a => Fin.ext (by
      match a with
      | ⟨0, _⟩ => show ((b.val * 16384 + k.val) * 64 + d.val) / 1048576 = b.val; omega
      | ⟨1, _⟩ => show ((b.val * 16384 + k.val) * 64 + d.val) / 8192 % 128 = k.val / 128; omega
      | ⟨2, _⟩ => show ((b.val * 16384 + k.val) * 64 + d.val) / 64 % 128 = k.val % 128; omega
      | ⟨3, _⟩ => show ((b.val * 16384 + k.val) * 64 + d.val) % 64 = d.val; omega)]
  unfold val_main_v10
  show x3 (gd.operandIdx _ _) = _
  rw [place_eq x0 b _ _ d h]

/-! ## The reference at one place -/

theorem query_apply (x1 : S8x8x1024.Idx → EReal) (b r : Fin 8) (h : Fin 16) (d : Fin 64) :
    (val_main_v13 (F := Ideal) x1 (ix4 b r h d) : EReal) = x1 (ix3 b r (⟨64 * h.val + d.val, by omega⟩ : Fin 1024)) := by
  rw [val_main_v13_apply]
  have hb := b.isLt
  have hr := r.isLt
  have hh := h.isLt
  have hd := d.isLt
  show x1 _ = x1 _
  refine congrArg x1 (funext fun a => Fin.ext ?_)
  match a with
  | ⟨0, _⟩ => show (((b.val * 8 + r.val) * 16 + h.val) * 64 + d.val) / 8192 = b.val; omega
  | ⟨1, _⟩ => show (((b.val * 8 + r.val) * 16 + h.val) * 64 + d.val) / 1024 % 8 = r.val; omega
  | ⟨2, _⟩ => show (((b.val * 8 + r.val) * 16 + h.val) * 64 + d.val) % 1024 = 64 * h.val + d.val; omega

theorem weight_apply (x2 : S8x8x128.Idx → EReal) (b r : Fin 8) (h : Fin 16) :
    (val_main_v14 (F := Ideal) x2 (ix3 b r h) : EReal) = x2 (ix3 b r (⟨64 + h.val, by omega⟩ : Fin 128)) := by
  rw [val_main_v14_apply]
  refine congrArg x2 (funext fun a => Fin.ext ?_)
  match a with
  | ⟨0, _⟩ => rfl
  | ⟨1, _⟩ => rfl
  | ⟨2, _⟩ => rfl

theorem head_apply (x0 : IVec S8x128 32) (x1 : S8x8x1024.Idx → EReal) (x3 : S2x1280x128x64.Idx → EReal) (b r : Fin 8) (h : Fin 16) (k : Fin 16384) :
    (val_main_v18 (F := Ideal) x0 x1 x3 (ix4 b r h k) : EReal)
      = max ((∑ d : Fin 64, (val_main_v13 (F := Ideal) x1 (ix4 b r h d) : EReal) * (val_main_v11 (F := Ideal) x0 x3 (ix3 b k d) : EReal))
        * Ideal.ofBits .f32 0x3E000000#32) 0 := by
  rw [val_main_v18_apply, val_main_v17_apply, val_main_v15_apply]
  refine congrArg₂ (fun a z : EReal => max (a * Ideal.ofBits .f32 0x3E000000#32) z) ?_ Ideal.ofBits_zero_f32
  refine Finset.sum_congr rfl fun d _ => congrArg₂ (fun a z : EReal => a * z) ?_ ?_
  · refine congrArg (val_main_v13 (F := Ideal) x1) (funext fun a => Fin.ext ?_)
    match a with
    | ⟨0, _⟩ => rfl
    | ⟨1, _⟩ => rfl
    | ⟨2, _⟩ => rfl
    | ⟨3, _⟩ => rfl
  · refine congrArg (val_main_v11 (F := Ideal) x0 x3) (funext fun a => Fin.ext ?_)
    match a with
    | ⟨0, _⟩ => rfl
    | ⟨1, _⟩ => rfl
    | ⟨2, _⟩ => rfl

theorem score_apply (x0 : IVec S8x128 32) (x1 : S8x8x1024.Idx → EReal) (x2 : S8x8x128.Idx → EReal) (x3 : S2x1280x128x64.Idx → EReal)
    (b r : Fin 8) (k : Fin 16384) : (val_main_v19 (F := Ideal) x0 x1 x2 x3 (ix3 b r k) : EReal)
      = ∑ h : Fin 16, (val_main_v14 (F := Ideal) x2 (ix3 b r h) : EReal) * (val_main_v18 (F := Ideal) x0 x1 x3 (ix4 b r h k) : EReal) := by
  rw [val_main_v19_apply]
  refine Finset.sum_congr rfl fun h _ => congrArg₂ (fun a z : EReal => a * z) ?_ ?_
  · refine congrArg (val_main_v14 (F := Ideal) x2) (funext fun a => Fin.ext ?_)
    match a with
    | ⟨0, _⟩ => rfl
    | ⟨1, _⟩ => rfl
    | ⟨2, _⟩ => rfl
  · refine congrArg (val_main_v18 (F := Ideal) x0 x1 x3) (funext fun a => Fin.ext ?_)
    match a with
    | ⟨0, _⟩ => rfl
    | ⟨1, _⟩ => rfl
    | ⟨2, _⟩ => rfl
    | ⟨3, _⟩ => rfl

/-! ## The equation -/

/-- The kernel's scores are the reference's. -/
theorem scores_eq (m : (ℓ : Loc Cert.KernelIdeal.nD Cert.KernelIdeal.τ Cert.KernelIdeal.sig) → Buf (Elt Ideal) ℓ)
    (hp : Cert.Pre_KernelIdeal m) (c : Dev Cert.KernelIdeal.nD) :
    Cert.KernelIdeal.Mine.scores m c = val_main_v19 (F := Ideal) (Cert.KernelIdeal.Mine.table m c) (Cert.KernelIdeal.Mine.queries m c)
      (Cert.KernelIdeal.Mine.weights m c) (Cert.KernelIdeal.Mine.pool m c) := by
  funext i
  obtain ⟨b, r, k, rfl⟩ : ∃ (b r : Fin 8) (k : Fin 16384), i = ix3 b r k := ⟨i 0, i 1, i 2, eq_ix3 i⟩
  refine Eq.trans ?_ (score_apply _ _ _ _ b r k).symm
  unfold Cert.KernelIdeal.Mine.scores
  refine Finset.sum_congr rfl fun h _ => ?_
  unfold Cert.KernelIdeal.Mine.headTerm
  refine congrArg₂ (fun a z : EReal => a * z) (weight_apply _ b r h).symm ?_
  refine Eq.trans ?_ (head_apply _ _ _ b r h k).symm
  refine congrArg (fun a : EReal => max (a * Ideal.ofBits .f32 0x3E000000#32) 0) ?_
  exact Finset.sum_congr rfl fun d _ => congrArg₂ (fun a z : EReal => a * z) (query_apply _ b r h d).symm
    (key_apply _ _ b k d (Cert.PageRange.in_pool (Cert.KernelIdeal.Mine.table m c) _ _ _ (hp c) _)).symm

theorem frame_ref : Cert.quiescent_ReferenceIdeal := fun m g _ =>
  θ_run_and ((θ_run (Cert.ReferenceIdeal.defs (F := Ideal)) _ _).mono (fun _ h c => (h c).2) (Cert.ReferenceIdeal.Value.run (F := Ideal) m g))
    ((θ_run (Cert.ReferenceIdeal.defs (F := Ideal)) _ _).mono (fun r _ => sem_eq_zero_of_no_sems rfl r.2) (Cert.ReferenceIdeal.Value.run (F := Ideal) m g))

/-- The gather's kernel and its reference end with the same scores. -/
theorem algebraic : Cert.algebraic_KernelIdeal_ReferenceIdeal := fun m g m' g' hp hargs =>
  ⟨fun c => Cert.KernelIdeal.Mine.scores m c, Cert.KernelIdeal.Mine.run m g hp,
    (θ_run (Cert.ReferenceIdeal.defs (F := Ideal)) _ _).mono (fun _ h c => ⟨(h c).1.trans (by
        rw [(hargs c).1, (hargs c).2.1, (hargs c).2.2.1, (hargs c).2.2.2]
        exact (val_main_v19_eq (F := Ideal) _ _ _ _).trans (scores_eq m hp c).symm), (h c).2⟩)
      (Cert.ReferenceIdeal.Value.run (F := Ideal) m' g')⟩

end Cert.IdxValue

end
-- ==== Proof.FfnKernel.lean ====
/-
  The feed-forward's kernel, read. A grid point `(i, f)` takes 1024 rows of the activations and 512 of the 5632 hidden
  units: it forms the hidden units' gated values `silu(h·w1) · (h·w3)` for its rows, multiplies them by its 512 rows of
  the third weight and adds the product to the output block, which the run's first point (`f = 0`) has cleared. After
  the run's eleven points the block holds the sum over all the hidden units (`acc_apply`, `sum_blocks`).
-/
module

public import proofs.«01_k».proof.Proof.Gen.FfnIdeal.Value
public import Idealize.ShloMosaic.Lib.MatmulPlain
public import Idealize.ShloMosaic.Lib.ValueIdx
public import Idealize.ShloMosaic.Lib.StableHlo.Run

@[expose] public section

noncomputable section

namespace Cert.FfnIdeal.Mine

open Cert.FfnIdeal Cert.FfnIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- A leading pair of unit axes dropped from a block of a weight. -/
theorem drop2_apply {A B : ℕ} (x : (⟨4, ![1, 1, A, B]⟩ : Shape).Idx → EReal)
    (h : (⟨4, ![1, 1, A, B]⟩ : Shape).ShapeCasts ⟨2, ![A, B]⟩) (p : Fin A) (q : Fin B) :
    shapeCast ⟨2, ![A, B]⟩ x h (ix2 p q) = x (ix4 (0 : Fin 1) (0 : Fin 1) p q) :=
  shapeCast_apply x h _ _ (by
    rewrite [Shape.rowMajor_val_four, Shape.rowMajor_val_two]
    show ((0 * 1 + 0) * A + p.val) * B + q.val = p.val * B + q.val
    simp)

/-- The gated hidden value from its two pre-activations: `a · σ(a) · b`. -/
def gate (a b : EReal) : EReal := a * Ideal.logistic a * b

/-- What one point adds at row `r`, column `c`: its 512 hidden units' gated values against the third weight. -/
theorem pay_apply (x0 : Vec Ideal S1024x2048 .bf16) (x1 x2 : Vec Ideal S1x1x2048x512 .bf16)
    (acc : Vec Ideal S1024x2048 .f32) (x3 : Vec Ideal S1x1x512x2048 .bf16) (r : Fin 1024) (c : Fin 2048) :
    k0_pay2 x0 x1 x2 acc x3 (ix2 r c) = acc (ix2 r c) + ∑ f : Fin 512,
      gate (∑ k : Fin 2048, x0 (ix2 r k) * x1 (ix4 (0 : Fin 1) (0 : Fin 1) k f))
        (∑ k : Fin 2048, x0 (ix2 r k) * x2 (ix4 (0 : Fin 1) (0 : Fin 1) k f)) * x3 (ix4 (0 : Fin 1) (0 : Fin 1) f c) := by
  have up : ∀ (x : Vec Ideal S1x1x2048x512 .bf16) (f : Fin 512),
      FloatOps.matmul (DotDims.plain 1024 2048 512) none (x0 : FVec Ideal S1024x2048 .bf16)
        (shapeCast S2048x512 x shapeCasts_S1x1x2048x512_S2048x512 : FVec Ideal S2048x512 .bf16)
        (constant S1024x512 .f32 0x00000000#32) (ix2 r f)
      = ∑ k : Fin 2048, x0 (ix2 r k) * x (ix4 (0 : Fin 1) (0 : Fin 1) k f) := fun x f => by
    rw [Ideal.matmul_plain_apply]
    rw [show (constant S1024x512 .f32 0x00000000#32 : FVec Ideal S1024x512 .f32) (ix2 r f) = 0 from Ideal.ofBits_zero_f32,
      zero_add]
    exact Finset.sum_congr rfl fun k _ => congrArg (x0 (ix2 r k) * ·) (drop2_apply x _ k f)
  unfold k0_pay2
  simp only [shapeCast_self, matmul]
  rw [show dot_S1024x512_S512x2048_S1024x2048_1_0_0_1_n_n = DotDims.plain 1024 512 2048 from rfl,
    show dot_S1024x2048_S2048x512_S1024x512_1_0_0_1_n_n = DotDims.plain 1024 2048 512 from rfl]
  refine (congrArg (acc (ix2 r c) + ·) (Ideal.matmul_plain_apply (M := 1024) (K := 512) (N := 2048) none _ _ _ r c)).trans ?_
  rw [show (constant S1024x2048 .f32 0x00000000#32 : FVec Ideal S1024x2048 .f32) (ix2 r c) = 0 from Ideal.ofBits_zero_f32,
    zero_add]
  refine congrArg (acc (ix2 r c) + ·) (Finset.sum_congr rfl fun f _ => ?_)
  refine congrArg₂ (fun a b : EReal => a * b) ?_ (drop2_apply x3 _ f c)
  rw [← up x1 f, ← up x2 f]
  rfl

/-! ## The arrays the region reads -/

theorem flat_eq (c : Dev nD) : V m c main_v3
    = shapeCast S8192x2048 (m ((c : Thread nD τ).loc main_arg0)) shapeCasts_S2x4096x2048_S8192x2048 := by
  unfold V
  after_results <;> rfl

/-- The activations as 8192 rows: batch `r / 4096`, position `r % 4096`. -/
theorem flat_apply (c : Dev nD) (r : Fin 8192) (k : Fin 2048) : (V m c main_v3 : Vec Ideal S8192x2048 .bf16) (ix2 r k)
    = (m ((c : Thread nD τ).loc main_arg0) : Vec Ideal S2x4096x2048 .bf16)
      (ix3 ⟨r.val / 4096, by omega⟩ ⟨r.val % 4096, by omega⟩ k) := by
  rw [flat_eq]
  exact shapeCast_apply _ shapeCasts_S2x4096x2048_S8192x2048 _ _
    (by rewrite [Shape.rowMajor_val_three, Shape.rowMajor_val_two]
        show (r.val / 4096 * 4096 + r.val % 4096) * 2048 + k.val = r.val * 2048 + k.val
        omega)

/-- The weights in the narrow format are, over the extended reals, the weights. -/
theorem w1_eq (c : Dev nD) : V m c main_v0 = m ((c : Thread nD τ).loc main_arg1) := by
  unfold V
  after_results <;> rfl
theorem w3_eq (c : Dev nD) : V m c main_v1 = m ((c : Thread nD τ).loc main_arg2) := by
  unfold V
  after_results <;> rfl
theorem w2_eq (c : Dev nD) : V m c main_v2 = m ((c : Thread nD τ).loc main_arg3) := by
  unfold V
  after_results <;> rfl

/-! ## One point's addend, over the arrays -/

/-- The activations as rows, and the three weights. -/
abbrev acts (c : Dev nD) : S8192x2048.Idx → EReal := V m c main_v3
abbrev wUp (c : Dev nD) : S4x2x2048x5632.Idx → EReal := m ((c : Thread nD τ).loc main_arg1)
abbrev wGate (c : Dev nD) : S4x2x2048x5632.Idx → EReal := m ((c : Thread nD τ).loc main_arg2)
abbrev wDown (c : Dev nD) : S4x2x5632x2048.Idx → EReal := m ((c : Thread nD τ).loc main_arg3)

/-- Hidden unit `u`'s contribution to row `r` and column `q` of the result. -/
def unitTerm (c : Dev nD) (r : Fin 8192) (q : Fin 2048) (u : Fin 5632) : EReal :=
  gate (∑ k : Fin 2048, acts m c (ix2 r k) * wUp m c (ix4 (0 : Fin 4) (0 : Fin 2) k u))
    (∑ k : Fin 2048, acts m c (ix2 r k) * wGate m c (ix4 (0 : Fin 4) (0 : Fin 2) k u))
    * wDown m c (ix4 (0 : Fin 4) (0 : Fin 2) u q)

/-- The feed-forward the result ends holding: every hidden unit's contribution. -/
def out (c : Dev nD) : Vec Ideal S8192x2048 .f32 := fun i => ∑ u : Fin 5632, unitTerm m c (i 0) (i 1) u

/-- Where the input windows stand: the rows follow the run, the hidden units the point within it. -/
theorem places : ∀ t : Fin cfg0.N,
    (win0_0.index t (0 : Fin 2) = t.val / 11 ∧ win0_0.index t (1 : Fin 2) = 0)
    ∧ (win0_1.index t (0 : Fin 4) = 0 ∧ win0_1.index t (1 : Fin 4) = 0 ∧ win0_1.index t (2 : Fin 4) = 0
      ∧ win0_1.index t (3 : Fin 4) = t.val % 11)
    ∧ (win0_2.index t (0 : Fin 4) = 0 ∧ win0_2.index t (1 : Fin 4) = 0 ∧ win0_2.index t (2 : Fin 4) = 0
      ∧ win0_2.index t (3 : Fin 4) = t.val % 11)
    ∧ (win0_3.index t (0 : Fin 4) = 0 ∧ win0_3.index t (1 : Fin 4) = 0 ∧ win0_3.index t (2 : Fin 4) = t.val % 11
      ∧ win0_3.index t (3 : Fin 4) = 0) :=
  (by decide +kernel : ∀ t : Fin grid0.N, _)

/-- The activations' block at a point. -/
theorem rows_apply (c : Dev nD) (t : Fin cfg0.N) (r : Fin 1024) (k : Fin 2048) (R : Fin 8192)
    (hR : R.val = t.val / 11 * 1024 + r.val) :
    (iblk m c 0 t : Vec Ideal S1024x2048 .bf16) (ix2 r k) = acts m c (ix2 R k) := by
  obtain ⟨⟨e0, e1⟩, -⟩ := places t
  show V m c main_v3 (((cfg0.win 0).blk t).view.emb _) = V m c main_v3 _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 2048 + 1 * k.val = k.val; rw [e1]; omega

/-- The first weight's block at a point. -/
theorem up_apply (c : Dev nD) (t : Fin cfg0.N) (k : Fin 2048) (f : Fin 512) (u : Fin 5632)
    (hu : u.val = t.val % 11 * 512 + f.val) :
    (iblk m c 1 t : Vec Ideal S1x1x2048x512 .bf16) (ix4 (0 : Fin 1) (0 : Fin 1) k f)
      = wUp m c (ix4 (0 : Fin 4) (0 : Fin 2) k u) := by
  obtain ⟨-, ⟨e0, e1, e2, e3⟩, -⟩ := places t
  show V m c main_v0 (((cfg0.win 1).blk t).view.emb _) = _
  rw [w1_eq]
  refine congrArg _ (funext fun a => Fin.ext ?_)
  match a with
  | ⟨0, _⟩ => show win0_1.index t (0 : Fin 4) * 1 + 1 * 0 = 0; rw [e0]
  | ⟨1, _⟩ => show win0_1.index t (1 : Fin 4) * 1 + 1 * 0 = 0; rw [e1]
  | ⟨2, _⟩ => show win0_1.index t (2 : Fin 4) * 2048 + 1 * k.val = k.val; rw [e2]; omega
  | ⟨3, _⟩ => show win0_1.index t (3 : Fin 4) * 512 + 1 * f.val = u.val; rw [e3, hu]; omega

/-- The second weight's block at a point. -/
theorem gateUp_apply (c : Dev nD) (t : Fin cfg0.N) (k : Fin 2048) (f : Fin 512) (u : Fin 5632)
    (hu : u.val = t.val % 11 * 512 + f.val) :
    (iblk m c 2 t : Vec Ideal S1x1x2048x512 .bf16) (ix4 (0 : Fin 1) (0 : Fin 1) k f)
      = wGate m c (ix4 (0 : Fin 4) (0 : Fin 2) k u) := by
  obtain ⟨-, -, ⟨e0, e1, e2, e3⟩, -⟩ := places t
  show V m c main_v1 (((cfg0.win 2).blk t).view.emb _) = _
  rw [w3_eq]
  refine congrArg _ (funext fun a => Fin.ext ?_)
  match a with
  | ⟨0, _⟩ => show win0_2.index t (0 : Fin 4) * 1 + 1 * 0 = 0; rw [e0]
  | ⟨1, _⟩ => show win0_2.index t (1 : Fin 4) * 1 + 1 * 0 = 0; rw [e1]
  | ⟨2, _⟩ => show win0_2.index t (2 : Fin 4) * 2048 + 1 * k.val = k.val; rw [e2]; omega
  | ⟨3, _⟩ => show win0_2.index t (3 : Fin 4) * 512 + 1 * f.val = u.val; rw [e3, hu]; omega

/-- The third weight's block at a point. -/
theorem down_apply (c : Dev nD) (t : Fin cfg0.N) (f : Fin 512) (q : Fin 2048) (u : Fin 5632)
    (hu : u.val = t.val % 11 * 512 + f.val) :
    (iblk m c 3 t : Vec Ideal S1x1x512x2048 .bf16) (ix4 (0 : Fin 1) (0 : Fin 1) f q)
      = wDown m c (ix4 (0 : Fin 4) (0 : Fin 2) u q) := by
  obtain ⟨-, -, -, ⟨e0, e1, e2, e3⟩⟩ := places t
  show V m c main_v2 (((cfg0.win 3).blk t).view.emb _) = _
  rw [w2_eq]
  refine congrArg _ (funext fun a => Fin.ext ?_)
  match a with
  | ⟨0, _⟩ => show win0_3.index t (0 : Fin 4) * 1 + 1 * 0 = 0; rw [e0]
  | ⟨1, _⟩ => show win0_3.index t (1 : Fin 4) * 1 + 1 * 0 = 0; rw [e1]
  | ⟨2, _⟩ => show win0_3.index t (2 : Fin 4) * 512 + 1 * f.val = u.val; rw [e2, hu]; omega
  | ⟨3, _⟩ => show win0_3.index t (3 : Fin 4) * 2048 + 1 * q.val = q.val; rw [e3]; omega

/-- What point `n` adds to its block of rows (zero past the grid, where it is never asked). -/
def addend (c : Dev nD) (n : ℕ) (i : S1024x2048.Idx) : EReal :=
  if h : n < 88 then ∑ f : Fin 512, unitTerm m c
    ⟨n / 11 * 1024 + (i 0).val, by have h0 : (i 0).val < 1024 := (i 0).isLt; omega⟩ (i 1) ⟨n % 11 * 512 + f.val, by omega⟩
  else 0

/-- A point's body adds its addend to whatever the accumulator holds. -/
theorem body_apply (c : Dev nD) (n : ℕ) (h : n < cfg0.N) (acc : Vec Ideal S1024x2048 .f32) (i : S1024x2048.Idx) :
    k0_pay2 (iblk m c 0 ⟨n, h⟩) (iblk m c 1 ⟨n, h⟩) (iblk m c 2 ⟨n, h⟩) acc (iblk m c 3 ⟨n, h⟩) i
      = acc i + addend m c n i := by
  have hN : n < 88 := lt_of_lt_of_eq h (show cfg0.N = 88 from N_0)
  rw [eq_ix2 i]
  refine (pay_apply _ _ _ _ _ _ _).trans (congrArg (acc (ix2 (i 0) (i 1)) + ·) ?_)
  unfold addend
  rw [dif_pos hN]
  refine Finset.sum_congr rfl fun f _ => ?_
  unfold unitTerm
  refine congrArg₂ (fun a b : EReal => a * b) (congrArg₂ gate ?_ ?_) (down_apply m c ⟨n, h⟩ f (i 1) _ rfl)
  · exact Finset.sum_congr rfl fun k _ =>
      congrArg₂ (fun a b : EReal => a * b) (rows_apply m c ⟨n, h⟩ (i 0) k _ rfl) (up_apply m c ⟨n, h⟩ k f _ rfl)
  · exact Finset.sum_congr rfl fun k _ =>
      congrArg₂ (fun a b : EReal => a * b) (rows_apply m c ⟨n, h⟩ (i 0) k _ rfl) (gateUp_apply m c ⟨n, h⟩ k f _ rfl)

/-! ## The run's fold -/

/-- Sums over `A` blocks of `B` are the sum over all `A * B`. -/
theorem sum_blocks {A B : ℕ} (G : Fin (A * B) → EReal) (M : ℕ → EReal)
    (hM : ∀ s : Fin A, M s.val = ∑ f : Fin B, G (finProdFinEquiv (s, f))) :
    ∑ s ∈ Finset.range A, M s = ∑ u : Fin (A * B), G u := by
  rw [Finset.sum_range, Finset.sum_congr rfl fun s _ => hM s,
    ← Equiv.sum_comp finProdFinEquiv G, Fintype.sum_prod_type]

/-- The accumulated array is the feed-forward. -/
theorem total (c : Dev nD) : Cert.FfnIdeal.Value.G4 m c = out m c := by
  funext i
  have h0 : (i 0).val < 8192 := (i 0).isLt
  have h1 : (i 1).val < 2048 := (i 1).isLt
  have hr : Cert.FfnIdeal.Value.run4Of i = (i 0).val / 1024 := by
    show 1 * ((i 0).val / 1024 - 0) + 1 * ((i 1).val / 2048 - 0) = _
    omega
  have hlt : 11 * Cert.FfnIdeal.Value.run4Of i + 10 < cfg0.N := by
    rw [hr, show cfg0.N = 88 from N_0]; omega
  unfold Cert.FfnIdeal.Value.G4
  rw [dif_pos hlt]
  refine (Pipeline.accAt_add_apply (Cert.FfnIdeal.Value.reset4 m c) (Cert.FfnIdeal.Value.step4 m c) (fun _ => (0 : EReal))
    (addend m c) (11 * Cert.FfnIdeal.Value.run4Of i) 10 (fun h j => ?_) (fun n h acc j _ _ => body_apply m c n h acc j) 10 le_rfl hlt
    (Cert.FfnIdeal.Value.loc4Of i)).trans ?_
  · refine (body_apply m c _ h _ j).trans (congrArg (· + addend m c _ j) ?_)
    exact Ideal.ofBits_zero_f32
  rw [zero_add]
  show _ = ∑ u : Fin (11 * 512), unitTerm m c (i 0) (i 1) u
  refine sum_blocks (A := 11) (B := 512) (fun u => unitTerm m c (i 0) (i 1) u) _ fun s => ?_
  have hs := s.isLt
  unfold addend
  rw [dif_pos (by rw [hr]; omega)]
  refine Finset.sum_congr rfl fun f _ => ?_
  have hf := f.isLt
  congr 1
  · apply Fin.ext
    show (11 * Cert.FfnIdeal.Value.run4Of i + s.val) / 11 * 1024 + (i 0).val % 1024 = (i 0).val
    rw [hr]; omega
  · apply Fin.ext
    show (i 1).val % 2048 = (i 1).val
    omega
  · apply Fin.ext
    show (11 * Cert.FfnIdeal.Value.run4Of i + s.val) % 11 * 512 + f.val = f.val + 512 * s.val
    rw [hr]; omega

end Cert.FfnIdeal.Mine

end
-- ==== Proof.FfnValue.lean ====
/-
  The feed-forward against its reference. The reference forms the two pre-activations as whole products, applies the
  sigmoid written out (one over one plus an exponential), and multiplies by the third weight in one product over all the
  5632 hidden units; the kernel sums the same units eleven blocks at a time. Hidden unit by hidden unit the terms are the
  same (`unit_eq`).
-/
module

public import proofs.«01_k».proof.Defs
public import Idealize.ShloMosaic.Lib.IdealHost
public import proofs.«01_k».proof.Proof.FfnKernel
public import proofs.«01_k».proof.Proof.Gen.FfnIdeal
public import proofs.«01_k».proof.Proof.Gen.FfnRefIdeal
public import proofs.«01_k».proof.Proof.Gen.FfnRefIdeal.Run
public import proofs.«01_k».proof.Proof.Gen.FfnRefIdeal.Read
public import Idealize.ShloMosaic.Lib.Claim
public import Idealize.ShloMosaic.Lib.Quiescent

@[expose] public section

noncomputable section

namespace Cert.FfnValue

open Idealize.ShloMosaic Idealize.ShloMosaic.TcCoe Idealize.SL.Sem
open Idealize.ShloMosaic.ValueIdx
open Cert.FfnRefIdeal (S2x4096x2048 S4x2x2048x5632 S4x2x5632x2048 S2x4096x5632)
open Cert.FfnRefIdeal.Read
open scoped BigOperators

/-- The bit pattern of one. -/
theorem one_bits : Ideal.ofBits .f32 0x3F800000#32 = 1 := Ideal.ofBits_one_f32

/-- The first pre-activation at batch `b`, position `t`, hidden unit `u`. -/
theorem pre1_apply (x : S2x4096x2048.Idx → EReal) (w : S4x2x2048x5632.Idx → EReal) (b : Fin 2) (t : Fin 4096) (u : Fin 5632) :
    val_main_v7 (F := Ideal) x w (ix3 b t u)
      = ∑ k : Fin 2048, x (ix3 b t k) * w (ix4 (0 : Fin 4) (0 : Fin 2) k u) := by
  rw [val_main_v7_apply]
  refine Finset.sum_congr rfl fun k _ => ?_
  have hu := u.isLt
  have hk := k.isLt
  refine congrArg₂ (fun a b : EReal => a * b) ?_ ?_
  · show x _ = x _
    refine congrArg x (funext fun a => ?_)
    match a with
    | ⟨0, _⟩ => rfl
    | ⟨1, _⟩ => rfl
    | ⟨2, _⟩ => rfl
  · rw [val_main_v2_apply, val_main_v1_apply]
    refine congrArg w (funext fun a => Fin.ext ?_)
    match a with
    | ⟨0, _⟩ => rfl
    | ⟨1, _⟩ => rfl
    | ⟨2, _⟩ => show (k.val * 5632 + u.val) / 5632 % 2048 = k.val; omega
    | ⟨3, _⟩ => show (k.val * 5632 + u.val) % 5632 = u.val; omega

/-- The second pre-activation. -/
theorem pre2_apply (x : S2x4096x2048.Idx → EReal) (w : S4x2x2048x5632.Idx → EReal) (b : Fin 2) (t : Fin 4096) (u : Fin 5632) :
    val_main_v9 (F := Ideal) x w (ix3 b t u)
      = ∑ k : Fin 2048, x (ix3 b t k) * w (ix4 (0 : Fin 4) (0 : Fin 2) k u) := by
  rw [val_main_v9_apply]
  refine Finset.sum_congr rfl fun k _ => ?_
  have hu := u.isLt
  have hk := k.isLt
  refine congrArg₂ (fun a b : EReal => a * b) ?_ ?_
  · show x _ = x _
    refine congrArg x (funext fun a => ?_)
    match a with
    | ⟨0, _⟩ => rfl
    | ⟨1, _⟩ => rfl
    | ⟨2, _⟩ => rfl
  · rw [val_main_v4_apply, val_main_v3_apply]
    refine congrArg w (funext fun a => Fin.ext ?_)
    match a with
    | ⟨0, _⟩ => rfl
    | ⟨1, _⟩ => rfl
    | ⟨2, _⟩ => show (k.val * 5632 + u.val) / 5632 % 2048 = k.val; omega
    | ⟨3, _⟩ => show (k.val * 5632 + u.val) % 5632 = u.val; omega

/-- The gated hidden unit: the reference's spelled-out sigmoid is the kernel's. -/
theorem hidden_apply (x : S2x4096x2048.Idx → EReal) (w1 w3 : S4x2x2048x5632.Idx → EReal) (i : S2x4096x5632.Idx) :
    val_main_v10 (F := Ideal) x w1 w3 i
      = Cert.FfnIdeal.Mine.gate (val_main_v7 (F := Ideal) x w1 i) (val_main_v9 (F := Ideal) x w3 i) := by
  rw [val_main_v10_apply, val_main_v8_apply, val_main_call0_v5_apply, val_main_call0_v4_apply, val_main_call0_v3_apply,
    val_main_call0_v2_apply, val_main_call0_v1_apply, val_main_call0_v0_apply, val_main_call0_cst_apply, val_main_call0_cst_0_apply]
  show _ * Ideal.div (Ideal.ofBits .f32 0x3F800000#32) ((Ideal.ofBits .f32 0x3F800000#32) + Ideal.exp (-_)) * _ = _
  rw [one_bits]
  rfl

/-- The reference's result at row `r`, column `q`. -/
theorem ref_apply (x : S2x4096x2048.Idx → EReal) (w1 w3 : S4x2x2048x5632.Idx → EReal) (w2 : S4x2x5632x2048.Idx → EReal)
    (r : Fin 8192) (q : Fin 2048) :
    val_main_v12 (F := Ideal) x w1 w3 w2 (ix2 r q)
      = ∑ u : Fin 5632, Cert.FfnIdeal.Mine.gate
          (∑ k : Fin 2048, x (ix3 ⟨r.val / 4096, by omega⟩ ⟨r.val % 4096, by omega⟩ k) * w1 (ix4 (0 : Fin 4) (0 : Fin 2) k u))
          (∑ k : Fin 2048, x (ix3 ⟨r.val / 4096, by omega⟩ ⟨r.val % 4096, by omega⟩ k) * w3 (ix4 (0 : Fin 4) (0 : Fin 2) k u))
        * w2 (ix4 (0 : Fin 4) (0 : Fin 2) u q) := by
  rw [val_main_v12_apply, val_main_v11_apply]
  refine Finset.sum_congr rfl fun u _ => ?_
  have hr := r.isLt
  have hq := q.isLt
  have hu := u.isLt
  refine congrArg₂ (fun a b : EReal => a * b) ?_ ?_
  · rw [hidden_apply, ← pre1_apply, ← pre2_apply]
    rw [show lidx_main_v11 (idx_main_v12 (ix2 r q)) u
        = ix3 (⟨r.val / 4096, by omega⟩ : Fin 2) (⟨r.val % 4096, by omega⟩ : Fin 4096) u from funext fun a => Fin.ext (by
      match a with
      | ⟨0, _⟩ => show (r.val * 2048 + q.val) / 8388608 = r.val / 4096; omega
      | ⟨1, _⟩ => show (r.val * 2048 + q.val) / 2048 % 4096 = r.val % 4096; omega
      | ⟨2, _⟩ => rfl)]
  · rw [val_main_v6_apply, val_main_v5_apply]
    refine congrArg w2 (funext fun a => Fin.ext ?_)
    match a with
    | ⟨0, _⟩ => rfl
    | ⟨1, _⟩ => rfl
    | ⟨2, _⟩ => show (u.val * 2048 + (r.val * 2048 + q.val) % 2048) / 2048 % 5632 = u.val; omega
    | ⟨3, _⟩ => show (u.val * 2048 + (r.val * 2048 + q.val) % 2048) % 2048 = q.val; omega

/-- The kernel's result, from the same arguments. -/
theorem out_eq (m : (ℓ : Loc Cert.FfnIdeal.nD Cert.FfnIdeal.τ Cert.FfnIdeal.sig) → Buf (Elt Ideal) ℓ)
    (c : Dev Cert.FfnIdeal.nD) : Cert.FfnIdeal.Mine.out m c
      = val_main_v12 (F := Ideal) (m ((c.tc : Thread _ _).loc Cert.FfnIdeal.main_arg0))
        (m ((c.tc : Thread _ _).loc Cert.FfnIdeal.main_arg1)) (m ((c.tc : Thread _ _).loc Cert.FfnIdeal.main_arg2))
        (m ((c.tc : Thread _ _).loc Cert.FfnIdeal.main_arg3)) := by
  funext i
  obtain ⟨r, q, rfl⟩ : ∃ (r : Fin 8192) (q : Fin 2048), i = ix2 r q := ⟨i 0, i 1, eq_ix2 i⟩
  refine Eq.trans ?_ (ref_apply _ _ _ _ r q).symm
  unfold Cert.FfnIdeal.Mine.out Cert.FfnIdeal.Mine.unitTerm
  refine Finset.sum_congr rfl fun u _ => congrArg₂ (fun a b : EReal => a * b) (congrArg₂ Cert.FfnIdeal.Mine.gate ?_ ?_) rfl
  · exact Finset.sum_congr rfl fun k _ => congrArg₂ (fun a b : EReal => a * b) (Cert.FfnIdeal.Mine.flat_apply m c r k) rfl
  · exact Finset.sum_congr rfl fun k _ => congrArg₂ (fun a b : EReal => a * b) (Cert.FfnIdeal.Mine.flat_apply m c r k) rfl

theorem frame_ref : Cert.quiescent_FfnRefIdeal := fun m g _ =>
  θ_run_and ((θ_run (Cert.FfnRefIdeal.defs (F := Ideal)) _ _).mono (fun _ h c => (h c).2) (Cert.FfnRefIdeal.Value.run (F := Ideal) m g))
    ((θ_run (Cert.FfnRefIdeal.defs (F := Ideal)) _ _).mono (fun r _ => sem_eq_zero_of_no_sems rfl r.2) (Cert.FfnRefIdeal.Value.run (F := Ideal) m g))

/-- The feed-forward's kernel and its reference end with the same array. -/
theorem algebraic : Cert.algebraic_FfnIdeal_FfnRefIdeal := fun m g m' g' _ hargs =>
  ⟨fun c => Cert.FfnIdeal.Mine.out m c,
    (θ_run (Cert.FfnIdeal.defs (F := Ideal)) _ _).mono (fun _ h c => ⟨(h c).1.trans (Cert.FfnIdeal.Mine.total m c), (h c).2⟩)
      (Cert.FfnIdeal.Value.run (F := Ideal) m g),
    (θ_run (Cert.FfnRefIdeal.defs (F := Ideal)) _ _).mono (fun _ h c => ⟨(h c).1.trans (by
        rw [(hargs c).1, (hargs c).2.1, (hargs c).2.2.1, (hargs c).2.2.2]
        exact (val_main_v12_eq (F := Ideal) _ _ _ _).trans (out_eq m c).symm), (h c).2⟩)
      (Cert.FfnRefIdeal.Value.run (F := Ideal) m' g')⟩

end Cert.FfnValue

end
-- ==== Proof.ProjKernel.lean ====
/-
  The square projection's kernel, read. One grid point `(i, j)` multiplies 1024 rows of the activations by 1024 columns
  of the weight over the whole contracted axis, so what it stores at row `r` and column `c` of its block is one sum of
  2048 products (`pay_apply`); the sixteen blocks tile the result, which is therefore the plain matrix product of the
  activations (as 8192 rows) and the chosen layer's weight (`final`).
-/
module

public import proofs.«01_k».proof.Proof.Gen.ProjIdeal.Value
public import Idealize.ShloMosaic.Lib.MatmulPlain
public import Idealize.ShloMosaic.Lib.ValueIdx
public import Idealize.ShloMosaic.Lib.StableHlo.Run

@[expose] public section

noncomputable section

namespace Cert.ProjIdeal.Mine

open Cert.ProjIdeal Cert.ProjIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- One block's product at row `r`, column `c`: the sum over the contracted axis. -/
theorem pay_apply (x0 : Vec Ideal S1024x2048 .bf16) (x1 : Vec Ideal S1x2048x1024 .f32) (r c : Fin 1024) :
    k0_pay1 x0 x1 (ix2 r c) = ∑ k : Fin 2048, x0 (ix2 r k) * x1 (ix3 (0 : Fin 1) k c) := by
  unfold k0_pay1
  simp only [shapeCast_self, matmul]
  rw [show dot_S1024x2048_S2048x1024_S1024x1024_1_0_0_1_n_n = DotDims.plain 1024 2048 1024 from rfl,
    Ideal.matmul_plain_apply]
  rw [show (constant S1024x1024 .f32 0x00000000#32 : FVec Ideal S1024x1024 .f32) (ix2 r c) = 0 from Ideal.ofBits_zero_f32,
    zero_add]
  refine Finset.sum_congr rfl fun k _ => congrArg (x0 (ix2 r k) * ·) ?_
  show shapeCast S2048x1024 x1 shapeCasts_S1x2048x1024_S2048x1024 (ix2 k c) = _
  exact (shapeCast_dropUnit_apply ![2048, 1024] x1 shapeCasts_S1x2048x1024_S2048x1024 (ix2 k c)).trans
    (congrArg x1 (by funext a; match a with | ⟨0, _⟩ => rfl | ⟨1, _⟩ => rfl | ⟨2, _⟩ => rfl))

theorem z2 : (![0, 0] : Fin 2 → Nat) = fun _ => 0 := funext fun a => by fin_cases a <;> rfl
theorem z3 : (![0, 0, 0] : Fin 3 → Nat) = fun _ => 0 := funext fun a => by fin_cases a <;> rfl

/-- What the body leaves in the output's buffer is that product. -/
theorem out_eq (x0 : Vec Ideal S1024x2048 .bf16) (x1 : Vec Ideal S1x2048x1024 .f32) : out0_2 x0 x1 = k0_pay1 x0 x1 := by
  unfold out0_2
  rw [View.canon_unit_zero z2, View.ld_unit_zero (S := S1024x2048) z2, View.ld_unit_zero (S := S1x2048x1024) z3]

/-- The host's flattened activations. -/
theorem flat_eq (c : Dev nD) : V m c main_v0
    = shapeCast S8192x2048 (m ((c : Thread nD τ).loc main_arg0)) shapeCasts_S2x4096x2048_S8192x2048 := by
  unfold V
  after_results <;> rfl

/-- Read at a row: batch `r / 4096`, position `r % 4096`. -/
theorem flat_apply (c : Dev nD) (r : Fin 8192) (k : Fin 2048) : (V m c main_v0 : Vec Ideal S8192x2048 .bf16) (ix2 r k)
    = (m ((c : Thread nD τ).loc main_arg0) : Vec Ideal S2x4096x2048 .bf16)
      (ix3 ⟨r.val / 4096, by omega⟩ ⟨r.val % 4096, by omega⟩ k) := by
  rw [flat_eq]
  exact shapeCast_apply _ shapeCasts_S2x4096x2048_S8192x2048 _ _
    (by rewrite [Shape.rowMajor_val_three, Shape.rowMajor_val_two]
        show (r.val / 4096 * 4096 + r.val % 4096) * 2048 + k.val = r.val * 2048 + k.val
        omega)

/-- The activations as rows, and the weight. -/
abbrev acts (c : Dev nD) : S8192x2048.Idx → EReal := V m c main_v0
abbrev weight (c : Dev nD) : S2x2048x2048.Idx → EReal := m ((c : Thread nD τ).loc main_arg1)

/-- The matrix product the result ends holding. -/
def prod (c : Dev nD) : Vec Ideal S8192x2048 .f32 := fun i =>
  ∑ k : Fin 2048, acts m c (ix2 (i 0) k) * weight m c (ix3 (0 : Fin 2) k (i 1))

/-- Where each window stands at a grid point: rows with the output's rows, columns with its columns. -/
theorem places : ∀ t : Fin cfg0.N, win0_0.index t (0 : Fin 2) = win0_2.index t (0 : Fin 2)
    ∧ win0_0.index t (1 : Fin 2) = 0 ∧ win0_1.index t (0 : Fin 3) = 0 ∧ win0_1.index t (1 : Fin 3) = 0
    ∧ win0_1.index t (2 : Fin 3) = win0_2.index t (1 : Fin 2) :=
  (by decide +kernel : ∀ t : Fin grid0.N, _)

/-- Every block of the result is some point's, and every point writes its block back. -/
theorem onto : ∀ (p : Fin 8) (q : Fin 2), ∃ t : Fin cfg0.N, (cfg0.win 2).flush t = true
    ∧ win0_2.index t (0 : Fin 2) = p.val ∧ win0_2.index t (1 : Fin 2) = q.val :=
  (by decide +kernel : ∀ (p : Fin 8) (q : Fin 2), ∃ t : Fin grid0.N, win0_2.flush t = true
    ∧ win0_2.index t (0 : Fin 2) = p.val ∧ win0_2.index t (1 : Fin 2) = q.val)

/-- Each point writes back its block of the product. -/
theorem flushed_eq (c : Dev nD) (t : Fin cfg0.N) :
    (dats m 0 c).flushed 2 t = ((cfg0.win 2).blk t).view.read (Elt Ideal) (prod m c) := by
  rw [Cert.ProjIdeal.Value.flushed2, out_eq]
  obtain ⟨e0, e1, e2, e3, e4⟩ := places t
  funext y
  have hy0 : (y 0).val < 1024 := (y 0).isLt
  have hy1 : (y 1).val < 1024 := (y 1).isLt
  show k0_pay1 (iblk m c 0 t) (iblk m c 1 t) ((cfg0.win 2).xinj (grid0.coords t) y) = prod m c (((cfg0.win 2).blk t).view.emb y)
  rw [show (cfg0.win 2).xinj (grid0.coords t) y = ix2 (⟨(y 0).val, hy0⟩ : Fin 1024) (⟨(y 1).val, hy1⟩ : Fin 1024) from
    funext fun a => match a with | ⟨0, _⟩ => rfl | ⟨1, _⟩ => rfl]
  refine (pay_apply _ _ _ _).trans (Finset.sum_congr rfl fun k _ => ?_)
  refine congrArg₂ (fun a b : EReal => a * b) ?_ ?_
  · show V m c main_v0 (((cfg0.win 0).blk t).view.emb _) = V m c main_v0 _
    refine congrArg _ (funext fun a => Fin.ext ?_)
    match a with
    | ⟨0, _⟩ => show win0_0.index t (0 : Fin 2) * 1024 + 1 * (y 0).val = win0_2.index t (0 : Fin 2) * 1024 + 1 * (y 0).val; rw [e0]
    | ⟨1, _⟩ => show win0_0.index t (1 : Fin 2) * 2048 + 1 * k.val = k.val; rw [e1]; omega
  · show V m c main_arg1 (((cfg0.win 1).blk t).view.emb _) = _
    rw [V_main_arg1]
    refine congrArg _ (funext fun a => Fin.ext ?_)
    match a with
    | ⟨0, _⟩ => show win0_1.index t (0 : Fin 3) * 1 + 1 * 0 = 0; rw [e2]
    | ⟨1, _⟩ => show win0_1.index t (1 : Fin 3) * 2048 + 1 * k.val = k.val; rw [e3]; omega
    | ⟨2, _⟩ => show win0_1.index t (2 : Fin 3) * 1024 + 1 * (y 1).val = win0_2.index t (1 : Fin 2) * 1024 + 1 * (y 1).val; rw [e4]

/-- The result array after the run. -/
theorem final (c : Dev nD) : (dats m 0 c).arrAt 2 cfg0.N = prod m c :=
  (dats m 0 c).arrAt_eq_of_cover 2 _ (fun t _ => flushed_eq m c t) (fun i => by
    have h0 : (i 0).val < 8192 := (i 0).isLt
    have h1 : (i 1).val < 2048 := (i 1).isLt
    obtain ⟨t, hf, e0, e1⟩ := onto ⟨(i 0).val / 1024, by omega⟩ ⟨(i 1).val / 1024, by omega⟩
    refine ⟨t, hf, ?_⟩
    show i ∈ ((View.whole main_v1).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; rw [e0]; dsimp only; omega
    | ⟨1, _⟩ => show win0_2.index t (1 : Fin 2) * 1024 ≤ (i 1).val ∧ (i 1).val < win0_2.index t (1 : Fin 2) * 1024 + 1024; rw [e1]; dsimp only; omega)

end Cert.ProjIdeal.Mine

end
-- ==== Proof.ProjValue.lean ====
/-
  The square projection against its reference. The reference reads the activations in their own three axes and flattens
  the product; the kernel flattens first. At row `r` both sum over the same products (`ref_eq`), so the two result arrays
  agree.
-/
module

public import proofs.«01_k».proof.Defs
public import proofs.«01_k».proof.Proof.ProjKernel
public import proofs.«01_k».proof.Proof.Gen.ProjIdeal
public import proofs.«01_k».proof.Proof.Gen.ProjRefIdeal
public import proofs.«01_k».proof.Proof.Gen.ProjRefIdeal.Run
public import proofs.«01_k».proof.Proof.Gen.ProjRefIdeal.Read
public import Idealize.ShloMosaic.Lib.Claim
public import Idealize.ShloMosaic.Lib.Quiescent

@[expose] public section

noncomputable section

namespace Cert.ProjValue

open Idealize.ShloMosaic Idealize.ShloMosaic.TcCoe Idealize.SL.Sem
open Idealize.ShloMosaic.ValueIdx
open scoped BigOperators

/-- The reference's product at row `r`, column `q`. -/
theorem ref_apply (x : Cert.ProjRefIdeal.S2x4096x2048.Idx → EReal) (w : Cert.ProjRefIdeal.S2x2048x2048.Idx → EReal)
    (r : Fin 8192) (q : Fin 2048) :
    Cert.ProjRefIdeal.Read.val_main_v4 (F := Ideal) x w (ix2 r q)
      = ∑ k : Fin 2048, x (ix3 ⟨r.val / 4096, by omega⟩ ⟨r.val % 4096, by omega⟩ k) * w (ix3 (0 : Fin 2) k q) := by
  rw [Cert.ProjRefIdeal.Read.val_main_v4_apply, Cert.ProjRefIdeal.Read.val_main_v3_apply]
  refine Finset.sum_congr rfl fun k _ => ?_
  have hr := r.isLt
  have hq := q.isLt
  have hk := k.isLt
  refine congrArg₂ (fun a b : EReal => a * b) ?_ ?_
  · rw [Cert.ProjRefIdeal.Read.val_main_v0_apply]
    show x _ = x _
    refine congrArg x (funext fun a => Fin.ext ?_)
    match a with
    | ⟨0, _⟩ => show (r.val * 2048 + q.val) / 8388608 = r.val / 4096; omega
    | ⟨1, _⟩ => show (r.val * 2048 + q.val) / 2048 % 4096 = r.val % 4096; omega
    | ⟨2, _⟩ => rfl
  · rw [Cert.ProjRefIdeal.Read.val_main_v2_apply, Cert.ProjRefIdeal.Read.val_main_v1_apply]
    refine congrArg w (funext fun a => Fin.ext ?_)
    match a with
    | ⟨0, _⟩ => rfl
    | ⟨1, _⟩ => show (k.val * 2048 + (r.val * 2048 + q.val) % 2048) / 2048 % 2048 = k.val; omega
    | ⟨2, _⟩ => show (k.val * 2048 + (r.val * 2048 + q.val) % 2048) % 2048 = q.val; omega

/-- The kernel's product, from the same arguments. -/
theorem prod_eq (m : (ℓ : Loc Cert.ProjIdeal.nD Cert.ProjIdeal.τ Cert.ProjIdeal.sig) → Buf (Elt Ideal) ℓ)
    (c : Dev Cert.ProjIdeal.nD) : Cert.ProjIdeal.Mine.prod m c
      = Cert.ProjRefIdeal.Read.val_main_v4 (F := Ideal) (m ((c.tc : Thread _ _).loc Cert.ProjIdeal.main_arg0))
        (m ((c.tc : Thread _ _).loc Cert.ProjIdeal.main_arg1)) := by
  funext i
  obtain ⟨r, q, rfl⟩ : ∃ (r : Fin 8192) (q : Fin 2048), i = ix2 r q := ⟨i 0, i 1, eq_ix2 i⟩
  refine Eq.trans ?_ (ref_apply _ _ r q).symm
  unfold Cert.ProjIdeal.Mine.prod
  exact Finset.sum_congr rfl fun k _ => congrArg₂ (fun a b : EReal => a * b) (Cert.ProjIdeal.Mine.flat_apply m c r k) rfl

theorem frame_ref : Cert.quiescent_ProjRefIdeal := fun m g _ =>
  θ_run_and ((θ_run (Cert.ProjRefIdeal.defs (F := Ideal)) _ _).mono (fun _ h c => (h c).2) (Cert.ProjRefIdeal.Value.run (F := Ideal) m g))
    ((θ_run (Cert.ProjRefIdeal.defs (F := Ideal)) _ _).mono (fun r _ => sem_eq_zero_of_no_sems rfl r.2) (Cert.ProjRefIdeal.Value.run (F := Ideal) m g))

/-- The projection's kernel and its reference end with the same array. -/
theorem algebraic : Cert.algebraic_ProjIdeal_ProjRefIdeal := fun m g m' g' _ hargs =>
  ⟨fun c => Cert.ProjIdeal.Mine.prod m c,
    (θ_run (Cert.ProjIdeal.defs (F := Ideal)) _ _).mono (fun _ h c => ⟨(h c).1.trans (Cert.ProjIdeal.Mine.final m c), (h c).2⟩)
      (Cert.ProjIdeal.Value.run_blocks (F := Ideal) m g),
    (θ_run (Cert.ProjRefIdeal.defs (F := Ideal)) _ _).mono (fun _ h c => ⟨(h c).1.trans (by
        rw [(hargs c).1, (hargs c).2]
        exact (Cert.ProjRefIdeal.Read.val_main_v4_eq (F := Ideal) _ _).trans (prod_eq m c).symm), (h c).2⟩)
      (Cert.ProjRefIdeal.Value.run (F := Ideal) m' g')⟩

end Cert.ProjValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_pages_in_pool
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ReferenceIdeal.Run
public import proofs.«01_k».proof.Proof.Gen.ReferenceIdeal.Read
public import proofs.«01_k».proof.Proof.Gen.LastIdeal.Value
public import proofs.«01_k».proof.Proof.Gen.LastRefIdeal.Run
public import proofs.«01_k».proof.Proof.Gen.LastRefIdeal.Read
public import proofs.«01_k».proof.Proof.Gen.LastSIdeal.Value
public import proofs.«01_k».proof.Proof.Gen.LastSRefIdeal.Run
public import proofs.«01_k».proof.Proof.Gen.LastSRefIdeal.Read
public import proofs.«01_k».proof.Proof.Gen.MidIdeal.Value
public import proofs.«01_k».proof.Proof.Gen.MidRefIdeal.Run
public import proofs.«01_k».proof.Proof.Gen.MidRefIdeal.Read
public import proofs.«01_k».proof.Proof.Gen.MidSIdeal.Value
public import proofs.«01_k».proof.Proof.Gen.MidSRefIdeal.Run
public import proofs.«01_k».proof.Proof.Gen.MidSRefIdeal.Read
public import proofs.«01_k».proof.Proof.Gen.InIdeal.Value
public import proofs.«01_k».proof.Proof.Gen.InRefIdeal.Run
public import proofs.«01_k».proof.Proof.Gen.InRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.InSIdeal.Value
public import proofs.«01_k».proof.Proof.Gen.InSRefIdeal.Run
public import proofs.«01_k».proof.Proof.Gen.InSRefIdeal.Read
public import proofs.«01_k».proof.Proof.Gen.Last
public import proofs.«01_k».proof.Proof.Gen.Last.Frame
public import proofs.«01_k».proof.Proof.Gen.LastRefIdeal
public import proofs.«01_k».proof.Proof.Gen.LastIdeal
public import proofs.«01_k».proof.Proof.LastValue
public import proofs.«01_k».proof.Proof.Gen.LastS
public import proofs.«01_k».proof.Proof.Gen.LastS.Frame
public import proofs.«01_k».proof.Proof.Gen.LastSRefIdeal
public import proofs.«01_k».proof.Proof.Gen.LastSIdeal
public import proofs.«01_k».proof.Proof.LastSValue
public import proofs.«01_k».proof.Proof.Gen.Mid
public import proofs.«01_k».proof.Proof.Gen.Mid.Frame
public import proofs.«01_k».proof.Proof.Gen.MidRefIdeal
public import proofs.«01_k».proof.Proof.Gen.MidIdeal
public import proofs.«01_k».proof.Proof.MidValue
public import proofs.«01_k».proof.Proof.Gen.MidS
public import proofs.«01_k».proof.Proof.Gen.MidS.Frame
public import proofs.«01_k».proof.Proof.Gen.MidSRefIdeal
public import proofs.«01_k».proof.Proof.Gen.MidSIdeal
public import proofs.«01_k».proof.Proof.MidSValue
public import proofs.«01_k».proof.Proof.Gen.In
public import proofs.«01_k».proof.Proof.Gen.In.Frame
public import proofs.«01_k».proof.Proof.Gen.InRefIdeal
public import proofs.«01_k».proof.Proof.Gen.InIdeal
public import proofs.«01_k».proof.Proof.InValue
public import proofs.«01_k».proof.Proof.Gen.InS
public import proofs.«01_k».proof.Proof.Gen.InS.Frame
public import proofs.«01_k».proof.Proof.Gen.InSRefIdeal
public import proofs.«01_k».proof.Proof.Gen.InSIdeal
public import proofs.«01_k».proof.Proof.InSValue
public import proofs.«01_k».proof.Proof.Gen.Up
public import proofs.«01_k».proof.Proof.Gen.Up.Frame
public import proofs.«01_k».proof.Proof.Gen.UpRefIdeal
public import proofs.«01_k».proof.Proof.Gen.UpIdeal
public import proofs.«01_k».proof.Proof.Gen.Wkv
public import proofs.«01_k».proof.Proof.Gen.Wkv.Frame
public import proofs.«01_k».proof.Proof.WkvValue
public import proofs.«01_k».proof.Proof.Gen.WkvIdeal
public import proofs.«01_k».proof.Proof.Gen.WkvRefIdeal
public import proofs.«01_k».proof.Proof.Gen.WkvIdeal.Value
public import proofs.«01_k».proof.Proof.Gen.WkvRefIdeal.Run
public import proofs.«01_k».proof.Proof.Gen.WkvRefIdeal.Read
public import proofs.«01_k».proof.Proof.Gen.Pre_keys_finite
public import proofs.«01_k».proof.Proof.PostValue
public import proofs.«01_k».proof.Proof.PostSValue
public import proofs.«01_k».proof.Proof.UpValue
public import proofs.«01_k».proof.Proof.Gen.Post
public import proofs.«01_k».proof.Proof.Gen.Post.Frame
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.PostS
public import proofs.«01_k».proof.Proof.Gen.PostS.Frame
public import proofs.«01_k».proof.Proof.Gen.PostSIdeal
public import proofs.«01_k».proof.Proof.Gen.PostSIdeal.Value
public import proofs.«01_k».proof.Proof.Gen.PostSRefIdeal
public import proofs.«01_k».proof.Proof.Gen.PostSRefIdeal.Run
public import proofs.«01_k».proof.Proof.Gen.PostSRefIdeal.Read
public import proofs.«01_k».proof.Proof.Pages
public import proofs.«01_k».proof.Proof.IdxRef
public import proofs.«01_k».proof.Proof.FfnValue
public import proofs.«01_k».proof.Proof.ProjValue
public import Idealize.ShloMosaic.Adequacy
public import Idealize.ShloMosaic.Init

@[expose] public section

noncomputable section

namespace Cert.Proof

open Idealize.ShloMosaic Idealize.SL.Sem Cert.Kernel

/-- The claims, program by program: the frames first, then for each program what it preserves and what it computes. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Last.Gen.facts, Cert.LastIdeal.Gen.facts, Cert.LastRefIdeal.Gen.facts, Cert.LastS.Gen.facts, Cert.LastSIdeal.Gen.facts, Cert.LastSRefIdeal.Gen.facts, Cert.Mid.Gen.facts, Cert.MidIdeal.Gen.facts, Cert.MidRefIdeal.Gen.facts, Cert.MidS.Gen.facts, Cert.MidSIdeal.Gen.facts, Cert.MidSRefIdeal.Gen.facts, Cert.In.Gen.facts, Cert.InIdeal.Gen.facts, Cert.InRefIdeal.Gen.facts, Cert.InS.Gen.facts, Cert.InSIdeal.Gen.facts, Cert.InSRefIdeal.Gen.facts, Cert.Up.Gen.facts, Cert.UpIdeal.Gen.facts, Cert.UpRefIdeal.Gen.facts, Cert.Post.Gen.facts, Cert.PostIdeal.Gen.facts, Cert.PostRefIdeal.Gen.facts, Cert.PostS.Gen.facts, Cert.PostSIdeal.Gen.facts, Cert.PostSRefIdeal.Gen.facts, Cert.Wkv.Gen.facts, Cert.WkvIdeal.Gen.facts, Cert.WkvRefIdeal.Gen.facts, Cert.Pre_pages_in_pool.Gen.facts, Cert.Pre_keys_finite.Gen.facts,
  fun m ρ h => Cert.Kernel.Gen.frame m ρ (Cert.Kernel.Mine.ok_of_pre m h),
  fun m ρ h => Cert.KernelIdeal.Gen.frame m ρ (Cert.KernelIdeal.Mine.ok_of_pre m h),
  Cert.IdxValue.frame_ref,
  fun m ρ _ => Cert.Ffn.Gen.frame m ρ,
  fun m ρ _ => Cert.FfnIdeal.Gen.frame m ρ,
  Cert.FfnValue.frame_ref,
  fun m ρ _ => Cert.Proj.Gen.frame m ρ,
  fun m ρ _ => Cert.ProjIdeal.Gen.frame m ρ,
  Cert.ProjValue.frame_ref,
  fun m ρ _ => Cert.Last.Gen.frame m ρ,
  fun m ρ _ => Cert.LastIdeal.Gen.frame m ρ,
  Cert.LastValue.frame_ref,
  fun m ρ _ => Cert.LastS.Gen.frame m ρ,
  fun m ρ _ => Cert.LastSIdeal.Gen.frame m ρ,
  Cert.LastSValue.frame_ref,
  fun m ρ _ => Cert.Mid.Gen.frame m ρ,
  fun m ρ _ => Cert.MidIdeal.Gen.frame m ρ,
  Cert.MidValue.frame_ref,
  fun m ρ _ => Cert.MidS.Gen.frame m ρ,
  fun m ρ _ => Cert.MidSIdeal.Gen.frame m ρ,
  Cert.MidSValue.frame_ref,
  fun m ρ _ => Cert.In.Gen.frame m ρ,
  fun m ρ _ => Cert.InIdeal.Gen.frame m ρ,
  Cert.InValue.frame_ref,
  fun m ρ _ => Cert.InS.Gen.frame m ρ,
  fun m ρ _ => Cert.InSIdeal.Gen.frame m ρ,
  Cert.InSValue.frame_ref,
  fun m ρ _ => Cert.Up.Gen.frame m ρ,
  fun m ρ _ => Cert.UpIdeal.Gen.frame m ρ,
  Cert.UpValue.frame_ref,
  fun m ρ _ => Cert.Post.Gen.frame m ρ,
  fun m ρ _ => Cert.PostIdeal.Gen.frame m ρ,
  Cert.PostValue.frame_ref,
  fun m ρ _ => Cert.PostS.Gen.frame m ρ,
  fun m ρ _ => Cert.PostSIdeal.Gen.frame m ρ,
  Cert.PostSValue.frame_ref,
  fun m ρ _ => Cert.Wkv.Gen.frame m ρ,
  fun m ρ _ => Cert.WkvIdeal.Gen.frame m ρ,
  fun m ρ _ => Cert.WkvIdeal.Gen.frame m ρ,
  Cert.WkvValue.frame_ref,
  fun m ρ _ => Cert.WkvValue.frame_ref m ρ trivial,
  trivial,
  Cert.IdxValue.algebraic,
  trivial,
  Cert.FfnValue.algebraic,
  trivial,
  Cert.ProjValue.algebraic,
  trivial,
  Cert.LastValue.algebraic,
  trivial,
  Cert.LastSValue.algebraic,
  trivial,
  Cert.MidValue.algebraic,
  trivial,
  Cert.MidSValue.algebraic,
  trivial,
  Cert.InValue.algebraic,
  trivial,
  Cert.InSValue.algebraic,
  trivial,
  Cert.UpValue.algebraic,
  trivial,
  Cert.PostValue.algebraic,
  trivial,
  Cert.PostSValue.algebraic,
  trivial,
  Cert.WkvValue.algebraic⟩

end Cert.Proof

end
